-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite [hPre_finite : Cert.Pre_finite.Facts] (m : (ℓ : Loc Cert.GlaIdeal.nD Cert.GlaIdeal.τ Cert.GlaIdeal.sig) → Buf (Elt Ideal) ℓ) : Prop :=
  ∀ c : Dev Cert.GlaIdeal.nD,
    (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))).1 = (fun _ => 1#1)
    ∧ (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))).2.1 = (fun _ => 1#1)
    ∧ (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))).2.2.1 = (fun _ => 1#1)
    ∧ (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))).2.2.2 = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite [hPre_finite : Cert.Pre_finite.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).1 = (fun _ => 1#1)
    ∧ (Cert.Pre_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.1 = (fun _ => 1#1)
    ∧ (Cert.Pre_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.1 = (fun _ => 1#1)
    ∧ (Cert.Pre_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.2 = (fun _ => 1#1)

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_bounded [hPre_bounded : Cert.Pre_bounded.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_bounded.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))).1 = (fun _ => 1#1)
    ∧ (Cert.Pre_bounded.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))).2.1 = (fun _ => 1#1)
    ∧ (Cert.Pre_bounded.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))).2.2.1 = (fun _ => 1#1)
    ∧ (Cert.Pre_bounded.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))).2.2.2 = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_bounded [hPre_bounded : Cert.Pre_bounded.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_bounded.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))).1 = (fun _ => 1#1)
    ∧ (Cert.Pre_bounded.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))).2.1 = (fun _ => 1#1)
    ∧ (Cert.Pre_bounded.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))).2.2.1 = (fun _ => 1#1)
    ∧ (Cert.Pre_bounded.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))).2.2.2 = (fun _ => 1#1)

def Pre_GlaSample (m : (ℓ : Loc Cert.GlaSample.nD Cert.GlaSample.τ Cert.GlaSample.sig) → Buf (Elt Bits) ℓ) : Prop :=
  True

def Pre_GlaSampleIdeal (m : (ℓ : Loc Cert.GlaSampleIdeal.nD Cert.GlaSampleIdeal.τ Cert.GlaSampleIdeal.sig) → Buf (Elt Ideal) ℓ) : Prop :=
  True

def Pre_GlaSampleIdeal_finite_sample [hPre_finite_sample : Cert.Pre_finite_sample.Facts] (m : (ℓ : Loc Cert.GlaSampleIdeal.nD Cert.GlaSampleIdeal.τ Cert.GlaSampleIdeal.sig) → Buf (Elt Ideal) ℓ) : Prop :=
  ∀ c : Dev Cert.GlaSampleIdeal.nD,
    (Cert.Pre_finite_sample.fn (F := Ideal) (m ((c.tc : Thread Cert.GlaSampleIdeal.nD Cert.GlaSampleIdeal.τ).loc Cert.GlaSampleIdeal.main_arg0)) (m ((c.tc : Thread Cert.GlaSampleIdeal.nD Cert.GlaSampleIdeal.τ).loc Cert.GlaSampleIdeal.main_arg1)) (m ((c.tc : Thread Cert.GlaSampleIdeal.nD Cert.GlaSampleIdeal.τ).loc Cert.GlaSampleIdeal.main_arg2)) (m ((c.tc : Thread Cert.GlaSampleIdeal.nD Cert.GlaSampleIdeal.τ).loc Cert.GlaSampleIdeal.main_arg3)) (m ((c.tc : Thread Cert.GlaSampleIdeal.nD Cert.GlaSampleIdeal.τ).loc Cert.GlaSampleIdeal.main_arg4))).1 = (fun _ => 1#1)
    ∧ (Cert.Pre_finite_sample.fn (F := Ideal) (m ((c.tc : Thread Cert.GlaSampleIdeal.nD Cert.GlaSampleIdeal.τ).loc Cert.GlaSampleIdeal.main_arg0)) (m ((c.tc : Thread Cert.GlaSampleIdeal.nD Cert.GlaSampleIdeal.τ).loc Cert.GlaSampleIdeal.main_arg1)) (m ((c.tc : Thread Cert.GlaSampleIdeal.nD Cert.GlaSampleIdeal.τ).loc Cert.GlaSampleIdeal.main_arg2)) (m ((c.tc : Thread Cert.GlaSampleIdeal.nD Cert.GlaSampleIdeal.τ).loc Cert.GlaSampleIdeal.main_arg3)) (m ((c.tc : Thread Cert.GlaSampleIdeal.nD Cert.GlaSampleIdeal.τ).loc Cert.GlaSampleIdeal.main_arg4))).2.1 = (fun _ => 1#1)
    ∧ (Cert.Pre_finite_sample.fn (F := Ideal) (m ((c.tc : Thread Cert.GlaSampleIdeal.nD Cert.GlaSampleIdeal.τ).loc Cert.GlaSampleIdeal.main_arg0)) (m ((c.tc : Thread Cert.GlaSampleIdeal.nD Cert.GlaSampleIdeal.τ).loc Cert.GlaSampleIdeal.main_arg1)) (m ((c.tc : Thread Cert.GlaSampleIdeal.nD Cert.GlaSampleIdeal.τ).loc Cert.GlaSampleIdeal.main_arg2)) (m ((c.tc : Thread Cert.GlaSampleIdeal.nD Cert.GlaSampleIdeal.τ).loc Cert.GlaSampleIdeal.main_arg3)) (m ((c.tc : Thread Cert.GlaSampleIdeal.nD Cert.GlaSampleIdeal.τ).loc Cert.GlaSampleIdeal.main_arg4))).2.2.1 = (fun _ => 1#1)
    ∧ (Cert.Pre_finite_sample.fn (F := Ideal) (m ((c.tc : Thread Cert.GlaSampleIdeal.nD Cert.GlaSampleIdeal.τ).loc Cert.GlaSampleIdeal.main_arg0)) (m ((c.tc : Thread Cert.GlaSampleIdeal.nD Cert.GlaSampleIdeal.τ).loc Cert.GlaSampleIdeal.main_arg1)) (m ((c.tc : Thread Cert.GlaSampleIdeal.nD Cert.GlaSampleIdeal.τ).loc Cert.GlaSampleIdeal.main_arg2)) (m ((c.tc : Thread Cert.GlaSampleIdeal.nD Cert.GlaSampleIdeal.τ).loc Cert.GlaSampleIdeal.main_arg3)) (m ((c.tc : Thread Cert.GlaSampleIdeal.nD Cert.GlaSampleIdeal.τ).loc Cert.GlaSampleIdeal.main_arg4))).2.2.2 = (fun _ => 1#1)

def Pre_GlaSampleRefIdeal (m : (ℓ : Loc Cert.GlaSampleRefIdeal.nD Cert.GlaSampleRefIdeal.τ Cert.GlaSampleRefIdeal.sig) → Buf (Elt Ideal) ℓ) : Prop :=
  True

def Pre_GlaSampleRefIdeal_finite_sample [hPre_finite_sample : Cert.Pre_finite_sample.Facts] (m : (ℓ : Loc Cert.GlaSampleRefIdeal.nD Cert.GlaSampleRefIdeal.τ Cert.GlaSampleRefIdeal.sig) → Buf (Elt Ideal) ℓ) : Prop :=
  ∀ c : Dev Cert.GlaSampleRefIdeal.nD,
    (Cert.Pre_finite_sample.fn (F := Ideal) (m ((c.tc : Thread Cert.GlaSampleRefIdeal.nD Cert.GlaSampleRefIdeal.τ).loc Cert.GlaSampleRefIdeal.main_arg0)) (m ((c.tc : Thread Cert.GlaSampleRefIdeal.nD Cert.GlaSampleRefIdeal.τ).loc Cert.GlaSampleRefIdeal.main_arg1)) (m ((c.tc : Thread Cert.GlaSampleRefIdeal.nD Cert.GlaSampleRefIdeal.τ).loc Cert.GlaSampleRefIdeal.main_arg2)) (m ((c.tc : Thread Cert.GlaSampleRefIdeal.nD Cert.GlaSampleRefIdeal.τ).loc Cert.GlaSampleRefIdeal.main_arg3)) (m ((c.tc : Thread Cert.GlaSampleRefIdeal.nD Cert.GlaSampleRefIdeal.τ).loc Cert.GlaSampleRefIdeal.main_arg4))).1 = (fun _ => 1#1)
    ∧ (Cert.Pre_finite_sample.fn (F := Ideal) (m ((c.tc : Thread Cert.GlaSampleRefIdeal.nD Cert.GlaSampleRefIdeal.τ).loc Cert.GlaSampleRefIdeal.main_arg0)) (m ((c.tc : Thread Cert.GlaSampleRefIdeal.nD Cert.GlaSampleRefIdeal.τ).loc Cert.GlaSampleRefIdeal.main_arg1)) (m ((c.tc : Thread Cert.GlaSampleRefIdeal.nD Cert.GlaSampleRefIdeal.τ).loc Cert.GlaSampleRefIdeal.main_arg2)) (m ((c.tc : Thread Cert.GlaSampleRefIdeal.nD Cert.GlaSampleRefIdeal.τ).loc Cert.GlaSampleRefIdeal.main_arg3)) (m ((c.tc : Thread Cert.GlaSampleRefIdeal.nD Cert.GlaSampleRefIdeal.τ).loc Cert.GlaSampleRefIdeal.main_arg4))).2.1 = (fun _ => 1#1)
    ∧ (Cert.Pre_finite_sample.fn (F := Ideal) (m ((c.tc : Thread Cert.GlaSampleRefIdeal.nD Cert.GlaSampleRefIdeal.τ).loc Cert.GlaSampleRefIdeal.main_arg0)) (m ((c.tc : Thread Cert.GlaSampleRefIdeal.nD Cert.GlaSampleRefIdeal.τ).loc Cert.GlaSampleRefIdeal.main_arg1)) (m ((c.tc : Thread Cert.GlaSampleRefIdeal.nD Cert.GlaSampleRefIdeal.τ).loc Cert.GlaSampleRefIdeal.main_arg2)) (m ((c.tc : Thread Cert.GlaSampleRefIdeal.nD Cert.GlaSampleRefIdeal.τ).loc Cert.GlaSampleRefIdeal.main_arg3)) (m ((c.tc : Thread Cert.GlaSampleRefIdeal.nD Cert.GlaSampleRefIdeal.τ).loc Cert.GlaSampleRefIdeal.main_arg4))).2.2.1 = (fun _ => 1#1)
    ∧ (Cert.Pre_finite_sample.fn (F := Ideal) (m ((c.tc : Thread Cert.GlaSampleRefIdeal.nD Cert.GlaSampleRefIdeal.τ).loc Cert.GlaSampleRefIdeal.main_arg0)) (m ((c.tc : Thread Cert.GlaSampleRefIdeal.nD Cert.GlaSampleRefIdeal.τ).loc Cert.GlaSampleRefIdeal.main_arg1)) (m ((c.tc : Thread Cert.GlaSampleRefIdeal.nD Cert.GlaSampleRefIdeal.τ).loc Cert.GlaSampleRefIdeal.main_arg2)) (m ((c.tc : Thread Cert.GlaSampleRefIdeal.nD Cert.GlaSampleRefIdeal.τ).loc Cert.GlaSampleRefIdeal.main_arg3)) (m ((c.tc : Thread Cert.GlaSampleRefIdeal.nD Cert.GlaSampleRefIdeal.τ).loc Cert.GlaSampleRefIdeal.main_arg4))).2.2.2 = (fun _ => 1#1)

def Pre_HgrnSample (m : (ℓ : Loc Cert.HgrnSample.nD Cert.HgrnSample.τ Cert.HgrnSample.sig) → Buf (Elt Bits) ℓ) : Prop :=
  True

def Pre_HgrnSampleIdeal (m : (ℓ : Loc Cert.HgrnSampleIdeal.nD Cert.HgrnSampleIdeal.τ Cert.HgrnSampleIdeal.sig) → Buf (Elt Ideal) ℓ) : Prop :=
  True

def Pre_HgrnSampleIdeal_bounded_sample [hPre_bounded_sample : Cert.Pre_bounded_sample.Facts] (m : (ℓ : Loc Cert.HgrnSampleIdeal.nD Cert.HgrnSampleIdeal.τ Cert.HgrnSampleIdeal.sig) → Buf (Elt Ideal) ℓ) : Prop :=
  ∀ c : Dev Cert.HgrnSampleIdeal.nD,
    (Cert.Pre_bounded_sample.fn (F := Ideal) (m ((c.tc : Thread Cert.HgrnSampleIdeal.nD Cert.HgrnSampleIdeal.τ).loc Cert.HgrnSampleIdeal.main_arg0)) (m ((c.tc : Thread Cert.HgrnSampleIdeal.nD Cert.HgrnSampleIdeal.τ).loc Cert.HgrnSampleIdeal.main_arg1)) (m ((c.tc : Thread Cert.HgrnSampleIdeal.nD Cert.HgrnSampleIdeal.τ).loc Cert.HgrnSampleIdeal.main_arg2)) (m ((c.tc : Thread Cert.HgrnSampleIdeal.nD Cert.HgrnSampleIdeal.τ).loc Cert.HgrnSampleIdeal.main_arg3))).1 = (fun _ => 1#1)
    ∧ (Cert.Pre_bounded_sample.fn (F := Ideal) (m ((c.tc : Thread Cert.HgrnSampleIdeal.nD Cert.HgrnSampleIdeal.τ).loc Cert.HgrnSampleIdeal.main_arg0)) (m ((c.tc : Thread Cert.HgrnSampleIdeal.nD Cert.HgrnSampleIdeal.τ).loc Cert.HgrnSampleIdeal.main_arg1)) (m ((c.tc : Thread Cert.HgrnSampleIdeal.nD Cert.HgrnSampleIdeal.τ).loc Cert.HgrnSampleIdeal.main_arg2)) (m ((c.tc : Thread Cert.HgrnSampleIdeal.nD Cert.HgrnSampleIdeal.τ).loc Cert.HgrnSampleIdeal.main_arg3))).2.1 = (fun _ => 1#1)
    ∧ (Cert.Pre_bounded_sample.fn (F := Ideal) (m ((c.tc : Thread Cert.HgrnSampleIdeal.nD Cert.HgrnSampleIdeal.τ).loc Cert.HgrnSampleIdeal.main_arg0)) (m ((c.tc : Thread Cert.HgrnSampleIdeal.nD Cert.HgrnSampleIdeal.τ).loc Cert.HgrnSampleIdeal.main_arg1)) (m ((c.tc : Thread Cert.HgrnSampleIdeal.nD Cert.HgrnSampleIdeal.τ).loc Cert.HgrnSampleIdeal.main_arg2)) (m ((c.tc : Thread Cert.HgrnSampleIdeal.nD Cert.HgrnSampleIdeal.τ).loc Cert.HgrnSampleIdeal.main_arg3))).2.2.1 = (fun _ => 1#1)
    ∧ (Cert.Pre_bounded_sample.fn (F := Ideal) (m ((c.tc : Thread Cert.HgrnSampleIdeal.nD Cert.HgrnSampleIdeal.τ).loc Cert.HgrnSampleIdeal.main_arg0)) (m ((c.tc : Thread Cert.HgrnSampleIdeal.nD Cert.HgrnSampleIdeal.τ).loc Cert.HgrnSampleIdeal.main_arg1)) (m ((c.tc : Thread Cert.HgrnSampleIdeal.nD Cert.HgrnSampleIdeal.τ).loc Cert.HgrnSampleIdeal.main_arg2)) (m ((c.tc : Thread Cert.HgrnSampleIdeal.nD Cert.HgrnSampleIdeal.τ).loc Cert.HgrnSampleIdeal.main_arg3))).2.2.2 = (fun _ => 1#1)

def Pre_HgrnSampleRefIdeal (m : (ℓ : Loc Cert.HgrnSampleRefIdeal.nD Cert.HgrnSampleRefIdeal.τ Cert.HgrnSampleRefIdeal.sig) → Buf (Elt Ideal) ℓ) : Prop :=
  True

def Pre_HgrnSampleRefIdeal_bounded_sample [hPre_bounded_sample : Cert.Pre_bounded_sample.Facts] (m : (ℓ : Loc Cert.HgrnSampleRefIdeal.nD Cert.HgrnSampleRefIdeal.τ Cert.HgrnSampleRefIdeal.sig) → Buf (Elt Ideal) ℓ) : Prop :=
  ∀ c : Dev Cert.HgrnSampleRefIdeal.nD,
    (Cert.Pre_bounded_sample.fn (F := Ideal) (m ((c.tc : Thread Cert.HgrnSampleRefIdeal.nD Cert.HgrnSampleRefIdeal.τ).loc Cert.HgrnSampleRefIdeal.main_arg0)) (m ((c.tc : Thread Cert.HgrnSampleRefIdeal.nD Cert.HgrnSampleRefIdeal.τ).loc Cert.HgrnSampleRefIdeal.main_arg1)) (m ((c.tc : Thread Cert.HgrnSampleRefIdeal.nD Cert.HgrnSampleRefIdeal.τ).loc Cert.HgrnSampleRefIdeal.main_arg2)) (m ((c.tc : Thread Cert.HgrnSampleRefIdeal.nD Cert.HgrnSampleRefIdeal.τ).loc Cert.HgrnSampleRefIdeal.main_arg3))).1 = (fun _ => 1#1)
    ∧ (Cert.Pre_bounded_sample.fn (F := Ideal) (m ((c.tc : Thread Cert.HgrnSampleRefIdeal.nD Cert.HgrnSampleRefIdeal.τ).loc Cert.HgrnSampleRefIdeal.main_arg0)) (m ((c.tc : Thread Cert.HgrnSampleRefIdeal.nD Cert.HgrnSampleRefIdeal.τ).loc Cert.HgrnSampleRefIdeal.main_arg1)) (m ((c.tc : Thread Cert.HgrnSampleRefIdeal.nD Cert.HgrnSampleRefIdeal.τ).loc Cert.HgrnSampleRefIdeal.main_arg2)) (m ((c.tc : Thread Cert.HgrnSampleRefIdeal.nD Cert.HgrnSampleRefIdeal.τ).loc Cert.HgrnSampleRefIdeal.main_arg3))).2.1 = (fun _ => 1#1)
    ∧ (Cert.Pre_bounded_sample.fn (F := Ideal) (m ((c.tc : Thread Cert.HgrnSampleRefIdeal.nD Cert.HgrnSampleRefIdeal.τ).loc Cert.HgrnSampleRefIdeal.main_arg0)) (m ((c.tc : Thread Cert.HgrnSampleRefIdeal.nD Cert.HgrnSampleRefIdeal.τ).loc Cert.HgrnSampleRefIdeal.main_arg1)) (m ((c.tc : Thread Cert.HgrnSampleRefIdeal.nD Cert.HgrnSampleRefIdeal.τ).loc Cert.HgrnSampleRefIdeal.main_arg2)) (m ((c.tc : Thread Cert.HgrnSampleRefIdeal.nD Cert.HgrnSampleRefIdeal.τ).loc Cert.HgrnSampleRefIdeal.main_arg3))).2.2.1 = (fun _ => 1#1)
    ∧ (Cert.Pre_bounded_sample.fn (F := Ideal) (m ((c.tc : Thread Cert.HgrnSampleRefIdeal.nD Cert.HgrnSampleRefIdeal.τ).loc Cert.HgrnSampleRefIdeal.main_arg0)) (m ((c.tc : Thread Cert.HgrnSampleRefIdeal.nD Cert.HgrnSampleRefIdeal.τ).loc Cert.HgrnSampleRefIdeal.main_arg1)) (m ((c.tc : Thread Cert.HgrnSampleRefIdeal.nD Cert.HgrnSampleRefIdeal.τ).loc Cert.HgrnSampleRefIdeal.main_arg2)) (m ((c.tc : Thread Cert.HgrnSampleRefIdeal.nD Cert.HgrnSampleRefIdeal.τ).loc Cert.HgrnSampleRefIdeal.main_arg3))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleRefIdeal (m : (ℓ : Loc Cert.LastSampleRefIdeal.nD Cert.LastSampleRefIdeal.τ Cert.LastSampleRefIdeal.sig) → Buf (Elt Ideal) ℓ) : Prop :=
  True

def Pre_EvenInSample (m : (ℓ : Loc Cert.EvenInSample.nD Cert.EvenInSample.τ Cert.EvenInSample.sig) → Buf (Elt Bits) ℓ) : Prop :=
  True

def Pre_EvenInSampleIdeal (m : (ℓ : Loc Cert.EvenInSampleIdeal.nD Cert.EvenInSampleIdeal.τ Cert.EvenInSampleIdeal.sig) → Buf (Elt Ideal) ℓ) : Prop :=
  True

def Pre_EvenInSampleRefIdeal (m : (ℓ : Loc Cert.EvenInSampleRefIdeal.nD Cert.EvenInSampleRefIdeal.τ Cert.EvenInSampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_OddInSample (m : (ℓ : Loc Cert.OddInSample.nD Cert.OddInSample.τ Cert.OddInSample.sig) → Buf (Elt Bits) ℓ) : Prop :=
  True

def Pre_OddInSampleIdeal (m : (ℓ : Loc Cert.OddInSampleIdeal.nD Cert.OddInSampleIdeal.τ Cert.OddInSampleIdeal.sig) → Buf (Elt Ideal) ℓ) : Prop :=
  True

def Pre_OddInSampleRefIdeal (m : (ℓ : Loc Cert.OddInSampleRefIdeal.nD Cert.OddInSampleRefIdeal.τ Cert.OddInSampleRefIdeal.sig) → Buf (Elt Ideal) ℓ) : Prop :=
  True

def Pre_EvenOutSample (m : (ℓ : Loc Cert.EvenOutSample.nD Cert.EvenOutSample.τ Cert.EvenOutSample.sig) → Buf (Elt Bits) ℓ) : Prop :=
  True

def Pre_EvenOutSampleIdeal (m : (ℓ : Loc Cert.EvenOutSampleIdeal.nD Cert.EvenOutSampleIdeal.τ Cert.EvenOutSampleIdeal.sig) → Buf (Elt Ideal) ℓ) : Prop :=
  True

def Pre_EvenOutSampleRefIdeal (m : (ℓ : Loc Cert.EvenOutSampleRefIdeal.nD Cert.EvenOutSampleRefIdeal.τ Cert.EvenOutSampleRefIdeal.sig) → Buf (Elt Ideal) ℓ) : Prop :=
  True

def Pre_OddOutSample (m : (ℓ : Loc Cert.OddOutSample.nD Cert.OddOutSample.τ Cert.OddOutSample.sig) → Buf (Elt Bits) ℓ) : Prop :=
  True

def Pre_OddOutSampleIdeal (m : (ℓ : Loc Cert.OddOutSampleIdeal.nD Cert.OddOutSampleIdeal.τ Cert.OddOutSampleIdeal.sig) → Buf (Elt Ideal) ℓ) : Prop :=
  True

def Pre_OddOutSampleRefIdeal (m : (ℓ : Loc Cert.OddOutSampleRefIdeal.nD Cert.OddOutSampleRefIdeal.τ Cert.OddOutSampleRefIdeal.sig) → Buf (Elt Ideal) ℓ) : Prop :=
  True

def Pre_MobaCombine (m : (ℓ : Loc Cert.MobaCombine.nD Cert.MobaCombine.τ Cert.MobaCombine.sig) → Buf (Elt Bits) ℓ) : Prop :=
  True

def Pre_MobaCombineIdeal (m : (ℓ : Loc Cert.MobaCombineIdeal.nD Cert.MobaCombineIdeal.τ Cert.MobaCombineIdeal.sig) → Buf (Elt Ideal) ℓ) : Prop :=
  True

def Pre_MobaCombineRefIdeal (m : (ℓ : Loc Cert.MobaCombineRefIdeal.nD Cert.MobaCombineRefIdeal.τ Cert.MobaCombineRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaIdeal_pre_finite [hGlaIdeal : Cert.GlaIdeal.Facts] [hPre_finite : Cert.Pre_finite.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_finite [hGlaRefIdeal : Cert.GlaRefIdeal.Facts] [hPre_finite : Cert.Pre_finite.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnIdeal_pre_bounded [hHgrnIdeal : Cert.HgrnIdeal.Facts] [hPre_bounded : Cert.Pre_bounded.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_bounded m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_HgrnRefIdeal_pre_bounded [hHgrnRefIdeal : Cert.HgrnRefIdeal.Facts] [hPre_bounded : Cert.Pre_bounded.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_bounded m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_GlaSample [hGlaSample : Cert.GlaSample.Facts] : Prop :=
  ∀ (m : (ℓ : Loc Cert.GlaSample.nD Cert.GlaSample.τ Cert.GlaSample.sig) → Buf (Elt Bits) ℓ) (g : Dev Cert.GlaSample.nD → PrngReg), Pre_GlaSample m →
    θ_run (Cert.GlaSample.defs (F := Bits)) (onTc (τ := Cert.GlaSample.τ) (Cert.GlaSample.main (F := Bits))) ⟨m, fun _ => 0, g⟩ (fun r => (∀ c : Dev Cert.GlaSample.nD,
      r.2.mem ((c.tc : Thread Cert.GlaSample.nD Cert.GlaSample.τ).loc Cert.GlaSample.main_arg0) = m ((c.tc : Thread Cert.GlaSample.nD Cert.GlaSample.τ).loc Cert.GlaSample.main_arg0)
      ∧ r.2.mem ((c.tc : Thread Cert.GlaSample.nD Cert.GlaSample.τ).loc Cert.GlaSample.main_arg1) = m ((c.tc : Thread Cert.GlaSample.nD Cert.GlaSample.τ).loc Cert.GlaSample.main_arg1)
      ∧ r.2.mem ((c.tc : Thread Cert.GlaSample.nD Cert.GlaSample.τ).loc Cert.GlaSample.main_arg2) = m ((c.tc : Thread Cert.GlaSample.nD Cert.GlaSample.τ).loc Cert.GlaSample.main_arg2)
      ∧ r.2.mem ((c.tc : Thread Cert.GlaSample.nD Cert.GlaSample.τ).loc Cert.GlaSample.main_arg3) = m ((c.tc : Thread Cert.GlaSample.nD Cert.GlaSample.τ).loc Cert.GlaSample.main_arg3)
      ∧ r.2.mem ((c.tc : Thread Cert.GlaSample.nD Cert.GlaSample.τ).loc Cert.GlaSample.main_arg4) = m ((c.tc : Thread Cert.GlaSample.nD Cert.GlaSample.τ).loc Cert.GlaSample.main_arg4))
      ∧ r.2.sem = fun _ => 0)

def quiescent_GlaSampleIdeal [hGlaSampleIdeal : Cert.GlaSampleIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ r.2.sem = fun _ => 0)

def quiescent_GlaSampleIdeal_pre_finite_sample [hGlaSampleIdeal : Cert.GlaSampleIdeal.Facts] [hPre_finite_sample : Cert.Pre_finite_sample.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal_finite_sample m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ r.2.sem = fun _ => 0)

def quiescent_GlaSampleRefIdeal [hGlaSampleRefIdeal : Cert.GlaSampleRefIdeal.Facts] : Prop :=
  ∀ (m : (ℓ : Loc Cert.GlaSampleRefIdeal.nD Cert.GlaSampleRefIdeal.τ Cert.GlaSampleRefIdeal.sig) → Buf (Elt Ideal) ℓ) (g : Dev Cert.GlaSampleRefIdeal.nD → PrngReg), Pre_GlaSampleRefIdeal m →
    θ_run (Cert.GlaSampleRefIdeal.defs (F := Ideal)) (onTc (τ := Cert.GlaSampleRefIdeal.τ) (Cert.GlaSampleRefIdeal.main (F := Ideal))) ⟨m, fun _ => 0, g⟩ (fun r => (∀ c : Dev Cert.GlaSampleRefIdeal.nD,
      r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
      ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
      ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2)
      ∧ r.2.mem ((c.tc : Thread Cert.GlaSampleRefIdeal.nD Cert.GlaSampleRefIdeal.τ).loc Cert.GlaSampleRefIdeal.main_arg3) = m ((c.tc : Thread Cert.GlaSampleRefIdeal.nD Cert.GlaSampleRefIdeal.τ).loc Cert.GlaSampleRefIdeal.main_arg3)
      ∧ r.2.mem ((c.tc : Thread Cert.GlaSampleRefIdeal.nD Cert.GlaSampleRefIdeal.τ).loc Cert.GlaSampleRefIdeal.main_arg4) = m ((c.tc : Thread Cert.GlaSampleRefIdeal.nD Cert.GlaSampleRefIdeal.τ).loc Cert.GlaSampleRefIdeal.main_arg4))
      ∧ r.2.sem = fun _ => 0)

def quiescent_GlaSampleRefIdeal_pre_finite_sample [hGlaSampleRefIdeal : Cert.GlaSampleRefIdeal.Facts] [hPre_finite_sample : Cert.Pre_finite_sample.Facts] : Prop :=
  ∀ (m : (ℓ : Loc Cert.GlaSampleRefIdeal.nD Cert.GlaSampleRefIdeal.τ Cert.GlaSampleRefIdeal.sig) → Buf (Elt Ideal) ℓ) (g : Dev Cert.GlaSampleRefIdeal.nD → PrngReg), Pre_GlaSampleRefIdeal_finite_sample m →
    θ_run (Cert.GlaSampleRefIdeal.defs (F := Ideal)) (onTc (τ := Cert.GlaSampleRefIdeal.τ) (Cert.GlaSampleRefIdeal.main (F := Ideal))) ⟨m, fun _ => 0, g⟩ (fun r => (∀ c : Dev Cert.GlaSampleRefIdeal.nD,
      r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
      ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
      ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2)
      ∧ r.2.mem ((c.tc : Thread Cert.GlaSampleRefIdeal.nD Cert.GlaSampleRefIdeal.τ).loc Cert.GlaSampleRefIdeal.main_arg3) = m ((c.tc : Thread Cert.GlaSampleRefIdeal.nD Cert.GlaSampleRefIdeal.τ).loc Cert.GlaSampleRefIdeal.main_arg3)
      ∧ r.2.mem ((c.tc : Thread Cert.GlaSampleRefIdeal.nD Cert.GlaSampleRefIdeal.τ).loc Cert.GlaSampleRefIdeal.main_arg4) = m ((c.tc : Thread Cert.GlaSampleRefIdeal.nD Cert.GlaSampleRefIdeal.τ).loc Cert.GlaSampleRefIdeal.main_arg4))
      ∧ r.2.sem = fun _ => 0)

def quiescent_HgrnSample [hHgrnSample : Cert.HgrnSample.Facts] : Prop :=
  ∀ (m : (ℓ : Loc Cert.HgrnSample.nD Cert.HgrnSample.τ Cert.HgrnSample.sig) → Buf (Elt Bits) ℓ) (g : Dev Cert.HgrnSample.nD → PrngReg), Pre_HgrnSample m →
    θ_run (Cert.HgrnSample.defs (F := Bits)) (onTc (τ := Cert.HgrnSample.τ) (Cert.HgrnSample.main (F := Bits))) ⟨m, fun _ => 0, g⟩ (fun r => (∀ c : Dev Cert.HgrnSample.nD,
      r.2.mem ((c.tc : Thread Cert.HgrnSample.nD Cert.HgrnSample.τ).loc Cert.HgrnSample.main_arg0) = m ((c.tc : Thread Cert.HgrnSample.nD Cert.HgrnSample.τ).loc Cert.HgrnSample.main_arg0)
      ∧ r.2.mem ((c.tc : Thread Cert.HgrnSample.nD Cert.HgrnSample.τ).loc Cert.HgrnSample.main_arg1) = m ((c.tc : Thread Cert.HgrnSample.nD Cert.HgrnSample.τ).loc Cert.HgrnSample.main_arg1)
      ∧ r.2.mem ((c.tc : Thread Cert.HgrnSample.nD Cert.HgrnSample.τ).loc Cert.HgrnSample.main_arg2) = m ((c.tc : Thread Cert.HgrnSample.nD Cert.HgrnSample.τ).loc Cert.HgrnSample.main_arg2)
      ∧ r.2.mem ((c.tc : Thread Cert.HgrnSample.nD Cert.HgrnSample.τ).loc Cert.HgrnSample.main_arg3) = m ((c.tc : Thread Cert.HgrnSample.nD Cert.HgrnSample.τ).loc Cert.HgrnSample.main_arg3))
      ∧ r.2.sem = fun _ => 0)

def quiescent_HgrnSampleIdeal [hHgrnSampleIdeal : Cert.HgrnSampleIdeal.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg), Pre_HgrnSampleIdeal m →
    θ_run (Cert.HgrnSampleIdeal.defs (F := Ideal)) (onTc (τ := Cert.HgrnSampleIdeal.τ) (Cert.HgrnSampleIdeal.main (F := Ideal))) ⟨m, fun _ => 0, g⟩ (fun r => (∀ c : Dev Cert.HgrnSampleIdeal.nD,
      r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
      ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
      ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
      ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3))
      ∧ r.2.sem = fun _ => 0)

def quiescent_HgrnSampleIdeal_pre_bounded_sample [hHgrnSampleIdeal : Cert.HgrnSampleIdeal.Facts] [hPre_bounded_sample : Cert.Pre_bounded_sample.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg), Pre_HgrnSampleIdeal_bounded_sample m →
    θ_run (Cert.HgrnSampleIdeal.defs (F := Ideal)) (onTc (τ := Cert.HgrnSampleIdeal.τ) (Cert.HgrnSampleIdeal.main (F := Ideal))) ⟨m, fun _ => 0, g⟩ (fun r => (∀ c : Dev Cert.HgrnSampleIdeal.nD,
      r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
      ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
      ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
      ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3))
      ∧ r.2.sem = fun _ => 0)

def quiescent_HgrnSampleRefIdeal [hHgrnSampleRefIdeal : Cert.HgrnSampleRefIdeal.Facts] : Prop :=
  ∀ (m : (ℓ : Loc Cert.HgrnSampleRefIdeal.nD Cert.HgrnSampleRefIdeal.τ Cert.HgrnSampleRefIdeal.sig) → Buf (Elt Ideal) ℓ) (g : Dev Cert.HgrnSampleRefIdeal.nD → PrngReg), Pre_HgrnSampleRefIdeal m →
    θ_run (Cert.HgrnSampleRefIdeal.defs (F := Ideal)) (onTc (τ := Cert.HgrnSampleRefIdeal.τ) (Cert.HgrnSampleRefIdeal.main (F := Ideal))) ⟨m, fun _ => 0, g⟩ (fun r => (∀ c : Dev Cert.HgrnSampleRefIdeal.nD,
      r.2.mem ((c.tc : Thread Cert.HgrnSampleRefIdeal.nD Cert.HgrnSampleRefIdeal.τ).loc Cert.HgrnSampleRefIdeal.main_arg0) = m ((c.tc : Thread Cert.HgrnSampleRefIdeal.nD Cert.HgrnSampleRefIdeal.τ).loc Cert.HgrnSampleRefIdeal.main_arg0)
      ∧ r.2.mem ((c.tc : Thread Cert.HgrnSampleRefIdeal.nD Cert.HgrnSampleRefIdeal.τ).loc Cert.HgrnSampleRefIdeal.main_arg1) = m ((c.tc : Thread Cert.HgrnSampleRefIdeal.nD Cert.HgrnSampleRefIdeal.τ).loc Cert.HgrnSampleRefIdeal.main_arg1)
      ∧ r.2.mem ((c.tc : Thread Cert.HgrnSampleRefIdeal.nD Cert.HgrnSampleRefIdeal.τ).loc Cert.HgrnSampleRefIdeal.main_arg2) = m ((c.tc : Thread Cert.HgrnSampleRefIdeal.nD Cert.HgrnSampleRefIdeal.τ).loc Cert.HgrnSampleRefIdeal.main_arg2)
      ∧ r.2.mem ((c.tc : Thread Cert.HgrnSampleRefIdeal.nD Cert.HgrnSampleRefIdeal.τ).loc Cert.HgrnSampleRefIdeal.main_arg3) = m ((c.tc : Thread Cert.HgrnSampleRefIdeal.nD Cert.HgrnSampleRefIdeal.τ).loc Cert.HgrnSampleRefIdeal.main_arg3))
      ∧ r.2.sem = fun _ => 0)

def quiescent_HgrnSampleRefIdeal_pre_bounded_sample [hHgrnSampleRefIdeal : Cert.HgrnSampleRefIdeal.Facts] [hPre_bounded_sample : Cert.Pre_bounded_sample.Facts] : Prop :=
  ∀ (m : (ℓ : Loc Cert.HgrnSampleRefIdeal.nD Cert.HgrnSampleRefIdeal.τ Cert.HgrnSampleRefIdeal.sig) → Buf (Elt Ideal) ℓ) (g : Dev Cert.HgrnSampleRefIdeal.nD → PrngReg), Pre_HgrnSampleRefIdeal_bounded_sample m →
    θ_run (Cert.HgrnSampleRefIdeal.defs (F := Ideal)) (onTc (τ := Cert.HgrnSampleRefIdeal.τ) (Cert.HgrnSampleRefIdeal.main (F := Ideal))) ⟨m, fun _ => 0, g⟩ (fun r => (∀ c : Dev Cert.HgrnSampleRefIdeal.nD,
      r.2.mem ((c.tc : Thread Cert.HgrnSampleRefIdeal.nD Cert.HgrnSampleRefIdeal.τ).loc Cert.HgrnSampleRefIdeal.main_arg0) = m ((c.tc : Thread Cert.HgrnSampleRefIdeal.nD Cert.HgrnSampleRefIdeal.τ).loc Cert.HgrnSampleRefIdeal.main_arg0)
      ∧ r.2.mem ((c.tc : Thread Cert.HgrnSampleRefIdeal.nD Cert.HgrnSampleRefIdeal.τ).loc Cert.HgrnSampleRefIdeal.main_arg1) = m ((c.tc : Thread Cert.HgrnSampleRefIdeal.nD Cert.HgrnSampleRefIdeal.τ).loc Cert.HgrnSampleRefIdeal.main_arg1)
      ∧ r.2.mem ((c.tc : Thread Cert.HgrnSampleRefIdeal.nD Cert.HgrnSampleRefIdeal.τ).loc Cert.HgrnSampleRefIdeal.main_arg2) = m ((c.tc : Thread Cert.HgrnSampleRefIdeal.nD Cert.HgrnSampleRefIdeal.τ).loc Cert.HgrnSampleRefIdeal.main_arg2)
      ∧ r.2.mem ((c.tc : Thread Cert.HgrnSampleRefIdeal.nD Cert.HgrnSampleRefIdeal.τ).loc Cert.HgrnSampleRefIdeal.main_arg3) = m ((c.tc : Thread Cert.HgrnSampleRefIdeal.nD Cert.HgrnSampleRefIdeal.τ).loc Cert.HgrnSampleRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3)
      ∧ r.2.mem ((c.tc : Thread Cert.LastSample.nD Cert.LastSample.τ).loc Cert.LastSample.main_arg4) = m ((c.tc : Thread Cert.LastSample.nD Cert.LastSample.τ).loc Cert.LastSample.main_arg4)
      ∧ r.2.mem ((c.tc : Thread Cert.LastSample.nD Cert.LastSample.τ).loc Cert.LastSample.main_arg5) = m ((c.tc : Thread Cert.LastSample.nD Cert.LastSample.τ).loc Cert.LastSample.main_arg5))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
      ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4)
      ∧ r.2.mem ((c.tc : Thread Cert.LastSampleIdeal.nD Cert.LastSampleIdeal.τ).loc Cert.LastSampleIdeal.main_arg5) = m ((c.tc : Thread Cert.LastSampleIdeal.nD Cert.LastSampleIdeal.τ).loc Cert.LastSampleIdeal.main_arg5))
      ∧ r.2.sem = fun _ => 0)

def quiescent_LastSampleRefIdeal [hLastSampleRefIdeal : Cert.LastSampleRefIdeal.Facts] : Prop :=
  ∀ (m : (ℓ : Loc Cert.LastSampleRefIdeal.nD Cert.LastSampleRefIdeal.τ Cert.LastSampleRefIdeal.sig) → Buf (Elt Ideal) ℓ) (g : Dev Cert.LastSampleRefIdeal.nD → PrngReg), Pre_LastSampleRefIdeal m →
    θ_run (Cert.LastSampleRefIdeal.defs (F := Ideal)) (onTc (τ := Cert.LastSampleRefIdeal.τ) (Cert.LastSampleRefIdeal.main (F := Ideal))) ⟨m, fun _ => 0, g⟩ (fun r => (∀ c : Dev Cert.LastSampleRefIdeal.nD,
      r.2.mem ((c.tc : Thread Cert.LastSampleRefIdeal.nD Cert.LastSampleRefIdeal.τ).loc Cert.LastSampleRefIdeal.main_arg0) = m ((c.tc : Thread Cert.LastSampleRefIdeal.nD Cert.LastSampleRefIdeal.τ).loc Cert.LastSampleRefIdeal.main_arg0)
      ∧ r.2.mem ((c.tc : Thread Cert.LastSampleRefIdeal.nD Cert.LastSampleRefIdeal.τ).loc Cert.LastSampleRefIdeal.main_arg1) = m ((c.tc : Thread Cert.LastSampleRefIdeal.nD Cert.LastSampleRefIdeal.τ).loc Cert.LastSampleRefIdeal.main_arg1)
      ∧ r.2.mem ((c.tc : Thread Cert.LastSampleRefIdeal.nD Cert.LastSampleRefIdeal.τ).loc Cert.LastSampleRefIdeal.main_arg2) = m ((c.tc : Thread Cert.LastSampleRefIdeal.nD Cert.LastSampleRefIdeal.τ).loc Cert.LastSampleRefIdeal.main_arg2)
      ∧ r.2.mem ((c.tc : Thread Cert.LastSampleRefIdeal.nD Cert.LastSampleRefIdeal.τ).loc Cert.LastSampleRefIdeal.main_arg3) = m ((c.tc : Thread Cert.LastSampleRefIdeal.nD Cert.LastSampleRefIdeal.τ).loc Cert.LastSampleRefIdeal.main_arg3)
      ∧ r.2.mem ((c.tc : Thread Cert.LastSampleRefIdeal.nD Cert.LastSampleRefIdeal.τ).loc Cert.LastSampleRefIdeal.main_arg4) = m ((c.tc : Thread Cert.LastSampleRefIdeal.nD Cert.LastSampleRefIdeal.τ).loc Cert.LastSampleRefIdeal.main_arg4)
      ∧ r.2.mem ((c.tc : Thread Cert.LastSampleRefIdeal.nD Cert.LastSampleRefIdeal.τ).loc Cert.LastSampleRefIdeal.main_arg5) = m ((c.tc : Thread Cert.LastSampleRefIdeal.nD Cert.LastSampleRefIdeal.τ).loc Cert.LastSampleRefIdeal.main_arg5))
      ∧ r.2.sem = fun _ => 0)

def quiescent_EvenInSample [hEvenInSample : Cert.EvenInSample.Facts] : Prop :=
  ∀ (m : (ℓ : Loc Cert.EvenInSample.nD Cert.EvenInSample.τ Cert.EvenInSample.sig) → Buf (Elt Bits) ℓ) (g : Dev Cert.EvenInSample.nD → PrngReg), Pre_EvenInSample m →
    θ_run (Cert.EvenInSample.defs (F := Bits)) (onTc (τ := Cert.EvenInSample.τ) (Cert.EvenInSample.main (F := Bits))) ⟨m, fun _ => 0, g⟩ (fun r => (∀ c : Dev Cert.EvenInSample.nD,
      r.2.mem ((c.tc : Thread Cert.EvenInSample.nD Cert.EvenInSample.τ).loc Cert.EvenInSample.main_arg0) = m ((c.tc : Thread Cert.EvenInSample.nD Cert.EvenInSample.τ).loc Cert.EvenInSample.main_arg0)
      ∧ r.2.mem ((c.tc : Thread Cert.EvenInSample.nD Cert.EvenInSample.τ).loc Cert.EvenInSample.main_arg1) = m ((c.tc : Thread Cert.EvenInSample.nD Cert.EvenInSample.τ).loc Cert.EvenInSample.main_arg1)
      ∧ r.2.mem ((c.tc : Thread Cert.EvenInSample.nD Cert.EvenInSample.τ).loc Cert.EvenInSample.main_arg2) = m ((c.tc : Thread Cert.EvenInSample.nD Cert.EvenInSample.τ).loc Cert.EvenInSample.main_arg2))
      ∧ r.2.sem = fun _ => 0)

def quiescent_EvenInSampleIdeal [hEvenInSampleIdeal : Cert.EvenInSampleIdeal.Facts] : Prop :=
  ∀ (m : (ℓ : Loc Cert.EvenInSampleIdeal.nD Cert.EvenInSampleIdeal.τ Cert.EvenInSampleIdeal.sig) → Buf (Elt Ideal) ℓ) (g : Dev Cert.EvenInSampleIdeal.nD → PrngReg), Pre_EvenInSampleIdeal m →
    θ_run (Cert.EvenInSampleIdeal.defs (F := Ideal)) (onTc (τ := Cert.EvenInSampleIdeal.τ) (Cert.EvenInSampleIdeal.main (F := Ideal))) ⟨m, fun _ => 0, g⟩ (fun r => (∀ c : Dev Cert.EvenInSampleIdeal.nD,
      r.2.mem ((c.tc : Thread Cert.EvenInSampleIdeal.nD Cert.EvenInSampleIdeal.τ).loc Cert.EvenInSampleIdeal.main_arg0) = m ((c.tc : Thread Cert.EvenInSampleIdeal.nD Cert.EvenInSampleIdeal.τ).loc Cert.EvenInSampleIdeal.main_arg0)
      ∧ r.2.mem ((c.tc : Thread Cert.EvenInSampleIdeal.nD Cert.EvenInSampleIdeal.τ).loc Cert.EvenInSampleIdeal.main_arg1) = m ((c.tc : Thread Cert.EvenInSampleIdeal.nD Cert.EvenInSampleIdeal.τ).loc Cert.EvenInSampleIdeal.main_arg1)
      ∧ r.2.mem ((c.tc : Thread Cert.EvenInSampleIdeal.nD Cert.EvenInSampleIdeal.τ).loc Cert.EvenInSampleIdeal.main_arg2) = m ((c.tc : Thread Cert.EvenInSampleIdeal.nD Cert.EvenInSampleIdeal.τ).loc Cert.EvenInSampleIdeal.main_arg2))
      ∧ r.2.sem = fun _ => 0)

def quiescent_EvenInSampleRefIdeal [hEvenInSampleRefIdeal : Cert.EvenInSampleRefIdeal.Facts] : Prop :=
  ∀ (m : (ℓ : Loc Cert.EvenInSampleRefIdeal.nD Cert.EvenInSampleRefIdeal.τ Cert.EvenInSampleRefIdeal.sig) → Buf (Elt Ideal) ℓ) (g : Dev Cert.EvenInSampleRefIdeal.nD → PrngReg), Pre_EvenInSampleRefIdeal m →
    θ_run (Cert.EvenInSampleRefIdeal.defs (F := Ideal)) (onTc (τ := Cert.EvenInSampleRefIdeal.τ) (Cert.EvenInSampleRefIdeal.main (F := Ideal))) ⟨m, fun _ => 0, g⟩ (fun r => (∀ c : Dev Cert.EvenInSampleRefIdeal.nD,
      r.2.mem ((c.tc : Thread Cert.EvenInSampleRefIdeal.nD Cert.EvenInSampleRefIdeal.τ).loc Cert.EvenInSampleRefIdeal.main_arg0) = m ((c.tc : Thread Cert.EvenInSampleRefIdeal.nD Cert.EvenInSampleRefIdeal.τ).loc Cert.EvenInSampleRefIdeal.main_arg0)
      ∧ r.2.mem ((c.tc : Thread Cert.EvenInSampleRefIdeal.nD Cert.EvenInSampleRefIdeal.τ).loc Cert.EvenInSampleRefIdeal.main_arg1) = m ((c.tc : Thread Cert.EvenInSampleRefIdeal.nD Cert.EvenInSampleRefIdeal.τ).loc Cert.EvenInSampleRefIdeal.main_arg1)
      ∧ r.2.mem ((c.tc : Thread Cert.EvenInSampleRefIdeal.nD Cert.EvenInSampleRefIdeal.τ).loc Cert.EvenInSampleRefIdeal.main_arg2) = m ((c.tc : Thread Cert.EvenInSampleRefIdeal.nD Cert.EvenInSampleRefIdeal.τ).loc Cert.EvenInSampleRefIdeal.main_arg2))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4))
      ∧ r.2.sem = fun _ => 0)

def quiescent_OddInSample [hOddInSample : Cert.OddInSample.Facts] : Prop :=
  ∀ (m : (ℓ : Loc Cert.OddInSample.nD Cert.OddInSample.τ Cert.OddInSample.sig) → Buf (Elt Bits) ℓ) (g : Dev Cert.OddInSample.nD → PrngReg), Pre_OddInSample m →
    θ_run (Cert.OddInSample.defs (F := Bits)) (onTc (τ := Cert.OddInSample.τ) (Cert.OddInSample.main (F := Bits))) ⟨m, fun _ => 0, g⟩ (fun r => (∀ c : Dev Cert.OddInSample.nD,
      r.2.mem ((c.tc : Thread Cert.OddInSample.nD Cert.OddInSample.τ).loc Cert.OddInSample.main_arg0) = m ((c.tc : Thread Cert.OddInSample.nD Cert.OddInSample.τ).loc Cert.OddInSample.main_arg0)
      ∧ r.2.mem ((c.tc : Thread Cert.OddInSample.nD Cert.OddInSample.τ).loc Cert.OddInSample.main_arg1) = m ((c.tc : Thread Cert.OddInSample.nD Cert.OddInSample.τ).loc Cert.OddInSample.main_arg1)
      ∧ r.2.mem ((c.tc : Thread Cert.OddInSample.nD Cert.OddInSample.τ).loc Cert.OddInSample.main_arg2) = m ((c.tc : Thread Cert.OddInSample.nD Cert.OddInSample.τ).loc Cert.OddInSample.main_arg2))
      ∧ r.2.sem = fun _ => 0)

def quiescent_OddInSampleIdeal [hOddInSampleIdeal : Cert.OddInSampleIdeal.Facts] : Prop :=
  ∀ (m : (ℓ : Loc Cert.OddInSampleIdeal.nD Cert.OddInSampleIdeal.τ Cert.OddInSampleIdeal.sig) → Buf (Elt Ideal) ℓ) (g : Dev Cert.OddInSampleIdeal.nD → PrngReg), Pre_OddInSampleIdeal m →
    θ_run (Cert.OddInSampleIdeal.defs (F := Ideal)) (onTc (τ := Cert.OddInSampleIdeal.τ) (Cert.OddInSampleIdeal.main (F := Ideal))) ⟨m, fun _ => 0, g⟩ (fun r => (∀ c : Dev Cert.OddInSampleIdeal.nD,
      r.2.mem ((c.tc : Thread Cert.OddInSampleIdeal.nD Cert.OddInSampleIdeal.τ).loc Cert.OddInSampleIdeal.main_arg0) = m ((c.tc : Thread Cert.OddInSampleIdeal.nD Cert.OddInSampleIdeal.τ).loc Cert.OddInSampleIdeal.main_arg0)
      ∧ r.2.mem ((c.tc : Thread Cert.OddInSampleIdeal.nD Cert.OddInSampleIdeal.τ).loc Cert.OddInSampleIdeal.main_arg1) = m ((c.tc : Thread Cert.OddInSampleIdeal.nD Cert.OddInSampleIdeal.τ).loc Cert.OddInSampleIdeal.main_arg1)
      ∧ r.2.mem ((c.tc : Thread Cert.OddInSampleIdeal.nD Cert.OddInSampleIdeal.τ).loc Cert.OddInSampleIdeal.main_arg2) = m ((c.tc : Thread Cert.OddInSampleIdeal.nD Cert.OddInSampleIdeal.τ).loc Cert.OddInSampleIdeal.main_arg2))
      ∧ r.2.sem = fun _ => 0)

def quiescent_OddInSampleRefIdeal [hOddInSampleRefIdeal : Cert.OddInSampleRefIdeal.Facts] : Prop :=
  ∀ (m : (ℓ : Loc Cert.OddInSampleRefIdeal.nD Cert.OddInSampleRefIdeal.τ Cert.OddInSampleRefIdeal.sig) → Buf (Elt Ideal) ℓ) (g : Dev Cert.OddInSampleRefIdeal.nD → PrngReg), Pre_OddInSampleRefIdeal m →
    θ_run (Cert.OddInSampleRefIdeal.defs (F := Ideal)) (onTc (τ := Cert.OddInSampleRefIdeal.τ) (Cert.OddInSampleRefIdeal.main (F := Ideal))) ⟨m, fun _ => 0, g⟩ (fun r => (∀ c : Dev Cert.OddInSampleRefIdeal.nD,
      r.2.mem ((c.tc : Thread Cert.OddInSampleRefIdeal.nD Cert.OddInSampleRefIdeal.τ).loc Cert.OddInSampleRefIdeal.main_arg0) = m ((c.tc : Thread Cert.OddInSampleRefIdeal.nD Cert.OddInSampleRefIdeal.τ).loc Cert.OddInSampleRefIdeal.main_arg0)
      ∧ r.2.mem ((c.tc : Thread Cert.OddInSampleRefIdeal.nD Cert.OddInSampleRefIdeal.τ).loc Cert.OddInSampleRefIdeal.main_arg1) = m ((c.tc : Thread Cert.OddInSampleRefIdeal.nD Cert.OddInSampleRefIdeal.τ).loc Cert.OddInSampleRefIdeal.main_arg1)
      ∧ r.2.mem ((c.tc : Thread Cert.OddInSampleRefIdeal.nD Cert.OddInSampleRefIdeal.τ).loc Cert.OddInSampleRefIdeal.main_arg2) = m ((c.tc : Thread Cert.OddInSampleRefIdeal.nD Cert.OddInSampleRefIdeal.τ).loc Cert.OddInSampleRefIdeal.main_arg2))
      ∧ r.2.sem = fun _ => 0)

def quiescent_EvenOutSample [hEvenOutSample : Cert.EvenOutSample.Facts] : Prop :=
  ∀ (m : (ℓ : Loc Cert.EvenOutSample.nD Cert.EvenOutSample.τ Cert.EvenOutSample.sig) → Buf (Elt Bits) ℓ) (g : Dev Cert.EvenOutSample.nD → PrngReg), Pre_EvenOutSample m →
    θ_run (Cert.EvenOutSample.defs (F := Bits)) (onTc (τ := Cert.EvenOutSample.τ) (Cert.EvenOutSample.main (F := Bits))) ⟨m, fun _ => 0, g⟩ (fun r => (∀ c : Dev Cert.EvenOutSample.nD,
      r.2.mem ((c.tc : Thread Cert.EvenOutSample.nD Cert.EvenOutSample.τ).loc Cert.EvenOutSample.main_arg0) = m ((c.tc : Thread Cert.EvenOutSample.nD Cert.EvenOutSample.τ).loc Cert.EvenOutSample.main_arg0)
      ∧ r.2.mem ((c.tc : Thread Cert.EvenOutSample.nD Cert.EvenOutSample.τ).loc Cert.EvenOutSample.main_arg1) = m ((c.tc : Thread Cert.EvenOutSample.nD Cert.EvenOutSample.τ).loc Cert.EvenOutSample.main_arg1)
      ∧ r.2.mem ((c.tc : Thread Cert.EvenOutSample.nD Cert.EvenOutSample.τ).loc Cert.EvenOutSample.main_arg2) = m ((c.tc : Thread Cert.EvenOutSample.nD Cert.EvenOutSample.τ).loc Cert.EvenOutSample.main_arg2)
      ∧ r.2.mem ((c.tc : Thread Cert.EvenOutSample.nD Cert.EvenOutSample.τ).loc Cert.EvenOutSample.main_arg3) = m ((c.tc : Thread Cert.EvenOutSample.nD Cert.EvenOutSample.τ).loc Cert.EvenOutSample.main_arg3))
      ∧ r.2.sem = fun _ => 0)

def quiescent_EvenOutSampleIdeal [hEvenOutSampleIdeal : Cert.EvenOutSampleIdeal.Facts] : Prop :=
  ∀ (m : (ℓ : Loc Cert.EvenOutSampleIdeal.nD Cert.EvenOutSampleIdeal.τ Cert.EvenOutSampleIdeal.sig) → Buf (Elt Ideal) ℓ) (g : Dev Cert.EvenOutSampleIdeal.nD → PrngReg), Pre_EvenOutSampleIdeal m →
    θ_run (Cert.EvenOutSampleIdeal.defs (F := Ideal)) (onTc (τ := Cert.EvenOutSampleIdeal.τ) (Cert.EvenOutSampleIdeal.main (F := Ideal))) ⟨m, fun _ => 0, g⟩ (fun r => (∀ c : Dev Cert.EvenOutSampleIdeal.nD,
      r.2.mem ((c.tc : Thread Cert.EvenOutSampleIdeal.nD Cert.EvenOutSampleIdeal.τ).loc Cert.EvenOutSampleIdeal.main_arg0) = m ((c.tc : Thread Cert.EvenOutSampleIdeal.nD Cert.EvenOutSampleIdeal.τ).loc Cert.EvenOutSampleIdeal.main_arg0)
      ∧ r.2.mem ((c.tc : Thread Cert.EvenOutSampleIdeal.nD Cert.EvenOutSampleIdeal.τ).loc Cert.EvenOutSampleIdeal.main_arg1) = m ((c.tc : Thread Cert.EvenOutSampleIdeal.nD Cert.EvenOutSampleIdeal.τ).loc Cert.EvenOutSampleIdeal.main_arg1)
      ∧ r.2.mem ((c.tc : Thread Cert.EvenOutSampleIdeal.nD Cert.EvenOutSampleIdeal.τ).loc Cert.EvenOutSampleIdeal.main_arg2) = m ((c.tc : Thread Cert.EvenOutSampleIdeal.nD Cert.EvenOutSampleIdeal.τ).loc Cert.EvenOutSampleIdeal.main_arg2)
      ∧ r.2.mem ((c.tc : Thread Cert.EvenOutSampleIdeal.nD Cert.EvenOutSampleIdeal.τ).loc Cert.EvenOutSampleIdeal.main_arg3) = m ((c.tc : Thread Cert.EvenOutSampleIdeal.nD Cert.EvenOutSampleIdeal.τ).loc Cert.EvenOutSampleIdeal.main_arg3))
      ∧ r.2.sem = fun _ => 0)

def quiescent_EvenOutSampleRefIdeal [hEvenOutSampleRefIdeal : Cert.EvenOutSampleRefIdeal.Facts] : Prop :=
  ∀ (m : (ℓ : Loc Cert.EvenOutSampleRefIdeal.nD Cert.EvenOutSampleRefIdeal.τ Cert.EvenOutSampleRefIdeal.sig) → Buf (Elt Ideal) ℓ) (g : Dev Cert.EvenOutSampleRefIdeal.nD → PrngReg), Pre_EvenOutSampleRefIdeal m →
    θ_run (Cert.EvenOutSampleRefIdeal.defs (F := Ideal)) (onTc (τ := Cert.EvenOutSampleRefIdeal.τ) (Cert.EvenOutSampleRefIdeal.main (F := Ideal))) ⟨m, fun _ => 0, g⟩ (fun r => (∀ c : Dev Cert.EvenOutSampleRefIdeal.nD,
      r.2.mem ((c.tc : Thread Cert.EvenOutSampleRefIdeal.nD Cert.EvenOutSampleRefIdeal.τ).loc Cert.EvenOutSampleRefIdeal.main_arg0) = m ((c.tc : Thread Cert.EvenOutSampleRefIdeal.nD Cert.EvenOutSampleRefIdeal.τ).loc Cert.EvenOutSampleRefIdeal.main_arg0)
      ∧ r.2.mem ((c.tc : Thread Cert.EvenOutSampleRefIdeal.nD Cert.EvenOutSampleRefIdeal.τ).loc Cert.EvenOutSampleRefIdeal.main_arg1) = m ((c.tc : Thread Cert.EvenOutSampleRefIdeal.nD Cert.EvenOutSampleRefIdeal.τ).loc Cert.EvenOutSampleRefIdeal.main_arg1)
      ∧ r.2.mem ((c.tc : Thread Cert.EvenOutSampleRefIdeal.nD Cert.EvenOutSampleRefIdeal.τ).loc Cert.EvenOutSampleRefIdeal.main_arg2) = m ((c.tc : Thread Cert.EvenOutSampleRefIdeal.nD Cert.EvenOutSampleRefIdeal.τ).loc Cert.EvenOutSampleRefIdeal.main_arg2)
      ∧ r.2.mem ((c.tc : Thread Cert.EvenOutSampleRefIdeal.nD Cert.EvenOutSampleRefIdeal.τ).loc Cert.EvenOutSampleRefIdeal.main_arg3) = m ((c.tc : Thread Cert.EvenOutSampleRefIdeal.nD Cert.EvenOutSampleRefIdeal.τ).loc Cert.EvenOutSampleRefIdeal.main_arg3))
      ∧ r.2.sem = fun _ => 0)

def quiescent_OddOutSample [hOddOutSample : Cert.OddOutSample.Facts] : Prop :=
  ∀ (m : (ℓ : Loc Cert.OddOutSample.nD Cert.OddOutSample.τ Cert.OddOutSample.sig) → Buf (Elt Bits) ℓ) (g : Dev Cert.OddOutSample.nD → PrngReg), Pre_OddOutSample m →
    θ_run (Cert.OddOutSample.defs (F := Bits)) (onTc (τ := Cert.OddOutSample.τ) (Cert.OddOutSample.main (F := Bits))) ⟨m, fun _ => 0, g⟩ (fun r => (∀ c : Dev Cert.OddOutSample.nD,
      r.2.mem ((c.tc : Thread Cert.OddOutSample.nD Cert.OddOutSample.τ).loc Cert.OddOutSample.main_arg0) = m ((c.tc : Thread Cert.OddOutSample.nD Cert.OddOutSample.τ).loc Cert.OddOutSample.main_arg0)
      ∧ r.2.mem ((c.tc : Thread Cert.OddOutSample.nD Cert.OddOutSample.τ).loc Cert.OddOutSample.main_arg1) = m ((c.tc : Thread Cert.OddOutSample.nD Cert.OddOutSample.τ).loc Cert.OddOutSample.main_arg1)
      ∧ r.2.mem ((c.tc : Thread Cert.OddOutSample.nD Cert.OddOutSample.τ).loc Cert.OddOutSample.main_arg2) = m ((c.tc : Thread Cert.OddOutSample.nD Cert.OddOutSample.τ).loc Cert.OddOutSample.main_arg2))
      ∧ r.2.sem = fun _ => 0)

def quiescent_OddOutSampleIdeal [hOddOutSampleIdeal : Cert.OddOutSampleIdeal.Facts] : Prop :=
  ∀ (m : (ℓ : Loc Cert.OddOutSampleIdeal.nD Cert.OddOutSampleIdeal.τ Cert.OddOutSampleIdeal.sig) → Buf (Elt Ideal) ℓ) (g : Dev Cert.OddOutSampleIdeal.nD → PrngReg), Pre_OddOutSampleIdeal m →
    θ_run (Cert.OddOutSampleIdeal.defs (F := Ideal)) (onTc (τ := Cert.OddOutSampleIdeal.τ) (Cert.OddOutSampleIdeal.main (F := Ideal))) ⟨m, fun _ => 0, g⟩ (fun r => (∀ c : Dev Cert.OddOutSampleIdeal.nD,
      r.2.mem ((c.tc : Thread Cert.OddOutSampleIdeal.nD Cert.OddOutSampleIdeal.τ).loc Cert.OddOutSampleIdeal.main_arg0) = m ((c.tc : Thread Cert.OddOutSampleIdeal.nD Cert.OddOutSampleIdeal.τ).loc Cert.OddOutSampleIdeal.main_arg0)
      ∧ r.2.mem ((c.tc : Thread Cert.OddOutSampleIdeal.nD Cert.OddOutSampleIdeal.τ).loc Cert.OddOutSampleIdeal.main_arg1) = m ((c.tc : Thread Cert.OddOutSampleIdeal.nD Cert.OddOutSampleIdeal.τ).loc Cert.OddOutSampleIdeal.main_arg1)
      ∧ r.2.mem ((c.tc : Thread Cert.OddOutSampleIdeal.nD Cert.OddOutSampleIdeal.τ).loc Cert.OddOutSampleIdeal.main_arg2) = m ((c.tc : Thread Cert.OddOutSampleIdeal.nD Cert.OddOutSampleIdeal.τ).loc Cert.OddOutSampleIdeal.main_arg2))
      ∧ r.2.sem = fun _ => 0)

def quiescent_OddOutSampleRefIdeal [hOddOutSampleRefIdeal : Cert.OddOutSampleRefIdeal.Facts] : Prop :=
  ∀ (m : (ℓ : Loc Cert.OddOutSampleRefIdeal.nD Cert.OddOutSampleRefIdeal.τ Cert.OddOutSampleRefIdeal.sig) → Buf (Elt Ideal) ℓ) (g : Dev Cert.OddOutSampleRefIdeal.nD → PrngReg), Pre_OddOutSampleRefIdeal m →
    θ_run (Cert.OddOutSampleRefIdeal.defs (F := Ideal)) (onTc (τ := Cert.OddOutSampleRefIdeal.τ) (Cert.OddOutSampleRefIdeal.main (F := Ideal))) ⟨m, fun _ => 0, g⟩ (fun r => (∀ c : Dev Cert.OddOutSampleRefIdeal.nD,
      r.2.mem ((c.tc : Thread Cert.OddOutSampleRefIdeal.nD Cert.OddOutSampleRefIdeal.τ).loc Cert.OddOutSampleRefIdeal.main_arg0) = m ((c.tc : Thread Cert.OddOutSampleRefIdeal.nD Cert.OddOutSampleRefIdeal.τ).loc Cert.OddOutSampleRefIdeal.main_arg0)
      ∧ r.2.mem ((c.tc : Thread Cert.OddOutSampleRefIdeal.nD Cert.OddOutSampleRefIdeal.τ).loc Cert.OddOutSampleRefIdeal.main_arg1) = m ((c.tc : Thread Cert.OddOutSampleRefIdeal.nD Cert.OddOutSampleRefIdeal.τ).loc Cert.OddOutSampleRefIdeal.main_arg1)
      ∧ r.2.mem ((c.tc : Thread Cert.OddOutSampleRefIdeal.nD Cert.OddOutSampleRefIdeal.τ).loc Cert.OddOutSampleRefIdeal.main_arg2) = m ((c.tc : Thread Cert.OddOutSampleRefIdeal.nD Cert.OddOutSampleRefIdeal.τ).loc Cert.OddOutSampleRefIdeal.main_arg2))
      ∧ r.2.sem = fun _ => 0)

def quiescent_MobaCombine [hMobaCombine : Cert.MobaCombine.Facts] : Prop :=
  ∀ (m : (ℓ : Loc Cert.MobaCombine.nD Cert.MobaCombine.τ Cert.MobaCombine.sig) → Buf (Elt Bits) ℓ) (g : Dev Cert.MobaCombine.nD → PrngReg), Pre_MobaCombine m →
    θ_run (Cert.MobaCombine.defs (F := Bits)) (onTc (τ := Cert.MobaCombine.τ) (Cert.MobaCombine.main (F := Bits))) ⟨m, fun _ => 0, g⟩ (fun r => (∀ c : Dev Cert.MobaCombine.nD,
      r.2.mem ((c.tc : Thread Cert.MobaCombine.nD Cert.MobaCombine.τ).loc Cert.MobaCombine.main_arg0) = m ((c.tc : Thread Cert.MobaCombine.nD Cert.MobaCombine.τ).loc Cert.MobaCombine.main_arg0)
      ∧ r.2.mem ((c.tc : Thread Cert.MobaCombine.nD Cert.MobaCombine.τ).loc Cert.MobaCombine.main_arg1) = m ((c.tc : Thread Cert.MobaCombine.nD Cert.MobaCombine.τ).loc Cert.MobaCombine.main_arg1)
      ∧ r.2.mem ((c.tc : Thread Cert.MobaCombine.nD Cert.MobaCombine.τ).loc Cert.MobaCombine.main_arg2) = m ((c.tc : Thread Cert.MobaCombine.nD Cert.MobaCombine.τ).loc Cert.MobaCombine.main_arg2)
      ∧ r.2.mem ((c.tc : Thread Cert.MobaCombine.nD Cert.MobaCombine.τ).loc Cert.MobaCombine.main_arg3) = m ((c.tc : Thread Cert.MobaCombine.nD Cert.MobaCombine.τ).loc Cert.MobaCombine.main_arg3)
      ∧ r.2.mem ((c.tc : Thread Cert.MobaCombine.nD Cert.MobaCombine.τ).loc Cert.MobaCombine.main_arg4) = m ((c.tc : Thread Cert.MobaCombine.nD Cert.MobaCombine.τ).loc Cert.MobaCombine.main_arg4)
      ∧ r.2.mem ((c.tc : Thread Cert.MobaCombine.nD Cert.MobaCombine.τ).loc Cert.MobaCombine.main_arg5) = m ((c.tc : Thread Cert.MobaCombine.nD Cert.MobaCombine.τ).loc Cert.MobaCombine.main_arg5)
      ∧ r.2.mem ((c.tc : Thread Cert.MobaCombine.nD Cert.MobaCombine.τ).loc Cert.MobaCombine.main_arg6) = m ((c.tc : Thread Cert.MobaCombine.nD Cert.MobaCombine.τ).loc Cert.MobaCombine.main_arg6))
      ∧ r.2.sem = fun _ => 0)

def quiescent_MobaCombineIdeal [hMobaCombineIdeal : Cert.MobaCombineIdeal.Facts] : Prop :=
  ∀ (m : (ℓ : Loc Cert.MobaCombineIdeal.nD Cert.MobaCombineIdeal.τ Cert.MobaCombineIdeal.sig) → Buf (Elt Ideal) ℓ) (g : Dev Cert.MobaCombineIdeal.nD → PrngReg), Pre_MobaCombineIdeal m →
    θ_run (Cert.MobaCombineIdeal.defs (F := Ideal)) (onTc (τ := Cert.MobaCombineIdeal.τ) (Cert.MobaCombineIdeal.main (F := Ideal))) ⟨m, fun _ => 0, g⟩ (fun r => (∀ c : Dev Cert.MobaCombineIdeal.nD,
      r.2.mem ((c.tc : Thread Cert.MobaCombineIdeal.nD Cert.MobaCombineIdeal.τ).loc Cert.MobaCombineIdeal.main_arg0) = m ((c.tc : Thread Cert.MobaCombineIdeal.nD Cert.MobaCombineIdeal.τ).loc Cert.MobaCombineIdeal.main_arg0)
      ∧ r.2.mem ((c.tc : Thread Cert.MobaCombineIdeal.nD Cert.MobaCombineIdeal.τ).loc Cert.MobaCombineIdeal.main_arg1) = m ((c.tc : Thread Cert.MobaCombineIdeal.nD Cert.MobaCombineIdeal.τ).loc Cert.MobaCombineIdeal.main_arg1)
      ∧ r.2.mem ((c.tc : Thread Cert.MobaCombineIdeal.nD Cert.MobaCombineIdeal.τ).loc Cert.MobaCombineIdeal.main_arg2) = m ((c.tc : Thread Cert.MobaCombineIdeal.nD Cert.MobaCombineIdeal.τ).loc Cert.MobaCombineIdeal.main_arg2)
      ∧ r.2.mem ((c.tc : Thread Cert.MobaCombineIdeal.nD Cert.MobaCombineIdeal.τ).loc Cert.MobaCombineIdeal.main_arg3) = m ((c.tc : Thread Cert.MobaCombineIdeal.nD Cert.MobaCombineIdeal.τ).loc Cert.MobaCombineIdeal.main_arg3)
      ∧ r.2.mem ((c.tc : Thread Cert.MobaCombineIdeal.nD Cert.MobaCombineIdeal.τ).loc Cert.MobaCombineIdeal.main_arg4) = m ((c.tc : Thread Cert.MobaCombineIdeal.nD Cert.MobaCombineIdeal.τ).loc Cert.MobaCombineIdeal.main_arg4)
      ∧ r.2.mem ((c.tc : Thread Cert.MobaCombineIdeal.nD Cert.MobaCombineIdeal.τ).loc Cert.MobaCombineIdeal.main_arg5) = m ((c.tc : Thread Cert.MobaCombineIdeal.nD Cert.MobaCombineIdeal.τ).loc Cert.MobaCombineIdeal.main_arg5)
      ∧ r.2.mem ((c.tc : Thread Cert.MobaCombineIdeal.nD Cert.MobaCombineIdeal.τ).loc Cert.MobaCombineIdeal.main_arg6) = m ((c.tc : Thread Cert.MobaCombineIdeal.nD Cert.MobaCombineIdeal.τ).loc Cert.MobaCombineIdeal.main_arg6))
      ∧ r.2.sem = fun _ => 0)

def quiescent_MobaCombineRefIdeal [hMobaCombineRefIdeal : Cert.MobaCombineRefIdeal.Facts] : Prop :=
  ∀ (m : (ℓ : Loc Cert.MobaCombineRefIdeal.nD Cert.MobaCombineRefIdeal.τ Cert.MobaCombineRefIdeal.sig) → Buf (Elt Ideal) ℓ) (g : Dev Cert.MobaCombineRefIdeal.nD → PrngReg), Pre_MobaCombineRefIdeal m →
    θ_run (Cert.MobaCombineRefIdeal.defs (F := Ideal)) (onTc (τ := Cert.MobaCombineRefIdeal.τ) (Cert.MobaCombineRefIdeal.main (F := Ideal))) ⟨m, fun _ => 0, g⟩ (fun r => (∀ c : Dev Cert.MobaCombineRefIdeal.nD,
      r.2.mem ((c.tc : Thread Cert.MobaCombineRefIdeal.nD Cert.MobaCombineRefIdeal.τ).loc Cert.MobaCombineRefIdeal.main_arg0) = m ((c.tc : Thread Cert.MobaCombineRefIdeal.nD Cert.MobaCombineRefIdeal.τ).loc Cert.MobaCombineRefIdeal.main_arg0)
      ∧ r.2.mem ((c.tc : Thread Cert.MobaCombineRefIdeal.nD Cert.MobaCombineRefIdeal.τ).loc Cert.MobaCombineRefIdeal.main_arg1) = m ((c.tc : Thread Cert.MobaCombineRefIdeal.nD Cert.MobaCombineRefIdeal.τ).loc Cert.MobaCombineRefIdeal.main_arg1)
      ∧ r.2.mem ((c.tc : Thread Cert.MobaCombineRefIdeal.nD Cert.MobaCombineRefIdeal.τ).loc Cert.MobaCombineRefIdeal.main_arg2) = m ((c.tc : Thread Cert.MobaCombineRefIdeal.nD Cert.MobaCombineRefIdeal.τ).loc Cert.MobaCombineRefIdeal.main_arg2)
      ∧ r.2.mem ((c.tc : Thread Cert.MobaCombineRefIdeal.nD Cert.MobaCombineRefIdeal.τ).loc Cert.MobaCombineRefIdeal.main_arg3) = m ((c.tc : Thread Cert.MobaCombineRefIdeal.nD Cert.MobaCombineRefIdeal.τ).loc Cert.MobaCombineRefIdeal.main_arg3)
      ∧ r.2.mem ((c.tc : Thread Cert.MobaCombineRefIdeal.nD Cert.MobaCombineRefIdeal.τ).loc Cert.MobaCombineRefIdeal.main_arg4) = m ((c.tc : Thread Cert.MobaCombineRefIdeal.nD Cert.MobaCombineRefIdeal.τ).loc Cert.MobaCombineRefIdeal.main_arg4)
      ∧ r.2.mem ((c.tc : Thread Cert.MobaCombineRefIdeal.nD Cert.MobaCombineRefIdeal.τ).loc Cert.MobaCombineRefIdeal.main_arg5) = m ((c.tc : Thread Cert.MobaCombineRefIdeal.nD Cert.MobaCombineRefIdeal.τ).loc Cert.MobaCombineRefIdeal.main_arg5)
      ∧ r.2.mem ((c.tc : Thread Cert.MobaCombineRefIdeal.nD Cert.MobaCombineRefIdeal.τ).loc Cert.MobaCombineRefIdeal.main_arg6) = m ((c.tc : Thread Cert.MobaCombineRefIdeal.nD Cert.MobaCombineRefIdeal.τ).loc Cert.MobaCombineRefIdeal.main_arg6))
      ∧ r.2.sem = fun _ => 0)

def preserves_Gla_GlaIdeal : Prop :=
  True

def algebraic_GlaIdeal_GlaRefIdeal_pre_finite [hGlaIdeal : Cert.GlaIdeal.Facts] [hGlaRefIdeal : Cert.GlaRefIdeal.Facts] [hPre_finite : Cert.Pre_finite.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v49_0)) (v1 : (c : Dev Cert.GlaIdeal.nD) → Buf (Elt Ideal) ((c.tc : Thread Cert.GlaIdeal.nD Cert.GlaIdeal.τ).loc Cert.GlaIdeal.main_v49_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v49_0) = v0 c
          ∧ r.2.mem ((c.tc : Thread Cert.GlaIdeal.nD Cert.GlaIdeal.τ).loc Cert.GlaIdeal.main_v49_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v41) = v0 c
          ∧ r.2.mem ((c.tc : Thread Cert.GlaRefIdeal.nD Cert.GlaRefIdeal.τ).loc Cert.GlaRefIdeal.main_v22_5) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Hgrn_HgrnIdeal : Prop :=
  True

def algebraic_HgrnIdeal_HgrnRefIdeal_pre_bounded [hHgrnIdeal : Cert.HgrnIdeal.Facts] [hHgrnRefIdeal : Cert.HgrnRefIdeal.Facts] [hPre_bounded : Cert.Pre_bounded.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_bounded m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v47_0)) (v1 : (c : Dev Cert.HgrnIdeal.nD) → Buf (Elt Ideal) ((c.tc : Thread Cert.HgrnIdeal.nD Cert.HgrnIdeal.τ).loc Cert.HgrnIdeal.main_v47_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v47_0) = v0 c
          ∧ r.2.mem ((c.tc : Thread Cert.HgrnIdeal.nD Cert.HgrnIdeal.τ).loc Cert.HgrnIdeal.main_v47_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v51) = v0 c
          ∧ r.2.mem ((c.tc : Thread Cert.HgrnRefIdeal.nD Cert.HgrnRefIdeal.τ).loc Cert.HgrnRefIdeal.main_v32_5) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_GlaSample_GlaSampleIdeal : Prop :=
  True

def algebraic_GlaSampleIdeal_GlaSampleRefIdeal_pre_finite_sample [hGlaSampleIdeal : Cert.GlaSampleIdeal.Facts] [hGlaSampleRefIdeal : Cert.GlaSampleRefIdeal.Facts] [hPre_finite_sample : Cert.Pre_finite_sample.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg)
    (m' : (ℓ : Loc Cert.GlaSampleRefIdeal.nD Cert.GlaSampleRefIdeal.τ Cert.GlaSampleRefIdeal.sig) → Buf (Elt Ideal) ℓ) (g' : Dev Cert.GlaSampleRefIdeal.nD → PrngReg), Pre_GlaSampleIdeal_finite_sample m →
    (∀ c : Dev Cert.GlaSampleIdeal.nD,
      m' ((c.tc : Thread Cert.GlaSampleRefIdeal.nD Cert.GlaSampleRefIdeal.τ).loc Cert.GlaSampleRefIdeal.main_arg0) = m ((c.tc : Thread Cert.GlaSampleIdeal.nD Cert.GlaSampleIdeal.τ).loc Cert.GlaSampleIdeal.main_arg0)
      ∧ m' ((c.tc : Thread Cert.GlaSampleRefIdeal.nD Cert.GlaSampleRefIdeal.τ).loc Cert.GlaSampleRefIdeal.main_arg1) = m ((c.tc : Thread Cert.GlaSampleIdeal.nD Cert.GlaSampleIdeal.τ).loc Cert.GlaSampleIdeal.main_arg1)
      ∧ m' ((c.tc : Thread Cert.GlaSampleRefIdeal.nD Cert.GlaSampleRefIdeal.τ).loc Cert.GlaSampleRefIdeal.main_arg2) = m ((c.tc : Thread Cert.GlaSampleIdeal.nD Cert.GlaSampleIdeal.τ).loc Cert.GlaSampleIdeal.main_arg2)
      ∧ m' ((c.tc : Thread Cert.GlaSampleRefIdeal.nD Cert.GlaSampleRefIdeal.τ).loc Cert.GlaSampleRefIdeal.main_arg3) = m ((c.tc : Thread Cert.GlaSampleIdeal.nD Cert.GlaSampleIdeal.τ).loc Cert.GlaSampleIdeal.main_arg3)
      ∧ m' ((c.tc : Thread Cert.GlaSampleRefIdeal.nD Cert.GlaSampleRefIdeal.τ).loc Cert.GlaSampleRefIdeal.main_arg4) = m ((c.tc : Thread Cert.GlaSampleIdeal.nD Cert.GlaSampleIdeal.τ).loc Cert.GlaSampleIdeal.main_arg4)) →
    ∃ (v0 : (c : Dev Cert.GlaSampleIdeal.nD) → Buf (Elt Ideal) ((c.tc : Thread Cert.GlaSampleIdeal.nD Cert.GlaSampleIdeal.τ).loc Cert.GlaSampleIdeal.main_v52_0)) (v1 : (c : Dev Cert.GlaSampleIdeal.nD) → Buf (Elt Ideal) ((c.tc : Thread Cert.GlaSampleIdeal.nD Cert.GlaSampleIdeal.τ).loc Cert.GlaSampleIdeal.main_v52_1)),
      θ_run (Cert.GlaSampleIdeal.defs (F := Ideal)) (onTc (τ := Cert.GlaSampleIdeal.τ) (Cert.GlaSampleIdeal.main (F := Ideal))) ⟨m, fun _ => 0, g⟩ (fun r => ∀ c : Dev Cert.GlaSampleIdeal.nD,
          r.2.mem ((c.tc : Thread Cert.GlaSampleIdeal.nD Cert.GlaSampleIdeal.τ).loc Cert.GlaSampleIdeal.main_v52_0) = v0 c
          ∧ r.2.mem ((c.tc : Thread Cert.GlaSampleIdeal.nD Cert.GlaSampleIdeal.τ).loc Cert.GlaSampleIdeal.main_v52_1) = v1 c
          ∧ r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
          ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
          ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
          ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
          ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4))
      ∧ θ_run (Cert.GlaSampleRefIdeal.defs (F := Ideal)) (onTc (τ := Cert.GlaSampleRefIdeal.τ) (Cert.GlaSampleRefIdeal.main (F := Ideal))) ⟨m', fun _ => 0, g'⟩ (fun r => ∀ c : Dev Cert.GlaSampleRefIdeal.nD,
          r.2.mem ((c.tc : Thread Cert.GlaSampleRefIdeal.nD Cert.GlaSampleRefIdeal.τ).loc Cert.GlaSampleRefIdeal.main_v44) = v0 c
          ∧ r.2.mem ((c.tc : Thread Cert.GlaSampleRefIdeal.nD Cert.GlaSampleRefIdeal.τ).loc Cert.GlaSampleRefIdeal.main_v22_5) = v1 c
          ∧ r.2.mem ((c.tc : Thread Cert.GlaSampleRefIdeal.nD Cert.GlaSampleRefIdeal.τ).loc Cert.GlaSampleRefIdeal.main_arg0) = m' ((c.tc : Thread Cert.GlaSampleRefIdeal.nD Cert.GlaSampleRefIdeal.τ).loc Cert.GlaSampleRefIdeal.main_arg0)
          ∧ r.2.mem ((c.tc : Thread Cert.GlaSampleRefIdeal.nD Cert.GlaSampleRefIdeal.τ).loc Cert.GlaSampleRefIdeal.main_arg1) = m' ((c.tc : Thread Cert.GlaSampleRefIdeal.nD Cert.GlaSampleRefIdeal.τ).loc Cert.GlaSampleRefIdeal.main_arg1)
          ∧ r.2.mem ((c.tc : Thread Cert.GlaSampleRefIdeal.nD Cert.GlaSampleRefIdeal.τ).loc Cert.GlaSampleRefIdeal.main_arg2) = m' ((c.tc : Thread Cert.GlaSampleRefIdeal.nD Cert.GlaSampleRefIdeal.τ).loc Cert.GlaSampleRefIdeal.main_arg2)
          ∧ r.2.mem ((c.tc : Thread Cert.GlaSampleRefIdeal.nD Cert.GlaSampleRefIdeal.τ).loc Cert.GlaSampleRefIdeal.main_arg3) = m' ((c.tc : Thread Cert.GlaSampleRefIdeal.nD Cert.GlaSampleRefIdeal.τ).loc Cert.GlaSampleRefIdeal.main_arg3)
          ∧ r.2.mem ((c.tc : Thread Cert.GlaSampleRefIdeal.nD Cert.GlaSampleRefIdeal.τ).loc Cert.GlaSampleRefIdeal.main_arg4) = m' ((c.tc : Thread Cert.GlaSampleRefIdeal.nD Cert.GlaSampleRefIdeal.τ).loc Cert.GlaSampleRefIdeal.main_arg4))

def preserves_HgrnSample_HgrnSampleIdeal : Prop :=
  True

def algebraic_HgrnSampleIdeal_HgrnSampleRefIdeal_pre_bounded_sample [hHgrnSampleIdeal : Cert.HgrnSampleIdeal.Facts] [hHgrnSampleRefIdeal : Cert.HgrnSampleRefIdeal.Facts] [hPre_bounded_sample : Cert.Pre_bounded_sample.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg)
    (m' : (ℓ : Loc Cert.HgrnSampleRefIdeal.nD Cert.HgrnSampleRefIdeal.τ Cert.HgrnSampleRefIdeal.sig) → Buf (Elt Ideal) ℓ) (g' : Dev Cert.HgrnSampleRefIdeal.nD → PrngReg), Pre_HgrnSampleIdeal_bounded_sample m →
    (∀ c : Dev Cert.HgrnSampleIdeal.nD,
      m' ((c.tc : Thread Cert.HgrnSampleRefIdeal.nD Cert.HgrnSampleRefIdeal.τ).loc Cert.HgrnSampleRefIdeal.main_arg0) = m ((c.tc : Thread Cert.HgrnSampleIdeal.nD Cert.HgrnSampleIdeal.τ).loc Cert.HgrnSampleIdeal.main_arg0)
      ∧ m' ((c.tc : Thread Cert.HgrnSampleRefIdeal.nD Cert.HgrnSampleRefIdeal.τ).loc Cert.HgrnSampleRefIdeal.main_arg1) = m ((c.tc : Thread Cert.HgrnSampleIdeal.nD Cert.HgrnSampleIdeal.τ).loc Cert.HgrnSampleIdeal.main_arg1)
      ∧ m' ((c.tc : Thread Cert.HgrnSampleRefIdeal.nD Cert.HgrnSampleRefIdeal.τ).loc Cert.HgrnSampleRefIdeal.main_arg2) = m ((c.tc : Thread Cert.HgrnSampleIdeal.nD Cert.HgrnSampleIdeal.τ).loc Cert.HgrnSampleIdeal.main_arg2)
      ∧ m' ((c.tc : Thread Cert.HgrnSampleRefIdeal.nD Cert.HgrnSampleRefIdeal.τ).loc Cert.HgrnSampleRefIdeal.main_arg3) = m ((c.tc : Thread Cert.HgrnSampleIdeal.nD Cert.HgrnSampleIdeal.τ).loc Cert.HgrnSampleIdeal.main_arg3)) →
    ∃ (v0 : (c : Dev Cert.HgrnSampleIdeal.nD) → Buf (Elt Ideal) ((c.tc : Thread Cert.HgrnSampleIdeal.nD Cert.HgrnSampleIdeal.τ).loc Cert.HgrnSampleIdeal.main_v51_0)) (v1 : (c : Dev Cert.HgrnSampleIdeal.nD) → Buf (Elt Ideal) ((c.tc : Thread Cert.HgrnSampleIdeal.nD Cert.HgrnSampleIdeal.τ).loc Cert.HgrnSampleIdeal.main_v51_1)),
      θ_run (Cert.HgrnSampleIdeal.defs (F := Ideal)) (onTc (τ := Cert.HgrnSampleIdeal.τ) (Cert.HgrnSampleIdeal.main (F := Ideal))) ⟨m, fun _ => 0, g⟩ (fun r => ∀ c : Dev Cert.HgrnSampleIdeal.nD,
          r.2.mem ((c.tc : Thread Cert.HgrnSampleIdeal.nD Cert.HgrnSampleIdeal.τ).loc Cert.HgrnSampleIdeal.main_v51_0) = v0 c
          ∧ r.2.mem ((c.tc : Thread Cert.HgrnSampleIdeal.nD Cert.HgrnSampleIdeal.τ).loc Cert.HgrnSampleIdeal.main_v51_1) = v1 c
          ∧ r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
          ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
          ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
          ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3))
      ∧ θ_run (Cert.HgrnSampleRefIdeal.defs (F := Ideal)) (onTc (τ := Cert.HgrnSampleRefIdeal.τ) (Cert.HgrnSampleRefIdeal.main (F := Ideal))) ⟨m', fun _ => 0, g'⟩ (fun r => ∀ c : Dev Cert.HgrnSampleRefIdeal.nD,
          r.2.mem ((c.tc : Thread Cert.HgrnSampleRefIdeal.nD Cert.HgrnSampleRefIdeal.τ).loc Cert.HgrnSampleRefIdeal.main_v54) = v0 c
          ∧ r.2.mem ((c.tc : Thread Cert.HgrnSampleRefIdeal.nD Cert.HgrnSampleRefIdeal.τ).loc Cert.HgrnSampleRefIdeal.main_v32_5) = v1 c
          ∧ r.2.mem ((c.tc : Thread Cert.HgrnSampleRefIdeal.nD Cert.HgrnSampleRefIdeal.τ).loc Cert.HgrnSampleRefIdeal.main_arg0) = m' ((c.tc : Thread Cert.HgrnSampleRefIdeal.nD Cert.HgrnSampleRefIdeal.τ).loc Cert.HgrnSampleRefIdeal.main_arg0)
          ∧ r.2.mem ((c.tc : Thread Cert.HgrnSampleRefIdeal.nD Cert.HgrnSampleRefIdeal.τ).loc Cert.HgrnSampleRefIdeal.main_arg1) = m' ((c.tc : Thread Cert.HgrnSampleRefIdeal.nD Cert.HgrnSampleRefIdeal.τ).loc Cert.HgrnSampleRefIdeal.main_arg1)
          ∧ r.2.mem ((c.tc : Thread Cert.HgrnSampleRefIdeal.nD Cert.HgrnSampleRefIdeal.τ).loc Cert.HgrnSampleRefIdeal.main_arg2) = m' ((c.tc : Thread Cert.HgrnSampleRefIdeal.nD Cert.HgrnSampleRefIdeal.τ).loc Cert.HgrnSampleRefIdeal.main_arg2)
          ∧ r.2.mem ((c.tc : Thread Cert.HgrnSampleRefIdeal.nD Cert.HgrnSampleRefIdeal.τ).loc Cert.HgrnSampleRefIdeal.main_arg3) = m' ((c.tc : Thread Cert.HgrnSampleRefIdeal.nD Cert.HgrnSampleRefIdeal.τ).loc Cert.HgrnSampleRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v5)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v33) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v13) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v3) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v14) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v1) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v2) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v1) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_LastSample_LastSampleIdeal : Prop :=
  True

def algebraic_LastSampleIdeal_LastSampleRefIdeal [hLastSampleIdeal : Cert.LastSampleIdeal.Facts] [hLastSampleRefIdeal : Cert.LastSampleRefIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleRefIdeal.nD Cert.LastSampleRefIdeal.τ Cert.LastSampleRefIdeal.sig) → Buf (Elt Ideal) ℓ) (g' : Dev Cert.LastSampleRefIdeal.nD → PrngReg), Pre_LastSampleIdeal m →
    (∀ c : Dev Cert.LastSampleIdeal.nD,
      m' ((c.tc : Thread Cert.LastSampleRefIdeal.nD Cert.LastSampleRefIdeal.τ).loc Cert.LastSampleRefIdeal.main_arg0) = m ((c.tc : Thread Cert.LastSampleIdeal.nD Cert.LastSampleIdeal.τ).loc Cert.LastSampleIdeal.main_arg0)
      ∧ m' ((c.tc : Thread Cert.LastSampleRefIdeal.nD Cert.LastSampleRefIdeal.τ).loc Cert.LastSampleRefIdeal.main_arg1) = m ((c.tc : Thread Cert.LastSampleIdeal.nD Cert.LastSampleIdeal.τ).loc Cert.LastSampleIdeal.main_arg1)
      ∧ m' ((c.tc : Thread Cert.LastSampleRefIdeal.nD Cert.LastSampleRefIdeal.τ).loc Cert.LastSampleRefIdeal.main_arg2) = m ((c.tc : Thread Cert.LastSampleIdeal.nD Cert.LastSampleIdeal.τ).loc Cert.LastSampleIdeal.main_arg2)
      ∧ m' ((c.tc : Thread Cert.LastSampleRefIdeal.nD Cert.LastSampleRefIdeal.τ).loc Cert.LastSampleRefIdeal.main_arg3) = m ((c.tc : Thread Cert.LastSampleIdeal.nD Cert.LastSampleIdeal.τ).loc Cert.LastSampleIdeal.main_arg3)
      ∧ m' ((c.tc : Thread Cert.LastSampleRefIdeal.nD Cert.LastSampleRefIdeal.τ).loc Cert.LastSampleRefIdeal.main_arg4) = m ((c.tc : Thread Cert.LastSampleIdeal.nD Cert.LastSampleIdeal.τ).loc Cert.LastSampleIdeal.main_arg4)
      ∧ m' ((c.tc : Thread Cert.LastSampleRefIdeal.nD Cert.LastSampleRefIdeal.τ).loc Cert.LastSampleRefIdeal.main_arg5) = m ((c.tc : Thread Cert.LastSampleIdeal.nD Cert.LastSampleIdeal.τ).loc Cert.LastSampleIdeal.main_arg5)) →
    ∃ (v0 : (c : Dev Cert.LastSampleIdeal.nD) → Buf (Elt Ideal) ((c.tc : Thread Cert.LastSampleIdeal.nD Cert.LastSampleIdeal.τ).loc Cert.LastSampleIdeal.main_v5)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v5) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
          ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4)
          ∧ r.2.mem ((c.tc : Thread Cert.LastSampleIdeal.nD Cert.LastSampleIdeal.τ).loc Cert.LastSampleIdeal.main_arg5) = m ((c.tc : Thread Cert.LastSampleIdeal.nD Cert.LastSampleIdeal.τ).loc Cert.LastSampleIdeal.main_arg5))
      ∧ θ_run (Cert.LastSampleRefIdeal.defs (F := Ideal)) (onTc (τ := Cert.LastSampleRefIdeal.τ) (Cert.LastSampleRefIdeal.main (F := Ideal))) ⟨m', fun _ => 0, g'⟩ (fun r => ∀ c : Dev Cert.LastSampleRefIdeal.nD,
          r.2.mem ((c.tc : Thread Cert.LastSampleRefIdeal.nD Cert.LastSampleRefIdeal.τ).loc Cert.LastSampleRefIdeal.main_v33) = v0 c
          ∧ r.2.mem ((c.tc : Thread Cert.LastSampleRefIdeal.nD Cert.LastSampleRefIdeal.τ).loc Cert.LastSampleRefIdeal.main_arg0) = m' ((c.tc : Thread Cert.LastSampleRefIdeal.nD Cert.LastSampleRefIdeal.τ).loc Cert.LastSampleRefIdeal.main_arg0)
          ∧ r.2.mem ((c.tc : Thread Cert.LastSampleRefIdeal.nD Cert.LastSampleRefIdeal.τ).loc Cert.LastSampleRefIdeal.main_arg1) = m' ((c.tc : Thread Cert.LastSampleRefIdeal.nD Cert.LastSampleRefIdeal.τ).loc Cert.LastSampleRefIdeal.main_arg1)
          ∧ r.2.mem ((c.tc : Thread Cert.LastSampleRefIdeal.nD Cert.LastSampleRefIdeal.τ).loc Cert.LastSampleRefIdeal.main_arg2) = m' ((c.tc : Thread Cert.LastSampleRefIdeal.nD Cert.LastSampleRefIdeal.τ).loc Cert.LastSampleRefIdeal.main_arg2)
          ∧ r.2.mem ((c.tc : Thread Cert.LastSampleRefIdeal.nD Cert.LastSampleRefIdeal.τ).loc Cert.LastSampleRefIdeal.main_arg3) = m' ((c.tc : Thread Cert.LastSampleRefIdeal.nD Cert.LastSampleRefIdeal.τ).loc Cert.LastSampleRefIdeal.main_arg3)
          ∧ r.2.mem ((c.tc : Thread Cert.LastSampleRefIdeal.nD Cert.LastSampleRefIdeal.τ).loc Cert.LastSampleRefIdeal.main_arg4) = m' ((c.tc : Thread Cert.LastSampleRefIdeal.nD Cert.LastSampleRefIdeal.τ).loc Cert.LastSampleRefIdeal.main_arg4)
          ∧ r.2.mem ((c.tc : Thread Cert.LastSampleRefIdeal.nD Cert.LastSampleRefIdeal.τ).loc Cert.LastSampleRefIdeal.main_arg5) = m' ((c.tc : Thread Cert.LastSampleRefIdeal.nD Cert.LastSampleRefIdeal.τ).loc Cert.LastSampleRefIdeal.main_arg5))

def preserves_EvenInSample_EvenInSampleIdeal : Prop :=
  True

def algebraic_EvenInSampleIdeal_EvenInSampleRefIdeal [hEvenInSampleIdeal : Cert.EvenInSampleIdeal.Facts] [hEvenInSampleRefIdeal : Cert.EvenInSampleRefIdeal.Facts] : Prop :=
  ∀ (m : (ℓ : Loc Cert.EvenInSampleIdeal.nD Cert.EvenInSampleIdeal.τ Cert.EvenInSampleIdeal.sig) → Buf (Elt Ideal) ℓ) (g : Dev Cert.EvenInSampleIdeal.nD → PrngReg)
    (m' : (ℓ : Loc Cert.EvenInSampleRefIdeal.nD Cert.EvenInSampleRefIdeal.τ Cert.EvenInSampleRefIdeal.sig) → Buf (Elt Ideal) ℓ) (g' : Dev Cert.EvenInSampleRefIdeal.nD → PrngReg), Pre_EvenInSampleIdeal m →
    (∀ c : Dev Cert.EvenInSampleIdeal.nD,
      m' ((c.tc : Thread Cert.EvenInSampleRefIdeal.nD Cert.EvenInSampleRefIdeal.τ).loc Cert.EvenInSampleRefIdeal.main_arg0) = m ((c.tc : Thread Cert.EvenInSampleIdeal.nD Cert.EvenInSampleIdeal.τ).loc Cert.EvenInSampleIdeal.main_arg0)
      ∧ m' ((c.tc : Thread Cert.EvenInSampleRefIdeal.nD Cert.EvenInSampleRefIdeal.τ).loc Cert.EvenInSampleRefIdeal.main_arg1) = m ((c.tc : Thread Cert.EvenInSampleIdeal.nD Cert.EvenInSampleIdeal.τ).loc Cert.EvenInSampleIdeal.main_arg1)
      ∧ m' ((c.tc : Thread Cert.EvenInSampleRefIdeal.nD Cert.EvenInSampleRefIdeal.τ).loc Cert.EvenInSampleRefIdeal.main_arg2) = m ((c.tc : Thread Cert.EvenInSampleIdeal.nD Cert.EvenInSampleIdeal.τ).loc Cert.EvenInSampleIdeal.main_arg2)) →
    ∃ (v0 : (c : Dev Cert.EvenInSampleIdeal.nD) → Buf (Elt Ideal) ((c.tc : Thread Cert.EvenInSampleIdeal.nD Cert.EvenInSampleIdeal.τ).loc Cert.EvenInSampleIdeal.main_v2)),
      θ_run (Cert.EvenInSampleIdeal.defs (F := Ideal)) (onTc (τ := Cert.EvenInSampleIdeal.τ) (Cert.EvenInSampleIdeal.main (F := Ideal))) ⟨m, fun _ => 0, g⟩ (fun r => ∀ c : Dev Cert.EvenInSampleIdeal.nD,
          r.2.mem ((c.tc : Thread Cert.EvenInSampleIdeal.nD Cert.EvenInSampleIdeal.τ).loc Cert.EvenInSampleIdeal.main_v2) = v0 c
          ∧ r.2.mem ((c.tc : Thread Cert.EvenInSampleIdeal.nD Cert.EvenInSampleIdeal.τ).loc Cert.EvenInSampleIdeal.main_arg0) = m ((c.tc : Thread Cert.EvenInSampleIdeal.nD Cert.EvenInSampleIdeal.τ).loc Cert.EvenInSampleIdeal.main_arg0)
          ∧ r.2.mem ((c.tc : Thread Cert.EvenInSampleIdeal.nD Cert.EvenInSampleIdeal.τ).loc Cert.EvenInSampleIdeal.main_arg1) = m ((c.tc : Thread Cert.EvenInSampleIdeal.nD Cert.EvenInSampleIdeal.τ).loc Cert.EvenInSampleIdeal.main_arg1)
          ∧ r.2.mem ((c.tc : Thread Cert.EvenInSampleIdeal.nD Cert.EvenInSampleIdeal.τ).loc Cert.EvenInSampleIdeal.main_arg2) = m ((c.tc : Thread Cert.EvenInSampleIdeal.nD Cert.EvenInSampleIdeal.τ).loc Cert.EvenInSampleIdeal.main_arg2))
      ∧ θ_run (Cert.EvenInSampleRefIdeal.defs (F := Ideal)) (onTc (τ := Cert.EvenInSampleRefIdeal.τ) (Cert.EvenInSampleRefIdeal.main (F := Ideal))) ⟨m', fun _ => 0, g'⟩ (fun r => ∀ c : Dev Cert.EvenInSampleRefIdeal.nD,
          r.2.mem ((c.tc : Thread Cert.EvenInSampleRefIdeal.nD Cert.EvenInSampleRefIdeal.τ).loc Cert.EvenInSampleRefIdeal.main_v13) = v0 c
          ∧ r.2.mem ((c.tc : Thread Cert.EvenInSampleRefIdeal.nD Cert.EvenInSampleRefIdeal.τ).loc Cert.EvenInSampleRefIdeal.main_arg0) = m' ((c.tc : Thread Cert.EvenInSampleRefIdeal.nD Cert.EvenInSampleRefIdeal.τ).loc Cert.EvenInSampleRefIdeal.main_arg0)
          ∧ r.2.mem ((c.tc : Thread Cert.EvenInSampleRefIdeal.nD Cert.EvenInSampleRefIdeal.τ).loc Cert.EvenInSampleRefIdeal.main_arg1) = m' ((c.tc : Thread Cert.EvenInSampleRefIdeal.nD Cert.EvenInSampleRefIdeal.τ).loc Cert.EvenInSampleRefIdeal.main_arg1)
          ∧ r.2.mem ((c.tc : Thread Cert.EvenInSampleRefIdeal.nD Cert.EvenInSampleRefIdeal.τ).loc Cert.EvenInSampleRefIdeal.main_arg2) = m' ((c.tc : Thread Cert.EvenInSampleRefIdeal.nD Cert.EvenInSampleRefIdeal.τ).loc Cert.EvenInSampleRefIdeal.main_arg2))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)) →
    ∃ (v0 : (c : Dev Cert.FfnSampleIdeal.nD) → Buf (Elt Ideal) ((c.tc : Thread Cert.FfnSampleIdeal.nD Cert.FfnSampleIdeal.τ).loc Cert.FfnSampleIdeal.main_v4)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v4) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v20) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4))

def preserves_OddInSample_OddInSampleIdeal : Prop :=
  True

def algebraic_OddInSampleIdeal_OddInSampleRefIdeal [hOddInSampleIdeal : Cert.OddInSampleIdeal.Facts] [hOddInSampleRefIdeal : Cert.OddInSampleRefIdeal.Facts] : Prop :=
  ∀ (m : (ℓ : Loc Cert.OddInSampleIdeal.nD Cert.OddInSampleIdeal.τ Cert.OddInSampleIdeal.sig) → Buf (Elt Ideal) ℓ) (g : Dev Cert.OddInSampleIdeal.nD → PrngReg)
    (m' : (ℓ : Loc Cert.OddInSampleRefIdeal.nD Cert.OddInSampleRefIdeal.τ Cert.OddInSampleRefIdeal.sig) → Buf (Elt Ideal) ℓ) (g' : Dev Cert.OddInSampleRefIdeal.nD → PrngReg), Pre_OddInSampleIdeal m →
    (∀ c : Dev Cert.OddInSampleIdeal.nD,
      m' ((c.tc : Thread Cert.OddInSampleRefIdeal.nD Cert.OddInSampleRefIdeal.τ).loc Cert.OddInSampleRefIdeal.main_arg0) = m ((c.tc : Thread Cert.OddInSampleIdeal.nD Cert.OddInSampleIdeal.τ).loc Cert.OddInSampleIdeal.main_arg0)
      ∧ m' ((c.tc : Thread Cert.OddInSampleRefIdeal.nD Cert.OddInSampleRefIdeal.τ).loc Cert.OddInSampleRefIdeal.main_arg1) = m ((c.tc : Thread Cert.OddInSampleIdeal.nD Cert.OddInSampleIdeal.τ).loc Cert.OddInSampleIdeal.main_arg1)
      ∧ m' ((c.tc : Thread Cert.OddInSampleRefIdeal.nD Cert.OddInSampleRefIdeal.τ).loc Cert.OddInSampleRefIdeal.main_arg2) = m ((c.tc : Thread Cert.OddInSampleIdeal.nD Cert.OddInSampleIdeal.τ).loc Cert.OddInSampleIdeal.main_arg2)) →
    ∃ (v0 : (c : Dev Cert.OddInSampleIdeal.nD) → Buf (Elt Ideal) ((c.tc : Thread Cert.OddInSampleIdeal.nD Cert.OddInSampleIdeal.τ).loc Cert.OddInSampleIdeal.main_v3)),
      θ_run (Cert.OddInSampleIdeal.defs (F := Ideal)) (onTc (τ := Cert.OddInSampleIdeal.τ) (Cert.OddInSampleIdeal.main (F := Ideal))) ⟨m, fun _ => 0, g⟩ (fun r => ∀ c : Dev Cert.OddInSampleIdeal.nD,
          r.2.mem ((c.tc : Thread Cert.OddInSampleIdeal.nD Cert.OddInSampleIdeal.τ).loc Cert.OddInSampleIdeal.main_v3) = v0 c
          ∧ r.2.mem ((c.tc : Thread Cert.OddInSampleIdeal.nD Cert.OddInSampleIdeal.τ).loc Cert.OddInSampleIdeal.main_arg0) = m ((c.tc : Thread Cert.OddInSampleIdeal.nD Cert.OddInSampleIdeal.τ).loc Cert.OddInSampleIdeal.main_arg0)
          ∧ r.2.mem ((c.tc : Thread Cert.OddInSampleIdeal.nD Cert.OddInSampleIdeal.τ).loc Cert.OddInSampleIdeal.main_arg1) = m ((c.tc : Thread Cert.OddInSampleIdeal.nD Cert.OddInSampleIdeal.τ).loc Cert.OddInSampleIdeal.main_arg1)
          ∧ r.2.mem ((c.tc : Thread Cert.OddInSampleIdeal.nD Cert.OddInSampleIdeal.τ).loc Cert.OddInSampleIdeal.main_arg2) = m ((c.tc : Thread Cert.OddInSampleIdeal.nD Cert.OddInSampleIdeal.τ).loc Cert.OddInSampleIdeal.main_arg2))
      ∧ θ_run (Cert.OddInSampleRefIdeal.defs (F := Ideal)) (onTc (τ := Cert.OddInSampleRefIdeal.τ) (Cert.OddInSampleRefIdeal.main (F := Ideal))) ⟨m', fun _ => 0, g'⟩ (fun r => ∀ c : Dev Cert.OddInSampleRefIdeal.nD,
          r.2.mem ((c.tc : Thread Cert.OddInSampleRefIdeal.nD Cert.OddInSampleRefIdeal.τ).loc Cert.OddInSampleRefIdeal.main_v14) = v0 c
          ∧ r.2.mem ((c.tc : Thread Cert.OddInSampleRefIdeal.nD Cert.OddInSampleRefIdeal.τ).loc Cert.OddInSampleRefIdeal.main_arg0) = m' ((c.tc : Thread Cert.OddInSampleRefIdeal.nD Cert.OddInSampleRefIdeal.τ).loc Cert.OddInSampleRefIdeal.main_arg0)
          ∧ r.2.mem ((c.tc : Thread Cert.OddInSampleRefIdeal.nD Cert.OddInSampleRefIdeal.τ).loc Cert.OddInSampleRefIdeal.main_arg1) = m' ((c.tc : Thread Cert.OddInSampleRefIdeal.nD Cert.OddInSampleRefIdeal.τ).loc Cert.OddInSampleRefIdeal.main_arg1)
          ∧ r.2.mem ((c.tc : Thread Cert.OddInSampleRefIdeal.nD Cert.OddInSampleRefIdeal.τ).loc Cert.OddInSampleRefIdeal.main_arg2) = m' ((c.tc : Thread Cert.OddInSampleRefIdeal.nD Cert.OddInSampleRefIdeal.τ).loc Cert.OddInSampleRefIdeal.main_arg2))

def preserves_EvenOutSample_EvenOutSampleIdeal : Prop :=
  True

def algebraic_EvenOutSampleIdeal_EvenOutSampleRefIdeal [hEvenOutSampleIdeal : Cert.EvenOutSampleIdeal.Facts] [hEvenOutSampleRefIdeal : Cert.EvenOutSampleRefIdeal.Facts] : Prop :=
  ∀ (m : (ℓ : Loc Cert.EvenOutSampleIdeal.nD Cert.EvenOutSampleIdeal.τ Cert.EvenOutSampleIdeal.sig) → Buf (Elt Ideal) ℓ) (g : Dev Cert.EvenOutSampleIdeal.nD → PrngReg)
    (m' : (ℓ : Loc Cert.EvenOutSampleRefIdeal.nD Cert.EvenOutSampleRefIdeal.τ Cert.EvenOutSampleRefIdeal.sig) → Buf (Elt Ideal) ℓ) (g' : Dev Cert.EvenOutSampleRefIdeal.nD → PrngReg), Pre_EvenOutSampleIdeal m →
    (∀ c : Dev Cert.EvenOutSampleIdeal.nD,
      m' ((c.tc : Thread Cert.EvenOutSampleRefIdeal.nD Cert.EvenOutSampleRefIdeal.τ).loc Cert.EvenOutSampleRefIdeal.main_arg0) = m ((c.tc : Thread Cert.EvenOutSampleIdeal.nD Cert.EvenOutSampleIdeal.τ).loc Cert.EvenOutSampleIdeal.main_arg0)
      ∧ m' ((c.tc : Thread Cert.EvenOutSampleRefIdeal.nD Cert.EvenOutSampleRefIdeal.τ).loc Cert.EvenOutSampleRefIdeal.main_arg1) = m ((c.tc : Thread Cert.EvenOutSampleIdeal.nD Cert.EvenOutSampleIdeal.τ).loc Cert.EvenOutSampleIdeal.main_arg1)
      ∧ m' ((c.tc : Thread Cert.EvenOutSampleRefIdeal.nD Cert.EvenOutSampleRefIdeal.τ).loc Cert.EvenOutSampleRefIdeal.main_arg2) = m ((c.tc : Thread Cert.EvenOutSampleIdeal.nD Cert.EvenOutSampleIdeal.τ).loc Cert.EvenOutSampleIdeal.main_arg2)
      ∧ m' ((c.tc : Thread Cert.EvenOutSampleRefIdeal.nD Cert.EvenOutSampleRefIdeal.τ).loc Cert.EvenOutSampleRefIdeal.main_arg3) = m ((c.tc : Thread Cert.EvenOutSampleIdeal.nD Cert.EvenOutSampleIdeal.τ).loc Cert.EvenOutSampleIdeal.main_arg3)) →
    ∃ (v0 : (c : Dev Cert.EvenOutSampleIdeal.nD) → Buf (Elt Ideal) ((c.tc : Thread Cert.EvenOutSampleIdeal.nD Cert.EvenOutSampleIdeal.τ).loc Cert.EvenOutSampleIdeal.main_v1)),
      θ_run (Cert.EvenOutSampleIdeal.defs (F := Ideal)) (onTc (τ := Cert.EvenOutSampleIdeal.τ) (Cert.EvenOutSampleIdeal.main (F := Ideal))) ⟨m, fun _ => 0, g⟩ (fun r => ∀ c : Dev Cert.EvenOutSampleIdeal.nD,
          r.2.mem ((c.tc : Thread Cert.EvenOutSampleIdeal.nD Cert.EvenOutSampleIdeal.τ).loc Cert.EvenOutSampleIdeal.main_v1) = v0 c
          ∧ r.2.mem ((c.tc : Thread Cert.EvenOutSampleIdeal.nD Cert.EvenOutSampleIdeal.τ).loc Cert.EvenOutSampleIdeal.main_arg0) = m ((c.tc : Thread Cert.EvenOutSampleIdeal.nD Cert.EvenOutSampleIdeal.τ).loc Cert.EvenOutSampleIdeal.main_arg0)
          ∧ r.2.mem ((c.tc : Thread Cert.EvenOutSampleIdeal.nD Cert.EvenOutSampleIdeal.τ).loc Cert.EvenOutSampleIdeal.main_arg1) = m ((c.tc : Thread Cert.EvenOutSampleIdeal.nD Cert.EvenOutSampleIdeal.τ).loc Cert.EvenOutSampleIdeal.main_arg1)
          ∧ r.2.mem ((c.tc : Thread Cert.EvenOutSampleIdeal.nD Cert.EvenOutSampleIdeal.τ).loc Cert.EvenOutSampleIdeal.main_arg2) = m ((c.tc : Thread Cert.EvenOutSampleIdeal.nD Cert.EvenOutSampleIdeal.τ).loc Cert.EvenOutSampleIdeal.main_arg2)
          ∧ r.2.mem ((c.tc : Thread Cert.EvenOutSampleIdeal.nD Cert.EvenOutSampleIdeal.τ).loc Cert.EvenOutSampleIdeal.main_arg3) = m ((c.tc : Thread Cert.EvenOutSampleIdeal.nD Cert.EvenOutSampleIdeal.τ).loc Cert.EvenOutSampleIdeal.main_arg3))
      ∧ θ_run (Cert.EvenOutSampleRefIdeal.defs (F := Ideal)) (onTc (τ := Cert.EvenOutSampleRefIdeal.τ) (Cert.EvenOutSampleRefIdeal.main (F := Ideal))) ⟨m', fun _ => 0, g'⟩ (fun r => ∀ c : Dev Cert.EvenOutSampleRefIdeal.nD,
          r.2.mem ((c.tc : Thread Cert.EvenOutSampleRefIdeal.nD Cert.EvenOutSampleRefIdeal.τ).loc Cert.EvenOutSampleRefIdeal.main_v2) = v0 c
          ∧ r.2.mem ((c.tc : Thread Cert.EvenOutSampleRefIdeal.nD Cert.EvenOutSampleRefIdeal.τ).loc Cert.EvenOutSampleRefIdeal.main_arg0) = m' ((c.tc : Thread Cert.EvenOutSampleRefIdeal.nD Cert.EvenOutSampleRefIdeal.τ).loc Cert.EvenOutSampleRefIdeal.main_arg0)
          ∧ r.2.mem ((c.tc : Thread Cert.EvenOutSampleRefIdeal.nD Cert.EvenOutSampleRefIdeal.τ).loc Cert.EvenOutSampleRefIdeal.main_arg1) = m' ((c.tc : Thread Cert.EvenOutSampleRefIdeal.nD Cert.EvenOutSampleRefIdeal.τ).loc Cert.EvenOutSampleRefIdeal.main_arg1)
          ∧ r.2.mem ((c.tc : Thread Cert.EvenOutSampleRefIdeal.nD Cert.EvenOutSampleRefIdeal.τ).loc Cert.EvenOutSampleRefIdeal.main_arg2) = m' ((c.tc : Thread Cert.EvenOutSampleRefIdeal.nD Cert.EvenOutSampleRefIdeal.τ).loc Cert.EvenOutSampleRefIdeal.main_arg2)
          ∧ r.2.mem ((c.tc : Thread Cert.EvenOutSampleRefIdeal.nD Cert.EvenOutSampleRefIdeal.τ).loc Cert.EvenOutSampleRefIdeal.main_arg3) = m' ((c.tc : Thread Cert.EvenOutSampleRefIdeal.nD Cert.EvenOutSampleRefIdeal.τ).loc Cert.EvenOutSampleRefIdeal.main_arg3))

def preserves_OddOutSample_OddOutSampleIdeal : Prop :=
  True

def algebraic_OddOutSampleIdeal_OddOutSampleRefIdeal [hOddOutSampleIdeal : Cert.OddOutSampleIdeal.Facts] [hOddOutSampleRefIdeal : Cert.OddOutSampleRefIdeal.Facts] : Prop :=
  ∀ (m : (ℓ : Loc Cert.OddOutSampleIdeal.nD Cert.OddOutSampleIdeal.τ Cert.OddOutSampleIdeal.sig) → Buf (Elt Ideal) ℓ) (g : Dev Cert.OddOutSampleIdeal.nD → PrngReg)
    (m' : (ℓ : Loc Cert.OddOutSampleRefIdeal.nD Cert.OddOutSampleRefIdeal.τ Cert.OddOutSampleRefIdeal.sig) → Buf (Elt Ideal) ℓ) (g' : Dev Cert.OddOutSampleRefIdeal.nD → PrngReg), Pre_OddOutSampleIdeal m →
    (∀ c : Dev Cert.OddOutSampleIdeal.nD,
      m' ((c.tc : Thread Cert.OddOutSampleRefIdeal.nD Cert.OddOutSampleRefIdeal.τ).loc Cert.OddOutSampleRefIdeal.main_arg0) = m ((c.tc : Thread Cert.OddOutSampleIdeal.nD Cert.OddOutSampleIdeal.τ).loc Cert.OddOutSampleIdeal.main_arg0)
      ∧ m' ((c.tc : Thread Cert.OddOutSampleRefIdeal.nD Cert.OddOutSampleRefIdeal.τ).loc Cert.OddOutSampleRefIdeal.main_arg1) = m ((c.tc : Thread Cert.OddOutSampleIdeal.nD Cert.OddOutSampleIdeal.τ).loc Cert.OddOutSampleIdeal.main_arg1)
      ∧ m' ((c.tc : Thread Cert.OddOutSampleRefIdeal.nD Cert.OddOutSampleRefIdeal.τ).loc Cert.OddOutSampleRefIdeal.main_arg2) = m ((c.tc : Thread Cert.OddOutSampleIdeal.nD Cert.OddOutSampleIdeal.τ).loc Cert.OddOutSampleIdeal.main_arg2)) →
    ∃ (v0 : (c : Dev Cert.OddOutSampleIdeal.nD) → Buf (Elt Ideal) ((c.tc : Thread Cert.OddOutSampleIdeal.nD Cert.OddOutSampleIdeal.τ).loc Cert.OddOutSampleIdeal.main_v1)),
      θ_run (Cert.OddOutSampleIdeal.defs (F := Ideal)) (onTc (τ := Cert.OddOutSampleIdeal.τ) (Cert.OddOutSampleIdeal.main (F := Ideal))) ⟨m, fun _ => 0, g⟩ (fun r => ∀ c : Dev Cert.OddOutSampleIdeal.nD,
          r.2.mem ((c.tc : Thread Cert.OddOutSampleIdeal.nD Cert.OddOutSampleIdeal.τ).loc Cert.OddOutSampleIdeal.main_v1) = v0 c
          ∧ r.2.mem ((c.tc : Thread Cert.OddOutSampleIdeal.nD Cert.OddOutSampleIdeal.τ).loc Cert.OddOutSampleIdeal.main_arg0) = m ((c.tc : Thread Cert.OddOutSampleIdeal.nD Cert.OddOutSampleIdeal.τ).loc Cert.OddOutSampleIdeal.main_arg0)
          ∧ r.2.mem ((c.tc : Thread Cert.OddOutSampleIdeal.nD Cert.OddOutSampleIdeal.τ).loc Cert.OddOutSampleIdeal.main_arg1) = m ((c.tc : Thread Cert.OddOutSampleIdeal.nD Cert.OddOutSampleIdeal.τ).loc Cert.OddOutSampleIdeal.main_arg1)
          ∧ r.2.mem ((c.tc : Thread Cert.OddOutSampleIdeal.nD Cert.OddOutSampleIdeal.τ).loc Cert.OddOutSampleIdeal.main_arg2) = m ((c.tc : Thread Cert.OddOutSampleIdeal.nD Cert.OddOutSampleIdeal.τ).loc Cert.OddOutSampleIdeal.main_arg2))
      ∧ θ_run (Cert.OddOutSampleRefIdeal.defs (F := Ideal)) (onTc (τ := Cert.OddOutSampleRefIdeal.τ) (Cert.OddOutSampleRefIdeal.main (F := Ideal))) ⟨m', fun _ => 0, g'⟩ (fun r => ∀ c : Dev Cert.OddOutSampleRefIdeal.nD,
          r.2.mem ((c.tc : Thread Cert.OddOutSampleRefIdeal.nD Cert.OddOutSampleRefIdeal.τ).loc Cert.OddOutSampleRefIdeal.main_v1) = v0 c
          ∧ r.2.mem ((c.tc : Thread Cert.OddOutSampleRefIdeal.nD Cert.OddOutSampleRefIdeal.τ).loc Cert.OddOutSampleRefIdeal.main_arg0) = m' ((c.tc : Thread Cert.OddOutSampleRefIdeal.nD Cert.OddOutSampleRefIdeal.τ).loc Cert.OddOutSampleRefIdeal.main_arg0)
          ∧ r.2.mem ((c.tc : Thread Cert.OddOutSampleRefIdeal.nD Cert.OddOutSampleRefIdeal.τ).loc Cert.OddOutSampleRefIdeal.main_arg1) = m' ((c.tc : Thread Cert.OddOutSampleRefIdeal.nD Cert.OddOutSampleRefIdeal.τ).loc Cert.OddOutSampleRefIdeal.main_arg1)
          ∧ r.2.mem ((c.tc : Thread Cert.OddOutSampleRefIdeal.nD Cert.OddOutSampleRefIdeal.τ).loc Cert.OddOutSampleRefIdeal.main_arg2) = m' ((c.tc : Thread Cert.OddOutSampleRefIdeal.nD Cert.OddOutSampleRefIdeal.τ).loc Cert.OddOutSampleRefIdeal.main_arg2))

def preserves_MobaCombine_MobaCombineIdeal : Prop :=
  True

def algebraic_MobaCombineIdeal_MobaCombineRefIdeal [hMobaCombineIdeal : Cert.MobaCombineIdeal.Facts] [hMobaCombineRefIdeal : Cert.MobaCombineRefIdeal.Facts] : Prop :=
  ∀ (m : (ℓ : Loc Cert.MobaCombineIdeal.nD Cert.MobaCombineIdeal.τ Cert.MobaCombineIdeal.sig) → Buf (Elt Ideal) ℓ) (g : Dev Cert.MobaCombineIdeal.nD → PrngReg)
    (m' : (ℓ : Loc Cert.MobaCombineRefIdeal.nD Cert.MobaCombineRefIdeal.τ Cert.MobaCombineRefIdeal.sig) → Buf (Elt Ideal) ℓ) (g' : Dev Cert.MobaCombineRefIdeal.nD → PrngReg), Pre_MobaCombineIdeal m →
    (∀ c : Dev Cert.MobaCombineIdeal.nD,
      m' ((c.tc : Thread Cert.MobaCombineRefIdeal.nD Cert.MobaCombineRefIdeal.τ).loc Cert.MobaCombineRefIdeal.main_arg0) = m ((c.tc : Thread Cert.MobaCombineIdeal.nD Cert.MobaCombineIdeal.τ).loc Cert.MobaCombineIdeal.main_arg0)
      ∧ m' ((c.tc : Thread Cert.MobaCombineRefIdeal.nD Cert.MobaCombineRefIdeal.τ).loc Cert.MobaCombineRefIdeal.main_arg1) = m ((c.tc : Thread Cert.MobaCombineIdeal.nD Cert.MobaCombineIdeal.τ).loc Cert.MobaCombineIdeal.main_arg1)
      ∧ m' ((c.tc : Thread Cert.MobaCombineRefIdeal.nD Cert.MobaCombineRefIdeal.τ).loc Cert.MobaCombineRefIdeal.main_arg2) = m ((c.tc : Thread Cert.MobaCombineIdeal.nD Cert.MobaCombineIdeal.τ).loc Cert.MobaCombineIdeal.main_arg2)
      ∧ m' ((c.tc : Thread Cert.MobaCombineRefIdeal.nD Cert.MobaCombineRefIdeal.τ).loc Cert.MobaCombineRefIdeal.main_arg3) = m ((c.tc : Thread Cert.MobaCombineIdeal.nD Cert.MobaCombineIdeal.τ).loc Cert.MobaCombineIdeal.main_arg3)
      ∧ m' ((c.tc : Thread Cert.MobaCombineRefIdeal.nD Cert.MobaCombineRefIdeal.τ).loc Cert.MobaCombineRefIdeal.main_arg4) = m ((c.tc : Thread Cert.MobaCombineIdeal.nD Cert.MobaCombineIdeal.τ).loc Cert.MobaCombineIdeal.main_arg4)
      ∧ m' ((c.tc : Thread Cert.MobaCombineRefIdeal.nD Cert.MobaCombineRefIdeal.τ).loc Cert.MobaCombineRefIdeal.main_arg5) = m ((c.tc : Thread Cert.MobaCombineIdeal.nD Cert.MobaCombineIdeal.τ).loc Cert.MobaCombineIdeal.main_arg5)
      ∧ m' ((c.tc : Thread Cert.MobaCombineRefIdeal.nD Cert.MobaCombineRefIdeal.τ).loc Cert.MobaCombineRefIdeal.main_arg6) = m ((c.tc : Thread Cert.MobaCombineIdeal.nD Cert.MobaCombineIdeal.τ).loc Cert.MobaCombineIdeal.main_arg6)) →
    ∃ (v0 : (c : Dev Cert.MobaCombineIdeal.nD) → Buf (Elt Ideal) ((c.tc : Thread Cert.MobaCombineIdeal.nD Cert.MobaCombineIdeal.τ).loc Cert.MobaCombineIdeal.main_v4)),
      θ_run (Cert.MobaCombineIdeal.defs (F := Ideal)) (onTc (τ := Cert.MobaCombineIdeal.τ) (Cert.MobaCombineIdeal.main (F := Ideal))) ⟨m, fun _ => 0, g⟩ (fun r => ∀ c : Dev Cert.MobaCombineIdeal.nD,
          r.2.mem ((c.tc : Thread Cert.MobaCombineIdeal.nD Cert.MobaCombineIdeal.τ).loc Cert.MobaCombineIdeal.main_v4) = v0 c
          ∧ r.2.mem ((c.tc : Thread Cert.MobaCombineIdeal.nD Cert.MobaCombineIdeal.τ).loc Cert.MobaCombineIdeal.main_arg0) = m ((c.tc : Thread Cert.MobaCombineIdeal.nD Cert.MobaCombineIdeal.τ).loc Cert.MobaCombineIdeal.main_arg0)
          ∧ r.2.mem ((c.tc : Thread Cert.MobaCombineIdeal.nD Cert.MobaCombineIdeal.τ).loc Cert.MobaCombineIdeal.main_arg1) = m ((c.tc : Thread Cert.MobaCombineIdeal.nD Cert.MobaCombineIdeal.τ).loc Cert.MobaCombineIdeal.main_arg1)
          ∧ r.2.mem ((c.tc : Thread Cert.MobaCombineIdeal.nD Cert.MobaCombineIdeal.τ).loc Cert.MobaCombineIdeal.main_arg2) = m ((c.tc : Thread Cert.MobaCombineIdeal.nD Cert.MobaCombineIdeal.τ).loc Cert.MobaCombineIdeal.main_arg2)
          ∧ r.2.mem ((c.tc : Thread Cert.MobaCombineIdeal.nD Cert.MobaCombineIdeal.τ).loc Cert.MobaCombineIdeal.main_arg3) = m ((c.tc : Thread Cert.MobaCombineIdeal.nD Cert.MobaCombineIdeal.τ).loc Cert.MobaCombineIdeal.main_arg3)
          ∧ r.2.mem ((c.tc : Thread Cert.MobaCombineIdeal.nD Cert.MobaCombineIdeal.τ).loc Cert.MobaCombineIdeal.main_arg4) = m ((c.tc : Thread Cert.MobaCombineIdeal.nD Cert.MobaCombineIdeal.τ).loc Cert.MobaCombineIdeal.main_arg4)
          ∧ r.2.mem ((c.tc : Thread Cert.MobaCombineIdeal.nD Cert.MobaCombineIdeal.τ).loc Cert.MobaCombineIdeal.main_arg5) = m ((c.tc : Thread Cert.MobaCombineIdeal.nD Cert.MobaCombineIdeal.τ).loc Cert.MobaCombineIdeal.main_arg5)
          ∧ r.2.mem ((c.tc : Thread Cert.MobaCombineIdeal.nD Cert.MobaCombineIdeal.τ).loc Cert.MobaCombineIdeal.main_arg6) = m ((c.tc : Thread Cert.MobaCombineIdeal.nD Cert.MobaCombineIdeal.τ).loc Cert.MobaCombineIdeal.main_arg6))
      ∧ θ_run (Cert.MobaCombineRefIdeal.defs (F := Ideal)) (onTc (τ := Cert.MobaCombineRefIdeal.τ) (Cert.MobaCombineRefIdeal.main (F := Ideal))) ⟨m', fun _ => 0, g'⟩ (fun r => ∀ c : Dev Cert.MobaCombineRefIdeal.nD,
          r.2.mem ((c.tc : Thread Cert.MobaCombineRefIdeal.nD Cert.MobaCombineRefIdeal.τ).loc Cert.MobaCombineRefIdeal.main_v104) = v0 c
          ∧ r.2.mem ((c.tc : Thread Cert.MobaCombineRefIdeal.nD Cert.MobaCombineRefIdeal.τ).loc Cert.MobaCombineRefIdeal.main_arg0) = m' ((c.tc : Thread Cert.MobaCombineRefIdeal.nD Cert.MobaCombineRefIdeal.τ).loc Cert.MobaCombineRefIdeal.main_arg0)
          ∧ r.2.mem ((c.tc : Thread Cert.MobaCombineRefIdeal.nD Cert.MobaCombineRefIdeal.τ).loc Cert.MobaCombineRefIdeal.main_arg1) = m' ((c.tc : Thread Cert.MobaCombineRefIdeal.nD Cert.MobaCombineRefIdeal.τ).loc Cert.MobaCombineRefIdeal.main_arg1)
          ∧ r.2.mem ((c.tc : Thread Cert.MobaCombineRefIdeal.nD Cert.MobaCombineRefIdeal.τ).loc Cert.MobaCombineRefIdeal.main_arg2) = m' ((c.tc : Thread Cert.MobaCombineRefIdeal.nD Cert.MobaCombineRefIdeal.τ).loc Cert.MobaCombineRefIdeal.main_arg2)
          ∧ r.2.mem ((c.tc : Thread Cert.MobaCombineRefIdeal.nD Cert.MobaCombineRefIdeal.τ).loc Cert.MobaCombineRefIdeal.main_arg3) = m' ((c.tc : Thread Cert.MobaCombineRefIdeal.nD Cert.MobaCombineRefIdeal.τ).loc Cert.MobaCombineRefIdeal.main_arg3)
          ∧ r.2.mem ((c.tc : Thread Cert.MobaCombineRefIdeal.nD Cert.MobaCombineRefIdeal.τ).loc Cert.MobaCombineRefIdeal.main_arg4) = m' ((c.tc : Thread Cert.MobaCombineRefIdeal.nD Cert.MobaCombineRefIdeal.τ).loc Cert.MobaCombineRefIdeal.main_arg4)
          ∧ r.2.mem ((c.tc : Thread Cert.MobaCombineRefIdeal.nD Cert.MobaCombineRefIdeal.τ).loc Cert.MobaCombineRefIdeal.main_arg5) = m' ((c.tc : Thread Cert.MobaCombineRefIdeal.nD Cert.MobaCombineRefIdeal.τ).loc Cert.MobaCombineRefIdeal.main_arg5)
          ∧ r.2.mem ((c.tc : Thread Cert.MobaCombineRefIdeal.nD Cert.MobaCombineRefIdeal.τ).loc Cert.MobaCombineRefIdeal.main_arg6) = m' ((c.tc : Thread Cert.MobaCombineRefIdeal.nD Cert.MobaCombineRefIdeal.τ).loc Cert.MobaCombineRefIdeal.main_arg6))

def Claim : Prop :=
  ∃ (hGla : Cert.Gla.Facts) (hGlaIdeal : Cert.GlaIdeal.Facts) (hGlaRefIdeal : Cert.GlaRefIdeal.Facts) (hHgrn : Cert.Hgrn.Facts) (hHgrnIdeal : Cert.HgrnIdeal.Facts) (hHgrnRefIdeal : Cert.HgrnRefIdeal.Facts) (hGlaSample : Cert.GlaSample.Facts) (hGlaSampleIdeal : Cert.GlaSampleIdeal.Facts) (hGlaSampleRefIdeal : Cert.GlaSampleRefIdeal.Facts) (hHgrnSample : Cert.HgrnSample.Facts) (hHgrnSampleIdeal : Cert.HgrnSampleIdeal.Facts) (hHgrnSampleRefIdeal : Cert.HgrnSampleRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hLastSample : Cert.LastSample.Facts) (hLastSampleIdeal : Cert.LastSampleIdeal.Facts) (hLastSampleRefIdeal : Cert.LastSampleRefIdeal.Facts) (hEvenInSample : Cert.EvenInSample.Facts) (hEvenInSampleIdeal : Cert.EvenInSampleIdeal.Facts) (hEvenInSampleRefIdeal : Cert.EvenInSampleRefIdeal.Facts) (hFfnSample : Cert.FfnSample.Facts) (hFfnSampleIdeal : Cert.FfnSampleIdeal.Facts) (hFfnSampleRefIdeal : Cert.FfnSampleRefIdeal.Facts) (hOddInSample : Cert.OddInSample.Facts) (hOddInSampleIdeal : Cert.OddInSampleIdeal.Facts) (hOddInSampleRefIdeal : Cert.OddInSampleRefIdeal.Facts) (hEvenOutSample : Cert.EvenOutSample.Facts) (hEvenOutSampleIdeal : Cert.EvenOutSampleIdeal.Facts) (hEvenOutSampleRefIdeal : Cert.EvenOutSampleRefIdeal.Facts) (hOddOutSample : Cert.OddOutSample.Facts) (hOddOutSampleIdeal : Cert.OddOutSampleIdeal.Facts) (hOddOutSampleRefIdeal : Cert.OddOutSampleRefIdeal.Facts) (hMobaCombine : Cert.MobaCombine.Facts) (hMobaCombineIdeal : Cert.MobaCombineIdeal.Facts) (hMobaCombineRefIdeal : Cert.MobaCombineRefIdeal.Facts) (hPre_finite : Cert.Pre_finite.Facts) (hPre_bounded : Cert.Pre_bounded.Facts) (hPre_finite_sample : Cert.Pre_finite_sample.Facts) (hPre_bounded_sample : Cert.Pre_bounded_sample.Facts),
    quiescent_Gla (hGla := hGla)
    ∧ quiescent_GlaIdeal (hGlaIdeal := hGlaIdeal)
    ∧ quiescent_GlaIdeal_pre_finite (hGlaIdeal := hGlaIdeal) (hPre_finite := hPre_finite)
    ∧ quiescent_GlaRefIdeal (hGlaRefIdeal := hGlaRefIdeal)
    ∧ quiescent_GlaRefIdeal_pre_finite (hGlaRefIdeal := hGlaRefIdeal) (hPre_finite := hPre_finite)
    ∧ quiescent_Hgrn (hHgrn := hHgrn)
    ∧ quiescent_HgrnIdeal (hHgrnIdeal := hHgrnIdeal)
    ∧ quiescent_HgrnIdeal_pre_bounded (hHgrnIdeal := hHgrnIdeal) (hPre_bounded := hPre_bounded)
    ∧ quiescent_HgrnRefIdeal (hHgrnRefIdeal := hHgrnRefIdeal)
    ∧ quiescent_HgrnRefIdeal_pre_bounded (hHgrnRefIdeal := hHgrnRefIdeal) (hPre_bounded := hPre_bounded)
    ∧ quiescent_GlaSample (hGlaSample := hGlaSample)
    ∧ quiescent_GlaSampleIdeal (hGlaSampleIdeal := hGlaSampleIdeal)
    ∧ quiescent_GlaSampleIdeal_pre_finite_sample (hGlaSampleIdeal := hGlaSampleIdeal) (hPre_finite_sample := hPre_finite_sample)
    ∧ quiescent_GlaSampleRefIdeal (hGlaSampleRefIdeal := hGlaSampleRefIdeal)
    ∧ quiescent_GlaSampleRefIdeal_pre_finite_sample (hGlaSampleRefIdeal := hGlaSampleRefIdeal) (hPre_finite_sample := hPre_finite_sample)
    ∧ quiescent_HgrnSample (hHgrnSample := hHgrnSample)
    ∧ quiescent_HgrnSampleIdeal (hHgrnSampleIdeal := hHgrnSampleIdeal)
    ∧ quiescent_HgrnSampleIdeal_pre_bounded_sample (hHgrnSampleIdeal := hHgrnSampleIdeal) (hPre_bounded_sample := hPre_bounded_sample)
    ∧ quiescent_HgrnSampleRefIdeal (hHgrnSampleRefIdeal := hHgrnSampleRefIdeal)
    ∧ quiescent_HgrnSampleRefIdeal_pre_bounded_sample (hHgrnSampleRefIdeal := hHgrnSampleRefIdeal) (hPre_bounded_sample := hPre_bounded_sample)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_LastSample (hLastSample := hLastSample)
    ∧ quiescent_LastSampleIdeal (hLastSampleIdeal := hLastSampleIdeal)
    ∧ quiescent_LastSampleRefIdeal (hLastSampleRefIdeal := hLastSampleRefIdeal)
    ∧ quiescent_EvenInSample (hEvenInSample := hEvenInSample)
    ∧ quiescent_EvenInSampleIdeal (hEvenInSampleIdeal := hEvenInSampleIdeal)
    ∧ quiescent_EvenInSampleRefIdeal (hEvenInSampleRefIdeal := hEvenInSampleRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_OddInSample (hOddInSample := hOddInSample)
    ∧ quiescent_OddInSampleIdeal (hOddInSampleIdeal := hOddInSampleIdeal)
    ∧ quiescent_OddInSampleRefIdeal (hOddInSampleRefIdeal := hOddInSampleRefIdeal)
    ∧ quiescent_EvenOutSample (hEvenOutSample := hEvenOutSample)
    ∧ quiescent_EvenOutSampleIdeal (hEvenOutSampleIdeal := hEvenOutSampleIdeal)
    ∧ quiescent_EvenOutSampleRefIdeal (hEvenOutSampleRefIdeal := hEvenOutSampleRefIdeal)
    ∧ quiescent_OddOutSample (hOddOutSample := hOddOutSample)
    ∧ quiescent_OddOutSampleIdeal (hOddOutSampleIdeal := hOddOutSampleIdeal)
    ∧ quiescent_OddOutSampleRefIdeal (hOddOutSampleRefIdeal := hOddOutSampleRefIdeal)
    ∧ quiescent_MobaCombine (hMobaCombine := hMobaCombine)
    ∧ quiescent_MobaCombineIdeal (hMobaCombineIdeal := hMobaCombineIdeal)
    ∧ quiescent_MobaCombineRefIdeal (hMobaCombineRefIdeal := hMobaCombineRefIdeal)
    ∧ preserves_Gla_GlaIdeal
    ∧ algebraic_GlaIdeal_GlaRefIdeal_pre_finite (hGlaIdeal := hGlaIdeal) (hGlaRefIdeal := hGlaRefIdeal) (hPre_finite := hPre_finite)
    ∧ preserves_Hgrn_HgrnIdeal
    ∧ algebraic_HgrnIdeal_HgrnRefIdeal_pre_bounded (hHgrnIdeal := hHgrnIdeal) (hHgrnRefIdeal := hHgrnRefIdeal) (hPre_bounded := hPre_bounded)
    ∧ preserves_GlaSample_GlaSampleIdeal
    ∧ algebraic_GlaSampleIdeal_GlaSampleRefIdeal_pre_finite_sample (hGlaSampleIdeal := hGlaSampleIdeal) (hGlaSampleRefIdeal := hGlaSampleRefIdeal) (hPre_finite_sample := hPre_finite_sample)
    ∧ preserves_HgrnSample_HgrnSampleIdeal
    ∧ algebraic_HgrnSampleIdeal_HgrnSampleRefIdeal_pre_bounded_sample (hHgrnSampleIdeal := hHgrnSampleIdeal) (hHgrnSampleRefIdeal := hHgrnSampleRefIdeal) (hPre_bounded_sample := hPre_bounded_sample)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_LastSample_LastSampleIdeal
    ∧ algebraic_LastSampleIdeal_LastSampleRefIdeal (hLastSampleIdeal := hLastSampleIdeal) (hLastSampleRefIdeal := hLastSampleRefIdeal)
    ∧ preserves_EvenInSample_EvenInSampleIdeal
    ∧ algebraic_EvenInSampleIdeal_EvenInSampleRefIdeal (hEvenInSampleIdeal := hEvenInSampleIdeal) (hEvenInSampleRefIdeal := hEvenInSampleRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_OddInSample_OddInSampleIdeal
    ∧ algebraic_OddInSampleIdeal_OddInSampleRefIdeal (hOddInSampleIdeal := hOddInSampleIdeal) (hOddInSampleRefIdeal := hOddInSampleRefIdeal)
    ∧ preserves_EvenOutSample_EvenOutSampleIdeal
    ∧ algebraic_EvenOutSampleIdeal_EvenOutSampleRefIdeal (hEvenOutSampleIdeal := hEvenOutSampleIdeal) (hEvenOutSampleRefIdeal := hEvenOutSampleRefIdeal)
    ∧ preserves_OddOutSample_OddOutSampleIdeal
    ∧ algebraic_OddOutSampleIdeal_OddOutSampleRefIdeal (hOddOutSampleIdeal := hOddOutSampleIdeal) (hOddOutSampleRefIdeal := hOddOutSampleRefIdeal)
    ∧ preserves_MobaCombine_MobaCombineIdeal
    ∧ algebraic_MobaCombineIdeal_MobaCombineRefIdeal (hMobaCombineIdeal := hMobaCombineIdeal) (hMobaCombineRefIdeal := hMobaCombineRefIdeal)
-- ==== Pre_bounded.lean ====
abbrev S8192x7168 : Shape := ⟨2, ![8192, 7168]⟩
abbrev S1024 : Shape := ⟨1, ![1024]⟩
abbrev S128 : Shape := ⟨1, ![128]⟩
abbrev S2x8x128x128 : Shape := ⟨4, ![2, 8, 128, 128]⟩
abbrev S_ : Shape := ⟨0, ![]⟩

class Facts : Prop where
  bcast_S_S8192x7168 : S_.BroadcastsInDim S8192x7168 (![] : Fin 0 → Fin S8192x7168.rank)
  bcast_S_S1024 : S_.BroadcastsInDim S1024 (![] : Fin 0 → Fin S1024.rank)
  bcast_S_S2x8x128x128 : S_.BroadcastsInDim S2x8x128x128 (![] : Fin 0 → Fin S2x8x128x128.rank)

variable [Facts]

def fn {F : FTy → Type} [FloatOps F] (main_arg0 : FVec F S8192x7168 .f32) (main_arg1 : FVec F S1024 .f32) (main_arg2 : FVec F S128 .f32) (main_arg3 : FVec F S2x8x128x128 .f32) : IVec S8192x7168 1 × IVec S1024 1 × IVec S1024 1 × IVec S2x8x128x128 1 :=
  let main_v0 : FVec F S8192x7168 .f32 := Host.absf main_arg0
  let main_cst : FVec F S_ .f32 := constant S_ .f32 0x7F800000#32
  let main_v1 : FVec F S8192x7168 .f32 := broadcastInDim S8192x7168 ![] bcast_S_S8192x7168 main_cst
  let main_v2 : IVec S8192x7168 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_cst_1 : FVec F S_ .f32 := constant S_ .f32 0x00000000#32
  let main_v6 : FVec F S1024 .f32 := broadcastInDim S1024 ![] bcast_S_S1024 main_cst_1
  let main_v7 : IVec S1024 1 := cmpf .oge main_arg1 main_v6
  let main_v8 : FVec F S2x8x128x128 .f32 := Host.absf main_arg3
  let main_cst_2 : FVec F S_ .f32 := constant S_ .f32 0x7F800000#32
  let main_v9 : FVec F S2x8x128x128 .f32 := broadcastInDim S2x8x128x128 ![] bcast_S_S2x8x128x128 main_cst_2
  let main_v10 : IVec S2x8x128x128 1 := cmpf .olt main_v8 main_v9
  (main_v2, main_v5, main_v7, main_v10)
-- ==== Pre_bounded_sample.lean ====
abbrev S64x7168 : Shape := ⟨2, ![64, 7168]⟩
abbrev S1024 : Shape := ⟨1, ![1024]⟩
abbrev S128 : Shape := ⟨1, ![128]⟩
abbrev S8x8x128x128 : Shape := ⟨4, ![8, 8, 128, 128]⟩
abbrev S_ : Shape := ⟨0, ![]⟩

class Facts : Prop where
  bcast_S_S64x7168 : S_.BroadcastsInDim S64x7168 (![] : Fin 0 → Fin S64x7168.rank)
  bcast_S_S1024 : S_.BroadcastsInDim S1024 (![] : Fin 0 → Fin S1024.rank)
  bcast_S_S8x8x128x128 : S_.BroadcastsInDim S8x8x128x128 (![] : Fin 0 → Fin S8x8x128x128.rank)

variable [Facts]

def fn {F : FTy → Type} [FloatOps F] (main_arg0 : FVec F S64x7168 .f32) (main_arg1 : FVec F S1024 .f32) (main_arg2 : FVec F S128 .f32) (main_arg3 : FVec F S8x8x128x128 .f32) : IVec S64x7168 1 × IVec S1024 1 × IVec S1024 1 × IVec S8x8x128x128 1 :=
  let main_v0 : FVec F S64x7168 .f32 := Host.absf main_arg0
  let main_cst : FVec F S_ .f32 := constant S_ .f32 0x7F800000#32
  let main_v1 : FVec F S64x7168 .f32 := broadcastInDim S64x7168 ![] bcast_S_S64x7168 main_cst
  let main_v2 : IVec S64x7168 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_cst_1 : FVec F S_ .f32 := constant S_ .f32 0x00000000#32
  let main_v6 : FVec F S1024 .f32 := broadcastInDim S1024 ![] bcast_S_S1024 main_cst_1
  let main_v7 : IVec S1024 1 := cmpf .oge main_arg1 main_v6
  let main_v8 : FVec F S8x8x128x128 .f32 := Host.absf main_arg3
  let main_cst_2 : FVec F S_ .f32 := constant S_ .f32 0x7F800000#32
  let main_v9 : FVec F S8x8x128x128 .f32 := broadcastInDim S8x8x128x128 ![] bcast_S_S8x8x128x128 main_cst_2
  let main_v10 : IVec S8x8x128x128 1 := cmpf .olt main_v8 main_v9
  (main_v2, main_v5, main_v7, main_v10)
-- ==== Pre_finite.lean ====
abbrev S8192x6272 : Shape := ⟨2, ![8192, 6272]⟩
abbrev S16x1024 : Shape := ⟨2, ![16, 1024]⟩
abbrev S1024 : Shape := ⟨1, ![1024]⟩
abbrev S512 : Shape := ⟨1, ![512]⟩
abbrev S2x4x256x512 : Shape := ⟨4, ![2, 4, 256, 512]⟩
abbrev S_ : Shape := ⟨0, ![]⟩

class Facts : Prop where
  bcast_S_S8192x6272 : S_.BroadcastsInDim S8192x6272 (![] : Fin 0 → Fin S8192x6272.rank)
  bcast_S_S16x1024 : S_.BroadcastsInDim S16x1024 (![] : Fin 0 → Fin S16x1024.rank)
  bcast_S_S1024 : S_.BroadcastsInDim S1024 (![] : Fin 0 → Fin S1024.rank)
  bcast_S_S2x4x256x512 : S_.BroadcastsInDim S2x4x256x512 (![] : Fin 0 → Fin S2x4x256x512.rank)

variable [Facts]

def fn {F : FTy → Type} [FloatOps F] (main_arg0 : FVec F S8192x6272 .f32) (main_arg1 : FVec F S16x1024 .f32) (main_arg2 : FVec F S1024 .f32) (main_arg3 : FVec F S512 .f32) (main_arg4 : FVec F S2x4x256x512 .f32) : IVec S8192x6272 1 × IVec S16x1024 1 × IVec S1024 1 × IVec S2x4x256x512 1 :=
  let main_v0 : FVec F S8192x6272 .f32 := Host.absf main_arg0
  let main_cst : FVec F S_ .f32 := constant S_ .f32 0x7F800000#32
  let main_v1 : FVec F S8192x6272 .f32 := broadcastInDim S8192x6272 ![] bcast_S_S8192x6272 main_cst
  let main_v2 : IVec S8192x6272 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2x4x256x512 .f32 := Host.absf main_arg4
  let main_cst_2 : FVec F S_ .f32 := constant S_ .f32 0x7F800000#32
  let main_v10 : FVec F S2x4x256x512 .f32 := broadcastInDim S2x4x256x512 ![] bcast_S_S2x4x256x512 main_cst_2
  let main_v11 : IVec S2x4x256x512 1 := cmpf .olt main_v9 main_v10
  (main_v2, main_v5, main_v8, main_v11)
-- ==== Pre_finite_sample.lean ====
abbrev S64x6272 : Shape := ⟨2, ![64, 6272]⟩
abbrev S16x1024 : Shape := ⟨2, ![16, 1024]⟩
abbrev S1024 : Shape := ⟨1, ![1024]⟩
abbrev S512 : Shape := ⟨1, ![512]⟩
abbrev S8x4x256x512 : Shape := ⟨4, ![8, 4, 256, 512]⟩
abbrev S_ : Shape := ⟨0, ![]⟩

class Facts : Prop where
  bcast_S_S64x6272 : S_.BroadcastsInDim S64x6272 (![] : Fin 0 → Fin S64x6272.rank)
  bcast_S_S16x1024 : S_.BroadcastsInDim S16x1024 (![] : Fin 0 → Fin S16x1024.rank)
  bcast_S_S1024 : S_.BroadcastsInDim S1024 (![] : Fin 0 → Fin S1024.rank)
  bcast_S_S8x4x256x512 : S_.BroadcastsInDim S8x4x256x512 (![] : Fin 0 → Fin S8x4x256x512.rank)

variable [Facts]

def fn {F : FTy → Type} [FloatOps F] (main_arg0 : FVec F S64x6272 .f32) (main_arg1 : FVec F S16x1024 .f32) (main_arg2 : FVec F S1024 .f32) (main_arg3 : FVec F S512 .f32) (main_arg4 : FVec F S8x4x256x512 .f32) : IVec S64x6272 1 × IVec S16x1024 1 × IVec S1024 1 × IVec S8x4x256x512 1 :=
  let main_v0 : FVec F S64x6272 .f32 := Host.absf main_arg0
  let main_cst : FVec F S_ .f32 := constant S_ .f32 0x7F800000#32
  let main_v1 : FVec F S64x6272 .f32 := broadcastInDim S64x6272 ![] bcast_S_S64x6272 main_cst
  let main_v2 : IVec S64x6272 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8x4x256x512 .f32 := Host.absf main_arg4
  let main_cst_2 : FVec F S_ .f32 := constant S_ .f32 0x7F800000#32
  let main_v10 : FVec F S8x4x256x512 .f32 := broadcastInDim S8x4x256x512 ![] bcast_S_S8x4x256x512 main_cst_2
  let main_v11 : IVec S8x4x256x512 1 := cmpf .olt main_v9 main_v10
  (main_v2, main_v5, main_v8, main_v11)
-- ==== Gla.lean ====
abbrev S8192x6272 : Shape := ⟨2, ![8192, 6272]⟩
abbrev S16x1024 : Shape := ⟨2, ![16, 1024]⟩
abbrev S1024 : Shape := ⟨1, ![1024]⟩
abbrev S512 : Shape := ⟨1, ![512]⟩
abbrev S2x4x256x512 : Shape := ⟨4, ![2, 4, 256, 512]⟩
abbrev S_ : Shape := ⟨0, ![]⟩
abbrev S128x1024 : Shape := ⟨2, ![128, 1024]⟩
abbrev S1920x128 : Shape := ⟨2, ![1920, 128]⟩
abbrev S128x128 : Shape := ⟨2, ![128, 128]⟩
abbrev S1x1024 : Shape := ⟨2, ![1, 1024]⟩
abbrev S1x512 : Shape := ⟨2, ![1, 512]⟩
abbrev S8192x2048 : Shape := ⟨2, ![8192, 2048]⟩
abbrev S128x256 : Shape := ⟨2, ![128, 256]⟩
abbrev S128x512 : Shape := ⟨2, ![128, 512]⟩
abbrev S1x256 : Shape := ⟨2, ![1, 256]⟩
abbrev S1x1x256x512 : Shape := ⟨4, ![1, 1, 256, 512]⟩
abbrev S512x256 : Shape := ⟨2, ![512, 256]⟩
abbrev S256x512 : Shape := ⟨2, ![256, 512]⟩
abbrev S1920x256 : Shape := ⟨2, ![1920, 256]⟩
abbrev S128 : Shape := ⟨1, ![128]⟩
abbrev S128x1 : Shape := ⟨2, ![128, 1]⟩

abbrev nBuf : Space → Nat
  | .hbm => 81
  | .vmem => 24
  | .smem => 0
  | _ => 0

abbrev bufTy : (tb : Table) → Fin (tcTables nBuf tb) → BufTy
  | .hbm, ⟨0, _⟩ => ⟨S8192x6272, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S2x4x256x512, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S128x1024, .bf16⟩
  | .hbm, ⟨9, _⟩ => ⟨S1920x128, .i32⟩
  | .hbm, ⟨10, _⟩ => ⟨S1920x128, .i32⟩
  | .hbm, ⟨11, _⟩ => ⟨S_, .i32⟩
  | .hbm, ⟨12, _⟩ => ⟨S1920x128, .i32⟩
  | .hbm, ⟨13, _⟩ => ⟨S1920x128, .i32⟩
  | .hbm, ⟨14, _⟩ => ⟨S_, .i32⟩
  | .hbm, ⟨15, _⟩ => ⟨S1920x128, .i32⟩
  | .hbm, ⟨16, _⟩ => ⟨S1920x128, .i32⟩
  | .hbm, ⟨17, _⟩ => ⟨S_, .i32⟩
  | .hbm, ⟨18, _⟩ => ⟨S1920x128, .i32⟩
  | .hbm, ⟨19, _⟩ => ⟨S1920x128, .i1⟩
  | .hbm, ⟨20, _⟩ => ⟨S_, .i32⟩
  | .hbm, ⟨21, _⟩ => ⟨S1920x128, .i32⟩
  | .hbm, ⟨22, _⟩ => ⟨S1920x128, .i32⟩
  | .hbm, ⟨23, _⟩ => ⟨S_, .i32⟩
  | .hbm, ⟨24, _⟩ => ⟨S1920x128, .i32⟩
  | .hbm, ⟨25, _⟩ => ⟨S1920x128, .i32⟩
  | .hbm, ⟨26, _⟩ => ⟨S1920x128, .i32⟩
  | .hbm, ⟨27, _⟩ => ⟨S_, .i32⟩
  | .hbm, ⟨28, _⟩ => ⟨S1920x128, .i32⟩
  | .hbm, ⟨29, _⟩ => ⟨S1920x128, .i32⟩
  | .hbm, ⟨30, _⟩ => ⟨S_, .i32⟩
  | .hbm, ⟨31, _⟩ => ⟨S1920x128, .i32⟩
  | .hbm, ⟨32, _⟩ => ⟨S1920x128, .i32⟩
  | .hbm, ⟨33, _⟩ => ⟨S1920x128, .i32⟩
  | .hbm, ⟨34, _⟩ => ⟨S1920x128, .i32⟩
  | .hbm, ⟨35, _⟩ => ⟨S_, .i32⟩
  | .hbm, ⟨36, _⟩ => ⟨S1920x128, .i32⟩
  | .hbm, ⟨37, _⟩ => ⟨S1920x128, .i1⟩
  | .hbm, ⟨38, _⟩ => ⟨S_, .i32⟩
  | .hbm, ⟨39, _⟩ => ⟨S1920x128, .i32⟩
  | .hbm, ⟨40, _⟩ => ⟨S1920x128, .i1⟩
  | .hbm, ⟨41, _⟩ => ⟨S_, .i32⟩
  | .hbm, ⟨42, _⟩ => ⟨S1920x128, .i32⟩
  | .hbm, ⟨43, _⟩ => ⟨S1920x128, .i32⟩
  | .hbm, ⟨44, _⟩ => ⟨S1920x128, .i32⟩
  | .hbm, ⟨45, _⟩ => ⟨S_, .i32⟩
  | .hbm, ⟨46, _⟩ => ⟨S_, .i32⟩
  | .hbm, ⟨47, _⟩ => ⟨S1920x128, .i32⟩
  | .hbm, ⟨48, _⟩ => ⟨S1920x128, .i32⟩
  | .hbm, ⟨49, _⟩ => ⟨S_, .i32⟩
  | .hbm, ⟨50, _⟩ => ⟨S1920x128, .i32⟩
  | .hbm, ⟨51, _⟩ => ⟨S1920x128, .i1⟩
  | .hbm, ⟨52, _⟩ => ⟨S_, .i32⟩
  | .hbm, ⟨53, _⟩ => ⟨S1920x128, .i32⟩
  | .hbm, ⟨54, _⟩ => ⟨S1920x128, .i32⟩
  | .hbm, ⟨55, _⟩ => ⟨S1920x128, .i32⟩
  | .hbm, ⟨56, _⟩ => ⟨S1920x128, .i1⟩
  | .hbm, ⟨57, _⟩ => ⟨S1920x128, .i1⟩
  | .hbm, ⟨58, _⟩ => ⟨S1920x128, .i1⟩
  | .hbm, ⟨59, _⟩ => ⟨S_, .f32⟩
  | .hbm, ⟨60, _⟩ => ⟨S_, .f32⟩
  | .hbm, ⟨61, _⟩ => ⟨S1920x128, .f32⟩
  | .hbm, ⟨62, _⟩ => ⟨S1920x128, .f32⟩
  | .hbm, ⟨63, _⟩ => ⟨S1920x128, .f32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S128x128, .i32⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S_, .i32⟩
  | .hbm, ⟨73, _⟩ => ⟨S_, .i32⟩
  | .hbm, ⟨74, _⟩ => ⟨S128x128, .i32⟩
  | .hbm, ⟨75, _⟩ => ⟨S128x128, .i32⟩
  | .hbm, ⟨76, _⟩ => ⟨S1920x128, .bf16⟩
  | .hbm, ⟨77, _⟩ => ⟨S1x1024, .f32⟩
  | .hbm, ⟨78, _⟩ => ⟨S1x512, .f32⟩
  | .hbm, ⟨79, _⟩ => ⟨S8192x2048, .f32⟩
  | .hbm, ⟨80, _⟩ => ⟨S2x4x256x512, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x256, .bf16⟩
  | .local _ .vmem, ⟨11, _⟩ => ⟨S128x256, .bf16⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S1x1x256x512, .f32⟩
  | .local _ .vmem, ⟨16, _⟩ => ⟨S1x1x256x512, .f32⟩
  | .local _ .vmem, ⟨17, _⟩ => ⟨S1920x128, .bf16⟩
  | .local _ .vmem, ⟨18, _⟩ => ⟨S128x128, .i32⟩
  | .local _ .vmem, ⟨19, _⟩ => ⟨S128x512, .f32⟩
  | .local _ .vmem, ⟨20, _⟩ => ⟨S128x512, .f32⟩
  | .local _ .vmem, ⟨21, _⟩ => ⟨S1x1x256x512, .f32⟩
  | .local _ .vmem, ⟨22, _⟩ => ⟨S1x1x256x512, .f32⟩
  | .local _ .vmem, ⟨23, _⟩ => ⟨S512x256, .f32⟩
  | _, _ => ⟨S8192x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_c_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_v22 : Ref sig .tc := ⟨.hbm, 37, rfl⟩
abbrev main_c_8 : Ref sig .tc := ⟨.hbm, 38, rfl⟩
abbrev main_v23 : Ref sig .tc := ⟨.hbm, 39, rfl⟩
abbrev main_v24 : Ref sig .tc := ⟨.hbm, 40, rfl⟩
abbrev main_c_9 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_10 : Ref sig .tc := ⟨.hbm, 45, rfl⟩
abbrev main_call3_v0 : Ref sig .tc := ⟨.hbm, 46, rfl⟩
abbrev main_call3_v1 : Ref sig .tc := ⟨.hbm, 47, rfl⟩
abbrev main_v28 : Ref sig .tc := ⟨.hbm, 48, rfl⟩
abbrev main_c_11 : Ref sig .tc := ⟨.hbm, 49, rfl⟩
abbrev main_v29 : Ref sig .tc := ⟨.hbm, 50, rfl⟩
abbrev main_v30 : Ref sig .tc := ⟨.hbm, 51, rfl⟩
abbrev main_c_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst : Ref sig .tc := ⟨.hbm, 59, rfl⟩
abbrev main_cst_13 : Ref sig .tc := ⟨.hbm, 60, rfl⟩
abbrev main_call5_v0 : Ref sig .tc := ⟨.hbm, 61, rfl⟩
abbrev main_call5_v1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_14 : Ref sig .tc := ⟨.hbm, 69, rfl⟩
abbrev main_v43 : Ref sig .tc := ⟨.hbm, 70, rfl⟩
abbrev main_v44 : Ref sig .tc := ⟨.hbm, 71, rfl⟩
abbrev main_c_15 : Ref sig .tc := ⟨.hbm, 72, rfl⟩
abbrev main_call6_v0 : Ref sig .tc := ⟨.hbm, 73, rfl⟩
abbrev main_call6_v1 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49_0 : Ref sig .tc := ⟨.hbm, 79, rfl⟩
abbrev main_v49_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨3, ![2, 4, 32], ![false, false, false]⟩

def k0_cond2 (i : grid0.Coords) : BitVec 1 :=
  let arg2 : BitVec 32 := BitVec.ofNat 32 (i 2).val
  let c31_i32 : BitVec 32 := 31#32
  let v199 : BitVec 1 := Scalar.cmpi .eq arg2 c31_i32
  let v200 : BitVec 32 := Scalar.extui v199
  let c0_i32_59 : BitVec 32 := 0#32
  let v201 : BitVec 1 := Scalar.cmpi .ne v200 c0_i32_59
  v201

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c48_i32 : BitVec 32 := 48#32
  let c0_i32 : BitVec 32 := 0#32
  ![v1.toNat, c48_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1920x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S128x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== GlaRefIdeal.lean ====
abbrev S8192x6272 : Shape := ⟨2, ![8192, 6272]⟩
abbrev S16x1024 : Shape := ⟨2, ![16, 1024]⟩
abbrev S1024 : Shape := ⟨1, ![1024]⟩
abbrev S512 : Shape := ⟨1, ![512]⟩
abbrev S2x4x256x512 : Shape := ⟨4, ![2, 4, 256, 512]⟩
abbrev S8192x1024 : Shape := ⟨2, ![8192, 1024]⟩
abbrev S8192x2048 : Shape := ⟨2, ![8192, 2048]⟩
abbrev S8192x16 : Shape := ⟨2, ![8192, 16]⟩
abbrev S1x1024 : Shape := ⟨2, ![1, 1024]⟩
abbrev S_ : Shape := ⟨0, ![]⟩
abbrev S2x4096x4x256 : Shape := ⟨4, ![2, 4096, 4, 256]⟩
abbrev S4096x2x4x256 : Shape := ⟨4, ![4096, 2, 4, 256]⟩
abbrev S2x4096x4x512 : Shape := ⟨4, ![2, 4096, 4, 512]⟩
abbrev S4096x2x4x512 : Shape := ⟨4, ![4096, 2, 4, 512]⟩
abbrev S1x2x4x256 : Shape := ⟨4, ![1, 2, 4, 256]⟩
abbrev S2x4x256 : Shape := ⟨3, ![2, 4, 256]⟩
abbrev S1x2x4x512 : Shape := ⟨4, ![1, 2, 4, 512]⟩
abbrev S2x4x512 : Shape := ⟨3, ![2, 4, 512]⟩
abbrev S2x4x256x1 : Shape := ⟨4, ![2, 4, 256, 1]⟩
abbrev S2x4x1x512 : Shape := ⟨4, ![2, 4, 1, 512]⟩
abbrev S2x4096x4 : Shape := ⟨3, ![2, 4096, 4]⟩
abbrev S2x4096x4x1 : Shape := ⟨4, ![2, 4096, 4, 1]⟩
abbrev S1x1x1x512 : Shape := ⟨4, ![1, 1, 1, 512]⟩

abbrev nBuf : Space → Nat
  | .hbm => 123
  | .vmem => 0
  | .smem => 0
  | _ => 0

abbrev bufTy : (tb : Table) → Fin (tcTables nBuf tb) → BufTy
  | .hbm, ⟨0, _⟩ => ⟨S8192x6272, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S2x4x256x512, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x16, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .i1⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S2x4096x4x256, .f32⟩
  | .hbm, ⟨36, _⟩ => ⟨S4096x2x4x256, .f32⟩
  | .hbm, ⟨37, _⟩ => ⟨S2x4096x4x256, .f32⟩
  | .hbm, ⟨38, _⟩ => ⟨S4096x2x4x256, .f32⟩
  | .hbm, ⟨39, _⟩ => ⟨S2x4096x4x512, .f32⟩
  | .hbm, ⟨40, _⟩ => ⟨S4096x2x4x512, .f32⟩
  | .hbm, ⟨41, _⟩ => ⟨S2x4096x4x256, .f32⟩
  | .hbm, ⟨42, _⟩ => ⟨S4096x2x4x256, .f32⟩
  | .hbm, ⟨43, _⟩ => ⟨S_, .f32⟩
  | .hbm, ⟨44, _⟩ => ⟨S4096x2x4x512, .f32⟩
  | .hbm, ⟨45, _⟩ => ⟨S_, .i32⟩
  | .hbm, ⟨46, _⟩ => ⟨S4096x2x4x256, .f32⟩
  | .hbm, ⟨47, _⟩ => ⟨S4096x2x4x256, .f32⟩
  | .hbm, ⟨48, _⟩ => ⟨S4096x2x4x512, .f32⟩
  | .hbm, ⟨49, _⟩ => ⟨S4096x2x4x256, .f32⟩
  | .hbm, ⟨50, _⟩ => ⟨S_, .i32⟩
  | .hbm, ⟨51, _⟩ => ⟨S2x4x256x512, .f32⟩
  | .hbm, ⟨52, _⟩ => ⟨S4096x2x4x512, .f32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x2x4x256, .f32⟩
  | .hbm, ⟨59, _⟩ => ⟨S2x4x256, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x2x4x256, .f32⟩
  | .hbm, ⟨64, _⟩ => ⟨S2x4x256, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x2x4x512, .f32⟩
  | .hbm, ⟨69, _⟩ => ⟨S2x4x512, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x2x4x256, .f32⟩
  | .hbm, ⟨74, _⟩ => ⟨S2x4x256, .f32⟩
  | .hbm, ⟨75, _⟩ => ⟨S2x4x256, .f32⟩
  | .hbm, ⟨76, _⟩ => ⟨S2x4x256x1, .f32⟩
  | .hbm, ⟨77, _⟩ => ⟨S2x4x256x512, .f32⟩
  | .hbm, ⟨78, _⟩ => ⟨S2x4x256x512, .f32⟩
  | .hbm, ⟨79, _⟩ => ⟨S2x4x256x1, .f32⟩
  | .hbm, ⟨80, _⟩ => ⟨S2x4x1x512, .f32⟩
  | .hbm, ⟨81, _⟩ => ⟨S2x4x256x512, .f32⟩
  | .hbm, ⟨82, _⟩ => ⟨S2x4x256x512, .f32⟩
  | .hbm, ⟨83, _⟩ => ⟨S2x4x256x512, .f32⟩
  | .hbm, ⟨84, _⟩ => ⟨S2x4x256x512, .f32⟩
  | .hbm, ⟨85, _⟩ => ⟨S2x4x512, .f32⟩
  | .hbm, ⟨86, _⟩ => ⟨S1x2x4x512, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S4096x2x4x512, .f32⟩
  | .hbm, ⟨91, _⟩ => ⟨S_, .i32⟩
  | .hbm, ⟨92, _⟩ => ⟨S_, .i32⟩
  | .hbm, ⟨93, _⟩ => ⟨S2x4096x4x512, .f32⟩
  | .hbm, ⟨94, _⟩ => ⟨S2x4096x4x512, .f32⟩
  | .hbm, ⟨95, _⟩ => ⟨S_, .f32⟩
  | .hbm, ⟨96, _⟩ => ⟨S2x4096x4, .f32⟩
  | .hbm, ⟨97, _⟩ => ⟨S2x4096x4x1, .f32⟩
  | .hbm, ⟨98, _⟩ => ⟨S_, .f32⟩
  | .hbm, ⟨99, _⟩ => ⟨S2x4096x4x1, .f32⟩
  | .hbm, ⟨100, _⟩ => ⟨S2x4096x4x1, .f32⟩
  | .hbm, ⟨101, _⟩ => ⟨S_, .f32⟩
  | .hbm, ⟨102, _⟩ => ⟨S2x4096x4x1, .f32⟩
  | .hbm, ⟨103, _⟩ => ⟨S2x4096x4x1, .f32⟩
  | .hbm, ⟨104, _⟩ => ⟨S2x4096x4x1, .f32⟩
  | .hbm, ⟨105, _⟩ => ⟨S2x4096x4x512, .f32⟩
  | .hbm, ⟨106, _⟩ => ⟨S2x4096x4x512, .f32⟩
  | .hbm, ⟨107, _⟩ => ⟨S1x1x1x512, .f32⟩
  | .hbm, ⟨108, _⟩ => ⟨S2x4096x4x512, .f32⟩
  | .hbm, ⟨109, _⟩ => ⟨S2x4096x4x512, .f32⟩
  | .hbm, ⟨110, _⟩ => ⟨S8192x2048, .f32⟩
  | .hbm, ⟨111, _⟩ => ⟨S2x4096x4x512, .f32⟩
  | .hbm, ⟨112, _⟩ => ⟨S2x4096x4x512, .f32⟩
  | .hbm, ⟨113, _⟩ => ⟨S2x4096x4x512, .f32⟩
  | .hbm, ⟨114, _⟩ => ⟨S_, .f32⟩
  | .hbm, ⟨115, _⟩ => ⟨S2x4096x4x512, .f32⟩
  | .hbm, ⟨116, _⟩ => ⟨S2x4096x4x512, .f32⟩
  | .hbm, ⟨117, _⟩ => ⟨S_, .f32⟩
  | .hbm, ⟨118, _⟩ => ⟨S2x4096x4x512, .f32⟩
  | .hbm, ⟨119, _⟩ => ⟨S2x4096x4x512, .f32⟩
  | .hbm, ⟨120, _⟩ => ⟨S2x4096x4x512, .f32⟩
  | .hbm, ⟨121, _⟩ => ⟨S2x4096x4x512, .f32⟩
  | .hbm, ⟨122, _⟩ => ⟨S8192x2048, .f32⟩
  | _, _ => ⟨S8192x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_c : Ref sig .tc := ⟨.hbm, 45, rfl⟩
abbrev main_v22_0 : Ref sig .tc := ⟨.hbm, 46, rfl⟩
abbrev main_v22_1 : Ref sig .tc := ⟨.hbm, 47, rfl⟩
abbrev main_v22_2 : Ref sig .tc := ⟨.hbm, 48, rfl⟩
abbrev main_v22_3 : Ref sig .tc := ⟨.hbm, 49, rfl⟩
abbrev main_v22_4 : Ref sig .tc := ⟨.hbm, 50, rfl⟩
abbrev main_v22_5 : Ref sig .tc := ⟨.hbm, 51, rfl⟩
abbrev main_v22_6 : Ref sig .tc := ⟨.hbm, 52, rfl⟩
abbrev main_while0c_c_11 : Ref sig .tc := ⟨.hbm, 53, rfl⟩
abbrev main_while0c_v42 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_v0 : Ref sig .tc := ⟨.hbm, 58, rfl⟩
abbrev main_while0b_v42 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_v0 : Ref sig .tc := ⟨.hbm, 63, rfl⟩
abbrev main_while0b_v43 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_v0 : Ref sig .tc := ⟨.hbm, 68, rfl⟩
abbrev main_while0b_v44 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_call4_c_1 : Ref sig .tc := ⟨.hbm, 72, rfl⟩
abbrev main_while0b_call4_v0 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_v52 : Ref sig .tc := ⟨.hbm, 81, rfl⟩
abbrev main_while0b_v53 : Ref sig .tc := ⟨.hbm, 82, rfl⟩
abbrev main_while0b_v54 : Ref sig .tc := ⟨.hbm, 83, rfl⟩
abbrev main_while0b_v55 : Ref sig .tc := ⟨.hbm, 84, rfl⟩
abbrev main_while0b_v56 : Ref sig .tc := ⟨.hbm, 85, rfl⟩
abbrev main_while0b_call5_v0 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_v57 : Ref sig .tc := ⟨.hbm, 90, rfl⟩
abbrev main_while0b_c_11 : Ref sig .tc := ⟨.hbm, 91, rfl⟩
abbrev main_while0b_v58 : Ref sig .tc := ⟨.hbm, 92, rfl⟩
abbrev main_v23 : Ref sig .tc := ⟨.hbm, 93, rfl⟩
abbrev main_v24 : Ref sig .tc := ⟨.hbm, 94, rfl⟩
abbrev main_cst_2 : Ref sig .tc := ⟨.hbm, 95, rfl⟩
abbrev main_v25 : Ref sig .tc := ⟨.hbm, 96, rfl⟩
abbrev main_v26 : Ref sig .tc := ⟨.hbm, 97, rfl⟩
abbrev main_cst_3 : Ref sig .tc := ⟨.hbm, 98, rfl⟩
abbrev main_v27 : Ref sig .tc := ⟨.hbm, 99, rfl⟩
abbrev main_v28 : Ref sig .tc := ⟨.hbm, 100, rfl⟩
abbrev main_cst_4 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_call6_v0 : Ref sig .tc := ⟨.hbm, 112, rfl⟩
abbrev main_call6_v1 : Ref sig .tc := ⟨.hbm, 113, rfl⟩
abbrev main_call6_cst : Ref sig .tc := ⟨.hbm, 114, rfl⟩
abbrev main_call6_v2 : Ref sig .tc := ⟨.hbm, 115, rfl⟩
abbrev main_call6_v3 : Ref sig .tc := ⟨.hbm, 116, rfl⟩
abbrev main_call6_cst_0 : Ref sig .tc := ⟨.hbm, 117, rfl⟩
abbrev main_call6_v4 : Ref sig .tc := ⟨.hbm, 118, rfl⟩
abbrev main_call6_v5 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩

abbrev nD : Nat := 1
abbrev τ : Topo := Topo.v7x

variable {F : FTy → Type} [FloatOps F]

abbrev main_while0_count : Scf.Loop 32 := ⟨0#32, 4096#32, 1#32⟩
-- ==== Hgrn.lean ====
abbrev S8192x7168 : Shape := ⟨2, ![8192, 7168]⟩
abbrev S1024 : Shape := ⟨1, ![1024]⟩
abbrev S128 : Shape := ⟨1, ![128]⟩
abbrev S2x8x128x128 : Shape := ⟨4, ![2, 8, 128, 128]⟩
abbrev S1920x128 : Shape := ⟨2, ![1920, 128]⟩
abbrev S_ : Shape := ⟨0, ![]⟩
abbrev S128x128 : Shape := ⟨2, ![128, 128]⟩
abbrev S1x1024 : Shape := ⟨2, ![1, 1024]⟩
abbrev S1x128 : Shape := ⟨2, ![1, 128]⟩
abbrev S8192x1024 : Shape := ⟨2, ![8192, 1024]⟩
abbrev S1x1x128x128 : Shape := ⟨4, ![1, 1, 128, 128]⟩
abbrev S128x1 : Shape := ⟨2, ![128, 1]⟩

abbrev nBuf : Space → Nat
  | .hbm => 76
  | .vmem => 20
  | .smem => 0
  | _ => 0

abbrev bufTy : (tb : Table) → Fin (tcTables nBuf tb) → BufTy
  | .hbm, ⟨0, _⟩ => ⟨S8192x7168, .f32⟩
  | .hbm, ⟨1, _⟩ => ⟨S1024, .f32⟩
  | .hbm, ⟨2, _⟩ => ⟨S128, .f32⟩
  | .hbm, ⟨3, _⟩ => ⟨S2x8x128x128, .f32⟩
  | .hbm, ⟨4, _⟩ => ⟨S1920x128, .i32⟩
  | .hbm, ⟨5, _⟩ => ⟨S1920x128, .i32⟩
  | .hbm, ⟨6, _⟩ => ⟨S_, .i32⟩
  | .hbm, ⟨7, _⟩ => ⟨S1920x128, .i32⟩
  | .hbm, ⟨8, _⟩ => ⟨S1920x128, .i32⟩
  | .hbm, ⟨9, _⟩ => ⟨S_, .i32⟩
  | .hbm, ⟨10, _⟩ => ⟨S1920x128, .i32⟩
  | .hbm, ⟨11, _⟩ => ⟨S1920x128, .i32⟩
  | .hbm, ⟨12, _⟩ => ⟨S_, .i32⟩
  | .hbm, ⟨13, _⟩ => ⟨S1920x128, .i32⟩
  | .hbm, ⟨14, _⟩ => ⟨S1920x128, .i1⟩
  | .hbm, ⟨15, _⟩ => ⟨S_, .i32⟩
  | .hbm, ⟨16, _⟩ => ⟨S1920x128, .i32⟩
  | .hbm, ⟨17, _⟩ => ⟨S1920x128, .i32⟩
  | .hbm, ⟨18, _⟩ => ⟨S_, .i32⟩
  | .hbm, ⟨19, _⟩ => ⟨S1920x128, .i32⟩
  | .hbm, ⟨20, _⟩ => ⟨S1920x128, .i32⟩
  | .hbm, ⟨21, _⟩ => ⟨S1920x128, .i32⟩
  | .hbm, ⟨22, _⟩ => ⟨S_, .i32⟩
  | .hbm, ⟨23, _⟩ => ⟨S1920x128, .i32⟩
  | .hbm, ⟨24, _⟩ => ⟨S1920x128, .i32⟩
  | .hbm, ⟨25, _⟩ => ⟨S_, .i32⟩
  | .hbm, ⟨26, _⟩ => ⟨S1920x128, .i32⟩
  | .hbm, ⟨27, _⟩ => ⟨S1920x128, .i32⟩
  | .hbm, ⟨28, _⟩ => ⟨S1920x128, .i32⟩
  | .hbm, ⟨29, _⟩ => ⟨S1920x128, .i32⟩
  | .hbm, ⟨30, _⟩ => ⟨S_, .i32⟩
  | .hbm, ⟨31, _⟩ => ⟨S1920x128, .i32⟩
  | .hbm, ⟨32, _⟩ => ⟨S1920x128, .i1⟩
  | .hbm, ⟨33, _⟩ => ⟨S_, .i32⟩
  | .hbm, ⟨34, _⟩ => ⟨S1920x128, .i32⟩
  | .hbm, ⟨35, _⟩ => ⟨S1920x128, .i1⟩
  | .hbm, ⟨36, _⟩ => ⟨S_, .i32⟩
  | .hbm, ⟨37, _⟩ => ⟨S1920x128, .i32⟩
  | .hbm, ⟨38, _⟩ => ⟨S1920x128, .i32⟩
  | .hbm, ⟨39, _⟩ => ⟨S1920x128, .i32⟩
  | .hbm, ⟨40, _⟩ => ⟨S_, .i32⟩
  | .hbm, ⟨41, _⟩ => ⟨S_, .i32⟩
  | .hbm, ⟨42, _⟩ => ⟨S1920x128, .i32⟩
  | .hbm, ⟨43, _⟩ => ⟨S1920x128, .i32⟩
  | .hbm, ⟨44, _⟩ => ⟨S_, .i32⟩
  | .hbm, ⟨45, _⟩ => ⟨S1920x128, .i32⟩
  | .hbm, ⟨46, _⟩ => ⟨S1920x128, .i1⟩
  | .hbm, ⟨47, _⟩ => ⟨S_, .i32⟩
  | .hbm, ⟨48, _⟩ => ⟨S1920x128, .i32⟩
  | .hbm, ⟨49, _⟩ => ⟨S1920x128, .i32⟩
  | .hbm, ⟨50, _⟩ => ⟨S1920x128, .i32⟩
  | .hbm, ⟨51, _⟩ => ⟨S1920x128, .i1⟩
  | .hbm, ⟨52, _⟩ => ⟨S1920x128, .i1⟩
  | .hbm, ⟨53, _⟩ => ⟨S1920x128, .i1⟩
  | .hbm, ⟨54, _⟩ => ⟨S_, .f32⟩
  | .hbm, ⟨55, _⟩ => ⟨S_, .f32⟩
  | .hbm, ⟨56, _⟩ => ⟨S1920x128, .f32⟩
  | .hbm, ⟨57, _⟩ => ⟨S1920x128, .f32⟩
  | .hbm, ⟨58, _⟩ => ⟨S1920x128, .f32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S128x128, .i32⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S_, .i32⟩
  | .hbm, ⟨68, _⟩ => ⟨S_, .i32⟩
  | .hbm, ⟨69, _⟩ => ⟨S128x128, .i32⟩
  | .hbm, ⟨70, _⟩ => ⟨S128x128, .i32⟩
  | .hbm, ⟨71, _⟩ => ⟨S1920x128, .bf16⟩
  | .hbm, ⟨72, _⟩ => ⟨S1x1024, .f32⟩
  | .hbm, ⟨73, _⟩ => ⟨S1x128, .f32⟩
  | .hbm, ⟨74, _⟩ => ⟨S8192x1024, .f32⟩
  | .hbm, ⟨75, _⟩ => ⟨S2x8x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1x128x128, .f32⟩
  | .local _ .vmem, ⟨12, _⟩ => ⟨S1x1x128x128, .f32⟩
  | .local _ .vmem, ⟨13, _⟩ => ⟨S1920x128, .bf16⟩
  | .local _ .vmem, ⟨14, _⟩ => ⟨S128x128, .i32⟩
  | .local _ .vmem, ⟨15, _⟩ => ⟨S128x128, .f32⟩
  | .local _ .vmem, ⟨16, _⟩ => ⟨S128x128, .f32⟩
  | .local _ .vmem, ⟨17, _⟩ => ⟨S1x1x128x128, .f32⟩
  | .local _ .vmem, ⟨18, _⟩ => ⟨S1x1x128x128, .f32⟩
  | .local _ .vmem, ⟨19, _⟩ => ⟨S128x128, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_9 : Ref sig .tc := ⟨.hbm, 40, rfl⟩
abbrev main_call2_v0 : Ref sig .tc := ⟨.hbm, 41, rfl⟩
abbrev main_call2_v1 : Ref sig .tc := ⟨.hbm, 42, rfl⟩
abbrev main_v26 : Ref sig .tc := ⟨.hbm, 43, rfl⟩
abbrev main_c_10 : Ref sig .tc := ⟨.hbm, 44, rfl⟩
abbrev main_v27 : Ref sig .tc := ⟨.hbm, 45, rfl⟩
abbrev main_v28 : Ref sig .tc := ⟨.hbm, 46, rfl⟩
abbrev main_c_11 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_cst_12 : Ref sig .tc := ⟨.hbm, 55, rfl⟩
abbrev main_call4_v0 : Ref sig .tc := ⟨.hbm, 56, rfl⟩
abbrev main_call4_v1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_13 : Ref sig .tc := ⟨.hbm, 64, rfl⟩
abbrev main_v41 : Ref sig .tc := ⟨.hbm, 65, rfl⟩
abbrev main_v42 : Ref sig .tc := ⟨.hbm, 66, rfl⟩
abbrev main_c_14 : Ref sig .tc := ⟨.hbm, 67, rfl⟩
abbrev main_call5_v0 : Ref sig .tc := ⟨.hbm, 68, rfl⟩
abbrev main_call5_v1 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47_0 : Ref sig .tc := ⟨.hbm, 74, rfl⟩
abbrev main_v47_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![2, 8, 32], ![false, false, false]⟩

def k0_cond2 (i : grid0.Coords) : BitVec 1 :=
  let arg2 : BitVec 32 := BitVec.ofNat 32 (i 2).val
  let c31_i32 : BitVec 32 := 31#32
  let v188 : BitVec 1 := Scalar.cmpi .eq arg2 c31_i32
  let v189 : BitVec 32 := Scalar.extui v188
  let c0_i32_50 : BitVec 32 := 0#32
  let v190 : BitVec 1 := Scalar.cmpi .ne v189 c0_i32_50
  v190

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1920x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== HgrnRefIdeal.lean ====
abbrev S8192x7168 : Shape := ⟨2, ![8192, 7168]⟩
abbrev S1024 : Shape := ⟨1, ![1024]⟩
abbrev S128 : Shape := ⟨1, ![128]⟩
abbrev S2x8x128x128 : Shape := ⟨4, ![2, 8, 128, 128]⟩
abbrev S8192x1024 : Shape := ⟨2, ![8192, 1024]⟩
abbrev S_ : Shape := ⟨0, ![]⟩
abbrev S1x1024 : Shape := ⟨2, ![1, 1024]⟩
abbrev S2x4096x8x128 : Shape := ⟨4, ![2, 4096, 8, 128]⟩
abbrev S4096x2x8x128 : Shape := ⟨4, ![4096, 2, 8, 128]⟩
abbrev S1x2x8x128 : Shape := ⟨4, ![1, 2, 8, 128]⟩
abbrev S2x8x128 : Shape := ⟨3, ![2, 8, 128]⟩
abbrev S2x8x128x1 : Shape := ⟨4, ![2, 8, 128, 1]⟩
abbrev S2x8x1x128 : Shape := ⟨4, ![2, 8, 1, 128]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩

abbrev nBuf : Space → Nat
  | .hbm => 128
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S1024, .f32⟩
  | .hbm, ⟨2, _⟩ => ⟨S128, .f32⟩
  | .hbm, ⟨3, _⟩ => ⟨S2x8x128x128, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S2x4096x8x128, .f32⟩
  | .hbm, ⟨41, _⟩ => ⟨S4096x2x8x128, .f32⟩
  | .hbm, ⟨42, _⟩ => ⟨S2x4096x8x128, .f32⟩
  | .hbm, ⟨43, _⟩ => ⟨S4096x2x8x128, .f32⟩
  | .hbm, ⟨44, _⟩ => ⟨S2x4096x8x128, .f32⟩
  | .hbm, ⟨45, _⟩ => ⟨S4096x2x8x128, .f32⟩
  | .hbm, ⟨46, _⟩ => ⟨S2x4096x8x128, .f32⟩
  | .hbm, ⟨47, _⟩ => ⟨S4096x2x8x128, .f32⟩
  | .hbm, ⟨48, _⟩ => ⟨S_, .f32⟩
  | .hbm, ⟨49, _⟩ => ⟨S4096x2x8x128, .f32⟩
  | .hbm, ⟨50, _⟩ => ⟨S_, .i32⟩
  | .hbm, ⟨51, _⟩ => ⟨S4096x2x8x128, .f32⟩
  | .hbm, ⟨52, _⟩ => ⟨S4096x2x8x128, .f32⟩
  | .hbm, ⟨53, _⟩ => ⟨S4096x2x8x128, .f32⟩
  | .hbm, ⟨54, _⟩ => ⟨S4096x2x8x128, .f32⟩
  | .hbm, ⟨55, _⟩ => ⟨S_, .i32⟩
  | .hbm, ⟨56, _⟩ => ⟨S2x8x128x128, .f32⟩
  | .hbm, ⟨57, _⟩ => ⟨S4096x2x8x128, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x2x8x128, .f32⟩
  | .hbm, ⟨64, _⟩ => ⟨S2x8x128, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x2x8x128, .f32⟩
  | .hbm, ⟨69, _⟩ => ⟨S2x8x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x2x8x128, .f32⟩
  | .hbm, ⟨74, _⟩ => ⟨S2x8x128, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1x2x8x128, .f32⟩
  | .hbm, ⟨79, _⟩ => ⟨S2x8x128, .f32⟩
  | .hbm, ⟨80, _⟩ => ⟨S2x8x128, .f32⟩
  | .hbm, ⟨81, _⟩ => ⟨S2x8x128x1, .f32⟩
  | .hbm, ⟨82, _⟩ => ⟨S2x8x128x128, .f32⟩
  | .hbm, ⟨83, _⟩ => ⟨S2x8x128x128, .f32⟩
  | .hbm, ⟨84, _⟩ => ⟨S2x8x128x1, .f32⟩
  | .hbm, ⟨85, _⟩ => ⟨S2x8x1x128, .f32⟩
  | .hbm, ⟨86, _⟩ => ⟨S2x8x128x128, .f32⟩
  | .hbm, ⟨87, _⟩ => ⟨S2x8x128x128, .f32⟩
  | .hbm, ⟨88, _⟩ => ⟨S2x8x128x128, .f32⟩
  | .hbm, ⟨89, _⟩ => ⟨S2x8x128x128, .f32⟩
  | .hbm, ⟨90, _⟩ => ⟨S2x8x128, .f32⟩
  | .hbm, ⟨91, _⟩ => ⟨S1x2x8x128, .f32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S4096x2x8x128, .f32⟩
  | .hbm, ⟨96, _⟩ => ⟨S_, .i32⟩
  | .hbm, ⟨97, _⟩ => ⟨S_, .i32⟩
  | .hbm, ⟨98, _⟩ => ⟨S2x4096x8x128, .f32⟩
  | .hbm, ⟨99, _⟩ => ⟨S2x4096x8x128, .f32⟩
  | .hbm, ⟨100, _⟩ => ⟨S_, .f32⟩
  | .hbm, ⟨101, _⟩ => ⟨S2x4096x8, .f32⟩
  | .hbm, ⟨102, _⟩ => ⟨S2x4096x8x1, .f32⟩
  | .hbm, ⟨103, _⟩ => ⟨S_, .f32⟩
  | .hbm, ⟨104, _⟩ => ⟨S2x4096x8x1, .f32⟩
  | .hbm, ⟨105, _⟩ => ⟨S2x4096x8x1, .f32⟩
  | .hbm, ⟨106, _⟩ => ⟨S_, .f32⟩
  | .hbm, ⟨107, _⟩ => ⟨S2x4096x8x1, .f32⟩
  | .hbm, ⟨108, _⟩ => ⟨S2x4096x8x1, .f32⟩
  | .hbm, ⟨109, _⟩ => ⟨S2x4096x8x1, .f32⟩
  | .hbm, ⟨110, _⟩ => ⟨S2x4096x8x128, .f32⟩
  | .hbm, ⟨111, _⟩ => ⟨S2x4096x8x128, .f32⟩
  | .hbm, ⟨112, _⟩ => ⟨S1x1x1x128, .f32⟩
  | .hbm, ⟨113, _⟩ => ⟨S2x4096x8x128, .f32⟩
  | .hbm, ⟨114, _⟩ => ⟨S2x4096x8x128, .f32⟩
  | .hbm, ⟨115, _⟩ => ⟨S8192x1024, .f32⟩
  | .hbm, ⟨116, _⟩ => ⟨S2x4096x8x128, .f32⟩
  | .hbm, ⟨117, _⟩ => ⟨S2x4096x8x128, .f32⟩
  | .hbm, ⟨118, _⟩ => ⟨S2x4096x8x128, .f32⟩
  | .hbm, ⟨119, _⟩ => ⟨S_, .f32⟩
  | .hbm, ⟨120, _⟩ => ⟨S2x4096x8x128, .f32⟩
  | .hbm, ⟨121, _⟩ => ⟨S2x4096x8x128, .f32⟩
  | .hbm, ⟨122, _⟩ => ⟨S_, .f32⟩
  | .hbm, ⟨123, _⟩ => ⟨S2x4096x8x128, .f32⟩
  | .hbm, ⟨124, _⟩ => ⟨S2x4096x8x128, .f32⟩
  | .hbm, ⟨125, _⟩ => ⟨S2x4096x8x128, .f32⟩
  | .hbm, ⟨126, _⟩ => ⟨S2x4096x8x128, .f32⟩
  | .hbm, ⟨127, _⟩ => ⟨S8192x1024, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_c : Ref sig .tc := ⟨.hbm, 50, rfl⟩
abbrev main_v32_0 : Ref sig .tc := ⟨.hbm, 51, rfl⟩
abbrev main_v32_1 : Ref sig .tc := ⟨.hbm, 52, rfl⟩
abbrev main_v32_2 : Ref sig .tc := ⟨.hbm, 53, rfl⟩
abbrev main_v32_3 : Ref sig .tc := ⟨.hbm, 54, rfl⟩
abbrev main_v32_4 : Ref sig .tc := ⟨.hbm, 55, rfl⟩
abbrev main_v32_5 : Ref sig .tc := ⟨.hbm, 56, rfl⟩
abbrev main_v32_6 : Ref sig .tc := ⟨.hbm, 57, rfl⟩
abbrev main_while0c_c_14 : Ref sig .tc := ⟨.hbm, 58, rfl⟩
abbrev main_while0c_v52 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_v0 : Ref sig .tc := ⟨.hbm, 63, rfl⟩
abbrev main_while0b_v52 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_v0 : Ref sig .tc := ⟨.hbm, 68, rfl⟩
abbrev main_while0b_v53 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_v0 : Ref sig .tc := ⟨.hbm, 73, rfl⟩
abbrev main_while0b_v54 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_c_1 : Ref sig .tc := ⟨.hbm, 77, rfl⟩
abbrev main_while0b_call4_v0 : Ref sig .tc := ⟨.hbm, 78, rfl⟩
abbrev main_while0b_v55 : Ref sig .tc := ⟨.hbm, 79, rfl⟩
abbrev main_while0b_v56 : Ref sig .tc := ⟨.hbm, 80, rfl⟩
abbrev main_while0b_v57 : Ref sig .tc := ⟨.hbm, 81, rfl⟩
abbrev main_while0b_v58 : Ref sig .tc := ⟨.hbm, 82, rfl⟩
abbrev main_while0b_v59 : Ref sig .tc := ⟨.hbm, 83, rfl⟩
abbrev main_while0b_v60 : Ref sig .tc := ⟨.hbm, 84, rfl⟩
abbrev main_while0b_v61 : Ref sig .tc := ⟨.hbm, 85, rfl⟩
abbrev main_while0b_v62 : Ref sig .tc := ⟨.hbm, 86, rfl⟩
abbrev main_while0b_v63 : Ref sig .tc := ⟨.hbm, 87, rfl⟩
abbrev main_while0b_v64 : Ref sig .tc := ⟨.hbm, 88, rfl⟩
abbrev main_while0b_v65 : Ref sig .tc := ⟨.hbm, 89, rfl⟩
abbrev main_while0b_v66 : Ref sig .tc := ⟨.hbm, 90, rfl⟩
abbrev main_while0b_call5_v0 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_v67 : Ref sig .tc := ⟨.hbm, 95, rfl⟩
abbrev main_while0b_c_14 : Ref sig .tc := ⟨.hbm, 96, rfl⟩
abbrev main_while0b_v68 : Ref sig .tc := ⟨.hbm, 97, rfl⟩
abbrev main_v33 : Ref sig .tc := ⟨.hbm, 98, rfl⟩
abbrev main_v34 : Ref sig .tc := ⟨.hbm, 99, rfl⟩
abbrev main_cst_5 : Ref sig .tc := ⟨.hbm, 100, rfl⟩
abbrev main_v35 : Ref sig .tc := ⟨.hbm, 101, rfl⟩
abbrev main_v36 : Ref sig .tc := ⟨.hbm, 102, rfl⟩
abbrev main_cst_6 : Ref sig .tc := ⟨.hbm, 103, rfl⟩
abbrev main_v37 : Ref sig .tc := ⟨.hbm, 104, rfl⟩
abbrev main_v38 : Ref sig .tc := ⟨.hbm, 105, rfl⟩
abbrev main_cst_7 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_call6_v0 : Ref sig .tc := ⟨.hbm, 117, rfl⟩
abbrev main_call6_v1 : Ref sig .tc := ⟨.hbm, 118, rfl⟩
abbrev main_call6_cst : Ref sig .tc := ⟨.hbm, 119, rfl⟩
abbrev main_call6_v2 : Ref sig .tc := ⟨.hbm, 120, rfl⟩
abbrev main_call6_v3 : Ref sig .tc := ⟨.hbm, 121, rfl⟩
abbrev main_call6_cst_0 : Ref sig .tc := ⟨.hbm, 122, rfl⟩
abbrev main_call6_v4 : Ref sig .tc := ⟨.hbm, 123, rfl⟩
abbrev main_call6_v5 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩

abbrev nD : Nat := 1
abbrev τ : Topo := Topo.v7x

variable {F : FTy → Type} [FloatOps F]

abbrev main_while0_count : Scf.Loop 32 := ⟨0#32, 4096#32, 1#32⟩
-- ==== GlaSample.lean ====
abbrev S64x6272 : Shape := ⟨2, ![64, 6272]⟩
abbrev S16x1024 : Shape := ⟨2, ![16, 1024]⟩
abbrev S1024 : Shape := ⟨1, ![1024]⟩
abbrev S512 : Shape := ⟨1, ![512]⟩
abbrev S8x4x256x512 : Shape := ⟨4, ![8, 4, 256, 512]⟩
abbrev S_ : Shape := ⟨0, ![]⟩
abbrev S128x1024 : Shape := ⟨2, ![128, 1024]⟩
abbrev S8x8x6272 : Shape := ⟨3, ![8, 8, 6272]⟩
abbrev S8x128x6272 : Shape := ⟨3, ![8, 128, 6272]⟩
abbrev S1024x6272 : Shape := ⟨2, ![1024, 6272]⟩
abbrev S1920x128 : Shape := ⟨2, ![1920, 128]⟩
abbrev S128x128 : Shape := ⟨2, ![128, 128]⟩
abbrev S1x1024 : Shape := ⟨2, ![1, 1024]⟩
abbrev S1x512 : Shape := ⟨2, ![1, 512]⟩
abbrev S1024x2048 : Shape := ⟨2, ![1024, 2048]⟩
abbrev S128x256 : Shape := ⟨2, ![128, 256]⟩
abbrev S128x512 : Shape := ⟨2, ![128, 512]⟩
abbrev S1x256 : Shape := ⟨2, ![1, 256]⟩
abbrev S1x1x256x512 : Shape := ⟨4, ![1, 1, 256, 512]⟩
abbrev S512x256 : Shape := ⟨2, ![512, 256]⟩
abbrev S256x512 : Shape := ⟨2, ![256, 512]⟩
abbrev S1920x256 : Shape := ⟨2, ![1920, 256]⟩
abbrev S128 : Shape := ⟨1, ![128]⟩
abbrev S128x1 : Shape := ⟨2, ![128, 1]⟩

abbrev nBuf : Space → Nat
  | .hbm => 86
  | .vmem => 24
  | .smem => 0
  | _ => 0

abbrev bufTy : (tb : Table) → Fin (tcTables nBuf tb) → BufTy
  | .hbm, ⟨0, _⟩ => ⟨S64x6272, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S8x4x256x512, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S128x1024, .bf16⟩
  | .hbm, ⟨9, _⟩ => ⟨S8x8x6272, .f32⟩
  | .hbm, ⟨10, _⟩ => ⟨S_, .i32⟩
  | .hbm, ⟨11, _⟩ => ⟨S_, .f32⟩
  | .hbm, ⟨12, _⟩ => ⟨S8x128x6272, .f32⟩
  | .hbm, ⟨13, _⟩ => ⟨S1024x6272, .f32⟩
  | .hbm, ⟨14, _⟩ => ⟨S1920x128, .i32⟩
  | .hbm, ⟨15, _⟩ => ⟨S1920x128, .i32⟩
  | .hbm, ⟨16, _⟩ => ⟨S_, .i32⟩
  | .hbm, ⟨17, _⟩ => ⟨S1920x128, .i32⟩
  | .hbm, ⟨18, _⟩ => ⟨S1920x128, .i32⟩
  | .hbm, ⟨19, _⟩ => ⟨S_, .i32⟩
  | .hbm, ⟨20, _⟩ => ⟨S1920x128, .i32⟩
  | .hbm, ⟨21, _⟩ => ⟨S1920x128, .i32⟩
  | .hbm, ⟨22, _⟩ => ⟨S_, .i32⟩
  | .hbm, ⟨23, _⟩ => ⟨S1920x128, .i32⟩
  | .hbm, ⟨24, _⟩ => ⟨S1920x128, .i1⟩
  | .hbm, ⟨25, _⟩ => ⟨S_, .i32⟩
  | .hbm, ⟨26, _⟩ => ⟨S1920x128, .i32⟩
  | .hbm, ⟨27, _⟩ => ⟨S1920x128, .i32⟩
  | .hbm, ⟨28, _⟩ => ⟨S_, .i32⟩
  | .hbm, ⟨29, _⟩ => ⟨S1920x128, .i32⟩
  | .hbm, ⟨30, _⟩ => ⟨S1920x128, .i32⟩
  | .hbm, ⟨31, _⟩ => ⟨S1920x128, .i32⟩
  | .hbm, ⟨32, _⟩ => ⟨S_, .i32⟩
  | .hbm, ⟨33, _⟩ => ⟨S1920x128, .i32⟩
  | .hbm, ⟨34, _⟩ => ⟨S1920x128, .i32⟩
  | .hbm, ⟨35, _⟩ => ⟨S_, .i32⟩
  | .hbm, ⟨36, _⟩ => ⟨S1920x128, .i32⟩
  | .hbm, ⟨37, _⟩ => ⟨S1920x128, .i32⟩
  | .hbm, ⟨38, _⟩ => ⟨S1920x128, .i32⟩
  | .hbm, ⟨39, _⟩ => ⟨S1920x128, .i32⟩
  | .hbm, ⟨40, _⟩ => ⟨S_, .i32⟩
  | .hbm, ⟨41, _⟩ => ⟨S1920x128, .i32⟩
  | .hbm, ⟨42, _⟩ => ⟨S1920x128, .i1⟩
  | .hbm, ⟨43, _⟩ => ⟨S_, .i32⟩
  | .hbm, ⟨44, _⟩ => ⟨S1920x128, .i32⟩
  | .hbm, ⟨45, _⟩ => ⟨S1920x128, .i1⟩
  | .hbm, ⟨46, _⟩ => ⟨S_, .i32⟩
  | .hbm, ⟨47, _⟩ => ⟨S1920x128, .i32⟩
  | .hbm, ⟨48, _⟩ => ⟨S1920x128, .i32⟩
  | .hbm, ⟨49, _⟩ => ⟨S1920x128, .i32⟩
  | .hbm, ⟨50, _⟩ => ⟨S_, .i32⟩
  | .hbm, ⟨51, _⟩ => ⟨S_, .i32⟩
  | .hbm, ⟨52, _⟩ => ⟨S1920x128, .i32⟩
  | .hbm, ⟨53, _⟩ => ⟨S1920x128, .i32⟩
  | .hbm, ⟨54, _⟩ => ⟨S_, .i32⟩
  | .hbm, ⟨55, _⟩ => ⟨S1920x128, .i32⟩
  | .hbm, ⟨56, _⟩ => ⟨S1920x128, .i1⟩
  | .hbm, ⟨57, _⟩ => ⟨S_, .i32⟩
  | .hbm, ⟨58, _⟩ => ⟨S1920x128, .i32⟩
  | .hbm, ⟨59, _⟩ => ⟨S1920x128, .i32⟩
  | .hbm, ⟨60, _⟩ => ⟨S1920x128, .i32⟩
  | .hbm, ⟨61, _⟩ => ⟨S1920x128, .i1⟩
  | .hbm, ⟨62, _⟩ => ⟨S1920x128, .i1⟩
  | .hbm, ⟨63, _⟩ => ⟨S1920x128, .i1⟩
  | .hbm, ⟨64, _⟩ => ⟨S_, .f32⟩
  | .hbm, ⟨65, _⟩ => ⟨S_, .f32⟩
  | .hbm, ⟨66, _⟩ => ⟨S1920x128, .f32⟩
  | .hbm, ⟨67, _⟩ => ⟨S1920x128, .f32⟩
  | .hbm, ⟨68, _⟩ => ⟨S1920x128, .f32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S128x128, .i32⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S_, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S1920x128, .bf16⟩
  | .hbm, ⟨82, _⟩ => ⟨S1x1024, .f32⟩
  | .hbm, ⟨83, _⟩ => ⟨S1x512, .f32⟩
  | .hbm, ⟨84, _⟩ => ⟨S1024x2048, .f32⟩
  | .hbm, ⟨85, _⟩ => ⟨S8x4x256x512, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x256, .bf16⟩
  | .local _ .vmem, ⟨11, _⟩ => ⟨S128x256, .bf16⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S1x1x256x512, .f32⟩
  | .local _ .vmem, ⟨16, _⟩ => ⟨S1x1x256x512, .f32⟩
  | .local _ .vmem, ⟨17, _⟩ => ⟨S1920x128, .bf16⟩
  | .local _ .vmem, ⟨18, _⟩ => ⟨S128x128, .i32⟩
  | .local _ .vmem, ⟨19, _⟩ => ⟨S128x512, .f32⟩
  | .local _ .vmem, ⟨20, _⟩ => ⟨S128x512, .f32⟩
  | .local _ .vmem, ⟨21, _⟩ => ⟨S1x1x256x512, .f32⟩
  | .local _ .vmem, ⟨22, _⟩ => ⟨S1x1x256x512, .f32⟩
  | .local _ .vmem, ⟨23, _⟩ => ⟨S512x256, .f32⟩
  | _, _ => ⟨S64x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_6 : Ref sig .tc := ⟨.hbm, 32, rfl⟩
abbrev main_v18 : Ref sig .tc := ⟨.hbm, 33, rfl⟩
abbrev main_v19 : Ref sig .tc := ⟨.hbm, 34, rfl⟩
abbrev main_c_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_8 : Ref sig .tc := ⟨.hbm, 40, rfl⟩
abbrev main_v24 : Ref sig .tc := ⟨.hbm, 41, rfl⟩
abbrev main_v25 : Ref sig .tc := ⟨.hbm, 42, rfl⟩
abbrev main_c_9 : Ref sig .tc := ⟨.hbm, 43, rfl⟩
abbrev main_v26 : Ref sig .tc := ⟨.hbm, 44, rfl⟩
abbrev main_v27 : Ref sig .tc := ⟨.hbm, 45, rfl⟩
abbrev main_c_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_11 : Ref sig .tc := ⟨.hbm, 50, rfl⟩
abbrev main_call4_v0 : Ref sig .tc := ⟨.hbm, 51, rfl⟩
abbrev main_call4_v1 : Ref sig .tc := ⟨.hbm, 52, rfl⟩
abbrev main_v31 : Ref sig .tc := ⟨.hbm, 53, rfl⟩
abbrev main_c_12 : Ref sig .tc := ⟨.hbm, 54, rfl⟩
abbrev main_v32 : Ref sig .tc := ⟨.hbm, 55, rfl⟩
abbrev main_v33 : Ref sig .tc := ⟨.hbm, 56, rfl⟩
abbrev main_c_13 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst : Ref sig .tc := ⟨.hbm, 64, rfl⟩
abbrev main_cst_14 : Ref sig .tc := ⟨.hbm, 65, rfl⟩
abbrev main_call6_v0 : Ref sig .tc := ⟨.hbm, 66, rfl⟩
abbrev main_call6_v1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_15 : Ref sig .tc := ⟨.hbm, 74, rfl⟩
abbrev main_v46 : Ref sig .tc := ⟨.hbm, 75, rfl⟩
abbrev main_v47 : Ref sig .tc := ⟨.hbm, 76, rfl⟩
abbrev main_c_16 : Ref sig .tc := ⟨.hbm, 77, rfl⟩
abbrev main_call7_v0 : Ref sig .tc := ⟨.hbm, 78, rfl⟩
abbrev main_call7_v1 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52_0 : Ref sig .tc := ⟨.hbm, 84, rfl⟩
abbrev main_v52_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_61 : BitVec 32 := 0#32
  let v211 : BitVec 1 := Scalar.cmpi .eq arg2 c0_i32_61
  let v212 : BitVec 32 := Scalar.extui v211
  let c0_i32_62 : BitVec 32 := 0#32
  let v213 : BitVec 1 := Scalar.cmpi .ne v212 c0_i32_62
  v213

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c48_i32 : BitVec 32 := 48#32
  let c0_i32 : BitVec 32 := 0#32
  ![v1.toNat, c48_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1920x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S128x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== GlaSampleRefIdeal.lean ====
abbrev S64x6272 : Shape := ⟨2, ![64, 6272]⟩
abbrev S16x1024 : Shape := ⟨2, ![16, 1024]⟩
abbrev S1024 : Shape := ⟨1, ![1024]⟩
abbrev S512 : Shape := ⟨1, ![512]⟩
abbrev S8x4x256x512 : Shape := ⟨4, ![8, 4, 256, 512]⟩
abbrev S64x1024 : Shape := ⟨2, ![64, 1024]⟩
abbrev S64x2048 : Shape := ⟨2, ![64, 2048]⟩
abbrev S64x16 : Shape := ⟨2, ![64, 16]⟩
abbrev S1x1024 : Shape := ⟨2, ![1, 1024]⟩
abbrev S_ : Shape := ⟨0, ![]⟩
abbrev S8x8x4x256 : Shape := ⟨4, ![8, 8, 4, 256]⟩
abbrev S8x8x4x512 : Shape := ⟨4, ![8, 8, 4, 512]⟩
abbrev S1x8x4x256 : Shape := ⟨4, ![1, 8, 4, 256]⟩
abbrev S8x4x256 : Shape := ⟨3, ![8, 4, 256]⟩
abbrev S1x8x4x512 : Shape := ⟨4, ![1, 8, 4, 512]⟩
abbrev S8x4x512 : Shape := ⟨3, ![8, 4, 512]⟩
abbrev S8x4x256x1 : Shape := ⟨4, ![8, 4, 256, 1]⟩
abbrev S8x4x1x512 : Shape := ⟨4, ![8, 4, 1, 512]⟩
abbrev S8x8x4 : Shape := ⟨3, ![8, 8, 4]⟩
abbrev S8x8x4x1 : Shape := ⟨4, ![8, 8, 4, 1]⟩
abbrev S1x1x1x512 : Shape := ⟨4, ![1, 1, 1, 512]⟩
abbrev S8x8x2048 : Shape := ⟨3, ![8, 8, 2048]⟩
abbrev S8x128x2048 : Shape := ⟨3, ![8, 128, 2048]⟩
abbrev S1024x2048 : Shape := ⟨2, ![1024, 2048]⟩

abbrev nBuf : Space → Nat
  | .hbm => 128
  | .vmem => 0
  | .smem => 0
  | _ => 0

abbrev bufTy : (tb : Table) → Fin (tcTables nBuf tb) → BufTy
  | .hbm, ⟨0, _⟩ => ⟨S64x6272, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S8x4x256x512, .f32⟩
  | .hbm, ⟨5, _⟩ => ⟨S64x1024, .f32⟩
  | .hbm, ⟨6, _⟩ => ⟨S64x1024, .f32⟩
  | .hbm, ⟨7, _⟩ => ⟨S64x2048, .f32⟩
  | .hbm, ⟨8, _⟩ => ⟨S64x16, .f32⟩
  | .hbm, ⟨9, _⟩ => ⟨S64x1024, .f32⟩
  | .hbm, ⟨10, _⟩ => ⟨S1x1024, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S64x1024, .i1⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S64x1024, .f32⟩
  | .hbm, ⟨29, _⟩ => ⟨S_, .f32⟩
  | .hbm, ⟨30, _⟩ => ⟨S64x1024, .f32⟩
  | .hbm, ⟨31, _⟩ => ⟨S64x1024, .f32⟩
  | .hbm, ⟨32, _⟩ => ⟨S_, .f32⟩
  | .hbm, ⟨33, _⟩ => ⟨S64x1024, .f32⟩
  | .hbm, ⟨34, _⟩ => ⟨S64x1024, .f32⟩
  | .hbm, ⟨35, _⟩ => ⟨S8x8x4x256, .f32⟩
  | .hbm, ⟨36, _⟩ => ⟨S8x8x4x256, .f32⟩
  | .hbm, ⟨37, _⟩ => ⟨S8x8x4x256, .f32⟩
  | .hbm, ⟨38, _⟩ => ⟨S8x8x4x256, .f32⟩
  | .hbm, ⟨39, _⟩ => ⟨S8x8x4x512, .f32⟩
  | .hbm, ⟨40, _⟩ => ⟨S8x8x4x512, .f32⟩
  | .hbm, ⟨41, _⟩ => ⟨S8x8x4x256, .f32⟩
  | .hbm, ⟨42, _⟩ => ⟨S8x8x4x256, .f32⟩
  | .hbm, ⟨43, _⟩ => ⟨S_, .f32⟩
  | .hbm, ⟨44, _⟩ => ⟨S8x8x4x512, .f32⟩
  | .hbm, ⟨45, _⟩ => ⟨S_, .i32⟩
  | .hbm, ⟨46, _⟩ => ⟨S8x8x4x256, .f32⟩
  | .hbm, ⟨47, _⟩ => ⟨S8x8x4x256, .f32⟩
  | .hbm, ⟨48, _⟩ => ⟨S8x8x4x512, .f32⟩
  | .hbm, ⟨49, _⟩ => ⟨S8x8x4x256, .f32⟩
  | .hbm, ⟨50, _⟩ => ⟨S_, .i32⟩
  | .hbm, ⟨51, _⟩ => ⟨S8x4x256x512, .f32⟩
  | .hbm, ⟨52, _⟩ => ⟨S8x8x4x512, .f32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x8x4x256, .f32⟩
  | .hbm, ⟨59, _⟩ => ⟨S8x4x256, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x8x4x256, .f32⟩
  | .hbm, ⟨64, _⟩ => ⟨S8x4x256, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x8x4x512, .f32⟩
  | .hbm, ⟨69, _⟩ => ⟨S8x4x512, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x8x4x256, .f32⟩
  | .hbm, ⟨74, _⟩ => ⟨S8x4x256, .f32⟩
  | .hbm, ⟨75, _⟩ => ⟨S8x4x256, .f32⟩
  | .hbm, ⟨76, _⟩ => ⟨S8x4x256x1, .f32⟩
  | .hbm, ⟨77, _⟩ => ⟨S8x4x256x512, .f32⟩
  | .hbm, ⟨78, _⟩ => ⟨S8x4x256x512, .f32⟩
  | .hbm, ⟨79, _⟩ => ⟨S8x4x256x1, .f32⟩
  | .hbm, ⟨80, _⟩ => ⟨S8x4x1x512, .f32⟩
  | .hbm, ⟨81, _⟩ => ⟨S8x4x256x512, .f32⟩
  | .hbm, ⟨82, _⟩ => ⟨S8x4x256x512, .f32⟩
  | .hbm, ⟨83, _⟩ => ⟨S8x4x256x512, .f32⟩
  | .hbm, ⟨84, _⟩ => ⟨S8x4x256x512, .f32⟩
  | .hbm, ⟨85, _⟩ => ⟨S8x4x512, .f32⟩
  | .hbm, ⟨86, _⟩ => ⟨S1x8x4x512, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S8x8x4x512, .f32⟩
  | .hbm, ⟨91, _⟩ => ⟨S_, .i32⟩
  | .hbm, ⟨92, _⟩ => ⟨S_, .i32⟩
  | .hbm, ⟨93, _⟩ => ⟨S8x8x4x512, .f32⟩
  | .hbm, ⟨94, _⟩ => ⟨S8x8x4x512, .f32⟩
  | .hbm, ⟨95, _⟩ => ⟨S_, .f32⟩
  | .hbm, ⟨96, _⟩ => ⟨S8x8x4, .f32⟩
  | .hbm, ⟨97, _⟩ => ⟨S8x8x4x1, .f32⟩
  | .hbm, ⟨98, _⟩ => ⟨S_, .f32⟩
  | .hbm, ⟨99, _⟩ => ⟨S8x8x4x1, .f32⟩
  | .hbm, ⟨100, _⟩ => ⟨S8x8x4x1, .f32⟩
  | .hbm, ⟨101, _⟩ => ⟨S_, .f32⟩
  | .hbm, ⟨102, _⟩ => ⟨S8x8x4x1, .f32⟩
  | .hbm, ⟨103, _⟩ => ⟨S8x8x4x1, .f32⟩
  | .hbm, ⟨104, _⟩ => ⟨S8x8x4x1, .f32⟩
  | .hbm, ⟨105, _⟩ => ⟨S8x8x4x512, .f32⟩
  | .hbm, ⟨106, _⟩ => ⟨S8x8x4x512, .f32⟩
  | .hbm, ⟨107, _⟩ => ⟨S1x1x1x512, .f32⟩
  | .hbm, ⟨108, _⟩ => ⟨S8x8x4x512, .f32⟩
  | .hbm, ⟨109, _⟩ => ⟨S8x8x4x512, .f32⟩
  | .hbm, ⟨110, _⟩ => ⟨S64x2048, .f32⟩
  | .hbm, ⟨111, _⟩ => ⟨S8x8x4x512, .f32⟩
  | .hbm, ⟨112, _⟩ => ⟨S8x8x4x512, .f32⟩
  | .hbm, ⟨113, _⟩ => ⟨S8x8x4x512, .f32⟩
  | .hbm, ⟨114, _⟩ => ⟨S_, .f32⟩
  | .hbm, ⟨115, _⟩ => ⟨S8x8x4x512, .f32⟩
  | .hbm, ⟨116, _⟩ => ⟨S8x8x4x512, .f32⟩
  | .hbm, ⟨117, _⟩ => ⟨S_, .f32⟩
  | .hbm, ⟨118, _⟩ => ⟨S8x8x4x512, .f32⟩
  | .hbm, ⟨119, _⟩ => ⟨S8x8x4x512, .f32⟩
  | .hbm, ⟨120, _⟩ => ⟨S8x8x4x512, .f32⟩
  | .hbm, ⟨121, _⟩ => ⟨S8x8x4x512, .f32⟩
  | .hbm, ⟨122, _⟩ => ⟨S64x2048, .f32⟩
  | .hbm, ⟨123, _⟩ => ⟨S8x8x2048, .f32⟩
  | .hbm, ⟨124, _⟩ => ⟨S_, .i32⟩
  | .hbm, ⟨125, _⟩ => ⟨S_, .f32⟩
  | .hbm, ⟨126, _⟩ => ⟨S8x128x2048, .f32⟩
  | .hbm, ⟨127, _⟩ => ⟨S1024x2048, .f32⟩
  | _, _ => ⟨S64x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_c : Ref sig .tc := ⟨.hbm, 45, rfl⟩
abbrev main_v22_0 : Ref sig .tc := ⟨.hbm, 46, rfl⟩
abbrev main_v22_1 : Ref sig .tc := ⟨.hbm, 47, rfl⟩
abbrev main_v22_2 : Ref sig .tc := ⟨.hbm, 48, rfl⟩
abbrev main_v22_3 : Ref sig .tc := ⟨.hbm, 49, rfl⟩
abbrev main_v22_4 : Ref sig .tc := ⟨.hbm, 50, rfl⟩
abbrev main_v22_5 : Ref sig .tc := ⟨.hbm, 51, rfl⟩
abbrev main_v22_6 : Ref sig .tc := ⟨.hbm, 52, rfl⟩
abbrev main_while0c_c_12 : Ref sig .tc := ⟨.hbm, 53, rfl⟩
abbrev main_while0c_v45 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_v0 : Ref sig .tc := ⟨.hbm, 58, rfl⟩
abbrev main_while0b_v45 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_v0 : Ref sig .tc := ⟨.hbm, 63, rfl⟩
abbrev main_while0b_v46 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_v0 : Ref sig .tc := ⟨.hbm, 68, rfl⟩
abbrev main_while0b_v47 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_call4_c_1 : Ref sig .tc := ⟨.hbm, 72, rfl⟩
abbrev main_while0b_call4_v0 : Ref sig .tc := ⟨.hbm, 73, rfl⟩
abbrev main_while0b_v48 : Ref sig .tc := ⟨.hbm, 74, rfl⟩
abbrev main_while0b_v49 : Ref sig .tc := ⟨.hbm, 75, rfl⟩
abbrev main_while0b_v50 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_v56 : Ref sig .tc := ⟨.hbm, 82, rfl⟩
abbrev main_while0b_v57 : Ref sig .tc := ⟨.hbm, 83, rfl⟩
abbrev main_while0b_v58 : Ref sig .tc := ⟨.hbm, 84, rfl⟩
abbrev main_while0b_v59 : Ref sig .tc := ⟨.hbm, 85, rfl⟩
abbrev main_while0b_call5_v0 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_v60 : Ref sig .tc := ⟨.hbm, 90, rfl⟩
abbrev main_while0b_c_12 : Ref sig .tc := ⟨.hbm, 91, rfl⟩
abbrev main_while0b_v61 : Ref sig .tc := ⟨.hbm, 92, rfl⟩
abbrev main_v23 : Ref sig .tc := ⟨.hbm, 93, rfl⟩
abbrev main_v24 : Ref sig .tc := ⟨.hbm, 94, rfl⟩
abbrev main_cst_2 : Ref sig .tc := ⟨.hbm, 95, rfl⟩
abbrev main_v25 : Ref sig .tc := ⟨.hbm, 96, rfl⟩
abbrev main_v26 : Ref sig .tc := ⟨.hbm, 97, rfl⟩
abbrev main_cst_3 : Ref sig .tc := ⟨.hbm, 98, rfl⟩
abbrev main_v27 : Ref sig .tc := ⟨.hbm, 99, rfl⟩
abbrev main_v28 : Ref sig .tc := ⟨.hbm, 100, rfl⟩
abbrev main_cst_4 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_call6_v0 : Ref sig .tc := ⟨.hbm, 112, rfl⟩
abbrev main_call6_v1 : Ref sig .tc := ⟨.hbm, 113, rfl⟩
abbrev main_call6_cst : Ref sig .tc := ⟨.hbm, 114, rfl⟩
abbrev main_call6_v2 : Ref sig .tc := ⟨.hbm, 115, rfl⟩
abbrev main_call6_v3 : Ref sig .tc := ⟨.hbm, 116, rfl⟩
abbrev main_call6_cst_0 : Ref sig .tc := ⟨.hbm, 117, rfl⟩
abbrev main_call6_v4 : Ref sig .tc := ⟨.hbm, 118, rfl⟩
abbrev main_call6_v5 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_c_5 : Ref sig .tc := ⟨.hbm, 124, rfl⟩
abbrev main_call7_v0 : Ref sig .tc := ⟨.hbm, 125, rfl⟩
abbrev main_v43 : Ref sig .tc := ⟨.hbm, 126, rfl⟩
abbrev main_v44 : Ref sig .tc := ⟨.hbm, 127, rfl⟩

abbrev nD : Nat := 1
abbrev τ : Topo := Topo.v7x

variable {F : FTy → Type} [FloatOps F]

abbrev main_while0_count : Scf.Loop 32 := ⟨0#32, 8#32, 1#32⟩
-- ==== HgrnSample.lean ====
abbrev S64x7168 : Shape := ⟨2, ![64, 7168]⟩
abbrev S1024 : Shape := ⟨1, ![1024]⟩
abbrev S128 : Shape := ⟨1, ![128]⟩
abbrev S8x8x128x128 : Shape := ⟨4, ![8, 8, 128, 128]⟩
abbrev S64x4096 : Shape := ⟨2, ![64, 4096]⟩
abbrev S8x8x4096 : Shape := ⟨3, ![8, 8, 4096]⟩
abbrev S_ : Shape := ⟨0, ![]⟩
abbrev S8x128x4096 : Shape := ⟨3, ![8, 128, 4096]⟩
abbrev S1024x4096 : Shape := ⟨2, ![1024, 4096]⟩
abbrev S1920x128 : Shape := ⟨2, ![1920, 128]⟩
abbrev S128x128 : Shape := ⟨2, ![128, 128]⟩
abbrev S1x1024 : Shape := ⟨2, ![1, 1024]⟩
abbrev S1x128 : Shape := ⟨2, ![1, 128]⟩
abbrev S1024x1024 : Shape := ⟨2, ![1024, 1024]⟩
abbrev S1x1x128x128 : Shape := ⟨4, ![1, 1, 128, 128]⟩
abbrev S128x1 : Shape := ⟨2, ![128, 1]⟩

abbrev nBuf : Space → Nat
  | .hbm => 82
  | .vmem => 20
  | .smem => 0
  | _ => 0

abbrev bufTy : (tb : Table) → Fin (tcTables nBuf tb) → BufTy
  | .hbm, ⟨0, _⟩ => ⟨S64x7168, .f32⟩
  | .hbm, ⟨1, _⟩ => ⟨S1024, .f32⟩
  | .hbm, ⟨2, _⟩ => ⟨S128, .f32⟩
  | .hbm, ⟨3, _⟩ => ⟨S8x8x128x128, .f32⟩
  | .hbm, ⟨4, _⟩ => ⟨S64x4096, .f32⟩
  | .hbm, ⟨5, _⟩ => ⟨S8x8x4096, .f32⟩
  | .hbm, ⟨6, _⟩ => ⟨S_, .i32⟩
  | .hbm, ⟨7, _⟩ => ⟨S_, .f32⟩
  | .hbm, ⟨8, _⟩ => ⟨S8x128x4096, .f32⟩
  | .hbm, ⟨9, _⟩ => ⟨S1024x4096, .f32⟩
  | .hbm, ⟨10, _⟩ => ⟨S1920x128, .i32⟩
  | .hbm, ⟨11, _⟩ => ⟨S1920x128, .i32⟩
  | .hbm, ⟨12, _⟩ => ⟨S_, .i32⟩
  | .hbm, ⟨13, _⟩ => ⟨S1920x128, .i32⟩
  | .hbm, ⟨14, _⟩ => ⟨S1920x128, .i32⟩
  | .hbm, ⟨15, _⟩ => ⟨S_, .i32⟩
  | .hbm, ⟨16, _⟩ => ⟨S1920x128, .i32⟩
  | .hbm, ⟨17, _⟩ => ⟨S1920x128, .i32⟩
  | .hbm, ⟨18, _⟩ => ⟨S_, .i32⟩
  | .hbm, ⟨19, _⟩ => ⟨S1920x128, .i32⟩
  | .hbm, ⟨20, _⟩ => ⟨S1920x128, .i1⟩
  | .hbm, ⟨21, _⟩ => ⟨S_, .i32⟩
  | .hbm, ⟨22, _⟩ => ⟨S1920x128, .i32⟩
  | .hbm, ⟨23, _⟩ => ⟨S1920x128, .i32⟩
  | .hbm, ⟨24, _⟩ => ⟨S_, .i32⟩
  | .hbm, ⟨25, _⟩ => ⟨S1920x128, .i32⟩
  | .hbm, ⟨26, _⟩ => ⟨S1920x128, .i32⟩
  | .hbm, ⟨27, _⟩ => ⟨S1920x128, .i32⟩
  | .hbm, ⟨28, _⟩ => ⟨S_, .i32⟩
  | .hbm, ⟨29, _⟩ => ⟨S1920x128, .i32⟩
  | .hbm, ⟨30, _⟩ => ⟨S1920x128, .i32⟩
  | .hbm, ⟨31, _⟩ => ⟨S_, .i32⟩
  | .hbm, ⟨32, _⟩ => ⟨S1920x128, .i32⟩
  | .hbm, ⟨33, _⟩ => ⟨S1920x128, .i32⟩
  | .hbm, ⟨34, _⟩ => ⟨S1920x128, .i32⟩
  | .hbm, ⟨35, _⟩ => ⟨S1920x128, .i32⟩
  | .hbm, ⟨36, _⟩ => ⟨S_, .i32⟩
  | .hbm, ⟨37, _⟩ => ⟨S1920x128, .i32⟩
  | .hbm, ⟨38, _⟩ => ⟨S1920x128, .i1⟩
  | .hbm, ⟨39, _⟩ => ⟨S_, .i32⟩
  | .hbm, ⟨40, _⟩ => ⟨S1920x128, .i32⟩
  | .hbm, ⟨41, _⟩ => ⟨S1920x128, .i1⟩
  | .hbm, ⟨42, _⟩ => ⟨S_, .i32⟩
  | .hbm, ⟨43, _⟩ => ⟨S1920x128, .i32⟩
  | .hbm, ⟨44, _⟩ => ⟨S1920x128, .i32⟩
  | .hbm, ⟨45, _⟩ => ⟨S1920x128, .i32⟩
  | .hbm, ⟨46, _⟩ => ⟨S_, .i32⟩
  | .hbm, ⟨47, _⟩ => ⟨S_, .i32⟩
  | .hbm, ⟨48, _⟩ => ⟨S1920x128, .i32⟩
  | .hbm, ⟨49, _⟩ => ⟨S1920x128, .i32⟩
  | .hbm, ⟨50, _⟩ => ⟨S_, .i32⟩
  | .hbm, ⟨51, _⟩ => ⟨S1920x128, .i32⟩
  | .hbm, ⟨52, _⟩ => ⟨S1920x128, .i1⟩
  | .hbm, ⟨53, _⟩ => ⟨S_, .i32⟩
  | .hbm, ⟨54, _⟩ => ⟨S1920x128, .i32⟩
  | .hbm, ⟨55, _⟩ => ⟨S1920x128, .i32⟩
  | .hbm, ⟨56, _⟩ => ⟨S1920x128, .i32⟩
  | .hbm, ⟨57, _⟩ => ⟨S1920x128, .i1⟩
  | .hbm, ⟨58, _⟩ => ⟨S1920x128, .i1⟩
  | .hbm, ⟨59, _⟩ => ⟨S1920x128, .i1⟩
  | .hbm, ⟨60, _⟩ => ⟨S_, .f32⟩
  | .hbm, ⟨61, _⟩ => ⟨S_, .f32⟩
  | .hbm, ⟨62, _⟩ => ⟨S1920x128, .f32⟩
  | .hbm, ⟨63, _⟩ => ⟨S1920x128, .f32⟩
  | .hbm, ⟨64, _⟩ => ⟨S1920x128, .f32⟩
  | .hbm, ⟨65, _⟩ => ⟨S128x128, .i32⟩
  | .hbm, ⟨66, _⟩ => ⟨S128x128, .i32⟩
  | .hbm, ⟨67, _⟩ => ⟨S128x128, .i1⟩
  | .hbm, ⟨68, _⟩ => ⟨S128x128, .i32⟩
  | .hbm, ⟨69, _⟩ => ⟨S128x128, .i32⟩
  | .hbm, ⟨70, _⟩ => ⟨S_, .i32⟩
  | .hbm, ⟨71, _⟩ => ⟨S128x128, .i32⟩
  | .hbm, ⟨72, _⟩ => ⟨S128x128, .i32⟩
  | .hbm, ⟨73, _⟩ => ⟨S_, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S1920x128, .bf16⟩
  | .hbm, ⟨78, _⟩ => ⟨S1x1024, .f32⟩
  | .hbm, ⟨79, _⟩ => ⟨S1x128, .f32⟩
  | .hbm, ⟨80, _⟩ => ⟨S1024x1024, .f32⟩
  | .hbm, ⟨81, _⟩ => ⟨S8x8x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1x128x128, .f32⟩
  | .local _ .vmem, ⟨12, _⟩ => ⟨S1x1x128x128, .f32⟩
  | .local _ .vmem, ⟨13, _⟩ => ⟨S1920x128, .bf16⟩
  | .local _ .vmem, ⟨14, _⟩ => ⟨S128x128, .i32⟩
  | .local _ .vmem, ⟨15, _⟩ => ⟨S128x128, .f32⟩
  | .local _ .vmem, ⟨16, _⟩ => ⟨S128x128, .f32⟩
  | .local _ .vmem, ⟨17, _⟩ => ⟨S1x1x128x128, .f32⟩
  | .local _ .vmem, ⟨18, _⟩ => ⟨S1x1x128x128, .f32⟩
  | .local _ .vmem, ⟨19, _⟩ => ⟨S128x128, .f32⟩
  | _, _ => ⟨S64x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_c_8 : Ref sig .tc := ⟨.hbm, 39, rfl⟩
abbrev main_v25 : Ref sig .tc := ⟨.hbm, 40, rfl⟩
abbrev main_v26 : Ref sig .tc := ⟨.hbm, 41, rfl⟩
abbrev main_c_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_10 : Ref sig .tc := ⟨.hbm, 46, rfl⟩
abbrev main_call3_v0 : Ref sig .tc := ⟨.hbm, 47, rfl⟩
abbrev main_call3_v1 : Ref sig .tc := ⟨.hbm, 48, rfl⟩
abbrev main_v30 : Ref sig .tc := ⟨.hbm, 49, rfl⟩
abbrev main_c_11 : Ref sig .tc := ⟨.hbm, 50, rfl⟩
abbrev main_v31 : Ref sig .tc := ⟨.hbm, 51, rfl⟩
abbrev main_v32 : Ref sig .tc := ⟨.hbm, 52, rfl⟩
abbrev main_c_12 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst : Ref sig .tc := ⟨.hbm, 60, rfl⟩
abbrev main_cst_13 : Ref sig .tc := ⟨.hbm, 61, rfl⟩
abbrev main_call5_v0 : Ref sig .tc := ⟨.hbm, 62, rfl⟩
abbrev main_call5_v1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_14 : Ref sig .tc := ⟨.hbm, 70, rfl⟩
abbrev main_v45 : Ref sig .tc := ⟨.hbm, 71, rfl⟩
abbrev main_v46 : Ref sig .tc := ⟨.hbm, 72, rfl⟩
abbrev main_c_15 : Ref sig .tc := ⟨.hbm, 73, rfl⟩
abbrev main_call6_v0 : Ref sig .tc := ⟨.hbm, 74, rfl⟩
abbrev main_call6_v1 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51_0 : Ref sig .tc := ⟨.hbm, 80, rfl⟩
abbrev main_v51_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_52 : BitVec 32 := 0#32
  let v199 : BitVec 1 := Scalar.cmpi .eq arg2 c0_i32_52
  let v200 : BitVec 32 := Scalar.extui v199
  let c0_i32_53 : BitVec 32 := 0#32
  let v201 : BitVec 1 := Scalar.cmpi .ne v200 c0_i32_53
  v201

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1920x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== HgrnSampleRefIdeal.lean ====
abbrev S64x7168 : Shape := ⟨2, ![64, 7168]⟩
abbrev S1024 : Shape := ⟨1, ![1024]⟩
abbrev S128 : Shape := ⟨1, ![128]⟩
abbrev S8x8x128x128 : Shape := ⟨4, ![8, 8, 128, 128]⟩
abbrev S64x1024 : Shape := ⟨2, ![64, 1024]⟩
abbrev S_ : Shape := ⟨0, ![]⟩
abbrev S1x1024 : Shape := ⟨2, ![1, 1024]⟩
abbrev S8x8x8x128 : Shape := ⟨4, ![8, 8, 8, 128]⟩
abbrev S1x8x8x128 : Shape := ⟨4, ![1, 8, 8, 128]⟩
abbrev S8x8x128 : Shape := ⟨3, ![8, 8, 128]⟩
abbrev S8x8x128x1 : Shape := ⟨4, ![8, 8, 128, 1]⟩
abbrev S8x8x1x128 : Shape := ⟨4, ![8, 8, 1, 128]⟩
abbrev S8x8x8 : Shape := ⟨3, ![8, 8, 8]⟩
abbrev S8x8x8x1 : Shape := ⟨4, ![8, 8, 8, 1]⟩
abbrev S1x1x1x128 : Shape := ⟨4, ![1, 1, 1, 128]⟩
abbrev S8x8x1024 : Shape := ⟨3, ![8, 8, 1024]⟩
abbrev S8x128x1024 : Shape := ⟨3, ![8, 128, 1024]⟩
abbrev S1024x1024 : Shape := ⟨2, ![1024, 1024]⟩

abbrev nBuf : Space → Nat
  | .hbm => 133
  | .vmem => 0
  | .smem => 0
  | _ => 0

abbrev hbmTy0_0 (i : Nat) : BufTy := match i % 128 with
  | 0 => ⟨S64x7168, .f32⟩
  | 1 => ⟨S1024, .f32⟩
  | 2 => ⟨S128, .f32⟩
  | 3 => ⟨S8x8x128x128, .f32⟩
  | 4 => ⟨S64x1024, .f32⟩
  | 5 => ⟨S64x1024, .f32⟩
  | 6 => ⟨S64x1024, .f32⟩
  | 7 => ⟨S_, .f32⟩
  | 8 => ⟨S1024, .f32⟩
  | 9 => ⟨S1024, .f32⟩
  | 10 => ⟨S64x1024, .f32⟩
  | 11 => ⟨S64x1024, .f32⟩
  | 12 => ⟨S_, .f32⟩
  | 13 => ⟨S64x1024, .f32⟩
  | 14 => ⟨S64x1024, .f32⟩
  | 15 => ⟨S_, .f32⟩
  | 16 => ⟨S64x1024, .f32⟩
  | 17 => ⟨S64x1024, .f32⟩
  | 18 => ⟨S1x1024, .f32⟩
  | 19 => ⟨S64x1024, .f32⟩
  | 20 => ⟨S64x1024, .f32⟩
  | 21 => ⟨S1x1024, .f32⟩
  | 22 => ⟨S64x1024, .f32⟩
  | 23 => ⟨S64x1024, .f32⟩
  | 24 => ⟨S64x1024, .f32⟩
  | 25 => ⟨S64x1024, .f32⟩
  | 26 => ⟨S_, .f32⟩
  | 27 => ⟨S64x1024, .f32⟩
  | 28 => ⟨S64x1024, .f32⟩
  | 29 => ⟨S_, .f32⟩
  | 30 => ⟨S64x1024, .f32⟩
  | 31 => ⟨S64x1024, .f32⟩
  | 32 => ⟨S64x1024, .f32⟩
  | 33 => ⟨S_, .f32⟩
  | 34 => ⟨S64x1024, .f32⟩
  | 35 => ⟨S64x1024, .f32⟩
  | 36 => ⟨S_, .f32⟩
  | 37 => ⟨S64x1024, .f32⟩
  | 38 => ⟨S64x1024, .f32⟩
  | 39 => ⟨S64x1024, .f32⟩
  | 40 => ⟨S8x8x8x128, .f32⟩
  | 41 => ⟨S8x8x8x128, .f32⟩
  | 42 => ⟨S8x8x8x128, .f32⟩
  | 43 => ⟨S8x8x8x128, .f32⟩
  | 44 => ⟨S8x8x8x128, .f32⟩
  | 45 => ⟨S8x8x8x128, .f32⟩
  | 46 => ⟨S8x8x8x128, .f32⟩
  | 47 => ⟨S8x8x8x128, .f32⟩
  | 48 => ⟨S_, .f32⟩
  | 49 => ⟨S8x8x8x128, .f32⟩
  | 50 => ⟨S_, .i32⟩
  | 51 => ⟨S8x8x8x128, .f32⟩
  | 52 => ⟨S8x8x8x128, .f32⟩
  | 53 => ⟨S8x8x8x128, .f32⟩
  | 54 => ⟨S8x8x8x128, .f32⟩
  | 55 => ⟨S_, .i32⟩
  | 56 => ⟨S8x8x128x128, .f32⟩
  | 57 => ⟨S8x8x8x128, .f32⟩
  | 58 => ⟨S_, .i32⟩
  | 59 => ⟨S_, .i1⟩
  | 60 => ⟨S_, .i32⟩
  | 61 => ⟨S_, .i32⟩
  | 62 => ⟨S_, .i32⟩
  | 63 => ⟨S1x8x8x128, .f32⟩
  | 64 => ⟨S8x8x128, .f32⟩
  | 65 => ⟨S_, .i32⟩
  | 66 => ⟨S_, .i32⟩
  | 67 => ⟨S_, .i32⟩
  | 68 => ⟨S1x8x8x128, .f32⟩
  | 69 => ⟨S8x8x128, .f32⟩
  | 70 => ⟨S_, .i32⟩
  | 71 => ⟨S_, .i32⟩
  | 72 => ⟨S_, .i32⟩
  | 73 => ⟨S1x8x8x128, .f32⟩
  | 74 => ⟨S8x8x128, .f32⟩
  | 75 => ⟨S_, .i32⟩
  | 76 => ⟨S_, .i32⟩
  | 77 => ⟨S_, .i32⟩
  | 78 => ⟨S1x8x8x128, .f32⟩
  | 79 => ⟨S8x8x128, .f32⟩
  | 80 => ⟨S8x8x128, .f32⟩
  | 81 => ⟨S8x8x128x1, .f32⟩
  | 82 => ⟨S8x8x128x128, .f32⟩
  | 83 => ⟨S8x8x128x128, .f32⟩
  | 84 => ⟨S8x8x128x1, .f32⟩
  | 85 => ⟨S8x8x1x128, .f32⟩
  | 86 => ⟨S8x8x128x128, .f32⟩
  | 87 => ⟨S8x8x128x128, .f32⟩
  | 88 => ⟨S8x8x128x128, .f32⟩
  | 89 => ⟨S8x8x128x128, .f32⟩
  | 90 => ⟨S8x8x128, .f32⟩
  | 91 => ⟨S1x8x8x128, .f32⟩
  | 92 => ⟨S_, .i32⟩
  | 93 => ⟨S_, .i32⟩
  | 94 => ⟨S_, .i32⟩
  | 95 => ⟨S8x8x8x128, .f32⟩
  | 96 => ⟨S_, .i32⟩
  | 97 => ⟨S_, .i32⟩
  | 98 => ⟨S8x8x8x128, .f32⟩
  | 99 => ⟨S8x8x8x128, .f32⟩
  | 100 => ⟨S_, .f32⟩
  | 101 => ⟨S8x8x8, .f32⟩
  | 102 => ⟨S8x8x8x1, .f32⟩
  | 103 => ⟨S_, .f32⟩
  | 104 => ⟨S8x8x8x1, .f32⟩
  | 105 => ⟨S8x8x8x1, .f32⟩
  | 106 => ⟨S_, .f32⟩
  | 107 => ⟨S8x8x8x1, .f32⟩
  | 108 => ⟨S8x8x8x1, .f32⟩
  | 109 => ⟨S8x8x8x1, .f32⟩
  | 110 => ⟨S8x8x8x128, .f32⟩
  | 111 => ⟨S8x8x8x128, .f32⟩
  | 112 => ⟨S1x1x1x128, .f32⟩
  | 113 => ⟨S8x8x8x128, .f32⟩
  | 114 => ⟨S8x8x8x128, .f32⟩
  | 115 => ⟨S64x1024, .f32⟩
  | 116 => ⟨S8x8x8x128, .f32⟩
  | 117 => ⟨S8x8x8x128, .f32⟩
  | 118 => ⟨S8x8x8x128, .f32⟩
  | 119 => ⟨S_, .f32⟩
  | 120 => ⟨S8x8x8x128, .f32⟩
  | 121 => ⟨S8x8x8x128, .f32⟩
  | 122 => ⟨S_, .f32⟩
  | 123 => ⟨S8x8x8x128, .f32⟩
  | 124 => ⟨S8x8x8x128, .f32⟩
  | 125 => ⟨S8x8x8x128, .f32⟩
  | 126 => ⟨S8x8x8x128, .f32⟩
  | 127 => ⟨S64x1024, .f32⟩
  | _ => ⟨S64x7168, .f32⟩

abbrev hbmTy0_1 (i : Nat) : BufTy := match i % 128 with
  | 0 => ⟨S8x8x1024, .f32⟩
  | 1 => ⟨S_, .i32⟩
  | 2 => ⟨S_, .f32⟩
  | 3 => ⟨S8x128x1024, .f32⟩
  | 4 => ⟨S1024x1024, .f32⟩
  | _ => ⟨S64x7168, .f32⟩

abbrev hbmTy (i : Nat) : BufTy := match i / 128 with
  | 0 => hbmTy0_0 i
  | 1 => hbmTy0_1 i
  | _ => ⟨S64x7168, .f32⟩

abbrev bufTy : (tb : Table) → Fin (tcTables nBuf tb) → BufTy
  | .hbm, ⟨i, _⟩ => hbmTy i
  | _, _ => ⟨S64x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_c : Ref sig .tc := ⟨.hbm, 50, rfl⟩
abbrev main_v32_0 : Ref sig .tc := ⟨.hbm, 51, rfl⟩
abbrev main_v32_1 : Ref sig .tc := ⟨.hbm, 52, rfl⟩
abbrev main_v32_2 : Ref sig .tc := ⟨.hbm, 53, rfl⟩
abbrev main_v32_3 : Ref sig .tc := ⟨.hbm, 54, rfl⟩
abbrev main_v32_4 : Ref sig .tc := ⟨.hbm, 55, rfl⟩
abbrev main_v32_5 : Ref sig .tc := ⟨.hbm, 56, rfl⟩
abbrev main_v32_6 : Ref sig .tc := ⟨.hbm, 57, rfl⟩
abbrev main_while0c_c_15 : Ref sig .tc := ⟨.hbm, 58, rfl⟩
abbrev main_while0c_v55 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_v0 : Ref sig .tc := ⟨.hbm, 63, rfl⟩
abbrev main_while0b_v55 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_v0 : Ref sig .tc := ⟨.hbm, 68, rfl⟩
abbrev main_while0b_v56 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_v0 : Ref sig .tc := ⟨.hbm, 73, rfl⟩
abbrev main_while0b_v57 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_c_1 : Ref sig .tc := ⟨.hbm, 77, rfl⟩
abbrev main_while0b_call4_v0 : Ref sig .tc := ⟨.hbm, 78, rfl⟩
abbrev main_while0b_v58 : Ref sig .tc := ⟨.hbm, 79, rfl⟩
abbrev main_while0b_v59 : Ref sig .tc := ⟨.hbm, 80, rfl⟩
abbrev main_while0b_v60 : Ref sig .tc := ⟨.hbm, 81, rfl⟩
abbrev main_while0b_v61 : Ref sig .tc := ⟨.hbm, 82, rfl⟩
abbrev main_while0b_v62 : Ref sig .tc := ⟨.hbm, 83, rfl⟩
abbrev main_while0b_v63 : Ref sig .tc := ⟨.hbm, 84, rfl⟩
abbrev main_while0b_v64 : Ref sig .tc := ⟨.hbm, 85, rfl⟩
abbrev main_while0b_v65 : Ref sig .tc := ⟨.hbm, 86, rfl⟩
abbrev main_while0b_v66 : Ref sig .tc := ⟨.hbm, 87, rfl⟩
abbrev main_while0b_v67 : Ref sig .tc := ⟨.hbm, 88, rfl⟩
abbrev main_while0b_v68 : Ref sig .tc := ⟨.hbm, 89, rfl⟩
abbrev main_while0b_v69 : Ref sig .tc := ⟨.hbm, 90, rfl⟩
abbrev main_while0b_call5_v0 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_v70 : Ref sig .tc := ⟨.hbm, 95, rfl⟩
abbrev main_while0b_c_15 : Ref sig .tc := ⟨.hbm, 96, rfl⟩
abbrev main_while0b_v71 : Ref sig .tc := ⟨.hbm, 97, rfl⟩
abbrev main_v33 : Ref sig .tc := ⟨.hbm, 98, rfl⟩
abbrev main_v34 : Ref sig .tc := ⟨.hbm, 99, rfl⟩
abbrev main_cst_5 : Ref sig .tc := ⟨.hbm, 100, rfl⟩
abbrev main_v35 : Ref sig .tc := ⟨.hbm, 101, rfl⟩
abbrev main_v36 : Ref sig .tc := ⟨.hbm, 102, rfl⟩
abbrev main_cst_6 : Ref sig .tc := ⟨.hbm, 103, rfl⟩
abbrev main_v37 : Ref sig .tc := ⟨.hbm, 104, rfl⟩
abbrev main_v38 : Ref sig .tc := ⟨.hbm, 105, rfl⟩
abbrev main_cst_7 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_call6_v0 : Ref sig .tc := ⟨.hbm, 117, rfl⟩
abbrev main_call6_v1 : Ref sig .tc := ⟨.hbm, 118, rfl⟩
abbrev main_call6_cst : Ref sig .tc := ⟨.hbm, 119, rfl⟩
abbrev main_call6_v2 : Ref sig .tc := ⟨.hbm, 120, rfl⟩
abbrev main_call6_v3 : Ref sig .tc := ⟨.hbm, 121, rfl⟩
abbrev main_call6_cst_0 : Ref sig .tc := ⟨.hbm, 122, rfl⟩
abbrev main_call6_v4 : Ref sig .tc := ⟨.hbm, 123, rfl⟩
abbrev main_call6_v5 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_c_8 : Ref sig .tc := ⟨.hbm, 129, rfl⟩
abbrev main_call7_v0 : Ref sig .tc := ⟨.hbm, 130, rfl⟩
abbrev main_v53 : Ref sig .tc := ⟨.hbm, 131, rfl⟩
abbrev main_v54 : Ref sig .tc := ⟨.hbm, 132, rfl⟩

abbrev nD : Nat := 1
abbrev τ : Topo := Topo.v7x

variable {F : FTy → Type} [FloatOps F]

abbrev main_while0_count : Scf.Loop 32 := ⟨0#32, 8#32, 1#32⟩
-- ==== Ffn.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Last.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastRefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== EvenIn.lean ====
abbrev S8192x2048 : Shape := ⟨2, ![8192, 2048]⟩
abbrev S2048 : Shape := ⟨1, ![2048]⟩
abbrev S2048x7168 : Shape := ⟨2, ![2048, 7168]⟩
abbrev S1x2048 : Shape := ⟨2, ![1, 2048]⟩
abbrev S8192x7168 : Shape := ⟨2, ![8192, 7168]⟩
abbrev S512x2048 : Shape := ⟨2, ![512, 2048]⟩
abbrev S2048x896 : Shape := ⟨2, ![2048, 896]⟩
abbrev S512x896 : Shape := ⟨2, ![512, 896]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x7168, .f32⟩
  | .hbm, ⟨3, _⟩ => ⟨S2048x7168, .bf16⟩
  | .hbm, ⟨4, _⟩ => ⟨S1x2048, .f32⟩
  | .hbm, ⟨5, _⟩ => ⟨S8192x7168, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S512x896, .f32⟩
  | .local _ .vmem, ⟨6, _⟩ => ⟨S512x896, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenInRefIdeal.lean ====
abbrev S8192x2048 : Shape := ⟨2, ![8192, 2048]⟩
abbrev S2048 : Shape := ⟨1, ![2048]⟩
abbrev S2048x7168 : Shape := ⟨2, ![2048, 7168]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x7168 : Shape := ⟨2, ![8192, 7168]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x7168, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x7168, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OddIn.lean ====
abbrev S8192x2048 : Shape := ⟨2, ![8192, 2048]⟩
abbrev S2048 : Shape := ⟨1, ![2048]⟩
abbrev S2048x6160 : Shape := ⟨2, ![2048, 6160]⟩
abbrev S_ : Shape := ⟨0, ![]⟩
abbrev S2048x6272 : Shape := ⟨2, ![2048, 6272]⟩
abbrev S1x2048 : Shape := ⟨2, ![1, 2048]⟩
abbrev S8192x6272 : Shape := ⟨2, ![8192, 6272]⟩
abbrev S512x2048 : Shape := ⟨2, ![512, 2048]⟩
abbrev S2048x896 : Shape := ⟨2, ![2048, 896]⟩
abbrev S512x896 : Shape := ⟨2, ![512, 896]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6160, .f32⟩
  | .hbm, ⟨3, _⟩ => ⟨S_, .i32⟩
  | .hbm, ⟨4, _⟩ => ⟨S_, .f32⟩
  | .hbm, ⟨5, _⟩ => ⟨S2048x6272, .f32⟩
  | .hbm, ⟨6, _⟩ => ⟨S2048x6272, .bf16⟩
  | .hbm, ⟨7, _⟩ => ⟨S1x2048, .f32⟩
  | .hbm, ⟨8, _⟩ => ⟨S8192x6272, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S512x896, .f32⟩
  | .local _ .vmem, ⟨6, _⟩ => ⟨S512x896, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddInRefIdeal.lean ====
abbrev S8192x2048 : Shape := ⟨2, ![8192, 2048]⟩
abbrev S2048 : Shape := ⟨1, ![2048]⟩
abbrev S2048x6160 : Shape := ⟨2, ![2048, 6160]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6160 : Shape := ⟨2, ![8192, 6160]⟩
abbrev S8192x6272 : Shape := ⟨2, ![8192, 6272]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6160, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x6160, .f32⟩
  | .hbm, ⟨20, _⟩ => ⟨S_, .i32⟩
  | .hbm, ⟨21, _⟩ => ⟨S_, .f32⟩
  | .hbm, ⟨22, _⟩ => ⟨S8192x6272, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== EvenOut.lean ====
abbrev S8192x2048 : Shape := ⟨2, ![8192, 2048]⟩
abbrev S8192x1024 : Shape := ⟨2, ![8192, 1024]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S2048x2048, .f32⟩
  | .hbm, ⟨4, _⟩ => ⟨S2048x2048, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutRefIdeal.lean ====
abbrev S8192x2048 : Shape := ⟨2, ![8192, 2048]⟩
abbrev S8192x1024 : Shape := ⟨2, ![8192, 1024]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OddOut.lean ====
abbrev S8192x2048 : Shape := ⟨2, ![8192, 2048]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddOutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== LastSample.lean ====
abbrev S64x2048 : Shape := ⟨2, ![64, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S64 : Shape := ⟨1, ![64]⟩
abbrev S64x1 : Shape := ⟨2, ![64, 1]⟩
abbrev S64x512 : Shape := ⟨2, ![64, 512]⟩

abbrev nBuf : Space → Nat
  | .hbm => 12
  | .vmem => 11
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S64x2048, .f32⟩
  | .local _ .vmem, ⟨10, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== LastSampleRefIdeal.lean ====
abbrev S64x2048 : Shape := ⟨2, ![64, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S64x5632 : Shape := ⟨2, ![64, 5632]⟩

abbrev nBuf : Space → Nat
  | .hbm => 55
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S64x2048, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S64x2048, .f32⟩
  | .hbm, ⟨18, _⟩ => ⟨S64x2048, .f32⟩
  | .hbm, ⟨19, _⟩ => ⟨S1x2048, .f32⟩
  | .hbm, ⟨20, _⟩ => ⟨S64x2048, .f32⟩
  | .hbm, ⟨21, _⟩ => ⟨S64x2048, .f32⟩
  | .hbm, ⟨22, _⟩ => ⟨S64x5632, .f32⟩
  | .hbm, ⟨23, _⟩ => ⟨S64x5632, .f32⟩
  | .hbm, ⟨24, _⟩ => ⟨S64x5632, .f32⟩
  | .hbm, ⟨25, _⟩ => ⟨S_, .f32⟩
  | .hbm, ⟨26, _⟩ => ⟨S64x5632, .f32⟩
  | .hbm, ⟨27, _⟩ => ⟨S64x5632, .f32⟩
  | .hbm, ⟨28, _⟩ => ⟨S_, .f32⟩
  | .hbm, ⟨29, _⟩ => ⟨S64x5632, .f32⟩
  | .hbm, ⟨30, _⟩ => ⟨S64x5632, .f32⟩
  | .hbm, ⟨31, _⟩ => ⟨S64x5632, .f32⟩
  | .hbm, ⟨32, _⟩ => ⟨S64x5632, .f32⟩
  | .hbm, ⟨33, _⟩ => ⟨S64x5632, .f32⟩
  | .hbm, ⟨34, _⟩ => ⟨S64x2048, .f32⟩
  | .hbm, ⟨35, _⟩ => ⟨S_, .f32⟩
  | .hbm, ⟨36, _⟩ => ⟨S64x2048, .f32⟩
  | .hbm, ⟨37, _⟩ => ⟨S64x2048, .f32⟩
  | .hbm, ⟨38, _⟩ => ⟨S64x2048, .f32⟩
  | .hbm, ⟨39, _⟩ => ⟨S64x2048, .f32⟩
  | .hbm, ⟨40, _⟩ => ⟨S_, .f32⟩
  | .hbm, ⟨41, _⟩ => ⟨S64, .f32⟩
  | .hbm, ⟨42, _⟩ => ⟨S64x1, .f32⟩
  | .hbm, ⟨43, _⟩ => ⟨S_, .f32⟩
  | .hbm, ⟨44, _⟩ => ⟨S64x1, .f32⟩
  | .hbm, ⟨45, _⟩ => ⟨S64x1, .f32⟩
  | .hbm, ⟨46, _⟩ => ⟨S_, .f32⟩
  | .hbm, ⟨47, _⟩ => ⟨S64x1, .f32⟩
  | .hbm, ⟨48, _⟩ => ⟨S64x1, .f32⟩
  | .hbm, ⟨49, _⟩ => ⟨S64x1, .f32⟩
  | .hbm, ⟨50, _⟩ => ⟨S64x2048, .f32⟩
  | .hbm, ⟨51, _⟩ => ⟨S64x2048, .f32⟩
  | .hbm, ⟨52, _⟩ => ⟨S1x2048, .f32⟩
  | .hbm, ⟨53, _⟩ => ⟨S64x2048, .f32⟩
  | .hbm, ⟨54, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== EvenInSample.lean ====
abbrev S64x2048 : Shape := ⟨2, ![64, 2048]⟩
abbrev S2048 : Shape := ⟨1, ![2048]⟩
abbrev S2048x7168 : Shape := ⟨2, ![2048, 7168]⟩
abbrev S1x2048 : Shape := ⟨2, ![1, 2048]⟩
abbrev S64x7168 : Shape := ⟨2, ![64, 7168]⟩
abbrev S2048x896 : Shape := ⟨2, ![2048, 896]⟩
abbrev S64x896 : Shape := ⟨2, ![64, 896]⟩
abbrev S64 : Shape := ⟨1, ![64]⟩
abbrev S64x1 : Shape := ⟨2, ![64, 1]⟩

abbrev nBuf : Space → Nat
  | .hbm => 6
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x7168, .f32⟩
  | .hbm, ⟨3, _⟩ => ⟨S2048x7168, .bf16⟩
  | .hbm, ⟨4, _⟩ => ⟨S1x2048, .f32⟩
  | .hbm, ⟨5, _⟩ => ⟨S64x7168, .f32⟩
  | .local _ .vmem, ⟨0, _⟩ => ⟨S64x2048, .f32⟩
  | .local _ .vmem, ⟨1, _⟩ => ⟨S1x2048, .f32⟩
  | .local _ .vmem, ⟨2, _⟩ => ⟨S2048x896, .bf16⟩
  | .local _ .vmem, ⟨3, _⟩ => ⟨S2048x896, .bf16⟩
  | .local _ .vmem, ⟨4, _⟩ => ⟨S64x896, .f32⟩
  | .local _ .vmem, ⟨5, _⟩ => ⟨S64x896, .f32⟩
  | .local _ .vmem, ⟨6, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenInSampleRefIdeal.lean ====
abbrev S64x2048 : Shape := ⟨2, ![64, 2048]⟩
abbrev S2048 : Shape := ⟨1, ![2048]⟩
abbrev S2048x7168 : Shape := ⟨2, ![2048, 7168]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S64x7168 : Shape := ⟨2, ![64, 7168]⟩

abbrev nBuf : Space → Nat
  | .hbm => 20
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x7168, .f32⟩
  | .hbm, ⟨3, _⟩ => ⟨S64x2048, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x7168, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FfnSample.lean ====
abbrev S64x2048 : Shape := ⟨2, ![64, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S64 : Shape := ⟨1, ![64]⟩
abbrev S64x1 : Shape := ⟨2, ![64, 1]⟩
abbrev S64x512 : Shape := ⟨2, ![64, 512]⟩

abbrev nBuf : Space → Nat
  | .hbm => 10
  | .vmem => 10
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S64x2048, .f32⟩
  | .local _ .vmem, ⟨9, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnSampleRefIdeal.lean ====
abbrev S64x2048 : Shape := ⟨2, ![64, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S64x5632 : Shape := ⟨2, ![64, 5632]⟩

abbrev nBuf : Space → Nat
  | .hbm => 38
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S64x2048, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x1, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x5632, .f32⟩
  | .hbm, ⟨22, _⟩ => ⟨S64x5632, .f32⟩
  | .hbm, ⟨23, _⟩ => ⟨S64x5632, .f32⟩
  | .hbm, ⟨24, _⟩ => ⟨S_, .f32⟩
  | .hbm, ⟨25, _⟩ => ⟨S64x5632, .f32⟩
  | .hbm, ⟨26, _⟩ => ⟨S64x5632, .f32⟩
  | .hbm, ⟨27, _⟩ => ⟨S_, .f32⟩
  | .hbm, ⟨28, _⟩ => ⟨S64x5632, .f32⟩
  | .hbm, ⟨29, _⟩ => ⟨S64x5632, .f32⟩
  | .hbm, ⟨30, _⟩ => ⟨S64x5632, .f32⟩
  | .hbm, ⟨31, _⟩ => ⟨S64x5632, .f32⟩
  | .hbm, ⟨32, _⟩ => ⟨S64x5632, .f32⟩
  | .hbm, ⟨33, _⟩ => ⟨S64x2048, .f32⟩
  | .hbm, ⟨34, _⟩ => ⟨S_, .f32⟩
  | .hbm, ⟨35, _⟩ => ⟨S64x2048, .f32⟩
  | .hbm, ⟨36, _⟩ => ⟨S64x2048, .f32⟩
  | .hbm, ⟨37, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== OddInSample.lean ====
abbrev S64x2048 : Shape := ⟨2, ![64, 2048]⟩
abbrev S2048 : Shape := ⟨1, ![2048]⟩
abbrev S2048x6160 : Shape := ⟨2, ![2048, 6160]⟩
abbrev S_ : Shape := ⟨0, ![]⟩
abbrev S2048x6272 : Shape := ⟨2, ![2048, 6272]⟩
abbrev S1x2048 : Shape := ⟨2, ![1, 2048]⟩
abbrev S64x6272 : Shape := ⟨2, ![64, 6272]⟩
abbrev S2048x896 : Shape := ⟨2, ![2048, 896]⟩
abbrev S64x896 : Shape := ⟨2, ![64, 896]⟩
abbrev S64 : Shape := ⟨1, ![64]⟩
abbrev S64x1 : Shape := ⟨2, ![64, 1]⟩

abbrev nBuf : Space → Nat
  | .hbm => 9
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x6160, .f32⟩
  | .hbm, ⟨3, _⟩ => ⟨S_, .i32⟩
  | .hbm, ⟨4, _⟩ => ⟨S_, .f32⟩
  | .hbm, ⟨5, _⟩ => ⟨S2048x6272, .f32⟩
  | .hbm, ⟨6, _⟩ => ⟨S2048x6272, .bf16⟩
  | .hbm, ⟨7, _⟩ => ⟨S1x2048, .f32⟩
  | .hbm, ⟨8, _⟩ => ⟨S64x6272, .f32⟩
  | .local _ .vmem, ⟨0, _⟩ => ⟨S64x2048, .f32⟩
  | .local _ .vmem, ⟨1, _⟩ => ⟨S1x2048, .f32⟩
  | .local _ .vmem, ⟨2, _⟩ => ⟨S2048x896, .bf16⟩
  | .local _ .vmem, ⟨3, _⟩ => ⟨S2048x896, .bf16⟩
  | .local _ .vmem, ⟨4, _⟩ => ⟨S64x896, .f32⟩
  | .local _ .vmem, ⟨5, _⟩ => ⟨S64x896, .f32⟩
  | .local _ .vmem, ⟨6, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddInSampleRefIdeal.lean ====
abbrev S64x2048 : Shape := ⟨2, ![64, 2048]⟩
abbrev S2048 : Shape := ⟨1, ![2048]⟩
abbrev S2048x6160 : Shape := ⟨2, ![2048, 6160]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S64x6160 : Shape := ⟨2, ![64, 6160]⟩
abbrev S64x6272 : Shape := ⟨2, ![64, 6272]⟩

abbrev nBuf : Space → Nat
  | .hbm => 23
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x6160, .f32⟩
  | .hbm, ⟨3, _⟩ => ⟨S64x2048, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | .hbm, ⟨19, _⟩ => ⟨S64x6160, .f32⟩
  | .hbm, ⟨20, _⟩ => ⟨S_, .i32⟩
  | .hbm, ⟨21, _⟩ => ⟨S_, .f32⟩
  | .hbm, ⟨22, _⟩ => ⟨S64x6272, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== EvenOutSample.lean ====
abbrev S64x2048 : Shape := ⟨2, ![64, 2048]⟩
abbrev S64x1024 : Shape := ⟨2, ![64, 1024]⟩
abbrev S2048x2048 : Shape := ⟨2, ![2048, 2048]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S64x1024, .f32⟩
  | .hbm, ⟨2, _⟩ => ⟨S64x1024, .f32⟩
  | .hbm, ⟨3, _⟩ => ⟨S2048x2048, .f32⟩
  | .hbm, ⟨4, _⟩ => ⟨S2048x2048, .bf16⟩
  | .hbm, ⟨5, _⟩ => ⟨S64x2048, .f32⟩
  | .local _ .vmem, ⟨0, _⟩ => ⟨S64x2048, .f32⟩
  | .local _ .vmem, ⟨1, _⟩ => ⟨S64x1024, .f32⟩
  | .local _ .vmem, ⟨2, _⟩ => ⟨S64x1024, .f32⟩
  | .local _ .vmem, ⟨3, _⟩ => ⟨S1024x2048, .bf16⟩
  | .local _ .vmem, ⟨4, _⟩ => ⟨S1024x2048, .bf16⟩
  | .local _ .vmem, ⟨5, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== EvenOutSampleRefIdeal.lean ====
abbrev S64x2048 : Shape := ⟨2, ![64, 2048]⟩
abbrev S64x1024 : Shape := ⟨2, ![64, 1024]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x1024, .f32⟩
  | .hbm, ⟨2, _⟩ => ⟨S64x1024, .f32⟩
  | .hbm, ⟨3, _⟩ => ⟨S2048x2048, .f32⟩
  | .hbm, ⟨4, _⟩ => ⟨S64x2048, .f32⟩
  | .hbm, ⟨5, _⟩ => ⟨S64x2048, .f32⟩
  | .hbm, ⟨6, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OddOutSample.lean ====
abbrev S64x2048 : Shape := ⟨2, ![64, 2048]⟩
abbrev S2048x2048 : Shape := ⟨2, ![2048, 2048]⟩
abbrev S64x1024 : Shape := ⟨2, ![64, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S2048x2048, .f32⟩
  | .hbm, ⟨3, _⟩ => ⟨S2048x2048, .bf16⟩
  | .hbm, ⟨4, _⟩ => ⟨S64x2048, .f32⟩
  | .local _ .vmem, ⟨0, _⟩ => ⟨S64x2048, .f32⟩
  | .local _ .vmem, ⟨1, _⟩ => ⟨S64x1024, .f32⟩
  | .local _ .vmem, ⟨2, _⟩ => ⟨S64x1024, .f32⟩
  | .local _ .vmem, ⟨3, _⟩ => ⟨S1024x2048, .bf16⟩
  | .local _ .vmem, ⟨4, _⟩ => ⟨S1024x2048, .bf16⟩
  | .local _ .vmem, ⟨5, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== OddOutSampleRefIdeal.lean ====
abbrev S64x2048 : Shape := ⟨2, ![64, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S2048x2048, .f32⟩
  | .hbm, ⟨3, _⟩ => ⟨S64x2048, .f32⟩
  | .hbm, ⟨4, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MobaCombine.lean ====
abbrev S8x64x128 : Shape := ⟨3, ![8, 64, 128]⟩
abbrev S8x128x64x128 : Shape := ⟨4, ![8, 128, 64, 128]⟩
abbrev S8x8x1024 : Shape := ⟨3, ![8, 8, 1024]⟩
abbrev S8x8x8x128 : Shape := ⟨4, ![8, 8, 8, 128]⟩
abbrev S_ : Shape := ⟨0, ![]⟩
abbrev S8x16x8x128 : Shape := ⟨4, ![8, 16, 8, 128]⟩
abbrev S8x128x128 : Shape := ⟨3, ![8, 128, 128]⟩
abbrev S1x64x128 : Shape := ⟨3, ![1, 64, 128]⟩
abbrev S1x128x64x128 : Shape := ⟨4, ![1, 128, 64, 128]⟩
abbrev S1x8x1024 : Shape := ⟨3, ![1, 8, 1024]⟩
abbrev S1x128x128 : Shape := ⟨3, ![1, 128, 128]⟩
abbrev S64x128 : Shape := ⟨2, ![64, 128]⟩
abbrev S64 : Shape := ⟨1, ![64]⟩
abbrev S64x1 : Shape := ⟨2, ![64, 1]⟩
abbrev S8x1024 : Shape := ⟨2, ![8, 1024]⟩
abbrev S8x128 : Shape := ⟨2, ![8, 128]⟩
abbrev S128x128 : Shape := ⟨2, ![128, 128]⟩
abbrev S1x1x64x128 : Shape := ⟨4, ![1, 1, 64, 128]⟩

abbrev nBuf : Space → Nat
  | .hbm => 16
  | .vmem => 16
  | .smem => 0
  | _ => 0

abbrev bufTy : (tb : Table) → Fin (tcTables nBuf tb) → BufTy
  | .hbm, ⟨0, _⟩ => ⟨S8x64x128, .f32⟩
  | .hbm, ⟨1, _⟩ => ⟨S8x64x128, .f32⟩
  | .hbm, ⟨2, _⟩ => ⟨S8x64x128, .f32⟩
  | .hbm, ⟨3, _⟩ => ⟨S8x128x64x128, .f32⟩
  | .hbm, ⟨4, _⟩ => ⟨S8x8x1024, .f32⟩
  | .hbm, ⟨5, _⟩ => ⟨S8x8x8x128, .f32⟩
  | .hbm, ⟨6, _⟩ => ⟨S8x8x8x128, .f32⟩
  | .hbm, ⟨7, _⟩ => ⟨S_, .i32⟩
  | .hbm, ⟨8, _⟩ => ⟨S_, .f32⟩
  | .hbm, ⟨9, _⟩ => ⟨S8x16x8x128, .f32⟩
  | .hbm, ⟨10, _⟩ => ⟨S8x128x128, .f32⟩
  | .hbm, ⟨11, _⟩ => ⟨S_, .i32⟩
  | .hbm, ⟨12, _⟩ => ⟨S_, .f32⟩
  | .hbm, ⟨13, _⟩ => ⟨S8x16x8x128, .f32⟩
  | .hbm, ⟨14, _⟩ => ⟨S8x128x128, .f32⟩
  | .hbm, ⟨15, _⟩ => ⟨S8x8x1024, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x128x64x128, .f32⟩
  | .local _ .vmem, ⟨7, _⟩ => ⟨S1x128x64x128, .f32⟩
  | .local _ .vmem, ⟨8, _⟩ => ⟨S1x8x1024, .f32⟩
  | .local _ .vmem, ⟨9, _⟩ => ⟨S1x8x1024, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x8x1024, .f32⟩
  | .local _ .vmem, ⟨15, _⟩ => ⟨S1x8x1024, .f32⟩
  | _, _ => ⟨S8x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_77 : BitVec 32 := 0#32
  let c128_i32_78 : BitVec 32 := 128#32
  let v222 : BitVec 32 := Scalar.addi c0_i32_77 c128_i32_78
  let c1_i32_79 : BitVec 32 := 1#32
  ⟨c0_i32_77, v222, c1_i32_79⟩
def k0_off1 (k0_t1 : Fin k0_t1_loop.trips) : Fin 4 → Nat :=
  let c0_86 : Index := 0#32
  let c0_i32_77 : BitVec 32 := 0#32
  let c1_i32_79 : BitVec 32 := 1#32
  let arg9 : BitVec 32 := Scf.iv c0_i32_77 c1_i32_79 k0_t1
  let v244 : Index := Scalar.indexCast arg9
  let c0_87 : Index := 0#32
  let c0_88 : Index := 0#32
  ![0, v244.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MobaCombineRefIdeal.lean ====
abbrev S8x64x128 : Shape := ⟨3, ![8, 64, 128]⟩
abbrev S8x128x64x128 : Shape := ⟨4, ![8, 128, 64, 128]⟩
abbrev S8x8x1024 : Shape := ⟨3, ![8, 8, 1024]⟩
abbrev S8x8x8x128 : Shape := ⟨4, ![8, 8, 8, 128]⟩
abbrev S8x64x127 : Shape := ⟨3, ![8, 64, 127]⟩
abbrev S8x64x1 : Shape := ⟨3, ![8, 64, 1]⟩
abbrev S_ : Shape := ⟨0, ![]⟩
abbrev S8x64 : Shape := ⟨2, ![8, 64]⟩
abbrev S8x8x8x8 : Shape := ⟨4, ![8, 8, 8, 8]⟩
abbrev S8x64x8 : Shape := ⟨3, ![8, 64, 8]⟩

abbrev nBuf : Space → Nat
  | .hbm => 189
  | .vmem => 0
  | .smem => 0
  | _ => 0

abbrev hbmTy0_0 (i : Nat) : BufTy := match i % 128 with
  | 0 => ⟨S8x64x128, .f32⟩
  | 1 => ⟨S8x64x128, .f32⟩
  | 2 => ⟨S8x64x128, .f32⟩
  | 3 => ⟨S8x128x64x128, .f32⟩
  | 4 => ⟨S8x8x1024, .f32⟩
  | 5 => ⟨S8x8x8x128, .f32⟩
  | 6 => ⟨S8x8x8x128, .f32⟩
  | 7 => ⟨S8x64x128, .i32⟩
  | 8 => ⟨S8x64x127, .f32⟩
  | 9 => ⟨S8x64x1, .f32⟩
  | 10 => ⟨S8x64x128, .f32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S8x64x128, .i32⟩
  | 18 => ⟨S8x64x128, .i32⟩
  | 19 => ⟨S_, .i32⟩
  | 20 => ⟨S8x64x128, .i32⟩
  | 21 => ⟨S8x64x128, .i1⟩
  | 22 => ⟨S_, .i32⟩
  | 23 => ⟨S8x64x128, .i32⟩
  | 24 => ⟨S8x64x128, .i1⟩
  | 25 => ⟨S_, .i32⟩
  | 26 => ⟨S_, .i1⟩
  | 27 => ⟨S8x64x128, .i1⟩
  | 28 => ⟨S8x64x128, .i1⟩
  | 29 => ⟨S8x64x128, .i1⟩
  | 30 => ⟨S8x64x128, .i32⟩
  | 31 => ⟨S8x64x128, .i32⟩
  | 32 => ⟨S8x64x128, .i32⟩
  | 33 => ⟨S_, .i32⟩
  | 34 => ⟨S8x64x128, .i32⟩
  | 35 => ⟨S8x64x128, .i1⟩
  | 36 => ⟨S8x64x128, .f32⟩
  | 37 => ⟨S_, .f32⟩
  | 38 => ⟨S8x64x128, .f32⟩
  | 39 => ⟨S8x64x128, .f32⟩
  | 40 => ⟨S_, .f32⟩
  | 41 => ⟨S_, .f32⟩
  | 42 => ⟨S8x64x128, .f32⟩
  | 43 => ⟨S8x64x128, .f32⟩
  | 44 => ⟨S_, .f32⟩
  | 45 => ⟨S8x64, .f32⟩
  | 46 => ⟨S8x64x1, .f32⟩
  | 47 => ⟨S8x64x128, .i32⟩
  | 48 => ⟨S8x64x128, .f32⟩
  | 49 => ⟨S8x64x128, .i1⟩
  | 50 => ⟨S_, .i32⟩
  | 51 => ⟨S_, .i32⟩
  | 52 => ⟨S8x64x128, .i32⟩
  | 53 => ⟨S8x64x128, .i32⟩
  | 54 => ⟨S_, .i32⟩
  | 55 => ⟨S8x64, .i32⟩
  | 56 => ⟨S8x64x1, .i32⟩
  | 57 => ⟨S8x64x128, .i32⟩
  | 58 => ⟨S8x64x128, .i1⟩
  | 59 => ⟨S_, .f32⟩
  | 60 => ⟨S8x64x1, .f32⟩
  | 61 => ⟨S8x64x1, .i1⟩
  | 62 => ⟨S8x64x128, .i1⟩
  | 63 => ⟨S8x64x128, .i1⟩
  | 64 => ⟨S_, .f32⟩
  | 65 => ⟨S_, .f32⟩
  | 66 => ⟨S8x64x128, .f32⟩
  | 67 => ⟨S8x64x128, .f32⟩
  | 68 => ⟨S_, .f32⟩
  | 69 => ⟨S8x64, .f32⟩
  | 70 => ⟨S8x64x1, .f32⟩
  | 71 => ⟨S8x64x128, .i32⟩
  | 72 => ⟨S8x64x128, .f32⟩
  | 73 => ⟨S8x64x128, .i1⟩
  | 74 => ⟨S_, .i32⟩
  | 75 => ⟨S_, .i32⟩
  | 76 => ⟨S8x64x128, .i32⟩
  | 77 => ⟨S8x64x128, .i32⟩
  | 78 => ⟨S_, .i32⟩
  | 79 => ⟨S8x64, .i32⟩
  | 80 => ⟨S8x64x1, .i32⟩
  | 81 => ⟨S8x64x128, .i32⟩
  | 82 => ⟨S8x64x128, .i1⟩
  | 83 => ⟨S_, .f32⟩
  | 84 => ⟨S8x64x1, .f32⟩
  | 85 => ⟨S8x64x1, .i1⟩
  | 86 => ⟨S8x64x128, .i1⟩
  | 87 => ⟨S8x64x128, .i1⟩
  | 88 => ⟨S_, .f32⟩
  | 89 => ⟨S_, .f32⟩
  | 90 => ⟨S8x64x128, .f32⟩
  | 91 => ⟨S8x64x128, .f32⟩
  | 92 => ⟨S_, .f32⟩
  | 93 => ⟨S8x64, .f32⟩
  | 94 => ⟨S8x64x1, .f32⟩
  | 95 => ⟨S8x64x128, .i32⟩
  | 96 => ⟨S8x64x128, .f32⟩
  | 97 => ⟨S8x64x128, .i1⟩
  | 98 => ⟨S_, .i32⟩
  | 99 => ⟨S_, .i32⟩
  | 100 => ⟨S8x64x128, .i32⟩
  | 101 => ⟨S8x64x128, .i32⟩
  | 102 => ⟨S_, .i32⟩
  | 103 => ⟨S8x64, .i32⟩
  | 104 => ⟨S8x64x1, .i32⟩
  | 105 => ⟨S8x64x128, .i32⟩
  | 106 => ⟨S8x64x128, .i1⟩
  | 107 => ⟨S_, .f32⟩
  | 108 => ⟨S8x64x1, .f32⟩
  | 109 => ⟨S8x64x1, .i1⟩
  | 110 => ⟨S8x64x128, .i1⟩
  | 111 => ⟨S8x64x128, .i1⟩
  | 112 => ⟨S_, .f32⟩
  | 113 => ⟨S_, .f32⟩
  | 114 => ⟨S8x64x128, .f32⟩
  | 115 => ⟨S8x64x128, .f32⟩
  | 116 => ⟨S_, .f32⟩
  | 117 => ⟨S_, .f32⟩
  | 118 => ⟨S8x64x128, .f32⟩
  | 119 => ⟨S8x64x128, .f32⟩
  | 120 => ⟨S8x64x128, .f32⟩
  | 121 => ⟨S_, .f32⟩
  | 122 => ⟨S8x64x128, .f32⟩
  | 123 => ⟨S8x64x128, .f32⟩
  | 124 => ⟨S_, .f32⟩
  | 125 => ⟨S8x64x128, .f32⟩
  | 126 => ⟨S8x64x128, .f32⟩
  | 127 => ⟨S8x64x1, .f32⟩
  | _ => ⟨S8x64x128, .f32⟩

abbrev hbmTy0_1 (i : Nat) : BufTy := match i % 128 with
  | 0 => ⟨S8x64x127, .f32⟩
  | 1 => ⟨S8x64x128, .f32⟩
  | 2 => ⟨S8x64x128, .f32⟩
  | 3 => ⟨S8x8x8x128, .f32⟩
  | 4 => ⟨S_, .f32⟩
  | 5 => ⟨S8x8x8x128, .f32⟩
  | 6 => ⟨S8x8x8x128, .f32⟩
  | 7 => ⟨S8x8x8x8, .f32⟩
  | 8 => ⟨S8x8x8x8, .i32⟩
  | 9 => ⟨S8x8x8x8, .i32⟩
  | 10 => ⟨S8x8x8x8, .i1⟩
  | 11 => ⟨S_, .f32⟩
  | 12 => ⟨S_, .f32⟩
  | 13 => ⟨S8x8x8x8, .f32⟩
  | 14 => ⟨S8x8x8x8, .f32⟩
  | 15 => ⟨S8x64x8, .f32⟩
  | 16 => ⟨S_, .f32⟩
  | 17 => ⟨S8x64, .f32⟩
  | 18 => ⟨S8x64x1, .f32⟩
  | 19 => ⟨S_, .f32⟩
  | 20 => ⟨S8x64x128, .f32⟩
  | 21 => ⟨S8x64x128, .i1⟩
  | 22 => ⟨S_, .f32⟩
  | 23 => ⟨S_, .f32⟩
  | 24 => ⟨S8x64x128, .f32⟩
  | 25 => ⟨S8x64x128, .f32⟩
  | 26 => ⟨S_, .f32⟩
  | 27 => ⟨S8x64, .f32⟩
  | 28 => ⟨S8x64x1, .f32⟩
  | 29 => ⟨S8x64x1, .f32⟩
  | 30 => ⟨S_, .f32⟩
  | 31 => ⟨S8x64x128, .f32⟩
  | 32 => ⟨S8x64x128, .i1⟩
  | 33 => ⟨S8x64x128, .f32⟩
  | 34 => ⟨S8x64x128, .f32⟩
  | 35 => ⟨S8x64x128, .f32⟩
  | 36 => ⟨S_, .f32⟩
  | 37 => ⟨S_, .f32⟩
  | 38 => ⟨S8x64x128, .f32⟩
  | 39 => ⟨S8x64x128, .f32⟩
  | 40 => ⟨S8x64x8, .f32⟩
  | 41 => ⟨S8x64x8, .f32⟩
  | 42 => ⟨S8x64x8, .f32⟩
  | 43 => ⟨S8x64x128, .f32⟩
  | 44 => ⟨S_, .f32⟩
  | 45 => ⟨S8x64, .f32⟩
  | 46 => ⟨S8x64x1, .f32⟩
  | 47 => ⟨S_, .f32⟩
  | 48 => ⟨S8x64, .f32⟩
  | 49 => ⟨S8x64x1, .f32⟩
  | 50 => ⟨S8x64x1, .f32⟩
  | 51 => ⟨S8x8x8x8, .f32⟩
  | 52 => ⟨S8x8x8x128, .f32⟩
  | 53 => ⟨S8x64x128, .f32⟩
  | 54 => ⟨S8x64x128, .f32⟩
  | 55 => ⟨S8x64x128, .f32⟩
  | 56 => ⟨S8x64x128, .f32⟩
  | 57 => ⟨S8x64x128, .f32⟩
  | 58 => ⟨S8x8x8x128, .f32⟩
  | 59 => ⟨S8x8x8x128, .f32⟩
  | 60 => ⟨S8x8x1024, .f32⟩
  | _ => ⟨S8x64x128, .f32⟩

abbrev hbmTy (i : Nat) : BufTy := match i / 128 with
  | 0 => hbmTy0_0 i
  | 1 => hbmTy0_1 i
  | _ => ⟨S8x64x128, .f32⟩

abbrev bufTy : (tb : Table) → Fin (tcTables nBuf tb) → BufTy
  | .hbm, ⟨i, _⟩ => hbmTy i
  | _, _ => ⟨S8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v4 : Ref sig .tc := ⟨.hbm, 32, rfl⟩
abbrev main_c_0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_v10 : Ref sig .tc := ⟨.hbm, 43, rfl⟩
abbrev main_cst_2 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_c_3 : Ref sig .tc := ⟨.hbm, 50, rfl⟩
abbrev main_call2_v0 : Ref sig .tc := ⟨.hbm, 51, rfl⟩
abbrev main_call2_v1 : Ref sig .tc := ⟨.hbm, 52, rfl⟩
abbrev main_v16 : Ref sig .tc := ⟨.hbm, 53, rfl⟩
abbrev main_c_4 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_5 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_6 : Ref sig .tc := ⟨.hbm, 64, rfl⟩
abbrev main_call3_v0 : Ref sig .tc := ⟨.hbm, 65, rfl⟩
abbrev main_call3_v1 : Ref sig .tc := ⟨.hbm, 66, rfl⟩
abbrev main_v25 : Ref sig .tc := ⟨.hbm, 67, rfl⟩
abbrev main_cst_7 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c_8 : Ref sig .tc := ⟨.hbm, 74, rfl⟩
abbrev main_call4_v0 : Ref sig .tc := ⟨.hbm, 75, rfl⟩
abbrev main_call4_v1 : Ref sig .tc := ⟨.hbm, 76, rfl⟩
abbrev main_v31 : Ref sig .tc := ⟨.hbm, 77, rfl⟩
abbrev main_c_9 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_10 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_11 : Ref sig .tc := ⟨.hbm, 88, rfl⟩
abbrev main_call5_v0 : Ref sig .tc := ⟨.hbm, 89, rfl⟩
abbrev main_call5_v1 : Ref sig .tc := ⟨.hbm, 90, rfl⟩
abbrev main_v40 : Ref sig .tc := ⟨.hbm, 91, rfl⟩
abbrev main_cst_12 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_c_13 : Ref sig .tc := ⟨.hbm, 98, rfl⟩
abbrev main_call6_v0 : Ref sig .tc := ⟨.hbm, 99, rfl⟩
abbrev main_call6_v1 : Ref sig .tc := ⟨.hbm, 100, rfl⟩
abbrev main_v46 : Ref sig .tc := ⟨.hbm, 101, rfl⟩
abbrev main_c_14 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_15 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_cst_16 : Ref sig .tc := ⟨.hbm, 112, rfl⟩
abbrev main_call7_v0 : Ref sig .tc := ⟨.hbm, 113, rfl⟩
abbrev main_call7_v1 : Ref sig .tc := ⟨.hbm, 114, rfl⟩
abbrev main_v55 : Ref sig .tc := ⟨.hbm, 115, rfl⟩
abbrev main_cst_17 : Ref sig .tc := ⟨.hbm, 116, rfl⟩
abbrev main_cst_18 : Ref sig .tc := ⟨.hbm, 117, rfl⟩
abbrev main_call8_v0 : Ref sig .tc := ⟨.hbm, 118, rfl⟩
abbrev main_call8_v1 : Ref sig .tc := ⟨.hbm, 119, rfl⟩
abbrev main_v56 : Ref sig .tc := ⟨.hbm, 120, rfl⟩
abbrev main_cst_19 : Ref sig .tc := ⟨.hbm, 121, rfl⟩
abbrev main_call9_v0 : Ref sig .tc := ⟨.hbm, 122, rfl⟩
abbrev main_v57 : Ref sig .tc := ⟨.hbm, 123, rfl⟩
abbrev main_cst_20 : Ref sig .tc := ⟨.hbm, 124, rfl⟩
abbrev main_call10_v0 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_21 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_cst_22 : Ref sig .tc := ⟨.hbm, 139, rfl⟩
abbrev main_call11_v0 : Ref sig .tc := ⟨.hbm, 140, rfl⟩
abbrev main_call11_v1 : Ref sig .tc := ⟨.hbm, 141, rfl⟩
abbrev main_v70 : Ref sig .tc := ⟨.hbm, 142, rfl⟩
abbrev main_v71 : Ref sig .tc := ⟨.hbm, 143, rfl⟩
abbrev main_cst_23 : Ref sig .tc := ⟨.hbm, 144, rfl⟩
abbrev main_v72 : Ref sig .tc := ⟨.hbm, 145, rfl⟩
abbrev main_v73 : Ref sig .tc := ⟨.hbm, 146, rfl⟩
abbrev main_cst_24 : Ref sig .tc := ⟨.hbm, 147, rfl⟩
abbrev main_v74 : Ref sig .tc := ⟨.hbm, 148, rfl⟩
abbrev main_v75 : Ref sig .tc := ⟨.hbm, 149, rfl⟩
abbrev main_cst_25 : Ref sig .tc := ⟨.hbm, 150, rfl⟩
abbrev main_call12_v0 : Ref sig .tc := ⟨.hbm, 151, rfl⟩
abbrev main_call12_v1 : Ref sig .tc := ⟨.hbm, 152, rfl⟩
abbrev main_v76 : Ref sig .tc := ⟨.hbm, 153, rfl⟩
abbrev main_cst_26 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_27 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_cst_28 : Ref sig .tc := ⟨.hbm, 164, rfl⟩
abbrev main_call13_v0 : Ref sig .tc := ⟨.hbm, 165, rfl⟩
abbrev main_call13_v1 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_cst_29 : Ref sig .tc := ⟨.hbm, 172, rfl⟩
abbrev main_v90 : Ref sig .tc := ⟨.hbm, 173, rfl⟩
abbrev main_v91 : Ref sig .tc := ⟨.hbm, 174, rfl⟩
abbrev main_cst_30 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩

abbrev nD : Nat := 1
abbrev τ : Topo := Topo.v7x

variable {F : FTy → Type} [FloatOps F]
-- ==== Proof.Dense.lean ====
module

public import Idealize.ShloMosaic.Lib.Pointwise

/-! The layer's dense parts, a row at a time: a row divided by its root mean square and scaled, and a hidden layer of
5632 columns whose contributions are summed 512 columns at a time. -/

@[expose] public section

set_option maxRecDepth 16384

noncomputable section

namespace Cert.Dense

open Idealize.ShloMosaic

/-- Two matrices are equal if their elements are. -/
theorem ext2 {n k : ℕ} {f g : (⟨2, ![n, k]⟩ : Shape).Idx → EReal} (h : ∀ (a : Fin n) (b : Fin k), f (ix2 a b) = g (ix2 a b)) : f = g :=
  funext fun y => by
    have e : y = ix2 (y 0) (y 1) := funext fun a => by match a with | ⟨0, _⟩ => rfl | ⟨1, _⟩ => rfl
    rw [e]
    exact h _ _

/-- A matrix's row, zero below the matrix. -/
def rowOf {n k : ℕ} (x : (⟨2, ![n, k]⟩ : Shape).Idx → EReal) (a : ℕ) (e : Fin k) : EReal :=
  if h : a < n then x (ix2 ⟨a, h⟩ e) else 0

theorem rowOf_eq {n k : ℕ} (x : (⟨2, ![n, k]⟩ : Shape).Idx → EReal) (a : Fin n) (e : Fin k) : rowOf x a.val e = x (ix2 a e) :=
  dif_pos a.isLt

theorem rowOf_at {n k : ℕ} (x : (⟨2, ![n, k]⟩ : Shape).Idx → EReal) (a : ℕ) (i : (⟨2, ![n, k]⟩ : Shape).Idx) (e : Fin k)
    (h0 : (i 0).val = a) (h1 : (i 1).val = e.val) : x i = rowOf x a e := by
  subst h0
  unfold rowOf
  rw [dif_pos (show (i 0).val < n from (i 0).isLt)]
  refine congrArg x (funext fun b => ?_)
  match b with
  | ⟨0, _⟩ => rfl
  | ⟨1, _⟩ => exact Fin.ext h1

/-- A row divided by its root mean square, and scaled. -/
def normed (r w : Fin 2048 → EReal) (d : Fin 2048) : EReal :=
  r d * Ideal.rsqrt (Ideal.div (∑ e, r e * r e) (Ideal.ofBits .f32 0x45000000#32) + Ideal.ofBits .f32 0x358637BD#32) * w d

/-- A gated hidden column: the sigmoid-weighted gate, times the other product. -/
def act (h g u : Fin 2048 → EReal) : EReal := (∑ d, h d * g d) * Ideal.logistic (∑ d, h d * g d) * ∑ d, h d * u d

section
variable (h : Fin 2048 → EReal) (wg wu : (⟨2, ![2048, 5632]⟩ : Shape).Idx → EReal) (wd : (⟨2, ![5632, 2048]⟩ : Shape).Idx → EReal)
  (n : Fin 2048)

/-- What the hidden column `f` contributes to the column `n` of the row. -/
def contrib (f : Fin 5632) : EReal := act h (fun d => wg (ix2 d f)) (fun d => wu (ix2 d f)) * wd (ix2 f n)

/-- The contributions of the first `j` blocks of 512 hidden columns. -/
def part (j : ℕ) : EReal := ∑ f ∈ Finset.range (512 * j), if hf : f < 5632 then contrib h wg wu wd n ⟨f, hf⟩ else 0

theorem part_zero : part h wg wu wd n 0 = 0 := by simp [part]

theorem part_succ (j : ℕ) (hj : j < 11) : part h wg wu wd n (j + 1)
    = part h wg wu wd n j + ∑ x : Fin 512, contrib h wg wu wd n ⟨512 * j + x.val, by omega⟩ := by
  unfold part
  rw [show 512 * (j + 1) = 512 * j + 512 by omega, Finset.sum_range_add, Finset.sum_range (n := 512)]
  exact congrArg _ (Finset.sum_congr rfl fun x _ => dif_pos _)

theorem part_all : part h wg wu wd n 11 = ∑ f, contrib h wg wu wd n f := by
  unfold part
  rw [show 512 * 11 = 5632 from rfl, Finset.sum_range]
  exact Finset.sum_congr rfl fun x _ => dif_pos x.isLt

/-- The row after the hidden layer: half of the contributions added to it. -/
def after (x : Fin 2048 → EReal) : EReal := x n + Ideal.ofBits .f32 0x3F000000#32 * ∑ f, contrib h wg wu wd n f

end

/-- A row with the products of two half rows added to it. -/
def projected (x : Fin 2048 → EReal) (l r : Fin 1024 → EReal) (w : (⟨2, ![2048, 2048]⟩ : Shape).Idx → EReal) (n : Fin 2048) : EReal :=
  x n + ∑ e : Fin 1024, l e * w (ix2 ⟨e.val, by omega⟩ n) + ∑ e : Fin 1024, r e * w (ix2 ⟨1024 + e.val, by omega⟩ n)

/-- A sum over 2048 columns, by halves. -/
theorem halves (f : Fin 2048 → EReal) : ∑ e, f e = ∑ e : Fin 1024, f ⟨e.val, by omega⟩ + ∑ e : Fin 1024, f ⟨1024 + e.val, by omega⟩ :=
  Fin.sum_univ_add (a := 1024) (b := 1024) f

theorem zero_word : (FloatOps.sitofp (F := Ideal) FTy.f32 (0#32) : EReal) = 0 := by
  show (((0#32 : BitVec 32).toInt : ℝ) : EReal) = 0
  simp

end Cert.Dense

end
-- ==== Proof.FfnValue.lean ====
module

public import proofs.«01_k».proof.Proof.Dense
public import proofs.«01_k».proof.Proof.Gen.FfnIdeal.Value
public import Idealize.ShloMosaic.Lib.StableHlo.ReadAt
public import Idealize.ShloMosaic.Lib.Pipeline.Value

/-! The feed-forward kernel's result: point `t` is the hidden block `t % 11` of the row block `t / 11`. The first point of
a row block norms its rows, every point adds its hidden block's contributions, and the last adds the residual. -/

@[expose] public section

set_option maxRecDepth 16384

noncomputable section

namespace Cert.FfnIdeal.Tile

open Idealize.ShloMosaic Idealize.ShloMosaic.TcCoe Idealize.SL.Sem Idealize.ShloMosaic.StableHlo
open Cert.FfnIdeal Cert.FfnIdeal.Gen Cert.Dense

variable (m : (ℓ : Loc nD τ sig) → Buf (Elt Ideal) ℓ)

/-! The arguments. -/

def xA (c : Dev nD) : S8192x2048.Idx → EReal := m ((c : Thread nD τ).loc main_arg0)
def scaleA (c : Dev nD) : S2048.Idx → EReal := m ((c : Thread nD τ).loc main_arg1)
def gateA (c : Dev nD) : S2048x5632.Idx → EReal := m ((c : Thread nD τ).loc main_arg2)
def upA (c : Dev nD) : S2048x5632.Idx → EReal := m ((c : Thread nD τ).loc main_arg3)
def downA (c : Dev nD) : S5632x2048.Idx → EReal := m ((c : Thread nD τ).loc main_arg4)

theorem x_entry (c : Dev nD) : (V m c main_arg0 : S8192x2048.Idx → EReal) = xA m c := by
  unfold V
  after_reads_simp
  rfl

theorem gate_entry (c : Dev nD) : (V m c main_v0 : S2048x5632.Idx → EReal) = gateA m c := by
  unfold V
  after_reads_simp
  rfl

theorem up_entry (c : Dev nD) : (V m c main_v1 : S2048x5632.Idx → EReal) = upA m c := by
  unfold V
  after_reads_simp
  rfl

theorem down_entry (c : Dev nD) : (V m c main_v2 : S5632x2048.Idx → EReal) = downA m c := by
  unfold V
  after_reads_simp
  rfl

theorem scale_entry (c : Dev nD) (r : Fin 1) (s : Fin 2048) : (V m c main_v3 : S1x2048.Idx → EReal) (ix2 r s) = scaleA m c (ix1 s) := by
  unfold V
  after_reads_at
  rfl

/-! The blocks a point reads. -/

theorem point_lt (t : Fin cfg0.N) : t.val < 176 := t.isLt.trans_eq N_0

theorem where0 : ∀ t : Fin grid0.N, win0_0.index t 0 = t.val / 11 ∧ win0_0.index t 1 = 0 := by decide +kernel
theorem where1 : ∀ t : Fin grid0.N, win0_1.index t 0 = 0 ∧ win0_1.index t 1 = 0 := by decide +kernel
theorem where2 : ∀ t : Fin grid0.N, win0_2.index t 0 = 0 ∧ win0_2.index t 1 = t.val % 11 := by decide +kernel
theorem where3 : ∀ t : Fin grid0.N, win0_3.index t 0 = 0 ∧ win0_3.index t 1 = t.val % 11 := by decide +kernel
theorem where4 : ∀ t : Fin grid0.N, win0_4.index t 0 = t.val % 11 ∧ win0_4.index t 1 = 0 := by decide +kernel
theorem where5 : ∀ t : Fin grid0.N, win0_5.index t 0 = t.val / 11 ∧ win0_5.index t 1 = 0 := by decide +kernel

theorem block0 (c : Dev nD) (t : Fin cfg0.N) (i : Fin 512) (e : Fin 2048) :
    iblk m c 0 t (ix2 i e) = rowOf (xA m c) (t.val / 11 * 512 + i.val) e := by
  unfold iblk
  rw [View.read_apply]
  show V m c main_arg0 _ = _
  rw [x_entry]
  refine rowOf_at _ _ _ _ ?_ ?_
  · show win0_0.index t 0 * 512 + 1 * i.val = _; rw [(where0 t).1]; omega
  · show win0_0.index t 1 * 2048 + 1 * e.val = _; rw [(where0 t).2]; omega

theorem block1 (c : Dev nD) (t : Fin cfg0.N) (r : Fin 1) (e : Fin 2048) : iblk m c 1 t (ix2 r e) = scaleA m c (ix1 e) := by
  unfold iblk
  rw [View.read_apply]
  show V m c main_v3 _ = _
  refine Eq.trans (congrArg (V m c main_v3) (funext fun a => Fin.ext ?_)) (scale_entry m c r e)
  match a with
  | ⟨0, _⟩ => show win0_1.index t 0 * 1 + 1 * r.val = r.val; rw [(where1 t).1]; omega
  | ⟨1, _⟩ => show win0_1.index t 1 * 2048 + 1 * e.val = e.val; rw [(where1 t).2]; omega

theorem block2 (c : Dev nD) (t : Fin cfg0.N) (d : Fin 2048) (x : Fin 512) :
    iblk m c 2 t (ix2 d x) = gateA m c (ix2 d ⟨512 * (t.val % 11) + x.val, by omega⟩) := by
  unfold iblk
  rw [View.read_apply]
  show V m c main_v0 _ = _
  rw [gate_entry]
  refine congrArg (gateA m c) (funext fun a => Fin.ext ?_)
  match a with
  | ⟨0, _⟩ => show win0_2.index t 0 * 2048 + 1 * d.val = d.val; rw [(where2 t).1]; omega
  | ⟨1, _⟩ => show win0_2.index t 1 * 512 + 1 * x.val = 512 * (t.val % 11) + x.val; rw [(where2 t).2]; omega

theorem block3 (c : Dev nD) (t : Fin cfg0.N) (d : Fin 2048) (x : Fin 512) :
    iblk m c 3 t (ix2 d x) = upA m c (ix2 d ⟨512 * (t.val % 11) + x.val, by omega⟩) := by
  unfold iblk
  rw [View.read_apply]
  show V m c main_v1 _ = _
  rw [up_entry]
  refine congrArg (upA m c) (funext fun a => Fin.ext ?_)
  match a with
  | ⟨0, _⟩ => show win0_3.index t 0 * 2048 + 1 * d.val = d.val; rw [(where3 t).1]; omega
  | ⟨1, _⟩ => show win0_3.index t 1 * 512 + 1 * x.val = 512 * (t.val % 11) + x.val; rw [(where3 t).2]; omega

theorem block4 (c : Dev nD) (t : Fin cfg0.N) (x : Fin 512) (n : Fin 2048) :
    iblk m c 4 t (ix2 x n) = downA m c (ix2 ⟨512 * (t.val % 11) + x.val, by omega⟩ n) := by
  unfold iblk
  rw [View.read_apply]
  show V m c main_v2 _ = _
  rw [down_entry]
  refine congrArg (downA m c) (funext fun a => Fin.ext ?_)
  match a with
  | ⟨0, _⟩ => show win0_4.index t 0 * 512 + 1 * x.val = 512 * (t.val % 11) + x.val; rw [(where4 t).1]; omega
  | ⟨1, _⟩ => show win0_4.index t 1 * 2048 + 1 * n.val = n.val; rw [(where4 t).2]; omega

/-! What a point leaves, as its computation over what it reads. -/

theorem zero2 : (![0, 0] : Fin 2 → Nat) = fun _ => 0 := funext fun a => by fin_cases a <;> rfl

/-- The point's contributions added to a block. -/
def add (c : Dev nD) (t : Fin cfg0.N) (h : FVec Ideal S512x2048 .bf16) (o : FVec Ideal S512x2048 .f32) : FVec Ideal S512x2048 .f32 :=
  k0_pay3 (F := Ideal) h (iblk m c 2 t) (iblk m c 3 t) o (iblk m c 4 t)

/-- What the point before left. -/
def before (c : Dev nD) (t : Fin cfg0.N) : Vec Ideal S512x2048 .f32 × Vec Ideal S512x2048 .bf16 :=
  outsAt0 m c (t.val - 1) (Nat.lt_of_le_of_lt (Nat.sub_le _ _) t.isLt)

theorem rows_A (c : Dev nD) (t : Fin cfg0.N) (h0 : t.val % 11 = 0) :
    (outsAt0 m c t.val t.isLt).2 = k0_pay1 (F := Ideal) (iblk m c 0 t) (iblk m c 1 t) := by
  have hsc : scM0_0.IsWhole := Memref.isWhole_whole _
  rw [outsAt0_A m c t h0 (by omega)]
  dsimp only
  unfold sout0_A_0
  rw [View.read_writes_eq_canon _ _ _ (fun y => scover0_A_0 (y := y) ..)]
  unfold kernelRun0_A
  dsimp only
  sl_unfold_words
  simp only [View.canon_cons_unit_zero (S := S512x2048) zero2, View.canon_unit_zero (S := S512x2048) zero2, View.readCov_unit_zero (S := S512x2048) _ zero2,
    View.readAt_eq_ld, (hs0_0 t).read_unread, (hs0_1 t).read_unread, (hs0_2 t).read_unread, (hs0_3 t).read_unread, (hs0_4 t).read_unread, hsc.read_unread,
    View.ld_unit_zero (S := S512x2048) zero2, View.ld_unit_zero (S := S1x2048) zero2, View.ld_unit_zero (S := S2048x512) zero2]

theorem out_A (c : Dev nD) (t : Fin cfg0.N) (h0 : t.val % 11 = 0) :
    (outsAt0 m c t.val t.isLt).1 = add m c t (k0_pay1 (F := Ideal) (iblk m c 0 t) (iblk m c 1 t)) k0_pay2 := by
  have hsc : scM0_0.IsWhole := Memref.isWhole_whole _
  rw [outsAt0_A m c t h0 (by omega)]
  dsimp only
  unfold out0_A_5
  rw [View.read_writes_eq_canon _ _ _ (fun y => cover0_A_5 (y := y) ..)]
  unfold kernelRun0_A
  dsimp only
  sl_unfold_words
  simp only [View.canon_cons_unit_zero (S := S512x2048) zero2, View.canon_unit_zero (S := S512x2048) zero2, View.readCov_unit_zero (S := S512x2048) _ zero2,
    View.readAt_eq_ld, (hs0_0 t).read_unread, (hs0_1 t).read_unread, (hs0_2 t).read_unread, (hs0_3 t).read_unread, (hs0_4 t).read_unread, hsc.read_unread,
    View.ld_unit_zero (S := S512x2048) zero2, View.ld_unit_zero (S := S1x2048) zero2, View.ld_unit_zero (S := S2048x512) zero2]
  rfl

theorem rows_B (c : Dev nD) (t : Fin cfg0.N) (h0 : ¬t.val % 11 = 0) (h1 : ¬t.val % 11 = 10) :
    (outsAt0 m c t.val t.isLt).2 = (before m c t).2 := by
  rw [outsAt0_B m c t h0 h1]
  rfl

theorem out_B (c : Dev nD) (t : Fin cfg0.N) (h0 : ¬t.val % 11 = 0) (h1 : ¬t.val % 11 = 10) :
    (outsAt0 m c t.val t.isLt).1 = add m c t (before m c t).2 (before m c t).1 := by
  have hsc : scM0_0.IsWhole := Memref.isWhole_whole _
  rw [outsAt0_B m c t h0 h1]
  dsimp only
  unfold out0_B_5
  rw [View.read_writes_eq_canon _ _ _ (fun y => cover0_B_5 (y := y) ..)]
  unfold kernelRun0_B
  dsimp only
  sl_unfold_words
  simp only [View.canon_cons_unit_zero (S := S512x2048) zero2, View.canon_unit_zero (S := S512x2048) zero2, View.readCov_unit_zero (S := S512x2048) _ zero2,
    View.readAt_eq_ld, (hs0_0 t).read_unread, (hs0_1 t).read_unread, (hs0_2 t).read_unread, (hs0_3 t).read_unread, (hs0_4 t).read_unread, (hs0_5 t).read_unread, hsc.read_unread,
    View.ld_unit_zero (S := S512x2048) zero2, View.ld_unit_zero (S := S1x2048) zero2, View.ld_unit_zero (S := S2048x512) zero2]
  rfl

theorem out_C (c : Dev nD) (t : Fin cfg0.N) (h1 : t.val % 11 = 10) :
    (outsAt0 m c t.val t.isLt).1 = k0_pay4 (F := Ideal) (iblk m c 0 t) (add m c t (before m c t).2 (before m c t).1) := by
  have hsc : scM0_0.IsWhole := Memref.isWhole_whole _
  rw [outsAt0_C m c t (by omega) h1]
  dsimp only
  unfold out0_C_5
  rw [View.read_writes_eq_canon _ _ _ (fun y => cover0_C_5 (y := y) ..)]
  unfold kernelRun0_C
  dsimp only
  sl_unfold_words
  simp only [View.canon_cons_unit_zero (S := S512x2048) zero2, View.canon_unit_zero (S := S512x2048) zero2, View.readCov_unit_zero (S := S512x2048) _ zero2,
    View.readAt_eq_ld, (hs0_0 t).read_unread, (hs0_1 t).read_unread, (hs0_2 t).read_unread, (hs0_3 t).read_unread, (hs0_4 t).read_unread, (hs0_5 t).read_unread, hsc.read_unread,
    View.ld_unit_zero (S := S512x2048) zero2, View.ld_unit_zero (S := S1x2048) zero2, View.ld_unit_zero (S := S2048x512) zero2]
  rfl

/-! The blocks' elements. -/

/-- The normed row `a`. -/
def hrow (c : Dev nD) (a : ℕ) : Fin 2048 → EReal := normed (rowOf (xA m c) a) fun d => scaleA m c (ix1 d)

theorem rows_eq (c : Dev nD) (t : Fin cfg0.N) (i : Fin 512) (d : Fin 2048) :
    k0_pay1 (F := Ideal) (iblk m c 0 t) (iblk m c 1 t) (ix2 i d) = hrow m c (t.val / 11 * 512 + i.val) d := by
  pointwise [k0_pay1]
  simp only [block0 m c t, block1 m c t]
  rfl

theorem add_eq (c : Dev nD) (t : Fin cfg0.N) (h : FVec Ideal S512x2048 .bf16) (o : FVec Ideal S512x2048 .f32)
    (hh : ∀ (i : Fin 512) (d : Fin 2048), h (ix2 i d) = hrow m c (t.val / 11 * 512 + i.val) d)
    (ho : ∀ (i : Fin 512) (n : Fin 2048), o (ix2 i n) = part (hrow m c (t.val / 11 * 512 + i.val)) (gateA m c) (upA m c) (downA m c) n (t.val % 11))
    (i : Fin 512) (n : Fin 2048) :
    add m c t h o (ix2 i n) = part (hrow m c (t.val / 11 * 512 + i.val)) (gateA m c) (upA m c) (downA m c) n (t.val % 11 + 1) := by
  unfold add
  pointwise [k0_pay3]
  simp only [hh, ho, block2 m c t, block3 m c t, block4 m c t]
  rw [part_succ _ _ _ _ _ _ (by omega)]
  rfl

/-- After each point but a row block's last: the block's normed rows, and the contributions so far. -/
theorem after_points (c : Dev nD) : ∀ (n : ℕ) (h : n < cfg0.N), n % 11 ≠ 10 →
    (∀ (i : Fin 512) (d : Fin 2048), (outsAt0 m c n h).2 (ix2 i d) = hrow m c (n / 11 * 512 + i.val) d)
    ∧ ∀ (i : Fin 512) (d : Fin 2048), (outsAt0 m c n h).1 (ix2 i d)
      = part (hrow m c (n / 11 * 512 + i.val)) (gateA m c) (upA m c) (downA m c) d (n % 11 + 1) := by
  have first : ∀ (t : Fin cfg0.N), t.val % 11 = 0 →
      (∀ (i : Fin 512) (d : Fin 2048), (outsAt0 m c t.val t.isLt).2 (ix2 i d) = hrow m c (t.val / 11 * 512 + i.val) d)
      ∧ ∀ (i : Fin 512) (d : Fin 2048), (outsAt0 m c t.val t.isLt).1 (ix2 i d)
        = part (hrow m c (t.val / 11 * 512 + i.val)) (gateA m c) (upA m c) (downA m c) d (t.val % 11 + 1) := fun t h0 => by
    rw [rows_A m c t h0, out_A m c t h0]
    refine ⟨rows_eq m c t, add_eq m c t _ _ (rows_eq m c t) fun i n => ?_⟩
    pointwise [k0_pay2]
    rw [h0, part_zero]
  intro n
  induction n with
  | zero => exact fun h _ => first ⟨0, h⟩ rfl
  | succ n ih =>
    intro h h1
    by_cases h0 : (n + 1) % 11 = 0
    · exact first ⟨n + 1, h⟩ h0
    · have hb := ih (Nat.lt_of_succ_lt h) (by omega)
      rw [show n / 11 = (n + 1) / 11 by omega, show n % 11 + 1 = (n + 1) % 11 by omega] at hb
      rw [show (outsAt0 m c (n + 1) h).2 = _ from rows_B m c ⟨n + 1, h⟩ h0 h1, show (outsAt0 m c (n + 1) h).1 = _ from out_B m c ⟨n + 1, h⟩ h0 h1]
      exact ⟨hb.1, add_eq m c ⟨n + 1, h⟩ _ _ hb.1 hb.2⟩

/-- The element of the result in row `a` and column `n`. -/
def resultAt (c : Dev nD) (a : ℕ) (n : Fin 2048) : EReal :=
  after (hrow m c a) (gateA m c) (upA m c) (downA m c) n (rowOf (xA m c) a)

theorem last_point (c : Dev nD) (t : Fin cfg0.N) (h1 : t.val % 11 = 10) (i : Fin 512) (n : Fin 2048) :
    (outsAt0 m c t.val t.isLt).1 (ix2 i n) = resultAt m c (t.val / 11 * 512 + i.val) n := by
  have hb := after_points m c (t.val - 1) (Nat.lt_of_le_of_lt (Nat.sub_le _ _) t.isLt) (by omega)
  rw [show (t.val - 1) / 11 = t.val / 11 by omega, show (t.val - 1) % 11 + 1 = t.val % 11 by omega] at hb
  rw [out_C m c t h1]
  pointwise [k0_pay4]
  rw [add_eq m c t (before m c t).2 (before m c t).1 hb.1 hb.2, h1, part_all, block0 m c t]
  rfl

/-- The result. -/
def resultArr (c : Dev nD) : S8192x2048.Idx → EReal := fun y => resultAt m c (y 0).val (y 1)

theorem final (c : Dev nD) : (dats m 0 c).arrAt 5 cfg0.N = resultArr m c := by
  refine (dats m 0 c).arrAt_eq_of_cover 5 (resultArr m c) ?_ ?_
  · intro t hf
    rw [Value.flushed5]
    funext y
    rw [View.read_apply]
    show (outsAt0 m c t.val t.isLt).1 y = resultArr m c _
    have hy0 : (y 0).val < 512 := (y 0).isLt
    have hy1 : (y 1).val < 2048 := (y 1).isLt
    rw [show (outsAt0 m c t.val t.isLt).1 y = (outsAt0 m c t.val t.isLt).1 (ix2 (⟨(y 0).val, hy0⟩ : Fin 512) (⟨(y 1).val, hy1⟩ : Fin 2048)) from
      congrArg (outsAt0 m c t.val t.isLt).1 (funext fun a => by fin_cases a <;> rfl)]
    rw [last_point m c t ((flush0_5 t).mp hf)]
    unfold resultArr
    refine congrArg₂ (resultAt m c) ?_ (Fin.ext ?_)
    · show _ = win0_5.index t 0 * 512 + 1 * (y 0).val
      rw [(where5 t).1]
      show t.val / 11 * 512 + (y 0).val = _
      omega
    · show (y 1).val = win0_5.index t 1 * 2048 + 1 * (y 1).val
      rw [(where5 t).2]
      omega
  · intro y
    have hy0 : (y 0).val < 8192 := (y 0).isLt
    have hy1 : (y 1).val < 2048 := (y 1).isLt
    obtain ⟨t, ht⟩ : ∃ t : Fin cfg0.N, t.val = (y 0).val / 512 * 11 + 10 := ⟨⟨_, by rw [show cfg0.N = 176 from N_0]; omega⟩, rfl⟩
    refine ⟨t, (flush0_5 t).mpr (by omega), ?_⟩
    show y ∈ ((View.whole main_v4).slice (win0_5.rect t)).set
    rw [View.set_slice_whole, Rect.mem_set_unit]
    intro a
    match a with
    | ⟨0, _⟩ =>
      show win0_5.index t 0 * 512 ≤ (y 0).val ∧ (y 0).val < win0_5.index t 0 * 512 + 512
      rw [(where5 t).1]
      omega
    | ⟨1, _⟩ =>
      show win0_5.index t 1 * 2048 ≤ (y 1).val ∧ (y 1).val < win0_5.index t 1 * 2048 + 2048
      rw [(where5 t).2]
      omega

end Cert.FfnIdeal.Tile

end
-- ==== Proof.FfnRef.lean ====
module

public import proofs.«01_k».proof.Proof.Dense
public import proofs.«01_k».proof.Proof.Gen.FfnRefIdeal.Run

/-! The feed-forward reference's result, an element at a time. -/

@[expose] public section

set_option maxRecDepth 16384

noncomputable section

namespace Cert.FfnRefIdeal.Rows

open Idealize.ShloMosaic Idealize.ShloMosaic.TcCoe Idealize.SL.Sem
open Cert.FfnRefIdeal Cert.Dense

variable (m : (ℓ : Loc nD τ sig) → Buf (Elt Ideal) ℓ)

def xA (c : Dev nD) : S8192x2048.Idx → EReal := m ((c.tc : Thread nD τ).loc main_arg0)
def scaleA (c : Dev nD) : S2048.Idx → EReal := m ((c.tc : Thread nD τ).loc main_arg1)
def gateA (c : Dev nD) : S2048x5632.Idx → EReal := m ((c.tc : Thread nD τ).loc main_arg2)
def upA (c : Dev nD) : S2048x5632.Idx → EReal := m ((c.tc : Thread nD τ).loc main_arg3)
def downA (c : Dev nD) : S5632x2048.Idx → EReal := m ((c.tc : Thread nD τ).loc main_arg4)

/-- The result. -/
def resultArr (c : Dev nD) : S8192x2048.Idx → EReal := fun y =>
  after (normed (rowOf (xA m c) (y 0).val) fun d => scaleA m c (ix1 d)) (gateA m c) (upA m c) (downA m c) (y 1) (rowOf (xA m c) (y 0).val)

theorem resultArr_at (c : Dev nD) (a : Fin 8192) (n : Fin 2048) : resultArr m c (ix2 a n) =
    after (normed (fun e => xA m c (ix2 a e)) fun d => scaleA m c (ix1 d)) (gateA m c) (upA m c) (downA m c) n (fun e => xA m c (ix2 a e)) := by
  rw [show (fun e => xA m c (ix2 a e)) = rowOf (xA m c) a.val from funext fun e => (rowOf_eq (xA m c) a e).symm]
  rfl

theorem result (ρ : Dev nD → PrngReg) :
    θ_run defs (onTc (τ := τ) (main (F := Ideal))) ⟨m, fun _ => 0, ρ⟩ fun r => ∀ c : Dev nD,
      r.2.mem ((c.tc : Thread nD τ).loc main_v20) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
    refine ext2 (n := 8192) (k := 2048) fun a n => ?_
    rw [resultArr_at]
    unfold after contrib act normed
    pointwise
    rfl), (h c).2⟩) (Value.run (F := Ideal) m ρ)

end Cert.FfnRefIdeal.Rows

end
-- ==== Proof.LastValue.lean ====
module

public import proofs.«01_k».proof.Proof.Dense
public import proofs.«01_k».proof.Proof.Gen.LastIdeal.Value
public import Idealize.ShloMosaic.Lib.StableHlo.ReadAt
public import Idealize.ShloMosaic.Lib.Pipeline.Value

/-! The result of the feed-forward kernel that norms its output: point `t` is the hidden block `t % 11` of the row block `t / 11`. The first point of
a row block norms its rows, every point adds its hidden block's contributions, and the last adds the residual and norms the row. -/

@[expose] public section

set_option maxRecDepth 16384

noncomputable section

namespace Cert.LastIdeal.Tile

open Idealize.ShloMosaic Idealize.ShloMosaic.TcCoe Idealize.SL.Sem Idealize.ShloMosaic.StableHlo
open Cert.LastIdeal Cert.LastIdeal.Gen Cert.Dense

variable (m : (ℓ : Loc nD τ sig) → Buf (Elt Ideal) ℓ)

/-! The arguments. -/

def xA (c : Dev nD) : S8192x2048.Idx → EReal := m ((c : Thread nD τ).loc main_arg0)
def scaleA (c : Dev nD) : S2048.Idx → EReal := m ((c : Thread nD τ).loc main_arg1)
def gateA (c : Dev nD) : S2048x5632.Idx → EReal := m ((c : Thread nD τ).loc main_arg2)
def upA (c : Dev nD) : S2048x5632.Idx → EReal := m ((c : Thread nD τ).loc main_arg3)
def downA (c : Dev nD) : S5632x2048.Idx → EReal := m ((c : Thread nD τ).loc main_arg4)

def finalA (c : Dev nD) : S2048.Idx → EReal := m ((c : Thread nD τ).loc main_arg5)

theorem x_entry (c : Dev nD) : (V m c main_arg0 : S8192x2048.Idx → EReal) = xA m c := by
  unfold V
  after_reads_simp
  rfl

theorem gate_entry (c : Dev nD) : (V m c main_v0 : S2048x5632.Idx → EReal) = gateA m c := by
  unfold V
  after_reads_simp
  rfl

theorem up_entry (c : Dev nD) : (V m c main_v1 : S2048x5632.Idx → EReal) = upA m c := by
  unfold V
  after_reads_simp
  rfl

theorem down_entry (c : Dev nD) : (V m c main_v2 : S5632x2048.Idx → EReal) = downA m c := by
  unfold V
  after_reads_simp
  rfl

theorem scale_entry (c : Dev nD) (r : Fin 1) (s : Fin 2048) : (V m c main_v3 : S1x2048.Idx → EReal) (ix2 r s) = scaleA m c (ix1 s) := by
  unfold V
  after_reads_at
  rfl

theorem final_entry (c : Dev nD) (r : Fin 1) (s : Fin 2048) : (V m c main_v4 : S1x2048.Idx → EReal) (ix2 r s) = finalA m c (ix1 s) := by
  unfold V
  after_reads_at
  rfl

/-! The blocks a point reads. -/

theorem point_lt (t : Fin cfg0.N) : t.val < 176 := t.isLt.trans_eq N_0

theorem where0 : ∀ t : Fin grid0.N, win0_0.index t 0 = t.val / 11 ∧ win0_0.index t 1 = 0 := by decide +kernel
theorem where1 : ∀ t : Fin grid0.N, win0_1.index t 0 = 0 ∧ win0_1.index t 1 = 0 := by decide +kernel
theorem where2 : ∀ t : Fin grid0.N, win0_2.index t 0 = 0 ∧ win0_2.index t 1 = t.val % 11 := by decide +kernel
theorem where3 : ∀ t : Fin grid0.N, win0_3.index t 0 = 0 ∧ win0_3.index t 1 = t.val % 11 := by decide +kernel
theorem where4 : ∀ t : Fin grid0.N, win0_4.index t 0 = t.val % 11 ∧ win0_4.index t 1 = 0 := by decide +kernel
theorem where5 : ∀ t : Fin grid0.N, win0_5.index t 0 = 0 ∧ win0_5.index t 1 = 0 := by decide +kernel
theorem where6 : ∀ t : Fin grid0.N, win0_6.index t 0 = t.val / 11 ∧ win0_6.index t 1 = 0 := by decide +kernel

theorem block0 (c : Dev nD) (t : Fin cfg0.N) (i : Fin 512) (e : Fin 2048) :
    iblk m c 0 t (ix2 i e) = rowOf (xA m c) (t.val / 11 * 512 + i.val) e := by
  unfold iblk
  rw [View.read_apply]
  show V m c main_arg0 _ = _
  rw [x_entry]
  refine rowOf_at _ _ _ _ ?_ ?_
  · show win0_0.index t 0 * 512 + 1 * i.val = _; rw [(where0 t).1]; omega
  · show win0_0.index t 1 * 2048 + 1 * e.val = _; rw [(where0 t).2]; omega

theorem block1 (c : Dev nD) (t : Fin cfg0.N) (r : Fin 1) (e : Fin 2048) : iblk m c 1 t (ix2 r e) = scaleA m c (ix1 e) := by
  unfold iblk
  rw [View.read_apply]
  show V m c main_v3 _ = _
  refine Eq.trans (congrArg (V m c main_v3) (funext fun a => Fin.ext ?_)) (scale_entry m c r e)
  match a with
  | ⟨0, _⟩ => show win0_1.index t 0 * 1 + 1 * r.val = r.val; rw [(where1 t).1]; omega
  | ⟨1, _⟩ => show win0_1.index t 1 * 2048 + 1 * e.val = e.val; rw [(where1 t).2]; omega

theorem block2 (c : Dev nD) (t : Fin cfg0.N) (d : Fin 2048) (x : Fin 512) :
    iblk m c 2 t (ix2 d x) = gateA m c (ix2 d ⟨512 * (t.val % 11) + x.val, by omega⟩) := by
  unfold iblk
  rw [View.read_apply]
  show V m c main_v0 _ = _
  rw [gate_entry]
  refine congrArg (gateA m c) (funext fun a => Fin.ext ?_)
  match a with
  | ⟨0, _⟩ => show win0_2.index t 0 * 2048 + 1 * d.val = d.val; rw [(where2 t).1]; omega
  | ⟨1, _⟩ => show win0_2.index t 1 * 512 + 1 * x.val = 512 * (t.val % 11) + x.val; rw [(where2 t).2]; omega

theorem block3 (c : Dev nD) (t : Fin cfg0.N) (d : Fin 2048) (x : Fin 512) :
    iblk m c 3 t (ix2 d x) = upA m c (ix2 d ⟨512 * (t.val % 11) + x.val, by omega⟩) := by
  unfold iblk
  rw [View.read_apply]
  show V m c main_v1 _ = _
  rw [up_entry]
  refine congrArg (upA m c) (funext fun a => Fin.ext ?_)
  match a with
  | ⟨0, _⟩ => show win0_3.index t 0 * 2048 + 1 * d.val = d.val; rw [(where3 t).1]; omega
  | ⟨1, _⟩ => show win0_3.index t 1 * 512 + 1 * x.val = 512 * (t.val % 11) + x.val; rw [(where3 t).2]; omega

theorem block4 (c : Dev nD) (t : Fin cfg0.N) (x : Fin 512) (n : Fin 2048) :
    iblk m c 4 t (ix2 x n) = downA m c (ix2 ⟨512 * (t.val % 11) + x.val, by omega⟩ n) := by
  unfold iblk
  rw [View.read_apply]
  show V m c main_v2 _ = _
  rw [down_entry]
  refine congrArg (downA m c) (funext fun a => Fin.ext ?_)
  match a with
  | ⟨0, _⟩ => show win0_4.index t 0 * 512 + 1 * x.val = 512 * (t.val % 11) + x.val; rw [(where4 t).1]; omega
  | ⟨1, _⟩ => show win0_4.index t 1 * 2048 + 1 * n.val = n.val; rw [(where4 t).2]; omega

theorem block5 (c : Dev nD) (t : Fin cfg0.N) (r : Fin 1) (e : Fin 2048) : iblk m c 5 t (ix2 r e) = finalA m c (ix1 e) := by
  unfold iblk
  rw [View.read_apply]
  show V m c main_v4 _ = _
  refine Eq.trans (congrArg (V m c main_v4) (funext fun a => Fin.ext ?_)) (final_entry m c r e)
  match a with
  | ⟨0, _⟩ => show win0_5.index t 0 * 1 + 1 * r.val = r.val; rw [(where5 t).1]; omega
  | ⟨1, _⟩ => show win0_5.index t 1 * 2048 + 1 * e.val = e.val; rw [(where5 t).2]; omega

/-! What a point leaves, as its computation over what it reads. -/

theorem zero2 : (![0, 0] : Fin 2 → Nat) = fun _ => 0 := funext fun a => by fin_cases a <;> rfl

/-- The point's contributions added to a block. -/
def add (c : Dev nD) (t : Fin cfg0.N) (h : FVec Ideal S512x2048 .bf16) (o : FVec Ideal S512x2048 .f32) : FVec Ideal S512x2048 .f32 :=
  k0_pay3 (F := Ideal) h (iblk m c 2 t) (iblk m c 3 t) o (iblk m c 4 t)

/-- What the point before left. -/
def before (c : Dev nD) (t : Fin cfg0.N) : Vec Ideal S512x2048 .f32 × Vec Ideal S512x2048 .bf16 :=
  outsAt0 m c (t.val - 1) (Nat.lt_of_le_of_lt (Nat.sub_le _ _) t.isLt)

theorem rows_A (c : Dev nD) (t : Fin cfg0.N) (h0 : t.val % 11 = 0) :
    (outsAt0 m c t.val t.isLt).2 = k0_pay1 (F := Ideal) (iblk m c 0 t) (iblk m c 1 t) := by
  have hsc : scM0_0.IsWhole := Memref.isWhole_whole _
  rw [outsAt0_A m c t h0 (by omega)]
  dsimp only
  unfold sout0_A_0
  rw [View.read_writes_eq_canon _ _ _ (fun y => scover0_A_0 (y := y) ..)]
  unfold kernelRun0_A
  dsimp only
  sl_unfold_words
  simp only [View.canon_cons_unit_zero (S := S512x2048) zero2, View.canon_unit_zero (S := S512x2048) zero2, View.readCov_unit_zero (S := S512x2048) _ zero2,
    View.readAt_eq_ld, (hs0_0 t).read_unread, (hs0_1 t).read_unread, (hs0_2 t).read_unread, (hs0_3 t).read_unread, (hs0_4 t).read_unread, (hs0_5 t).read_unread, hsc.read_unread,
    View.ld_unit_zero (S := S512x2048) zero2, View.ld_unit_zero (S := S1x2048) zero2, View.ld_unit_zero (S := S2048x512) zero2]

theorem out_A (c : Dev nD) (t : Fin cfg0.N) (h0 : t.val % 11 = 0) :
    (outsAt0 m c t.val t.isLt).1 = add m c t (k0_pay1 (F := Ideal) (iblk m c 0 t) (iblk m c 1 t)) k0_pay2 := by
  have hsc : scM0_0.IsWhole := Memref.isWhole_whole _
  rw [outsAt0_A m c t h0 (by omega)]
  dsimp only
  unfold out0_A_6
  rw [View.read_writes_eq_canon _ _ _ (fun y => cover0_A_6 (y := y) ..)]
  unfold kernelRun0_A
  dsimp only
  sl_unfold_words
  simp only [View.canon_cons_unit_zero (S := S512x2048) zero2, View.canon_unit_zero (S := S512x2048) zero2, View.readCov_unit_zero (S := S512x2048) _ zero2,
    View.readAt_eq_ld, (hs0_0 t).read_unread, (hs0_1 t).read_unread, (hs0_2 t).read_unread, (hs0_3 t).read_unread, (hs0_4 t).read_unread, (hs0_5 t).read_unread, hsc.read_unread,
    View.ld_unit_zero (S := S512x2048) zero2, View.ld_unit_zero (S := S1x2048) zero2, View.ld_unit_zero (S := S2048x512) zero2]
  rfl

theorem rows_B (c : Dev nD) (t : Fin cfg0.N) (h0 : ¬t.val % 11 = 0) (h1 : ¬t.val % 11 = 10) :
    (outsAt0 m c t.val t.isLt).2 = (before m c t).2 := by
  rw [outsAt0_B m c t h0 h1]
  rfl

theorem out_B (c : Dev nD) (t : Fin cfg0.N) (h0 : ¬t.val % 11 = 0) (h1 : ¬t.val % 11 = 10) :
    (outsAt0 m c t.val t.isLt).1 = add m c t (before m c t).2 (before m c t).1 := by
  have hsc : scM0_0.IsWhole := Memref.isWhole_whole _
  rw [outsAt0_B m c t h0 h1]
  dsimp only
  unfold out0_B_6
  rw [View.read_writes_eq_canon _ _ _ (fun y => cover0_B_6 (y := y) ..)]
  unfold kernelRun0_B
  dsimp only
  sl_unfold_words
  simp only [View.canon_cons_unit_zero (S := S512x2048) zero2, View.canon_unit_zero (S := S512x2048) zero2, View.readCov_unit_zero (S := S512x2048) _ zero2,
    View.readAt_eq_ld, (hs0_0 t).read_unread, (hs0_1 t).read_unread, (hs0_2 t).read_unread, (hs0_3 t).read_unread, (hs0_4 t).read_unread, (hs0_5 t).read_unread, (hs0_6 t).read_unread, hsc.read_unread,
    View.ld_unit_zero (S := S512x2048) zero2, View.ld_unit_zero (S := S1x2048) zero2, View.ld_unit_zero (S := S2048x512) zero2]
  rfl

theorem out_C (c : Dev nD) (t : Fin cfg0.N) (h1 : t.val % 11 = 10) :
    (outsAt0 m c t.val t.isLt).1 = k0_pay4 (F := Ideal) (iblk m c 0 t) (add m c t (before m c t).2 (before m c t).1) (iblk m c 5 t) := by
  have hsc : scM0_0.IsWhole := Memref.isWhole_whole _
  rw [outsAt0_C m c t (by omega) h1]
  dsimp only
  unfold out0_C_6
  rw [View.read_writes_eq_canon _ _ _ (fun y => cover0_C_6 (y := y) ..)]
  unfold kernelRun0_C
  dsimp only
  sl_unfold_words
  simp only [View.canon_cons_unit_zero (S := S512x2048) zero2, View.canon_unit_zero (S := S512x2048) zero2, View.readCov_unit_zero (S := S512x2048) _ zero2,
    View.readAt_eq_ld, (hs0_0 t).read_unread, (hs0_1 t).read_unread, (hs0_2 t).read_unread, (hs0_3 t).read_unread, (hs0_4 t).read_unread, (hs0_5 t).read_unread, (hs0_6 t).read_unread, hsc.read_unread,
    View.ld_unit_zero (S := S512x2048) zero2, View.ld_unit_zero (S := S1x2048) zero2, View.ld_unit_zero (S := S2048x512) zero2]
  rfl

/-! The blocks' elements. -/

/-- The normed row `a`. -/
def hrow (c : Dev nD) (a : ℕ) : Fin 2048 → EReal := normed (rowOf (xA m c) a) fun d => scaleA m c (ix1 d)

theorem rows_eq (c : Dev nD) (t : Fin cfg0.N) (i : Fin 512) (d : Fin 2048) :
    k0_pay1 (F := Ideal) (iblk m c 0 t) (iblk m c 1 t) (ix2 i d) = hrow m c (t.val / 11 * 512 + i.val) d := by
  pointwise [k0_pay1]
  simp only [block0 m c t, block1 m c t]
  rfl

theorem add_eq (c : Dev nD) (t : Fin cfg0.N) (h : FVec Ideal S512x2048 .bf16) (o : FVec Ideal S512x2048 .f32)
    (hh : ∀ (i : Fin 512) (d : Fin 2048), h (ix2 i d) = hrow m c (t.val / 11 * 512 + i.val) d)
    (ho : ∀ (i : Fin 512) (n : Fin 2048), o (ix2 i n) = part (hrow m c (t.val / 11 * 512 + i.val)) (gateA m c) (upA m c) (downA m c) n (t.val % 11))
    (i : Fin 512) (n : Fin 2048) :
    add m c t h o (ix2 i n) = part (hrow m c (t.val / 11 * 512 + i.val)) (gateA m c) (upA m c) (downA m c) n (t.val % 11 + 1) := by
  unfold add
  pointwise [k0_pay3]
  simp only [hh, ho, block2 m c t, block3 m c t, block4 m c t]
  rw [part_succ _ _ _ _ _ _ (by omega)]
  rfl

/-- After each point but a row block's last: the block's normed rows, and the contributions so far. -/
theorem after_points (c : Dev nD) : ∀ (n : ℕ) (h : n < cfg0.N), n % 11 ≠ 10 →
    (∀ (i : Fin 512) (d : Fin 2048), (outsAt0 m c n h).2 (ix2 i d) = hrow m c (n / 11 * 512 + i.val) d)
    ∧ ∀ (i : Fin 512) (d : Fin 2048), (outsAt0 m c n h).1 (ix2 i d)
      = part (hrow m c (n / 11 * 512 + i.val)) (gateA m c) (upA m c) (downA m c) d (n % 11 + 1) := by
  have first : ∀ (t : Fin cfg0.N), t.val % 11 = 0 →
      (∀ (i : Fin 512) (d : Fin 2048), (outsAt0 m c t.val t.isLt).2 (ix2 i d) = hrow m c (t.val / 11 * 512 + i.val) d)
      ∧ ∀ (i : Fin 512) (d : Fin 2048), (outsAt0 m c t.val t.isLt).1 (ix2 i d)
        = part (hrow m c (t.val / 11 * 512 + i.val)) (gateA m c) (upA m c) (downA m c) d (t.val % 11 + 1) := fun t h0 => by
    rw [rows_A m c t h0, out_A m c t h0]
    refine ⟨rows_eq m c t, add_eq m c t _ _ (rows_eq m c t) fun i n => ?_⟩
    pointwise [k0_pay2]
    rw [h0, part_zero]
  intro n
  induction n with
  | zero => exact fun h _ => first ⟨0, h⟩ rfl
  | succ n ih =>
    intro h h1
    by_cases h0 : (n + 1) % 11 = 0
    · exact first ⟨n + 1, h⟩ h0
    · have hb := ih (Nat.lt_of_succ_lt h) (by omega)
      rw [show n / 11 = (n + 1) / 11 by omega, show n % 11 + 1 = (n + 1) % 11 by omega] at hb
      rw [show (outsAt0 m c (n + 1) h).2 = _ from rows_B m c ⟨n + 1, h⟩ h0 h1, show (outsAt0 m c (n + 1) h).1 = _ from out_B m c ⟨n + 1, h⟩ h0 h1]
      exact ⟨hb.1, add_eq m c ⟨n + 1, h⟩ _ _ hb.1 hb.2⟩

/-- The element of the result in row `a` and column `n`. -/
def resultAt (c : Dev nD) (a : ℕ) (n : Fin 2048) : EReal :=
  normed (fun e => after (hrow m c a) (gateA m c) (upA m c) (downA m c) e (rowOf (xA m c) a)) (fun e => finalA m c (ix1 e)) n

theorem last_point (c : Dev nD) (t : Fin cfg0.N) (h1 : t.val % 11 = 10) (i : Fin 512) (n : Fin 2048) :
    (outsAt0 m c t.val t.isLt).1 (ix2 i n) = resultAt m c (t.val / 11 * 512 + i.val) n := by
  have hb := after_points m c (t.val - 1) (Nat.lt_of_le_of_lt (Nat.sub_le _ _) t.isLt) (by omega)
  rw [show (t.val - 1) / 11 = t.val / 11 by omega, show (t.val - 1) % 11 + 1 = t.val % 11 by omega] at hb
  rw [out_C m c t h1]
  pointwise [k0_pay4]
  simp only [add_eq m c t (before m c t).2 (before m c t).1 hb.1 hb.2, h1, part_all, block0 m c t, block5 m c t]
  rfl

/-- The result. -/
def resultArr (c : Dev nD) : S8192x2048.Idx → EReal := fun y => resultAt m c (y 0).val (y 1)

theorem final (c : Dev nD) : (dats m 0 c).arrAt 6 cfg0.N = resultArr m c := by
  refine (dats m 0 c).arrAt_eq_of_cover 6 (resultArr m c) ?_ ?_
  · intro t hf
    rw [Value.flushed6]
    funext y
    rw [View.read_apply]
    show (outsAt0 m c t.val t.isLt).1 y = resultArr m c _
    have hy0 : (y 0).val < 512 := (y 0).isLt
    have hy1 : (y 1).val < 2048 := (y 1).isLt
    rw [show (outsAt0 m c t.val t.isLt).1 y = (outsAt0 m c t.val t.isLt).1 (ix2 (⟨(y 0).val, hy0⟩ : Fin 512) (⟨(y 1).val, hy1⟩ : Fin 2048)) from
      congrArg (outsAt0 m c t.val t.isLt).1 (funext fun a => by fin_cases a <;> rfl)]
    rw [last_point m c t ((flush0_6 t).mp hf)]
    unfold resultArr
    refine congrArg₂ (resultAt m c) ?_ (Fin.ext ?_)
    · show _ = win0_6.index t 0 * 512 + 1 * (y 0).val
      rw [(where6 t).1]
      show t.val / 11 * 512 + (y 0).val = _
      omega
    · show (y 1).val = win0_6.index t 1 * 2048 + 1 * (y 1).val
      rw [(where6 t).2]
      omega
  · intro y
    have hy0 : (y 0).val < 8192 := (y 0).isLt
    have hy1 : (y 1).val < 2048 := (y 1).isLt
    obtain ⟨t, ht⟩ : ∃ t : Fin cfg0.N, t.val = (y 0).val / 512 * 11 + 10 := ⟨⟨_, by rw [show cfg0.N = 176 from N_0]; omega⟩, rfl⟩
    refine ⟨t, (flush0_6 t).mpr (by omega), ?_⟩
    show y ∈ ((View.whole main_v5).slice (win0_6.rect t)).set
    rw [View.set_slice_whole, Rect.mem_set_unit]
    intro a
    match a with
    | ⟨0, _⟩ =>
      show win0_6.index t 0 * 512 ≤ (y 0).val ∧ (y 0).val < win0_6.index t 0 * 512 + 512
      rw [(where6 t).1]
      omega
    | ⟨1, _⟩ =>
      show win0_6.index t 1 * 2048 ≤ (y 1).val ∧ (y 1).val < win0_6.index t 1 * 2048 + 2048
      rw [(where6 t).2]
      omega

end Cert.LastIdeal.Tile

end
-- ==== Proof.LastRef.lean ====
module

public import proofs.«01_k».proof.Proof.Dense
public import proofs.«01_k».proof.Proof.Gen.LastRefIdeal.Run

/-! The result of the feed-forward reference that norms its output, an element at a time. -/

@[expose] public section

set_option maxRecDepth 16384

noncomputable section

namespace Cert.LastRefIdeal.Rows

open Idealize.ShloMosaic Idealize.ShloMosaic.TcCoe Idealize.SL.Sem
open Cert.LastRefIdeal Cert.Dense

variable (m : (ℓ : Loc nD τ sig) → Buf (Elt Ideal) ℓ)

def xA (c : Dev nD) : S8192x2048.Idx → EReal := m ((c.tc : Thread nD τ).loc main_arg0)
def scaleA (c : Dev nD) : S2048.Idx → EReal := m ((c.tc : Thread nD τ).loc main_arg1)
def gateA (c : Dev nD) : S2048x5632.Idx → EReal := m ((c.tc : Thread nD τ).loc main_arg2)
def upA (c : Dev nD) : S2048x5632.Idx → EReal := m ((c.tc : Thread nD τ).loc main_arg3)
def downA (c : Dev nD) : S5632x2048.Idx → EReal := m ((c.tc : Thread nD τ).loc main_arg4)

def finalA (c : Dev nD) : S2048.Idx → EReal := m ((c.tc : Thread nD τ).loc main_arg5)

/-- The result. -/
def resultArr (c : Dev nD) : S8192x2048.Idx → EReal := fun y =>
  normed (fun n => after (normed (rowOf (xA m c) (y 0).val) fun d => scaleA m c (ix1 d)) (gateA m c) (upA m c) (downA m c) n (rowOf (xA m c) (y 0).val))
    (fun n => finalA m c (ix1 n)) (y 1)

theorem resultArr_at (c : Dev nD) (a : Fin 8192) (n : Fin 2048) : resultArr m c (ix2 a n) =
    normed (fun b => after (normed (fun e => xA m c (ix2 a e)) fun d => scaleA m c (ix1 d)) (gateA m c) (upA m c) (downA m c) b (fun e => xA m c (ix2 a e)))
      (fun b => finalA m c (ix1 b)) n := by
  rw [show (fun e => xA m c (ix2 a e)) = rowOf (xA m c) a.val from funext fun e => (rowOf_eq (xA m c) a e).symm]
  rfl

theorem result (ρ : Dev nD → PrngReg) :
    θ_run defs (onTc (τ := τ) (main (F := Ideal))) ⟨m, fun _ => 0, ρ⟩ fun r => ∀ c : Dev nD,
      r.2.mem ((c.tc : Thread nD τ).loc main_v33) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by
    refine ext2 (n := 8192) (k := 2048) fun a n => ?_
    rw [resultArr_at]
    unfold Value.res_main_v33 after contrib act normed
    pointwise
    rfl), (h c).2⟩) (Value.run (F := Ideal) m ρ)

end Cert.LastRefIdeal.Rows

end
-- ==== Proof.EvenInValue.lean ====
module

public import proofs.«01_k».proof.Proof.Dense
public import proofs.«01_k».proof.Proof.Gen.EvenInIdeal.Value
public import Idealize.ShloMosaic.Lib.StableHlo.ReadAt
public import Idealize.ShloMosaic.Lib.Pipeline.Value

/-! The input projection's result: point `t` is the block `t % 8` of 896 columns of the row block `t / 8`. The first point
of a row block norms its rows, and every point multiplies them by its columns. -/

@[expose] public section

set_option maxRecDepth 16384

noncomputable section

namespace Cert.EvenInIdeal.Tile

open Idealize.ShloMosaic Idealize.ShloMosaic.TcCoe Idealize.SL.Sem Idealize.ShloMosaic.StableHlo
open Cert.EvenInIdeal Cert.EvenInIdeal.Gen Cert.Dense

variable (m : (ℓ : Loc nD τ sig) → Buf (Elt Ideal) ℓ)

def xA (c : Dev nD) : S8192x2048.Idx → EReal := m ((c : Thread nD τ).loc main_arg0)
def scaleA (c : Dev nD) : S2048.Idx → EReal := m ((c : Thread nD τ).loc main_arg1)
def weightA (c : Dev nD) : S2048x7168.Idx → EReal := m ((c : Thread nD τ).loc main_arg2)

/-- The weights' columns. -/
def column (c : Dev nD) (n : ℕ) (d : Fin 2048) : EReal := if h : n < 7168 then weightA m c (ix2 d ⟨n, h⟩) else 0

theorem column_in (c : Dev nD) (n : Fin 7168) (d : Fin 2048) (h : n.val < 7168) : column m c n.val d = weightA m c (ix2 d ⟨n.val, h⟩) := dif_pos h

theorem column_out (c : Dev nD) (n : Fin 7168) (d : Fin 2048) (h : ¬n.val < 7168) : column m c n.val d = 0 := dif_neg h

theorem x_entry (c : Dev nD) : (V m c main_arg0 : S8192x2048.Idx → EReal) = xA m c := by
  unfold V
  after_reads_simp
  rfl

theorem scale_entry (c : Dev nD) (r : Fin 1) (s : Fin 2048) : (V m c main_v1 : S1x2048.Idx → EReal) (ix2 r s) = scaleA m c (ix1 s) := by
  unfold V
  after_reads_at
  rfl

theorem weight_entry (c : Dev nD) (d : Fin 2048) (n : Fin 7168) : (V m c main_v0 : S2048x7168.Idx → EReal) (ix2 d n) = column m c n.val d := by
  unfold V
  after_reads_at
  exact (column_in m c n d n.isLt).symm

/-! The blocks a point reads. -/

theorem point_lt (t : Fin cfg0.N) : t.val < 128 := t.isLt.trans_eq N_0

theorem where0 : ∀ t : Fin grid0.N, win0_0.index t 0 = t.val / 8 ∧ win0_0.index t 1 = 0 := by decide +kernel
theorem where1 : ∀ t : Fin grid0.N, win0_1.index t 0 = 0 ∧ win0_1.index t 1 = 0 := by decide +kernel
theorem where2 : ∀ t : Fin grid0.N, win0_2.index t 0 = 0 ∧ win0_2.index t 1 = t.val % 8 := by decide +kernel
theorem where3 : ∀ t : Fin grid0.N, win0_3.index t 0 = t.val / 8 ∧ win0_3.index t 1 = t.val % 8 := by decide +kernel

theorem block0 (c : Dev nD) (t : Fin cfg0.N) (i : Fin 512) (e : Fin 2048) :
    iblk m c 0 t (ix2 i e) = rowOf (xA m c) (t.val / 8 * 512 + i.val) e := by
  unfold iblk
  rw [View.read_apply]
  show V m c main_arg0 _ = _
  rw [x_entry]
  refine rowOf_at _ _ _ _ ?_ ?_
  · show win0_0.index t 0 * 512 + 1 * i.val = _; rw [(where0 t).1]; omega
  · show win0_0.index t 1 * 2048 + 1 * e.val = _; rw [(where0 t).2]; omega

theorem block1 (c : Dev nD) (t : Fin cfg0.N) (r : Fin 1) (e : Fin 2048) : iblk m c 1 t (ix2 r e) = scaleA m c (ix1 e) := by
  unfold iblk
  rw [View.read_apply]
  show V m c main_v1 _ = _
  refine Eq.trans (congrArg (V m c main_v1) (funext fun a => Fin.ext ?_)) (scale_entry m c r e)
  match a with
  | ⟨0, _⟩ => show win0_1.index t 0 * 1 + 1 * r.val = r.val; rw [(where1 t).1]; omega
  | ⟨1, _⟩ => show win0_1.index t 1 * 2048 + 1 * e.val = e.val; rw [(where1 t).2]; omega

theorem block2 (c : Dev nD) (t : Fin cfg0.N) (d : Fin 2048) (x : Fin 896) :
    iblk m c 2 t (ix2 d x) = column m c (t.val % 8 * 896 + x.val) d := by
  unfold iblk
  rw [View.read_apply]
  show V m c main_v0 _ = _
  refine Eq.trans (congrArg (V m c main_v0) (funext fun a => Fin.ext ?_)) (weight_entry m c d ⟨t.val % 8 * 896 + x.val, by omega⟩)
  match a with
  | ⟨0, _⟩ => show win0_2.index t 0 * 2048 + 1 * d.val = d.val; rw [(where2 t).1]; omega
  | ⟨1, _⟩ => show win0_2.index t 1 * 896 + 1 * x.val = t.val % 8 * 896 + x.val; rw [(where2 t).2]; omega

/-! What a point leaves. -/

theorem zero2 : (![0, 0] : Fin 2 → Nat) = fun _ => 0 := funext fun a => by fin_cases a <;> rfl

/-- What the point before left. -/
def before (c : Dev nD) (t : Fin cfg0.N) : Vec Ideal S512x896 .f32 × Vec Ideal S512x2048 .bf16 :=
  outsAt0 m c (t.val - 1) (Nat.lt_of_le_of_lt (Nat.sub_le _ _) t.isLt)

theorem rows_A (c : Dev nD) (t : Fin cfg0.N) (h0 : t.val % 8 = 0) :
    (outsAt0 m c t.val t.isLt).2 = k0_pay1 (F := Ideal) (iblk m c 0 t) (iblk m c 1 t) := by
  have hsc : scM0_0.IsWhole := Memref.isWhole_whole _
  rw [outsAt0_A m c t h0]
  dsimp only
  unfold sout0_A_0
  rw [View.read_writes_eq_canon _ _ _ (fun y => scover0_A_0 (y := y) ..)]
  unfold kernelRun0_A
  dsimp only
  sl_unfold_words
  simp only [View.canon_unit_zero (S := S512x2048) zero2, View.canon_unit_zero (S := S512x896) zero2, View.readCov_unit_zero (S := S512x2048) _ zero2,
    View.readAt_eq_ld, (hs0_0 t).read_unread, (hs0_1 t).read_unread, (hs0_2 t).read_unread, hsc.read_unread,
    View.ld_unit_zero (S := S512x2048) zero2, View.ld_unit_zero (S := S1x2048) zero2, View.ld_unit_zero (S := S2048x896) zero2]

theorem out_A (c : Dev nD) (t : Fin cfg0.N) (h0 : t.val % 8 = 0) :
    (outsAt0 m c t.val t.isLt).1 = k0_pay2 (F := Ideal) (k0_pay1 (F := Ideal) (iblk m c 0 t) (iblk m c 1 t)) (iblk m c 2 t) := by
  have hsc : scM0_0.IsWhole := Memref.isWhole_whole _
  rw [outsAt0_A m c t h0]
  dsimp only
  unfold out0_A_3
  rw [View.read_writes_eq_canon _ _ _ (fun y => cover0_A_3 (y := y) ..)]
  unfold kernelRun0_A
  dsimp only
  sl_unfold_words
  simp only [View.canon_unit_zero (S := S512x2048) zero2, View.canon_unit_zero (S := S512x896) zero2, View.readCov_unit_zero (S := S512x2048) _ zero2,
    View.readAt_eq_ld, (hs0_0 t).read_unread, (hs0_1 t).read_unread, (hs0_2 t).read_unread, hsc.read_unread,
    View.ld_unit_zero (S := S512x2048) zero2, View.ld_unit_zero (S := S1x2048) zero2, View.ld_unit_zero (S := S2048x896) zero2]

theorem rows_B (c : Dev nD) (t : Fin cfg0.N) (h0 : ¬t.val % 8 = 0) : (outsAt0 m c t.val t.isLt).2 = (before m c t).2 := by
  rw [outsAt0_B m c t h0]
  rfl

theorem out_B (c : Dev nD) (t : Fin cfg0.N) (h0 : ¬t.val % 8 = 0) :
    (outsAt0 m c t.val t.isLt).1 = k0_pay2 (F := Ideal) (before m c t).2 (iblk m c 2 t) := by
  have hsc : scM0_0.IsWhole := Memref.isWhole_whole _
  rw [outsAt0_B m c t h0]
  dsimp only
  unfold out0_B_3
  rw [View.read_writes_eq_canon _ _ _ (fun y => cover0_B_3 (y := y) ..)]
  unfold kernelRun0_B
  dsimp only
  sl_unfold_words
  simp only [View.canon_unit_zero (S := S512x896) zero2,
    View.readAt_eq_ld, (hs0_0 t).read_unread, (hs0_1 t).read_unread, (hs0_2 t).read_unread, hsc.read_unread,
    View.ld_unit_zero (S := S512x2048) zero2, View.ld_unit_zero (S := S1x2048) zero2, View.ld_unit_zero (S := S2048x896) zero2]
  rfl

/-! The blocks' elements. -/

/-- The normed row `a`. -/
def hrow (c : Dev nD) (a : ℕ) : Fin 2048 → EReal := normed (rowOf (xA m c) a) fun d => scaleA m c (ix1 d)

/-- The element of the result in row `a` and column `n`. -/
def resultAt (c : Dev nD) (a n : ℕ) : EReal := ∑ d, hrow m c a d * column m c n d

theorem rows_eq (c : Dev nD) (t : Fin cfg0.N) (i : Fin 512) (d : Fin 2048) :
    k0_pay1 (F := Ideal) (iblk m c 0 t) (iblk m c 1 t) (ix2 i d) = hrow m c (t.val / 8 * 512 + i.val) d := by
  pointwise [k0_pay1]
  simp only [block0 m c t, block1 m c t]
  rfl

theorem product (c : Dev nD) (t : Fin cfg0.N) (h : FVec Ideal S512x2048 .bf16)
    (hh : ∀ (i : Fin 512) (d : Fin 2048), h (ix2 i d) = hrow m c (t.val / 8 * 512 + i.val) d) (i : Fin 512) (x : Fin 896) :
    k0_pay2 (F := Ideal) h (iblk m c 2 t) (ix2 i x) = resultAt m c (t.val / 8 * 512 + i.val) (t.val % 8 * 896 + x.val) := by
  pointwise [k0_pay2]
  simp only [hh, block2 m c t]
  rfl

/-- The normed rows stay through a row block. -/
theorem rows_after (c : Dev nD) : ∀ (n : ℕ) (h : n < cfg0.N) (i : Fin 512) (d : Fin 2048),
    (outsAt0 m c n h).2 (ix2 i d) = hrow m c (n / 8 * 512 + i.val) d := by
  intro n
  induction n with
  | zero =>
    intro h
    rw [show (outsAt0 m c 0 h).2 = _ from rows_A m c ⟨0, h⟩ rfl]
    exact rows_eq m c ⟨0, h⟩
  | succ n ih =>
    intro h
    by_cases h0 : (n + 1) % 8 = 0
    · rw [show (outsAt0 m c (n + 1) h).2 = _ from rows_A m c ⟨n + 1, h⟩ h0]
      exact rows_eq m c ⟨n + 1, h⟩
    · rw [show (outsAt0 m c (n + 1) h).2 = _ from rows_B m c ⟨n + 1, h⟩ h0]
      have := ih (Nat.lt_of_succ_lt h)
      rw [show n / 8 = (n + 1) / 8 by omega] at this
      exact this

theorem out_block (c : Dev nD) (t : Fin cfg0.N) (i : Fin 512) (x : Fin 896) :
    (outsAt0 m c t.val t.isLt).1 (ix2 i x) = resultAt m c (t.val / 8 * 512 + i.val) (t.val % 8 * 896 + x.val) := by
  by_cases h0 : t.val % 8 = 0
  · rw [out_A m c t h0]
    exact product m c t _ (rows_eq m c t) i x
  · rw [out_B m c t h0]
    refine product m c t (before m c t).2 ?_ i x
    have := rows_after m c (t.val - 1) (Nat.lt_of_le_of_lt (Nat.sub_le _ _) t.isLt)
    rw [show (t.val - 1) / 8 = t.val / 8 by omega] at this
    exact this

/-- The result. -/
def resultArr (c : Dev nD) : S8192x7168.Idx → EReal := fun y => resultAt m c (y 0).val (y 1).val

theorem final (c : Dev nD) : (dats m 0 c).arrAt 3 cfg0.N = resultArr m c := by
  refine (dats m 0 c).arrAt_eq_of_cover 3 (resultArr m c) ?_ ?_
  · intro t _
    rw [Value.flushed3]
    funext y
    rw [View.read_apply]
    show (outsAt0 m c t.val t.isLt).1 y = resultArr m c _
    have hy0 : (y 0).val < 512 := (y 0).isLt
    have hy1 : (y 1).val < 896 := (y 1).isLt
    rw [show (outsAt0 m c t.val t.isLt).1 y = (outsAt0 m c t.val t.isLt).1 (ix2 (⟨(y 0).val, hy0⟩ : Fin 512) (⟨(y 1).val, hy1⟩ : Fin 896)) from
      congrArg (outsAt0 m c t.val t.isLt).1 (funext fun a => by fin_cases a <;> rfl)]
    rw [out_block]
    unfold resultArr
    refine congrArg₂ (resultAt m c) ?_ ?_
    · show _ = win0_3.index t 0 * 512 + 1 * (y 0).val
      rw [(where3 t).1]
      show t.val / 8 * 512 + (y 0).val = _
      omega
    · show _ = win0_3.index t 1 * 896 + 1 * (y 1).val
      rw [(where3 t).2]
      show t.val % 8 * 896 + (y 1).val = _
      omega
  · intro y
    have hy0 : (y 0).val < 8192 := (y 0).isLt
    have hy1 : (y 1).val < 7168 := (y 1).isLt
    obtain ⟨t, ht⟩ : ∃ t : Fin cfg0.N, t.val = (y 0).val / 512 * 8 + (y 1).val / 896 := ⟨⟨_, by rw [show cfg0.N = 128 from N_0]; omega⟩, rfl⟩
    refine ⟨t, flush0_3 t, ?_⟩
    show y ∈ ((View.whole main_v2).slice (win0_3.rect t)).set
    rw [View.set_slice_whole, Rect.mem_set_unit]
    intro a
    match a with
    | ⟨0, _⟩ =>
      show win0_3.index t 0 * 512 ≤ (y 0).val ∧ (y 0).val < win0_3.index t 0 * 512 + 512
      rw [(where3 t).1]
      omega
    | ⟨1, _⟩ =>
      show win0_3.index t 1 * 896 ≤ (y 1).val ∧ (y 1).val < win0_3.index t 1 * 896 + 896
      rw [(where3 t).2]
      omega

end Cert.EvenInIdeal.Tile

end
-- ==== Proof.EvenInRef.lean ====
module

public import proofs.«01_k».proof.Proof.Dense
public import proofs.«01_k».proof.Proof.Gen.EvenInRefIdeal.Run

/-! The input projection's reference, an element at a time. -/

@[expose] public section

set_option maxRecDepth 16384

noncomputable section

namespace Cert.EvenInRefIdeal.Rows

open Idealize.ShloMosaic Idealize.ShloMosaic.TcCoe Idealize.SL.Sem
open Cert.EvenInRefIdeal Cert.Dense

variable (m : (ℓ : Loc nD τ sig) → Buf (Elt Ideal) ℓ)

def xA (c : Dev nD) : S8192x2048.Idx → EReal := m ((c.tc : Thread nD τ).loc main_arg0)
def scaleA (c : Dev nD) : S2048.Idx → EReal := m ((c.tc : Thread nD τ).loc main_arg1)
def weightA (c : Dev nD) : S2048x7168.Idx → EReal := m ((c.tc : Thread nD τ).loc main_arg2)

def column (c : Dev nD) (n : ℕ) (d : Fin 2048) : EReal := if h : n < 7168 then weightA m c (ix2 d ⟨n, h⟩) else 0

theorem column_in (c : Dev nD) (n : Fin 7168) (d : Fin 2048) (h : n.val < 7168) : column m c n.val d = weightA m c (ix2 d ⟨n.val, h⟩) := dif_pos h

theorem column_out (c : Dev nD) (n : Fin 7168) (d : Fin 2048) (h : ¬n.val < 7168) : column m c n.val d = 0 := dif_neg h

/-- The result. -/
def resultArr (c : Dev nD) : S8192x7168.Idx → EReal := fun y =>
  ∑ d, normed (rowOf (xA m c) (y 0).val) (fun d => scaleA m c (ix1 d)) d * column m c (y 1).val d

theorem resultArr_at (c : Dev nD) (a : Fin 8192) (n : Fin 7168) : resultArr m c (ix2 a n) =
    ∑ d, normed (fun e => xA m c (ix2 a e)) (fun d => scaleA m c (ix1 d)) d * column m c n.val d := by
  rw [show (fun e => xA m c (ix2 a e)) = rowOf (xA m c) a.val from funext fun e => (rowOf_eq (xA m c) a e).symm]
  rfl

theorem result (ρ : Dev nD → PrngReg) :
    θ_run defs (onTc (τ := τ) (main (F := Ideal))) ⟨m, fun _ => 0, ρ⟩ fun r => ∀ c : Dev nD,
      r.2.mem ((c.tc : Thread nD τ).loc main_v13) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    refine ext2 (n := 8192) (k := 7168) fun a n => ?_
    rw [resultArr_at]
    unfold normed
    pointwise
    exact Finset.sum_congr rfl fun d _ => congrArg _ (column_in m c n d n.isLt).symm), (h c).2⟩) (Value.run (F := Ideal) m ρ)

end Cert.EvenInRefIdeal.Rows

end
-- ==== Proof.OddInValue.lean ====
module

public import proofs.«01_k».proof.Proof.Dense
public import proofs.«01_k».proof.Proof.Gen.OddInIdeal.Value
public import Idealize.ShloMosaic.Lib.StableHlo.ReadAt
public import Idealize.ShloMosaic.Lib.Pipeline.Value

/-! The input projection's result: point `t` is the block `t % 7` of 896 columns of the row block `t / 7`. The first point
of a row block norms its rows, and every point multiplies them by its columns. -/

@[expose] public section

set_option maxRecDepth 16384

noncomputable section

namespace Cert.OddInIdeal.Tile

open Idealize.ShloMosaic Idealize.ShloMosaic.TcCoe Idealize.SL.Sem Idealize.ShloMosaic.StableHlo
open Cert.OddInIdeal Cert.OddInIdeal.Gen Cert.Dense

variable (m : (ℓ : Loc nD τ sig) → Buf (Elt Ideal) ℓ)

def xA (c : Dev nD) : S8192x2048.Idx → EReal := m ((c : Thread nD τ).loc main_arg0)
def scaleA (c : Dev nD) : S2048.Idx → EReal := m ((c : Thread nD τ).loc main_arg1)
def weightA (c : Dev nD) : S2048x6160.Idx → EReal := m ((c : Thread nD τ).loc main_arg2)

/-- The weights' columns, zero after the last. -/
def column (c : Dev nD) (n : ℕ) (d : Fin 2048) : EReal := if h : n < 6160 then weightA m c (ix2 d ⟨n, h⟩) else 0

theorem column_in (c : Dev nD) (n : Fin 6272) (d : Fin 2048) (h : n.val < 6160) : column m c n.val d = weightA m c (ix2 d ⟨n.val, h⟩) := dif_pos h

theorem column_out (c : Dev nD) (n : Fin 6272) (d : Fin 2048) (h : ¬n.val < 6160) : column m c n.val d = 0 := dif_neg h

theorem x_entry (c : Dev nD) : (V m c main_arg0 : S8192x2048.Idx → EReal) = xA m c := by
  unfold V
  after_reads_simp
  rfl

theorem scale_entry (c : Dev nD) (r : Fin 1) (s : Fin 2048) : (V m c main_v2 : S1x2048.Idx → EReal) (ix2 r s) = scaleA m c (ix1 s) := by
  unfold V
  after_reads_at
  rfl

theorem weight_entry (c : Dev nD) (d : Fin 2048) (n : Fin 6272) : (V m c main_v1 : S2048x6272.Idx → EReal) (ix2 d n) = column m c n.val d := by
  unfold V
  after_reads_at
  by_cases h : n.val < 6160
  · rw [column_in m c n d h, dif_pos h]
    rfl
  · rw [column_out m c n d h, dif_neg h]
    exact zero_word

/-! The blocks a point reads. -/

theorem point_lt (t : Fin cfg0.N) : t.val < 112 := t.isLt.trans_eq N_0

theorem where0 : ∀ t : Fin grid0.N, win0_0.index t 0 = t.val / 7 ∧ win0_0.index t 1 = 0 := by decide +kernel
theorem where1 : ∀ t : Fin grid0.N, win0_1.index t 0 = 0 ∧ win0_1.index t 1 = 0 := by decide +kernel
theorem where2 : ∀ t : Fin grid0.N, win0_2.index t 0 = 0 ∧ win0_2.index t 1 = t.val % 7 := by decide +kernel
theorem where3 : ∀ t : Fin grid0.N, win0_3.index t 0 = t.val / 7 ∧ win0_3.index t 1 = t.val % 7 := by decide +kernel

theorem block0 (c : Dev nD) (t : Fin cfg0.N) (i : Fin 512) (e : Fin 2048) :
    iblk m c 0 t (ix2 i e) = rowOf (xA m c) (t.val / 7 * 512 + i.val) e := by
  unfold iblk
  rw [View.read_apply]
  show V m c main_arg0 _ = _
  rw [x_entry]
  refine rowOf_at _ _ _ _ ?_ ?_
  · show win0_0.index t 0 * 512 + 1 * i.val = _; rw [(where0 t).1]; omega
  · show win0_0.index t 1 * 2048 + 1 * e.val = _; rw [(where0 t).2]; omega

theorem block1 (c : Dev nD) (t : Fin cfg0.N) (r : Fin 1) (e : Fin 2048) : iblk m c 1 t (ix2 r e) = scaleA m c (ix1 e) := by
  unfold iblk
  rw [View.read_apply]
  show V m c main_v2 _ = _
  refine Eq.trans (congrArg (V m c main_v2) (funext fun a => Fin.ext ?_)) (scale_entry m c r e)
  match a with
  | ⟨0, _⟩ => show win0_1.index t 0 * 1 + 1 * r.val = r.val; rw [(where1 t).1]; omega
  | ⟨1, _⟩ => show win0_1.index t 1 * 2048 + 1 * e.val = e.val; rw [(where1 t).2]; omega

theorem block2 (c : Dev nD) (t : Fin cfg0.N) (d : Fin 2048) (x : Fin 896) :
    iblk m c 2 t (ix2 d x) = column m c (t.val % 7 * 896 + x.val) d := by
  unfold iblk
  rw [View.read_apply]
  show V m c main_v1 _ = _
  refine Eq.trans (congrArg (V m c main_v1) (funext fun a => Fin.ext ?_)) (weight_entry m c d ⟨t.val % 7 * 896 + x.val, by omega⟩)
  match a with
  | ⟨0, _⟩ => show win0_2.index t 0 * 2048 + 1 * d.val = d.val; rw [(where2 t).1]; omega
  | ⟨1, _⟩ => show win0_2.index t 1 * 896 + 1 * x.val = t.val % 7 * 896 + x.val; rw [(where2 t).2]; omega

/-! What a point leaves. -/

theorem zero2 : (![0, 0] : Fin 2 → Nat) = fun _ => 0 := funext fun a => by fin_cases a <;> rfl

/-- What the point before left. -/
def before (c : Dev nD) (t : Fin cfg0.N) : Vec Ideal S512x896 .f32 × Vec Ideal S512x2048 .bf16 :=
  outsAt0 m c (t.val - 1) (Nat.lt_of_le_of_lt (Nat.sub_le _ _) t.isLt)

theorem rows_A (c : Dev nD) (t : Fin cfg0.N) (h0 : t.val % 7 = 0) :
    (outsAt0 m c t.val t.isLt).2 = k0_pay1 (F := Ideal) (iblk m c 0 t) (iblk m c 1 t) := by
  have hsc : scM0_0.IsWhole := Memref.isWhole_whole _
  rw [outsAt0_A m c t h0]
  dsimp only
  unfold sout0_A_0
  rw [View.read_writes_eq_canon _ _ _ (fun y => scover0_A_0 (y := y) ..)]
  unfold kernelRun0_A
  dsimp only
  sl_unfold_words
  simp only [View.canon_unit_zero (S := S512x2048) zero2, View.canon_unit_zero (S := S512x896) zero2, View.readCov_unit_zero (S := S512x2048) _ zero2,
    View.readAt_eq_ld, (hs0_0 t).read_unread, (hs0_1 t).read_unread, (hs0_2 t).read_unread, hsc.read_unread,
    View.ld_unit_zero (S := S512x2048) zero2, View.ld_unit_zero (S := S1x2048) zero2, View.ld_unit_zero (S := S2048x896) zero2]

theorem out_A (c : Dev nD) (t : Fin cfg0.N) (h0 : t.val % 7 = 0) :
    (outsAt0 m c t.val t.isLt).1 = k0_pay2 (F := Ideal) (k0_pay1 (F := Ideal) (iblk m c 0 t) (iblk m c 1 t)) (iblk m c 2 t) := by
  have hsc : scM0_0.IsWhole := Memref.isWhole_whole _
  rw [outsAt0_A m c t h0]
  dsimp only
  unfold out0_A_3
  rw [View.read_writes_eq_canon _ _ _ (fun y => cover0_A_3 (y := y) ..)]
  unfold kernelRun0_A
  dsimp only
  sl_unfold_words
  simp only [View.canon_unit_zero (S := S512x2048) zero2, View.canon_unit_zero (S := S512x896) zero2, View.readCov_unit_zero (S := S512x2048) _ zero2,
    View.readAt_eq_ld, (hs0_0 t).read_unread, (hs0_1 t).read_unread, (hs0_2 t).read_unread, hsc.read_unread,
    View.ld_unit_zero (S := S512x2048) zero2, View.ld_unit_zero (S := S1x2048) zero2, View.ld_unit_zero (S := S2048x896) zero2]

theorem rows_B (c : Dev nD) (t : Fin cfg0.N) (h0 : ¬t.val % 7 = 0) : (outsAt0 m c t.val t.isLt).2 = (before m c t).2 := by
  rw [outsAt0_B m c t h0]
  rfl

theorem out_B (c : Dev nD) (t : Fin cfg0.N) (h0 : ¬t.val % 7 = 0) :
    (outsAt0 m c t.val t.isLt).1 = k0_pay2 (F := Ideal) (before m c t).2 (iblk m c 2 t) := by
  have hsc : scM0_0.IsWhole := Memref.isWhole_whole _
  rw [outsAt0_B m c t h0]
  dsimp only
  unfold out0_B_3
  rw [View.read_writes_eq_canon _ _ _ (fun y => cover0_B_3 (y := y) ..)]
  unfold kernelRun0_B
  dsimp only
  sl_unfold_words
  simp only [View.canon_unit_zero (S := S512x896) zero2,
    View.readAt_eq_ld, (hs0_0 t).read_unread, (hs0_1 t).read_unread, (hs0_2 t).read_unread, hsc.read_unread,
    View.ld_unit_zero (S := S512x2048) zero2, View.ld_unit_zero (S := S1x2048) zero2, View.ld_unit_zero (S := S2048x896) zero2]
  rfl

/-! The blocks' elements. -/

/-- The normed row `a`. -/
def hrow (c : Dev nD) (a : ℕ) : Fin 2048 → EReal := normed (rowOf (xA m c) a) fun d => scaleA m c (ix1 d)

/-- The element of the result in row `a` and column `n`. -/
def resultAt (c : Dev nD) (a n : ℕ) : EReal := ∑ d, hrow m c a d * column m c n d

theorem rows_eq (c : Dev nD) (t : Fin cfg0.N) (i : Fin 512) (d : Fin 2048) :
    k0_pay1 (F := Ideal) (iblk m c 0 t) (iblk m c 1 t) (ix2 i d) = hrow m c (t.val / 7 * 512 + i.val) d := by
  pointwise [k0_pay1]
  simp only [block0 m c t, block1 m c t]
  rfl

theorem product (c : Dev nD) (t : Fin cfg0.N) (h : FVec Ideal S512x2048 .bf16)
    (hh : ∀ (i : Fin 512) (d : Fin 2048), h (ix2 i d) = hrow m c (t.val / 7 * 512 + i.val) d) (i : Fin 512) (x : Fin 896) :
    k0_pay2 (F := Ideal) h (iblk m c 2 t) (ix2 i x) = resultAt m c (t.val / 7 * 512 + i.val) (t.val % 7 * 896 + x.val) := by
  pointwise [k0_pay2]
  simp only [hh, block2 m c t]
  rfl

/-- The normed rows stay through a row block. -/
theorem rows_after (c : Dev nD) : ∀ (n : ℕ) (h : n < cfg0.N) (i : Fin 512) (d : Fin 2048),
    (outsAt0 m c n h).2 (ix2 i d) = hrow m c (n / 7 * 512 + i.val) d := by
  intro n
  induction n with
  | zero =>
    intro h
    rw [show (outsAt0 m c 0 h).2 = _ from rows_A m c ⟨0, h⟩ rfl]
    exact rows_eq m c ⟨0, h⟩
  | succ n ih =>
    intro h
    by_cases h0 : (n + 1) % 7 = 0
    · rw [show (outsAt0 m c (n + 1) h).2 = _ from rows_A m c ⟨n + 1, h⟩ h0]
      exact rows_eq m c ⟨n + 1, h⟩
    · rw [show (outsAt0 m c (n + 1) h).2 = _ from rows_B m c ⟨n + 1, h⟩ h0]
      have := ih (Nat.lt_of_succ_lt h)
      rw [show n / 7 = (n + 1) / 7 by omega] at this
      exact this

theorem out_block (c : Dev nD) (t : Fin cfg0.N) (i : Fin 512) (x : Fin 896) :
    (outsAt0 m c t.val t.isLt).1 (ix2 i x) = resultAt m c (t.val / 7 * 512 + i.val) (t.val % 7 * 896 + x.val) := by
  by_cases h0 : t.val % 7 = 0
  · rw [out_A m c t h0]
    exact product m c t _ (rows_eq m c t) i x
  · rw [out_B m c t h0]
    refine product m c t (before m c t).2 ?_ i x
    have := rows_after m c (t.val - 1) (Nat.lt_of_le_of_lt (Nat.sub_le _ _) t.isLt)
    rw [show (t.val - 1) / 7 = t.val / 7 by omega] at this
    exact this

/-- The result. -/
def resultArr (c : Dev nD) : S8192x6272.Idx → EReal := fun y => resultAt m c (y 0).val (y 1).val

theorem final (c : Dev nD) : (dats m 0 c).arrAt 3 cfg0.N = resultArr m c := by
  refine (dats m 0 c).arrAt_eq_of_cover 3 (resultArr m c) ?_ ?_
  · intro t _
    rw [Value.flushed3]
    funext y
    rw [View.read_apply]
    show (outsAt0 m c t.val t.isLt).1 y = resultArr m c _
    have hy0 : (y 0).val < 512 := (y 0).isLt
    have hy1 : (y 1).val < 896 := (y 1).isLt
    rw [show (outsAt0 m c t.val t.isLt).1 y = (outsAt0 m c t.val t.isLt).1 (ix2 (⟨(y 0).val, hy0⟩ : Fin 512) (⟨(y 1).val, hy1⟩ : Fin 896)) from
      congrArg (outsAt0 m c t.val t.isLt).1 (funext fun a => by fin_cases a <;> rfl)]
    rw [out_block]
    unfold resultArr
    refine congrArg₂ (resultAt m c) ?_ ?_
    · show _ = win0_3.index t 0 * 512 + 1 * (y 0).val
      rw [(where3 t).1]
      show t.val / 7 * 512 + (y 0).val = _
      omega
    · show _ = win0_3.index t 1 * 896 + 1 * (y 1).val
      rw [(where3 t).2]
      show t.val % 7 * 896 + (y 1).val = _
      omega
  · intro y
    have hy0 : (y 0).val < 8192 := (y 0).isLt
    have hy1 : (y 1).val < 6272 := (y 1).isLt
    obtain ⟨t, ht⟩ : ∃ t : Fin cfg0.N, t.val = (y 0).val / 512 * 7 + (y 1).val / 896 := ⟨⟨_, by rw [show cfg0.N = 112 from N_0]; omega⟩, rfl⟩
    refine ⟨t, flush0_3 t, ?_⟩
    show y ∈ ((View.whole main_v3).slice (win0_3.rect t)).set
    rw [View.set_slice_whole, Rect.mem_set_unit]
    intro a
    match a with
    | ⟨0, _⟩ =>
      show win0_3.index t 0 * 512 ≤ (y 0).val ∧ (y 0).val < win0_3.index t 0 * 512 + 512
      rw [(where3 t).1]
      omega
    | ⟨1, _⟩ =>
      show win0_3.index t 1 * 896 ≤ (y 1).val ∧ (y 1).val < win0_3.index t 1 * 896 + 896
      rw [(where3 t).2]
      omega

end Cert.OddInIdeal.Tile

end
-- ==== Proof.OddInRef.lean ====
module

public import proofs.«01_k».proof.Proof.Dense
public import proofs.«01_k».proof.Proof.Gen.OddInRefIdeal.Run

/-! The input projection's reference, an element at a time. -/

@[expose] public section

set_option maxRecDepth 16384

noncomputable section

namespace Cert.OddInRefIdeal.Rows

open Idealize.ShloMosaic Idealize.ShloMosaic.TcCoe Idealize.SL.Sem
open Cert.OddInRefIdeal Cert.Dense

variable (m : (ℓ : Loc nD τ sig) → Buf (Elt Ideal) ℓ)

def xA (c : Dev nD) : S8192x2048.Idx → EReal := m ((c.tc : Thread nD τ).loc main_arg0)
def scaleA (c : Dev nD) : S2048.Idx → EReal := m ((c.tc : Thread nD τ).loc main_arg1)
def weightA (c : Dev nD) : S2048x6160.Idx → EReal := m ((c.tc : Thread nD τ).loc main_arg2)

def column (c : Dev nD) (n : ℕ) (d : Fin 2048) : EReal := if h : n < 6160 then weightA m c (ix2 d ⟨n, h⟩) else 0

theorem column_in (c : Dev nD) (n : Fin 6272) (d : Fin 2048) (h : n.val < 6160) : column m c n.val d = weightA m c (ix2 d ⟨n.val, h⟩) := dif_pos h

theorem column_out (c : Dev nD) (n : Fin 6272) (d : Fin 2048) (h : ¬n.val < 6160) : column m c n.val d = 0 := dif_neg h

/-- The result. -/
def resultArr (c : Dev nD) : S8192x6272.Idx → EReal := fun y =>
  ∑ d, normed (rowOf (xA m c) (y 0).val) (fun d => scaleA m c (ix1 d)) d * column m c (y 1).val d

theorem resultArr_at (c : Dev nD) (a : Fin 8192) (n : Fin 6272) : resultArr m c (ix2 a n) =
    ∑ d, normed (fun e => xA m c (ix2 a e)) (fun d => scaleA m c (ix1 d)) d * column m c n.val d := by
  rw [show (fun e => xA m c (ix2 a e)) = rowOf (xA m c) a.val from funext fun e => (rowOf_eq (xA m c) a e).symm]
  rfl

theorem result (ρ : Dev nD → PrngReg) :
    θ_run defs (onTc (τ := τ) (main (F := Ideal))) ⟨m, fun _ => 0, ρ⟩ fun r => ∀ c : Dev nD,
      r.2.mem ((c.tc : Thread nD τ).loc main_v14) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    refine ext2 (n := 8192) (k := 6272) fun a n => ?_
    rw [resultArr_at]
    unfold normed
    pointwise
    by_cases h : n.val < 6160
    · rw [dif_pos h]
      exact Finset.sum_congr rfl fun d _ => congrArg _ (column_in m c n d h).symm
    · rw [dif_neg h]
      simp only [column_out m c n _ h, mul_zero, Finset.sum_const_zero]
      exact zero_word), (h c).2⟩) (Value.run (F := Ideal) m ρ)

end Cert.OddInRefIdeal.Rows

end
-- ==== Proof.EvenOutValue.lean ====
module

public import proofs.«01_k».proof.Proof.Dense
public import proofs.«01_k».proof.Proof.Gen.EvenOutIdeal.Value
public import Idealize.ShloMosaic.Lib.StableHlo.ReadAt
public import Idealize.ShloMosaic.Lib.Pipeline.Value

/-! The output projection's result: point `t` adds to its block of rows the products of the two halves of the mixed columns. -/

@[expose] public section

set_option maxRecDepth 16384

noncomputable section

namespace Cert.EvenOutIdeal.Tile

open Idealize.ShloMosaic Idealize.ShloMosaic.TcCoe Idealize.SL.Sem Idealize.ShloMosaic.StableHlo
open Cert.EvenOutIdeal Cert.EvenOutIdeal.Gen Cert.Dense

variable (m : (ℓ : Loc nD τ sig) → Buf (Elt Ideal) ℓ)

def xA (c : Dev nD) : S8192x2048.Idx → EReal := m ((c : Thread nD τ).loc main_arg0)
def leftA (c : Dev nD) : S8192x1024.Idx → EReal := m ((c : Thread nD τ).loc main_arg1)
def rightA (c : Dev nD) : S8192x1024.Idx → EReal := m ((c : Thread nD τ).loc main_arg2)
def weightA (c : Dev nD) : S2048x2048.Idx → EReal := m ((c : Thread nD τ).loc main_arg3)

/-- The two halves of a row. -/
def left (c : Dev nD) (a : ℕ) (e : Fin 1024) : EReal := rowOf (leftA m c) a e
def right (c : Dev nD) (a : ℕ) (e : Fin 1024) : EReal := rowOf (rightA m c) a e

theorem x_entry (c : Dev nD) : (V m c main_arg0 : S8192x2048.Idx → EReal) = xA m c := by
  unfold V
  after_reads_simp
  rfl

theorem left_entry (c : Dev nD) : (V m c main_arg1 : S8192x1024.Idx → EReal) = leftA m c := by
  unfold V
  after_reads_simp
  rfl

theorem right_entry (c : Dev nD) : (V m c main_arg2 : S8192x1024.Idx → EReal) = rightA m c := by
  unfold V
  after_reads_simp
  rfl

theorem weight_entry (c : Dev nD) : (V m c main_v0 : S2048x2048.Idx → EReal) = weightA m c := by
  unfold V
  after_reads_simp
  rfl

theorem point_lt (t : Fin cfg0.N) : t.val < 16 := t.isLt.trans_eq N_0

theorem where0 : ∀ t : Fin grid0.N, win0_0.index t 0 = t.val ∧ win0_0.index t 1 = 0 := by decide +kernel
theorem where1 : ∀ t : Fin grid0.N, win0_1.index t 0 = t.val ∧ win0_1.index t 1 = 0 := by decide +kernel
theorem where2 : ∀ t : Fin grid0.N, win0_2.index t 0 = t.val ∧ win0_2.index t 1 = 0 := by decide +kernel
theorem where3 : ∀ t : Fin grid0.N, win0_3.index t 0 = 0 ∧ win0_3.index t 1 = 0 := by decide +kernel
theorem where4 : ∀ t : Fin grid0.N, win0_4.index t 0 = 1 ∧ win0_4.index t 1 = 0 := by decide +kernel
theorem where5 : ∀ t : Fin grid0.N, win0_5.index t 0 = t.val ∧ win0_5.index t 1 = 0 := by decide +kernel

theorem block0 (c : Dev nD) (t : Fin cfg0.N) (i : Fin 512) (e : Fin 2048) :
    iblk m c 0 t (ix2 i e) = rowOf (xA m c) (t.val * 512 + i.val) e := by
  unfold iblk
  rw [View.read_apply]
  show V m c main_arg0 _ = _
  rw [x_entry]
  refine rowOf_at _ _ _ _ ?_ ?_
  · show win0_0.index t 0 * 512 + 1 * i.val = _; rw [(where0 t).1]; omega
  · show win0_0.index t 1 * 2048 + 1 * e.val = _; rw [(where0 t).2]; omega

theorem block1 (c : Dev nD) (t : Fin cfg0.N) (i : Fin 512) (e : Fin 1024) :
    iblk m c 1 t (ix2 i e) = left m c (t.val * 512 + i.val) e := by
  unfold iblk
  rw [View.read_apply]
  show V m c main_arg1 _ = _
  rw [left_entry]
  refine rowOf_at _ _ _ _ ?_ ?_
  · show win0_1.index t 0 * 512 + 1 * i.val = _; rw [(where1 t).1]; omega
  · show win0_1.index t 1 * 1024 + 1 * e.val = e.val; rw [(where1 t).2]; omega

theorem block2 (c : Dev nD) (t : Fin cfg0.N) (i : Fin 512) (e : Fin 1024) :
    iblk m c 2 t (ix2 i e) = right m c (t.val * 512 + i.val) e := by
  unfold iblk
  rw [View.read_apply]
  show V m c main_arg2 _ = _
  rw [right_entry]
  refine rowOf_at _ _ _ _ ?_ ?_
  · show win0_2.index t 0 * 512 + 1 * i.val = _; rw [(where2 t).1]; omega
  · show win0_2.index t 1 * 1024 + 1 * e.val = e.val; rw [(where2 t).2]; omega

theorem block3 (c : Dev nD) (t : Fin cfg0.N) (e : Fin 1024) (n : Fin 2048) :
    iblk m c 3 t (ix2 e n) = weightA m c (ix2 ⟨e.val, by omega⟩ n) := by
  unfold iblk
  rw [View.read_apply]
  show V m c main_v0 _ = _
  rw [weight_entry]
  refine congrArg (weightA m c) (funext fun a => Fin.ext ?_)
  match a with
  | ⟨0, _⟩ => show win0_3.index t 0 * 1024 + 1 * e.val = e.val; rw [(where3 t).1]; omega
  | ⟨1, _⟩ => show win0_3.index t 1 * 2048 + 1 * n.val = n.val; rw [(where3 t).2]; omega

theorem block4 (c : Dev nD) (t : Fin cfg0.N) (e : Fin 1024) (n : Fin 2048) :
    iblk m c 4 t (ix2 e n) = weightA m c (ix2 ⟨1024 + e.val, by omega⟩ n) := by
  unfold iblk
  rw [View.read_apply]
  show V m c main_v0 _ = _
  rw [weight_entry]
  refine congrArg (weightA m c) (funext fun a => Fin.ext ?_)
  match a with
  | ⟨0, _⟩ => show win0_4.index t 0 * 1024 + 1 * e.val = 1024 + e.val; rw [(where4 t).1]; omega
  | ⟨1, _⟩ => show win0_4.index t 1 * 2048 + 1 * n.val = n.val; rw [(where4 t).2]; omega

theorem zero2 : (![0, 0] : Fin 2 → Nat) = fun _ => 0 := funext fun a => by fin_cases a <;> rfl

/-- The element of the result in row `a` and column `n`. -/
def resultAt (c : Dev nD) (a : ℕ) (n : Fin 2048) : EReal := projected (rowOf (xA m c) a) (left m c a) (right m c a) (weightA m c) n

theorem out_block (c : Dev nD) (t : Fin cfg0.N) (i : Fin 512) (n : Fin 2048) :
    out0_5 (F := Ideal) (iblk m c 0 t) (iblk m c 1 t) (iblk m c 2 t) (iblk m c 3 t) (iblk m c 4 t) (ix2 i n) = resultAt m c (t.val * 512 + i.val) n := by
  unfold out0_5
  simp only [View.canon_unit_zero (S := S512x2048) zero2, View.ld_unit_zero (S := S512x2048) zero2, View.ld_unit_zero (S := S512x1024) zero2,
    View.ld_unit_zero (S := S1024x2048) zero2]
  pointwise [k0_pay1]
  simp only [block0 m c t, block1 m c t, block2 m c t, block3 m c t, block4 m c t]
  rfl

/-- The result. -/
def resultArr (c : Dev nD) : S8192x2048.Idx → EReal := fun y => resultAt m c (y 0).val (y 1)

theorem final (c : Dev nD) : (dats m 0 c).arrAt 5 cfg0.N = resultArr m c := by
  refine (dats m 0 c).arrAt_eq_of_cover 5 (resultArr m c) ?_ ?_
  · intro t _
    rw [Value.flushed5]
    funext y
    rw [View.read_apply]
    show out0_5 (F := Ideal) (iblk m c 0 t) (iblk m c 1 t) (iblk m c 2 t) (iblk m c 3 t) (iblk m c 4 t) y = resultArr m c _
    have hy0 : (y 0).val < 512 := (y 0).isLt
    have hy1 : (y 1).val < 2048 := (y 1).isLt
    rw [show out0_5 (F := Ideal) (iblk m c 0 t) (iblk m c 1 t) (iblk m c 2 t) (iblk m c 3 t) (iblk m c 4 t) y
        = out0_5 (F := Ideal) (iblk m c 0 t) (iblk m c 1 t) (iblk m c 2 t) (iblk m c 3 t) (iblk m c 4 t) (ix2 (⟨(y 0).val, hy0⟩ : Fin 512) (⟨(y 1).val, hy1⟩ : Fin 2048)) from
      congrArg _ (funext fun a => by fin_cases a <;> rfl)]
    rw [out_block]
    unfold resultArr
    refine congrArg₂ (resultAt m c) ?_ (Fin.ext ?_)
    · show _ = win0_5.index t 0 * 512 + 1 * (y 0).val
      rw [(where5 t).1]
      show t.val * 512 + (y 0).val = _
      omega
    · show (y 1).val = win0_5.index t 1 * 2048 + 1 * (y 1).val
      rw [(where5 t).2]
      omega
  · intro y
    have hy0 : (y 0).val < 8192 := (y 0).isLt
    have hy1 : (y 1).val < 2048 := (y 1).isLt
    obtain ⟨t, ht⟩ : ∃ t : Fin cfg0.N, t.val = (y 0).val / 512 := ⟨⟨_, by rw [show cfg0.N = 16 from N_0]; omega⟩, rfl⟩
    refine ⟨t, flush0_5 t, ?_⟩
    show y ∈ ((View.whole main_v1).slice (win0_5.rect t)).set
    rw [View.set_slice_whole, Rect.mem_set_unit]
    intro a
    match a with
    | ⟨0, _⟩ =>
      show win0_5.index t 0 * 512 ≤ (y 0).val ∧ (y 0).val < win0_5.index t 0 * 512 + 512
      rw [(where5 t).1]
      omega
    | ⟨1, _⟩ =>
      show win0_5.index t 1 * 2048 ≤ (y 1).val ∧ (y 1).val < win0_5.index t 1 * 2048 + 2048
      rw [(where5 t).2]
      omega

end Cert.EvenOutIdeal.Tile

end
-- ==== Proof.EvenOutRef.lean ====
module

public import proofs.«01_k».proof.Proof.Dense
public import proofs.«01_k».proof.Proof.Gen.EvenOutRefIdeal.Run

/-! The output projection's reference, an element at a time. -/

@[expose] public section

set_option maxRecDepth 16384

noncomputable section

namespace Cert.EvenOutRefIdeal.Rows

open Idealize.ShloMosaic Idealize.ShloMosaic.TcCoe Idealize.SL.Sem
open Cert.EvenOutRefIdeal Cert.Dense

variable (m : (ℓ : Loc nD τ sig) → Buf (Elt Ideal) ℓ)

def xA (c : Dev nD) : S8192x2048.Idx → EReal := m ((c.tc : Thread nD τ).loc main_arg0)
def leftA (c : Dev nD) : S8192x1024.Idx → EReal := m ((c.tc : Thread nD τ).loc main_arg1)
def rightA (c : Dev nD) : S8192x1024.Idx → EReal := m ((c.tc : Thread nD τ).loc main_arg2)
def weightA (c : Dev nD) : S2048x2048.Idx → EReal := m ((c.tc : Thread nD τ).loc main_arg3)

/-- The two halves of a row. -/
def left (c : Dev nD) (a : ℕ) (e : Fin 1024) : EReal := rowOf (leftA m c) a e
def right (c : Dev nD) (a : ℕ) (e : Fin 1024) : EReal := rowOf (rightA m c) a e

/-- The result. -/
def resultArr (c : Dev nD) : S8192x2048.Idx → EReal := fun y =>
  projected (rowOf (xA m c) (y 0).val) (left m c (y 0).val) (right m c (y 0).val) (weightA m c) (y 1)

theorem resultArr_at (c : Dev nD) (a : Fin 8192) (n : Fin 2048) : resultArr m c (ix2 a n) =
    projected (fun e => xA m c (ix2 a e)) (fun e => leftA m c (ix2 a e)) (fun e => rightA m c (ix2 a e)) (weightA m c) n := by
  unfold resultArr left right
  simp only [rowOf_eq]
  congr 1
  all_goals exact funext fun e => (rowOf_eq _ a _)

theorem result (ρ : Dev nD → PrngReg) :
    θ_run defs (onTc (τ := τ) (main (F := Ideal))) ⟨m, fun _ => 0, ρ⟩ fun r => ∀ c : Dev nD,
      r.2.mem ((c.tc : Thread nD τ).loc main_v2) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
    refine ext2 (n := 8192) (k := 2048) fun a n => ?_
    rw [resultArr_at]
    unfold projected
    pointwise
    rw [← add_assoc]
    rfl), (h c).2⟩) (Value.run (F := Ideal) m ρ)

end Cert.EvenOutRefIdeal.Rows

end
-- ==== Proof.OddOutValue.lean ====
module

public import proofs.«01_k».proof.Proof.Dense
public import proofs.«01_k».proof.Proof.Gen.OddOutIdeal.Value
public import Idealize.ShloMosaic.Lib.StableHlo.ReadAt
public import Idealize.ShloMosaic.Lib.Pipeline.Value

/-! The output projection's result: point `t` adds to its block of rows the products of the two halves of the mixed columns. -/

@[expose] public section

set_option maxRecDepth 16384

noncomputable section

namespace Cert.OddOutIdeal.Tile

open Idealize.ShloMosaic Idealize.ShloMosaic.TcCoe Idealize.SL.Sem Idealize.ShloMosaic.StableHlo
open Cert.OddOutIdeal Cert.OddOutIdeal.Gen Cert.Dense

variable (m : (ℓ : Loc nD τ sig) → Buf (Elt Ideal) ℓ)

def xA (c : Dev nD) : S8192x2048.Idx → EReal := m ((c : Thread nD τ).loc main_arg0)
def mixA (c : Dev nD) : S8192x2048.Idx → EReal := m ((c : Thread nD τ).loc main_arg1)
def weightA (c : Dev nD) : S2048x2048.Idx → EReal := m ((c : Thread nD τ).loc main_arg2)

/-- The two halves of a row. -/
def left (c : Dev nD) (a : ℕ) (e : Fin 1024) : EReal := rowOf (mixA m c) a ⟨e.val, by omega⟩
def right (c : Dev nD) (a : ℕ) (e : Fin 1024) : EReal := rowOf (mixA m c) a ⟨1024 + e.val, by omega⟩

theorem x_entry (c : Dev nD) : (V m c main_arg0 : S8192x2048.Idx → EReal) = xA m c := by
  unfold V
  after_reads_simp
  rfl

theorem mix_entry (c : Dev nD) : (V m c main_arg1 : S8192x2048.Idx → EReal) = mixA m c := by
  unfold V
  after_reads_simp
  rfl

theorem weight_entry (c : Dev nD) : (V m c main_v0 : S2048x2048.Idx → EReal) = weightA m c := by
  unfold V
  after_reads_simp
  rfl

theorem point_lt (t : Fin cfg0.N) : t.val < 16 := t.isLt.trans_eq N_0

theorem where0 : ∀ t : Fin grid0.N, win0_0.index t 0 = t.val ∧ win0_0.index t 1 = 0 := by decide +kernel
theorem where1 : ∀ t : Fin grid0.N, win0_1.index t 0 = t.val ∧ win0_1.index t 1 = 0 := by decide +kernel
theorem where2 : ∀ t : Fin grid0.N, win0_2.index t 0 = t.val ∧ win0_2.index t 1 = 1 := by decide +kernel
theorem where3 : ∀ t : Fin grid0.N, win0_3.index t 0 = 0 ∧ win0_3.index t 1 = 0 := by decide +kernel
theorem where4 : ∀ t : Fin grid0.N, win0_4.index t 0 = 1 ∧ win0_4.index t 1 = 0 := by decide +kernel
theorem where5 : ∀ t : Fin grid0.N, win0_5.index t 0 = t.val ∧ win0_5.index t 1 = 0 := by decide +kernel

theorem block0 (c : Dev nD) (t : Fin cfg0.N) (i : Fin 512) (e : Fin 2048) :
    iblk m c 0 t (ix2 i e) = rowOf (xA m c) (t.val * 512 + i.val) e := by
  unfold iblk
  rw [View.read_apply]
  show V m c main_arg0 _ = _
  rw [x_entry]
  refine rowOf_at _ _ _ _ ?_ ?_
  · show win0_0.index t 0 * 512 + 1 * i.val = _; rw [(where0 t).1]; omega
  · show win0_0.index t 1 * 2048 + 1 * e.val = _; rw [(where0 t).2]; omega

theorem block1 (c : Dev nD) (t : Fin cfg0.N) (i : Fin 512) (e : Fin 1024) :
    iblk m c 1 t (ix2 i e) = left m c (t.val * 512 + i.val) e := by
  unfold iblk
  rw [View.read_apply]
  show V m c main_arg1 _ = _
  rw [mix_entry]
  refine rowOf_at _ _ _ _ ?_ ?_
  · show win0_1.index t 0 * 512 + 1 * i.val = _; rw [(where1 t).1]; omega
  · show win0_1.index t 1 * 1024 + 1 * e.val = e.val; rw [(where1 t).2]; omega

theorem block2 (c : Dev nD) (t : Fin cfg0.N) (i : Fin 512) (e : Fin 1024) :
    iblk m c 2 t (ix2 i e) = right m c (t.val * 512 + i.val) e := by
  unfold iblk
  rw [View.read_apply]
  show V m c main_arg1 _ = _
  rw [mix_entry]
  refine rowOf_at _ _ _ _ ?_ ?_
  · show win0_2.index t 0 * 512 + 1 * i.val = _; rw [(where2 t).1]; omega
  · show win0_2.index t 1 * 1024 + 1 * e.val = 1024 + e.val; rw [(where2 t).2]; omega

theorem block3 (c : Dev nD) (t : Fin cfg0.N) (e : Fin 1024) (n : Fin 2048) :
    iblk m c 3 t (ix2 e n) = weightA m c (ix2 ⟨e.val, by omega⟩ n) := by
  unfold iblk
  rw [View.read_apply]
  show V m c main_v0 _ = _
  rw [weight_entry]
  refine congrArg (weightA m c) (funext fun a => Fin.ext ?_)
  match a with
  | ⟨0, _⟩ => show win0_3.index t 0 * 1024 + 1 * e.val = e.val; rw [(where3 t).1]; omega
  | ⟨1, _⟩ => show win0_3.index t 1 * 2048 + 1 * n.val = n.val; rw [(where3 t).2]; omega

theorem block4 (c : Dev nD) (t : Fin cfg0.N) (e : Fin 1024) (n : Fin 2048) :
    iblk m c 4 t (ix2 e n) = weightA m c (ix2 ⟨1024 + e.val, by omega⟩ n) := by
  unfold iblk
  rw [View.read_apply]
  show V m c main_v0 _ = _
  rw [weight_entry]
  refine congrArg (weightA m c) (funext fun a => Fin.ext ?_)
  match a with
  | ⟨0, _⟩ => show win0_4.index t 0 * 1024 + 1 * e.val = 1024 + e.val; rw [(where4 t).1]; omega
  | ⟨1, _⟩ => show win0_4.index t 1 * 2048 + 1 * n.val = n.val; rw [(where4 t).2]; omega

theorem zero2 : (![0, 0] : Fin 2 → Nat) = fun _ => 0 := funext fun a => by fin_cases a <;> rfl

/-- The element of the result in row `a` and column `n`. -/
def resultAt (c : Dev nD) (a : ℕ) (n : Fin 2048) : EReal := projected (rowOf (xA m c) a) (left m c a) (right m c a) (weightA m c) n

theorem out_block (c : Dev nD) (t : Fin cfg0.N) (i : Fin 512) (n : Fin 2048) :
    out0_5 (F := Ideal) (iblk m c 0 t) (iblk m c 1 t) (iblk m c 2 t) (iblk m c 3 t) (iblk m c 4 t) (ix2 i n) = resultAt m c (t.val * 512 + i.val) n := by
  unfold out0_5
  simp only [View.canon_unit_zero (S := S512x2048) zero2, View.ld_unit_zero (S := S512x2048) zero2, View.ld_unit_zero (S := S512x1024) zero2,
    View.ld_unit_zero (S := S1024x2048) zero2]
  pointwise [k0_pay1]
  simp only [block0 m c t, block1 m c t, block2 m c t, block3 m c t, block4 m c t]
  rfl

/-- The result. -/
def resultArr (c : Dev nD) : S8192x2048.Idx → EReal := fun y => resultAt m c (y 0).val (y 1)

theorem final (c : Dev nD) : (dats m 0 c).arrAt 5 cfg0.N = resultArr m c := by
  refine (dats m 0 c).arrAt_eq_of_cover 5 (resultArr m c) ?_ ?_
  · intro t _
    rw [Value.flushed5]
    funext y
    rw [View.read_apply]
    show out0_5 (F := Ideal) (iblk m c 0 t) (iblk m c 1 t) (iblk m c 2 t) (iblk m c 3 t) (iblk m c 4 t) y = resultArr m c _
    have hy0 : (y 0).val < 512 := (y 0).isLt
    have hy1 : (y 1).val < 2048 := (y 1).isLt
    rw [show out0_5 (F := Ideal) (iblk m c 0 t) (iblk m c 1 t) (iblk m c 2 t) (iblk m c 3 t) (iblk m c 4 t) y
        = out0_5 (F := Ideal) (iblk m c 0 t) (iblk m c 1 t) (iblk m c 2 t) (iblk m c 3 t) (iblk m c 4 t) (ix2 (⟨(y 0).val, hy0⟩ : Fin 512) (⟨(y 1).val, hy1⟩ : Fin 2048)) from
      congrArg _ (funext fun a => by fin_cases a <;> rfl)]
    rw [out_block]
    unfold resultArr
    refine congrArg₂ (resultAt m c) ?_ (Fin.ext ?_)
    · show _ = win0_5.index t 0 * 512 + 1 * (y 0).val
      rw [(where5 t).1]
      show t.val * 512 + (y 0).val = _
      omega
    · show (y 1).val = win0_5.index t 1 * 2048 + 1 * (y 1).val
      rw [(where5 t).2]
      omega
  · intro y
    have hy0 : (y 0).val < 8192 := (y 0).isLt
    have hy1 : (y 1).val < 2048 := (y 1).isLt
    obtain ⟨t, ht⟩ : ∃ t : Fin cfg0.N, t.val = (y 0).val / 512 := ⟨⟨_, by rw [show cfg0.N = 16 from N_0]; omega⟩, rfl⟩
    refine ⟨t, flush0_5 t, ?_⟩
    show y ∈ ((View.whole main_v1).slice (win0_5.rect t)).set
    rw [View.set_slice_whole, Rect.mem_set_unit]
    intro a
    match a with
    | ⟨0, _⟩ =>
      show win0_5.index t 0 * 512 ≤ (y 0).val ∧ (y 0).val < win0_5.index t 0 * 512 + 512
      rw [(where5 t).1]
      omega
    | ⟨1, _⟩ =>
      show win0_5.index t 1 * 2048 ≤ (y 1).val ∧ (y 1).val < win0_5.index t 1 * 2048 + 2048
      rw [(where5 t).2]
      omega

end Cert.OddOutIdeal.Tile

end
-- ==== Proof.OddOutRef.lean ====
module

public import proofs.«01_k».proof.Proof.Dense
public import proofs.«01_k».proof.Proof.Gen.OddOutRefIdeal.Run

/-! The output projection's reference, an element at a time. -/

@[expose] public section

set_option maxRecDepth 16384

noncomputable section

namespace Cert.OddOutRefIdeal.Rows

open Idealize.ShloMosaic Idealize.ShloMosaic.TcCoe Idealize.SL.Sem
open Cert.OddOutRefIdeal Cert.Dense

variable (m : (ℓ : Loc nD τ sig) → Buf (Elt Ideal) ℓ)

def xA (c : Dev nD) : S8192x2048.Idx → EReal := m ((c.tc : Thread nD τ).loc main_arg0)
def mixA (c : Dev nD) : S8192x2048.Idx → EReal := m ((c.tc : Thread nD τ).loc main_arg1)
def weightA (c : Dev nD) : S2048x2048.Idx → EReal := m ((c.tc : Thread nD τ).loc main_arg2)

/-- The two halves of a row. -/
def left (c : Dev nD) (a : ℕ) (e : Fin 1024) : EReal := rowOf (mixA m c) a ⟨e.val, by omega⟩
def right (c : Dev nD) (a : ℕ) (e : Fin 1024) : EReal := rowOf (mixA m c) a ⟨1024 + e.val, by omega⟩

/-- The result. -/
def resultArr (c : Dev nD) : S8192x2048.Idx → EReal := fun y =>
  projected (rowOf (xA m c) (y 0).val) (left m c (y 0).val) (right m c (y 0).val) (weightA m c) (y 1)

theorem resultArr_at (c : Dev nD) (a : Fin 8192) (n : Fin 2048) : resultArr m c (ix2 a n) =
    projected (fun e => xA m c (ix2 a e)) (fun e => mixA m c (ix2 a ⟨e.val, by omega⟩)) (fun e => mixA m c (ix2 a ⟨1024 + e.val, by omega⟩)) (weightA m c) n := by
  unfold resultArr left right
  simp only [rowOf_eq]
  congr 1
  all_goals exact funext fun e => (rowOf_eq _ a _)

theorem result (ρ : Dev nD → PrngReg) :
    θ_run defs (onTc (τ := τ) (main (F := Ideal))) ⟨m, fun _ => 0, ρ⟩ fun r => ∀ c : Dev nD,
      r.2.mem ((c.tc : Thread nD τ).loc main_v1) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    refine ext2 (n := 8192) (k := 2048) fun a n => ?_
    rw [resultArr_at]
    unfold projected
    pointwise
    rw [halves, ← add_assoc]
    rfl), (h c).2⟩) (Value.run (F := Ideal) m ρ)

end Cert.OddOutRefIdeal.Rows

end
-- ==== Proof.LastSampleValue.lean ====
module

public import proofs.«01_k».proof.Proof.Dense
public import proofs.«01_k».proof.Proof.Gen.LastSampleIdeal.Value
public import Idealize.ShloMosaic.Lib.StableHlo.ReadAt
public import Idealize.ShloMosaic.Lib.Pipeline.Value

/-! The result of the feed-forward kernel that norms its output: point `t` is the hidden block `t % 11` of the row block `t / 11`. The first point of
a row block norms its rows, every point adds its hidden block's contributions, and the last adds the residual and norms the row. -/

@[expose] public section

set_option maxRecDepth 16384

noncomputable section

namespace Cert.LastSampleIdeal.Tile

open Idealize.ShloMosaic Idealize.ShloMosaic.TcCoe Idealize.SL.Sem Idealize.ShloMosaic.StableHlo
open Cert.LastSampleIdeal Cert.LastSampleIdeal.Gen Cert.Dense

variable (m : (ℓ : Loc nD τ sig) → Buf (Elt Ideal) ℓ)

/-! The arguments. -/

def xA (c : Dev nD) : S64x2048.Idx → EReal := m ((c : Thread nD τ).loc main_arg0)
def scaleA (c : Dev nD) : S2048.Idx → EReal := m ((c : Thread nD τ).loc main_arg1)
def gateA (c : Dev nD) : S2048x5632.Idx → EReal := m ((c : Thread nD τ).loc main_arg2)
def upA (c : Dev nD) : S2048x5632.Idx → EReal := m ((c : Thread nD τ).loc main_arg3)
def downA (c : Dev nD) : S5632x2048.Idx → EReal := m ((c : Thread nD τ).loc main_arg4)

def finalA (c : Dev nD) : S2048.Idx → EReal := m ((c : Thread nD τ).loc main_arg5)

theorem x_entry (c : Dev nD) : (V m c main_arg0 : S64x2048.Idx → EReal) = xA m c := by
  unfold V
  after_reads_simp
  rfl

theorem gate_entry (c : Dev nD) : (V m c main_v0 : S2048x5632.Idx → EReal) = gateA m c := by
  unfold V
  after_reads_simp
  rfl

theorem up_entry (c : Dev nD) : (V m c main_v1 : S2048x5632.Idx → EReal) = upA m c := by
  unfold V
  after_reads_simp
  rfl

theorem down_entry (c : Dev nD) : (V m c main_v2 : S5632x2048.Idx → EReal) = downA m c := by
  unfold V
  after_reads_simp
  rfl

theorem scale_entry (c : Dev nD) (r : Fin 1) (s : Fin 2048) : (V m c main_v3 : S1x2048.Idx → EReal) (ix2 r s) = scaleA m c (ix1 s) := by
  unfold V
  after_reads_at
  rfl

theorem final_entry (c : Dev nD) (r : Fin 1) (s : Fin 2048) : (V m c main_v4 : S1x2048.Idx → EReal) (ix2 r s) = finalA m c (ix1 s) := by
  unfold V
  after_reads_at
  rfl

/-! The blocks a point reads. -/

theorem point_lt (t : Fin cfg0.N) : t.val < 11 := t.isLt.trans_eq N_0

theorem where0 : ∀ t : Fin grid0.N, win0_0.index t 0 = t.val / 11 ∧ win0_0.index t 1 = 0 := by decide +kernel
theorem where1 : ∀ t : Fin grid0.N, win0_1.index t 0 = 0 ∧ win0_1.index t 1 = 0 := by decide +kernel
theorem where2 : ∀ t : Fin grid0.N, win0_2.index t 0 = 0 ∧ win0_2.index t 1 = t.val % 11 := by decide +kernel
theorem where3 : ∀ t : Fin grid0.N, win0_3.index t 0 = 0 ∧ win0_3.index t 1 = t.val % 11 := by decide +kernel
theorem where4 : ∀ t : Fin grid0.N, win0_4.index t 0 = t.val % 11 ∧ win0_4.index t 1 = 0 := by decide +kernel
theorem where5 : ∀ t : Fin grid0.N, win0_5.index t 0 = 0 ∧ win0_5.index t 1 = 0 := by decide +kernel
theorem where6 : ∀ t : Fin grid0.N, win0_6.index t 0 = t.val / 11 ∧ win0_6.index t 1 = 0 := by decide +kernel

theorem block0 (c : Dev nD) (t : Fin cfg0.N) (i : Fin 64) (e : Fin 2048) :
    iblk m c 0 t (ix2 i e) = rowOf (xA m c) (t.val / 11 * 64 + i.val) e := by
  unfold iblk
  rw [View.read_apply]
  show V m c main_arg0 _ = _
  rw [x_entry]
  refine rowOf_at _ _ _ _ ?_ ?_
  · show win0_0.index t 0 * 64 + 1 * i.val = _; rw [(where0 t).1]; omega
  · show win0_0.index t 1 * 2048 + 1 * e.val = _; rw [(where0 t).2]; omega

theorem block1 (c : Dev nD) (t : Fin cfg0.N) (r : Fin 1) (e : Fin 2048) : iblk m c 1 t (ix2 r e) = scaleA m c (ix1 e) := by
  unfold iblk
  rw [View.read_apply]
  show V m c main_v3 _ = _
  refine Eq.trans (congrArg (V m c main_v3) (funext fun a => Fin.ext ?_)) (scale_entry m c r e)
  match a with
  | ⟨0, _⟩ => show win0_1.index t 0 * 1 + 1 * r.val = r.val; rw [(where1 t).1]; omega
  | ⟨1, _⟩ => show win0_1.index t 1 * 2048 + 1 * e.val = e.val; rw [(where1 t).2]; omega

theorem block2 (c : Dev nD) (t : Fin cfg0.N) (d : Fin 2048) (x : Fin 512) :
    iblk m c 2 t (ix2 d x) = gateA m c (ix2 d ⟨512 * (t.val % 11) + x.val, by omega⟩) := by
  unfold iblk
  rw [View.read_apply]
  show V m c main_v0 _ = _
  rw [gate_entry]
  refine congrArg (gateA m c) (funext fun a => Fin.ext ?_)
  match a with
  | ⟨0, _⟩ => show win0_2.index t 0 * 2048 + 1 * d.val = d.val; rw [(where2 t).1]; omega
  | ⟨1, _⟩ => show win0_2.index t 1 * 512 + 1 * x.val = 512 * (t.val % 11) + x.val; rw [(where2 t).2]; omega

theorem block3 (c : Dev nD) (t : Fin cfg0.N) (d : Fin 2048) (x : Fin 512) :
    iblk m c 3 t (ix2 d x) = upA m c (ix2 d ⟨512 * (t.val % 11) + x.val, by omega⟩) := by
  unfold iblk
  rw [View.read_apply]
  show V m c main_v1 _ = _
  rw [up_entry]
  refine congrArg (upA m c) (funext fun a => Fin.ext ?_)
  match a with
  | ⟨0, _⟩ => show win0_3.index t 0 * 2048 + 1 * d.val = d.val; rw [(where3 t).1]; omega
  | ⟨1, _⟩ => show win0_3.index t 1 * 512 + 1 * x.val = 512 * (t.val % 11) + x.val; rw [(where3 t).2]; omega

theorem block4 (c : Dev nD) (t : Fin cfg0.N) (x : Fin 512) (n : Fin 2048) :
    iblk m c 4 t (ix2 x n) = downA m c (ix2 ⟨512 * (t.val % 11) + x.val, by omega⟩ n) := by
  unfold iblk
  rw [View.read_apply]
  show V m c main_v2 _ = _
  rw [down_entry]
  refine congrArg (downA m c) (funext fun a => Fin.ext ?_)
  match a with
  | ⟨0, _⟩ => show win0_4.index t 0 * 512 + 1 * x.val = 512 * (t.val % 11) + x.val; rw [(where4 t).1]; omega
  | ⟨1, _⟩ => show win0_4.index t 1 * 2048 + 1 * n.val = n.val; rw [(where4 t).2]; omega

theorem block5 (c : Dev nD) (t : Fin cfg0.N) (r : Fin 1) (e : Fin 2048) : iblk m c 5 t (ix2 r e) = finalA m c (ix1 e) := by
  unfold iblk
  rw [View.read_apply]
  show V m c main_v4 _ = _
  refine Eq.trans (congrArg (V m c main_v4) (funext fun a => Fin.ext ?_)) (final_entry m c r e)
  match a with
  | ⟨0, _⟩ => show win0_5.index t 0 * 1 + 1 * r.val = r.val; rw [(where5 t).1]; omega
  | ⟨1, _⟩ => show win0_5.index t 1 * 2048 + 1 * e.val = e.val; rw [(where5 t).2]; omega

/-! What a point leaves, as its computation over what it reads. -/

theorem zero2 : (![0, 0] : Fin 2 → Nat) = fun _ => 0 := funext fun a => by fin_cases a <;> rfl

/-- The point's contributions added to a block. -/
def add (c : Dev nD) (t : Fin cfg0.N) (h : FVec Ideal S64x2048 .bf16) (o : FVec Ideal S64x2048 .f32) : FVec Ideal S64x2048 .f32 :=
  k0_pay3 (F := Ideal) h (iblk m c 2 t) (iblk m c 3 t) o (iblk m c 4 t)

/-- What the point before left. -/
def before (c : Dev nD) (t : Fin cfg0.N) : Vec Ideal S64x2048 .f32 × Vec Ideal S64x2048 .bf16 :=
  outsAt0 m c (t.val - 1) (Nat.lt_of_le_of_lt (Nat.sub_le _ _) t.isLt)

theorem rows_A (c : Dev nD) (t : Fin cfg0.N) (h0 : t.val % 11 = 0) :
    (outsAt0 m c t.val t.isLt).2 = k0_pay1 (F := Ideal) (iblk m c 0 t) (iblk m c 1 t) := by
  have hsc : scM0_0.IsWhole := Memref.isWhole_whole _
  rw [outsAt0_A m c t h0 (by omega)]
  dsimp only
  unfold sout0_A_0
  rw [View.read_writes_eq_canon _ _ _ (fun y => scover0_A_0 (y := y) ..)]
  unfold kernelRun0_A
  dsimp only
  sl_unfold_words
  simp only [View.canon_cons_unit_zero (S := S64x2048) zero2, View.canon_unit_zero (S := S64x2048) zero2, View.readCov_unit_zero (S := S64x2048) _ zero2,
    View.readAt_eq_ld, (hs0_0 t).read_unread, (hs0_1 t).read_unread, (hs0_2 t).read_unread, (hs0_3 t).read_unread, (hs0_4 t).read_unread, (hs0_5 t).read_unread, hsc.read_unread,
    View.ld_unit_zero (S := S64x2048) zero2, View.ld_unit_zero (S := S512x2048) zero2, View.ld_unit_zero (S := S1x2048) zero2, View.ld_unit_zero (S := S2048x512) zero2]

theorem out_A (c : Dev nD) (t : Fin cfg0.N) (h0 : t.val % 11 = 0) :
    (outsAt0 m c t.val t.isLt).1 = add m c t (k0_pay1 (F := Ideal) (iblk m c 0 t) (iblk m c 1 t)) k0_pay2 := by
  have hsc : scM0_0.IsWhole := Memref.isWhole_whole _
  rw [outsAt0_A m c t h0 (by omega)]
  dsimp only
  unfold out0_A_6
  rw [View.read_writes_eq_canon _ _ _ (fun y => cover0_A_6 (y := y) ..)]
  unfold kernelRun0_A
  dsimp only
  sl_unfold_words
  simp only [View.canon_cons_unit_zero (S := S64x2048) zero2, View.canon_unit_zero (S := S64x2048) zero2, View.readCov_unit_zero (S := S64x2048) _ zero2,
    View.readAt_eq_ld, (hs0_0 t).read_unread, (hs0_1 t).read_unread, (hs0_2 t).read_unread, (hs0_3 t).read_unread, (hs0_4 t).read_unread, (hs0_5 t).read_unread, hsc.read_unread,
    View.ld_unit_zero (S := S64x2048) zero2, View.ld_unit_zero (S := S512x2048) zero2, View.ld_unit_zero (S := S1x2048) zero2, View.ld_unit_zero (S := S2048x512) zero2]
  rfl

theorem rows_B (c : Dev nD) (t : Fin cfg0.N) (h0 : ¬t.val % 11 = 0) (h1 : ¬t.val % 11 = 10) :
    (outsAt0 m c t.val t.isLt).2 = (before m c t).2 := by
  rw [outsAt0_B m c t h0 h1]
  rfl

theorem out_B (c : Dev nD) (t : Fin cfg0.N) (h0 : ¬t.val % 11 = 0) (h1 : ¬t.val % 11 = 10) :
    (outsAt0 m c t.val t.isLt).1 = add m c t (before m c t).2 (before m c t).1 := by
  have hsc : scM0_0.IsWhole := Memref.isWhole_whole _
  rw [outsAt0_B m c t h0 h1]
  dsimp only
  unfold out0_B_6
  rw [View.read_writes_eq_canon _ _ _ (fun y => cover0_B_6 (y := y) ..)]
  unfold kernelRun0_B
  dsimp only
  sl_unfold_words
  simp only [View.canon_cons_unit_zero (S := S64x2048) zero2, View.canon_unit_zero (S := S64x2048) zero2, View.readCov_unit_zero (S := S64x2048) _ zero2,
    View.readAt_eq_ld, (hs0_0 t).read_unread, (hs0_1 t).read_unread, (hs0_2 t).read_unread, (hs0_3 t).read_unread, (hs0_4 t).read_unread, (hs0_5 t).read_unread, (hs0_6 t).read_unread, hsc.read_unread,
    View.ld_unit_zero (S := S64x2048) zero2, View.ld_unit_zero (S := S512x2048) zero2, View.ld_unit_zero (S := S1x2048) zero2, View.ld_unit_zero (S := S2048x512) zero2]
  rfl

theorem out_C (c : Dev nD) (t : Fin cfg0.N) (h1 : t.val % 11 = 10) :
    (outsAt0 m c t.val t.isLt).1 = k0_pay4 (F := Ideal) (iblk m c 0 t) (add m c t (before m c t).2 (before m c t).1) (iblk m c 5 t) := by
  have hsc : scM0_0.IsWhole := Memref.isWhole_whole _
  rw [outsAt0_C m c t (by omega) h1]
  dsimp only
  unfold out0_C_6
  rw [View.read_writes_eq_canon _ _ _ (fun y => cover0_C_6 (y := y) ..)]
  unfold kernelRun0_C
  dsimp only
  sl_unfold_words
  simp only [View.canon_cons_unit_zero (S := S64x2048) zero2, View.canon_unit_zero (S := S64x2048) zero2, View.readCov_unit_zero (S := S64x2048) _ zero2,
    View.readAt_eq_ld, (hs0_0 t).read_unread, (hs0_1 t).read_unread, (hs0_2 t).read_unread, (hs0_3 t).read_unread, (hs0_4 t).read_unread, (hs0_5 t).read_unread, (hs0_6 t).read_unread, hsc.read_unread,
    View.ld_unit_zero (S := S64x2048) zero2, View.ld_unit_zero (S := S512x2048) zero2, View.ld_unit_zero (S := S1x2048) zero2, View.ld_unit_zero (S := S2048x512) zero2]
  rfl

/-! The blocks' elements. -/

/-- The normed row `a`. -/
def hrow (c : Dev nD) (a : ℕ) : Fin 2048 → EReal := normed (rowOf (xA m c) a) fun d => scaleA m c (ix1 d)

theorem rows_eq (c : Dev nD) (t : Fin cfg0.N) (i : Fin 64) (d : Fin 2048) :
    k0_pay1 (F := Ideal) (iblk m c 0 t) (iblk m c 1 t) (ix2 i d) = hrow m c (t.val / 11 * 64 + i.val) d := by
  pointwise [k0_pay1]
  simp only [block0 m c t, block1 m c t]
  rfl

theorem add_eq (c : Dev nD) (t : Fin cfg0.N) (h : FVec Ideal S64x2048 .bf16) (o : FVec Ideal S64x2048 .f32)
    (hh : ∀ (i : Fin 64) (d : Fin 2048), h (ix2 i d) = hrow m c (t.val / 11 * 64 + i.val) d)
    (ho : ∀ (i : Fin 64) (n : Fin 2048), o (ix2 i n) = part (hrow m c (t.val / 11 * 64 + i.val)) (gateA m c) (upA m c) (downA m c) n (t.val % 11))
    (i : Fin 64) (n : Fin 2048) :
    add m c t h o (ix2 i n) = part (hrow m c (t.val / 11 * 64 + i.val)) (gateA m c) (upA m c) (downA m c) n (t.val % 11 + 1) := by
  unfold add
  pointwise [k0_pay3]
  simp only [hh, ho, block2 m c t, block3 m c t, block4 m c t]
  rw [part_succ _ _ _ _ _ _ (by omega)]
  rfl

/-- After each point but a row block's last: the block's normed rows, and the contributions so far. -/
theorem after_points (c : Dev nD) : ∀ (n : ℕ) (h : n < cfg0.N), n % 11 ≠ 10 →
    (∀ (i : Fin 64) (d : Fin 2048), (outsAt0 m c n h).2 (ix2 i d) = hrow m c (n / 11 * 64 + i.val) d)
    ∧ ∀ (i : Fin 64) (d : Fin 2048), (outsAt0 m c n h).1 (ix2 i d)
      = part (hrow m c (n / 11 * 64 + i.val)) (gateA m c) (upA m c) (downA m c) d (n % 11 + 1) := by
  have first : ∀ (t : Fin cfg0.N), t.val % 11 = 0 →
      (∀ (i : Fin 64) (d : Fin 2048), (outsAt0 m c t.val t.isLt).2 (ix2 i d) = hrow m c (t.val / 11 * 64 + i.val) d)
      ∧ ∀ (i : Fin 64) (d : Fin 2048), (outsAt0 m c t.val t.isLt).1 (ix2 i d)
        = part (hrow m c (t.val / 11 * 64 + i.val)) (gateA m c) (upA m c) (downA m c) d (t.val % 11 + 1) := fun t h0 => by
    rw [rows_A m c t h0, out_A m c t h0]
    refine ⟨rows_eq m c t, add_eq m c t _ _ (rows_eq m c t) fun i n => ?_⟩
    pointwise [k0_pay2]
    rw [h0, part_zero]
  intro n
  induction n with
  | zero => exact fun h _ => first ⟨0, h⟩ rfl
  | succ n ih =>
    intro h h1
    by_cases h0 : (n + 1) % 11 = 0
    · exact first ⟨n + 1, h⟩ h0
    · have hb := ih (Nat.lt_of_succ_lt h) (by omega)
      rw [show n / 11 = (n + 1) / 11 by omega, show n % 11 + 1 = (n + 1) % 11 by omega] at hb
      rw [show (outsAt0 m c (n + 1) h).2 = _ from rows_B m c ⟨n + 1, h⟩ h0 h1, show (outsAt0 m c (n + 1) h).1 = _ from out_B m c ⟨n + 1, h⟩ h0 h1]
      exact ⟨hb.1, add_eq m c ⟨n + 1, h⟩ _ _ hb.1 hb.2⟩

/-- The element of the result in row `a` and column `n`. -/
def resultAt (c : Dev nD) (a : ℕ) (n : Fin 2048) : EReal :=
  normed (fun e => after (hrow m c a) (gateA m c) (upA m c) (downA m c) e (rowOf (xA m c) a)) (fun e => finalA m c (ix1 e)) n

theorem last_point (c : Dev nD) (t : Fin cfg0.N) (h1 : t.val % 11 = 10) (i : Fin 64) (n : Fin 2048) :
    (outsAt0 m c t.val t.isLt).1 (ix2 i n) = resultAt m c (t.val / 11 * 64 + i.val) n := by
  have hb := after_points m c (t.val - 1) (Nat.lt_of_le_of_lt (Nat.sub_le _ _) t.isLt) (by omega)
  rw [show (t.val - 1) / 11 = t.val / 11 by omega, show (t.val - 1) % 11 + 1 = t.val % 11 by omega] at hb
  rw [out_C m c t h1]
  pointwise [k0_pay4]
  simp only [add_eq m c t (before m c t).2 (before m c t).1 hb.1 hb.2, h1, part_all, block0 m c t, block5 m c t]
  rfl

/-- The result. -/
def resultArr (c : Dev nD) : S64x2048.Idx → EReal := fun y => resultAt m c (y 0).val (y 1)

theorem final (c : Dev nD) : (dats m 0 c).arrAt 6 cfg0.N = resultArr m c := by
  refine (dats m 0 c).arrAt_eq_of_cover 6 (resultArr m c) ?_ ?_
  · intro t hf
    rw [Value.flushed6]
    funext y
    rw [View.read_apply]
    show (outsAt0 m c t.val t.isLt).1 y = resultArr m c _
    have hy0 : (y 0).val < 64 := (y 0).isLt
    have hy1 : (y 1).val < 2048 := (y 1).isLt
    rw [show (outsAt0 m c t.val t.isLt).1 y = (outsAt0 m c t.val t.isLt).1 (ix2 (⟨(y 0).val, hy0⟩ : Fin 64) (⟨(y 1).val, hy1⟩ : Fin 2048)) from
      congrArg (outsAt0 m c t.val t.isLt).1 (funext fun a => by fin_cases a <;> rfl)]
    rw [last_point m c t ((flush0_6 t).mp hf)]
    unfold resultArr
    refine congrArg₂ (resultAt m c) ?_ (Fin.ext ?_)
    · show _ = win0_6.index t 0 * 64 + 1 * (y 0).val
      rw [(where6 t).1]
      show t.val / 11 * 64 + (y 0).val = _
      omega
    · show (y 1).val = win0_6.index t 1 * 2048 + 1 * (y 1).val
      rw [(where6 t).2]
      omega
  · intro y
    have hy0 : (y 0).val < 64 := (y 0).isLt
    have hy1 : (y 1).val < 2048 := (y 1).isLt
    obtain ⟨t, ht⟩ : ∃ t : Fin cfg0.N, t.val = (y 0).val / 64 * 11 + 10 := ⟨⟨_, by rw [show cfg0.N = 11 from N_0]; omega⟩, rfl⟩
    refine ⟨t, (flush0_6 t).mpr (by omega), ?_⟩
    show y ∈ ((View.whole main_v5).slice (win0_6.rect t)).set
    rw [View.set_slice_whole, Rect.mem_set_unit]
    intro a
    match a with
    | ⟨0, _⟩ =>
      show win0_6.index t 0 * 64 ≤ (y 0).val ∧ (y 0).val < win0_6.index t 0 * 64 + 64
      rw [(where6 t).1]
      omega
    | ⟨1, _⟩ =>
      show win0_6.index t 1 * 2048 ≤ (y 1).val ∧ (y 1).val < win0_6.index t 1 * 2048 + 2048
      rw [(where6 t).2]
      omega

end Cert.LastSampleIdeal.Tile

end
-- ==== Proof.LastSampleRef.lean ====
module

public import proofs.«01_k».proof.Proof.Dense
public import proofs.«01_k».proof.Proof.Gen.LastSampleRefIdeal.Run

/-! The result of the feed-forward reference that norms its output, an element at a time. -/

@[expose] public section

set_option maxRecDepth 16384

noncomputable section

namespace Cert.LastSampleRefIdeal.Rows

open Idealize.ShloMosaic Idealize.ShloMosaic.TcCoe Idealize.SL.Sem
open Cert.LastSampleRefIdeal Cert.Dense

variable (m : (ℓ : Loc nD τ sig) → Buf (Elt Ideal) ℓ)

def xA (c : Dev nD) : S64x2048.Idx → EReal := m ((c.tc : Thread nD τ).loc main_arg0)
def scaleA (c : Dev nD) : S2048.Idx → EReal := m ((c.tc : Thread nD τ).loc main_arg1)
def gateA (c : Dev nD) : S2048x5632.Idx → EReal := m ((c.tc : Thread nD τ).loc main_arg2)
def upA (c : Dev nD) : S2048x5632.Idx → EReal := m ((c.tc : Thread nD τ).loc main_arg3)
def downA (c : Dev nD) : S5632x2048.Idx → EReal := m ((c.tc : Thread nD τ).loc main_arg4)

def finalA (c : Dev nD) : S2048.Idx → EReal := m ((c.tc : Thread nD τ).loc main_arg5)

/-- The result. -/
def resultArr (c : Dev nD) : S64x2048.Idx → EReal := fun y =>
  normed (fun n => after (normed (rowOf (xA m c) (y 0).val) fun d => scaleA m c (ix1 d)) (gateA m c) (upA m c) (downA m c) n (rowOf (xA m c) (y 0).val))
    (fun n => finalA m c (ix1 n)) (y 1)

theorem resultArr_at (c : Dev nD) (a : Fin 64) (n : Fin 2048) : resultArr m c (ix2 a n) =
    normed (fun b => after (normed (fun e => xA m c (ix2 a e)) fun d => scaleA m c (ix1 d)) (gateA m c) (upA m c) (downA m c) b (fun e => xA m c (ix2 a e)))
      (fun b => finalA m c (ix1 b)) n := by
  rw [show (fun e => xA m c (ix2 a e)) = rowOf (xA m c) a.val from funext fun e => (rowOf_eq (xA m c) a e).symm]
  rfl

theorem result (ρ : Dev nD → PrngReg) :
    θ_run defs (onTc (τ := τ) (main (F := Ideal))) ⟨m, fun _ => 0, ρ⟩ fun r => ∀ c : Dev nD,
      r.2.mem ((c.tc : Thread nD τ).loc main_v33) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by
    refine ext2 (n := 64) (k := 2048) fun a n => ?_
    rw [resultArr_at]
    unfold Value.res_main_v33 after contrib act normed
    pointwise
    rfl), (h c).2⟩) (Value.run (F := Ideal) m ρ)

end Cert.LastSampleRefIdeal.Rows

end
-- ==== Proof.EvenInSampleValue.lean ====
module

public import proofs.«01_k».proof.Proof.Dense
public import proofs.«01_k».proof.Proof.Gen.EvenInSampleIdeal.Value
public import Idealize.ShloMosaic.Lib.StableHlo.ReadAt
public import Idealize.ShloMosaic.Lib.Pipeline.Value

/-! The input projection's result: point `t` is the block `t % 8` of 896 columns of the row block `t / 8`. The first point
of a row block norms its rows, and every point multiplies them by its columns. -/

@[expose] public section

set_option maxRecDepth 16384

noncomputable section

namespace Cert.EvenInSampleIdeal.Tile

open Idealize.ShloMosaic Idealize.ShloMosaic.TcCoe Idealize.SL.Sem Idealize.ShloMosaic.StableHlo
open Cert.EvenInSampleIdeal Cert.EvenInSampleIdeal.Gen Cert.Dense

variable (m : (ℓ : Loc nD τ sig) → Buf (Elt Ideal) ℓ)

def xA (c : Dev nD) : S64x2048.Idx → EReal := m ((c : Thread nD τ).loc main_arg0)
def scaleA (c : Dev nD) : S2048.Idx → EReal := m ((c : Thread nD τ).loc main_arg1)
def weightA (c : Dev nD) : S2048x7168.Idx → EReal := m ((c : Thread nD τ).loc main_arg2)

/-- The weights' columns. -/
def column (c : Dev nD) (n : ℕ) (d : Fin 2048) : EReal := if h : n < 7168 then weightA m c (ix2 d ⟨n, h⟩) else 0

theorem column_in (c : Dev nD) (n : Fin 7168) (d : Fin 2048) (h : n.val < 7168) : column m c n.val d = weightA m c (ix2 d ⟨n.val, h⟩) := dif_pos h

theorem column_out (c : Dev nD) (n : Fin 7168) (d : Fin 2048) (h : ¬n.val < 7168) : column m c n.val d = 0 := dif_neg h

theorem x_entry (c : Dev nD) : (V m c main_arg0 : S64x2048.Idx → EReal) = xA m c := by
  unfold V
  after_reads_simp
  rfl

theorem scale_entry (c : Dev nD) (r : Fin 1) (s : Fin 2048) : (V m c main_v1 : S1x2048.Idx → EReal) (ix2 r s) = scaleA m c (ix1 s) := by
  unfold V
  after_reads_at
  rfl

theorem weight_entry (c : Dev nD) (d : Fin 2048) (n : Fin 7168) : (V m c main_v0 : S2048x7168.Idx → EReal) (ix2 d n) = column m c n.val d := by
  unfold V
  after_reads_at
  exact (column_in m c n d n.isLt).symm

/-! The blocks a point reads. -/

theorem point_lt (t : Fin cfg0.N) : t.val < 8 := t.isLt.trans_eq N_0

theorem where0 : ∀ t : Fin grid0.N, win0_0.index t 0 = t.val / 8 ∧ win0_0.index t 1 = 0 := by decide +kernel
theorem where1 : ∀ t : Fin grid0.N, win0_1.index t 0 = 0 ∧ win0_1.index t 1 = 0 := by decide +kernel
theorem where2 : ∀ t : Fin grid0.N, win0_2.index t 0 = 0 ∧ win0_2.index t 1 = t.val % 8 := by decide +kernel
theorem where3 : ∀ t : Fin grid0.N, win0_3.index t 0 = t.val / 8 ∧ win0_3.index t 1 = t.val % 8 := by decide +kernel

theorem block0 (c : Dev nD) (t : Fin cfg0.N) (i : Fin 64) (e : Fin 2048) :
    iblk m c 0 t (ix2 i e) = rowOf (xA m c) (t.val / 8 * 64 + i.val) e := by
  unfold iblk
  rw [View.read_apply]
  show V m c main_arg0 _ = _
  rw [x_entry]
  refine rowOf_at _ _ _ _ ?_ ?_
  · show win0_0.index t 0 * 64 + 1 * i.val = _; rw [(where0 t).1]; omega
  · show win0_0.index t 1 * 2048 + 1 * e.val = _; rw [(where0 t).2]; omega

theorem block1 (c : Dev nD) (t : Fin cfg0.N) (r : Fin 1) (e : Fin 2048) : iblk m c 1 t (ix2 r e) = scaleA m c (ix1 e) := by
  unfold iblk
  rw [View.read_apply]
  show V m c main_v1 _ = _
  refine Eq.trans (congrArg (V m c main_v1) (funext fun a => Fin.ext ?_)) (scale_entry m c r e)
  match a with
  | ⟨0, _⟩ => show win0_1.index t 0 * 1 + 1 * r.val = r.val; rw [(where1 t).1]; omega
  | ⟨1, _⟩ => show win0_1.index t 1 * 2048 + 1 * e.val = e.val; rw [(where1 t).2]; omega

theorem block2 (c : Dev nD) (t : Fin cfg0.N) (d : Fin 2048) (x : Fin 896) :
    iblk m c 2 t (ix2 d x) = column m c (t.val % 8 * 896 + x.val) d := by
  unfold iblk
  rw [View.read_apply]
  show V m c main_v0 _ = _
  refine Eq.trans (congrArg (V m c main_v0) (funext fun a => Fin.ext ?_)) (weight_entry m c d ⟨t.val % 8 * 896 + x.val, by omega⟩)
  match a with
  | ⟨0, _⟩ => show win0_2.index t 0 * 2048 + 1 * d.val = d.val; rw [(where2 t).1]; omega
  | ⟨1, _⟩ => show win0_2.index t 1 * 896 + 1 * x.val = t.val % 8 * 896 + x.val; rw [(where2 t).2]; omega

/-! What a point leaves. -/

theorem zero2 : (![0, 0] : Fin 2 → Nat) = fun _ => 0 := funext fun a => by fin_cases a <;> rfl

/-- What the point before left. -/
def before (c : Dev nD) (t : Fin cfg0.N) : Vec Ideal S64x896 .f32 × Vec Ideal S64x2048 .bf16 :=
  outsAt0 m c (t.val - 1) (Nat.lt_of_le_of_lt (Nat.sub_le _ _) t.isLt)

theorem rows_A (c : Dev nD) (t : Fin cfg0.N) (h0 : t.val % 8 = 0) :
    (outsAt0 m c t.val t.isLt).2 = k0_pay1 (F := Ideal) (iblk m c 0 t) (iblk m c 1 t) := by
  have hsc : scM0_0.IsWhole := Memref.isWhole_whole _
  rw [outsAt0_A m c t h0]
  dsimp only
  unfold sout0_A_0
  rw [View.read_writes_eq_canon _ _ _ (fun y => scover0_A_0 (y := y) ..)]
  unfold kernelRun0_A
  dsimp only
  sl_unfold_words
  simp only [View.canon_unit_zero (S := S64x2048) zero2, View.canon_unit_zero (S := S64x896) zero2, View.readCov_unit_zero (S := S64x2048) _ zero2,
    View.readAt_eq_ld, (hs0_0 t).read_unread, (hs0_1 t).read_unread, (hs0_2 t).read_unread, hsc.read_unread,
    View.ld_unit_zero (S := S64x2048) zero2, View.ld_unit_zero (S := S1x2048) zero2, View.ld_unit_zero (S := S2048x896) zero2]

theorem out_A (c : Dev nD) (t : Fin cfg0.N) (h0 : t.val % 8 = 0) :
    (outsAt0 m c t.val t.isLt).1 = k0_pay2 (F := Ideal) (k0_pay1 (F := Ideal) (iblk m c 0 t) (iblk m c 1 t)) (iblk m c 2 t) := by
  have hsc : scM0_0.IsWhole := Memref.isWhole_whole _
  rw [outsAt0_A m c t h0]
  dsimp only
  unfold out0_A_3
  rw [View.read_writes_eq_canon _ _ _ (fun y => cover0_A_3 (y := y) ..)]
  unfold kernelRun0_A
  dsimp only
  sl_unfold_words
  simp only [View.canon_unit_zero (S := S64x2048) zero2, View.canon_unit_zero (S := S64x896) zero2, View.readCov_unit_zero (S := S64x2048) _ zero2,
    View.readAt_eq_ld, (hs0_0 t).read_unread, (hs0_1 t).read_unread, (hs0_2 t).read_unread, hsc.read_unread,
    View.ld_unit_zero (S := S64x2048) zero2, View.ld_unit_zero (S := S1x2048) zero2, View.ld_unit_zero (S := S2048x896) zero2]

theorem rows_B (c : Dev nD) (t : Fin cfg0.N) (h0 : ¬t.val % 8 = 0) : (outsAt0 m c t.val t.isLt).2 = (before m c t).2 := by
  rw [outsAt0_B m c t h0]
  rfl

theorem out_B (c : Dev nD) (t : Fin cfg0.N) (h0 : ¬t.val % 8 = 0) :
    (outsAt0 m c t.val t.isLt).1 = k0_pay2 (F := Ideal) (before m c t).2 (iblk m c 2 t) := by
  have hsc : scM0_0.IsWhole := Memref.isWhole_whole _
  rw [outsAt0_B m c t h0]
  dsimp only
  unfold out0_B_3
  rw [View.read_writes_eq_canon _ _ _ (fun y => cover0_B_3 (y := y) ..)]
  unfold kernelRun0_B
  dsimp only
  sl_unfold_words
  simp only [View.canon_unit_zero (S := S64x896) zero2,
    View.readAt_eq_ld, (hs0_0 t).read_unread, (hs0_1 t).read_unread, (hs0_2 t).read_unread, hsc.read_unread,
    View.ld_unit_zero (S := S64x2048) zero2, View.ld_unit_zero (S := S1x2048) zero2, View.ld_unit_zero (S := S2048x896) zero2]
  rfl

/-! The blocks' elements. -/

/-- The normed row `a`. -/
def hrow (c : Dev nD) (a : ℕ) : Fin 2048 → EReal := normed (rowOf (xA m c) a) fun d => scaleA m c (ix1 d)

/-- The element of the result in row `a` and column `n`. -/
def resultAt (c : Dev nD) (a n : ℕ) : EReal := ∑ d, hrow m c a d * column m c n d

theorem rows_eq (c : Dev nD) (t : Fin cfg0.N) (i : Fin 64) (d : Fin 2048) :
    k0_pay1 (F := Ideal) (iblk m c 0 t) (iblk m c 1 t) (ix2 i d) = hrow m c (t.val / 8 * 64 + i.val) d := by
  pointwise [k0_pay1]
  simp only [block0 m c t, block1 m c t]
  rfl

theorem product (c : Dev nD) (t : Fin cfg0.N) (h : FVec Ideal S64x2048 .bf16)
    (hh : ∀ (i : Fin 64) (d : Fin 2048), h (ix2 i d) = hrow m c (t.val / 8 * 64 + i.val) d) (i : Fin 64) (x : Fin 896) :
    k0_pay2 (F := Ideal) h (iblk m c 2 t) (ix2 i x) = resultAt m c (t.val / 8 * 64 + i.val) (t.val % 8 * 896 + x.val) := by
  pointwise [k0_pay2]
  simp only [hh, block2 m c t]
  rfl

/-- The normed rows stay through a row block. -/
theorem rows_after (c : Dev nD) : ∀ (n : ℕ) (h : n < cfg0.N) (i : Fin 64) (d : Fin 2048),
    (outsAt0 m c n h).2 (ix2 i d) = hrow m c (n / 8 * 64 + i.val) d := by
  intro n
  induction n with
  | zero =>
    intro h
    rw [show (outsAt0 m c 0 h).2 = _ from rows_A m c ⟨0, h⟩ rfl]
    exact rows_eq m c ⟨0, h⟩
  | succ n ih =>
    intro h
    by_cases h0 : (n + 1) % 8 = 0
    · rw [show (outsAt0 m c (n + 1) h).2 = _ from rows_A m c ⟨n + 1, h⟩ h0]
      exact rows_eq m c ⟨n + 1, h⟩
    · rw [show (outsAt0 m c (n + 1) h).2 = _ from rows_B m c ⟨n + 1, h⟩ h0]
      have := ih (Nat.lt_of_succ_lt h)
      rw [show n / 8 = (n + 1) / 8 by omega] at this
      exact this

theorem out_block (c : Dev nD) (t : Fin cfg0.N) (i : Fin 64) (x : Fin 896) :
    (outsAt0 m c t.val t.isLt).1 (ix2 i x) = resultAt m c (t.val / 8 * 64 + i.val) (t.val % 8 * 896 + x.val) := by
  by_cases h0 : t.val % 8 = 0
  · rw [out_A m c t h0]
    exact product m c t _ (rows_eq m c t) i x
  · rw [out_B m c t h0]
    refine product m c t (before m c t).2 ?_ i x
    have := rows_after m c (t.val - 1) (Nat.lt_of_le_of_lt (Nat.sub_le _ _) t.isLt)
    rw [show (t.val - 1) / 8 = t.val / 8 by omega] at this
    exact this

/-- The result. -/
def resultArr (c : Dev nD) : S64x7168.Idx → EReal := fun y => resultAt m c (y 0).val (y 1).val

theorem final (c : Dev nD) : (dats m 0 c).arrAt 3 cfg0.N = resultArr m c := by
  refine (dats m 0 c).arrAt_eq_of_cover 3 (resultArr m c) ?_ ?_
  · intro t _
    rw [Value.flushed3]
    funext y
    rw [View.read_apply]
    show (outsAt0 m c t.val t.isLt).1 y = resultArr m c _
    have hy0 : (y 0).val < 64 := (y 0).isLt
    have hy1 : (y 1).val < 896 := (y 1).isLt
    rw [show (outsAt0 m c t.val t.isLt).1 y = (outsAt0 m c t.val t.isLt).1 (ix2 (⟨(y 0).val, hy0⟩ : Fin 64) (⟨(y 1).val, hy1⟩ : Fin 896)) from
      congrArg (outsAt0 m c t.val t.isLt).1 (funext fun a => by fin_cases a <;> rfl)]
    rw [out_block]
    unfold resultArr
    refine congrArg₂ (resultAt m c) ?_ ?_
    · show _ = win0_3.index t 0 * 64 + 1 * (y 0).val
      rw [(where3 t).1]
      show t.val / 8 * 64 + (y 0).val = _
      omega
    · show _ = win0_3.index t 1 * 896 + 1 * (y 1).val
      rw [(where3 t).2]
      show t.val % 8 * 896 + (y 1).val = _
      omega
  · intro y
    have hy0 : (y 0).val < 64 := (y 0).isLt
    have hy1 : (y 1).val < 7168 := (y 1).isLt
    obtain ⟨t, ht⟩ : ∃ t : Fin cfg0.N, t.val = (y 0).val / 64 * 8 + (y 1).val / 896 := ⟨⟨_, by rw [show cfg0.N = 8 from N_0]; omega⟩, rfl⟩
    refine ⟨t, flush0_3 t, ?_⟩
    show y ∈ ((View.whole main_v2).slice (win0_3.rect t)).set
    rw [View.set_slice_whole, Rect.mem_set_unit]
    intro a
    match a with
    | ⟨0, _⟩ =>
      show win0_3.index t 0 * 64 ≤ (y 0).val ∧ (y 0).val < win0_3.index t 0 * 64 + 64
      rw [(where3 t).1]
      omega
    | ⟨1, _⟩ =>
      show win0_3.index t 1 * 896 ≤ (y 1).val ∧ (y 1).val < win0_3.index t 1 * 896 + 896
      rw [(where3 t).2]
      omega

end Cert.EvenInSampleIdeal.Tile

end
-- ==== Proof.EvenInSampleRef.lean ====
module

public import proofs.«01_k».proof.Proof.Dense
public import proofs.«01_k».proof.Proof.Gen.EvenInSampleRefIdeal.Run

/-! The input projection's reference, an element at a time. -/

@[expose] public section

set_option maxRecDepth 16384

noncomputable section

namespace Cert.EvenInSampleRefIdeal.Rows

open Idealize.ShloMosaic Idealize.ShloMosaic.TcCoe Idealize.SL.Sem
open Cert.EvenInSampleRefIdeal Cert.Dense

variable (m : (ℓ : Loc nD τ sig) → Buf (Elt Ideal) ℓ)

def xA (c : Dev nD) : S64x2048.Idx → EReal := m ((c.tc : Thread nD τ).loc main_arg0)
def scaleA (c : Dev nD) : S2048.Idx → EReal := m ((c.tc : Thread nD τ).loc main_arg1)
def weightA (c : Dev nD) : S2048x7168.Idx → EReal := m ((c.tc : Thread nD τ).loc main_arg2)

def column (c : Dev nD) (n : ℕ) (d : Fin 2048) : EReal := if h : n < 7168 then weightA m c (ix2 d ⟨n, h⟩) else 0

theorem column_in (c : Dev nD) (n : Fin 7168) (d : Fin 2048) (h : n.val < 7168) : column m c n.val d = weightA m c (ix2 d ⟨n.val, h⟩) := dif_pos h

theorem column_out (c : Dev nD) (n : Fin 7168) (d : Fin 2048) (h : ¬n.val < 7168) : column m c n.val d = 0 := dif_neg h

/-- The result. -/
def resultArr (c : Dev nD) : S64x7168.Idx → EReal := fun y =>
  ∑ d, normed (rowOf (xA m c) (y 0).val) (fun d => scaleA m c (ix1 d)) d * column m c (y 1).val d

theorem resultArr_at (c : Dev nD) (a : Fin 64) (n : Fin 7168) : resultArr m c (ix2 a n) =
    ∑ d, normed (fun e => xA m c (ix2 a e)) (fun d => scaleA m c (ix1 d)) d * column m c n.val d := by
  rw [show (fun e => xA m c (ix2 a e)) = rowOf (xA m c) a.val from funext fun e => (rowOf_eq (xA m c) a e).symm]
  rfl

theorem result (ρ : Dev nD → PrngReg) :
    θ_run defs (onTc (τ := τ) (main (F := Ideal))) ⟨m, fun _ => 0, ρ⟩ fun r => ∀ c : Dev nD,
      r.2.mem ((c.tc : Thread nD τ).loc main_v13) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    refine ext2 (n := 64) (k := 7168) fun a n => ?_
    rw [resultArr_at]
    unfold normed
    pointwise
    exact Finset.sum_congr rfl fun d _ => congrArg _ (column_in m c n d n.isLt).symm), (h c).2⟩) (Value.run (F := Ideal) m ρ)

end Cert.EvenInSampleRefIdeal.Rows

end
-- ==== Proof.FfnSampleValue.lean ====
module

public import proofs.«01_k».proof.Proof.Dense
public import proofs.«01_k».proof.Proof.Gen.FfnSampleIdeal.Value
public import Idealize.ShloMosaic.Lib.StableHlo.ReadAt
public import Idealize.ShloMosaic.Lib.Pipeline.Value

/-! The feed-forward kernel's result: point `t` is the hidden block `t % 11` of the row block `t / 11`. The first point of
a row block norms its rows, every point adds its hidden block's contributions, and the last adds the residual. -/

@[expose] public section

set_option maxRecDepth 16384

noncomputable section

namespace Cert.FfnSampleIdeal.Tile

open Idealize.ShloMosaic Idealize.ShloMosaic.TcCoe Idealize.SL.Sem Idealize.ShloMosaic.StableHlo
open Cert.FfnSampleIdeal Cert.FfnSampleIdeal.Gen Cert.Dense

variable (m : (ℓ : Loc nD τ sig) → Buf (Elt Ideal) ℓ)

/-! The arguments. -/

def xA (c : Dev nD) : S64x2048.Idx → EReal := m ((c : Thread nD τ).loc main_arg0)
def scaleA (c : Dev nD) : S2048.Idx → EReal := m ((c : Thread nD τ).loc main_arg1)
def gateA (c : Dev nD) : S2048x5632.Idx → EReal := m ((c : Thread nD τ).loc main_arg2)
def upA (c : Dev nD) : S2048x5632.Idx → EReal := m ((c : Thread nD τ).loc main_arg3)
def downA (c : Dev nD) : S5632x2048.Idx → EReal := m ((c : Thread nD τ).loc main_arg4)

theorem x_entry (c : Dev nD) : (V m c main_arg0 : S64x2048.Idx → EReal) = xA m c := by
  unfold V
  after_reads_simp
  rfl

theorem gate_entry (c : Dev nD) : (V m c main_v0 : S2048x5632.Idx → EReal) = gateA m c := by
  unfold V
  after_reads_simp
  rfl

theorem up_entry (c : Dev nD) : (V m c main_v1 : S2048x5632.Idx → EReal) = upA m c := by
  unfold V
  after_reads_simp
  rfl

theorem down_entry (c : Dev nD) : (V m c main_v2 : S5632x2048.Idx → EReal) = downA m c := by
  unfold V
  after_reads_simp
  rfl

theorem scale_entry (c : Dev nD) (r : Fin 1) (s : Fin 2048) : (V m c main_v3 : S1x2048.Idx → EReal) (ix2 r s) = scaleA m c (ix1 s) := by
  unfold V
  after_reads_at
  rfl

/-! The blocks a point reads. -/

theorem point_lt (t : Fin cfg0.N) : t.val < 11 := t.isLt.trans_eq N_0

theorem where0 : ∀ t : Fin grid0.N, win0_0.index t 0 = t.val / 11 ∧ win0_0.index t 1 = 0 := by decide +kernel
theorem where1 : ∀ t : Fin grid0.N, win0_1.index t 0 = 0 ∧ win0_1.index t 1 = 0 := by decide +kernel
theorem where2 : ∀ t : Fin grid0.N, win0_2.index t 0 = 0 ∧ win0_2.index t 1 = t.val % 11 := by decide +kernel
theorem where3 : ∀ t : Fin grid0.N, win0_3.index t 0 = 0 ∧ win0_3.index t 1 = t.val % 11 := by decide +kernel
theorem where4 : ∀ t : Fin grid0.N, win0_4.index t 0 = t.val % 11 ∧ win0_4.index t 1 = 0 := by decide +kernel
theorem where5 : ∀ t : Fin grid0.N, win0_5.index t 0 = t.val / 11 ∧ win0_5.index t 1 = 0 := by decide +kernel

theorem block0 (c : Dev nD) (t : Fin cfg0.N) (i : Fin 64) (e : Fin 2048) :
    iblk m c 0 t (ix2 i e) = rowOf (xA m c) (t.val / 11 * 64 + i.val) e := by
  unfold iblk
  rw [View.read_apply]
  show V m c main_arg0 _ = _
  rw [x_entry]
  refine rowOf_at _ _ _ _ ?_ ?_
  · show win0_0.index t 0 * 64 + 1 * i.val = _; rw [(where0 t).1]; omega
  · show win0_0.index t 1 * 2048 + 1 * e.val = _; rw [(where0 t).2]; omega

theorem block1 (c : Dev nD) (t : Fin cfg0.N) (r : Fin 1) (e : Fin 2048) : iblk m c 1 t (ix2 r e) = scaleA m c (ix1 e) := by
  unfold iblk
  rw [View.read_apply]
  show V m c main_v3 _ = _
  refine Eq.trans (congrArg (V m c main_v3) (funext fun a => Fin.ext ?_)) (scale_entry m c r e)
  match a with
  | ⟨0, _⟩ => show win0_1.index t 0 * 1 + 1 * r.val = r.val; rw [(where1 t).1]; omega
  | ⟨1, _⟩ => show win0_1.index t 1 * 2048 + 1 * e.val = e.val; rw [(where1 t).2]; omega

theorem block2 (c : Dev nD) (t : Fin cfg0.N) (d : Fin 2048) (x : Fin 512) :
    iblk m c 2 t (ix2 d x) = gateA m c (ix2 d ⟨512 * (t.val % 11) + x.val, by omega⟩) := by
  unfold iblk
  rw [View.read_apply]
  show V m c main_v0 _ = _
  rw [gate_entry]
  refine congrArg (gateA m c) (funext fun a => Fin.ext ?_)
  match a with
  | ⟨0, _⟩ => show win0_2.index t 0 * 2048 + 1 * d.val = d.val; rw [(where2 t).1]; omega
  | ⟨1, _⟩ => show win0_2.index t 1 * 512 + 1 * x.val = 512 * (t.val % 11) + x.val; rw [(where2 t).2]; omega

theorem block3 (c : Dev nD) (t : Fin cfg0.N) (d : Fin 2048) (x : Fin 512) :
    iblk m c 3 t (ix2 d x) = upA m c (ix2 d ⟨512 * (t.val % 11) + x.val, by omega⟩) := by
  unfold iblk
  rw [View.read_apply]
  show V m c main_v1 _ = _
  rw [up_entry]
  refine congrArg (upA m c) (funext fun a => Fin.ext ?_)
  match a with
  | ⟨0, _⟩ => show win0_3.index t 0 * 2048 + 1 * d.val = d.val; rw [(where3 t).1]; omega
  | ⟨1, _⟩ => show win0_3.index t 1 * 512 + 1 * x.val = 512 * (t.val % 11) + x.val; rw [(where3 t).2]; omega

theorem block4 (c : Dev nD) (t : Fin cfg0.N) (x : Fin 512) (n : Fin 2048) :
    iblk m c 4 t (ix2 x n) = downA m c (ix2 ⟨512 * (t.val % 11) + x.val, by omega⟩ n) := by
  unfold iblk
  rw [View.read_apply]
  show V m c main_v2 _ = _
  rw [down_entry]
  refine congrArg (downA m c) (funext fun a => Fin.ext ?_)
  match a with
  | ⟨0, _⟩ => show win0_4.index t 0 * 512 + 1 * x.val = 512 * (t.val % 11) + x.val; rw [(where4 t).1]; omega
  | ⟨1, _⟩ => show win0_4.index t 1 * 2048 + 1 * n.val = n.val; rw [(where4 t).2]; omega

/-! What a point leaves, as its computation over what it reads. -/

theorem zero2 : (![0, 0] : Fin 2 → Nat) = fun _ => 0 := funext fun a => by fin_cases a <;> rfl

/-- The point's contributions added to a block. -/
def add (c : Dev nD) (t : Fin cfg0.N) (h : FVec Ideal S64x2048 .bf16) (o : FVec Ideal S64x2048 .f32) : FVec Ideal S64x2048 .f32 :=
  k0_pay3 (F := Ideal) h (iblk m c 2 t) (iblk m c 3 t) o (iblk m c 4 t)

/-- What the point before left. -/
def before (c : Dev nD) (t : Fin cfg0.N) : Vec Ideal S64x2048 .f32 × Vec Ideal S64x2048 .bf16 :=
  outsAt0 m c (t.val - 1) (Nat.lt_of_le_of_lt (Nat.sub_le _ _) t.isLt)

theorem rows_A (c : Dev nD) (t : Fin cfg0.N) (h0 : t.val % 11 = 0) :
    (outsAt0 m c t.val t.isLt).2 = k0_pay1 (F := Ideal) (iblk m c 0 t) (iblk m c 1 t) := by
  have hsc : scM0_0.IsWhole := Memref.isWhole_whole _
  rw [outsAt0_A m c t h0 (by omega)]
  dsimp only
  unfold sout0_A_0
  rw [View.read_writes_eq_canon _ _ _ (fun y => scover0_A_0 (y := y) ..)]
  unfold kernelRun0_A
  dsimp only
  sl_unfold_words
  simp only [View.canon_cons_unit_zero (S := S64x2048) zero2, View.canon_unit_zero (S := S64x2048) zero2, View.readCov_unit_zero (S := S64x2048) _ zero2,
    View.readAt_eq_ld, (hs0_0 t).read_unread, (hs0_1 t).read_unread, (hs0_2 t).read_unread, (hs0_3 t).read_unread, (hs0_4 t).read_unread, hsc.read_unread,
    View.ld_unit_zero (S := S64x2048) zero2, View.ld_unit_zero (S := S512x2048) zero2, View.ld_unit_zero (S := S1x2048) zero2, View.ld_unit_zero (S := S2048x512) zero2]

theorem out_A (c : Dev nD) (t : Fin cfg0.N) (h0 : t.val % 11 = 0) :
    (outsAt0 m c t.val t.isLt).1 = add m c t (k0_pay1 (F := Ideal) (iblk m c 0 t) (iblk m c 1 t)) k0_pay2 := by
  have hsc : scM0_0.IsWhole := Memref.isWhole_whole _
  rw [outsAt0_A m c t h0 (by omega)]
  dsimp only
  unfold out0_A_5
  rw [View.read_writes_eq_canon _ _ _ (fun y => cover0_A_5 (y := y) ..)]
  unfold kernelRun0_A
  dsimp only
  sl_unfold_words
  simp only [View.canon_cons_unit_zero (S := S64x2048) zero2, View.canon_unit_zero (S := S64x2048) zero2, View.readCov_unit_zero (S := S64x2048) _ zero2,
    View.readAt_eq_ld, (hs0_0 t).read_unread, (hs0_1 t).read_unread, (hs0_2 t).read_unread, (hs0_3 t).read_unread, (hs0_4 t).read_unread, hsc.read_unread,
    View.ld_unit_zero (S := S64x2048) zero2, View.ld_unit_zero (S := S512x2048) zero2, View.ld_unit_zero (S := S1x2048) zero2, View.ld_unit_zero (S := S2048x512) zero2]
  rfl

theorem rows_B (c : Dev nD) (t : Fin cfg0.N) (h0 : ¬t.val % 11 = 0) (h1 : ¬t.val % 11 = 10) :
    (outsAt0 m c t.val t.isLt).2 = (before m c t).2 := by
  rw [outsAt0_B m c t h0 h1]
  rfl

theorem out_B (c : Dev nD) (t : Fin cfg0.N) (h0 : ¬t.val % 11 = 0) (h1 : ¬t.val % 11 = 10) :
    (outsAt0 m c t.val t.isLt).1 = add m c t (before m c t).2 (before m c t).1 := by
  have hsc : scM0_0.IsWhole := Memref.isWhole_whole _
  rw [outsAt0_B m c t h0 h1]
  dsimp only
  unfold out0_B_5
  rw [View.read_writes_eq_canon _ _ _ (fun y => cover0_B_5 (y := y) ..)]
  unfold kernelRun0_B
  dsimp only
  sl_unfold_words
  simp only [View.canon_cons_unit_zero (S := S64x2048) zero2, View.canon_unit_zero (S := S64x2048) zero2, View.readCov_unit_zero (S := S64x2048) _ zero2,
    View.readAt_eq_ld, (hs0_0 t).read_unread, (hs0_1 t).read_unread, (hs0_2 t).read_unread, (hs0_3 t).read_unread, (hs0_4 t).read_unread, (hs0_5 t).read_unread, hsc.read_unread,
    View.ld_unit_zero (S := S64x2048) zero2, View.ld_unit_zero (S := S512x2048) zero2, View.ld_unit_zero (S := S1x2048) zero2, View.ld_unit_zero (S := S2048x512) zero2]
  rfl

theorem out_C (c : Dev nD) (t : Fin cfg0.N) (h1 : t.val % 11 = 10) :
    (outsAt0 m c t.val t.isLt).1 = k0_pay4 (F := Ideal) (iblk m c 0 t) (add m c t (before m c t).2 (before m c t).1) := by
  have hsc : scM0_0.IsWhole := Memref.isWhole_whole _
  rw [outsAt0_C m c t (by omega) h1]
  dsimp only
  unfold out0_C_5
  rw [View.read_writes_eq_canon _ _ _ (fun y => cover0_C_5 (y := y) ..)]
  unfold kernelRun0_C
  dsimp only
  sl_unfold_words
  simp only [View.canon_cons_unit_zero (S := S64x2048) zero2, View.canon_unit_zero (S := S64x2048) zero2, View.readCov_unit_zero (S := S64x2048) _ zero2,
    View.readAt_eq_ld, (hs0_0 t).read_unread, (hs0_1 t).read_unread, (hs0_2 t).read_unread, (hs0_3 t).read_unread, (hs0_4 t).read_unread, (hs0_5 t).read_unread, hsc.read_unread,
    View.ld_unit_zero (S := S64x2048) zero2, View.ld_unit_zero (S := S512x2048) zero2, View.ld_unit_zero (S := S1x2048) zero2, View.ld_unit_zero (S := S2048x512) zero2]
  rfl

/-! The blocks' elements. -/

/-- The normed row `a`. -/
def hrow (c : Dev nD) (a : ℕ) : Fin 2048 → EReal := normed (rowOf (xA m c) a) fun d => scaleA m c (ix1 d)

theorem rows_eq (c : Dev nD) (t : Fin cfg0.N) (i : Fin 64) (d : Fin 2048) :
    k0_pay1 (F := Ideal) (iblk m c 0 t) (iblk m c 1 t) (ix2 i d) = hrow m c (t.val / 11 * 64 + i.val) d := by
  pointwise [k0_pay1]
  simp only [block0 m c t, block1 m c t]
  rfl

theorem add_eq (c : Dev nD) (t : Fin cfg0.N) (h : FVec Ideal S64x2048 .bf16) (o : FVec Ideal S64x2048 .f32)
    (hh : ∀ (i : Fin 64) (d : Fin 2048), h (ix2 i d) = hrow m c (t.val / 11 * 64 + i.val) d)
    (ho : ∀ (i : Fin 64) (n : Fin 2048), o (ix2 i n) = part (hrow m c (t.val / 11 * 64 + i.val)) (gateA m c) (upA m c) (downA m c) n (t.val % 11))
    (i : Fin 64) (n : Fin 2048) :
    add m c t h o (ix2 i n) = part (hrow m c (t.val / 11 * 64 + i.val)) (gateA m c) (upA m c) (downA m c) n (t.val % 11 + 1) := by
  unfold add
  pointwise [k0_pay3]
  simp only [hh, ho, block2 m c t, block3 m c t, block4 m c t]
  rw [part_succ _ _ _ _ _ _ (by omega)]
  rfl

/-- After each point but a row block's last: the block's normed rows, and the contributions so far. -/
theorem after_points (c : Dev nD) : ∀ (n : ℕ) (h : n < cfg0.N), n % 11 ≠ 10 →
    (∀ (i : Fin 64) (d : Fin 2048), (outsAt0 m c n h).2 (ix2 i d) = hrow m c (n / 11 * 64 + i.val) d)
    ∧ ∀ (i : Fin 64) (d : Fin 2048), (outsAt0 m c n h).1 (ix2 i d)
      = part (hrow m c (n / 11 * 64 + i.val)) (gateA m c) (upA m c) (downA m c) d (n % 11 + 1) := by
  have first : ∀ (t : Fin cfg0.N), t.val % 11 = 0 →
      (∀ (i : Fin 64) (d : Fin 2048), (outsAt0 m c t.val t.isLt).2 (ix2 i d) = hrow m c (t.val / 11 * 64 + i.val) d)
      ∧ ∀ (i : Fin 64) (d : Fin 2048), (outsAt0 m c t.val t.isLt).1 (ix2 i d)
        = part (hrow m c (t.val / 11 * 64 + i.val)) (gateA m c) (upA m c) (downA m c) d (t.val % 11 + 1) := fun t h0 => by
    rw [rows_A m c t h0, out_A m c t h0]
    refine ⟨rows_eq m c t, add_eq m c t _ _ (rows_eq m c t) fun i n => ?_⟩
    pointwise [k0_pay2]
    rw [h0, part_zero]
  intro n
  induction n with
  | zero => exact fun h _ => first ⟨0, h⟩ rfl
  | succ n ih =>
    intro h h1
    by_cases h0 : (n + 1) % 11 = 0
    · exact first ⟨n + 1, h⟩ h0
    · have hb := ih (Nat.lt_of_succ_lt h) (by omega)
      rw [show n / 11 = (n + 1) / 11 by omega, show n % 11 + 1 = (n + 1) % 11 by omega] at hb
      rw [show (outsAt0 m c (n + 1) h).2 = _ from rows_B m c ⟨n + 1, h⟩ h0 h1, show (outsAt0 m c (n + 1) h).1 = _ from out_B m c ⟨n + 1, h⟩ h0 h1]
      exact ⟨hb.1, add_eq m c ⟨n + 1, h⟩ _ _ hb.1 hb.2⟩

/-- The element of the result in row `a` and column `n`. -/
def resultAt (c : Dev nD) (a : ℕ) (n : Fin 2048) : EReal :=
  after (hrow m c a) (gateA m c) (upA m c) (downA m c) n (rowOf (xA m c) a)

theorem last_point (c : Dev nD) (t : Fin cfg0.N) (h1 : t.val % 11 = 10) (i : Fin 64) (n : Fin 2048) :
    (outsAt0 m c t.val t.isLt).1 (ix2 i n) = resultAt m c (t.val / 11 * 64 + i.val) n := by
  have hb := after_points m c (t.val - 1) (Nat.lt_of_le_of_lt (Nat.sub_le _ _) t.isLt) (by omega)
  rw [show (t.val - 1) / 11 = t.val / 11 by omega, show (t.val - 1) % 11 + 1 = t.val % 11 by omega] at hb
  rw [out_C m c t h1]
  pointwise [k0_pay4]
  rw [add_eq m c t (before m c t).2 (before m c t).1 hb.1 hb.2, h1, part_all, block0 m c t]
  rfl

/-- The result. -/
def resultArr (c : Dev nD) : S64x2048.Idx → EReal := fun y => resultAt m c (y 0).val (y 1)

theorem final (c : Dev nD) : (dats m 0 c).arrAt 5 cfg0.N = resultArr m c := by
  refine (dats m 0 c).arrAt_eq_of_cover 5 (resultArr m c) ?_ ?_
  · intro t hf
    rw [Value.flushed5]
    funext y
    rw [View.read_apply]
    show (outsAt0 m c t.val t.isLt).1 y = resultArr m c _
    have hy0 : (y 0).val < 64 := (y 0).isLt
    have hy1 : (y 1).val < 2048 := (y 1).isLt
    rw [show (outsAt0 m c t.val t.isLt).1 y = (outsAt0 m c t.val t.isLt).1 (ix2 (⟨(y 0).val, hy0⟩ : Fin 64) (⟨(y 1).val, hy1⟩ : Fin 2048)) from
      congrArg (outsAt0 m c t.val t.isLt).1 (funext fun a => by fin_cases a <;> rfl)]
    rw [last_point m c t ((flush0_5 t).mp hf)]
    unfold resultArr
    refine congrArg₂ (resultAt m c) ?_ (Fin.ext ?_)
    · show _ = win0_5.index t 0 * 64 + 1 * (y 0).val
      rw [(where5 t).1]
      show t.val / 11 * 64 + (y 0).val = _
      omega
    · show (y 1).val = win0_5.index t 1 * 2048 + 1 * (y 1).val
      rw [(where5 t).2]
      omega
  · intro y
    have hy0 : (y 0).val < 64 := (y 0).isLt
    have hy1 : (y 1).val < 2048 := (y 1).isLt
    obtain ⟨t, ht⟩ : ∃ t : Fin cfg0.N, t.val = (y 0).val / 64 * 11 + 10 := ⟨⟨_, by rw [show cfg0.N = 11 from N_0]; omega⟩, rfl⟩
    refine ⟨t, (flush0_5 t).mpr (by omega), ?_⟩
    show y ∈ ((View.whole main_v4).slice (win0_5.rect t)).set
    rw [View.set_slice_whole, Rect.mem_set_unit]
    intro a
    match a with
    | ⟨0, _⟩ =>
      show win0_5.index t 0 * 64 ≤ (y 0).val ∧ (y 0).val < win0_5.index t 0 * 64 + 64
      rw [(where5 t).1]
      omega
    | ⟨1, _⟩ =>
      show win0_5.index t 1 * 2048 ≤ (y 1).val ∧ (y 1).val < win0_5.index t 1 * 2048 + 2048
      rw [(where5 t).2]
      omega

end Cert.FfnSampleIdeal.Tile

end
-- ==== Proof.FfnSampleRef.lean ====
module

public import proofs.«01_k».proof.Proof.Dense
public import proofs.«01_k».proof.Proof.Gen.FfnSampleRefIdeal.Run

/-! The feed-forward reference's result, an element at a time. -/

@[expose] public section

set_option maxRecDepth 16384

noncomputable section

namespace Cert.FfnSampleRefIdeal.Rows

open Idealize.ShloMosaic Idealize.ShloMosaic.TcCoe Idealize.SL.Sem
open Cert.FfnSampleRefIdeal Cert.Dense

variable (m : (ℓ : Loc nD τ sig) → Buf (Elt Ideal) ℓ)

def xA (c : Dev nD) : S64x2048.Idx → EReal := m ((c.tc : Thread nD τ).loc main_arg0)
def scaleA (c : Dev nD) : S2048.Idx → EReal := m ((c.tc : Thread nD τ).loc main_arg1)
def gateA (c : Dev nD) : S2048x5632.Idx → EReal := m ((c.tc : Thread nD τ).loc main_arg2)
def upA (c : Dev nD) : S2048x5632.Idx → EReal := m ((c.tc : Thread nD τ).loc main_arg3)
def downA (c : Dev nD) : S5632x2048.Idx → EReal := m ((c.tc : Thread nD τ).loc main_arg4)

/-- The result. -/
def resultArr (c : Dev nD) : S64x2048.Idx → EReal := fun y =>
  after (normed (rowOf (xA m c) (y 0).val) fun d => scaleA m c (ix1 d)) (gateA m c) (upA m c) (downA m c) (y 1) (rowOf (xA m c) (y 0).val)

theorem resultArr_at (c : Dev nD) (a : Fin 64) (n : Fin 2048) : resultArr m c (ix2 a n) =
    after (normed (fun e => xA m c (ix2 a e)) fun d => scaleA m c (ix1 d)) (gateA m c) (upA m c) (downA m c) n (fun e => xA m c (ix2 a e)) := by
  rw [show (fun e => xA m c (ix2 a e)) = rowOf (xA m c) a.val from funext fun e => (rowOf_eq (xA m c) a e).symm]
  rfl

theorem result (ρ : Dev nD → PrngReg) :
    θ_run defs (onTc (τ := τ) (main (F := Ideal))) ⟨m, fun _ => 0, ρ⟩ fun r => ∀ c : Dev nD,
      r.2.mem ((c.tc : Thread nD τ).loc main_v20) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
    refine ext2 (n := 64) (k := 2048) fun a n => ?_
    rw [resultArr_at]
    unfold after contrib act normed
    pointwise
    rfl), (h c).2⟩) (Value.run (F := Ideal) m ρ)

end Cert.FfnSampleRefIdeal.Rows

end
-- ==== Proof.OddInSampleValue.lean ====
module

public import proofs.«01_k».proof.Proof.Dense
public import proofs.«01_k».proof.Proof.Gen.OddInSampleIdeal.Value
public import Idealize.ShloMosaic.Lib.StableHlo.ReadAt
public import Idealize.ShloMosaic.Lib.Pipeline.Value

/-! The input projection's result: point `t` is the block `t % 7` of 896 columns of the row block `t / 7`. The first point
of a row block norms its rows, and every point multiplies them by its columns. -/

@[expose] public section

set_option maxRecDepth 16384

noncomputable section

namespace Cert.OddInSampleIdeal.Tile

open Idealize.ShloMosaic Idealize.ShloMosaic.TcCoe Idealize.SL.Sem Idealize.ShloMosaic.StableHlo
open Cert.OddInSampleIdeal Cert.OddInSampleIdeal.Gen Cert.Dense

variable (m : (ℓ : Loc nD τ sig) → Buf (Elt Ideal) ℓ)

def xA (c : Dev nD) : S64x2048.Idx → EReal := m ((c : Thread nD τ).loc main_arg0)
def scaleA (c : Dev nD) : S2048.Idx → EReal := m ((c : Thread nD τ).loc main_arg1)
def weightA (c : Dev nD) : S2048x6160.Idx → EReal := m ((c : Thread nD τ).loc main_arg2)

/-- The weights' columns, zero after the last. -/
def column (c : Dev nD) (n : ℕ) (d : Fin 2048) : EReal := if h : n < 6160 then weightA m c (ix2 d ⟨n, h⟩) else 0

theorem column_in (c : Dev nD) (n : Fin 6272) (d : Fin 2048) (h : n.val < 6160) : column m c n.val d = weightA m c (ix2 d ⟨n.val, h⟩) := dif_pos h

theorem column_out (c : Dev nD) (n : Fin 6272) (d : Fin 2048) (h : ¬n.val < 6160) : column m c n.val d = 0 := dif_neg h

theorem x_entry (c : Dev nD) : (V m c main_arg0 : S64x2048.Idx → EReal) = xA m c := by
  unfold V
  after_reads_simp
  rfl

theorem scale_entry (c : Dev nD) (r : Fin 1) (s : Fin 2048) : (V m c main_v2 : S1x2048.Idx → EReal) (ix2 r s) = scaleA m c (ix1 s) := by
  unfold V
  after_reads_at
  rfl

theorem weight_entry (c : Dev nD) (d : Fin 2048) (n : Fin 6272) : (V m c main_v1 : S2048x6272.Idx → EReal) (ix2 d n) = column m c n.val d := by
  unfold V
  after_reads_at
  by_cases h : n.val < 6160
  · rw [column_in m c n d h, dif_pos h]
    rfl
  · rw [column_out m c n d h, dif_neg h]
    exact zero_word

/-! The blocks a point reads. -/

theorem point_lt (t : Fin cfg0.N) : t.val < 7 := t.isLt.trans_eq N_0

theorem where0 : ∀ t : Fin grid0.N, win0_0.index t 0 = t.val / 7 ∧ win0_0.index t 1 = 0 := by decide +kernel
theorem where1 : ∀ t : Fin grid0.N, win0_1.index t 0 = 0 ∧ win0_1.index t 1 = 0 := by decide +kernel
theorem where2 : ∀ t : Fin grid0.N, win0_2.index t 0 = 0 ∧ win0_2.index t 1 = t.val % 7 := by decide +kernel
theorem where3 : ∀ t : Fin grid0.N, win0_3.index t 0 = t.val / 7 ∧ win0_3.index t 1 = t.val % 7 := by decide +kernel

theorem block0 (c : Dev nD) (t : Fin cfg0.N) (i : Fin 64) (e : Fin 2048) :
    iblk m c 0 t (ix2 i e) = rowOf (xA m c) (t.val / 7 * 64 + i.val) e := by
  unfold iblk
  rw [View.read_apply]
  show V m c main_arg0 _ = _
  rw [x_entry]
  refine rowOf_at _ _ _ _ ?_ ?_
  · show win0_0.index t 0 * 64 + 1 * i.val = _; rw [(where0 t).1]; omega
  · show win0_0.index t 1 * 2048 + 1 * e.val = _; rw [(where0 t).2]; omega

theorem block1 (c : Dev nD) (t : Fin cfg0.N) (r : Fin 1) (e : Fin 2048) : iblk m c 1 t (ix2 r e) = scaleA m c (ix1 e) := by
  unfold iblk
  rw [View.read_apply]
  show V m c main_v2 _ = _
  refine Eq.trans (congrArg (V m c main_v2) (funext fun a => Fin.ext ?_)) (scale_entry m c r e)
  match a with
  | ⟨0, _⟩ => show win0_1.index t 0 * 1 + 1 * r.val = r.val; rw [(where1 t).1]; omega
  | ⟨1, _⟩ => show win0_1.index t 1 * 2048 + 1 * e.val = e.val; rw [(where1 t).2]; omega

theorem block2 (c : Dev nD) (t : Fin cfg0.N) (d : Fin 2048) (x : Fin 896) :
    iblk m c 2 t (ix2 d x) = column m c (t.val % 7 * 896 + x.val) d := by
  unfold iblk
  rw [View.read_apply]
  show V m c main_v1 _ = _
  refine Eq.trans (congrArg (V m c main_v1) (funext fun a => Fin.ext ?_)) (weight_entry m c d ⟨t.val % 7 * 896 + x.val, by omega⟩)
  match a with
  | ⟨0, _⟩ => show win0_2.index t 0 * 2048 + 1 * d.val = d.val; rw [(where2 t).1]; omega
  | ⟨1, _⟩ => show win0_2.index t 1 * 896 + 1 * x.val = t.val % 7 * 896 + x.val; rw [(where2 t).2]; omega

/-! What a point leaves. -/

theorem zero2 : (![0, 0] : Fin 2 → Nat) = fun _ => 0 := funext fun a => by fin_cases a <;> rfl

/-- What the point before left. -/
def before (c : Dev nD) (t : Fin cfg0.N) : Vec Ideal S64x896 .f32 × Vec Ideal S64x2048 .bf16 :=
  outsAt0 m c (t.val - 1) (Nat.lt_of_le_of_lt (Nat.sub_le _ _) t.isLt)

theorem rows_A (c : Dev nD) (t : Fin cfg0.N) (h0 : t.val % 7 = 0) :
    (outsAt0 m c t.val t.isLt).2 = k0_pay1 (F := Ideal) (iblk m c 0 t) (iblk m c 1 t) := by
  have hsc : scM0_0.IsWhole := Memref.isWhole_whole _
  rw [outsAt0_A m c t h0]
  dsimp only
  unfold sout0_A_0
  rw [View.read_writes_eq_canon _ _ _ (fun y => scover0_A_0 (y := y) ..)]
  unfold kernelRun0_A
  dsimp only
  sl_unfold_words
  simp only [View.canon_unit_zero (S := S64x2048) zero2, View.canon_unit_zero (S := S64x896) zero2, View.readCov_unit_zero (S := S64x2048) _ zero2,
    View.readAt_eq_ld, (hs0_0 t).read_unread, (hs0_1 t).read_unread, (hs0_2 t).read_unread, hsc.read_unread,
    View.ld_unit_zero (S := S64x2048) zero2, View.ld_unit_zero (S := S1x2048) zero2, View.ld_unit_zero (S := S2048x896) zero2]

theorem out_A (c : Dev nD) (t : Fin cfg0.N) (h0 : t.val % 7 = 0) :
    (outsAt0 m c t.val t.isLt).1 = k0_pay2 (F := Ideal) (k0_pay1 (F := Ideal) (iblk m c 0 t) (iblk m c 1 t)) (iblk m c 2 t) := by
  have hsc : scM0_0.IsWhole := Memref.isWhole_whole _
  rw [outsAt0_A m c t h0]
  dsimp only
  unfold out0_A_3
  rw [View.read_writes_eq_canon _ _ _ (fun y => cover0_A_3 (y := y) ..)]
  unfold kernelRun0_A
  dsimp only
  sl_unfold_words
  simp only [View.canon_unit_zero (S := S64x2048) zero2, View.canon_unit_zero (S := S64x896) zero2, View.readCov_unit_zero (S := S64x2048) _ zero2,
    View.readAt_eq_ld, (hs0_0 t).read_unread, (hs0_1 t).read_unread, (hs0_2 t).read_unread, hsc.read_unread,
    View.ld_unit_zero (S := S64x2048) zero2, View.ld_unit_zero (S := S1x2048) zero2, View.ld_unit_zero (S := S2048x896) zero2]

theorem rows_B (c : Dev nD) (t : Fin cfg0.N) (h0 : ¬t.val % 7 = 0) : (outsAt0 m c t.val t.isLt).2 = (before m c t).2 := by
  rw [outsAt0_B m c t h0]
  rfl

theorem out_B (c : Dev nD) (t : Fin cfg0.N) (h0 : ¬t.val % 7 = 0) :
    (outsAt0 m c t.val t.isLt).1 = k0_pay2 (F := Ideal) (before m c t).2 (iblk m c 2 t) := by
  have hsc : scM0_0.IsWhole := Memref.isWhole_whole _
  rw [outsAt0_B m c t h0]
  dsimp only
  unfold out0_B_3
  rw [View.read_writes_eq_canon _ _ _ (fun y => cover0_B_3 (y := y) ..)]
  unfold kernelRun0_B
  dsimp only
  sl_unfold_words
  simp only [View.canon_unit_zero (S := S64x896) zero2,
    View.readAt_eq_ld, (hs0_0 t).read_unread, (hs0_1 t).read_unread, (hs0_2 t).read_unread, hsc.read_unread,
    View.ld_unit_zero (S := S64x2048) zero2, View.ld_unit_zero (S := S1x2048) zero2, View.ld_unit_zero (S := S2048x896) zero2]
  rfl

/-! The blocks' elements. -/

/-- The normed row `a`. -/
def hrow (c : Dev nD) (a : ℕ) : Fin 2048 → EReal := normed (rowOf (xA m c) a) fun d => scaleA m c (ix1 d)

/-- The element of the result in row `a` and column `n`. -/
def resultAt (c : Dev nD) (a n : ℕ) : EReal := ∑ d, hrow m c a d * column m c n d

theorem rows_eq (c : Dev nD) (t : Fin cfg0.N) (i : Fin 64) (d : Fin 2048) :
    k0_pay1 (F := Ideal) (iblk m c 0 t) (iblk m c 1 t) (ix2 i d) = hrow m c (t.val / 7 * 64 + i.val) d := by
  pointwise [k0_pay1]
  simp only [block0 m c t, block1 m c t]
  rfl

theorem product (c : Dev nD) (t : Fin cfg0.N) (h : FVec Ideal S64x2048 .bf16)
    (hh : ∀ (i : Fin 64) (d : Fin 2048), h (ix2 i d) = hrow m c (t.val / 7 * 64 + i.val) d) (i : Fin 64) (x : Fin 896) :
    k0_pay2 (F := Ideal) h (iblk m c 2 t) (ix2 i x) = resultAt m c (t.val / 7 * 64 + i.val) (t.val % 7 * 896 + x.val) := by
  pointwise [k0_pay2]
  simp only [hh, block2 m c t]
  rfl

/-- The normed rows stay through a row block. -/
theorem rows_after (c : Dev nD) : ∀ (n : ℕ) (h : n < cfg0.N) (i : Fin 64) (d : Fin 2048),
    (outsAt0 m c n h).2 (ix2 i d) = hrow m c (n / 7 * 64 + i.val) d := by
  intro n
  induction n with
  | zero =>
    intro h
    rw [show (outsAt0 m c 0 h).2 = _ from rows_A m c ⟨0, h⟩ rfl]
    exact rows_eq m c ⟨0, h⟩
  | succ n ih =>
    intro h
    by_cases h0 : (n + 1) % 7 = 0
    · rw [show (outsAt0 m c (n + 1) h).2 = _ from rows_A m c ⟨n + 1, h⟩ h0]
      exact rows_eq m c ⟨n + 1, h⟩
    · rw [show (outsAt0 m c (n + 1) h).2 = _ from rows_B m c ⟨n + 1, h⟩ h0]
      have := ih (Nat.lt_of_succ_lt h)
      rw [show n / 7 = (n + 1) / 7 by omega] at this
      exact this

theorem out_block (c : Dev nD) (t : Fin cfg0.N) (i : Fin 64) (x : Fin 896) :
    (outsAt0 m c t.val t.isLt).1 (ix2 i x) = resultAt m c (t.val / 7 * 64 + i.val) (t.val % 7 * 896 + x.val) := by
  by_cases h0 : t.val % 7 = 0
  · rw [out_A m c t h0]
    exact product m c t _ (rows_eq m c t) i x
  · rw [out_B m c t h0]
    refine product m c t (before m c t).2 ?_ i x
    have := rows_after m c (t.val - 1) (Nat.lt_of_le_of_lt (Nat.sub_le _ _) t.isLt)
    rw [show (t.val - 1) / 7 = t.val / 7 by omega] at this
    exact this

/-- The result. -/
def resultArr (c : Dev nD) : S64x6272.Idx → EReal := fun y => resultAt m c (y 0).val (y 1).val

theorem final (c : Dev nD) : (dats m 0 c).arrAt 3 cfg0.N = resultArr m c := by
  refine (dats m 0 c).arrAt_eq_of_cover 3 (resultArr m c) ?_ ?_
  · intro t _
    rw [Value.flushed3]
    funext y
    rw [View.read_apply]
    show (outsAt0 m c t.val t.isLt).1 y = resultArr m c _
    have hy0 : (y 0).val < 64 := (y 0).isLt
    have hy1 : (y 1).val < 896 := (y 1).isLt
    rw [show (outsAt0 m c t.val t.isLt).1 y = (outsAt0 m c t.val t.isLt).1 (ix2 (⟨(y 0).val, hy0⟩ : Fin 64) (⟨(y 1).val, hy1⟩ : Fin 896)) from
      congrArg (outsAt0 m c t.val t.isLt).1 (funext fun a => by fin_cases a <;> rfl)]
    rw [out_block]
    unfold resultArr
    refine congrArg₂ (resultAt m c) ?_ ?_
    · show _ = win0_3.index t 0 * 64 + 1 * (y 0).val
      rw [(where3 t).1]
      show t.val / 7 * 64 + (y 0).val = _
      omega
    · show _ = win0_3.index t 1 * 896 + 1 * (y 1).val
      rw [(where3 t).2]
      show t.val % 7 * 896 + (y 1).val = _
      omega
  · intro y
    have hy0 : (y 0).val < 64 := (y 0).isLt
    have hy1 : (y 1).val < 6272 := (y 1).isLt
    obtain ⟨t, ht⟩ : ∃ t : Fin cfg0.N, t.val = (y 0).val / 64 * 7 + (y 1).val / 896 := ⟨⟨_, by rw [show cfg0.N = 7 from N_0]; omega⟩, rfl⟩
    refine ⟨t, flush0_3 t, ?_⟩
    show y ∈ ((View.whole main_v3).slice (win0_3.rect t)).set
    rw [View.set_slice_whole, Rect.mem_set_unit]
    intro a
    match a with
    | ⟨0, _⟩ =>
      show win0_3.index t 0 * 64 ≤ (y 0).val ∧ (y 0).val < win0_3.index t 0 * 64 + 64
      rw [(where3 t).1]
      omega
    | ⟨1, _⟩ =>
      show win0_3.index t 1 * 896 ≤ (y 1).val ∧ (y 1).val < win0_3.index t 1 * 896 + 896
      rw [(where3 t).2]
      omega

end Cert.OddInSampleIdeal.Tile

end
-- ==== Proof.OddInSampleRef.lean ====
module

public import proofs.«01_k».proof.Proof.Dense
public import proofs.«01_k».proof.Proof.Gen.OddInSampleRefIdeal.Run

/-! The input projection's reference, an element at a time. -/

@[expose] public section

set_option maxRecDepth 16384

noncomputable section

namespace Cert.OddInSampleRefIdeal.Rows

open Idealize.ShloMosaic Idealize.ShloMosaic.TcCoe Idealize.SL.Sem
open Cert.OddInSampleRefIdeal Cert.Dense

variable (m : (ℓ : Loc nD τ sig) → Buf (Elt Ideal) ℓ)

def xA (c : Dev nD) : S64x2048.Idx → EReal := m ((c.tc : Thread nD τ).loc main_arg0)
def scaleA (c : Dev nD) : S2048.Idx → EReal := m ((c.tc : Thread nD τ).loc main_arg1)
def weightA (c : Dev nD) : S2048x6160.Idx → EReal := m ((c.tc : Thread nD τ).loc main_arg2)

def column (c : Dev nD) (n : ℕ) (d : Fin 2048) : EReal := if h : n < 6160 then weightA m c (ix2 d ⟨n, h⟩) else 0

theorem column_in (c : Dev nD) (n : Fin 6272) (d : Fin 2048) (h : n.val < 6160) : column m c n.val d = weightA m c (ix2 d ⟨n.val, h⟩) := dif_pos h

theorem column_out (c : Dev nD) (n : Fin 6272) (d : Fin 2048) (h : ¬n.val < 6160) : column m c n.val d = 0 := dif_neg h

/-- The result. -/
def resultArr (c : Dev nD) : S64x6272.Idx → EReal := fun y =>
  ∑ d, normed (rowOf (xA m c) (y 0).val) (fun d => scaleA m c (ix1 d)) d * column m c (y 1).val d

theorem resultArr_at (c : Dev nD) (a : Fin 64) (n : Fin 6272) : resultArr m c (ix2 a n) =
    ∑ d, normed (fun e => xA m c (ix2 a e)) (fun d => scaleA m c (ix1 d)) d * column m c n.val d := by
  rw [show (fun e => xA m c (ix2 a e)) = rowOf (xA m c) a.val from funext fun e => (rowOf_eq (xA m c) a e).symm]
  rfl

theorem result (ρ : Dev nD → PrngReg) :
    θ_run defs (onTc (τ := τ) (main (F := Ideal))) ⟨m, fun _ => 0, ρ⟩ fun r => ∀ c : Dev nD,
      r.2.mem ((c.tc : Thread nD τ).loc main_v14) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    refine ext2 (n := 64) (k := 6272) fun a n => ?_
    rw [resultArr_at]
    unfold normed
    pointwise
    by_cases h : n.val < 6160
    · rw [dif_pos h]
      exact Finset.sum_congr rfl fun d _ => congrArg _ (column_in m c n d h).symm
    · rw [dif_neg h]
      simp only [column_out m c n _ h, mul_zero, Finset.sum_const_zero]
      exact zero_word), (h c).2⟩) (Value.run (F := Ideal) m ρ)

end Cert.OddInSampleRefIdeal.Rows

end
-- ==== Proof.EvenOutSampleValue.lean ====
module

public import proofs.«01_k».proof.Proof.Dense
public import proofs.«01_k».proof.Proof.Gen.EvenOutSampleIdeal.Value
public import Idealize.ShloMosaic.Lib.StableHlo.ReadAt
public import Idealize.ShloMosaic.Lib.Pipeline.Value

/-! The output projection's result: point `t` adds to its block of rows the products of the two halves of the mixed columns. -/

@[expose] public section

set_option maxRecDepth 16384

noncomputable section

namespace Cert.EvenOutSampleIdeal.Tile

open Idealize.ShloMosaic Idealize.ShloMosaic.TcCoe Idealize.SL.Sem Idealize.ShloMosaic.StableHlo
open Cert.EvenOutSampleIdeal Cert.EvenOutSampleIdeal.Gen Cert.Dense

variable (m : (ℓ : Loc nD τ sig) → Buf (Elt Ideal) ℓ)

def xA (c : Dev nD) : S64x2048.Idx → EReal := m ((c : Thread nD τ).loc main_arg0)
def leftA (c : Dev nD) : S64x1024.Idx → EReal := m ((c : Thread nD τ).loc main_arg1)
def rightA (c : Dev nD) : S64x1024.Idx → EReal := m ((c : Thread nD τ).loc main_arg2)
def weightA (c : Dev nD) : S2048x2048.Idx → EReal := m ((c : Thread nD τ).loc main_arg3)

/-- The two halves of a row. -/
def left (c : Dev nD) (a : ℕ) (e : Fin 1024) : EReal := rowOf (leftA m c) a e
def right (c : Dev nD) (a : ℕ) (e : Fin 1024) : EReal := rowOf (rightA m c) a e

theorem x_entry (c : Dev nD) : (V m c main_arg0 : S64x2048.Idx → EReal) = xA m c := by
  unfold V
  after_reads_simp
  rfl

theorem left_entry (c : Dev nD) : (V m c main_arg1 : S64x1024.Idx → EReal) = leftA m c := by
  unfold V
  after_reads_simp
  rfl

theorem right_entry (c : Dev nD) : (V m c main_arg2 : S64x1024.Idx → EReal) = rightA m c := by
  unfold V
  after_reads_simp
  rfl

theorem weight_entry (c : Dev nD) : (V m c main_v0 : S2048x2048.Idx → EReal) = weightA m c := by
  unfold V
  after_reads_simp
  rfl

theorem point_lt (t : Fin cfg0.N) : t.val < 1 := t.isLt.trans_eq N_0

theorem where0 : ∀ t : Fin grid0.N, win0_0.index t 0 = t.val ∧ win0_0.index t 1 = 0 := by decide +kernel
theorem where1 : ∀ t : Fin grid0.N, win0_1.index t 0 = t.val ∧ win0_1.index t 1 = 0 := by decide +kernel
theorem where2 : ∀ t : Fin grid0.N, win0_2.index t 0 = t.val ∧ win0_2.index t 1 = 0 := by decide +kernel
theorem where3 : ∀ t : Fin grid0.N, win0_3.index t 0 = 0 ∧ win0_3.index t 1 = 0 := by decide +kernel
theorem where4 : ∀ t : Fin grid0.N, win0_4.index t 0 = 1 ∧ win0_4.index t 1 = 0 := by decide +kernel
theorem where5 : ∀ t : Fin grid0.N, win0_5.index t 0 = t.val ∧ win0_5.index t 1 = 0 := by decide +kernel

theorem block0 (c : Dev nD) (t : Fin cfg0.N) (i : Fin 64) (e : Fin 2048) :
    iblk m c 0 t (ix2 i e) = rowOf (xA m c) (t.val * 64 + i.val) e := by
  unfold iblk
  rw [View.read_apply]
  show V m c main_arg0 _ = _
  rw [x_entry]
  refine rowOf_at _ _ _ _ ?_ ?_
  · show win0_0.index t 0 * 64 + 1 * i.val = _; rw [(where0 t).1]; omega
  · show win0_0.index t 1 * 2048 + 1 * e.val = _; rw [(where0 t).2]; omega

theorem block1 (c : Dev nD) (t : Fin cfg0.N) (i : Fin 64) (e : Fin 1024) :
    iblk m c 1 t (ix2 i e) = left m c (t.val * 64 + i.val) e := by
  unfold iblk
  rw [View.read_apply]
  show V m c main_arg1 _ = _
  rw [left_entry]
  refine rowOf_at _ _ _ _ ?_ ?_
  · show win0_1.index t 0 * 64 + 1 * i.val = _; rw [(where1 t).1]; omega
  · show win0_1.index t 1 * 1024 + 1 * e.val = e.val; rw [(where1 t).2]; omega

theorem block2 (c : Dev nD) (t : Fin cfg0.N) (i : Fin 64) (e : Fin 1024) :
    iblk m c 2 t (ix2 i e) = right m c (t.val * 64 + i.val) e := by
  unfold iblk
  rw [View.read_apply]
  show V m c main_arg2 _ = _
  rw [right_entry]
  refine rowOf_at _ _ _ _ ?_ ?_
  · show win0_2.index t 0 * 64 + 1 * i.val = _; rw [(where2 t).1]; omega
  · show win0_2.index t 1 * 1024 + 1 * e.val = e.val; rw [(where2 t).2]; omega

theorem block3 (c : Dev nD) (t : Fin cfg0.N) (e : Fin 1024) (n : Fin 2048) :
    iblk m c 3 t (ix2 e n) = weightA m c (ix2 ⟨e.val, by omega⟩ n) := by
  unfold iblk
  rw [View.read_apply]
  show V m c main_v0 _ = _
  rw [weight_entry]
  refine congrArg (weightA m c) (funext fun a => Fin.ext ?_)
  match a with
  | ⟨0, _⟩ => show win0_3.index t 0 * 1024 + 1 * e.val = e.val; rw [(where3 t).1]; omega
  | ⟨1, _⟩ => show win0_3.index t 1 * 2048 + 1 * n.val = n.val; rw [(where3 t).2]; omega

theorem block4 (c : Dev nD) (t : Fin cfg0.N) (e : Fin 1024) (n : Fin 2048) :
    iblk m c 4 t (ix2 e n) = weightA m c (ix2 ⟨1024 + e.val, by omega⟩ n) := by
  unfold iblk
  rw [View.read_apply]
  show V m c main_v0 _ = _
  rw [weight_entry]
  refine congrArg (weightA m c) (funext fun a => Fin.ext ?_)
  match a with
  | ⟨0, _⟩ => show win0_4.index t 0 * 1024 + 1 * e.val = 1024 + e.val; rw [(where4 t).1]; omega
  | ⟨1, _⟩ => show win0_4.index t 1 * 2048 + 1 * n.val = n.val; rw [(where4 t).2]; omega

theorem zero2 : (![0, 0] : Fin 2 → Nat) = fun _ => 0 := funext fun a => by fin_cases a <;> rfl

/-- The element of the result in row `a` and column `n`. -/
def resultAt (c : Dev nD) (a : ℕ) (n : Fin 2048) : EReal := projected (rowOf (xA m c) a) (left m c a) (right m c a) (weightA m c) n

theorem out_block (c : Dev nD) (t : Fin cfg0.N) (i : Fin 64) (n : Fin 2048) :
    out0_5 (F := Ideal) (iblk m c 0 t) (iblk m c 1 t) (iblk m c 2 t) (iblk m c 3 t) (iblk m c 4 t) (ix2 i n) = resultAt m c (t.val * 64 + i.val) n := by
  unfold out0_5
  simp only [View.canon_unit_zero (S := S64x2048) zero2, View.ld_unit_zero (S := S64x2048) zero2, View.ld_unit_zero (S := S64x1024) zero2,
    View.ld_unit_zero (S := S1024x2048) zero2]
  pointwise [k0_pay1]
  have ht : t.val = 0 := by have := point_lt t; omega
  simp only [block0 m c t, block1 m c t, block2 m c t, block3 m c t, block4 m c t, ht, Nat.zero_mul, Nat.zero_add]
  rfl

/-- The result. -/
def resultArr (c : Dev nD) : S64x2048.Idx → EReal := fun y => resultAt m c (y 0).val (y 1)

theorem final (c : Dev nD) : (dats m 0 c).arrAt 5 cfg0.N = resultArr m c := by
  refine (dats m 0 c).arrAt_eq_of_cover 5 (resultArr m c) ?_ ?_
  · intro t _
    rw [Value.flushed5]
    funext y
    rw [View.read_apply]
    show out0_5 (F := Ideal) (iblk m c 0 t) (iblk m c 1 t) (iblk m c 2 t) (iblk m c 3 t) (iblk m c 4 t) y = resultArr m c _
    have hy0 : (y 0).val < 64 := (y 0).isLt
    have hy1 : (y 1).val < 2048 := (y 1).isLt
    rw [show out0_5 (F := Ideal) (iblk m c 0 t) (iblk m c 1 t) (iblk m c 2 t) (iblk m c 3 t) (iblk m c 4 t) y
        = out0_5 (F := Ideal) (iblk m c 0 t) (iblk m c 1 t) (iblk m c 2 t) (iblk m c 3 t) (iblk m c 4 t) (ix2 (⟨(y 0).val, hy0⟩ : Fin 64) (⟨(y 1).val, hy1⟩ : Fin 2048)) from
      congrArg _ (funext fun a => by fin_cases a <;> rfl)]
    rw [out_block]
    unfold resultArr
    refine congrArg₂ (resultAt m c) ?_ (Fin.ext ?_)
    · show _ = win0_5.index t 0 * 64 + 1 * (y 0).val
      rw [(where5 t).1]
      show t.val * 64 + (y 0).val = _
      omega
    · show (y 1).val = win0_5.index t 1 * 2048 + 1 * (y 1).val
      rw [(where5 t).2]
      omega
  · intro y
    have hy0 : (y 0).val < 64 := (y 0).isLt
    have hy1 : (y 1).val < 2048 := (y 1).isLt
    obtain ⟨t, ht⟩ : ∃ t : Fin cfg0.N, t.val = (y 0).val / 64 := ⟨⟨_, by rw [show cfg0.N = 1 from N_0]; omega⟩, rfl⟩
    refine ⟨t, flush0_5 t, ?_⟩
    show y ∈ ((View.whole main_v1).slice (win0_5.rect t)).set
    rw [View.set_slice_whole, Rect.mem_set_unit]
    intro a
    match a with
    | ⟨0, _⟩ =>
      show win0_5.index t 0 * 64 ≤ (y 0).val ∧ (y 0).val < win0_5.index t 0 * 64 + 64
      rw [(where5 t).1]
      omega
    | ⟨1, _⟩ =>
      show win0_5.index t 1 * 2048 ≤ (y 1).val ∧ (y 1).val < win0_5.index t 1 * 2048 + 2048
      rw [(where5 t).2]
      omega

end Cert.EvenOutSampleIdeal.Tile

end
-- ==== Proof.EvenOutSampleRef.lean ====
module

public import proofs.«01_k».proof.Proof.Dense
public import proofs.«01_k».proof.Proof.Gen.EvenOutSampleRefIdeal.Run

/-! The output projection's reference, an element at a time. -/

@[expose] public section

set_option maxRecDepth 16384

noncomputable section

namespace Cert.EvenOutSampleRefIdeal.Rows

open Idealize.ShloMosaic Idealize.ShloMosaic.TcCoe Idealize.SL.Sem
open Cert.EvenOutSampleRefIdeal Cert.Dense

variable (m : (ℓ : Loc nD τ sig) → Buf (Elt Ideal) ℓ)

def xA (c : Dev nD) : S64x2048.Idx → EReal := m ((c.tc : Thread nD τ).loc main_arg0)
def leftA (c : Dev nD) : S64x1024.Idx → EReal := m ((c.tc : Thread nD τ).loc main_arg1)
def rightA (c : Dev nD) : S64x1024.Idx → EReal := m ((c.tc : Thread nD τ).loc main_arg2)
def weightA (c : Dev nD) : S2048x2048.Idx → EReal := m ((c.tc : Thread nD τ).loc main_arg3)

/-- The two halves of a row. -/
def left (c : Dev nD) (a : ℕ) (e : Fin 1024) : EReal := rowOf (leftA m c) a e
def right (c : Dev nD) (a : ℕ) (e : Fin 1024) : EReal := rowOf (rightA m c) a e

/-- The result. -/
def resultArr (c : Dev nD) : S64x2048.Idx → EReal := fun y =>
  projected (rowOf (xA m c) (y 0).val) (left m c (y 0).val) (right m c (y 0).val) (weightA m c) (y 1)

theorem resultArr_at (c : Dev nD) (a : Fin 64) (n : Fin 2048) : resultArr m c (ix2 a n) =
    projected (fun e => xA m c (ix2 a e)) (fun e => leftA m c (ix2 a e)) (fun e => rightA m c (ix2 a e)) (weightA m c) n := by
  unfold resultArr left right
  simp only [rowOf_eq]
  congr 1
  all_goals exact funext fun e => (rowOf_eq _ a _)

theorem result (ρ : Dev nD → PrngReg) :
    θ_run defs (onTc (τ := τ) (main (F := Ideal))) ⟨m, fun _ => 0, ρ⟩ fun r => ∀ c : Dev nD,
      r.2.mem ((c.tc : Thread nD τ).loc main_v2) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
    refine ext2 (n := 64) (k := 2048) fun a n => ?_
    rw [resultArr_at]
    unfold projected
    pointwise
    rw [← add_assoc]
    rfl), (h c).2⟩) (Value.run (F := Ideal) m ρ)

end Cert.EvenOutSampleRefIdeal.Rows

end
-- ==== Proof.OddOutSampleValue.lean ====
module

public import proofs.«01_k».proof.Proof.Dense
public import proofs.«01_k».proof.Proof.Gen.OddOutSampleIdeal.Value
public import Idealize.ShloMosaic.Lib.StableHlo.ReadAt
public import Idealize.ShloMosaic.Lib.Pipeline.Value

/-! The output projection's result: point `t` adds to its block of rows the products of the two halves of the mixed columns. -/

@[expose] public section

set_option maxRecDepth 16384

noncomputable section

namespace Cert.OddOutSampleIdeal.Tile

open Idealize.ShloMosaic Idealize.ShloMosaic.TcCoe Idealize.SL.Sem Idealize.ShloMosaic.StableHlo
open Cert.OddOutSampleIdeal Cert.OddOutSampleIdeal.Gen Cert.Dense

variable (m : (ℓ : Loc nD τ sig) → Buf (Elt Ideal) ℓ)

def xA (c : Dev nD) : S64x2048.Idx → EReal := m ((c : Thread nD τ).loc main_arg0)
def mixA (c : Dev nD) : S64x2048.Idx → EReal := m ((c : Thread nD τ).loc main_arg1)
def weightA (c : Dev nD) : S2048x2048.Idx → EReal := m ((c : Thread nD τ).loc main_arg2)

/-- The two halves of a row. -/
def left (c : Dev nD) (a : ℕ) (e : Fin 1024) : EReal := rowOf (mixA m c) a ⟨e.val, by omega⟩
def right (c : Dev nD) (a : ℕ) (e : Fin 1024) : EReal := rowOf (mixA m c) a ⟨1024 + e.val, by omega⟩

theorem x_entry (c : Dev nD) : (V m c main_arg0 : S64x2048.Idx → EReal) = xA m c := by
  unfold V
  after_reads_simp
  rfl

theorem mix_entry (c : Dev nD) : (V m c main_arg1 : S64x2048.Idx → EReal) = mixA m c := by
  unfold V
  after_reads_simp
  rfl

theorem weight_entry (c : Dev nD) : (V m c main_v0 : S2048x2048.Idx → EReal) = weightA m c := by
  unfold V
  after_reads_simp
  rfl

theorem point_lt (t : Fin cfg0.N) : t.val < 1 := t.isLt.trans_eq N_0

theorem where0 : ∀ t : Fin grid0.N, win0_0.index t 0 = t.val ∧ win0_0.index t 1 = 0 := by decide +kernel
theorem where1 : ∀ t : Fin grid0.N, win0_1.index t 0 = t.val ∧ win0_1.index t 1 = 0 := by decide +kernel
theorem where2 : ∀ t : Fin grid0.N, win0_2.index t 0 = t.val ∧ win0_2.index t 1 = 1 := by decide +kernel
theorem where3 : ∀ t : Fin grid0.N, win0_3.index t 0 = 0 ∧ win0_3.index t 1 = 0 := by decide +kernel
theorem where4 : ∀ t : Fin grid0.N, win0_4.index t 0 = 1 ∧ win0_4.index t 1 = 0 := by decide +kernel
theorem where5 : ∀ t : Fin grid0.N, win0_5.index t 0 = t.val ∧ win0_5.index t 1 = 0 := by decide +kernel

theorem block0 (c : Dev nD) (t : Fin cfg0.N) (i : Fin 64) (e : Fin 2048) :
    iblk m c 0 t (ix2 i e) = rowOf (xA m c) (t.val * 64 + i.val) e := by
  unfold iblk
  rw [View.read_apply]
  show V m c main_arg0 _ = _
  rw [x_entry]
  refine rowOf_at _ _ _ _ ?_ ?_
  · show win0_0.index t 0 * 64 + 1 * i.val = _; rw [(where0 t).1]; omega
  · show win0_0.index t 1 * 2048 + 1 * e.val = _; rw [(where0 t).2]; omega

theorem block1 (c : Dev nD) (t : Fin cfg0.N) (i : Fin 64) (e : Fin 1024) :
    iblk m c 1 t (ix2 i e) = left m c (t.val * 64 + i.val) e := by
  unfold iblk
  rw [View.read_apply]
  show V m c main_arg1 _ = _
  rw [mix_entry]
  refine rowOf_at _ _ _ _ ?_ ?_
  · show win0_1.index t 0 * 64 + 1 * i.val = _; rw [(where1 t).1]; omega
  · show win0_1.index t 1 * 1024 + 1 * e.val = e.val; rw [(where1 t).2]; omega

theorem block2 (c : Dev nD) (t : Fin cfg0.N) (i : Fin 64) (e : Fin 1024) :
    iblk m c 2 t (ix2 i e) = right m c (t.val * 64 + i.val) e := by
  unfold iblk
  rw [View.read_apply]
  show V m c main_arg1 _ = _
  rw [mix_entry]
  refine rowOf_at _ _ _ _ ?_ ?_
  · show win0_2.index t 0 * 64 + 1 * i.val = _; rw [(where2 t).1]; omega
  · show win0_2.index t 1 * 1024 + 1 * e.val = 1024 + e.val; rw [(where2 t).2]; omega

theorem block3 (c : Dev nD) (t : Fin cfg0.N) (e : Fin 1024) (n : Fin 2048) :
    iblk m c 3 t (ix2 e n) = weightA m c (ix2 ⟨e.val, by omega⟩ n) := by
  unfold iblk
  rw [View.read_apply]
  show V m c main_v0 _ = _
  rw [weight_entry]
  refine congrArg (weightA m c) (funext fun a => Fin.ext ?_)
  match a with
  | ⟨0, _⟩ => show win0_3.index t 0 * 1024 + 1 * e.val = e.val; rw [(where3 t).1]; omega
  | ⟨1, _⟩ => show win0_3.index t 1 * 2048 + 1 * n.val = n.val; rw [(where3 t).2]; omega

theorem block4 (c : Dev nD) (t : Fin cfg0.N) (e : Fin 1024) (n : Fin 2048) :
    iblk m c 4 t (ix2 e n) = weightA m c (ix2 ⟨1024 + e.val, by omega⟩ n) := by
  unfold iblk
  rw [View.read_apply]
  show V m c main_v0 _ = _
  rw [weight_entry]
  refine congrArg (weightA m c) (funext fun a => Fin.ext ?_)
  match a with
  | ⟨0, _⟩ => show win0_4.index t 0 * 1024 + 1 * e.val = 1024 + e.val; rw [(where4 t).1]; omega
  | ⟨1, _⟩ => show win0_4.index t 1 * 2048 + 1 * n.val = n.val; rw [(where4 t).2]; omega

theorem zero2 : (![0, 0] : Fin 2 → Nat) = fun _ => 0 := funext fun a => by fin_cases a <;> rfl

/-- The element of the result in row `a` and column `n`. -/
def resultAt (c : Dev nD) (a : ℕ) (n : Fin 2048) : EReal := projected (rowOf (xA m c) a) (left m c a) (right m c a) (weightA m c) n

theorem out_block (c : Dev nD) (t : Fin cfg0.N) (i : Fin 64) (n : Fin 2048) :
    out0_5 (F := Ideal) (iblk m c 0 t) (iblk m c 1 t) (iblk m c 2 t) (iblk m c 3 t) (iblk m c 4 t) (ix2 i n) = resultAt m c (t.val * 64 + i.val) n := by
  unfold out0_5
  simp only [View.canon_unit_zero (S := S64x2048) zero2, View.ld_unit_zero (S := S64x2048) zero2, View.ld_unit_zero (S := S64x1024) zero2,
    View.ld_unit_zero (S := S1024x2048) zero2]
  pointwise [k0_pay1]
  have ht : t.val = 0 := by have := point_lt t; omega
  simp only [block0 m c t, block1 m c t, block2 m c t, block3 m c t, block4 m c t, ht, Nat.zero_mul, Nat.zero_add]
  rfl

/-- The result. -/
def resultArr (c : Dev nD) : S64x2048.Idx → EReal := fun y => resultAt m c (y 0).val (y 1)

theorem final (c : Dev nD) : (dats m 0 c).arrAt 5 cfg0.N = resultArr m c := by
  refine (dats m 0 c).arrAt_eq_of_cover 5 (resultArr m c) ?_ ?_
  · intro t _
    rw [Value.flushed5]
    funext y
    rw [View.read_apply]
    show out0_5 (F := Ideal) (iblk m c 0 t) (iblk m c 1 t) (iblk m c 2 t) (iblk m c 3 t) (iblk m c 4 t) y = resultArr m c _
    have hy0 : (y 0).val < 64 := (y 0).isLt
    have hy1 : (y 1).val < 2048 := (y 1).isLt
    rw [show out0_5 (F := Ideal) (iblk m c 0 t) (iblk m c 1 t) (iblk m c 2 t) (iblk m c 3 t) (iblk m c 4 t) y
        = out0_5 (F := Ideal) (iblk m c 0 t) (iblk m c 1 t) (iblk m c 2 t) (iblk m c 3 t) (iblk m c 4 t) (ix2 (⟨(y 0).val, hy0⟩ : Fin 64) (⟨(y 1).val, hy1⟩ : Fin 2048)) from
      congrArg _ (funext fun a => by fin_cases a <;> rfl)]
    rw [out_block]
    unfold resultArr
    refine congrArg₂ (resultAt m c) ?_ (Fin.ext ?_)
    · show _ = win0_5.index t 0 * 64 + 1 * (y 0).val
      rw [(where5 t).1]
      show t.val * 64 + (y 0).val = _
      omega
    · show (y 1).val = win0_5.index t 1 * 2048 + 1 * (y 1).val
      rw [(where5 t).2]
      omega
  · intro y
    have hy0 : (y 0).val < 64 := (y 0).isLt
    have hy1 : (y 1).val < 2048 := (y 1).isLt
    obtain ⟨t, ht⟩ : ∃ t : Fin cfg0.N, t.val = (y 0).val / 64 := ⟨⟨_, by rw [show cfg0.N = 1 from N_0]; omega⟩, rfl⟩
    refine ⟨t, flush0_5 t, ?_⟩
    show y ∈ ((View.whole main_v1).slice (win0_5.rect t)).set
    rw [View.set_slice_whole, Rect.mem_set_unit]
    intro a
    match a with
    | ⟨0, _⟩ =>
      show win0_5.index t 0 * 64 ≤ (y 0).val ∧ (y 0).val < win0_5.index t 0 * 64 + 64
      rw [(where5 t).1]
      omega
    | ⟨1, _⟩ =>
      show win0_5.index t 1 * 2048 ≤ (y 1).val ∧ (y 1).val < win0_5.index t 1 * 2048 + 2048
      rw [(where5 t).2]
      omega

end Cert.OddOutSampleIdeal.Tile

end
-- ==== Proof.OddOutSampleRef.lean ====
module

public import proofs.«01_k».proof.Proof.Dense
public import proofs.«01_k».proof.Proof.Gen.OddOutSampleRefIdeal.Run

/-! The output projection's reference, an element at a time. -/

@[expose] public section

set_option maxRecDepth 16384

noncomputable section

namespace Cert.OddOutSampleRefIdeal.Rows

open Idealize.ShloMosaic Idealize.ShloMosaic.TcCoe Idealize.SL.Sem
open Cert.OddOutSampleRefIdeal Cert.Dense

variable (m : (ℓ : Loc nD τ sig) → Buf (Elt Ideal) ℓ)

def xA (c : Dev nD) : S64x2048.Idx → EReal := m ((c.tc : Thread nD τ).loc main_arg0)
def mixA (c : Dev nD) : S64x2048.Idx → EReal := m ((c.tc : Thread nD τ).loc main_arg1)
def weightA (c : Dev nD) : S2048x2048.Idx → EReal := m ((c.tc : Thread nD τ).loc main_arg2)

/-- The two halves of a row. -/
def left (c : Dev nD) (a : ℕ) (e : Fin 1024) : EReal := rowOf (mixA m c) a ⟨e.val, by omega⟩
def right (c : Dev nD) (a : ℕ) (e : Fin 1024) : EReal := rowOf (mixA m c) a ⟨1024 + e.val, by omega⟩

/-- The result. -/
def resultArr (c : Dev nD) : S64x2048.Idx → EReal := fun y =>
  projected (rowOf (xA m c) (y 0).val) (left m c (y 0).val) (right m c (y 0).val) (weightA m c) (y 1)

theorem resultArr_at (c : Dev nD) (a : Fin 64) (n : Fin 2048) : resultArr m c (ix2 a n) =
    projected (fun e => xA m c (ix2 a e)) (fun e => mixA m c (ix2 a ⟨e.val, by omega⟩)) (fun e => mixA m c (ix2 a ⟨1024 + e.val, by omega⟩)) (weightA m c) n := by
  unfold resultArr left right
  simp only [rowOf_eq]
  congr 1
  all_goals exact funext fun e => (rowOf_eq _ a _)

theorem result (ρ : Dev nD → PrngReg) :
    θ_run defs (onTc (τ := τ) (main (F := Ideal))) ⟨m, fun _ => 0, ρ⟩ fun r => ∀ c : Dev nD,
      r.2.mem ((c.tc : Thread nD τ).loc main_v1) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    refine ext2 (n := 64) (k := 2048) fun a n => ?_
    rw [resultArr_at]
    unfold projected
    pointwise
    rw [halves, ← add_assoc]
    rfl), (h c).2⟩) (Value.run (F := Ideal) m ρ)

end Cert.OddOutSampleRefIdeal.Rows

end
-- ==== Proof.Combine.lean ====
module

public import proofs.«01_k».proof.Proof.Dense

@[expose] public section

noncomputable section

/-!
The choice of pages and the weights of a row: what both programs compute for one head and one token.
-/

namespace Cert.Combine

open Idealize.ShloMosaic

/-- Minus infinity. -/
def low : EReal := Ideal.ofBits .f32 4286578688#32

theorem low_eq : low = ⊥ := by simp [low, Ideal.ofBits, Ideal.ieee]

/-- The score of the block that starts at page `j`: the mean over its two pages, or minus infinity when `j` starts no block. -/
def scored (mean : Fin 128 → EReal) (j : Fin 128) : EReal :=
  if j.val % 2 = 0 then (mean j + mean ⟨(j.val + 1) % 128, Nat.mod_lt _ (by omega)⟩) * Ideal.ofBits .f32 998244352#32 else low

/-- The largest score. -/
def best (s : Fin 128 → EReal) : EReal := Finset.univ.fold max low s

/-- The first page of the largest score. -/
def found (s : Fin 128 → EReal) : BitVec 32 :=
  Finset.univ.fold IntOp.minsi 2147483647#32 (fun x : Fin 128 => if s x = best s then BitVec.ofNat 32 x.val else 128#32)

/-- Whether page `j` is that page. -/
def hit (s : Fin 128 → EReal) (j : Fin 128) : BitVec 1 := IntOp.cmpi .eq (BitVec.ofNat 32 j.val) (found s)

/-- Whether a page that scores is left. -/
def live (s : Fin 128 → EReal) : BitVec 1 := BitVec.ofBool (decide (low < best s))

/-- The scores without that page. -/
def rest (s : Fin 128 → EReal) (j : Fin 128) : EReal := Scalar.select (hit s j) low (s j)

/-- One where page `j` is one of the three best, else zero. -/
def chosen (s : Fin 128 → EReal) (j : Fin 128) : EReal :=
  Scalar.select (IntOp.andi (hit (rest (rest s)) j) (live (rest (rest s)))) 1
    (Scalar.select (IntOp.andi (hit (rest s) j) (live (rest s))) 1 (Scalar.select (IntOp.andi (hit s j) (live s)) 1 0))

/-- Positive on both pages of a block that is chosen. -/
def picked (s : Fin 128 → EReal) (j : Fin 128) : EReal := chosen s j + chosen s ⟨(j.val + 128 - 1) % 128, Nat.mod_lt _ (by omega)⟩

/-- The largest logit of a row: over the new tokens and over the pages that are picked. -/
def top (pick m : Fin 128 → EReal) (own : Fin 8 → EReal) : EReal :=
  max (Finset.univ.fold max low own) (Finset.univ.fold max low (fun p : Fin 128 => if 0 < pick p then m p else low))

/-- The weight of a page. -/
def weight (pick m : Fin 128 → EReal) (T : EReal) (p : Fin 128) : EReal := if 0 < pick p then Ideal.exp (m p - T) else 0

/-- A column of the row's result: the new tokens' values and the picked pages' results, weighted, over the sum of the weights. -/
def combined (pick m l o : Fin 128 → EReal) (own v : Fin 8 → EReal) : EReal :=
  Ideal.div (∑ s, Ideal.exp (own s - top pick m own) * v s + ∑ p, weight pick m (top pick m own) p * o p)
    (∑ p, weight pick m (top pick m own) p * l p + ∑ s, Ideal.exp (own s - top pick m own))

/-- A row's logits of the new tokens: token `t` sees the tokens up to itself. -/
def own (q : Fin 128 → EReal) (k : Fin 8 → Fin 128 → EReal) (t : ℕ) (s : Fin 8) : EReal :=
  if s.val ≤ t then ∑ x, q x * Ideal.ofBits .f32 1035273459#32 * k s x else low

/-- Row `i` is token `i % 8` of head `i / 8`. -/
def headOf (i : Fin 64) : Fin 8 := ⟨i.val / 8, by omega⟩
def tokenOf (i : Fin 64) : Fin 8 := ⟨i.val % 8, by omega⟩

/-- Lane `8 s + h` of the padded tokens is token `s` of head `h`. -/
def lane (h s : Fin 8) : Fin 128 := ⟨8 * s.val + h.val, by omega⟩

theorem lane_inj (h : Fin 8) : Function.Injective (lane h) := fun a b e => by
  have := congrArg Fin.val e
  unfold lane at this
  exact Fin.ext (by simp only at this; omega)

/-- A maximum over the lanes of which only those of one head are above minus infinity. -/
theorem fold_lanes (h : Fin 8) (f : Fin 128 → EReal) (g : Fin 8 → EReal) (hg : ∀ s, f (lane h s) = g s) (hf : ∀ j, (∀ s, j ≠ lane h s) → f j = low) :
    Finset.univ.fold max low f = Finset.univ.fold max low g := by
  rw [low_eq] at *
  show Finset.univ.sup f = Finset.univ.sup g
  refine le_antisymm (Finset.sup_le fun j _ => ?_) (Finset.sup_le fun s _ => ?_)
  · by_cases hj : ∃ s, j = lane h s
    · obtain ⟨s, rfl⟩ := hj
      rw [hg]
      exact Finset.le_sup (f := g) (Finset.mem_univ s)
    · rw [hf j (fun s e => hj ⟨s, e⟩)]
      exact bot_le
  · rw [← hg]
    exact Finset.le_sup (f := f) (Finset.mem_univ _)

/-- A sum over the lanes of which only those of one head are not zero. -/
theorem sum_lanes (h : Fin 8) (f : Fin 128 → EReal) (g : Fin 8 → EReal) (hg : ∀ s, f (lane h s) = g s) (hf : ∀ j, (∀ s, j ≠ lane h s) → f j = 0) :
    ∑ j, f j = ∑ s, g s := by
  refine (Finset.sum_of_injOn (lane h) ((lane_inj h).injOn) (fun _ _ => Finset.mem_coe.2 (Finset.mem_univ _)) (fun j _ hj => ?_) (fun s _ => (hg s).symm)).symm
  exact hf j fun s e => hj ⟨s, Finset.mem_coe.2 (Finset.mem_univ s), e.symm⟩

theorem exp_low (x : EReal) : Ideal.exp (low - x) = 0 := by
  rw [low_eq, sub_eq_add_neg, EReal.bot_add]
  rfl

/-- The result at row `i` and column `d` of batch row `b`. -/
def resultAt (mean m l : (⟨3, ![8, 64, 128]⟩ : Shape).Idx → EReal) (o : (⟨4, ![8, 128, 64, 128]⟩ : Shape).Idx → EReal) (q : (⟨3, ![8, 8, 1024]⟩ : Shape).Idx → EReal)
    (k v : (⟨4, ![8, 8, 8, 128]⟩ : Shape).Idx → EReal) (b : Fin 8) (i : Fin 64) (d : Fin 128) : EReal :=
  combined (picked (scored fun j => mean (ix3 b i j))) (fun p => m (ix3 b i p)) (fun p => l (ix3 b i p)) (fun p => o (ix4 b p i d))
    (own (fun x => q (ix3 b (tokenOf i) ⟨i.val / 8 * 128 + x.val, by omega⟩)) (fun s x => k (ix4 b s (headOf i) x)) (i.val % 8)) (fun s => v (ix4 b s (headOf i) d))

/-- The result: column `n` is column `n % 128` of head `n / 128`. -/
def resultArr (mean m l : (⟨3, ![8, 64, 128]⟩ : Shape).Idx → EReal) (o : (⟨4, ![8, 128, 64, 128]⟩ : Shape).Idx → EReal) (q : (⟨3, ![8, 8, 1024]⟩ : Shape).Idx → EReal)
    (k v : (⟨4, ![8, 8, 8, 128]⟩ : Shape).Idx → EReal) (b : Fin 8) (a : Fin 8) (n : Fin 1024) : EReal :=
  resultAt mean m l o q k v b ⟨8 * (n.val / 128) + a.val, by omega⟩ ⟨n.val % 128, by omega⟩

theorem ext3 {f g : (⟨3, ![8, 8, 1024]⟩ : Shape).Idx → EReal} (h : ∀ (b a : Fin 8) (n : Fin 1024), f (ix3 b a n) = g (ix3 b a n)) : f = g :=
  funext fun y => by rw [eq_ix3 y]; exact h _ _ _

end Cert.Combine

end
-- ==== Proof.MobaCombineTile.lean ====
module

public import proofs.«01_k».proof.Proof.Combine
public import proofs.«01_k».proof.Proof.Gen.MobaCombineIdeal.Value
public import Idealize.ShloMosaic.Lib.StableHlo.ReadAt
public import Idealize.ShloMosaic.Lib.Pipeline.Value
public import Idealize.ShloMosaic.Lib.Pipeline.ValueKit.Acc

/-! The kernel's choice of pages, its mask and its logits, an element at a time. -/

@[expose] public section

set_option maxRecDepth 16384

noncomputable section

namespace Cert.MobaCombineIdeal.Tile

open Idealize.ShloMosaic Idealize.ShloMosaic.TcCoe Idealize.SL.Sem Idealize.ShloMosaic.StableHlo
open Cert.MobaCombineIdeal Cert.MobaCombineIdeal.Gen Cert.Dense Cert.Combine

theorem picked_at (v0 : IVec S64x128 32) (hv : v0 = iota .tc S64x128 32 [1] iota_S64x128_d1_w32) (x : S1x64x128.Idx → EReal) (i : Fin 64) (j : Fin 128) :
    k0_pay9 (F := Ideal) v0 (k0_pay4 (F := Ideal) x) k0_pay5 (k0_pay7 (F := Ideal) x) (k0_pay8 (F := Ideal) x) (ix2 i j) = picked (fun j => k0_pay4 (F := Ideal) x (ix2 i j)) j := by
  subst hv
  pointwise [k0_pay9, k0_pay5, k0_pay7, k0_pay8, k0_pay6]
  rfl

theorem scored_at (x : S1x64x128.Idx → EReal) (i : Fin 64) (j : Fin 128) :
    k0_pay4 (F := Ideal) x (ix2 i j) = scored (fun j => x (ix3 0 i j)) j := by
  pointwise [k0_pay4]
  unfold scored
  have key : ∀ j : Fin 128, (Scalar.select
          (IntOp.andi
            (IntOp.xori
              (IntOp.cmpi CmpIPredicate.slt
                (IntOp.remsi ArithUnit.vector (BitVec.ofNat 32 j.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (IntOp.cmpi CmpIPredicate.ne
              (IntOp.remsi ArithUnit.vector (BitVec.ofNat 32 j.val)
                (Scalar.select (Scalar.cmpi CmpIPredicate.eq 2#32 0#32) 1#32 2#32))
              0#32))
          (IntOp.addi
            (IntOp.remsi ArithUnit.vector (BitVec.ofNat 32 j.val)
              (Scalar.select (Scalar.cmpi CmpIPredicate.eq 2#32 0#32) 1#32 2#32))
            (Scalar.select (Scalar.cmpi CmpIPredicate.eq 2#32 0#32) 1#32 2#32))
          (IntOp.remsi ArithUnit.vector (BitVec.ofNat 32 j.val)
            (Scalar.select (Scalar.cmpi CmpIPredicate.eq 2#32 0#32) 1#32 2#32)))
        = BitVec.ofNat 32 (j.val % 2) := by decide +kernel
  rw [key j]
  by_cases h : j.val % 2 = 0
  · rw [if_pos h, h]
    show (x (ix3 0 i j) + x (ix3 0 i ⟨(j.val + 128 - 127) % 128, _⟩)) * _ = _
    rw [show (⟨(j.val + 128 - 127) % 128, Nat.mod_lt _ (by omega)⟩ : Fin 128) = ⟨(j.val + 1) % 128, Nat.mod_lt _ (by omega)⟩ from Fin.ext (by show (j.val + 128 - 127) % 128 = (j.val + 1) % 128; omega)]
  · rw [if_neg h, show j.val % 2 = 1 by omega]
    rfl

/-- The mask of a token's attention to the new tokens: lane `j` is a token of the same head, no later. -/
theorem mask_at : ∀ (i : Fin 64) (j : Fin 128),
    IntOp.andi (k0_pay15 (iota .tc S64x128 32 [0] iota_S64x128_d0_w32) (iota .tc S64x128 32 [1] iota_S64x128_d1_w32) 8#32 k0_pay13 k0_pay14 1#1 (ix2 i j))
      (IntOp.cmpi .sle
        (Scalar.select (IntOp.andi (IntOp.cmpi .ne (k0_pay17 (iota .tc S64x128 32 [1] iota_S64x128_d1_w32) (ix2 i j)) (k0_pay18 (ix2 i j)))
            (IntOp.cmpi .ne (IntOp.remsi .vector (iota .tc S64x128 32 [1] iota_S64x128_d1_w32 (ix2 i j)) 8#32) 0#32))
          (IntOp.subi (k0_pay16 (iota .tc S64x128 32 [1] iota_S64x128_d1_w32) (ix2 i j)) 1#32) (k0_pay16 (iota .tc S64x128 32 [1] iota_S64x128_d1_w32) (ix2 i j)))
        (k0_pay12 (ix2 i j)))
    = if j.val % 8 = i.val / 8 ∧ j.val / 8 ≤ i.val % 8 then 1#1 else 0#1 := by
  decide +kernel

theorem logits_at (lo : FVec Ideal S64x128 .f32) (v0 : IVec S64x128 32) (hv : v0 = iota .tc S64x128 32 [1] iota_S64x128_d1_w32) (i : Fin 64) (j : Fin 128) :
    k0_pay19 (F := Ideal) v0 lo k0_pay12 (k0_pay15 (iota .tc S64x128 32 [0] iota_S64x128_d0_w32) v0 8#32 k0_pay13 k0_pay14 1#1) 8#32 (k0_pay16 v0) (k0_pay17 v0) k0_pay18 (ix2 i j)
      = if j.val % 8 = i.val / 8 ∧ j.val / 8 ≤ i.val % 8 then lo (ix2 i j) else low := by
  have hm := mask_at i j
  rw [← hv] at hm
  generalize h1 : k0_pay12 = a1 at *
  generalize h2 : k0_pay15 (iota .tc S64x128 32 [0] iota_S64x128_d0_w32) v0 8#32 k0_pay13 k0_pay14 1#1 = a2 at *
  generalize h3 : k0_pay16 v0 = a3 at *
  generalize h4 : k0_pay17 v0 = a4 at *
  generalize h5 : k0_pay18 = a5 at *
  clear h1 h2 h3 h4 h5 hv
  pointwise [k0_pay19]
  rw [hm]
  split <;> rfl

end Cert.MobaCombineIdeal.Tile

end
-- ==== Proof.MobaCombineValue.lean ====
module

public import proofs.«01_k».proof.Proof.MobaCombineTile
public import proofs.«01_k».proof.Proof.Gen.MobaCombineIdeal.Value
public import Idealize.ShloMosaic.Lib.StableHlo.ReadAt
public import Idealize.ShloMosaic.Lib.Pipeline.Value

/-! The combination's result: point `t` computes batch row `t`. -/

@[expose] public section

set_option maxRecDepth 16384

noncomputable section

namespace Cert.MobaCombineIdeal.Tile

open Idealize.ShloMosaic Idealize.ShloMosaic.TcCoe Idealize.SL.Sem Idealize.ShloMosaic.StableHlo
open Cert.MobaCombineIdeal Cert.MobaCombineIdeal.Gen Cert.Combine

variable (m : (ℓ : Loc nD τ sig) → Buf (Elt Ideal) ℓ)

def meanA (c : Dev nD) : S8x64x128.Idx → EReal := m ((c : Thread nD τ).loc main_arg0)
def maxA (c : Dev nD) : S8x64x128.Idx → EReal := m ((c : Thread nD τ).loc main_arg1)
def sumA (c : Dev nD) : S8x64x128.Idx → EReal := m ((c : Thread nD τ).loc main_arg2)
def pageA (c : Dev nD) : S8x128x64x128.Idx → EReal := m ((c : Thread nD τ).loc main_arg3)
def qA (c : Dev nD) : S8x8x1024.Idx → EReal := m ((c : Thread nD τ).loc main_arg4)
def kA (c : Dev nD) : S8x8x8x128.Idx → EReal := m ((c : Thread nD τ).loc main_arg5)
def vA (c : Dev nD) : S8x8x8x128.Idx → EReal := m ((c : Thread nD τ).loc main_arg6)

theorem mean_entry (c : Dev nD) : (V m c main_arg0 : S8x64x128.Idx → EReal) = meanA m c := by
  unfold V
  after_reads_simp
  rfl

theorem max_entry (c : Dev nD) : (V m c main_arg1 : S8x64x128.Idx → EReal) = maxA m c := by
  unfold V
  after_reads_simp
  rfl

theorem sum_entry (c : Dev nD) : (V m c main_arg2 : S8x64x128.Idx → EReal) = sumA m c := by
  unfold V
  after_reads_simp
  rfl

theorem page_entry (c : Dev nD) : (V m c main_arg3 : S8x128x64x128.Idx → EReal) = pageA m c := by
  unfold V
  after_reads_simp
  rfl

theorem q_entry (c : Dev nD) : (V m c main_arg4 : S8x8x1024.Idx → EReal) = qA m c := by
  unfold V
  after_reads_simp
  rfl

theorem k_entry (c : Dev nD) (b : Fin 8) (h s : Fin 8) (x : Fin 128) : (V m c main_v1 : S8x128x128.Idx → EReal) (ix3 b (lane h s) x) = kA m c (ix4 b s h x) := by
  unfold V
  after_reads_simp
  pointwise [lane]
  show pad S8x16x8x128 ![0, 0, 0, 0] ![0, 8, 0, 0] ![0, 0, 0, 0] (kA m c) (sitofp (F := Ideal) FTy.f32 (constantI S_ 32 0#32))
    pads_S8x8x8x128_S8x16x8x128_000_080_000_000 h_S_ (ix4 b ⟨(8 * s.val + h.val) / 8, by omega⟩ h x) = _
  rw [show (⟨(8 * s.val + h.val) / 8, by omega⟩ : Fin 16) = ⟨s.val, by omega⟩ from Fin.ext (by dsimp only; omega)]
  pointwise

theorem v_entry (c : Dev nD) (b : Fin 8) (h s : Fin 8) (x : Fin 128) : (V m c main_v3 : S8x128x128.Idx → EReal) (ix3 b (lane h s) x) = vA m c (ix4 b s h x) := by
  unfold V
  after_reads_simp
  pointwise [lane]
  show pad S8x16x8x128 ![0, 0, 0, 0] ![0, 8, 0, 0] ![0, 0, 0, 0] (vA m c) (sitofp (F := Ideal) FTy.f32 (constantI S_ 32 0#32))
    pads_S8x8x8x128_S8x16x8x128_000_080_000_000 h_S_ (ix4 b ⟨(8 * s.val + h.val) / 8, by omega⟩ h x) = _
  rw [show (⟨(8 * s.val + h.val) / 8, by omega⟩ : Fin 16) = ⟨s.val, by omega⟩ from Fin.ext (by dsimp only; omega)]
  pointwise

theorem zero3 : (![0, 0, 0] : Fin 3 → Nat) = fun _ => 0 := funext fun a => by fin_cases a <;> rfl

theorem point_lt (t : Fin cfg0.N) : t.val < 8 := t.isLt.trans_eq N_0

theorem where0 : ∀ t : Fin grid0.N, win0_0.index t 0 = t.val ∧ win0_0.index t 1 = 0 ∧ win0_0.index t 2 = 0 := by decide +kernel
theorem where1 : ∀ t : Fin grid0.N, win0_1.index t 0 = t.val ∧ win0_1.index t 1 = 0 ∧ win0_1.index t 2 = 0 := by decide +kernel
theorem where2 : ∀ t : Fin grid0.N, win0_2.index t 0 = t.val ∧ win0_2.index t 1 = 0 ∧ win0_2.index t 2 = 0 := by decide +kernel
theorem where4 : ∀ t : Fin grid0.N, win0_4.index t 0 = t.val ∧ win0_4.index t 1 = 0 ∧ win0_4.index t 2 = 0 := by decide +kernel
theorem where5 : ∀ t : Fin grid0.N, win0_5.index t 0 = t.val ∧ win0_5.index t 1 = 0 ∧ win0_5.index t 2 = 0 := by decide +kernel
theorem where6 : ∀ t : Fin grid0.N, win0_6.index t 0 = t.val ∧ win0_6.index t 1 = 0 ∧ win0_6.index t 2 = 0 := by decide +kernel
theorem where7 : ∀ t : Fin grid0.N, win0_7.index t 0 = t.val ∧ win0_7.index t 1 = 0 ∧ win0_7.index t 2 = 0 := by decide +kernel
theorem where3 : ∀ t : Fin grid0.N, win0_3.index t 0 = t.val ∧ win0_3.index t 1 = 0 ∧ win0_3.index t 2 = 0 ∧ win0_3.index t 3 = 0 := by decide +kernel

/-- The batch row of a point. -/
def batch (t : Fin cfg0.N) : Fin 8 := ⟨t.val, point_lt t⟩

theorem block0 (c : Dev nD) (t : Fin cfg0.N) (i : Fin 64) (j : Fin 128) :
    iblk m c 0 t (ix3 0 i j) = meanA m c (ix3 (batch t) i j) := by
  unfold iblk
  rw [View.read_apply]
  show V m c main_arg0 _ = _
  rw [mean_entry]
  refine congrArg (meanA m c) (funext fun a => Fin.ext ?_)
  match a with
  | ⟨0, _⟩ => show win0_0.index t 0 * 1 + 1 * 0 = t.val; rw [(where0 t).1]; omega
  | ⟨1, _⟩ => show win0_0.index t 1 * 64 + 1 * i.val = i.val; rw [(where0 t).2.1]; omega
  | ⟨2, _⟩ => show win0_0.index t 2 * 128 + 1 * j.val = j.val; rw [(where0 t).2.2]; omega

theorem block1 (c : Dev nD) (t : Fin cfg0.N) (i : Fin 64) (j : Fin 128) :
    iblk m c 1 t (ix3 0 i j) = maxA m c (ix3 (batch t) i j) := by
  unfold iblk
  rw [View.read_apply]
  show V m c main_arg1 _ = _
  rw [max_entry]
  refine congrArg (maxA m c) (funext fun a => Fin.ext ?_)
  match a with
  | ⟨0, _⟩ => show win0_1.index t 0 * 1 + 1 * 0 = t.val; rw [(where1 t).1]; omega
  | ⟨1, _⟩ => show win0_1.index t 1 * 64 + 1 * i.val = i.val; rw [(where1 t).2.1]; omega
  | ⟨2, _⟩ => show win0_1.index t 2 * 128 + 1 * j.val = j.val; rw [(where1 t).2.2]; omega

theorem block2 (c : Dev nD) (t : Fin cfg0.N) (i : Fin 64) (j : Fin 128) :
    iblk m c 2 t (ix3 0 i j) = sumA m c (ix3 (batch t) i j) := by
  unfold iblk
  rw [View.read_apply]
  show V m c main_arg2 _ = _
  rw [sum_entry]
  refine congrArg (sumA m c) (funext fun a => Fin.ext ?_)
  match a with
  | ⟨0, _⟩ => show win0_2.index t 0 * 1 + 1 * 0 = t.val; rw [(where2 t).1]; omega
  | ⟨1, _⟩ => show win0_2.index t 1 * 64 + 1 * i.val = i.val; rw [(where2 t).2.1]; omega
  | ⟨2, _⟩ => show win0_2.index t 2 * 128 + 1 * j.val = j.val; rw [(where2 t).2.2]; omega

theorem block4 (c : Dev nD) (t : Fin cfg0.N) (i : Fin 8) (j : Fin 1024) :
    iblk m c 4 t (ix3 0 i j) = qA m c (ix3 (batch t) i j) := by
  unfold iblk
  rw [View.read_apply]
  show V m c main_arg4 _ = _
  rw [q_entry]
  refine congrArg (qA m c) (funext fun a => Fin.ext ?_)
  match a with
  | ⟨0, _⟩ => show win0_4.index t 0 * 1 + 1 * 0 = t.val; rw [(where4 t).1]; omega
  | ⟨1, _⟩ => show win0_4.index t 1 * 8 + 1 * i.val = i.val; rw [(where4 t).2.1]; omega
  | ⟨2, _⟩ => show win0_4.index t 2 * 1024 + 1 * j.val = j.val; rw [(where4 t).2.2]; omega

theorem block3 (c : Dev nD) (t : Fin cfg0.N) (p : Fin 128) (i : Fin 64) (j : Fin 128) :
    iblk m c 3 t (ix4 0 p i j) = pageA m c (ix4 (batch t) p i j) := by
  unfold iblk
  rw [View.read_apply]
  show V m c main_arg3 _ = _
  rw [page_entry]
  refine congrArg (pageA m c) (funext fun a => Fin.ext ?_)
  match a with
  | ⟨0, _⟩ => show win0_3.index t 0 * 1 + 1 * 0 = t.val; rw [(where3 t).1]; omega
  | ⟨1, _⟩ => show win0_3.index t 1 * 128 + 1 * p.val = p.val; rw [(where3 t).2.1]; omega
  | ⟨2, _⟩ => show win0_3.index t 2 * 64 + 1 * i.val = i.val; rw [(where3 t).2.2.1]; omega
  | ⟨3, _⟩ => show win0_3.index t 3 * 128 + 1 * j.val = j.val; rw [(where3 t).2.2.2]; omega

theorem block5 (c : Dev nD) (t : Fin cfg0.N) (h s : Fin 8) (x : Fin 128) :
    iblk m c 5 t (ix3 0 (lane h s) x) = kA m c (ix4 (batch t) s h x) := by
  unfold iblk
  rw [View.read_apply]
  show V m c main_v1 _ = _
  rw [← k_entry]
  refine congrArg (V m c main_v1 : S8x128x128.Idx → EReal) (funext fun a => Fin.ext ?_)
  match a with
  | ⟨0, _⟩ => show win0_5.index t 0 * 1 + 1 * 0 = t.val; rw [(where5 t).1]; omega
  | ⟨1, _⟩ => show win0_5.index t 1 * 128 + 1 * (lane h s).val = (lane h s).val; rw [(where5 t).2.1]; omega
  | ⟨2, _⟩ => show win0_5.index t 2 * 128 + 1 * x.val = x.val; rw [(where5 t).2.2]; omega

theorem block6 (c : Dev nD) (t : Fin cfg0.N) (h s : Fin 8) (x : Fin 128) :
    iblk m c 6 t (ix3 0 (lane h s) x) = vA m c (ix4 (batch t) s h x) := by
  unfold iblk
  rw [View.read_apply]
  show V m c main_v3 _ = _
  rw [← v_entry]
  refine congrArg (V m c main_v3 : S8x128x128.Idx → EReal) (funext fun a => Fin.ext ?_)
  match a with
  | ⟨0, _⟩ => show win0_6.index t 0 * 1 + 1 * 0 = t.val; rw [(where6 t).1]; omega
  | ⟨1, _⟩ => show win0_6.index t 1 * 128 + 1 * (lane h s).val = (lane h s).val; rw [(where6 t).2.1]; omega
  | ⟨2, _⟩ => show win0_6.index t 2 * 128 + 1 * x.val = x.val; rw [(where6 t).2.2]; omega

theorem pay3_at (x : FVec Ideal S64x1 .f32) (y : FVec Ideal S64x128 .f32) (a : Fin 8) (n : Fin 1024) :
    k0_pay3 (F := Ideal) x y (ix3 0 a n) = Ideal.div (y (ix2 ⟨8 * (n.val / 128) + a.val, by omega⟩ ⟨n.val % 128, by omega⟩)) (x (ix2 ⟨8 * (n.val / 128) + a.val, by omega⟩ 0)) := by
  have key : ∀ (A C : Fin 64) (B D : Fin 128), A.val = C.val → B.val = D.val → Ideal.div (y (ix2 A B)) (x (ix2 A 0)) = Ideal.div (y (ix2 C D)) (x (ix2 C 0)) := by
    intro A C B D e f
    rw [Fin.ext e, Fin.ext f]
  pointwise [k0_pay3]
  split_ifs <;> exact key _ _ _ _ (by dsimp only; omega) (by dsimp only; omega)

theorem pay11_at (x4 : Vec Ideal S1x8x1024 .f32) (x5 : Vec Ideal S1x128x128 .f32) (i : Fin 64) (j : Fin 128) :
    k0_pay11 (F := Ideal) (k0_pay10 (F := Ideal) x4) x5 (ix2 i j)
      = ∑ x : Fin 128, x4 (ix3 0 (tokenOf i) ⟨i.val / 8 * 128 + x.val, by omega⟩) * Ideal.ofBits .f32 1035273459#32 * x5 (ix3 0 j x) := by
  have key : ∀ (A C : Fin 8) (B D : Fin 1024), A.val = C.val → B.val = D.val → x4 (ix3 0 A B) = x4 (ix3 0 C D) := by
    intro A C B D e f
    rw [Fin.ext e, Fin.ext f]
  pointwise [k0_pay11, k0_pay10]
  refine Finset.sum_congr rfl fun x _ => ?_
  refine congrArg (· * Ideal.ofBits .f32 1035273459#32 * x5 (ix3 0 j x)) ?_
  unfold tokenOf
  split_ifs <;> exact key _ _ _ _ (by dsimp only; omega) (by dsimp only; omega)

theorem trip_iv : ∀ x k : Fin 128, IntOp.cmpi .eq (BitVec.ofNat 32 x.val) (Scf.iv 0#32 1#32 k.val) = if x = k then 1#1 else 0#1 := by decide +kernel

theorem trip_page : ∀ k : Fin 128, BitVec.toNat (Scalar.indexCast (Scf.iv 0#32 1#32 k.val)) = k.val := by decide +kernel

theorem trips_eq : k0_t1_loop.trips = 128 := by decide +kernel

/-- A trip adds a page's results, weighted. -/
theorem trip_at (c : Dev nD) (t : Fin cfg0.N) (v0 : IVec S64x128 32) (hv : v0 = iota .tc S64x128 32 [1] iota_S64x128_d1_w32) (w : FVec Ideal S64x128 .f32)
    (x3 : Vec Ideal S1x128x64x128 .f32) (k : Fin k0_t1_loop.trips) (acc : FVec Ideal S64x128 .f32) (i : Fin 64) (j : Fin 128) :
    tripR_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) v0 w ((hs0_3 t).unread x3) k acc (ix2 i j)
      = acc (ix2 i j) + w (ix2 i (k.cast trips_eq)) * x3 (ix4 0 (k.cast trips_eq) i j) := by
  subst hv
  unfold tripR_k0_t1
  unfold trip_k0_t1
  dsimp only
  sl_unfold_words
  simp only [View.readAt_eq_ld, (hs0_3 t).read_unread]
  pointwise [k0_pay2]
  refine congrArg₂ (· + ·) rfl (congrArg₂ (· * ·) ?_ ?_)
  · have this : ∀ x : Fin 128, Scalar.select (IntOp.cmpi .eq (BitVec.ofNat 32 x.val) (Scf.iv 0#32 1#32 k.val)) (w (ix2 i x)) 0
        = if x = k.cast trips_eq then w (ix2 i x) else 0 := fun x => by
      rw [show Scf.iv 0#32 1#32 k.val = Scf.iv 0#32 1#32 (k.cast trips_eq).val from rfl, trip_iv]
      split <;> rfl
    refine (Finset.sum_congr rfl fun x _ => this x).trans ?_
    rw [Finset.sum_ite_eq' Finset.univ (k.cast trips_eq) (fun x => w (ix2 i x)), if_pos (Finset.mem_univ _)]
    rfl
  · refine congrArg (fun p : Fin 128 => x3 (ix4 0 p i j)) (Fin.ext ?_)
    exact trip_page (k.cast trips_eq)

/-- The loop adds the pages' results, weighted. -/
theorem loop_at (c : Dev nD) (t : Fin cfg0.N) (v0 : IVec S64x128 32) (hv : v0 = iota .tc S64x128 32 [1] iota_S64x128_d1_w32) (w : FVec Ideal S64x128 .f32)
    (x3 : Vec Ideal S1x128x64x128 .f32) (init : FVec Ideal S64x128 .f32) (i : Fin 64) (j : Fin 128) (n : ℕ) (hn : n ≤ 128) :
    st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) v0 w ((hs0_3 t).unread x3) init n (ix2 i j)
      = init (ix2 i j) + ∑ p ∈ Finset.range n, (if h : p < 128 then w (ix2 i ⟨p, h⟩) * x3 (ix4 0 ⟨p, h⟩ i j) else 0) := by
  induction n with
  | zero => rw [st_k0_t1_zero, Finset.sum_range_zero, add_zero]
  | succ n ih =>
    have hk : n < k0_t1_loop.trips := by rw [trips_eq]; omega
    have e := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) v0 w ((hs0_3 t).unread x3) init ⟨n, hk⟩
    rw [show n + 1 = (⟨n, hk⟩ : Fin k0_t1_loop.trips).val + 1 from rfl, e, trip_at c t v0 hv, Finset.sum_range_succ, ← add_assoc, ← ih (by omega), dif_pos (show n < 128 by omega)]
    rfl

section Row

variable (v0 : IVec S64x128 32) (v81 v99 : FVec Ideal S64x128 .f32) (v116 : IVec S64x128 32) (v159 : IVec S64x128 1) (v161 v168 v174 : IVec S64x128 32)
  (x1 x2 : Vec Ideal S1x64x128 .f32) (x6 : Vec Ideal S1x128x128 .f32) (i : Fin 64) (pick L : Fin 128 → EReal) (own : Fin 8 → EReal)

theorem top_at (hs : ∀ j, v81 (ix2 i j) = pick j) (hL : ∀ j, k0_pay19 (F := Ideal) v0 v99 v116 v159 8#32 v161 v168 v174 (ix2 i j) = L j)
    (hg : ∀ s, L (lane (headOf i) s) = own s) (hf : ∀ j, (∀ s, j ≠ lane (headOf i) s) → L j = low) :
    k0_pay21 (F := Ideal) v0 v81 v99 v116 v159 8#32 v161 v168 v174 x1 (ix2 i 0) = top pick (fun p => x1 (ix3 0 i p)) own := by
  pointwise [k0_pay21, k0_pay20]
  simp only [hL, hs]
  exact congrArg₂ max (fold_lanes (headOf i) L own hg hf) rfl

theorem weight_at (hs : ∀ j, v81 (ix2 i j) = pick j) (T : EReal) (hT : k0_pay21 (F := Ideal) v0 v81 v99 v116 v159 8#32 v161 v168 v174 x1 (ix2 i 0) = T) (p : Fin 128) :
    k0_pay22 (F := Ideal) v0 v81 v99 v116 v159 8#32 v161 v168 v174 x1 (ix2 i p) = weight pick (fun p => x1 (ix3 0 i p)) T p := by
  pointwise [k0_pay22, k0_pay20]
  rw [hs, hT]
  rfl

theorem own_at (hL : ∀ j, k0_pay19 (F := Ideal) v0 v99 v116 v159 8#32 v161 v168 v174 (ix2 i j) = L j) (T : EReal)
    (hT : k0_pay21 (F := Ideal) v0 v81 v99 v116 v159 8#32 v161 v168 v174 x1 (ix2 i 0) = T) (p : Fin 128) :
    k0_pay23 (F := Ideal) v0 v81 v99 v116 v159 8#32 v161 v168 v174 x1 (ix2 i p) = Ideal.exp (L p - T) := by
  pointwise [k0_pay23]
  rw [hL, hT]

theorem den_at (hs : ∀ j, v81 (ix2 i j) = pick j) (hL : ∀ j, k0_pay19 (F := Ideal) v0 v99 v116 v159 8#32 v161 v168 v174 (ix2 i j) = L j)
    (hg : ∀ s, L (lane (headOf i) s) = own s) (hf : ∀ j, (∀ s, j ≠ lane (headOf i) s) → L j = low) (T : EReal)
    (hT : k0_pay21 (F := Ideal) v0 v81 v99 v116 v159 8#32 v161 v168 v174 x1 (ix2 i 0) = T) :
    k0_pay24 (F := Ideal) v0 v81 v99 v116 v159 8#32 v161 v168 v174 x1 x2 (ix2 i 0)
      = ∑ p, weight pick (fun p => x1 (ix3 0 i p)) T p * x2 (ix3 0 i p) + ∑ s, Ideal.exp (own s - T) := by
  pointwise [k0_pay24]
  simp only [weight_at v0 v81 v99 v116 v159 v161 v168 v174 x1 i pick hs T hT, own_at v0 v81 v99 v116 v159 v161 v168 v174 x1 i L hL T hT]
  refine congrArg₂ (· + ·) rfl (sum_lanes (headOf i) _ _ (fun s => ?_) (fun j hj => ?_))
  · rw [hg]
  · rw [hf j hj, exp_low]

theorem values_at (hL : ∀ j, k0_pay19 (F := Ideal) v0 v99 v116 v159 8#32 v161 v168 v174 (ix2 i j) = L j)
    (hg : ∀ s, L (lane (headOf i) s) = own s) (hf : ∀ j, (∀ s, j ≠ lane (headOf i) s) → L j = low) (T : EReal)
    (hT : k0_pay21 (F := Ideal) v0 v81 v99 v116 v159 8#32 v161 v168 v174 x1 (ix2 i 0) = T) (d : Fin 128) :
    k0_pay1 (F := Ideal) (k0_pay23 (F := Ideal) v0 v81 v99 v116 v159 8#32 v161 v168 v174 x1) x6 (ix2 i d)
      = ∑ s, Ideal.exp (own s - T) * x6 (ix3 0 (lane (headOf i) s) d) := by
  pointwise [k0_pay1]
  simp only [own_at v0 v81 v99 v116 v159 v161 v168 v174 x1 i L hL T hT]
  refine sum_lanes (headOf i) _ _ (fun s => ?_) (fun j hj => ?_)
  · rw [hg]
  · rw [hf j hj, exp_low, zero_mul]

end Row

/-- A row's logits in the kernel's lanes. -/
def laneLogits (lo : FVec Ideal S64x128 .f32) (i : Fin 64) (j : Fin 128) : EReal := if j.val % 8 = i.val / 8 ∧ j.val / 8 ≤ i.val % 8 then lo (ix2 i j) else low

theorem laneLogits_lane (lo : FVec Ideal S64x128 .f32) (i : Fin 64) (s : Fin 8) :
    laneLogits lo i (lane (headOf i) s) = if s.val ≤ i.val % 8 then lo (ix2 i (lane (headOf i) s)) else low := by
  unfold laneLogits
  refine if_congr ?_ rfl rfl
  unfold lane headOf
  dsimp only
  omega

theorem laneLogits_off (lo : FVec Ideal S64x128 .f32) (i : Fin 64) (j : Fin 128) (hj : ∀ s, j ≠ lane (headOf i) s) : laneLogits lo i j = low := by
  unfold laneLogits
  refine if_neg fun h => hj ⟨j.val / 8, by omega⟩ (Fin.ext ?_)
  unfold lane headOf
  dsimp only
  omega

/-- What a point writes. -/
theorem out_at (c : Dev nD) (t : Fin cfg0.N) (a : Fin 8) (n : Fin 1024) :
    outsAt0 m c t (ix3 0 a n) = resultArr (meanA m c) (maxA m c) (sumA m c) (pageA m c) (qA m c) (kA m c) (vA m c) (batch t) a n := by
  unfold outsAt0
  unfold out0_A_7
  rw [View.read_writes_eq_canon _ _ _ (fun y => cover0_A_7 (y := y) ..)]
  unfold kernelRun0_A
  dsimp only
  sl_unfold_words
  simp only [View.canon_unit_zero (S := S1x8x1024) zero3, View.readAt_eq_ld,
    (hs0_0 t).read_unread, (hs0_1 t).read_unread, (hs0_2 t).read_unread, (hs0_3 t).read_unread, (hs0_4 t).read_unread, (hs0_5 t).read_unread, (hs0_6 t).read_unread,
    View.ld_unit_zero (S := S1x64x128) zero3, View.ld_unit_zero (S := S1x8x1024) zero3, View.ld_unit_zero (S := S1x128x128) zero3]
  rw [pay3_at]
  unfold Combine.resultArr resultAt combined
  generalize (⟨8 * (n.val / 128) + a.val, _⟩ : Fin 64) = i
  generalize (⟨n.val % 128, _⟩ : Fin 128) = d
  generalize hlo : k0_pay11 (F := Ideal) (k0_pay10 (F := Ideal) (iblk m c 4 t)) (iblk m c 5 t) = lo
  generalize hsel : k0_pay9 (F := Ideal) (iota .tc S64x128 32 [1] iota_S64x128_d1_w32) (k0_pay4 (F := Ideal) (iblk m c 0 t)) k0_pay5 (k0_pay7 (F := Ideal) (iblk m c 0 t)) (k0_pay8 (F := Ideal) (iblk m c 0 t)) = sel
  have hs : ∀ j, sel (ix2 i j) = picked (scored fun j => meanA m c (ix3 (batch t) i j)) j := fun j => by
    rw [← hsel, picked_at _ rfl]
    refine congrArg (fun s => picked s j) (funext fun j => ?_)
    rw [scored_at]
    refine congrArg (fun s => scored s j) (funext fun j => block0 m c t i j)
  have hL := logits_at lo _ rfl i
  have hg : ∀ s, laneLogits lo i (lane (headOf i) s) = own (fun x => qA m c (ix3 (batch t) (tokenOf i) ⟨i.val / 8 * 128 + x.val, by omega⟩)) (fun s x => kA m c (ix4 (batch t) s (headOf i) x)) (i.val % 8) s := fun s => by
    rw [laneLogits_lane, ← hlo, pay11_at]
    unfold own
    refine if_congr Iff.rfl (Finset.sum_congr rfl fun x _ => ?_) rfl
    rw [block4, block5]
  have hf := laneLogits_off lo i
  have hT := top_at _ sel lo _ _ _ _ _ (iblk m c 1 t) i _ (laneLogits lo i) _ hs hL hg hf
  have hm : (fun p => iblk m c 1 t (ix3 0 i p)) = fun p => maxA m c (ix3 (batch t) i p) := funext fun p => block1 m c t i p
  refine congrArg₂ Ideal.div ?_ ?_
  · rw [show Scf.trips (0#32) (Scalar.addi 0#32 128#32) 1#32 = 128 from by decide +kernel, loop_at c t _ rfl _ _ _ i d 128 le_rfl]
    refine congrArg₂ (· + ·) ?_ ?_
    · rw [values_at _ _ _ _ _ _ _ _ _ _ i (laneLogits lo i) _ hL hg hf _ hT]
      rw [hm]
      refine Finset.sum_congr rfl fun s _ => ?_
      rw [block6]
    · rw [Finset.sum_range]
      refine Finset.sum_congr rfl fun p _ => ?_
      rw [dif_pos p.isLt]
      rw [show (⟨p.val, p.isLt⟩ : Fin 128) = p from rfl, weight_at _ _ _ _ _ _ _ _ _ i _ hs _ hT, block3, hm]
  · rw [den_at _ _ _ _ _ _ _ _ _ _ i _ (laneLogits lo i) _ hs hL hg hf _ hT, hm]
    refine congrArg₂ (· + ·) (Finset.sum_congr rfl fun p _ => ?_) rfl
    rw [block2]

/-- The result. -/
def resultArr (c : Dev nD) : S8x8x1024.Idx → EReal := fun y => Combine.resultArr (meanA m c) (maxA m c) (sumA m c) (pageA m c) (qA m c) (kA m c) (vA m c) (y 0) (y 1) (y 2)

theorem final (c : Dev nD) : (dats m 0 c).arrAt 7 cfg0.N = resultArr m c := by
  refine (dats m 0 c).arrAt_eq_of_cover 7 (resultArr m c) ?_ ?_
  · intro t _
    rw [Value.flushed7]
    funext y
    rw [View.read_apply]
    show outsAt0 m c t y = resultArr m c _
    have hy0 : (y 0).val < 1 := (y 0).isLt
    have hy1 : (y 1).val < 8 := (y 1).isLt
    have hy2 : (y 2).val < 1024 := (y 2).isLt
    rw [show y = ix3 (0 : Fin 1) (⟨(y 1).val, hy1⟩ : Fin 8) (⟨(y 2).val, hy2⟩ : Fin 1024) from
      funext fun a => by fin_cases a <;> first | rfl | exact Fin.ext (by show (y 0).val = 0; omega)]
    rw [out_at]
    unfold resultArr
    have key : ∀ (a a' : Fin 8) (b b' : Fin 8) (n n' : Fin 1024), a.val = a'.val → b.val = b'.val → n.val = n'.val →
        Combine.resultArr (meanA m c) (maxA m c) (sumA m c) (pageA m c) (qA m c) (kA m c) (vA m c) a b n
          = Combine.resultArr (meanA m c) (maxA m c) (sumA m c) (pageA m c) (qA m c) (kA m c) (vA m c) a' b' n' := by
      intro a a' b b' n n' e f g
      rw [Fin.ext e, Fin.ext f, Fin.ext g]
    refine key _ _ _ _ _ _ ?_ ?_ ?_
    · show t.val = win0_7.index t 0 * 1 + 1 * 0
      rw [(where7 t).1]; omega
    · show (y 1).val = win0_7.index t 1 * 8 + 1 * (y 1).val
      rw [(where7 t).2.1]; omega
    · show (y 2).val = win0_7.index t 2 * 1024 + 1 * (y 2).val
      rw [(where7 t).2.2]; omega
  · intro y
    have hy0 : (y 0).val < 8 := (y 0).isLt
    have hy1 : (y 1).val < 8 := (y 1).isLt
    have hy2 : (y 2).val < 1024 := (y 2).isLt
    obtain ⟨t, ht⟩ : ∃ t : Fin cfg0.N, t.val = (y 0).val := ⟨⟨(y 0).val, hy0.trans_eq (show cfg0.N = 8 from N_0).symm⟩, rfl⟩
    refine ⟨t, flush0_7 t, ?_⟩
    show y ∈ ((View.whole main_v4).slice (win0_7.rect t)).set
    rw [View.set_slice_whole, Rect.mem_set_unit]
    intro a
    match a with
    | ⟨0, _⟩ =>
      show win0_7.index t 0 * 1 ≤ (y 0).val ∧ (y 0).val < win0_7.index t 0 * 1 + 1
      rw [(where7 t).1]
      omega
    | ⟨1, _⟩ =>
      show win0_7.index t 1 * 8 ≤ (y 1).val ∧ (y 1).val < win0_7.index t 1 * 8 + 8
      rw [(where7 t).2.1]
      omega
    | ⟨2, _⟩ =>
      show win0_7.index t 2 * 1024 ≤ (y 2).val ∧ (y 2).val < win0_7.index t 2 * 1024 + 1024
      rw [(where7 t).2.2]
      omega

end Cert.MobaCombineIdeal.Tile

end
-- ==== Proof.MobaCombineRef.lean ====
module

public import proofs.«01_k».proof.Proof.Combine
public import proofs.«01_k».proof.Proof.Gen.MobaCombineRefIdeal.Run

/-! The combination's reference, an element at a time. -/

@[expose] public section

set_option maxRecDepth 16384

noncomputable section

namespace Cert.MobaCombineRefIdeal.Rows

open Idealize.ShloMosaic Idealize.ShloMosaic.TcCoe Idealize.SL.Sem
open Cert.MobaCombineRefIdeal Cert.MobaCombineRefIdeal.Value Cert.Combine

theorem pair_gen (f : Fin 128 → EReal) (z : EReal) (j k k' : Fin 128) (e : k = k') : (f j + f k) * z = (f j + f k') * z := by rw [e]

theorem hit_gen (f : Fin 128 → EReal) (x : EReal) (s : Fin 128 → EReal) (hf : ∀ k, f k = s k) (hx : x = best s) (j : Fin 128) :
    IntOp.cmpi .eq (BitVec.ofNat 32 j.val) (Finset.univ.fold IntOp.minsi 2147483647#32 (fun k : Fin 128 => if f k = x then BitVec.ofNat 32 k.val else 128#32)) = hit s j := by
  obtain rfl : f = s := funext hf
  rw [hx]
  rfl

theorem top_gen (f own : Fin 8 → EReal) (g pick mx : Fin 128 → EReal) (hf : ∀ s, f s = own s) (hg : ∀ p, g p = pick p) :
    max (Finset.univ.fold max low f) (Finset.univ.fold max low (fun p : Fin 128 => if 0 < g p then mx p else low)) = top pick mx own := by
  obtain rfl : f = own := funext hf
  obtain rfl : g = pick := funext hg
  rfl

theorem quotient_gen (w88 : S8x64x8.Idx → EReal) (w85 mean mx l : S8x64x128.Idx → EReal) (o : S8x128x64x128.Idx → EReal) (q : S8x8x1024.Idx → EReal) (k v : S8x8x8x128.Idx → EReal)
    (b : Fin 8) (i j : Fin 64) (h : Fin 8) (d : Fin 128) (r : Fin 64) (ei : i = r) (ej : j = r) (eh : h = headOf r)
    (h88 : ∀ s, w88 (ix3 b r s) = Ideal.exp (own (fun x => q (ix3 b (tokenOf r) ⟨r.val / 8 * 128 + x.val, by omega⟩)) (fun s x => k (ix4 b s (headOf r) x)) (r.val % 8) s
      - top (picked (scored fun j => mean (ix3 b r j))) (fun p => mx (ix3 b r p)) (own (fun x => q (ix3 b (tokenOf r) ⟨r.val / 8 * 128 + x.val, by omega⟩)) (fun s x => k (ix4 b s (headOf r) x)) (r.val % 8))))
    (h85 : ∀ p, w85 (ix3 b r p) = weight (picked (scored fun j => mean (ix3 b r j))) (fun p => mx (ix3 b r p))
      (top (picked (scored fun j => mean (ix3 b r j))) (fun p => mx (ix3 b r p)) (own (fun x => q (ix3 b (tokenOf r) ⟨r.val / 8 * 128 + x.val, by omega⟩)) (fun s x => k (ix4 b s (headOf r) x)) (r.val % 8))) p) :
    Ideal.div (∑ x : Fin 8, w88 (ix3 b j x) * v (ix4 b x h d) + ∑ x : Fin 128, w85 (ix3 b i x) * o (ix4 b x i d))
      (∑ x : Fin 128, w85 (ix3 b i x) * l (ix3 b i x) + ∑ x : Fin 8, w88 (ix3 b i x)) = resultAt mean mx l o q k v b r d := by
  subst ei ej eh
  simp only [h85, h88]
  rfl

section Steps

variable (V : Valuation τ sig (Elt Ideal))

theorem v10_at (b : Fin 8) (i : Fin 64) (j : Fin 128) :
    res_main_v10 (F := Ideal) V (ix3 b i j) = scored (fun j => V (Proc.tc.devRef main_arg0) (ix3 b i j)) j := by
  pointwise [res_main_v10, res_main_call0_v4, res_main_call0_v2, res_main_call0_v0]
  unfold scored
  have key : ∀ j : Fin 128, Scalar.select
        (IntOp.andi
          (IntOp.cmpi CmpIPredicate.ne (IntOp.cmpi CmpIPredicate.slt (IntOp.remsi ArithUnit.host (BitVec.ofNat 32 j.val) (Scalar.select (IntOp.cmpi CmpIPredicate.eq (id (constantI S_ 32 2#32) ix0) 0#32) (1#32) (id (constantI S_ 32 2#32) ix0))) 0#32) (IntOp.cmpi CmpIPredicate.slt (Scalar.select (IntOp.cmpi CmpIPredicate.eq (id (constantI S_ 32 2#32) ix0) 0#32) (1#32) (id (constantI S_ 32 2#32) ix0)) 0#32))
          (IntOp.cmpi CmpIPredicate.ne (IntOp.remsi ArithUnit.host (BitVec.ofNat 32 j.val) (Scalar.select (IntOp.cmpi CmpIPredicate.eq (id (constantI S_ 32 2#32) ix0) 0#32) (1#32) (id (constantI S_ 32 2#32) ix0))) 0#32))
        (IntOp.addi (IntOp.remsi ArithUnit.host (BitVec.ofNat 32 j.val) (Scalar.select (IntOp.cmpi CmpIPredicate.eq (id (constantI S_ 32 2#32) ix0) 0#32) (1#32) (id (constantI S_ 32 2#32) ix0))) (Scalar.select (IntOp.cmpi CmpIPredicate.eq (id (constantI S_ 32 2#32) ix0) 0#32) (1#32) (id (constantI S_ 32 2#32) ix0)))
        (IntOp.remsi ArithUnit.host (BitVec.ofNat 32 j.val) (Scalar.select (IntOp.cmpi CmpIPredicate.eq (id (constantI S_ 32 2#32) ix0) 0#32) (1#32) (id (constantI S_ 32 2#32) ix0))) = BitVec.ofNat 32 (j.val % 2) := by decide +kernel
  rw [key j]
  by_cases h : j.val % 2 = 0
  · rw [if_pos h, h, dif_pos (show j.val < 127 by omega)]
    exact pair_gen (fun j => V (Proc.tc.devRef main_arg0) (ix3 b i j)) _ j _ _ (Fin.ext (by dsimp only; omega))
  · rw [if_neg h, show j.val % 2 = 1 by omega]
    rfl

/-- A row of the scores, as it is and without the pages found so far. -/
def row10 (b : Fin 8) (i : Fin 64) : Fin 128 → EReal := scored (fun j => V (Proc.tc.devRef main_arg0) (ix3 b i j))

theorem v10_row (b : Fin 8) (i : Fin 64) (j : Fin 128) : res_main_v10 (F := Ideal) V (ix3 b i j) = row10 V b i j := v10_at V b i j

theorem v12_at (b : Fin 8) (i : Fin 64) : res_main_v12 (F := Ideal) V (ix3 b i 0) = best (row10 V b i) := by
  pointwise [res_main_v12]
  refine (Shape.ReducesTo.fold_fiber_r3_a2 (n0 := 8) (n1 := 64) (n2 := 128) Gen.reducesTo_S8x64x128_S8x64_d2 (ix2 b i) max low _).trans ?_
  exact congrArg (fun f => Finset.univ.fold max low f) (funext fun k => v10_row V b i k)

theorem v20_at (b : Fin 8) (i : Fin 64) (j : Fin 128) : res_main_v20 (F := Ideal) V (ix3 b i j) = hit (row10 V b i) j := by
  pointwise [res_main_v20, res_main_v13, res_main_v28, res_main_v43]
  refine (congrArg (IntOp.cmpi .eq (BitVec.ofNat 32 j.val)) (Shape.ReducesTo.fold_fiber_r3_a2 (n0 := 8) (n1 := 64) (n2 := 128) Gen.reducesTo_S8x64x128_S8x64_d2 (ix2 b i) IntOp.minsi 2147483647#32 _)).trans ?_
  exact hit_gen (fun k => res_main_v10 (F := Ideal) V (ix3 b i k)) (res_main_v12 (F := Ideal) V (ix3 b i 0)) _ (v10_row V b i) (v12_at V b i) j

theorem v25_row (b : Fin 8) (i : Fin 64) (j : Fin 128) : res_main_v25 (F := Ideal) V (ix3 b i j) = rest (row10 V b i) j := by
  pointwise [res_main_v25]
  rw [v20_at, v10_row]
  rfl

theorem v27_at (b : Fin 8) (i : Fin 64) : res_main_v27 (F := Ideal) V (ix3 b i 0) = best (rest (row10 V b i)) := by
  pointwise [res_main_v27]
  refine (Shape.ReducesTo.fold_fiber_r3_a2 (n0 := 8) (n1 := 64) (n2 := 128) Gen.reducesTo_S8x64x128_S8x64_d2 (ix2 b i) max low _).trans ?_
  exact congrArg (fun f => Finset.univ.fold max low f) (funext fun k => v25_row V b i k)

theorem v35_at (b : Fin 8) (i : Fin 64) (j : Fin 128) : res_main_v35 (F := Ideal) V (ix3 b i j) = hit (rest (row10 V b i)) j := by
  pointwise [res_main_v35, res_main_v13, res_main_v28, res_main_v43]
  refine (congrArg (IntOp.cmpi .eq (BitVec.ofNat 32 j.val)) (Shape.ReducesTo.fold_fiber_r3_a2 (n0 := 8) (n1 := 64) (n2 := 128) Gen.reducesTo_S8x64x128_S8x64_d2 (ix2 b i) IntOp.minsi 2147483647#32 _)).trans ?_
  exact hit_gen (fun k => res_main_v25 (F := Ideal) V (ix3 b i k)) (res_main_v27 (F := Ideal) V (ix3 b i 0)) _ (v25_row V b i) (v27_at V b i) j

theorem v40_row (b : Fin 8) (i : Fin 64) (j : Fin 128) : res_main_v40 (F := Ideal) V (ix3 b i j) = rest (rest (row10 V b i)) j := by
  pointwise [res_main_v40]
  rw [v35_at, v25_row]
  rfl

theorem v42_at (b : Fin 8) (i : Fin 64) : res_main_v42 (F := Ideal) V (ix3 b i 0) = best (rest (rest (row10 V b i))) := by
  pointwise [res_main_v42]
  refine (Shape.ReducesTo.fold_fiber_r3_a2 (n0 := 8) (n1 := 64) (n2 := 128) Gen.reducesTo_S8x64x128_S8x64_d2 (ix2 b i) max low _).trans ?_
  exact congrArg (fun f => Finset.univ.fold max low f) (funext fun k => v40_row V b i k)

theorem v50_at (b : Fin 8) (i : Fin 64) (j : Fin 128) : res_main_v50 (F := Ideal) V (ix3 b i j) = hit (rest (rest (row10 V b i))) j := by
  pointwise [res_main_v50, res_main_v13, res_main_v28, res_main_v43]
  refine (congrArg (IntOp.cmpi .eq (BitVec.ofNat 32 j.val)) (Shape.ReducesTo.fold_fiber_r3_a2 (n0 := 8) (n1 := 64) (n2 := 128) Gen.reducesTo_S8x64x128_S8x64_d2 (ix2 b i) IntOp.minsi 2147483647#32 _)).trans ?_
  exact hit_gen (fun k => res_main_v40 (F := Ideal) V (ix3 b i k)) (res_main_v42 (F := Ideal) V (ix3 b i 0)) _ (v40_row V b i) (v42_at V b i) j

theorem v58_at (b : Fin 8) (i : Fin 64) (j : Fin 128) : res_main_v58 (F := Ideal) V (ix3 b i j) = chosen (row10 V b i) j := by
  pointwise [res_main_v58]
  rw [v50_at, v35_at, v20_at, v42_at, v27_at, v12_at]
  rfl

theorem v62_at (b : Fin 8) (i : Fin 64) (j : Fin 128) : res_main_v62 (F := Ideal) V (ix3 b i j) = picked (row10 V b i) j := by
  pointwise [res_main_v62]
  simp only [v58_at]
  unfold picked
  refine congrArg₂ (· + ·) rfl ?_
  split
  · exact congrArg (chosen (row10 V b i)) (Fin.ext (by dsimp only; omega))
  · exact congrArg (chosen (row10 V b i)) (Fin.ext (by dsimp only; omega))

/-- A row's logits of the new tokens. -/
def ownRow (b : Fin 8) (i : Fin 64) : Fin 8 → EReal :=
  own (fun x => V (Proc.tc.devRef main_arg4) (ix3 b (tokenOf i) ⟨i.val / 8 * 128 + x.val, by omega⟩)) (fun s x => V (Proc.tc.devRef main_arg5) (ix4 b s (headOf i) x)) (i.val % 8)

theorem v71_at (b : Fin 8) (i : Fin 64) (s : Fin 8) : res_main_v71 (F := Ideal) V (ix3 b i s) = ownRow V b i s := by
  pointwise [res_main_v71]
  have key : ∀ (s : Fin 8) (i : Fin 64), IntOp.cmpi CmpIPredicate.sle (BitVec.ofNat 32 s.val) (BitVec.ofNat 32 (i.val % 8)) = if s.val ≤ i.val % 8 then 1#1 else 0#1 := by decide +kernel
  rw [key]
  unfold ownRow own
  split <;> rfl

def topRow (b : Fin 8) (i : Fin 64) : EReal := top (picked (row10 V b i)) (fun p => V (Proc.tc.devRef main_arg1) (ix3 b i p)) (ownRow V b i)

theorem v79_at (b : Fin 8) (i : Fin 64) : res_main_v79 (F := Ideal) V (ix3 b i 0) = topRow V b i := by
  pointwise [res_main_v79]
  refine (congrArg₂ max (Shape.ReducesTo.fold_fiber_r3_a2 (n0 := 8) (n1 := 64) (n2 := 8) Gen.reducesTo_S8x64x8_S8x64_d2 (ix2 b i) max low _) (Shape.ReducesTo.fold_fiber_r3_a2 (n0 := 8) (n1 := 64) (n2 := 128) Gen.reducesTo_S8x64x128_S8x64_d2 (ix2 b i) max low _)).trans ?_
  exact top_gen (fun s => res_main_v71 (F := Ideal) V (ix3 b i s)) _ (fun p => res_main_v62 (F := Ideal) V (ix3 b i p)) _ (fun p => V (Proc.tc.devRef main_arg1) (ix3 b i p)) (v71_at V b i) (v62_at V b i)

theorem v85_at (b : Fin 8) (i : Fin 64) (p : Fin 128) : res_main_v85 (F := Ideal) V (ix3 b i p)
    = weight (picked (row10 V b i)) (fun p => V (Proc.tc.devRef main_arg1) (ix3 b i p)) (topRow V b i) p := by
  pointwise [res_main_v85]
  rw [v62_at, v79_at]
  unfold weight
  refine if_congr Iff.rfl rfl ?_
  exact Ideal.ofBits_zero .f32

theorem v88_at (b : Fin 8) (i : Fin 64) (s : Fin 8) : res_main_v88 (F := Ideal) V (ix3 b i s) = Ideal.exp (ownRow V b i s - topRow V b i) := by
  pointwise [res_main_v88]
  rw [v71_at, v79_at]

end Steps

variable (m : (ℓ : Loc nD τ sig) → Buf (Elt Ideal) ℓ)

def meanA (c : Dev nD) : S8x64x128.Idx → EReal := m ((c.tc : Thread nD τ).loc main_arg0)
def maxA (c : Dev nD) : S8x64x128.Idx → EReal := m ((c.tc : Thread nD τ).loc main_arg1)
def sumA (c : Dev nD) : S8x64x128.Idx → EReal := m ((c.tc : Thread nD τ).loc main_arg2)
def pageA (c : Dev nD) : S8x128x64x128.Idx → EReal := m ((c.tc : Thread nD τ).loc main_arg3)
def qA (c : Dev nD) : S8x8x1024.Idx → EReal := m ((c.tc : Thread nD τ).loc main_arg4)
def kA (c : Dev nD) : S8x8x8x128.Idx → EReal := m ((c.tc : Thread nD τ).loc main_arg5)
def vA (c : Dev nD) : S8x8x8x128.Idx → EReal := m ((c.tc : Thread nD τ).loc main_arg6)

/-- The result. -/
def resultArr (c : Dev nD) : S8x8x1024.Idx → EReal := fun y => Combine.resultArr (meanA m c) (maxA m c) (sumA m c) (pageA m c) (qA m c) (kA m c) (vA m c) (y 0) (y 1) (y 2)

theorem result (ρ : Dev nD → PrngReg) :
    θ_run defs (onTc (τ := τ) (main (F := Ideal))) ⟨m, fun _ => 0, ρ⟩ fun r => ∀ c : Dev nD,
      r.2.mem ((c.tc : Thread nD τ).loc main_v104) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by
    refine ext3 (f := _) (g := resultArr m c) fun b a n => ?_
    show _ = Combine.resultArr (meanA m c) (maxA m c) (sumA m c) (pageA m c) (qA m c) (kA m c) (vA m c) b a n
    pointwise
    exact quotient_gen (res_main_v88 (StableHlo.launchContents m c)) (res_main_v85 (StableHlo.launchContents m c)) (meanA m c) (maxA m c) (sumA m c) (pageA m c) (qA m c) (kA m c) (vA m c)
      b ⟨n.val / 128 * 8 + a.val, by omega⟩ ⟨(n.val / 128 * 8 + a.val) / 8 * 8 + a.val, by omega⟩ ⟨(n.val / 128 * 8 + a.val) / 8, by omega⟩ ⟨n.val % 128, by omega⟩
      ⟨8 * (n.val / 128) + a.val, by omega⟩ (Fin.ext (by dsimp only; omega)) (Fin.ext (by dsimp only; omega)) (Fin.ext (by unfold headOf; dsimp only; omega))
      (v88_at (StableHlo.launchContents m c) b _) (v85_at (StableHlo.launchContents m c) b _)), (h c).2⟩) (Value.run (F := Ideal) m ρ)

end Cert.MobaCombineRefIdeal.Rows

end
-- ==== Proof.Recurrence.lean ====
/-
  The gated recurrence over real numbers, with no program in sight. A state `S` of `ι × κ` numbers is carried over
  tokens: token `n` multiplies row `i` by `exp (g n i)` and adds `k n i * v n j`. The kernels work in chunks of 128
  tokens; this file says what a chunk computes from the state at its start:

  * `state_add` — the state `n` tokens later, in closed form;
  * `pair_split` — for two tokens `s < t` of a chunk that part at level `li` of its halving tree, the decay between them is
    the decay from the tree's midpoint to `t` times the decay from `s` to the midpoint;
  * `chunk_out` — the chunk's masked scores give every token's read-out of the recurrence;
  * `chunk_state` — the chunk's update of the state is 128 tokens of the recurrence.
-/
module

public import Idealize.ShloMosaic.PureOps
public import Mathlib.Analysis.SpecialFunctions.Exp

@[expose] public section

noncomputable section

namespace Cert.Recurrence

open Finset

variable {ι κ : Type}

/-- The state after `n` tokens. -/
def state (g k : ℕ → ι → ℝ) (v : ℕ → κ → ℝ) (s0 : ι → κ → ℝ) : ℕ → ι → κ → ℝ
  | 0 => s0
  | n + 1 => fun i j => state g k v s0 n i j * Real.exp (g n i) + k n i * v n j

/-- The state `n` tokens after token `c`. -/
theorem state_add (g k : ℕ → ι → ℝ) (v : ℕ → κ → ℝ) (s0 : ι → κ → ℝ) (c n : ℕ) (i : ι) (j : κ) :
    state g k v s0 (c + n) i j = state g k v s0 c i j * Real.exp (∑ r ∈ range n, g (c + r) i)
      + ∑ s ∈ range n, k (c + s) i * v (c + s) j * Real.exp (∑ r ∈ Ico (s + 1) n, g (c + r) i) := by
  induction n with
  | zero => simp
  | succ n ih =>
    rw [← Nat.add_assoc]
    simp only [state]
    rw [ih, sum_range_succ, sum_range_succ, Real.exp_add, add_mul, Finset.sum_mul]
    simp only [Finset.Ico_self, Finset.sum_empty, Real.exp_zero, mul_one]
    rw [mul_assoc, add_assoc]
    congr 2
    refine Finset.sum_congr rfl fun s hs => ?_
    rw [Finset.sum_Ico_succ_top (by have := Finset.mem_range.mp hs; omega), Real.exp_add, mul_assoc]

/-- The sum of `f` over the tokens `lo … hi` of a chunk. -/
def win (lo hi : ℕ) (f : Fin 128 → ℝ) : ℝ := ∑ r : Fin 128, if lo ≤ r.val ∧ r.val ≤ hi then f r else 0

theorem win_eq_sum (lo hi : ℕ) (f : ℕ → ℝ) (h : hi < 128) :
    win lo hi (fun r => f r.val) = ∑ r ∈ Ico lo (hi + 1), f r := by
  unfold win
  rw [Fin.sum_univ_eq_sum_range (fun r => if lo ≤ r ∧ r ≤ hi then f r else 0) 128, ← Finset.sum_filter]
  refine Finset.sum_congr (Finset.ext fun r => ?_) fun _ _ => rfl
  simp only [Finset.mem_filter, Finset.mem_range, Finset.mem_Ico]
  omega

/-- Half the width of a node at level `li` of the halving tree over a chunk. -/
def half (li : ℕ) : ℕ := 64 >>> li

/-- The midpoint of the node at level `li` that token `t` lies in. -/
def mid (li t : ℕ) : ℕ := t / (2 * half li) * (2 * half li) + half li

/-- What the table of levels says of a pair of tokens: 7 on the diagonal, the level at which they part below it, and
    no level above it. -/
structure Levels (lvl : Fin 128 → Fin 128 → BitVec 32) : Prop where
  diag : ∀ t, lvl t t = 7#32
  below : ∀ t s : Fin 128, s.val < t.val → ∃ li : Fin 7, lvl t s = BitVec.ofNat 32 li.val ∧
    mid li.val s.val = mid li.val t.val ∧ s.val < mid li.val t.val ∧ mid li.val t.val ≤ t.val
  above : ∀ t s : Fin 128, t.val < s.val → lvl t s = 4294967295#32

/-- Splitting the sum between two tokens at a point between them. -/
theorem pair_split (s m t : ℕ) (hs : s < m) (hm : m ≤ t) (f : Fin 128 → ℝ) :
    win m t f + win (s + 1) (m - 1) f = win (s + 1) t f := by
  unfold win
  rw [← Finset.sum_add_distrib]
  refine Finset.sum_congr rfl fun r _ => ?_
  by_cases h1 : m ≤ r.val
  · rw [if_neg (by omega : ¬(s + 1 ≤ r.val ∧ r.val ≤ m - 1)), add_zero]
    exact if_congr (by omega) rfl rfl
  · rw [if_neg (by omega : ¬(m ≤ r.val ∧ r.val ≤ t)), zero_add]
    exact if_congr (by omega) rfl rfl

/-- A chunk's score of token `t` on token `s`: the masked sum over the diagonal and the seven levels. -/
def score [Fintype ι] (lvl : Fin 128 → Fin 128 → BitVec 32) (q k g : Fin 128 → ι → ℝ) (t s : Fin 128) : ℝ :=
  let lev (li : ℕ) : ℝ := if lvl t s = BitVec.ofNat 32 li then
    ∑ i, (q t i * Real.exp (win (mid li t.val) t.val fun r => g r i)) *
      (k s i * Real.exp (win (s.val + 1) (mid li s.val - 1) fun r => g r i)) else 0
  (if lvl t s = 7#32 then ∑ i, q t i * k s i else 0) + lev 0 + lev 1 + lev 2 + lev 3 + lev 4 + lev 5 + lev 6

theorem score_eq [Fintype ι] (lvl : Fin 128 → Fin 128 → BitVec 32) (hl : Levels lvl) (q k g : Fin 128 → ι → ℝ) (t s : Fin 128) :
    score lvl q k g t s = if s.val ≤ t.val then ∑ i, q t i * k s i * Real.exp (win (s.val + 1) t.val fun r => g r i) else 0 := by
  rcases Nat.lt_trichotomy s.val t.val with h | h | h
  · obtain ⟨li, h1, h2, h3, h4⟩ := hl.below t s h
    have key : ∑ i, (q t i * Real.exp (win (mid li.val t.val) t.val fun r => g r i)) *
        (k s i * Real.exp (win (s.val + 1) (mid li.val s.val - 1) fun r => g r i))
        = ∑ i, q t i * k s i * Real.exp (win (s.val + 1) t.val fun r => g r i) := by
      refine Finset.sum_congr rfl fun i _ => ?_
      rw [h2, ← pair_split s.val (mid li.val t.val) t.val h3 h4, Real.exp_add]
      ring
    rw [if_pos h.le, ← key]
    unfold score
    rw [h1]
    fin_cases li <;> simp
  · obtain rfl : s = t := Fin.ext h
    rw [if_pos le_rfl]
    have h0 : ∀ i, win (s.val + 1) s.val (fun r => g r i) = 0 := fun i =>
      Finset.sum_eq_zero fun r _ => if_neg (by omega)
    unfold score
    rw [hl.diag s]
    simp [h0]
  · rw [if_neg (by omega)]
    unfold score
    rw [hl.above t s h]
    simp

/-- The recurrence's read-out of token `n`: the query against the state after it. -/
def out [Fintype ι] (q g k : ℕ → ι → ℝ) (v : ℕ → κ → ℝ) (s0 : ι → κ → ℝ) (n : ℕ) (j : κ) : ℝ :=
  ∑ i, q n i * state g k v s0 (n + 1) i j

/-- A chunk's output: the decayed query against the state at the chunk's start, and the scores against the values. -/
theorem chunk_out [Fintype ι] (lvl : Fin 128 → Fin 128 → BitVec 32) (hl : Levels lvl) (q g k : ℕ → ι → ℝ) (v : ℕ → κ → ℝ)
    (s0 : ι → κ → ℝ) (c : ℕ) (t : Fin 128) (j : κ) :
    (∑ i, (q (c + t.val) i * Real.exp (win 0 t.val fun r => g (c + r.val) i)) * state g k v s0 c i j)
      + ∑ s : Fin 128, score lvl (fun r => q (c + r.val)) (fun r => k (c + r.val)) (fun r => g (c + r.val)) t s * v (c + s.val) j
      = out q g k v s0 (c + t.val) j := by
  unfold out
  rw [Nat.add_assoc]
  simp only [state_add g k v s0 c (t.val + 1), mul_add, Finset.sum_add_distrib]
  congr 1
  · refine Finset.sum_congr rfl fun i _ => ?_
    rw [win_eq_sum 0 t.val (fun r => g (c + r) i) t.isLt, ← Finset.range_eq_Ico]
    ring
  · simp only [score_eq lvl hl]
    simp only [Finset.mul_sum]
    rw [Finset.sum_comm]
    rw [Fin.sum_univ_eq_sum_range (fun s => (if s ≤ t.val then ∑ i, q (c + t.val) i * k (c + s) i *
      Real.exp (win (s + 1) t.val fun r => g (c + r.val) i) else 0) * v (c + s) j) 128]
    have hsub : range (t.val + 1) ⊆ range 128 := Finset.range_subset_range.mpr t.isLt
    rw [← Finset.sum_subset hsub fun s _ hs => by
      rw [if_neg (by simpa using hs), zero_mul]]
    refine Finset.sum_congr rfl fun s hs => ?_
    rw [if_pos (by have := Finset.mem_range.mp hs; omega), Finset.sum_mul]
    refine Finset.sum_congr rfl fun i _ => ?_
    rw [win_eq_sum (s + 1) t.val (fun r => g (c + r) i) t.isLt]
    ring

/-- A chunk's new state. -/
theorem chunk_state (g k : ℕ → ι → ℝ) (v : ℕ → κ → ℝ) (s0 : ι → κ → ℝ) (c : ℕ) (i : ι) (j : κ) :
    state g k v s0 c i j * Real.exp (win 0 127 fun r => g (c + r.val) i)
      + ∑ s : Fin 128, v (c + s.val) j * (k (c + s.val) i *
          Real.exp (win 0 127 (fun r => g (c + r.val) i) - win 0 s.val fun r => g (c + r.val) i))
      = state g k v s0 (c + 128) i j := by
  rw [state_add g k v s0 c 128]
  refine congrArg₂ (· + ·) ?_ ?_
  · rw [win_eq_sum 0 127 (fun r => g (c + r) i) (by norm_num), ← Finset.range_eq_Ico]
  · rw [← Fin.sum_univ_eq_sum_range (fun s => k (c + s) i * v (c + s) j * Real.exp (∑ r ∈ Ico (s + 1) 128, g (c + r) i)) 128]
    refine Finset.sum_congr rfl fun s _ => ?_
    have h : win 0 127 (fun r => g (c + r.val) i) - win 0 s.val (fun r => g (c + r.val) i) = ∑ r ∈ Ico (s.val + 1) 128, g (c + r) i := by
      rw [win_eq_sum 0 127 (fun r => g (c + r) i) (by norm_num), win_eq_sum 0 s.val (fun r => g (c + r) i) s.isLt,
        ← Finset.sum_Ico_consecutive (fun r => g (c + r) i) (Nat.zero_le (s.val + 1)) (by omega : s.val + 1 ≤ 127 + 1)]
      ring
    rw [h]
    ring

end Cert.Recurrence

end
-- ==== Proof.Data.lean ====
module

public import proofs.«01_k».proof.Proof.Recurrence
public import Idealize.ShloMosaic.Lib.Pointwise

/-! The layer's data over the reals: the queries, keys, values and gates of each head of each sequence as functions of
the token, read from the arrays of the arguments; and the layer's two results in terms of them. -/

@[expose] public section

set_option maxRecDepth 16384

noncomputable section

namespace Cert.Recurrence

open Idealize.ShloMosaic

/-- A matrix's element as a real number, zero outside the matrix. -/
def at2 {n k : ℕ} (x : (⟨2, ![n, k]⟩ : Shape).Idx → EReal) (a b : ℕ) : ℝ :=
  if h : a < n ∧ b < k then (x (ix2 ⟨a, h.1⟩ ⟨b, h.2⟩)).toReal else 0

/-- Every element is a real number. -/
def IsReal {s : Shape} (x : s.Idx → EReal) : Prop := ∀ i, x i = ((x i).toReal : EReal)

theorem at2_eq {n k : ℕ} {x : (⟨2, ![n, k]⟩ : Shape).Idx → EReal} (hx : IsReal x) (a : Fin n) (b : Fin k) :
    x (ix2 a b) = ((at2 x a.val b.val : ℝ) : EReal) := by
  unfold at2
  rw [dif_pos ⟨a.isLt, b.isLt⟩]
  exact hx _

theorem at2_real {n k : ℕ} {x : (⟨2, ![n, k]⟩ : Shape).Idx → EReal} (hx : IsReal x) (a b : ℕ) (ha : a < n) (hb : b < k) :
    x (ix2 ⟨a, ha⟩ ⟨b, hb⟩) = ((at2 x a b : ℝ) : EReal) := at2_eq hx ⟨a, ha⟩ ⟨b, hb⟩

theorem at2_out {n k : ℕ} (x : (⟨2, ![n, k]⟩ : Shape).Idx → EReal) (a b : ℕ) (h : n ≤ a) : at2 x a b = 0 :=
  dif_neg fun h' => by omega

/-- A vector's element as a real number, zero outside the vector. -/
def bias {n : ℕ} (u : (⟨1, ![n]⟩ : Shape).Idx → EReal) (a : ℕ) : ℝ := if h : a < n then (u (ix1 ⟨a, h⟩)).toReal else 0

theorem bias_eq {n : ℕ} (u : (⟨1, ![n]⟩ : Shape).Idx → EReal) (hu : IsReal u) (a : Fin n) : u (ix1 a) = ((bias u a.val : ℝ) : EReal) := by
  unfold bias
  rw [dif_pos a.isLt]
  exact hu _

/-- The state that a head of a sequence starts from. -/
def start {B H K V : ℕ} (z : (⟨4, ![B, H, K, V]⟩ : Shape).Idx → EReal) (b h : ℕ) (i : Fin K) (j : Fin V) : ℝ :=
  if hh : b < B ∧ h < H then (z (ix4 ⟨b, hh.1⟩ ⟨h, hh.2⟩ i j)).toReal else 0

theorem start_eq {B H K V : ℕ} (z : (⟨4, ![B, H, K, V]⟩ : Shape).Idx → EReal) (hz : IsReal z) (b : Fin B) (h : Fin H) (i : Fin K) (j : Fin V) :
    z (ix4 b h i j) = ((start z b.val h.val i j : ℝ) : EReal) := by
  unfold start
  rw [dif_pos ⟨b.isLt, h.isLt⟩]
  exact hz _

/-- A row of `n` read-outs, divided by its root mean square, scaled, and gated; `w` is the word of the number `n`. -/
def normed {n : ℕ} (w : BitVec 32) (o : Fin n → EReal) (s r : EReal) (j : Fin n) : EReal :=
  o j * Ideal.rsqrt (Ideal.div (∑ x, o x * o x) (Ideal.ofBits FTy.f32 w) + Ideal.ofBits FTy.f32 897988541#32) * s * (r * Ideal.logistic r)

/-- The log of the sigmoid, divided by sixteen. -/
def gate (x : ℝ) : ℝ := -(max (-x) 0 + Real.log (1 + Real.exp (-|x|))) / 16

section
variable {R B : ℕ} (L : ℕ) (p : (⟨2, ![R, 6272]⟩ : Shape).Idx → EReal) (w : (⟨2, ![16, 1024]⟩ : Shape).Idx → EReal)
  (u : (⟨1, ![1024]⟩ : Shape).Idx → EReal) (z : (⟨4, ![B, 4, 256, 512]⟩ : Shape).Idx → EReal)

def queries (b h n : ℕ) (i : Fin 256) : ℝ := at2 p (b * L + n) (h * 256 + i.val) * 0.0625
def keys (b h n : ℕ) (i : Fin 256) : ℝ := at2 p (b * L + n) (1024 + h * 256 + i.val)
def vals (b h n : ℕ) (j : Fin 512) : ℝ := at2 p (b * L + n) (2048 + h * 512 + j.val)

/-- The gate's argument: the low-rank projection of the row and the bias. -/
def pre (b n a : ℕ) : ℝ := (∑ r ∈ Finset.range 16, at2 p (b * L + n) (6144 + r) * at2 w r a) + bias u a

def gatesOf (b h n : ℕ) (i : Fin 256) : ℝ := gate (pre L p w u b n (h * 256 + i.val))

/-- The state after `n` tokens of head `h` of sequence `b`. -/
def stateOf (b h n : ℕ) (i : Fin 256) (j : Fin 512) : ℝ :=
  state (gatesOf L p w u b h) (keys L p b h) (vals L p b h) (start z b h) n i j

/-- The read-out of token `n`. -/
def outOf (b h n : ℕ) (j : Fin 512) : ℝ :=
  out (queries L p b h) (gatesOf L p w u b h) (keys L p b h) (vals L p b h) (start z b h) n j

end

/-- The layer's output at token `n` of sequence `b`, head `h`, column `j`. -/
def result (p : (⟨2, ![8192, 6272]⟩ : Shape).Idx → EReal) (w : (⟨2, ![16, 1024]⟩ : Shape).Idx → EReal)
    (u : (⟨1, ![1024]⟩ : Shape).Idx → EReal) (z : (⟨4, ![2, 4, 256, 512]⟩ : Shape).Idx → EReal) (nw : (⟨1, ![512]⟩ : Shape).Idx → EReal) (b : Fin 2) (n : Fin 4096) (h : Fin 4) (j : Fin 512) : EReal :=
  normed 1140850688#32 (fun x => ((outOf 4096 p w u z b.val h.val n.val x : ℝ) : EReal)) (nw (ix1 j))
    (p (ix2 ⟨b.val * 4096 + n.val, by omega⟩ ⟨4096 + h.val * 512 + j.val, by omega⟩)) j
end Cert.Recurrence

end
-- ==== Proof.Chunk.lean ====
module

public import proofs.«01_k».proof.Proof.Data
public import Idealize.ShloMosaic.Lib.Pointwise

/-! What the chunked kernels share: sums of reals in the extended reals, the rows of the window table, and the words
from which the host computes the two tables. -/

@[expose] public section

set_option maxRecDepth 16384

noncomputable section

namespace Cert.Recurrence

open Idealize.ShloMosaic

/-- A finite sum of reals, taken in the extended reals. -/
theorem sum_real {ι : Type} [Fintype ι] (f : ι → ℝ) : ∑ i, ((f i : ℝ) : EReal) = ((∑ i, f i : ℝ) : EReal) := by
  classical
  have h : ∀ s : Finset ι, ∑ i ∈ s, ((f i : ℝ) : EReal) = ((∑ i ∈ s, f i : ℝ) : EReal) := fun s => by
    induction s using Finset.induction_on with
    | empty => simp
    | insert a s ha ih => rw [Finset.sum_insert ha, Finset.sum_insert ha, ih, EReal.coe_add]
  exact h Finset.univ

/-- A finite sum of products of reals, taken in the extended reals. -/
theorem sum_mul_real {ι : Type} [Fintype ι] (f g : ι → ℝ) :
    ∑ i, ((f i : ℝ) : EReal) * ((g i : ℝ) : EReal) = ((∑ i, f i * g i : ℝ) : EReal) := by
  rw [← sum_real]
  exact Finset.sum_congr rfl fun i _ => (EReal.coe_mul _ _).symm

theorem select_eq (x y : BitVec 32) (a b : EReal) : Scalar.select (IntOp.cmpi .eq x y) a b = if x = y then a else b := by
  by_cases h : x = y
  · subst h
    simp [Scalar.select, IntOp.cmpi]
  · have h' : (x == y) = false := by simpa using h
    simp [Scalar.select, IntOp.cmpi, h, h']

theorem if_real (p : Prop) [Decidable p] (a : ℝ) : (if p then (a : EReal) else 0) = ((if p then a else 0 : ℝ) : EReal) := by
  by_cases h : p <;> simp [h]

theorem max_real (x y : ℝ) : max (x : EReal) (y : EReal) = ((max x y : ℝ) : EReal) :=
  (EReal.coe_strictMono.monotone.map_max).symm

theorem abs_real (x : ℝ) : FloatOps.absf (F := Ideal) (φ := .f32) ((x : ℝ) : EReal) = ((|x| : ℝ) : EReal) := by
  show (max (x : EReal) (-(x : EReal))) = _
  rw [← EReal.coe_neg, max_real]
  rfl

/-- The first and the last token that a row of the window table sums. -/
def rowLo (r : ℕ) : ℕ := if r < 128 then 0 else if r < 1024 then mid (r / 128 - 1) (r % 128) else r % 128 + 1

def rowHi (r : ℕ) : ℕ := if r < 1024 then r % 128 else mid (r / 128 - 8) (r % 128) - 1

theorem row_first (t : ℕ) (ht : t < 128) : rowLo t = 0 ∧ rowHi t = t := by
  unfold rowLo rowHi
  rw [if_pos ht, if_pos (by omega)]
  omega

theorem row_query (li t : ℕ) (hl : li < 7) (ht : t < 128) :
    rowLo ((li + 1) * 128 + t) = mid li t ∧ rowHi ((li + 1) * 128 + t) = t := by
  unfold rowLo rowHi
  rw [if_neg (by omega), if_pos (by omega), if_pos (by omega), show ((li + 1) * 128 + t) / 128 - 1 = li by omega,
    show ((li + 1) * 128 + t) % 128 = t by omega]
  exact ⟨rfl, rfl⟩

theorem row_key (li t : ℕ) (ht : t < 128) :
    rowLo ((li + 8) * 128 + t) = t + 1 ∧ rowHi ((li + 8) * 128 + t) = mid li t - 1 := by
  unfold rowLo rowHi
  rw [if_neg (by omega), if_neg (by omega), if_neg (by omega), show ((li + 8) * 128 + t) / 128 - 8 = li by omega,
    show ((li + 8) * 128 + t) % 128 = t by omega]
  exact ⟨rfl, rfl⟩

/-- The window table: ones over the row's tokens. -/
def IsWin (w : (⟨2, ![1920, 128]⟩ : Shape).Idx → EReal) : Prop :=
  ∀ (r : Fin 1920) (s : Fin 128), w (ix2 r s) = ((if rowLo r.val ≤ s.val ∧ s.val ≤ rowHi r.val then (1 : ℝ) else 0 : ℝ) : EReal)

/-- A tile holding real numbers. -/
def Holds {n k : ℕ} (x : (⟨2, ![n, k]⟩ : Shape).Idx → EReal) (f : Fin n → Fin k → ℝ) : Prop :=
  ∀ i j, x (ix2 i j) = ((f i j : ℝ) : EReal)

/-- The host's arithmetic for a row's block, half-width, middle, first and last token, over 32-bit words. -/
def blkW (r : ℕ) : BitVec 32 := IntOp.shrsi ArithUnit.host (BitVec.ofNat 32 r) 7#32

def halfW (r : ℕ) : BitVec 32 :=
  IntOp.shrsi ArithUnit.host (64#32) (Scalar.select (IntOp.cmpi CmpIPredicate.slt (blkW r) 8#32) (IntOp.subi (blkW r) 1#32) (IntOp.subi (blkW r) 8#32))

def midW (r : ℕ) : BitVec 32 :=
  IntOp.addi (IntOp.andi (IntOp.andi (BitVec.ofNat 32 r) 127#32) (IntOp.muli (4294967294#32) (halfW r))) (halfW r)

def loW (r : ℕ) : BitVec 32 :=
  Scalar.select (IntOp.cmpi CmpIPredicate.eq (blkW r) 0#32) 0#32
    (Scalar.select (IntOp.cmpi CmpIPredicate.slt (blkW r) 8#32) (midW r) (IntOp.addi (IntOp.andi (BitVec.ofNat 32 r) 127#32) 1#32))

def hiW (r : ℕ) : BitVec 32 :=
  Scalar.select (IntOp.cmpi CmpIPredicate.slt (blkW r) 8#32) (IntOp.andi (BitVec.ofNat 32 r) 127#32) (IntOp.subi (midW r) 1#32)

/-- The words are the row's first and last token. -/
theorem rows_eq : ∀ r : Fin 1920, loW r.val = BitVec.ofNat 32 (rowLo r.val) ∧ hiW r.val = BitVec.ofNat 32 (rowHi r.val) ∧
    rowLo r.val < 256 ∧ rowHi r.val < 256 := by decide +kernel

theorem sle_small (a b : ℕ) (ha : a < 256) (hb : b < 256) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    have e : ∀ n, n < 256 → (BitVec.ofNat 32 n).toInt = (n : ℤ) := fun n hn => by
      rw [BitVec.toInt_eq_toNat_of_lt] <;> rw [BitVec.toNat_ofNat, Nat.mod_eq_of_lt (by omega)]
      omega
    rw [BitVec.sle, e a ha, e b hb]
    exact decide_eq_decide.mpr Int.ofNat_le
  show BitVec.ofBool ((BitVec.ofNat 32 a).sle (BitVec.ofNat 32 b)) = _
  rw [h]
  by_cases hab : a ≤ b <;> simp [hab]

/-- The window table from the words. -/
theorem win_of_words (x : (⟨2, ![1920, 128]⟩ : Shape).Idx → EReal)
    (h : ∀ (r : Fin 1920) (s : Fin 128), x (ix2 r s) = Scalar.select (IntOp.andi (IntOp.cmpi CmpIPredicate.sle (loW r.val) (BitVec.ofNat 32 s.val))
      (IntOp.cmpi CmpIPredicate.sle (BitVec.ofNat 32 s.val) (hiW r.val))) (1 : EReal) 0) : IsWin x := by
  intro r s
  rw [h]
  obtain ⟨h1, h2, h3, h4⟩ := rows_eq r
  rw [h1, h2, sle_small _ _ h3 (by omega), sle_small _ _ (by omega) h4]
  by_cases ha : rowLo r.val ≤ s.val <;> by_cases hb : s.val ≤ rowHi r.val <;> simp [ha, hb, Scalar.select, IntOp.andi]

/-- The level table over 32-bit words. -/
def levelW (t s : ℕ) : BitVec 32 :=
  Scalar.select (IntOp.cmpi CmpIPredicate.sle (BitVec.ofNat 32 s) (BitVec.ofNat 32 t))
    (IntOp.subi (IntOp.ctlz (IntOp.xori (BitVec.ofNat 32 t) (BitVec.ofNat 32 s))) 25#32) 4294967295#32

theorem levels : Levels fun t s => levelW t.val s.val :=
  ⟨by decide +kernel, by decide +kernel, by decide +kernel⟩

end Cert.Recurrence

end
-- ==== Proof.Tile.lean ====
module

public import proofs.«01_k».proof.Proof.Chunk
public import proofs.«01_k».proof.Proof.Gen.GlaIdeal.Skeleton
public import Idealize.ShloMosaic.Lib.Pointwise

/-! One grid point of the kernel, read at an index: the tiles it loads hold real numbers, and what it computes from
them is the chunk formula of `Recurrence` over those numbers. -/

@[expose] public section

set_option maxRecDepth 16384

noncomputable section

namespace Cert.GlaIdeal.Tile

open Idealize.ShloMosaic Idealize.ShloMosaic.TcCoe Idealize.SL.Sem
open Cert.GlaIdeal Cert.GlaIdeal.Gen Cert.Recurrence

theorem lit_sixteenth : Ideal.ofBits FTy.f32 0x3D800000#32 = ((0.0625 : ℝ) : EReal) := by
  simp [Ideal.ofBits, Ideal.ieee]
  rw [← EReal.coe_mul]
  norm_num

theorem lit_sixteen : Ideal.ofBits FTy.f32 1098907648#32 = ((16 : ℝ) : EReal) := by
  simp [Ideal.ofBits, Ideal.ieee]
  rw [← EReal.coe_mul]
  norm_num

theorem pay8_apply (g : FVec Ideal S128x256 .f32) (w : Vec Ideal S1920x128 .bf16) (gr : Fin 128 → Fin 256 → ℝ) (hg : Holds g gr)
    (hw : IsWin w) (r : Fin 1920) (i : Fin 256) :
    k0_pay8 (F := Ideal) g w (ix2 r i) = ((win (rowLo r.val) (rowHi r.val) fun s => gr s i : ℝ) : EReal) := by
  pointwise [k0_pay8]
  simp only [hg _ _, hw _ _, ← EReal.coe_sub, sub_self, sum_mul_real, mul_zero, Finset.sum_const_zero, ← EReal.coe_add, add_zero]
  unfold win
  norm_cast
  simp

section
variable {q k g : FVec Ideal S128x256 .f32} {v : FVec Ideal S128x512 .f32} {l : Vec Ideal S128x128 .i32} {w : Vec Ideal S1920x128 .bf16}
  {st : Vec Ideal S512x256 .f32} {qr kr gr : Fin 128 → Fin 256 → ℝ} {vr : Fin 128 → Fin 512 → ℝ} {sr : Fin 256 → Fin 512 → ℝ}

theorem first_apply (hg : Holds g gr) (hw : IsWin w) (t : Fin 128) (h : t.val < 1920) (i : Fin 256) :
    k0_pay8 (F := Ideal) g w (ix2 ⟨t.val, h⟩ i) = ((win 0 t.val fun s => gr s i : ℝ) : EReal) := by
  rw [pay8_apply g w gr hg hw, (row_first t.val t.isLt).1, (row_first t.val t.isLt).2]

theorem row_last (hg : Holds g gr) (hw : IsWin w) (i : Fin 256) :
    k0_pay8 (F := Ideal) g w (ix2 127 i) = ((win 0 127 fun s => gr s i : ℝ) : EReal) :=
  first_apply hg hw 127 (by decide) i

theorem query_apply (hg : Holds g gr) (hw : IsWin w) (li : ℕ) (hl : li < 7) (t : Fin 128) (n : ℕ) (hn : n = (li + 1) * 128)
    (h : n + t.val < 1920) (i : Fin 256) :
    k0_pay8 (F := Ideal) g w (ix2 ⟨n + t.val, h⟩ i) = ((win (mid li t.val) t.val fun s => gr s i : ℝ) : EReal) := by
  subst hn
  rw [pay8_apply g w gr hg hw, (row_query li t.val hl t.isLt).1, (row_query li t.val hl t.isLt).2]

theorem key_apply (hg : Holds g gr) (hw : IsWin w) (li : ℕ) (s : Fin 128) (n : ℕ) (hn : n = (li + 8) * 128)
    (h : n + s.val < 1920) (i : Fin 256) :
    k0_pay8 (F := Ideal) g w (ix2 ⟨n + s.val, h⟩ i) = ((win (s.val + 1) (mid li s.val - 1) fun s => gr s i : ℝ) : EReal) := by
  subst hn
  rw [pay8_apply g w gr hg hw, (row_key li s.val s.isLt).1, (row_key li s.val s.isLt).2]

/-- The attention against the chunk, before the values: the tiles of the kernel's own computation. -/
def chunkO (q k g : FVec Ideal S128x256 .f32) (v : FVec Ideal S128x512 .f32) (l : Vec Ideal S128x128 .i32)
    (w : Vec Ideal S1920x128 .bf16) (st : Vec Ideal S512x256 .f32) : FVec Ideal S128x512 .f32 :=
  k0_pay17 q k v (k0_pay7 (F := Ideal) l) (k0_pay8 g w) (k0_pay11 q g w st)
    (k0_pay13 q k (k0_pay7 (F := Ideal) l) (k0_pay8 g w) (k0_pay12 q k g l w)) (k0_pay14 (k0_pay7 (F := Ideal) l)) (k0_pay15 q (k0_pay8 g w)) (k0_pay16 k (k0_pay8 g w))

/-- The state after the chunk, at the kernel's own (transposed) layout. -/
def chunkS (k g : FVec Ideal S128x256 .f32) (v : FVec Ideal S128x512 .f32)
    (w : Vec Ideal S1920x128 .bf16) (st : Vec Ideal S512x256 .f32) : FVec Ideal S512x256 .f32 :=
  k0_pay18 k v (k0_pay9 g w) (k0_pay10 g w) st

theorem chunkO_apply (hq : Holds q qr) (hk : Holds k kr) (hg : Holds g gr) (hv : Holds v vr) (hw : IsWin w)
    (hst : Holds st fun j i => sr i j) (t : Fin 128) (j : Fin 512) :
    chunkO q k g v l w st (ix2 t j) =
      (((∑ i, (qr t i * Real.exp (win 0 t.val fun r => gr r i)) * sr i j)
        + ∑ s, score (fun t s => l (ix2 t s)) qr kr gr t s * vr s j : ℝ) : EReal) := by
  unfold chunkO
  pointwise [k0_pay17, k0_pay7, k0_pay11, k0_pay9, k0_pay13, k0_pay12, k0_pay14, k0_pay15, k0_pay16]
  simp only [select_eq, hq _ _, hk _ _, hv _ _, hst _ _, first_apply hg hw, query_apply hg hw 0 (by omega) _ 128 rfl, query_apply hg hw 1 (by omega) _ 256 rfl,
    query_apply hg hw 2 (by omega) _ 384 rfl, query_apply hg hw 3 (by omega) _ 512 rfl, query_apply hg hw 4 (by omega) _ 640 rfl,
    query_apply hg hw 5 (by omega) _ 768 rfl, query_apply hg hw 6 (by omega) _ 896 rfl, key_apply hg hw 0 _ 1024 rfl,
    key_apply hg hw 1 _ 1152 rfl, key_apply hg hw 2 _ 1280 rfl, key_apply hg hw 3 _ 1408 rfl, key_apply hg hw 4 _ 1536 rfl,
    key_apply hg hw 5 _ 1664 rfl, key_apply hg hw 6 _ 1792 rfl, Ideal.exp_coe, ← EReal.coe_mul, sum_real, if_real, ← EReal.coe_add]
  rfl

theorem chunkS_apply (hk : Holds k kr) (hg : Holds g gr) (hv : Holds v vr) (hw : IsWin w)
    (hst : Holds st fun j i => sr i j) (i : Fin 256) (j : Fin 512) :
    chunkS k g v w st (ix2 j i) =
      ((sr i j * Real.exp (win 0 127 fun r => gr r i) + ∑ s, vr s j * (kr s i *
          Real.exp (win 0 127 (fun r => gr r i) - win 0 s.val fun r => gr r i)) : ℝ) : EReal) := by
  unfold chunkS
  pointwise [k0_pay18, k0_pay9, k0_pay10]
  have h := fun i => row_last (g := g) (w := w) hg hw i
  simp only [hk _ _, hv _ _, hst _ _, first_apply hg hw, h, Ideal.exp_coe, ← EReal.coe_mul, ← EReal.coe_sub, sum_real, ← EReal.coe_add]
end

theorem gate_apply (a : Vec Ideal S128x128 .f32) (w : Vec Ideal S128x256 .bf16) (b : Vec Ideal S1x256 .f32) (x : Fin 128 → Fin 256 → ℝ)
    (h : ∀ t i, ∑ r, a (ix2 t r) * w (ix2 r i) + b (ix2 0 i) = ((x t i : ℝ) : EReal)) :
    Holds (k0_pay6 (F := Ideal) a w b) fun t i => gate (x t i) := by
  intro t i
  pointwise [k0_pay6]
  rw [h, lit_sixteen, abs_real, ← EReal.coe_zero, ← EReal.coe_sub, ← EReal.coe_sub, Ideal.exp_coe, ← EReal.coe_one, ← EReal.coe_add, Ideal.log_coe,
    if_neg (by have := Real.exp_pos (0 - |x t i|); linarith), max_real, ← EReal.coe_add, ← EReal.coe_sub, Ideal.div_coe (by norm_num), ← EReal.coe_mul]
  unfold gate
  congr 1
  simp only [zero_sub]
  ring

theorem query_scaled (q : Vec Ideal S128x256 .f32) (qr : Fin 128 → Fin 256 → ℝ) (hq : Holds q qr) :
    Holds (k0_pay5 (F := Ideal) q) fun t i => qr t i * 0.0625 := by
  intro t i
  pointwise [k0_pay5]
  rw [hq, lit_sixteenth, ← EReal.coe_mul]

end Cert.GlaIdeal.Tile

end
-- ==== Proof.Points.lean ====
module

public import proofs.«01_k».proof.Proof.Tile
public import proofs.«01_k».proof.Proof.Gen.GlaIdeal.Value

/-! What a grid point leaves behind: its block of the output, and the state kept for the next chunk, as the chunk's
computation over the blocks the point reads. -/

@[expose] public section

set_option maxRecDepth 16384

noncomputable section

namespace Cert.GlaIdeal.Tile

open Idealize.ShloMosaic Idealize.ShloMosaic.TcCoe Idealize.SL.Sem
open Cert.GlaIdeal Cert.GlaIdeal.Gen Cert.Recurrence

variable (m : (ℓ : Loc nD τ sig) → Buf (Elt Ideal) ℓ)

/-- The gates of the point's chunk. -/
def gates (c : Dev nD) (t : Fin cfg0.N) : FVec Ideal S128x256 .f32 := k0_pay6 (iblk m c 4 t) (iblk m c 5 t) (iblk m c 6 t)

/-- The point's output block, and the state it leaves, from the state it starts with. -/
def pointOut (c : Dev nD) (t : Fin cfg0.N) (st : Vec Ideal S512x256 .f32) : FVec Ideal S128x512 .f32 :=
  k0_pay2 (chunkO (k0_pay5 (X0_0 m c t)) (X0_1 m c t) (gates m c t) (X0_2 m c t) (iblk m c 10 t) (iblk m c 9 t) st) (iblk m c 7 t) (X0_3 m c t)

def pointState (c : Dev nD) (t : Fin cfg0.N) (st : Vec Ideal S512x256 .f32) : Vec Ideal S512x256 .f32 :=
  k0_pay1 (F := Ideal) (chunkS (X0_1 m c t) (gates m c t) (X0_2 m c t) (iblk m c 9 t) st)

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The state before a point: what the point before it left. -/
def before (c : Dev nD) (t : Fin cfg0.N) : Vec Ideal S512x256 .f32 :=
  (outsAt0 m c (t.val - 1) (Nat.lt_of_le_of_lt (Nat.sub_le _ _) t.isLt)).2.2

theorem state_A (c : Dev nD) (t : Fin cfg0.N) (h0 : t.val % 32 = 0) :
    (outsAt0 m c t.val t.isLt).2.2 = pointState m c t (k0_pay4 (iblk m c 8 t)) := by
  have hsc : scM0_0.IsWhole := Memref.isWhole_whole _
  rw [outsAt0_A m c t h0 (by omega)]
  dsimp only
  unfold sout0_A_0
  rw [View.read_writes_eq_canon _ _ _ (fun y => scover0_A_0 (y := y) ..)]
  unfold kernelRun0_A
  dsimp only
  sl_unfold_words
  simp only [View.canon_cons_unit_zero (S := S512x256) zero2, View.canon_unit_zero (S := S512x256) zero2, View.canon_unit_zero (S := S128x512) zero2,
    View.canon_unit_zero (S := S1x1x256x512) zero4, View.readCov_unit_zero (S := S512x256) _ zero2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    hsc.read_unread,
    View.ld_unit_zero (S := S128x256) zero2, View.ld_unit_zero (S := S128x512) zero2, View.ld_unit_zero (S := S128x128) zero2, View.ld_unit_zero (S := S1x256) zero2, View.ld_unit_zero (S := S1x512) zero2, View.ld_unit_zero (S := S1920x128) zero2, View.ld_unit_zero (S := S512x256) zero2, View.ld_unit_zero (S := S1x1x256x512) zero4]
  rfl

theorem out_A (c : Dev nD) (t : Fin cfg0.N) (h0 : t.val % 32 = 0) :
    (outsAt0 m c t.val t.isLt).1 = pointOut m c t (k0_pay4 (iblk m c 8 t)) := by
  have hsc : scM0_0.IsWhole := Memref.isWhole_whole _
  rw [outsAt0_A m c t h0 (by omega)]
  dsimp only
  unfold out0_A_11
  rw [View.read_writes_eq_canon _ _ _ (fun y => cover0_A_11 (y := y) ..)]
  unfold kernelRun0_A
  dsimp only
  sl_unfold_words
  simp only [View.canon_cons_unit_zero (S := S512x256) zero2, View.canon_unit_zero (S := S512x256) zero2, View.canon_unit_zero (S := S128x512) zero2,
    View.canon_unit_zero (S := S1x1x256x512) zero4, View.readCov_unit_zero (S := S512x256) _ zero2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    hsc.read_unread,
    View.ld_unit_zero (S := S128x256) zero2, View.ld_unit_zero (S := S128x512) zero2, View.ld_unit_zero (S := S128x128) zero2, View.ld_unit_zero (S := S1x256) zero2, View.ld_unit_zero (S := S1x512) zero2, View.ld_unit_zero (S := S1920x128) zero2, View.ld_unit_zero (S := S512x256) zero2, View.ld_unit_zero (S := S1x1x256x512) zero4]
  rfl

theorem state_B (c : Dev nD) (t : Fin cfg0.N) (h0 : ¬t.val % 32 = 0) (h1 : ¬t.val % 32 = 31) :
    (outsAt0 m c t.val t.isLt).2.2 = pointState m c t (before m c t) := by
  have hsc : scM0_0.IsWhole := Memref.isWhole_whole _
  rw [outsAt0_B m c t h0 h1]
  dsimp only
  unfold sout0_B_0
  rw [View.read_writes_eq_canon _ _ _ (fun y => scover0_B_0 (y := y) ..)]
  unfold kernelRun0_B
  dsimp only
  sl_unfold_words
  simp only [View.canon_cons_unit_zero (S := S512x256) zero2, View.canon_unit_zero (S := S512x256) zero2, View.canon_unit_zero (S := S128x512) zero2,
    View.canon_unit_zero (S := S1x1x256x512) zero4, View.readCov_unit_zero (S := S512x256) _ zero2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    hsc.read_unread,
    View.ld_unit_zero (S := S128x256) zero2, View.ld_unit_zero (S := S128x512) zero2, View.ld_unit_zero (S := S128x128) zero2, View.ld_unit_zero (S := S1x256) zero2, View.ld_unit_zero (S := S1x512) zero2, View.ld_unit_zero (S := S1920x128) zero2, View.ld_unit_zero (S := S512x256) zero2, View.ld_unit_zero (S := S1x1x256x512) zero4]
  rfl

theorem out_B (c : Dev nD) (t : Fin cfg0.N) (h0 : ¬t.val % 32 = 0) (h1 : ¬t.val % 32 = 31) :
    (outsAt0 m c t.val t.isLt).1 = pointOut m c t (before m c t) := by
  have hsc : scM0_0.IsWhole := Memref.isWhole_whole _
  rw [outsAt0_B m c t h0 h1]
  dsimp only
  unfold out0_B_11
  rw [View.read_writes_eq_canon _ _ _ (fun y => cover0_B_11 (y := y) ..)]
  unfold kernelRun0_B
  dsimp only
  sl_unfold_words
  simp only [View.canon_cons_unit_zero (S := S512x256) zero2, View.canon_unit_zero (S := S512x256) zero2, View.canon_unit_zero (S := S128x512) zero2,
    View.canon_unit_zero (S := S1x1x256x512) zero4, View.readCov_unit_zero (S := S512x256) _ zero2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    hsc.read_unread,
    View.ld_unit_zero (S := S128x256) zero2, View.ld_unit_zero (S := S128x512) zero2, View.ld_unit_zero (S := S128x128) zero2, View.ld_unit_zero (S := S1x256) zero2, View.ld_unit_zero (S := S1x512) zero2, View.ld_unit_zero (S := S1920x128) zero2, View.ld_unit_zero (S := S512x256) zero2, View.ld_unit_zero (S := S1x1x256x512) zero4]
  rfl

theorem state_C (c : Dev nD) (t : Fin cfg0.N) (h1 : t.val % 32 = 31) :
    (outsAt0 m c t.val t.isLt).2.2 = pointState m c t (before m c t) := by
  have hsc : scM0_0.IsWhole := Memref.isWhole_whole _
  rw [outsAt0_C m c t (by omega) h1]
  dsimp only
  unfold sout0_C_0
  rw [View.read_writes_eq_canon _ _ _ (fun y => scover0_C_0 (y := y) ..)]
  unfold kernelRun0_C
  dsimp only
  sl_unfold_words
  simp only [View.canon_cons_unit_zero (S := S512x256) zero2, View.canon_unit_zero (S := S512x256) zero2, View.canon_unit_zero (S := S128x512) zero2,
    View.canon_unit_zero (S := S1x1x256x512) zero4, View.readCov_unit_zero (S := S512x256) _ zero2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    hsc.read_unread,
    View.ld_unit_zero (S := S128x256) zero2, View.ld_unit_zero (S := S128x512) zero2, View.ld_unit_zero (S := S128x128) zero2, View.ld_unit_zero (S := S1x256) zero2, View.ld_unit_zero (S := S1x512) zero2, View.ld_unit_zero (S := S1920x128) zero2, View.ld_unit_zero (S := S512x256) zero2, View.ld_unit_zero (S := S1x1x256x512) zero4]
  rfl

theorem out_C (c : Dev nD) (t : Fin cfg0.N) (h1 : t.val % 32 = 31) :
    (outsAt0 m c t.val t.isLt).1 = pointOut m c t (before m c t) := by
  have hsc : scM0_0.IsWhole := Memref.isWhole_whole _
  rw [outsAt0_C m c t (by omega) h1]
  dsimp only
  unfold out0_C_11
  rw [View.read_writes_eq_canon _ _ _ (fun y => cover0_C_11 (y := y) ..)]
  unfold kernelRun0_C
  dsimp only
  sl_unfold_words
  simp only [View.canon_cons_unit_zero (S := S512x256) zero2, View.canon_unit_zero (S := S512x256) zero2, View.canon_unit_zero (S := S128x512) zero2,
    View.canon_unit_zero (S := S1x1x256x512) zero4, View.readCov_unit_zero (S := S512x256) _ zero2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    hsc.read_unread,
    View.ld_unit_zero (S := S128x256) zero2, View.ld_unit_zero (S := S128x512) zero2, View.ld_unit_zero (S := S128x128) zero2, View.ld_unit_zero (S := S1x256) zero2, View.ld_unit_zero (S := S1x512) zero2, View.ld_unit_zero (S := S1920x128) zero2, View.ld_unit_zero (S := S512x256) zero2, View.ld_unit_zero (S := S1x1x256x512) zero4]
  rfl

theorem final_C (c : Dev nD) (t : Fin cfg0.N) (h1 : t.val % 32 = 31) :
    (outsAt0 m c t.val t.isLt).2.1 = k0_pay3 (pointState m c t (before m c t)) := by
  have hsc : scM0_0.IsWhole := Memref.isWhole_whole _
  rw [outsAt0_C m c t (by omega) h1]
  dsimp only
  unfold out0_C_12
  rw [View.read_writes_eq_canon _ _ _ (fun y => cover0_C_12 (y := y) ..)]
  unfold kernelRun0_C
  dsimp only
  sl_unfold_words
  simp only [View.canon_cons_unit_zero (S := S512x256) zero2, View.canon_unit_zero (S := S512x256) zero2, View.canon_unit_zero (S := S128x512) zero2,
    View.canon_unit_zero (S := S1x1x256x512) zero4, View.readCov_unit_zero (S := S512x256) _ zero2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    hsc.read_unread,
    View.ld_unit_zero (S := S128x256) zero2, View.ld_unit_zero (S := S128x512) zero2, View.ld_unit_zero (S := S128x128) zero2, View.ld_unit_zero (S := S1x256) zero2, View.ld_unit_zero (S := S1x512) zero2, View.ld_unit_zero (S := S1920x128) zero2, View.ld_unit_zero (S := S512x256) zero2, View.ld_unit_zero (S := S1x1x256x512) zero4]
  rfl

end Cert.GlaIdeal.Tile

end
-- ==== Proof.Tables.lean ====
module

public import proofs.«01_k».proof.Proof.Tile
public import Idealize.ShloMosaic.Lib.StableHlo.ReadAt
public import proofs.«01_k».proof.Proof.Gen.GlaIdeal.Value

/-! What the arrays the kernel's host code prepares hold: the window table, the level table, the padded gate matrix. -/

@[expose] public section

set_option maxRecDepth 16384

noncomputable section

namespace Cert.GlaIdeal.Tile

open Idealize.ShloMosaic Idealize.ShloMosaic.TcCoe Idealize.SL.Sem
open Cert.GlaIdeal Cert.GlaIdeal.Gen Cert.Recurrence

variable (m : (ℓ : Loc nD τ sig) → Buf (Elt Ideal) ℓ)

/-- The five arguments. -/
def projA (c : Dev nD) : S8192x6272.Idx → EReal := m ((c : Thread nD τ).loc main_arg0)
def gateA (c : Dev nD) : S16x1024.Idx → EReal := m ((c : Thread nD τ).loc main_arg1)
def biasA (c : Dev nD) : S1024.Idx → EReal := m ((c : Thread nD τ).loc main_arg2)
def scaleA (c : Dev nD) : S512.Idx → EReal := m ((c : Thread nD τ).loc main_arg3)
def startA (c : Dev nD) : S2x4x256x512.Idx → EReal := m ((c : Thread nD τ).loc main_arg4)

theorem window_entry (c : Dev nD) : IsWin (V m c main_v46 : S1920x128.Idx → EReal) :=
  win_of_words _ fun r s => by
    unfold V
    after_reads_at
    rfl

theorem level_entry (c : Dev nD) (t s : Fin 128) : (V m c main_v45 : S128x128.Idx → BitVec 32) (ix2 t s) = levelW t.val s.val := by
  unfold V
  after_reads_at
  rfl

/-- The gate's weights, padded with rows of zeros. -/
theorem gate_entry (c : Dev nD) (r : Fin 128) (s : Fin 1024) : (V m c main_v1 : S128x1024.Idx → EReal) (ix2 r s)
    = if h : r.val < 16 then gateA m c (ix2 ⟨r.val, h⟩ s) else 0 := by
  unfold V
  after_reads_at
  by_cases h : r.val < 16
  · rw [dif_pos h, dif_pos h]
    rfl
  · rw [dif_neg h, dif_neg h]
    show (((0#32).toInt : ℝ) : EReal) = 0
    simp

theorem bias_entry (c : Dev nD) (r : Fin 1) (s : Fin 1024) : (V m c main_v47 : S1x1024.Idx → EReal) (ix2 r s) = biasA m c (ix1 s) := by
  unfold V
  after_reads_at
  rfl

theorem scale_entry (c : Dev nD) (r : Fin 1) (s : Fin 512) : (V m c main_v48 : S1x512.Idx → EReal) (ix2 r s) = scaleA m c (ix1 s) := by
  unfold V
  after_reads_at
  rfl

theorem proj_entry (c : Dev nD) : (V m c main_arg0 : S8192x6272.Idx → EReal) = projA m c := by
  unfold V
  after_reads_simp
  rfl

theorem start_entry (c : Dev nD) : (V m c main_arg4 : S2x4x256x512.Idx → EReal) = startA m c := by
  unfold V
  after_reads_simp
  rfl

end Cert.GlaIdeal.Tile

end
-- ==== Proof.Blocks.lean ====
module

public import proofs.«01_k».proof.Proof.Points
public import proofs.«01_k».proof.Proof.Tables

/-! The blocks a grid point reads, as elements of the arguments: point `t` is the chunk `t % 32` of the head
`t / 32 % 4` of the sequence `t / 128`. -/

@[expose] public section

set_option maxRecDepth 16384

noncomputable section

namespace Cert.GlaIdeal.Tile

open Idealize.ShloMosaic Idealize.ShloMosaic.TcCoe Idealize.SL.Sem
open Cert.GlaIdeal Cert.GlaIdeal.Gen Cert.Recurrence

variable (m : (ℓ : Loc nD τ sig) → Buf (Elt Ideal) ℓ)

/-- The row of the sequences at which the point's chunk starts, and the point's head. -/
def row (t : ℕ) : ℕ := t / 128 * 4096 + t % 32 * 128
def head (t : ℕ) : ℕ := t / 32 % 4

theorem point_lt (t : Fin cfg0.N) : t.val < 256 := t.isLt.trans_eq N_0

theorem row_lt (t : Fin cfg0.N) (i : Fin 128) : row t.val + i.val < 8192 := by
  have := point_lt t
  have := i.isLt
  unfold row
  omega

theorem head_lt (t : ℕ) : head t < 4 := Nat.mod_lt _ (by decide)

theorem where0 : ∀ t : Fin grid0.N, win0_0.index t 0 = t.val / 128 * 32 + t.val % 32 ∧ win0_0.index t 1 = t.val / 32 % 4 := by decide +kernel
theorem where1 : ∀ t : Fin grid0.N, win0_1.index t 0 = t.val / 128 * 32 + t.val % 32 ∧ win0_1.index t 1 = 4 + t.val / 32 % 4 := by decide +kernel
theorem where2 : ∀ t : Fin grid0.N, win0_2.index t 0 = t.val / 128 * 32 + t.val % 32 ∧ win0_2.index t 1 = 4 + t.val / 32 % 4 := by decide +kernel
theorem where3 : ∀ t : Fin grid0.N, win0_3.index t 0 = t.val / 128 * 32 + t.val % 32 ∧ win0_3.index t 1 = 8 + t.val / 32 % 4 := by decide +kernel
theorem where4 : ∀ t : Fin grid0.N, win0_4.index t 0 = t.val / 128 * 32 + t.val % 32 ∧ win0_4.index t 1 = 48 := by decide +kernel
theorem where5 : ∀ t : Fin grid0.N, win0_5.index t 0 = 0 ∧ win0_5.index t 1 = t.val / 32 % 4 := by decide +kernel
theorem where6 : ∀ t : Fin grid0.N, win0_6.index t 0 = 0 ∧ win0_6.index t 1 = t.val / 32 % 4 := by decide +kernel
theorem where7 : ∀ t : Fin grid0.N, win0_7.index t 0 = 0 ∧ win0_7.index t 1 = 0 := by decide +kernel
theorem where8 : ∀ t : Fin grid0.N, win0_8.index t 0 = t.val / 128 ∧ win0_8.index t 1 = t.val / 32 % 4 ∧ win0_8.index t 2 = 0 ∧ win0_8.index t 3 = 0 := by decide +kernel
theorem where9 : ∀ t : Fin grid0.N, win0_9.index t 0 = 0 ∧ win0_9.index t 1 = 0 := by decide +kernel
theorem where10 : ∀ t : Fin grid0.N, win0_10.index t 0 = 0 ∧ win0_10.index t 1 = 0 := by decide +kernel

theorem block0 (c : Dev nD) (t : Fin cfg0.N) (i : Fin 128) (j : Fin 256) :
    X0_0 m c t (ix2 i j) = projA m c (ix2 ⟨row t.val + i.val, row_lt t i⟩ ⟨head t.val * 256 + j.val, by have := head_lt t.val; omega⟩) := by
  unfold X0_0 Pipeline.Window.fill
  rw [dif_pos (moved0_0 t _)]
  unfold iblk
  rw [View.read_apply]
  show V m c main_arg0 _ = _
  rw [proj_entry]
  refine congrArg (projA m c) (funext fun a => Fin.ext ?_)
  match a with
  | ⟨0, _⟩ => show win0_0.index t 0 * 128 + 1 * i.val = row t.val + i.val; rw [(where0 t).1]; unfold row; omega
  | ⟨1, _⟩ => show win0_0.index t 1 * 256 + 1 * j.val = head t.val * 256 + j.val; rw [(where0 t).2]; unfold head; omega

theorem block1 (c : Dev nD) (t : Fin cfg0.N) (i : Fin 128) (j : Fin 256) :
    X0_1 m c t (ix2 i j) = projA m c (ix2 ⟨row t.val + i.val, row_lt t i⟩ ⟨1024 + head t.val * 256 + j.val, by have := head_lt t.val; omega⟩) := by
  unfold X0_1 Pipeline.Window.fill
  rw [dif_pos (moved0_1 t _)]
  unfold iblk
  rw [View.read_apply]
  show V m c main_arg0 _ = _
  rw [proj_entry]
  refine congrArg (projA m c) (funext fun a => Fin.ext ?_)
  match a with
  | ⟨0, _⟩ => show win0_1.index t 0 * 128 + 1 * i.val = row t.val + i.val; rw [(where1 t).1]; unfold row; omega
  | ⟨1, _⟩ => show win0_1.index t 1 * 256 + 1 * j.val = 1024 + head t.val * 256 + j.val; rw [(where1 t).2]; unfold head; omega

theorem block2 (c : Dev nD) (t : Fin cfg0.N) (i : Fin 128) (j : Fin 512) :
    X0_2 m c t (ix2 i j) = projA m c (ix2 ⟨row t.val + i.val, row_lt t i⟩ ⟨2048 + head t.val * 512 + j.val, by have := head_lt t.val; omega⟩) := by
  unfold X0_2 Pipeline.Window.fill
  rw [dif_pos (moved0_2 t _)]
  unfold iblk
  rw [View.read_apply]
  show V m c main_arg0 _ = _
  rw [proj_entry]
  refine congrArg (projA m c) (funext fun a => Fin.ext ?_)
  match a with
  | ⟨0, _⟩ => show win0_2.index t 0 * 128 + 1 * i.val = row t.val + i.val; rw [(where2 t).1]; unfold row; omega
  | ⟨1, _⟩ => show win0_2.index t 1 * 512 + 1 * j.val = 2048 + head t.val * 512 + j.val; rw [(where2 t).2]; unfold head; omega

theorem block3 (c : Dev nD) (t : Fin cfg0.N) (i : Fin 128) (j : Fin 512) :
    X0_3 m c t (ix2 i j) = projA m c (ix2 ⟨row t.val + i.val, row_lt t i⟩ ⟨4096 + head t.val * 512 + j.val, by have := head_lt t.val; omega⟩) := by
  unfold X0_3 Pipeline.Window.fill
  rw [dif_pos (moved0_3 t _)]
  unfold iblk
  rw [View.read_apply]
  show V m c main_arg0 _ = _
  rw [proj_entry]
  refine congrArg (projA m c) (funext fun a => Fin.ext ?_)
  match a with
  | ⟨0, _⟩ => show win0_3.index t 0 * 128 + 1 * i.val = row t.val + i.val; rw [(where3 t).1]; unfold row; omega
  | ⟨1, _⟩ => show win0_3.index t 1 * 512 + 1 * j.val = 4096 + head t.val * 512 + j.val; rw [(where3 t).2]; unfold head; omega

theorem block4 (c : Dev nD) (t : Fin cfg0.N) (i : Fin 128) (j : Fin 128) :
    (iblk m c 4 t : S128x128.Idx → EReal) (ix2 i j) = (V m c main_arg0 : S8192x6272.Idx → EReal) (ix2 ⟨row t.val + i.val, row_lt t i⟩ ⟨6144 + j.val, by omega⟩) := by
  unfold iblk
  rw [View.read_apply]
  show V m c main_arg0 _ = _
  refine congrArg (V m c main_arg0 : S8192x6272.Idx → EReal) (funext fun a => Fin.ext ?_)
  match a with
  | ⟨0, _⟩ => show win0_4.index t 0 * 128 + 1 * i.val = row t.val + i.val; rw [(where4 t).1]; unfold row; omega
  | ⟨1, _⟩ => show win0_4.index t 1 * 128 + 1 * j.val = 6144 + j.val; rw [(where4 t).2]; omega

theorem block5 (c : Dev nD) (t : Fin cfg0.N) (i : Fin 128) (j : Fin 256) :
    (iblk m c 5 t : S128x256.Idx → EReal) (ix2 i j) = (V m c main_v1 : S128x1024.Idx → EReal) (ix2 ⟨i.val, i.isLt⟩ ⟨head t.val * 256 + j.val, by have := head_lt t.val; omega⟩) := by
  unfold iblk
  rw [View.read_apply]
  show V m c main_v1 _ = _
  refine congrArg (V m c main_v1 : S128x1024.Idx → EReal) (funext fun a => Fin.ext ?_)
  match a with
  | ⟨0, _⟩ => show win0_5.index t 0 * 128 + 1 * i.val = i.val; rw [(where5 t).1]; omega
  | ⟨1, _⟩ => show win0_5.index t 1 * 256 + 1 * j.val = head t.val * 256 + j.val; rw [(where5 t).2]; unfold head; omega

theorem block6 (c : Dev nD) (t : Fin cfg0.N) (i : Fin 1) (j : Fin 256) :
    (iblk m c 6 t : S1x256.Idx → EReal) (ix2 i j) = (V m c main_v47 : S1x1024.Idx → EReal) (ix2 ⟨i.val, i.isLt⟩ ⟨head t.val * 256 + j.val, by have := head_lt t.val; omega⟩) := by
  unfold iblk
  rw [View.read_apply]
  show V m c main_v47 _ = _
  refine congrArg (V m c main_v47 : S1x1024.Idx → EReal) (funext fun a => Fin.ext ?_)
  match a with
  | ⟨0, _⟩ => show win0_6.index t 0 * 1 + 1 * i.val = i.val; rw [(where6 t).1]; omega
  | ⟨1, _⟩ => show win0_6.index t 1 * 256 + 1 * j.val = head t.val * 256 + j.val; rw [(where6 t).2]; unfold head; omega

theorem block7 (c : Dev nD) (t : Fin cfg0.N) (i : Fin 1) (j : Fin 512) :
    (iblk m c 7 t : S1x512.Idx → EReal) (ix2 i j) = (V m c main_v48 : S1x512.Idx → EReal) (ix2 ⟨i.val, i.isLt⟩ ⟨j.val, j.isLt⟩) := by
  unfold iblk
  rw [View.read_apply]
  show V m c main_v48 _ = _
  refine congrArg (V m c main_v48 : S1x512.Idx → EReal) (funext fun a => Fin.ext ?_)
  match a with
  | ⟨0, _⟩ => show win0_7.index t 0 * 1 + 1 * i.val = i.val; rw [(where7 t).1]; omega
  | ⟨1, _⟩ => show win0_7.index t 1 * 512 + 1 * j.val = j.val; rw [(where7 t).2]; omega

theorem block8 (c : Dev nD) (t : Fin cfg0.N) (a b : Fin 1) (i : Fin 256) (j : Fin 512) :
    (iblk m c 8 t : S1x1x256x512.Idx → EReal) (ix4 a b i j) = startA m c (ix4 ⟨t.val / 128, by have := point_lt t; omega⟩ ⟨head t.val, head_lt _⟩ i j) := by
  unfold iblk
  rw [View.read_apply]
  show V m c main_arg4 _ = _
  rw [start_entry]
  refine congrArg (startA m c) (funext fun x => Fin.ext ?_)
  match x with
  | ⟨0, _⟩ => show win0_8.index t 0 * 1 + 1 * a.val = t.val / 128; rw [(where8 t).1]; omega
  | ⟨1, _⟩ => show win0_8.index t 1 * 1 + 1 * b.val = head t.val; rw [(where8 t).2.1]; unfold head; omega
  | ⟨2, _⟩ => show win0_8.index t 2 * 256 + 1 * i.val = i.val; rw [(where8 t).2.2.1]; omega
  | ⟨3, _⟩ => show win0_8.index t 3 * 512 + 1 * j.val = j.val; rw [(where8 t).2.2.2]; omega

theorem block9 (c : Dev nD) (t : Fin cfg0.N) (i : Fin 1920) (j : Fin 128) :
    (iblk m c 9 t : S1920x128.Idx → EReal) (ix2 i j) = (V m c main_v46 : S1920x128.Idx → EReal) (ix2 ⟨i.val, i.isLt⟩ ⟨j.val, j.isLt⟩) := by
  unfold iblk
  rw [View.read_apply]
  show V m c main_v46 _ = _
  refine congrArg (V m c main_v46 : S1920x128.Idx → EReal) (funext fun a => Fin.ext ?_)
  match a with
  | ⟨0, _⟩ => show win0_9.index t 0 * 1920 + 1 * i.val = i.val; rw [(where9 t).1]; omega
  | ⟨1, _⟩ => show win0_9.index t 1 * 128 + 1 * j.val = j.val; rw [(where9 t).2]; omega

theorem block10 (c : Dev nD) (t : Fin cfg0.N) (i : Fin 128) (j : Fin 128) :
    (iblk m c 10 t : S128x128.Idx → BitVec 32) (ix2 i j) = (V m c main_v45 : S128x128.Idx → BitVec 32) (ix2 ⟨i.val, i.isLt⟩ ⟨j.val, j.isLt⟩) := by
  unfold iblk
  rw [View.read_apply]
  show V m c main_v45 _ = _
  refine congrArg (V m c main_v45 : S128x128.Idx → BitVec 32) (funext fun a => Fin.ext ?_)
  match a with
  | ⟨0, _⟩ => show win0_10.index t 0 * 128 + 1 * i.val = i.val; rw [(where10 t).1]; omega
  | ⟨1, _⟩ => show win0_10.index t 1 * 128 + 1 * j.val = j.val; rw [(where10 t).2]; omega

end Cert.GlaIdeal.Tile

end
-- ==== Proof.KernelValue.lean ====
module

public import proofs.«01_k».proof.Proof.Blocks
public import Idealize.ShloMosaic.Lib.Pipeline.Value

/-! The kernel's two result arrays: the read-outs of the recurrence, normed and gated, and the recurrence's last
state. -/

@[expose] public section

set_option maxRecDepth 16384

noncomputable section

namespace Cert.GlaIdeal.Tile

open Idealize.ShloMosaic Idealize.ShloMosaic.TcCoe Idealize.SL.Sem
open Cert.GlaIdeal Cert.GlaIdeal.Gen Cert.Recurrence

variable (m : (ℓ : Loc nD τ sig) → Buf (Elt Ideal) ℓ) (c : Dev nD)

/-- The arguments on which the recurrence runs hold real numbers. -/
structure RealArgs : Prop where
  proj : IsReal (projA m c)
  gate : IsReal (gateA m c)
  bias : IsReal (biasA m c)
  start : IsReal (startA m c)

variable {m c}

theorem row_eq (t i : ℕ) : row t + i = t / 128 * 4096 + (t % 32 * 128 + i) := by unfold row; omega

theorem point_queries (hr : RealArgs m c) (t : Fin cfg0.N) :
    Holds (k0_pay5 (F := Ideal) (X0_0 m c t)) fun i j => queries 4096 (projA m c) (t.val / 128) (head t.val) (t.val % 32 * 128 + i.val) j :=
  query_scaled _ (fun i j => at2 (projA m c) (t.val / 128 * 4096 + (t.val % 32 * 128 + i.val)) (head t.val * 256 + j.val)) fun i j => by
    rw [block0, at2_real hr.proj, row_eq]

theorem point_keys (hr : RealArgs m c) (t : Fin cfg0.N) :
    Holds (X0_1 m c t) fun i j => keys 4096 (projA m c) (t.val / 128) (head t.val) (t.val % 32 * 128 + i.val) j := fun i j => by
  rw [block1, at2_real hr.proj, row_eq]
  rfl

theorem point_vals (hr : RealArgs m c) (t : Fin cfg0.N) :
    Holds (X0_2 m c t) fun i j => vals 4096 (projA m c) (t.val / 128) (head t.val) (t.val % 32 * 128 + i.val) j := fun i j => by
  rw [block2, at2_real hr.proj, row_eq]
  rfl

theorem gate_weights (hr : RealArgs m c) (r : Fin 128) (s : Fin 1024) :
    (V m c main_v1 : S128x1024.Idx → EReal) (ix2 r s) = ((at2 (gateA m c) r.val s.val : ℝ) : EReal) := by
  rw [gate_entry]
  by_cases h : r.val < 16
  · rw [dif_pos h]
    exact at2_eq hr.gate ⟨r.val, h⟩ s
  · rw [dif_neg h, at2_out _ _ _ (by omega), EReal.coe_zero]

theorem point_gates (hr : RealArgs m c) (t : Fin cfg0.N) :
    Holds (gates m c t) fun i j => gatesOf 4096 (projA m c) (gateA m c) (biasA m c) (t.val / 128) (head t.val) (t.val % 32 * 128 + i.val) j := by
  refine gate_apply _ _ _ (fun i j => pre 4096 (projA m c) (gateA m c) (biasA m c) (t.val / 128) (t.val % 32 * 128 + i.val) (head t.val * 256 + j.val)) fun i j => ?_
  have h4 : ∀ r : Fin 128, (iblk m c 4 t : S128x128.Idx → EReal) (ix2 i r) = _ := fun r => (block4 m c t i r).trans (by
    rw [proj_entry, at2_real hr.proj, row_eq])
  have h5 : ∀ r : Fin 128, (iblk m c 5 t : S128x256.Idx → EReal) (ix2 r j) = _ := fun r => (block5 m c t r j).trans (gate_weights hr _ _)
  refine (congrArg₂ (fun x y : EReal => x + y) ((Finset.sum_congr rfl fun r _ => congrArg₂ (fun x y : EReal => x * y) (h4 r) (h5 r)).trans
    (sum_mul_real _ _)) (block6 m c t 0 j)).trans ?_
  rw [bias_entry, bias_eq _ hr.bias, ← EReal.coe_add]
  unfold pre
  rw [Fin.sum_univ_eq_sum_range (fun r => at2 (projA m c) (t.val / 128 * 4096 + (t.val % 32 * 128 + i.val)) (6144 + r) * at2 (gateA m c) r (head t.val * 256 + j.val)) 128,
    ← Finset.sum_subset (Finset.range_subset_range.mpr (by decide : 16 ≤ 128)) fun r _ hn => by
      rw [at2_out (gateA m c) _ _ (by simpa using hn), mul_zero]]

theorem point_window (t : Fin cfg0.N) : IsWin (iblk m c 9 t) := fun r s => by
  rw [show iblk m c 9 t (ix2 r s) = _ from block9 m c t r s]
  exact window_entry m c r s

theorem point_start (hr : RealArgs m c) (t : Fin cfg0.N) :
    Holds (k0_pay4 (F := Ideal) (iblk m c 8 t)) fun j i => stateOf 4096 (projA m c) (gateA m c) (biasA m c) (startA m c) (t.val / 128) (head t.val) 0 i j := by
  intro j i
  pointwise [k0_pay4]
  rw [show iblk m c 8 t (ix4 0 0 i j) = _ from block8 m c t 0 0 i j, start_eq _ hr.start]
  rfl

/-- A point takes the state from its chunk's start to its chunk's end. -/
theorem point_state (hr : RealArgs m c) (t : Fin cfg0.N) (st : Vec Ideal S512x256 .f32)
    (hs : Holds st fun j i => stateOf 4096 (projA m c) (gateA m c) (biasA m c) (startA m c) (t.val / 128) (head t.val) (t.val % 32 * 128) i j) :
    Holds (pointState m c t st) fun j i => stateOf 4096 (projA m c) (gateA m c) (biasA m c) (startA m c) (t.val / 128) (head t.val) (t.val % 32 * 128 + 128) i j := by
  intro j i
  unfold pointState
  pointwise [k0_pay1]
  rw [chunkS_apply (point_keys hr t) (point_gates hr t) (point_vals hr t) (point_window t) hs]
  exact congrArg _ (chunk_state _ _ _ _ _ _ _)

/-- The read-outs of a point's chunk. -/
theorem point_out (hr : RealArgs m c) (t : Fin cfg0.N) (st : Vec Ideal S512x256 .f32)
    (hs : Holds st fun j i => stateOf 4096 (projA m c) (gateA m c) (biasA m c) (startA m c) (t.val / 128) (head t.val) (t.val % 32 * 128) i j)
    (i : Fin 128) (j : Fin 512) :
    chunkO (k0_pay5 (X0_0 m c t)) (X0_1 m c t) (gates m c t) (X0_2 m c t) (iblk m c 10 t) (iblk m c 9 t) st (ix2 i j)
      = ((outOf 4096 (projA m c) (gateA m c) (biasA m c) (startA m c) (t.val / 128) (head t.val) (t.val % 32 * 128 + i.val) j : ℝ) : EReal) := by
  rw [chunkO_apply (point_queries hr t) (point_keys hr t) (point_gates hr t) (point_vals hr t) (point_window t) hs]
  have hl : (fun t' s' => iblk m c 10 t (ix2 t' s')) = fun (t' s' : Fin 128) => levelW t'.val s'.val := funext fun t' => funext fun s' =>
    (block10 m c t t' s').trans (level_entry m c t' s')
  rw [hl]
  exact congrArg _ (chunk_out _ levels _ _ _ _ _ _ _ _)

/-- The state after each point. -/
theorem state_after (hr : RealArgs m c) : ∀ (n : ℕ) (h : n < cfg0.N), Holds (outsAt0 m c n h).2.2 fun j i =>
    stateOf 4096 (projA m c) (gateA m c) (biasA m c) (startA m c) (n / 128) (head n) (n % 32 * 128 + 128) i j := by
  intro n
  induction n with
  | zero =>
    intro h
    rw [show (outsAt0 m c 0 h).2.2 = _ from state_A m c ⟨0, h⟩ rfl]
    exact point_state hr ⟨0, h⟩ _ (point_start hr ⟨0, h⟩)
  | succ n ih =>
    intro h
    by_cases h0 : (n + 1) % 32 = 0
    · rw [show (outsAt0 m c (n + 1) h).2.2 = _ from state_A m c ⟨n + 1, h⟩ h0]
      refine point_state hr ⟨n + 1, h⟩ _ ?_
      have := point_start hr ⟨n + 1, h⟩
      simp only [h0]
      exact this
    · have hb : Holds (before m c ⟨n + 1, h⟩) fun j i => stateOf 4096 (projA m c) (gateA m c) (biasA m c) (startA m c) ((n + 1) / 128) (head (n + 1)) ((n + 1) % 32 * 128) i j := by
        have := ih (Nat.lt_of_succ_lt h)
        rw [show n / 128 = (n + 1) / 128 by omega, show head n = head (n + 1) by unfold head; omega,
          show n % 32 * 128 + 128 = (n + 1) % 32 * 128 by omega] at this
        exact this
      by_cases h1 : (n + 1) % 32 = 31
      · rw [show (outsAt0 m c (n + 1) h).2.2 = _ from state_C m c ⟨n + 1, h⟩ h1]
        exact point_state hr ⟨n + 1, h⟩ _ hb
      · rw [show (outsAt0 m c (n + 1) h).2.2 = _ from state_B m c ⟨n + 1, h⟩ h0 h1]
        exact point_state hr ⟨n + 1, h⟩ _ hb

theorem state_before (hr : RealArgs m c) (t : Fin cfg0.N) (h0 : ¬t.val % 32 = 0) :
    Holds (before m c t) fun j i => stateOf 4096 (projA m c) (gateA m c) (biasA m c) (startA m c) (t.val / 128) (head t.val) (t.val % 32 * 128) i j := by
  have := state_after hr (t.val - 1) (Nat.lt_of_le_of_lt (Nat.sub_le _ _) t.isLt)
  rw [show (t.val - 1) / 128 = t.val / 128 by omega, show head (t.val - 1) = head t.val by unfold head; omega,
    show (t.val - 1) % 32 * 128 + 128 = t.val % 32 * 128 by omega] at this
  exact this

/-- The two result arrays. -/
def outArr (m : (ℓ : Loc nD τ sig) → Buf (Elt Ideal) ℓ) (c : Dev nD) : S8192x2048.Idx → EReal := fun y =>
  result (projA m c) (gateA m c) (biasA m c) (startA m c) (scaleA m c) ⟨(y 0).val / 4096, by have : (y 0).val < 8192 := (y 0).isLt; omega⟩
    ⟨(y 0).val % 4096, Nat.mod_lt _ (by decide)⟩ ⟨(y 1).val / 512, by have : (y 1).val < 2048 := (y 1).isLt; omega⟩ ⟨(y 1).val % 512, Nat.mod_lt _ (by decide)⟩

def endArr (m : (ℓ : Loc nD τ sig) → Buf (Elt Ideal) ℓ) (c : Dev nD) : S2x4x256x512.Idx → EReal := fun y =>
  ((stateOf 4096 (projA m c) (gateA m c) (biasA m c) (startA m c) (y 0).val (y 1).val 4096 (y 2) (y 3) : ℝ) : EReal)

/-- A point's block of the output. -/
theorem point_normed (hr : RealArgs m c) (t : Fin cfg0.N) (st : Vec Ideal S512x256 .f32)
    (hs : Holds st fun j i => stateOf 4096 (projA m c) (gateA m c) (biasA m c) (startA m c) (t.val / 128) (head t.val) (t.val % 32 * 128) i j)
    (i : Fin 128) (j : Fin 512) (h0 : t.val / 128 < 2) (h1 : t.val % 32 * 128 + i.val < 4096) :
    pointOut m c t st (ix2 i j) = result (projA m c) (gateA m c) (biasA m c) (startA m c) (scaleA m c) ⟨t.val / 128, h0⟩
      ⟨t.val % 32 * 128 + i.val, h1⟩ ⟨head t.val, head_lt _⟩ j := by
  unfold pointOut
  pointwise [k0_pay2]
  simp only [point_out hr t st hs]
  rw [show iblk m c 7 t (ix2 0 j) = _ from block7 m c t 0 j, block3, scale_entry]
  unfold result normed
  simp only [row_eq]

theorem out_block (hr : RealArgs m c) (t : Fin cfg0.N) (i : Fin 128) (j : Fin 512) (h0 : t.val / 128 < 2) (h1 : t.val % 32 * 128 + i.val < 4096) :
    (outsAt0 m c t.val t.isLt).1 (ix2 i j) = result (projA m c) (gateA m c) (biasA m c) (startA m c) (scaleA m c) ⟨t.val / 128, h0⟩
      ⟨t.val % 32 * 128 + i.val, h1⟩ ⟨head t.val, head_lt _⟩ j := by
  by_cases hA : t.val % 32 = 0
  · rw [out_A m c t hA]
    refine point_normed hr t _ ?_ i j h0 h1
    have := point_start hr t
    simp only [hA]
    exact this
  · by_cases hC : t.val % 32 = 31
    · rw [out_C m c t hC]
      exact point_normed hr t _ (state_before hr t hA) i j h0 h1
    · rw [out_B m c t hA hC]
      exact point_normed hr t _ (state_before hr t hA) i j h0 h1

theorem where11 : ∀ t : Fin grid0.N, win0_11.index t 0 = t.val / 128 * 32 + t.val % 32 ∧ win0_11.index t 1 = t.val / 32 % 4 := by decide +kernel
theorem where12 : ∀ t : Fin grid0.N, win0_12.index t 0 = t.val / 128 ∧ win0_12.index t 1 = t.val / 32 % 4 ∧ win0_12.index t 2 = 0 ∧ win0_12.index t 3 = 0 := by decide +kernel

theorem outArr_at (y : S8192x2048.Idx) (b : Fin 2) (n : Fin 4096) (h : Fin 4) (j : Fin 512) (h0 : (y 0).val = b.val * 4096 + n.val)
    (h1 : (y 1).val = h.val * 512 + j.val) :
    outArr m c y = result (projA m c) (gateA m c) (biasA m c) (startA m c) (scaleA m c) b n h j := by
  unfold outArr
  congr 1 <;> apply Fin.ext <;> dsimp only <;> omega

theorem final_out (hr : RealArgs m c) : (dats m 0 c).arrAt 11 cfg0.N = outArr m c := by
  refine (dats m 0 c).arrAt_eq_of_cover 11 (outArr m c) ?_ ?_
  · intro t _
    rw [Value.flushed11]
    have ht := point_lt t
    funext y
    rw [View.read_apply]
    show (outsAt0 m c t.val t.isLt).1 y = outArr m c _
    have hy0 : (y 0).val < 128 := (y 0).isLt
    have hy1 : (y 1).val < 512 := (y 1).isLt
    rw [show (outsAt0 m c t.val t.isLt).1 y = (outsAt0 m c t.val t.isLt).1 (ix2 (⟨(y 0).val, hy0⟩ : Fin 128) (⟨(y 1).val, hy1⟩ : Fin 512)) from
      congrArg (outsAt0 m c t.val t.isLt).1 (funext fun a => by fin_cases a <;> rfl)]
    rw [out_block hr t _ _ (by omega) (by show _ + (y 0).val < _; omega)]
    refine (outArr_at _ _ _ _ _ ?_ ?_).symm
    · show win0_11.index t 0 * 128 + 1 * (y 0).val = t.val / 128 * 4096 + (t.val % 32 * 128 + (y 0).val)
      rw [(where11 t).1]
      omega
    · show win0_11.index t 1 * 512 + 1 * (y 1).val = head t.val * 512 + (y 1).val
      rw [(where11 t).2]
      unfold head
      omega
  · intro y
    have hy0 : (y 0).val < 8192 := (y 0).isLt
    have hy1 : (y 1).val < 2048 := (y 1).isLt
    obtain ⟨t, ht⟩ : ∃ t : Fin cfg0.N, t.val = (y 0).val / 4096 * 128 + (y 1).val / 512 * 32 + (y 0).val % 4096 / 128 :=
      ⟨⟨_, by rw [show cfg0.N = 256 from N_0]; omega⟩, rfl⟩
    refine ⟨t, flush0_11 t, ?_⟩
    show y ∈ ((View.whole main_v49_0).slice (win0_11.rect t)).set
    rw [View.set_slice_whole, Rect.mem_set_unit]
    intro a
    match a with
    | ⟨0, _⟩ =>
      show win0_11.index t 0 * 128 ≤ (y 0).val ∧ (y 0).val < win0_11.index t 0 * 128 + 128
      rw [(where11 t).1]
      omega
    | ⟨1, _⟩ =>
      show win0_11.index t 1 * 512 ≤ (y 1).val ∧ (y 1).val < win0_11.index t 1 * 512 + 512
      rw [(where11 t).2]
      omega

theorem endArr_at (y : S2x4x256x512.Idx) (b h : ℕ) (i : Fin 256) (j : Fin 512) (h0 : (y 0).val = b)
    (h1 : (y 1).val = h) (h2 : (y 2).val = i.val) (h3 : (y 3).val = j.val) :
    endArr m c y = ((stateOf 4096 (projA m c) (gateA m c) (biasA m c) (startA m c) b h 4096 i j : ℝ) : EReal) := by
  unfold endArr
  rw [h0, h1, show y 2 = i from Fin.ext h2, show y 3 = j from Fin.ext h3]

theorem end_block (hr : RealArgs m c) (t : Fin cfg0.N) (h31 : t.val % 32 = 31) (a b : Fin 1) (i : Fin 256) (j : Fin 512) :
    k0_pay3 (F := Ideal) (pointState m c t (before m c t)) (ix4 a b i j)
      = ((stateOf 4096 (projA m c) (gateA m c) (biasA m c) (startA m c) (t.val / 128) (head t.val) 4096 i j : ℝ) : EReal) := by
  pointwise [k0_pay3]
  rw [point_state hr t _ (state_before hr t (by omega)), show t.val % 32 * 128 + 128 = 4096 by omega]

theorem final_state (hr : RealArgs m c) : (dats m 0 c).arrAt 12 cfg0.N = endArr m c := by
  refine (dats m 0 c).arrAt_eq_of_cover 12 (endArr m c) ?_ ?_
  · intro t hf
    have h31 : t.val % 32 = 31 := (flush0_12 t).mp hf
    rw [Value.flushed12, final_C m c t h31]
    have ht := point_lt t
    funext y
    rw [View.read_apply]
    have hy2 : (y 2).val < 256 := (y 2).isLt
    have hy3 : (y 3).val < 512 := (y 3).isLt
    have hy0 : (y 0).val < 1 := (y 0).isLt
    have hy1 : (y 1).val < 1 := (y 1).isLt
    show k0_pay3 (F := Ideal) (pointState m c t (before m c t)) y = endArr m c _
    rw [show k0_pay3 (F := Ideal) (pointState m c t (before m c t)) y = k0_pay3 (F := Ideal) (pointState m c t (before m c t))
        (ix4 (⟨(y 0).val, hy0⟩ : Fin 1) (⟨(y 1).val, hy1⟩ : Fin 1) (⟨(y 2).val, hy2⟩ : Fin 256) (⟨(y 3).val, hy3⟩ : Fin 512)) from
      congrArg _ (funext fun a => by fin_cases a <;> rfl)]
    rw [end_block hr t h31]
    refine (endArr_at _ _ _ _ _ ?_ ?_ ?_ ?_).symm
    · show win0_12.index t 0 * 1 + 1 * (y 0).val = _
      rw [(where12 t).1]
      omega
    · show win0_12.index t 1 * 1 + 1 * (y 1).val = _
      rw [(where12 t).2.1]
      unfold head
      omega
    · show win0_12.index t 2 * 256 + 1 * (y 2).val = (y 2).val
      rw [(where12 t).2.2.1]
      omega
    · show win0_12.index t 3 * 512 + 1 * (y 3).val = (y 3).val
      rw [(where12 t).2.2.2]
      omega
  · intro y
    have hy0 : (y 0).val < 2 := (y 0).isLt
    have hy1 : (y 1).val < 4 := (y 1).isLt
    have hy2 : (y 2).val < 256 := (y 2).isLt
    have hy3 : (y 3).val < 512 := (y 3).isLt
    obtain ⟨t, ht⟩ : ∃ t : Fin cfg0.N, t.val = (y 0).val * 128 + (y 1).val * 32 + 31 :=
      ⟨⟨_, by rw [show cfg0.N = 256 from N_0]; omega⟩, rfl⟩
    refine ⟨t, (flush0_12 t).mpr (by omega), ?_⟩
    show y ∈ ((View.whole main_v49_1).slice (win0_12.rect t)).set
    rw [View.set_slice_whole, Rect.mem_set_unit]
    intro a
    match a with
    | ⟨0, _⟩ =>
      show win0_12.index t 0 * 1 ≤ (y 0).val ∧ (y 0).val < win0_12.index t 0 * 1 + 1
      rw [(where12 t).1]
      omega
    | ⟨1, _⟩ =>
      show win0_12.index t 1 * 1 ≤ (y 1).val ∧ (y 1).val < win0_12.index t 1 * 1 + 1
      rw [(where12 t).2.1]
      omega
    | ⟨2, _⟩ =>
      show win0_12.index t 2 * 256 ≤ (y 2).val ∧ (y 2).val < win0_12.index t 2 * 256 + 256
      rw [(where12 t).2.2.1]
      omega
    | ⟨3, _⟩ =>
      show win0_12.index t 3 * 512 ≤ (y 3).val ∧ (y 3).val < win0_12.index t 3 * 512 + 512
      rw [(where12 t).2.2.2]
      omega

end Cert.GlaIdeal.Tile

end
-- ==== Proof.ByToken.lean ====
module

public import proofs.«01_k».proof.Proof.Data
public import Idealize.ShloMosaic.Lib.Pointwise

/-! Arrays by token: reading and writing the row of one token of arrays of `L` tokens, `B` sequences and `H` heads. -/

@[expose] public section

set_option maxRecDepth 16384

noncomputable section

namespace Cert.Recurrence

open Idealize.ShloMosaic

variable {L B H D : ℕ}

theorem offsets (h0 : L < 2 ^ 31) (v : (⟨0, ![]⟩ : Shape).Idx → BitVec 32) (n : Fin L) (hn : ∀ i, v i = BitVec.ofNat 32 n.val)
    (first : (⟨0, ![]⟩ : Shape).Idx) :
    (fun k => BitVec.toInt ((![v, constantI ⟨0, ![]⟩ 32 0#32, constantI ⟨0, ![]⟩ 32 0#32, constantI ⟨0, ![]⟩ 32 0#32] :
      Fin 4 → (⟨0, ![]⟩ : Shape).Idx → BitVec 32) k first))
      = (![(n.val : ℤ), 0, 0, 0] : Fin 4 → ℤ) := by
  funext k
  have hi : (BitVec.ofNat 32 n.val).toInt = (n.val : ℤ) := by
    rw [BitVec.toInt_ofNat', Int.bmod_eq_of_le] <;> have := n.isLt <;> omega
  match k with
  | ⟨0, _⟩ => show (v _).toInt = _; rw [hn]; exact hi
  | ⟨1, _⟩ => rfl
  | ⟨2, _⟩ => rfl
  | ⟨3, _⟩ => rfl

theorem first_start (ht : (⟨4, ![1, B, H, D]⟩ : Shape).rank = (⟨4, ![L, B, H, D]⟩ : Shape).rank) (n : Fin L) :
    Host.clampedStart ⟨4, ![L, B, H, D]⟩ ⟨4, ![1, B, H, D]⟩ ht (![(n.val : ℤ), 0, 0, 0] : Fin 4 → ℤ) (0 : Fin 4) = n.val :=
  Host.clampedStart_of_le ht _ (0 : Fin 4) n.val rfl (by show n.val + 1 ≤ L; have := n.isLt; omega)

theorem next_start (ht : (⟨4, ![1, B, H, D]⟩ : Shape).rank = (⟨4, ![L, B, H, D]⟩ : Shape).rank) (n : Fin L) :
    Host.clampedStart ⟨4, ![L, B, H, D]⟩ ⟨4, ![1, B, H, D]⟩ ht (![(n.val : ℤ), 0, 0, 0] : Fin 4 → ℤ) (1 : Fin 4) = 0
    ∧ Host.clampedStart ⟨4, ![L, B, H, D]⟩ ⟨4, ![1, B, H, D]⟩ ht (![(n.val : ℤ), 0, 0, 0] : Fin 4 → ℤ) (2 : Fin 4) = 0
    ∧ Host.clampedStart ⟨4, ![L, B, H, D]⟩ ⟨4, ![1, B, H, D]⟩ ht (![(n.val : ℤ), 0, 0, 0] : Fin 4 → ℤ) (3 : Fin 4) = 0 :=
  ⟨Host.clampedStart_of_le ht _ (1 : Fin 4) 0 rfl (by show 0 + B ≤ B; omega),
    Host.clampedStart_of_le ht _ (2 : Fin 4) 0 rfl (by show 0 + H ≤ H; omega),
    Host.clampedStart_of_le ht _ (3 : Fin 4) 0 rfl (by show 0 + D ≤ D; omega)⟩

/-- The row of a token, written into an array by token. -/
theorem put_row (x : (⟨4, ![L, B, H, D]⟩ : Shape).Idx → EReal) (u : (⟨4, ![1, B, H, D]⟩ : Shape).Idx → EReal) (n : Fin L)
    (hs : (⟨4, ![L, B, H, D]⟩ : Shape).Slices (fun _ => 0) ⟨4, ![1, B, H, D]⟩) (n' : Fin L) (b : Fin B) (h : Fin H) (j : Fin D) :
    Host.dynamicUpdateSlice x u (![(n.val : ℤ), 0, 0, 0] : Fin 4 → ℤ) hs (ix4 n' b h j) = if n' = n then u (ix4 0 b h j) else x (ix4 n' b h j) := by
  obtain ⟨e1, e2, e3⟩ := next_start (D := D) hs.1 n
  have e0 := first_start (D := D) hs.1 n
  rw [Host.dynamicUpdateSlice_apply]
  by_cases hn : n' = n
  · subst hn
    rw [if_pos rfl, dif_pos (by
      intro a
      match a with
      | ⟨0, _⟩ => erw [e0]; exact ⟨le_refl n'.val, Nat.lt_succ_self n'.val⟩
      | ⟨1, _⟩ => erw [e1]; exact ⟨Nat.zero_le _, by show b.val < 0 + B; have := b.isLt; omega⟩
      | ⟨2, _⟩ => erw [e2]; exact ⟨Nat.zero_le _, by show h.val < 0 + H; have := h.isLt; omega⟩
      | ⟨3, _⟩ => erw [e3]; exact ⟨Nat.zero_le _, by show j.val < 0 + D; have := j.isLt; omega⟩)]
    refine congrArg u (funext fun a => ?_)
    match a with
    | ⟨0, _⟩ => exact Fin.ext ((congrArg (fun t => n'.val - t) e0).trans (Nat.sub_self _))
    | ⟨1, _⟩ => exact Fin.ext ((congrArg (fun t => b.val - t) e1).trans (Nat.sub_zero _))
    | ⟨2, _⟩ => exact Fin.ext ((congrArg (fun t => h.val - t) e2).trans (Nat.sub_zero _))
    | ⟨3, _⟩ => exact Fin.ext ((congrArg (fun t => j.val - t) e3).trans (Nat.sub_zero _))
  · rw [if_neg hn, dif_neg]
    intro hin
    have h0 := hin (0 : Fin 4)
    erw [e0] at h0
    have h1 : n.val ≤ n'.val ∧ n'.val < n.val + 1 := h0
    exact hn (Fin.ext (by omega))

theorem row4 (x : (⟨4, ![L, B, H, D]⟩ : Shape).Idx → EReal) (n : Fin L) (b : Fin B) (h : Fin H) (i : Fin D)
    (a0 a1 a2 a3 : ℕ) (p0 : a0 < L) (p1 : a1 < B) (p2 : a2 < H) (p3 : a3 < D) (e0 : a0 = n.val) (e1 : a1 = b.val) (e2 : a2 = h.val)
    (e3 : a3 = i.val) : x (ix4 ⟨a0, p0⟩ ⟨a1, p1⟩ ⟨a2, p2⟩ ⟨a3, p3⟩) = x (ix4 n b h i) := by
  subst e0 e1 e2 e3
  rfl

theorem shifted {a b : ℕ} (h : a = 0) : a + b = b := by omega

end Cert.Recurrence

end
-- ==== Proof.RefStep.lean ====
module

public import proofs.«01_k».proof.Proof.ByToken
public import proofs.«01_k».proof.Proof.Gen.GlaRefIdeal.Run
public import Idealize.ShloMosaic.Lib.StableHlo.ReadAt

/-! One token of the reference's recurrence, read at an index. -/

@[expose] public section

set_option maxRecDepth 16384

noncomputable section

namespace Cert.GlaRefIdeal.Scan

open Idealize.ShloMosaic Idealize.ShloMosaic.TcCoe Idealize.SL.Sem
open Cert.GlaRefIdeal Cert.GlaRefIdeal.Gen Cert.GlaRefIdeal.Value Cert.Recurrence
open Idealize.ShloMosaic.StableHlo

variable (X : Valuation τ sig (Elt Ideal))

def qS : S4096x2x4x256.Idx → EReal := X (Proc.devRef .tc main_v22_0)
def kS : S4096x2x4x256.Idx → EReal := X (Proc.devRef .tc main_v22_1)
def vS : S4096x2x4x512.Idx → EReal := X (Proc.devRef .tc main_v22_2)
def gS : S4096x2x4x256.Idx → EReal := X (Proc.devRef .tc main_v22_3)
def nS : S_.Idx → BitVec 32 := X (Proc.devRef .tc main_v22_4)
def sS : S2x4x256x512.Idx → EReal := X (Proc.devRef .tc main_v22_5)
def oS : S4096x2x4x512.Idx → EReal := X (Proc.devRef .tc main_v22_6)

theorem new_state (n : Fin 4096) (hn : ∀ i, nS X i = BitVec.ofNat 32 n.val) (b : Fin 2) (h : Fin 4) (i : Fin 256) (j : Fin 512) :
    (res_main_while0b_v55 X : S2x4x256x512.Idx → EReal) (ix4 b h i j)
      = sS X (ix4 b h i j) * Ideal.exp (gS X (ix4 n b h i)) + kS X (ix4 n b h i) * vS X (ix4 n b h j) := by
  have ho := offsets (by decide) (X (Proc.devRef .tc main_v22_4)) n hn (Shape.Idx.first h_S_)
  unfold res_main_while0b_v55
  dsimp only at ho ⊢
  erw [ho]
  pointwise
  exact congrArg₂ (fun x y : EReal => x + y)
    (congrArg (fun x : EReal => sS X (ix4 b h i j) * Ideal.exp x)
      (row4 (gS X) n b h i _ _ _ _ _ _ _ _ (first_start _ n) (shifted (next_start _ n).1) (shifted (next_start _ n).2.1) (shifted (next_start _ n).2.2)))
    (congrArg₂ (fun x y : EReal => x * y)
      (row4 (kS X) n b h i _ _ _ _ _ _ _ _ (first_start _ n) (shifted (next_start _ n).1) (shifted (next_start _ n).2.1) (shifted (next_start _ n).2.2))
      (row4 (vS X) n b h j _ _ _ _ _ _ _ _ (first_start _ n) (shifted (next_start _ n).1) (shifted (next_start _ n).2.1) (shifted (next_start _ n).2.2)))

theorem step_state (n : Fin 4096) (hn : ∀ i, nS X i = BitVec.ofNat 32 n.val) (b : Fin 2) (h : Fin 4) (i : Fin 256) (j : Fin 512) :
    sS (STEP X) (ix4 b h i j)
      = sS X (ix4 b h i j) * Ideal.exp (gS X (ix4 n b h i)) + kS X (ix4 n b h i) * vS X (ix4 n b h j) := by
  unfold sS
  rw [STEP_main_v22_5]
  exact new_state X n hn b h i j

theorem step_count (n : Fin 4096) (hn : ∀ i, nS X i = BitVec.ofNat 32 n.val) (i : S_.Idx) :
    nS (STEP X) i = BitVec.ofNat 32 (n.val + 1) := by
  unfold nS
  rw [STEP_main_v22_4]
  show nS X i + 1#32 = _
  rw [hn, BitVec.ofNat_add]

theorem step_rows (n : Fin 4096) (hn : ∀ i, nS X i = BitVec.ofNat 32 n.val) (n' : Fin 4096) (b : Fin 2) (h : Fin 4) (j : Fin 512) :
    oS (STEP X) (ix4 n' b h j)
      = if n' = n then ∑ i, qS X (ix4 n b h i) * sS (STEP X) (ix4 b h i j) else oS X (ix4 n' b h j) := by
  unfold oS
  rw [STEP_main_v22_6]
  have ho := offsets (by decide) (X (Proc.devRef .tc main_v22_4)) n hn (Shape.Idx.first h_S_)
  unfold step_main_v22_6
  dsimp only at ho ⊢
  erw [ho]
  refine (put_row (D := 512) _ _ n _ n' b h j).trans ?_
  congr 1
  pointwise
  refine Finset.sum_congr rfl fun i _ => congrArg₂ (fun x y : EReal => x * y) ?_ ?_
  · exact row4 (qS X) n b h i _ _ _ _ _ _ _ _ (first_start _ n) (shifted (next_start _ n).1) (shifted (next_start _ n).2.1) (shifted (next_start _ n).2.2)
  · unfold sS
    rw [STEP_main_v22_5]
    rfl

theorem step_keep : qS (STEP X) = qS X ∧ kS (STEP X) = kS X ∧ vS (STEP X) = vS X ∧ gS (STEP X) = gS X :=
  ⟨STEP_main_v22_0 X, STEP_main_v22_1 X, STEP_main_v22_2 X, STEP_main_v22_3 X⟩

end Cert.GlaRefIdeal.Scan

end
-- ==== Proof.RefEntry.lean ====
module

public import proofs.«01_k».proof.Proof.RefStep
public import proofs.«01_k».proof.Proof.Tile

/-! What the reference's recurrence starts from: its carried arrays as reals. -/

@[expose] public section

set_option maxRecDepth 16384

noncomputable section

namespace Cert.GlaRefIdeal.Scan

open Idealize.ShloMosaic Idealize.ShloMosaic.TcCoe Idealize.SL.Sem
open Cert.GlaRefIdeal Cert.GlaRefIdeal.Gen Cert.GlaRefIdeal.Value Cert.Recurrence
open Idealize.ShloMosaic.StableHlo
open Cert.GlaIdeal.Tile (lit_sixteen lit_sixteenth)

variable (m : (ℓ : Loc nD τ sig) → Buf (Elt Ideal) ℓ) (c : Dev nD)

def proj : S8192x6272.Idx → EReal := m ((c : Thread nD τ).loc main_arg0)
def gateW : S16x1024.Idx → EReal := m ((c : Thread nD τ).loc main_arg1)
def gateB : S1024.Idx → EReal := m ((c : Thread nD τ).loc main_arg2)
def scale : S512.Idx → EReal := m ((c : Thread nD τ).loc main_arg3)
def first : S2x4x256x512.Idx → EReal := m ((c : Thread nD τ).loc main_arg4)

theorem q_entry (hp : IsReal (proj m c)) (n : Fin 4096) (b : Fin 2) (h : Fin 4) (i : Fin 256) :
    qS (entryContents preI m c) (ix4 n b h i) = ((queries 4096 (proj m c) b.val h.val n.val i : ℝ) : EReal) := by
  unfold qS
  simp only [entryContents, afterL_cons, afterL_nil]
  after_reads_at
  simp only [id]
  pointwise
  show proj m c _ * _ = _
  rw [at2_real hp, show Ideal.ofBits FTy.f32 1031798784#32 = ((0.0625 : ℝ) : EReal) from lit_sixteenth, ← EReal.coe_mul]
  rfl

theorem k_entry (hp : IsReal (proj m c)) (n : Fin 4096) (b : Fin 2) (h : Fin 4) (i : Fin 256) :
    kS (entryContents preI m c) (ix4 n b h i) = ((keys 4096 (proj m c) b.val h.val n.val i : ℝ) : EReal) := by
  unfold kS
  simp only [entryContents, afterL_cons, afterL_nil]
  after_reads_at
  simp only [id]
  pointwise
  show proj m c _ = _
  rw [at2_real hp]
  unfold keys
  congr 2
  omega

theorem v_entry (hp : IsReal (proj m c)) (n : Fin 4096) (b : Fin 2) (h : Fin 4) (i : Fin 512) :
    vS (entryContents preI m c) (ix4 n b h i) = ((vals 4096 (proj m c) b.val h.val n.val i : ℝ) : EReal) := by
  unfold vS
  simp only [entryContents, afterL_cons, afterL_nil]
  after_reads_at
  simp only [id]
  pointwise
  show proj m c _ = _
  rw [at2_real hp]
  unfold vals
  congr 2
  omega

/-- The log of the sigmoid over sixteen, as a softplus that tests for the undefined. -/
theorem soft_gate (x : ℝ) :
    Ideal.div (-(if (-((x : ℝ) : EReal)) ≠ (-((x : ℝ) : EReal)) then -((x : ℝ) : EReal)
      else max (-((x : ℝ) : EReal)) 0 + Ideal.log1p (Ideal.exp (-FloatOps.absf (F := Ideal) (φ := .f32) (-((x : ℝ) : EReal))))))
      (Ideal.ofBits FTy.f32 1098907648#32) = ((gate x : ℝ) : EReal) := by
  rw [if_neg (by simp), lit_sixteen, ← EReal.coe_neg, abs_real, ← EReal.coe_zero, max_real, ← EReal.coe_neg, Ideal.exp_coe]
  unfold Ideal.log1p
  rw [← EReal.coe_one, ← EReal.coe_add, Ideal.log_coe, if_neg (by have := Real.exp_pos (-|(-x)|); linarith), ← EReal.coe_add, ← EReal.coe_neg,
    Ideal.div_coe (by norm_num)]
  unfold gate
  rw [abs_neg, ← EReal.coe_mul]
  congr 1
  ring

theorem g_entry (hp : IsReal (proj m c)) (hw : IsReal (gateW m c)) (hu : IsReal (gateB m c)) (n : Fin 4096) (b : Fin 2) (h : Fin 4) (i : Fin 256) :
    gS (entryContents preI m c) (ix4 n b h i) = ((gatesOf 4096 (proj m c) (gateW m c) (gateB m c) b.val h.val n.val i : ℝ) : EReal) := by
  have hx : (∑ x : Fin 16, proj m c (ix2 ⟨b.val * 4096 + n.val, by omega⟩ ⟨6144 + x.val, by omega⟩) * gateW m c (ix2 x ⟨h.val * 256 + i.val, by omega⟩))
      + gateB m c (ix1 ⟨h.val * 256 + i.val, by omega⟩) = ((pre 4096 (proj m c) (gateW m c) (gateB m c) b.val n.val (h.val * 256 + i.val) : ℝ) : EReal) := by
    unfold pre
    rw [Finset.sum_range, EReal.coe_add, ← sum_mul_real, bias_eq _ hu]
    refine congrArg (fun x : EReal => x + _) (Finset.sum_congr rfl fun r _ => ?_)
    rw [at2_real hp, at2_eq hw]
  unfold gatesOf
  rw [← soft_gate, ← hx]
  unfold gS
  simp only [entryContents, afterL_cons, afterL_nil]
  after_reads_at
  simp only [id]
  pointwise
  rfl

theorem n_entry (i : S_.Idx) : nS (entryContents preI m c) i = 0#32 := by
  unfold nS
  simp only [entryContents, afterL_cons, afterL_nil]
  after_reads_simp
  rfl

theorem s_entry : sS (entryContents preI m c) = first m c := by
  unfold sS
  simp only [entryContents, afterL_cons, afterL_nil]
  after_reads_simp
  rfl

/-- What the carried arrays hold after `k` tokens. -/
structure After (k : ℕ) (X : Valuation τ sig (Elt Ideal)) : Prop where
  query : ∀ (n : Fin 4096) (b : Fin 2) (h : Fin 4) (i : Fin 256), qS X (ix4 n b h i) = ((queries 4096 (proj m c) b.val h.val n.val i : ℝ) : EReal)
  key : ∀ (n : Fin 4096) (b : Fin 2) (h : Fin 4) (i : Fin 256), kS X (ix4 n b h i) = ((keys 4096 (proj m c) b.val h.val n.val i : ℝ) : EReal)
  value : ∀ (n : Fin 4096) (b : Fin 2) (h : Fin 4) (j : Fin 512), vS X (ix4 n b h j) = ((vals 4096 (proj m c) b.val h.val n.val j : ℝ) : EReal)
  decay : ∀ (n : Fin 4096) (b : Fin 2) (h : Fin 4) (i : Fin 256),
    gS X (ix4 n b h i) = ((gatesOf 4096 (proj m c) (gateW m c) (gateB m c) b.val h.val n.val i : ℝ) : EReal)
  count : ∀ i, nS X i = BitVec.ofNat 32 k
  state : ∀ (b : Fin 2) (h : Fin 4) (i : Fin 256) (j : Fin 512),
    sS X (ix4 b h i j) = ((stateOf 4096 (proj m c) (gateW m c) (gateB m c) (first m c) b.val h.val k i j : ℝ) : EReal)
  rows : ∀ (n : Fin 4096), n.val < k → ∀ (b : Fin 2) (h : Fin 4) (j : Fin 512),
    oS X (ix4 n b h j) = ((outOf 4096 (proj m c) (gateW m c) (gateB m c) (first m c) b.val h.val n.val j : ℝ) : EReal)

theorem after_step (n : Fin 4096) (X : Valuation τ sig (Elt Ideal)) (H : After m c n.val X) : After m c (n.val + 1) (STEP X) := by
  obtain ⟨eq, ek, ev, eg⟩ := step_keep X
  have hs : ∀ (b : Fin 2) (h : Fin 4) (i : Fin 256) (j : Fin 512),
      sS (STEP X) (ix4 b h i j) = ((stateOf 4096 (proj m c) (gateW m c) (gateB m c) (first m c) b.val h.val (n.val + 1) i j : ℝ) : EReal) := by
    intro b h i j
    rw [step_state X n H.count, H.state, H.decay, H.key, H.value, Ideal.exp_coe, ← EReal.coe_mul, ← EReal.coe_mul, ← EReal.coe_add]
    rfl
  refine ⟨by rw [eq]; exact H.query, by rw [ek]; exact H.key, by rw [ev]; exact H.value, by rw [eg]; exact H.decay, step_count X n H.count, hs, ?_⟩
  intro n' hn' b h j
  rw [step_rows X n H.count]
  by_cases e : n' = n
  · subst e
    rw [if_pos rfl]
    simp only [hs, H.query]
    exact sum_mul_real _ _
  · rw [if_neg e]
    exact H.rows n' (by have : n'.val ≠ n.val := fun h => e (Fin.ext h); omega) b h j

theorem after_none (hp : IsReal (proj m c)) (hw : IsReal (gateW m c)) (hu : IsReal (gateB m c)) (hz : IsReal (first m c)) :
    After m c 0 (entryContents preI m c) where
  query := q_entry m c hp
  key := k_entry m c hp
  value := v_entry m c hp
  decay := g_entry m c hp hw hu
  count := n_entry m c
  state b h i j := by
    rw [s_entry, start_eq _ hz]
    rfl
  rows n hn := absurd hn (Nat.not_lt_zero _)

theorem after_all (hp : IsReal (proj m c)) (hw : IsReal (gateW m c)) (hu : IsReal (gateB m c)) (hz : IsReal (first m c)) (k : ℕ) :
    k ≤ 4096 → After m c k (STEP^[k] (entryContents preI m c)) := by
  generalize hE : entryContents preI m c = E
  have h0 : After m c 0 E := hE ▸ after_none m c hp hw hu hz
  induction k with
  | zero => exact fun _ => h0
  | succ k ih =>
    intro hk
    rw [Function.iterate_succ_apply']
    exact after_step m c ⟨k, by omega⟩ _ (ih (by omega))

theorem last_state (hp : IsReal (proj m c)) (hw : IsReal (gateW m c)) (hu : IsReal (gateB m c)) (hz : IsReal (first m c)) :
    ((STEP^[4096] (entryContents preI m c)) (Proc.devRef .tc main_v22_5) : S2x4x256x512.Idx → EReal)
      = fun y => ((stateOf 4096 (proj m c) (gateW m c) (gateB m c) (first m c) (y 0).val (y 1).val 4096 (y 2) (y 3) : ℝ) : EReal) := by
  funext y
  obtain ⟨b, h, i, j, rfl⟩ : ∃ (b : Fin 2) (h : Fin 4) (i : Fin 256) (j : Fin 512), y = ix4 b h i j :=
    ⟨y 0, y 1, y 2, y 3, funext fun a => match a with | ⟨0, _⟩ => rfl | ⟨1, _⟩ => rfl | ⟨2, _⟩ => rfl | ⟨3, _⟩ => rfl⟩
  exact (after_all m c hp hw hu hz 4096 le_rfl).state b h i j

theorem out_at (X : Valuation τ sig (Elt Ideal)) (b : Fin 2) (n : Fin 4096) (h : Fin 4) (j : Fin 512) :
    (out_main_v41 X : S8192x2048.Idx → EReal) (ix2 ⟨b.val * 4096 + n.val, by omega⟩ ⟨h.val * 512 + j.val, by omega⟩)
      = normed 1140850688#32 (fun x => oS X (ix4 n b h x)) ((X (Proc.devRef .tc main_arg3) : S512.Idx → EReal) (ix1 j))
        ((X (Proc.devRef .tc main_arg0) : S8192x6272.Idx → EReal) (ix2 ⟨b.val * 4096 + n.val, by omega⟩ ⟨4096 + h.val * 512 + j.val, by omega⟩)) j := by
  unfold out_main_v41
  pointwise
  have e : (ix2 ⟨b.val * 4096 + n.val, by omega⟩ ⟨4096 + (h.val * 512 + j.val), by omega⟩ : S8192x6272.Idx)
      = ix2 ⟨b.val * 4096 + n.val, by omega⟩ ⟨4096 + h.val * 512 + j.val, by omega⟩ := by
    congr 2
    omega
  erw [e]
  rfl

theorem last_out (hp : IsReal (proj m c)) (hw : IsReal (gateW m c)) (hu : IsReal (gateB m c)) (hz : IsReal (first m c)) :
    (out_main_v41 (STEP^[4096] (entryContents preI m c)) : S8192x2048.Idx → EReal)
      = fun y => result (proj m c) (gateW m c) (gateB m c) (first m c) (scale m c) ⟨(y 0).val / 4096, by have : (y 0).val < 8192 := (y 0).isLt; omega⟩
        ⟨(y 0).val % 4096, Nat.mod_lt _ (by decide)⟩ ⟨(y 1).val / 512, by have : (y 1).val < 2048 := (y 1).isLt; omega⟩
        ⟨(y 1).val % 512, Nat.mod_lt _ (by decide)⟩ := by
  have H := after_all m c hp hw hu hz 4096 le_rfl
  have e0 := iter_main_arg0 (F := Ideal) m c 4096
  have e3 := iter_main_arg3 (F := Ideal) m c 4096
  generalize STEP^[4096] (entryContents preI m c) = X at H e0 e3
  funext y
  have h0 : (y 0).val < 8192 := (y 0).isLt
  have h1 : (y 1).val < 2048 := (y 1).isLt
  have hy : y = ix2 ⟨(y 0).val / 4096 * 4096 + (y 0).val % 4096, by omega⟩ ⟨(y 1).val / 512 * 512 + (y 1).val % 512, by omega⟩ :=
    funext fun a => match a with
      | ⟨0, _⟩ => Fin.ext (by show (y 0).val = (y 0).val / 4096 * 4096 + (y 0).val % 4096; omega)
      | ⟨1, _⟩ => Fin.ext (by show (y 1).val = (y 1).val / 512 * 512 + (y 1).val % 512; omega)
  refine (congrArg (out_main_v41 X : S8192x2048.Idx → EReal) hy).trans ?_
  refine (out_at X ⟨(y 0).val / 4096, by omega⟩ ⟨(y 0).val % 4096, Nat.mod_lt _ (by decide)⟩ ⟨(y 1).val / 512, by omega⟩
    ⟨(y 1).val % 512, Nat.mod_lt _ (by decide)⟩).trans ?_
  rw [e0, e3]
  unfold result
  simp only [H.rows _ (Fin.isLt _)]
  rfl

end Cert.GlaRefIdeal.Scan

end
-- ==== Proof.Finite.lean ====
module

public import proofs.«01_k».proof.Proof.Data

/-! An array whose magnitudes lie below infinity holds reals. -/

@[expose] public section

noncomputable section

namespace Cert.Recurrence

open Idealize.ShloMosaic

theorem real_of_below (x : EReal) (h : max x (-x) < ⊤) : x = ((x.toReal : ℝ) : EReal) := by
  refine (EReal.coe_toReal (fun e => ?_) (fun e => ?_)).symm
  · simp [e] at h
  · simp [e] at h

theorem top_word : Ideal.ofBits FTy.f32 0x7F800000#32 = (⊤ : EReal) := by
  simp [Ideal.ofBits, Ideal.ieee]

theorem isReal_of_below {s : Shape} (x : FVec Ideal s .f32) (dims : Fin 0 → Fin s.rank) (hb : (⟨0, ![]⟩ : Shape).BroadcastsInDim s dims)
    (h : cmpf .olt (Host.absf x) (broadcastInDim s dims hb (constant (F := Ideal) ⟨0, ![]⟩ .f32 0x7F800000#32)) = fun _ => 1#1) :
    IsReal (s := s) x := by
  intro i
  apply real_of_below
  have h1 := congrFun h i
  pointwise at h1
  rw [top_word] at h1
  have h2 : decide (FloatOps.absf (F := Ideal) (φ := .f32) (x i) < (⊤ : EReal)) = true := by
    revert h1
    cases decide (FloatOps.absf (F := Ideal) (φ := .f32) (x i) < (⊤ : EReal)) <;> simp
  exact of_decide_eq_true h2

/-- An array that tests as at least zero is nonnegative. -/
theorem nonneg_of_ge {s : Shape} (x : FVec Ideal s .f32) (dims : Fin 0 → Fin s.rank) (hb : (⟨0, ![]⟩ : Shape).BroadcastsInDim s dims)
    (h : cmpf .oge x (broadcastInDim s dims hb (constant (F := Ideal) ⟨0, ![]⟩ .f32 0x00000000#32)) = fun _ => 1#1) (i : s.Idx) : (0 : EReal) ≤ x i := by
  have h1 := congrFun h i
  pointwise at h1
  have h2 : decide ((0 : EReal) ≤ x i) = true := by
    revert h1
    cases decide ((0 : EReal) ≤ x i) <;> simp
  exact of_decide_eq_true h2

end Cert.Recurrence

end
-- ==== Proof.HgrnData.lean ====
module

public import proofs.«01_k».proof.Proof.Data

/-! The data of the layer whose decay is a learned floor plus a gated remainder, over the reals: the queries, keys,
values and decays of each head of each sequence as functions of the token, `L` tokens to a sequence; and the layer's
two results in terms of them. -/

@[expose] public section

set_option maxRecDepth 16384

noncomputable section

namespace Cert.Recurrence.Floor

open Idealize.ShloMosaic Cert.Recurrence

/-- The logistic function. -/
def sigm (x : ℝ) : ℝ := (1 + Real.exp (-x))⁻¹

/-- What a token keeps of the state: the floor `l`, and a share of the rest that its gate decides. -/
def kept (l x : ℝ) : ℝ := l + (1 - l) * sigm x

theorem kept_pos (l x : ℝ) (h : 0 ≤ l) : 0 < kept l x := by
  have h1 : 0 < Real.exp (-x) := Real.exp_pos _
  have h2 : 0 < sigm x := inv_pos.mpr (by linarith)
  have h3 : sigm x < 1 := inv_lt_one_of_one_lt₀ (by linarith)
  have h4 : kept l x = sigm x + l * (1 - sigm x) := by unfold kept; ring
  rw [h4]
  have := mul_nonneg h (by linarith : 0 ≤ 1 - sigm x)
  linarith

/-- The queries' scale, one over the root of 128 in single precision. -/
def unit : ℝ := 11863283 / 134217728

theorem lit_unit : Ideal.ofBits FTy.f32 0x3DB504F3#32 = ((unit : ℝ) : EReal) := by
  simp [Ideal.ofBits, Ideal.ieee]
  rw [← EReal.coe_mul]
  norm_num [unit]

theorem lit_one : Ideal.ofBits FTy.f32 0x3F800000#32 = ((1 : ℝ) : EReal) := by
  simp [Ideal.ofBits, Ideal.ieee]
  rw [← EReal.coe_mul]
  norm_num

section
variable {R W B : ℕ} (L : ℕ) (p : (⟨2, ![R, W]⟩ : Shape).Idx → EReal) (u : (⟨1, ![1024]⟩ : Shape).Idx → EReal)
  (z : (⟨4, ![B, 8, 128, 128]⟩ : Shape).Idx → EReal)

def queries (b h n : ℕ) (i : Fin 128) : ℝ :=
  at2 p (b * L + n) (h * 128 + i.val) * sigm (at2 p (b * L + n) (h * 128 + i.val)) * unit
def keeps (b h n : ℕ) (i : Fin 128) : ℝ := kept (bias u (h * 128 + i.val)) (at2 p (b * L + n) (1024 + h * 128 + i.val))
def keys (b h n : ℕ) (i : Fin 128) : ℝ := 1 - keeps L p u b h n i
def decays (b h n : ℕ) (i : Fin 128) : ℝ := Real.log (keeps L p u b h n i)
def vals (b h n : ℕ) (j : Fin 128) : ℝ := at2 p (b * L + n) (2048 + h * 128 + j.val)

/-- The state after `n` tokens of head `h` of sequence `b`. -/
def stateOf (b h n : ℕ) (i j : Fin 128) : ℝ :=
  state (decays L p u b h) (keys L p u b h) (vals L p b h) (start z b h) n i j

/-- The read-out of token `n`. -/
def outOf (b h n : ℕ) (j : Fin 128) : ℝ :=
  out (queries L p b h) (decays L p u b h) (keys L p u b h) (vals L p b h) (start z b h) n j

/-- The layer's output at token `n` of sequence `b`, head `h`, column `j`, for the row's gate `r`. -/
def result (nw : (⟨1, ![128]⟩ : Shape).Idx → EReal) (b n h : ℕ) (r : EReal) (j : Fin 128) : EReal :=
  normed 1124073472#32 (fun x => ((outOf L p u z b h n x : ℝ) : EReal)) (nw (ix1 j)) r j
end

end Cert.Recurrence.Floor

end
-- ==== Proof.HgrnTile.lean ====
module

public import proofs.«01_k».proof.Proof.Chunk
public import proofs.«01_k».proof.Proof.HgrnData
public import proofs.«01_k».proof.Proof.Gen.HgrnIdeal.Skeleton
public import Idealize.ShloMosaic.Lib.Pointwise

/-! One grid point of the kernel, read at an index: the tiles it loads hold real numbers, and what it computes from
them is the chunk formula of `Recurrence` over those numbers. -/

@[expose] public section

set_option maxRecDepth 16384

noncomputable section

namespace Cert.HgrnIdeal.Tile

open Idealize.ShloMosaic Idealize.ShloMosaic.TcCoe Idealize.SL.Sem
open Cert.HgrnIdeal Cert.HgrnIdeal.Gen Cert.Recurrence

/-- What a row of gates keeps, from the floor `l`. -/
theorem keep_apply (b : Vec Ideal S1x128 .f32) (f : Vec Ideal S128x128 .f32) (x : Fin 128 → Fin 128 → ℝ) (l : Fin 128 → ℝ)
    (hb : ∀ i, b (ix2 0 i) = ((l i : ℝ) : EReal)) (hf : Holds f x) : Holds (k0_pay5 (F := Ideal) b f) fun t i => Floor.kept (l i) (x t i) := by
  intro t i
  pointwise [k0_pay5]
  rw [hb, hf, Ideal.logistic_coe, ← EReal.coe_one, ← EReal.coe_sub, ← EReal.coe_mul, ← EReal.coe_add]
  rfl

theorem key_kept {b : Vec Ideal S1x128 .f32} {f : Vec Ideal S128x128 .f32} {y : Fin 128 → Fin 128 → ℝ}
    (h : Holds (k0_pay5 (F := Ideal) b f) y) : Holds (k0_pay6 (F := Ideal) b f) fun t i => 1 - y t i := by
  intro t i
  pointwise [k0_pay6]
  rw [h, ← EReal.coe_one, ← EReal.coe_sub]

theorem decay_kept {b : Vec Ideal S1x128 .f32} {f : Vec Ideal S128x128 .f32} {y : Fin 128 → Fin 128 → ℝ}
    (h : Holds (k0_pay5 (F := Ideal) b f) y) (hp : ∀ t i, 0 < y t i) : Holds (k0_pay7 (F := Ideal) b f) fun t i => Real.log (y t i) := by
  intro t i
  pointwise [k0_pay7]
  rw [h, Ideal.log_coe, if_neg (not_le.mpr (hp t i))]

theorem query_apply' (q : Vec Ideal S128x128 .f32) (x : Fin 128 → Fin 128 → ℝ) (h : Holds q x) :
    Holds (k0_pay4 (F := Ideal) q) fun t i => x t i * Floor.sigm (x t i) * Floor.unit := by
  intro t i
  pointwise [k0_pay4]
  rw [h, Floor.lit_unit, Ideal.logistic_coe, ← EReal.coe_mul, ← EReal.coe_mul]
  rfl

/-- All window sums of the decays. -/
def sums (b : Vec Ideal S1x128 .f32) (f : Vec Ideal S128x128 .f32) (w : Vec Ideal S1920x128 .bf16) : FVec Ideal S1920x128 .f32 :=
  k0_pay15 (k0_pay12 (F := Ideal) b f) (k0_pay13 (F := Ideal) w) (k0_pay14 (F := Ideal) b f w) (constant (F := Ideal) S1920x128 .f32 0x00000000#32)

theorem sums_apply (b : Vec Ideal S1x128 .f32) (f : Vec Ideal S128x128 .f32) (w : Vec Ideal S1920x128 .bf16) (gr : Fin 128 → Fin 128 → ℝ)
    (hg : Holds (k0_pay7 (F := Ideal) b f) gr) (hw : IsWin w) (r : Fin 1920) (i : Fin 128) :
    sums b f w (ix2 r i) = ((win (rowLo r.val) (rowHi r.val) fun s => gr s i : ℝ) : EReal) := by
  unfold sums
  pointwise [k0_pay15, k0_pay14, k0_pay13, k0_pay12, k0_pay11, k0_pay10, k0_pay9]
  simp only [hg _ _, hw _ _, ← EReal.coe_sub, sub_self, sum_mul_real, mul_zero, Finset.sum_const_zero, ← EReal.coe_add, add_zero]
  unfold win
  norm_cast
  simp

section
variable {q k : FVec Ideal S128x128 .f32} {b : Vec Ideal S1x128 .f32} {f v : Vec Ideal S128x128 .f32} {l : Vec Ideal S128x128 .i32} {w : Vec Ideal S1920x128 .bf16}
  {st : Vec Ideal S128x128 .f32} {qr kr gr : Fin 128 → Fin 128 → ℝ} {vr : Fin 128 → Fin 128 → ℝ} {sr : Fin 128 → Fin 128 → ℝ}

theorem first_apply (hg : Holds (k0_pay7 (F := Ideal) b f) gr) (hw : IsWin w) (t : Fin 128) (h : t.val < 1920) (i : Fin 128) :
    sums b f w (ix2 ⟨t.val, h⟩ i) = ((win 0 t.val fun s => gr s i : ℝ) : EReal) := by
  rw [sums_apply b f w gr hg hw, (row_first t.val t.isLt).1, (row_first t.val t.isLt).2]

theorem row_last (hg : Holds (k0_pay7 (F := Ideal) b f) gr) (hw : IsWin w) (i : Fin 128) :
    sums b f w (ix2 127 i) = ((win 0 127 fun s => gr s i : ℝ) : EReal) :=
  first_apply hg hw 127 (by decide) i

theorem query_apply (hg : Holds (k0_pay7 (F := Ideal) b f) gr) (hw : IsWin w) (li : ℕ) (hl : li < 7) (t : Fin 128) (n : ℕ) (hn : n = (li + 1) * 128)
    (h : n + t.val < 1920) (i : Fin 128) :
    sums b f w (ix2 ⟨n + t.val, h⟩ i) = ((win (mid li t.val) t.val fun s => gr s i : ℝ) : EReal) := by
  subst hn
  rw [sums_apply b f w gr hg hw, (row_query li t.val hl t.isLt).1, (row_query li t.val hl t.isLt).2]

theorem key_apply (hg : Holds (k0_pay7 (F := Ideal) b f) gr) (hw : IsWin w) (li : ℕ) (s : Fin 128) (n : ℕ) (hn : n = (li + 8) * 128)
    (h : n + s.val < 1920) (i : Fin 128) :
    sums b f w (ix2 ⟨n + s.val, h⟩ i) = ((win (s.val + 1) (mid li s.val - 1) fun s => gr s i : ℝ) : EReal) := by
  subst hn
  rw [sums_apply b f w gr hg hw, (row_key li s.val s.isLt).1, (row_key li s.val s.isLt).2]

/-- The attention against the chunk, before the values: the tiles of the kernel's own computation. -/
def chunkO (q k : FVec Ideal S128x128 .f32) (b : Vec Ideal S1x128 .f32) (f : Vec Ideal S128x128 .f32) (v : Vec Ideal S128x128 .f32)
    (l : Vec Ideal S128x128 .i32) (w : Vec Ideal S1920x128 .bf16) (st : Vec Ideal S128x128 .f32) : FVec Ideal S128x128 .f32 :=
  k0_pay26 q k v (k0_pay8 (F := Ideal) l) (sums b f w)
    (k0_pay18 q (k0_pay12 (F := Ideal) b f) (k0_pay13 (F := Ideal) w) (k0_pay14 (F := Ideal) b f w) (constant (F := Ideal) S1920x128 .f32 0x00000000#32) st)
    (k0_pay22 q k (k0_pay8 (F := Ideal) l) (sums b f w)
      (k0_pay19 q k (k0_pay8 (F := Ideal) l) (k0_pay12 (F := Ideal) b f) (k0_pay13 (F := Ideal) w) (k0_pay14 (F := Ideal) b f w) (constant (F := Ideal) S1920x128 .f32 0x00000000#32))
      (k0_pay20 (k0_pay12 (F := Ideal) b f) (k0_pay13 (F := Ideal) w) (k0_pay14 (F := Ideal) b f w) (constant (F := Ideal) S1920x128 .f32 0x00000000#32))
      (k0_pay21 (k0_pay12 (F := Ideal) b f) (k0_pay13 (F := Ideal) w) (k0_pay14 (F := Ideal) b f w) (constant (F := Ideal) S1920x128 .f32 0x00000000#32)) 2#32)
    (k0_pay23 (k0_pay8 (F := Ideal) l)) (k0_pay24 q (sums b f w)) (k0_pay25 k (sums b f w)) (constant (F := Ideal) S128x128 .f32 0x00000000#32)

/-- The read-outs' inverse root mean square. -/
def chunkN (q k : FVec Ideal S128x128 .f32) (b : Vec Ideal S1x128 .f32) (f : Vec Ideal S128x128 .f32) (v : Vec Ideal S128x128 .f32)
    (l : Vec Ideal S128x128 .i32) (w : Vec Ideal S1920x128 .bf16) (st : Vec Ideal S128x128 .f32) : FVec Ideal S128x1 .f32 :=
  k0_pay29 q k v (k0_pay8 (F := Ideal) l) (sums b f w)
    (k0_pay18 q (k0_pay12 (F := Ideal) b f) (k0_pay13 (F := Ideal) w) (k0_pay14 (F := Ideal) b f w) (constant (F := Ideal) S1920x128 .f32 0x00000000#32) st)
    (k0_pay22 q k (k0_pay8 (F := Ideal) l) (sums b f w)
      (k0_pay19 q k (k0_pay8 (F := Ideal) l) (k0_pay12 (F := Ideal) b f) (k0_pay13 (F := Ideal) w) (k0_pay14 (F := Ideal) b f w) (constant (F := Ideal) S1920x128 .f32 0x00000000#32))
      (k0_pay20 (k0_pay12 (F := Ideal) b f) (k0_pay13 (F := Ideal) w) (k0_pay14 (F := Ideal) b f w) (constant (F := Ideal) S1920x128 .f32 0x00000000#32))
      (k0_pay21 (k0_pay12 (F := Ideal) b f) (k0_pay13 (F := Ideal) w) (k0_pay14 (F := Ideal) b f w) (constant (F := Ideal) S1920x128 .f32 0x00000000#32)) 2#32)
    (k0_pay23 (k0_pay8 (F := Ideal) l)) (k0_pay24 q (sums b f w)) (k0_pay25 k (sums b f w)) (constant (F := Ideal) S128x128 .f32 0x00000000#32)

theorem chunkN_apply (q k : FVec Ideal S128x128 .f32) (b : Vec Ideal S1x128 .f32) (f : Vec Ideal S128x128 .f32) (v : Vec Ideal S128x128 .f32)
    (l : Vec Ideal S128x128 .i32) (w : Vec Ideal S1920x128 .bf16) (st : Vec Ideal S128x128 .f32) (t : Fin 128) :
    chunkN q k b f v l w st (ix2 t 0) = Ideal.rsqrt (Ideal.div (∑ x, chunkO q k b f v l w st (ix2 t x) * chunkO q k b f v l w st (ix2 t x))
      (Ideal.ofBits FTy.f32 1124073472#32) + Ideal.ofBits FTy.f32 897988541#32) := by
  unfold chunkN
  pointwise [k0_pay29]
  rfl

/-- The state after the chunk, at the kernel's own (transposed) layout. -/
def chunkS (k : FVec Ideal S128x128 .f32) (b : Vec Ideal S1x128 .f32) (f : Vec Ideal S128x128 .f32) (v : Vec Ideal S128x128 .f32)
    (w : Vec Ideal S1920x128 .bf16) (st : Vec Ideal S128x128 .f32) : FVec Ideal S128x128 .f32 :=
  k0_pay27 k v (k0_pay16 (k0_pay12 (F := Ideal) b f) (k0_pay13 (F := Ideal) w) (k0_pay14 (F := Ideal) b f w) (constant (F := Ideal) S1920x128 .f32 0x00000000#32))
    (k0_pay17 (k0_pay12 (F := Ideal) b f) (k0_pay13 (F := Ideal) w) (k0_pay14 (F := Ideal) b f w) (constant (F := Ideal) S1920x128 .f32 0x00000000#32)) st

theorem sums_eq (b : Vec Ideal S1x128 .f32) (f : Vec Ideal S128x128 .f32) (w : Vec Ideal S1920x128 .bf16) :
    k0_pay15 (k0_pay12 (F := Ideal) b f) (k0_pay13 (F := Ideal) w) (k0_pay14 (F := Ideal) b f w) (constant (F := Ideal) S1920x128 .f32 0x00000000#32) = sums b f w := rfl

theorem chunkO_apply (hq : Holds q qr) (hk : Holds k kr) (hg : Holds (k0_pay7 (F := Ideal) b f) gr) (hv : Holds v vr) (hw : IsWin w)
    (hst : Holds st fun j i => sr i j) (t : Fin 128) (j : Fin 128) :
    chunkO q k b f v l w st (ix2 t j) =
      (((∑ i, (qr t i * Real.exp (win 0 t.val fun r => gr r i)) * sr i j)
        + ∑ s, score (fun t s => l (ix2 t s)) qr kr gr t s * vr s j : ℝ) : EReal) := by
  unfold chunkO
  unfold k0_pay18 k0_pay16 k0_pay19 k0_pay20 k0_pay21
  rw [sums_eq]
  pointwise [k0_pay26, k0_pay8, k0_pay22, k0_pay23, k0_pay24, k0_pay25]
  simp only [select_eq, hq _ _, hk _ _, hv _ _, hst _ _, first_apply hg hw, query_apply hg hw 0 (by omega) _ 128 rfl, query_apply hg hw 1 (by omega) _ 256 rfl,
    query_apply hg hw 2 (by omega) _ 384 rfl, query_apply hg hw 3 (by omega) _ 512 rfl, query_apply hg hw 4 (by omega) _ 640 rfl,
    query_apply hg hw 5 (by omega) _ 768 rfl, query_apply hg hw 6 (by omega) _ 896 rfl, key_apply hg hw 0 _ 1024 rfl,
    key_apply hg hw 1 _ 1152 rfl, key_apply hg hw 2 _ 1280 rfl, key_apply hg hw 3 _ 1408 rfl, key_apply hg hw 4 _ 1536 rfl,
    key_apply hg hw 5 _ 1664 rfl, key_apply hg hw 6 _ 1792 rfl, Ideal.exp_coe, ← EReal.coe_mul, sum_real, if_real, ← EReal.coe_add]
  rfl

theorem chunkS_apply (hk : Holds k kr) (hg : Holds (k0_pay7 (F := Ideal) b f) gr) (hv : Holds v vr) (hw : IsWin w)
    (hst : Holds st fun j i => sr i j) (i : Fin 128) (j : Fin 128) :
    chunkS k b f v w st (ix2 j i) =
      ((sr i j * Real.exp (win 0 127 fun r => gr r i) + ∑ s, vr s j * (kr s i *
          Real.exp (win 0 127 (fun r => gr r i) - win 0 s.val fun r => gr r i)) : ℝ) : EReal) := by
  unfold chunkS
  unfold k0_pay17 k0_pay16
  rw [sums_eq]
  pointwise [k0_pay27]
  have h := fun i => row_last (b := b) (f := f) (w := w) hg hw i
  simp only [hk _ _, hv _ _, hst _ _, first_apply hg hw, h, Ideal.exp_coe, ← EReal.coe_mul, ← EReal.coe_sub, sum_real, ← EReal.coe_add]
end

end Cert.HgrnIdeal.Tile

end
-- ==== Proof.HgrnPoints.lean ====
module

public import proofs.«01_k».proof.Proof.HgrnTile
public import proofs.«01_k».proof.Proof.Gen.HgrnIdeal.Value

/-! What a grid point leaves behind: its block of the output, and the state kept for the next chunk, as the chunk's
computation over the blocks the point reads. -/

@[expose] public section

set_option maxRecDepth 16384

noncomputable section

namespace Cert.HgrnIdeal.Tile

open Idealize.ShloMosaic Idealize.ShloMosaic.TcCoe Idealize.SL.Sem
open Cert.HgrnIdeal Cert.HgrnIdeal.Gen Cert.Recurrence

variable (m : (ℓ : Loc nD τ sig) → Buf (Elt Ideal) ℓ)

/-- The point's output block, and the state it leaves, from the state it starts with. -/
def pointOut (c : Dev nD) (t : Fin cfg0.N) (st : Vec Ideal S128x128 .f32) : FVec Ideal S128x128 .f32 :=
  k0_pay1 (chunkO (k0_pay4 (iblk m c 0 t)) (k0_pay6 (iblk m c 4 t) (iblk m c 1 t)) (iblk m c 4 t) (iblk m c 1 t) (iblk m c 2 t) (iblk m c 8 t) (iblk m c 7 t) st)
    (k0_pay28 (iblk m c 5 t))
    (chunkN (k0_pay4 (iblk m c 0 t)) (k0_pay6 (iblk m c 4 t) (iblk m c 1 t)) (iblk m c 4 t) (iblk m c 1 t) (iblk m c 2 t) (iblk m c 8 t) (iblk m c 7 t) st)
    (iblk m c 3 t)

def pointState (c : Dev nD) (t : Fin cfg0.N) (st : Vec Ideal S128x128 .f32) : Vec Ideal S128x128 .f32 :=
  chunkS (k0_pay6 (iblk m c 4 t) (iblk m c 1 t)) (iblk m c 4 t) (iblk m c 1 t) (iblk m c 2 t) (iblk m c 7 t) st

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The state before a point: what the point before it left. -/
def before (c : Dev nD) (t : Fin cfg0.N) : Vec Ideal S128x128 .f32 :=
  (outsAt0 m c (t.val - 1) (Nat.lt_of_le_of_lt (Nat.sub_le _ _) t.isLt)).2.2

theorem state_A (c : Dev nD) (t : Fin cfg0.N) (h0 : t.val % 32 = 0) :
    (outsAt0 m c t.val t.isLt).2.2 = pointState m c t (k0_pay3 (iblk m c 6 t)) := by
  have hsc : scM0_0.IsWhole := Memref.isWhole_whole _
  rw [outsAt0_A m c t h0 (by omega)]
  dsimp only
  unfold sout0_A_0
  rw [View.read_writes_eq_canon _ _ _ (fun y => scover0_A_0 (y := y) ..)]
  unfold kernelRun0_A
  dsimp only
  sl_unfold_words
  simp only [View.canon_cons_unit_zero (S := S128x128) zero2, View.canon_unit_zero (S := S128x128) zero2, View.canon_unit_zero (S := S1x1x128x128) zero4,
    View.readCov_unit_zero (S := S128x128) _ zero2, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, hsc.read_unread, View.ld_unit_zero (S := S128x128) zero2,
    View.ld_unit_zero (S := S1x128) zero2, View.ld_unit_zero (S := S1920x128) zero2, View.ld_unit_zero (S := S1x1x128x128) zero4]
  rfl

theorem out_A (c : Dev nD) (t : Fin cfg0.N) (h0 : t.val % 32 = 0) :
    (outsAt0 m c t.val t.isLt).1 = pointOut m c t (k0_pay3 (iblk m c 6 t)) := by
  have hsc : scM0_0.IsWhole := Memref.isWhole_whole _
  rw [outsAt0_A m c t h0 (by omega)]
  dsimp only
  unfold out0_A_9
  rw [View.read_writes_eq_canon _ _ _ (fun y => cover0_A_9 (y := y) ..)]
  unfold kernelRun0_A
  dsimp only
  sl_unfold_words
  simp only [View.canon_cons_unit_zero (S := S128x128) zero2, View.canon_unit_zero (S := S128x128) zero2, View.canon_unit_zero (S := S1x1x128x128) zero4,
    View.readCov_unit_zero (S := S128x128) _ zero2, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, hsc.read_unread, View.ld_unit_zero (S := S128x128) zero2,
    View.ld_unit_zero (S := S1x128) zero2, View.ld_unit_zero (S := S1920x128) zero2, View.ld_unit_zero (S := S1x1x128x128) zero4]
  rfl

theorem state_B (c : Dev nD) (t : Fin cfg0.N) (h0 : ¬t.val % 32 = 0) (h1 : ¬t.val % 32 = 31) :
    (outsAt0 m c t.val t.isLt).2.2 = pointState m c t (before m c t) := by
  have hsc : scM0_0.IsWhole := Memref.isWhole_whole _
  rw [outsAt0_B m c t h0 h1]
  dsimp only
  unfold sout0_B_0
  rw [View.read_writes_eq_canon _ _ _ (fun y => scover0_B_0 (y := y) ..)]
  unfold kernelRun0_B
  dsimp only
  sl_unfold_words
  simp only [View.canon_cons_unit_zero (S := S128x128) zero2, View.canon_unit_zero (S := S128x128) zero2, View.canon_unit_zero (S := S1x1x128x128) zero4,
    View.readCov_unit_zero (S := S128x128) _ zero2, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, hsc.read_unread, View.ld_unit_zero (S := S128x128) zero2,
    View.ld_unit_zero (S := S1x128) zero2, View.ld_unit_zero (S := S1920x128) zero2, View.ld_unit_zero (S := S1x1x128x128) zero4]
  rfl

theorem out_B (c : Dev nD) (t : Fin cfg0.N) (h0 : ¬t.val % 32 = 0) (h1 : ¬t.val % 32 = 31) :
    (outsAt0 m c t.val t.isLt).1 = pointOut m c t (before m c t) := by
  have hsc : scM0_0.IsWhole := Memref.isWhole_whole _
  rw [outsAt0_B m c t h0 h1]
  dsimp only
  unfold out0_B_9
  rw [View.read_writes_eq_canon _ _ _ (fun y => cover0_B_9 (y := y) ..)]
  unfold kernelRun0_B
  dsimp only
  sl_unfold_words
  simp only [View.canon_cons_unit_zero (S := S128x128) zero2, View.canon_unit_zero (S := S128x128) zero2, View.canon_unit_zero (S := S1x1x128x128) zero4,
    View.readCov_unit_zero (S := S128x128) _ zero2, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, hsc.read_unread, View.ld_unit_zero (S := S128x128) zero2,
    View.ld_unit_zero (S := S1x128) zero2, View.ld_unit_zero (S := S1920x128) zero2, View.ld_unit_zero (S := S1x1x128x128) zero4]
  rfl

theorem state_C (c : Dev nD) (t : Fin cfg0.N) (h1 : t.val % 32 = 31) :
    (outsAt0 m c t.val t.isLt).2.2 = pointState m c t (before m c t) := by
  have hsc : scM0_0.IsWhole := Memref.isWhole_whole _
  rw [outsAt0_C m c t (by omega) h1]
  dsimp only
  unfold sout0_C_0
  rw [View.read_writes_eq_canon _ _ _ (fun y => scover0_C_0 (y := y) ..)]
  unfold kernelRun0_C
  dsimp only
  sl_unfold_words
  simp only [View.canon_cons_unit_zero (S := S128x128) zero2, View.canon_unit_zero (S := S128x128) zero2, View.canon_unit_zero (S := S1x1x128x128) zero4,
    View.readCov_unit_zero (S := S128x128) _ zero2, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, hsc.read_unread, View.ld_unit_zero (S := S128x128) zero2,
    View.ld_unit_zero (S := S1x128) zero2, View.ld_unit_zero (S := S1920x128) zero2, View.ld_unit_zero (S := S1x1x128x128) zero4]
  rfl

theorem out_C (c : Dev nD) (t : Fin cfg0.N) (h1 : t.val % 32 = 31) :
    (outsAt0 m c t.val t.isLt).1 = pointOut m c t (before m c t) := by
  have hsc : scM0_0.IsWhole := Memref.isWhole_whole _
  rw [outsAt0_C m c t (by omega) h1]
  dsimp only
  unfold out0_C_9
  rw [View.read_writes_eq_canon _ _ _ (fun y => cover0_C_9 (y := y) ..)]
  unfold kernelRun0_C
  dsimp only
  sl_unfold_words
  simp only [View.canon_cons_unit_zero (S := S128x128) zero2, View.canon_unit_zero (S := S128x128) zero2, View.canon_unit_zero (S := S1x1x128x128) zero4,
    View.readCov_unit_zero (S := S128x128) _ zero2, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, hsc.read_unread, View.ld_unit_zero (S := S128x128) zero2,
    View.ld_unit_zero (S := S1x128) zero2, View.ld_unit_zero (S := S1920x128) zero2, View.ld_unit_zero (S := S1x1x128x128) zero4]
  rfl

theorem final_C (c : Dev nD) (t : Fin cfg0.N) (h1 : t.val % 32 = 31) :
    (outsAt0 m c t.val t.isLt).2.1 = k0_pay2 (pointState m c t (before m c t)) := by
  have hsc : scM0_0.IsWhole := Memref.isWhole_whole _
  rw [outsAt0_C m c t (by omega) h1]
  dsimp only
  unfold out0_C_10
  rw [View.read_writes_eq_canon _ _ _ (fun y => cover0_C_10 (y := y) ..)]
  unfold kernelRun0_C
  dsimp only
  sl_unfold_words
  simp only [View.canon_cons_unit_zero (S := S128x128) zero2, View.canon_unit_zero (S := S128x128) zero2, View.canon_unit_zero (S := S1x1x128x128) zero4,
    View.readCov_unit_zero (S := S128x128) _ zero2, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, hsc.read_unread, View.ld_unit_zero (S := S128x128) zero2,
    View.ld_unit_zero (S := S1x128) zero2, View.ld_unit_zero (S := S1920x128) zero2, View.ld_unit_zero (S := S1x1x128x128) zero4]
  rfl

end Cert.HgrnIdeal.Tile

end
-- ==== Proof.HgrnBlocks.lean ====
module

public import proofs.«01_k».proof.Proof.HgrnPoints
public import Idealize.ShloMosaic.Lib.StableHlo.ReadAt

/-! What the arrays the host code prepares hold, and the blocks a grid point reads as elements of the arguments: point
`t` is the chunk `t % 32` of the head `t / 32 % 8` of the sequence `t / 256`. -/

@[expose] public section

set_option maxRecDepth 16384

noncomputable section

namespace Cert.HgrnIdeal.Tile

open Idealize.ShloMosaic Idealize.ShloMosaic.TcCoe Idealize.SL.Sem
open Cert.HgrnIdeal Cert.HgrnIdeal.Gen Cert.Recurrence

variable (m : (ℓ : Loc nD τ sig) → Buf (Elt Ideal) ℓ)

/-- The four arguments. -/
def projA (c : Dev nD) : S8192x7168.Idx → EReal := m ((c : Thread nD τ).loc main_arg0)
def floorA (c : Dev nD) : S1024.Idx → EReal := m ((c : Thread nD τ).loc main_arg1)
def scaleA (c : Dev nD) : S128.Idx → EReal := m ((c : Thread nD τ).loc main_arg2)
def startA (c : Dev nD) : S2x8x128x128.Idx → EReal := m ((c : Thread nD τ).loc main_arg3)

theorem window_entry (c : Dev nD) : IsWin (V m c main_v44 : S1920x128.Idx → EReal) :=
  win_of_words _ fun r s => by
    unfold V
    after_reads_at
    rfl

theorem level_entry (c : Dev nD) (t s : Fin 128) : (V m c main_v43 : S128x128.Idx → BitVec 32) (ix2 t s) = levelW t.val s.val := by
  unfold V
  after_reads_at
  rfl

theorem floor_entry (c : Dev nD) (r : Fin 1) (s : Fin 1024) : (V m c main_v45 : S1x1024.Idx → EReal) (ix2 r s) = floorA m c (ix1 s) := by
  unfold V
  after_reads_at
  rfl

theorem scale_entry (c : Dev nD) (r : Fin 1) (s : Fin 128) : (V m c main_v46 : S1x128.Idx → EReal) (ix2 r s) = scaleA m c (ix1 s) := by
  unfold V
  after_reads_at
  rfl

theorem proj_entry (c : Dev nD) : (V m c main_arg0 : S8192x7168.Idx → EReal) = projA m c := by
  unfold V
  after_reads_simp
  rfl

theorem start_entry (c : Dev nD) : (V m c main_arg3 : S2x8x128x128.Idx → EReal) = startA m c := by
  unfold V
  after_reads_simp
  rfl

/-- The row of the sequences at which the point's chunk starts, and the point's head. -/
def row (t : ℕ) : ℕ := t / 256 * 4096 + t % 32 * 128
def head (t : ℕ) : ℕ := t / 32 % 8

theorem point_lt (t : Fin cfg0.N) : t.val < 512 := t.isLt.trans_eq N_0

theorem row_lt (t : Fin cfg0.N) (i : Fin 128) : row t.val + i.val < 8192 := by
  have := point_lt t
  have := i.isLt
  unfold row
  omega

theorem head_lt (t : ℕ) : head t < 8 := Nat.mod_lt _ (by decide)

theorem where0 : ∀ t : Fin grid0.N, win0_0.index t 0 = t.val / 256 * 32 + t.val % 32 ∧ win0_0.index t 1 = t.val / 32 % 8 := by decide +kernel
theorem where1 : ∀ t : Fin grid0.N, win0_1.index t 0 = t.val / 256 * 32 + t.val % 32 ∧ win0_1.index t 1 = 8 + t.val / 32 % 8 := by decide +kernel
theorem where2 : ∀ t : Fin grid0.N, win0_2.index t 0 = t.val / 256 * 32 + t.val % 32 ∧ win0_2.index t 1 = 16 + t.val / 32 % 8 := by decide +kernel
theorem where3 : ∀ t : Fin grid0.N, win0_3.index t 0 = t.val / 256 * 32 + t.val % 32 ∧ win0_3.index t 1 = 24 + t.val / 32 % 8 := by decide +kernel
theorem where4 : ∀ t : Fin grid0.N, win0_4.index t 0 = 0 ∧ win0_4.index t 1 = t.val / 32 % 8 := by decide +kernel
theorem where5 : ∀ t : Fin grid0.N, win0_5.index t 0 = 0 ∧ win0_5.index t 1 = 0 := by decide +kernel
theorem where7 : ∀ t : Fin grid0.N, win0_7.index t 0 = 0 ∧ win0_7.index t 1 = 0 := by decide +kernel
theorem where8 : ∀ t : Fin grid0.N, win0_8.index t 0 = 0 ∧ win0_8.index t 1 = 0 := by decide +kernel
theorem where6 : ∀ t : Fin grid0.N, win0_6.index t 0 = t.val / 256 ∧ win0_6.index t 1 = t.val / 32 % 8 ∧ win0_6.index t 2 = 0 ∧ win0_6.index t 3 = 0 := by decide +kernel

theorem block0 (c : Dev nD) (t : Fin cfg0.N) (i j : Fin 128) : (iblk m c 0 t : S128x128.Idx → EReal) (ix2 i j)
    = projA m c (ix2 ⟨row t.val + i.val, row_lt t i⟩ ⟨head t.val * 128 + j.val, by have := head_lt t.val; omega⟩) := by
  unfold iblk
  rw [View.read_apply]
  show V m c main_arg0 _ = _
  rw [proj_entry]
  refine congrArg (projA m c) (funext fun a => Fin.ext ?_)
  match a with
  | ⟨0, _⟩ => show win0_0.index t 0 * 128 + 1 * i.val = row t.val + i.val; rw [(where0 t).1]; unfold row; omega
  | ⟨1, _⟩ => show win0_0.index t 1 * 128 + 1 * j.val = head t.val * 128 + j.val; rw [(where0 t).2]; unfold head; omega

theorem block1 (c : Dev nD) (t : Fin cfg0.N) (i j : Fin 128) : (iblk m c 1 t : S128x128.Idx → EReal) (ix2 i j)
    = projA m c (ix2 ⟨row t.val + i.val, row_lt t i⟩ ⟨1024 + head t.val * 128 + j.val, by have := head_lt t.val; omega⟩) := by
  unfold iblk
  rw [View.read_apply]
  show V m c main_arg0 _ = _
  rw [proj_entry]
  refine congrArg (projA m c) (funext fun a => Fin.ext ?_)
  match a with
  | ⟨0, _⟩ => show win0_1.index t 0 * 128 + 1 * i.val = row t.val + i.val; rw [(where1 t).1]; unfold row; omega
  | ⟨1, _⟩ => show win0_1.index t 1 * 128 + 1 * j.val = 1024 + head t.val * 128 + j.val; rw [(where1 t).2]; unfold head; omega

theorem block2 (c : Dev nD) (t : Fin cfg0.N) (i j : Fin 128) : (iblk m c 2 t : S128x128.Idx → EReal) (ix2 i j)
    = projA m c (ix2 ⟨row t.val + i.val, row_lt t i⟩ ⟨2048 + head t.val * 128 + j.val, by have := head_lt t.val; omega⟩) := by
  unfold iblk
  rw [View.read_apply]
  show V m c main_arg0 _ = _
  rw [proj_entry]
  refine congrArg (projA m c) (funext fun a => Fin.ext ?_)
  match a with
  | ⟨0, _⟩ => show win0_2.index t 0 * 128 + 1 * i.val = row t.val + i.val; rw [(where2 t).1]; unfold row; omega
  | ⟨1, _⟩ => show win0_2.index t 1 * 128 + 1 * j.val = 2048 + head t.val * 128 + j.val; rw [(where2 t).2]; unfold head; omega

theorem block3 (c : Dev nD) (t : Fin cfg0.N) (i j : Fin 128) : (iblk m c 3 t : S128x128.Idx → EReal) (ix2 i j)
    = projA m c (ix2 ⟨row t.val + i.val, row_lt t i⟩ ⟨3072 + head t.val * 128 + j.val, by have := head_lt t.val; omega⟩) := by
  unfold iblk
  rw [View.read_apply]
  show V m c main_arg0 _ = _
  rw [proj_entry]
  refine congrArg (projA m c) (funext fun a => Fin.ext ?_)
  match a with
  | ⟨0, _⟩ => show win0_3.index t 0 * 128 + 1 * i.val = row t.val + i.val; rw [(where3 t).1]; unfold row; omega
  | ⟨1, _⟩ => show win0_3.index t 1 * 128 + 1 * j.val = 3072 + head t.val * 128 + j.val; rw [(where3 t).2]; unfold head; omega

theorem block4 (c : Dev nD) (t : Fin cfg0.N) (i : Fin 1) (j : Fin 128) : (iblk m c 4 t : S1x128.Idx → EReal) (ix2 i j)
    = (V m c main_v45 : S1x1024.Idx → EReal) (ix2 ⟨i.val, i.isLt⟩ ⟨head t.val * 128 + j.val, by have := head_lt t.val; omega⟩) := by
  unfold iblk
  rw [View.read_apply]
  show V m c main_v45 _ = _
  refine congrArg (V m c main_v45 : S1x1024.Idx → EReal) (funext fun a => Fin.ext ?_)
  match a with
  | ⟨0, _⟩ => show win0_4.index t 0 * 1 + 1 * i.val = i.val; rw [(where4 t).1]; omega
  | ⟨1, _⟩ => show win0_4.index t 1 * 128 + 1 * j.val = head t.val * 128 + j.val; rw [(where4 t).2]; unfold head; omega

theorem block5 (c : Dev nD) (t : Fin cfg0.N) (i : Fin 1) (j : Fin 128) : (iblk m c 5 t : S1x128.Idx → EReal) (ix2 i j)
    = (V m c main_v46 : S1x128.Idx → EReal) (ix2 ⟨i.val, i.isLt⟩ ⟨j.val, j.isLt⟩) := by
  unfold iblk
  rw [View.read_apply]
  show V m c main_v46 _ = _
  refine congrArg (V m c main_v46 : S1x128.Idx → EReal) (funext fun a => Fin.ext ?_)
  match a with
  | ⟨0, _⟩ => show win0_5.index t 0 * 1 + 1 * i.val = i.val; rw [(where5 t).1]; omega
  | ⟨1, _⟩ => show win0_5.index t 1 * 128 + 1 * j.val = j.val; rw [(where5 t).2]; omega

theorem block6 (c : Dev nD) (t : Fin cfg0.N) (a b : Fin 1) (i j : Fin 128) : (iblk m c 6 t : S1x1x128x128.Idx → EReal) (ix4 a b i j)
    = startA m c (ix4 ⟨t.val / 256, by have := point_lt t; omega⟩ ⟨head t.val, head_lt _⟩ i j) := by
  unfold iblk
  rw [View.read_apply]
  show V m c main_arg3 _ = _
  rw [start_entry]
  refine congrArg (startA m c) (funext fun x => Fin.ext ?_)
  match x with
  | ⟨0, _⟩ => show win0_6.index t 0 * 1 + 1 * a.val = t.val / 256; rw [(where6 t).1]; omega
  | ⟨1, _⟩ => show win0_6.index t 1 * 1 + 1 * b.val = head t.val; rw [(where6 t).2.1]; unfold head; omega
  | ⟨2, _⟩ => show win0_6.index t 2 * 128 + 1 * i.val = i.val; rw [(where6 t).2.2.1]; omega
  | ⟨3, _⟩ => show win0_6.index t 3 * 128 + 1 * j.val = j.val; rw [(where6 t).2.2.2]; omega

theorem block7 (c : Dev nD) (t : Fin cfg0.N) (i : Fin 1920) (j : Fin 128) : (iblk m c 7 t : S1920x128.Idx → EReal) (ix2 i j)
    = (V m c main_v44 : S1920x128.Idx → EReal) (ix2 ⟨i.val, i.isLt⟩ ⟨j.val, j.isLt⟩) := by
  unfold iblk
  rw [View.read_apply]
  show V m c main_v44 _ = _
  refine congrArg (V m c main_v44 : S1920x128.Idx → EReal) (funext fun a => Fin.ext ?_)
  match a with
  | ⟨0, _⟩ => show win0_7.index t 0 * 1920 + 1 * i.val = i.val; rw [(where7 t).1]; omega
  | ⟨1, _⟩ => show win0_7.index t 1 * 128 + 1 * j.val = j.val; rw [(where7 t).2]; omega

theorem block8 (c : Dev nD) (t : Fin cfg0.N) (i : Fin 128) (j : Fin 128) : (iblk m c 8 t : S128x128.Idx → BitVec 32) (ix2 i j)
    = (V m c main_v43 : S128x128.Idx → BitVec 32) (ix2 ⟨i.val, i.isLt⟩ ⟨j.val, j.isLt⟩) := by
  unfold iblk
  rw [View.read_apply]
  show V m c main_v43 _ = _
  refine congrArg (V m c main_v43 : S128x128.Idx → BitVec 32) (funext fun a => Fin.ext ?_)
  match a with
  | ⟨0, _⟩ => show win0_8.index t 0 * 128 + 1 * i.val = i.val; rw [(where8 t).1]; omega
  | ⟨1, _⟩ => show win0_8.index t 1 * 128 + 1 * j.val = j.val; rw [(where8 t).2]; omega

end Cert.HgrnIdeal.Tile

end
-- ==== Proof.HgrnValue.lean ====
module

public import proofs.«01_k».proof.Proof.HgrnBlocks
public import Idealize.ShloMosaic.Lib.Pipeline.Value

/-! The kernel's two result arrays: the read-outs of the recurrence, normed and gated, and the recurrence's last
state. -/

@[expose] public section

set_option maxRecDepth 16384

noncomputable section

namespace Cert.HgrnIdeal.Tile

open Idealize.ShloMosaic Idealize.ShloMosaic.TcCoe Idealize.SL.Sem
open Cert.HgrnIdeal Cert.HgrnIdeal.Gen Cert.Recurrence

variable (m : (ℓ : Loc nD τ sig) → Buf (Elt Ideal) ℓ) (c : Dev nD)

/-- The arguments on which the recurrence runs hold real numbers, and the floors aren't negative. -/
structure RealArgs : Prop where
  proj : IsReal (projA m c)
  floor : IsReal (floorA m c)
  pos : ∀ i, 0 ≤ floorA m c i
  start : IsReal (startA m c)

variable {m c}

theorem bias_nonneg (hr : RealArgs m c) (a : ℕ) : 0 ≤ bias (floorA m c) a := by
  unfold bias
  by_cases h : a < 1024
  · rw [dif_pos h]
    exact EReal.toReal_nonneg (hr.pos _)
  · rw [dif_neg h]

theorem row_eq (t i : ℕ) : row t + i = t / 256 * 4096 + (t % 32 * 128 + i) := by unfold row; omega

theorem point_queries (hr : RealArgs m c) (t : Fin cfg0.N) :
    Holds (k0_pay4 (F := Ideal) (iblk m c 0 t)) fun i j => Floor.queries 4096 (projA m c) (t.val / 256) (head t.val) (t.val % 32 * 128 + i.val) j :=
  query_apply' _ (fun i j => at2 (projA m c) (t.val / 256 * 4096 + (t.val % 32 * 128 + i.val)) (head t.val * 128 + j.val)) fun i j => by
    rw [show iblk m c 0 t (ix2 i j) = _ from block0 m c t i j, at2_real hr.proj, row_eq]

theorem point_keeps (hr : RealArgs m c) (t : Fin cfg0.N) : Holds (k0_pay5 (F := Ideal) (iblk m c 4 t) (iblk m c 1 t)) fun i j =>
    Floor.keeps 4096 (projA m c) (floorA m c) (t.val / 256) (head t.val) (t.val % 32 * 128 + i.val) j :=
  keep_apply _ _ (fun i j => at2 (projA m c) (t.val / 256 * 4096 + (t.val % 32 * 128 + i.val)) (1024 + head t.val * 128 + j.val))
    (fun j => bias (floorA m c) (head t.val * 128 + j.val))
    (fun j => by rw [show iblk m c 4 t (ix2 0 j) = _ from block4 m c t 0 j, floor_entry, bias_eq _ hr.floor])
    fun i j => by rw [show iblk m c 1 t (ix2 i j) = _ from block1 m c t i j, at2_real hr.proj, row_eq]

theorem point_keys (hr : RealArgs m c) (t : Fin cfg0.N) : Holds (k0_pay6 (F := Ideal) (iblk m c 4 t) (iblk m c 1 t)) fun i j =>
    Floor.keys 4096 (projA m c) (floorA m c) (t.val / 256) (head t.val) (t.val % 32 * 128 + i.val) j := key_kept (point_keeps hr t)

theorem point_gates (hr : RealArgs m c) (t : Fin cfg0.N) : Holds (k0_pay7 (F := Ideal) (iblk m c 4 t) (iblk m c 1 t)) fun i j =>
    Floor.decays 4096 (projA m c) (floorA m c) (t.val / 256) (head t.val) (t.val % 32 * 128 + i.val) j :=
  decay_kept (point_keeps hr t) fun _ _ => Floor.kept_pos _ _ (bias_nonneg hr _)

theorem point_vals (hr : RealArgs m c) (t : Fin cfg0.N) :
    Holds (iblk m c 2 t) fun i j => Floor.vals 4096 (projA m c) (t.val / 256) (head t.val) (t.val % 32 * 128 + i.val) j := fun i j => by
  rw [show iblk m c 2 t (ix2 i j) = _ from block2 m c t i j, at2_real hr.proj, row_eq]
  rfl

theorem point_window (t : Fin cfg0.N) : IsWin (iblk m c 7 t) := fun r s => by
  rw [show iblk m c 7 t (ix2 r s) = _ from block7 m c t r s]
  exact window_entry m c r s

theorem point_start (hr : RealArgs m c) (t : Fin cfg0.N) :
    Holds (k0_pay3 (F := Ideal) (iblk m c 6 t)) fun j i => Floor.stateOf 4096 (projA m c) (floorA m c) (startA m c) (t.val / 256) (head t.val) 0 i j := by
  intro j i
  pointwise [k0_pay3]
  rw [show iblk m c 6 t (ix4 0 0 i j) = _ from block6 m c t 0 0 i j, start_eq _ hr.start]
  rfl

/-- A point takes the state from its chunk's start to its chunk's end. -/
theorem point_state (hr : RealArgs m c) (t : Fin cfg0.N) (st : Vec Ideal S128x128 .f32)
    (hs : Holds st fun j i => Floor.stateOf 4096 (projA m c) (floorA m c) (startA m c) (t.val / 256) (head t.val) (t.val % 32 * 128) i j) :
    Holds (pointState m c t st) fun j i => Floor.stateOf 4096 (projA m c) (floorA m c) (startA m c) (t.val / 256) (head t.val) (t.val % 32 * 128 + 128) i j := by
  intro j i
  unfold pointState
  rw [chunkS_apply (point_keys hr t) (point_gates hr t) (point_vals hr t) (point_window t) hs]
  exact congrArg _ (chunk_state _ _ _ _ _ _ _)

/-- The read-outs of a point's chunk. -/
theorem point_out (hr : RealArgs m c) (t : Fin cfg0.N) (st : Vec Ideal S128x128 .f32)
    (hs : Holds st fun j i => Floor.stateOf 4096 (projA m c) (floorA m c) (startA m c) (t.val / 256) (head t.val) (t.val % 32 * 128) i j)
    (i : Fin 128) (j : Fin 128) :
    chunkO (k0_pay4 (iblk m c 0 t)) (k0_pay6 (iblk m c 4 t) (iblk m c 1 t)) (iblk m c 4 t) (iblk m c 1 t) (iblk m c 2 t) (iblk m c 8 t) (iblk m c 7 t) st (ix2 i j)
      = ((Floor.outOf 4096 (projA m c) (floorA m c) (startA m c) (t.val / 256) (head t.val) (t.val % 32 * 128 + i.val) j : ℝ) : EReal) := by
  rw [chunkO_apply (point_queries hr t) (point_keys hr t) (point_gates hr t) (point_vals hr t) (point_window t) hs]
  have hl : (fun t' s' => iblk m c 8 t (ix2 t' s')) = fun (t' s' : Fin 128) => levelW t'.val s'.val := funext fun t' => funext fun s' =>
    (block8 m c t t' s').trans (level_entry m c t' s')
  rw [hl]
  exact congrArg _ (chunk_out _ levels _ _ _ _ _ _ _ _)

/-- The state after each point. -/
theorem state_after (hr : RealArgs m c) : ∀ (n : ℕ) (h : n < cfg0.N), Holds (outsAt0 m c n h).2.2 fun j i =>
    Floor.stateOf 4096 (projA m c) (floorA m c) (startA m c) (n / 256) (head n) (n % 32 * 128 + 128) i j := by
  intro n
  induction n with
  | zero =>
    intro h
    rw [show (outsAt0 m c 0 h).2.2 = _ from state_A m c ⟨0, h⟩ rfl]
    exact point_state hr ⟨0, h⟩ _ (point_start hr ⟨0, h⟩)
  | succ n ih =>
    intro h
    by_cases h0 : (n + 1) % 32 = 0
    · rw [show (outsAt0 m c (n + 1) h).2.2 = _ from state_A m c ⟨n + 1, h⟩ h0]
      refine point_state hr ⟨n + 1, h⟩ _ ?_
      have := point_start hr ⟨n + 1, h⟩
      simp only [h0]
      exact this
    · have hb : Holds (before m c ⟨n + 1, h⟩) fun j i => Floor.stateOf 4096 (projA m c) (floorA m c) (startA m c) ((n + 1) / 256) (head (n + 1)) ((n + 1) % 32 * 128) i j := by
        have := ih (Nat.lt_of_succ_lt h)
        rw [show n / 256 = (n + 1) / 256 by omega, show head n = head (n + 1) by unfold head; omega,
          show n % 32 * 128 + 128 = (n + 1) % 32 * 128 by omega] at this
        exact this
      by_cases h1 : (n + 1) % 32 = 31
      · rw [show (outsAt0 m c (n + 1) h).2.2 = _ from state_C m c ⟨n + 1, h⟩ h1]
        exact point_state hr ⟨n + 1, h⟩ _ hb
      · rw [show (outsAt0 m c (n + 1) h).2.2 = _ from state_B m c ⟨n + 1, h⟩ h0 h1]
        exact point_state hr ⟨n + 1, h⟩ _ hb

theorem state_before (hr : RealArgs m c) (t : Fin cfg0.N) (h0 : ¬t.val % 32 = 0) :
    Holds (before m c t) fun j i => Floor.stateOf 4096 (projA m c) (floorA m c) (startA m c) (t.val / 256) (head t.val) (t.val % 32 * 128) i j := by
  have := state_after hr (t.val - 1) (Nat.lt_of_le_of_lt (Nat.sub_le _ _) t.isLt)
  rw [show (t.val - 1) / 256 = t.val / 256 by omega, show head (t.val - 1) = head t.val by unfold head; omega,
    show (t.val - 1) % 32 * 128 + 128 = t.val % 32 * 128 by omega] at this
  exact this

/-- The two result arrays. -/
def outArr (m : (ℓ : Loc nD τ sig) → Buf (Elt Ideal) ℓ) (c : Dev nD) : S8192x1024.Idx → EReal := fun y =>
  Floor.result 4096 (projA m c) (floorA m c) (startA m c) (scaleA m c) ((y 0).val / 4096) ((y 0).val % 4096) ((y 1).val / 128)
    (projA m c (ix2 (y 0) ⟨3072 + (y 1).val, by have : (y 1).val < 1024 := (y 1).isLt; omega⟩)) ⟨(y 1).val % 128, Nat.mod_lt _ (by decide)⟩

def endArr (m : (ℓ : Loc nD τ sig) → Buf (Elt Ideal) ℓ) (c : Dev nD) : S2x8x128x128.Idx → EReal := fun y =>
  ((Floor.stateOf 4096 (projA m c) (floorA m c) (startA m c) (y 0).val (y 1).val 4096 (y 2) (y 3) : ℝ) : EReal)

/-- A point's block of the output. -/
theorem point_normed (hr : RealArgs m c) (t : Fin cfg0.N) (st : Vec Ideal S128x128 .f32)
    (hs : Holds st fun j i => Floor.stateOf 4096 (projA m c) (floorA m c) (startA m c) (t.val / 256) (head t.val) (t.val % 32 * 128) i j)
    (i j : Fin 128) : pointOut m c t st (ix2 i j) = Floor.result 4096 (projA m c) (floorA m c) (startA m c) (scaleA m c) (t.val / 256) (t.val % 32 * 128 + i.val) (head t.val)
      (projA m c (ix2 ⟨row t.val + i.val, row_lt t i⟩ ⟨3072 + head t.val * 128 + j.val, by have := head_lt t.val; omega⟩)) j := by
  unfold pointOut
  pointwise [k0_pay1, k0_pay28]
  rw [chunkN_apply]
  simp only [point_out hr t st hs]
  rw [show iblk m c 5 t (ix2 0 j) = _ from block5 m c t 0 j, show iblk m c 3 t (ix2 i j) = _ from block3 m c t i j, scale_entry]
  rfl

theorem out_block (hr : RealArgs m c) (t : Fin cfg0.N) (i j : Fin 128) :
    (outsAt0 m c t.val t.isLt).1 (ix2 i j) = Floor.result 4096 (projA m c) (floorA m c) (startA m c) (scaleA m c) (t.val / 256) (t.val % 32 * 128 + i.val) (head t.val)
      (projA m c (ix2 ⟨row t.val + i.val, row_lt t i⟩ ⟨3072 + head t.val * 128 + j.val, by have := head_lt t.val; omega⟩)) j := by
  by_cases hA : t.val % 32 = 0
  · rw [out_A m c t hA]
    refine point_normed hr t _ ?_ i j
    have := point_start hr t
    simp only [hA]
    exact this
  · by_cases hC : t.val % 32 = 31
    · rw [out_C m c t hC]
      exact point_normed hr t _ (state_before hr t hA) i j
    · rw [out_B m c t hA hC]
      exact point_normed hr t _ (state_before hr t hA) i j

theorem where9 : ∀ t : Fin grid0.N, win0_9.index t 0 = t.val / 256 * 32 + t.val % 32 ∧ win0_9.index t 1 = t.val / 32 % 8 := by decide +kernel
theorem where10 : ∀ t : Fin grid0.N, win0_10.index t 0 = t.val / 256 ∧ win0_10.index t 1 = t.val / 32 % 8 ∧ win0_10.index t 2 = 0 ∧ win0_10.index t 3 = 0 := by decide +kernel

theorem outArr_at (y : S8192x1024.Idx) (t : Fin cfg0.N) (i j : Fin 128) (h0 : (y 0).val = row t.val + i.val)
    (h1 : (y 1).val = head t.val * 128 + j.val) : outArr m c y = Floor.result 4096 (projA m c) (floorA m c) (startA m c) (scaleA m c) (t.val / 256) (t.val % 32 * 128 + i.val) (head t.val)
      (projA m c (ix2 ⟨row t.val + i.val, row_lt t i⟩ ⟨3072 + head t.val * 128 + j.val, by have := head_lt t.val; omega⟩)) j := by
  have ht := point_lt t
  have hi := i.isLt
  have hj := j.isLt
  unfold row at h0
  unfold outArr
  rw [show (y 0).val / 4096 = t.val / 256 by omega, show (y 0).val % 4096 = t.val % 32 * 128 + i.val by omega, show (y 1).val / 128 = head t.val by omega]
  congr 1
  · refine congrArg (projA m c) (congrArg₂ ix2 (Fin.ext ?_) (Fin.ext ?_))
    · show (y 0).val = row t.val + i.val
      unfold row
      exact h0
    · show 3072 + (y 1).val = 3072 + head t.val * 128 + j.val
      omega
  · apply Fin.ext
    show (y 1).val % 128 = j.val
    omega

theorem final_out (hr : RealArgs m c) : (dats m 0 c).arrAt 9 cfg0.N = outArr m c := by
  refine (dats m 0 c).arrAt_eq_of_cover 9 (outArr m c) ?_ ?_
  · intro t _
    rw [Value.flushed9]
    have ht := point_lt t
    funext y
    rw [View.read_apply]
    show (outsAt0 m c t.val t.isLt).1 y = outArr m c _
    have hy0 : (y 0).val < 128 := (y 0).isLt
    have hy1 : (y 1).val < 128 := (y 1).isLt
    rw [show (outsAt0 m c t.val t.isLt).1 y = (outsAt0 m c t.val t.isLt).1 (ix2 (⟨(y 0).val, hy0⟩ : Fin 128) (⟨(y 1).val, hy1⟩ : Fin 128)) from
      congrArg (outsAt0 m c t.val t.isLt).1 (funext fun a => by fin_cases a <;> rfl)]
    rw [out_block hr t]
    refine (outArr_at _ _ _ _ ?_ ?_).symm
    · show win0_9.index t 0 * 128 + 1 * (y 0).val = row t.val + (y 0).val
      rw [(where9 t).1]
      unfold row
      omega
    · show win0_9.index t 1 * 128 + 1 * (y 1).val = head t.val * 128 + (y 1).val
      rw [(where9 t).2]
      unfold head
      omega
  · intro y
    have hy0 : (y 0).val < 8192 := (y 0).isLt
    have hy1 : (y 1).val < 1024 := (y 1).isLt
    obtain ⟨t, ht⟩ : ∃ t : Fin cfg0.N, t.val = (y 0).val / 4096 * 256 + (y 1).val / 128 * 32 + (y 0).val % 4096 / 128 :=
      ⟨⟨_, by rw [show cfg0.N = 512 from N_0]; omega⟩, rfl⟩
    refine ⟨t, flush0_9 t, ?_⟩
    show y ∈ ((View.whole main_v47_0).slice (win0_9.rect t)).set
    rw [View.set_slice_whole, Rect.mem_set_unit]
    intro a
    match a with
    | ⟨0, _⟩ =>
      show win0_9.index t 0 * 128 ≤ (y 0).val ∧ (y 0).val < win0_9.index t 0 * 128 + 128
      rw [(where9 t).1]
      omega
    | ⟨1, _⟩ =>
      show win0_9.index t 1 * 128 ≤ (y 1).val ∧ (y 1).val < win0_9.index t 1 * 128 + 128
      rw [(where9 t).2]
      omega

theorem endArr_at (y : S2x8x128x128.Idx) (b h : ℕ) (i : Fin 128) (j : Fin 128) (h0 : (y 0).val = b)
    (h1 : (y 1).val = h) (h2 : (y 2).val = i.val) (h3 : (y 3).val = j.val) :
    endArr m c y = ((Floor.stateOf 4096 (projA m c) (floorA m c) (startA m c) b h 4096 i j : ℝ) : EReal) := by
  unfold endArr
  rw [h0, h1, show y 2 = i from Fin.ext h2, show y 3 = j from Fin.ext h3]

theorem end_block (hr : RealArgs m c) (t : Fin cfg0.N) (h31 : t.val % 32 = 31) (a b : Fin 1) (i : Fin 128) (j : Fin 128) :
    k0_pay2 (F := Ideal) (pointState m c t (before m c t)) (ix4 a b i j)
      = ((Floor.stateOf 4096 (projA m c) (floorA m c) (startA m c) (t.val / 256) (head t.val) 4096 i j : ℝ) : EReal) := by
  pointwise [k0_pay2]
  rw [point_state hr t _ (state_before hr t (by omega)), show t.val % 32 * 128 + 128 = 4096 by omega]

theorem final_state (hr : RealArgs m c) : (dats m 0 c).arrAt 10 cfg0.N = endArr m c := by
  refine (dats m 0 c).arrAt_eq_of_cover 10 (endArr m c) ?_ ?_
  · intro t hf
    have h31 : t.val % 32 = 31 := (flush0_10 t).mp hf
    rw [Value.flushed10, final_C m c t h31]
    have ht := point_lt t
    funext y
    rw [View.read_apply]
    have hy2 : (y 2).val < 128 := (y 2).isLt
    have hy3 : (y 3).val < 128 := (y 3).isLt
    have hy0 : (y 0).val < 1 := (y 0).isLt
    have hy1 : (y 1).val < 1 := (y 1).isLt
    show k0_pay2 (F := Ideal) (pointState m c t (before m c t)) y = endArr m c _
    rw [show k0_pay2 (F := Ideal) (pointState m c t (before m c t)) y = k0_pay2 (F := Ideal) (pointState m c t (before m c t))
        (ix4 (⟨(y 0).val, hy0⟩ : Fin 1) (⟨(y 1).val, hy1⟩ : Fin 1) (⟨(y 2).val, hy2⟩ : Fin 128) (⟨(y 3).val, hy3⟩ : Fin 128)) from
      congrArg _ (funext fun a => by fin_cases a <;> rfl)]
    rw [end_block hr t h31]
    refine (endArr_at _ _ _ _ _ ?_ ?_ ?_ ?_).symm
    · show win0_10.index t 0 * 1 + 1 * (y 0).val = _
      rw [(where10 t).1]
      omega
    · show win0_10.index t 1 * 1 + 1 * (y 1).val = _
      rw [(where10 t).2.1]
      unfold head
      omega
    · show win0_10.index t 2 * 128 + 1 * (y 2).val = (y 2).val
      rw [(where10 t).2.2.1]
      omega
    · show win0_10.index t 3 * 128 + 1 * (y 3).val = (y 3).val
      rw [(where10 t).2.2.2]
      omega
  · intro y
    have hy0 : (y 0).val < 2 := (y 0).isLt
    have hy1 : (y 1).val < 8 := (y 1).isLt
    have hy2 : (y 2).val < 128 := (y 2).isLt
    have hy3 : (y 3).val < 128 := (y 3).isLt
    obtain ⟨t, ht⟩ : ∃ t : Fin cfg0.N, t.val = (y 0).val * 256 + (y 1).val * 32 + 31 :=
      ⟨⟨_, by rw [show cfg0.N = 512 from N_0]; omega⟩, rfl⟩
    refine ⟨t, (flush0_10 t).mpr (by omega), ?_⟩
    show y ∈ ((View.whole main_v47_1).slice (win0_10.rect t)).set
    rw [View.set_slice_whole, Rect.mem_set_unit]
    intro a
    match a with
    | ⟨0, _⟩ =>
      show win0_10.index t 0 * 1 ≤ (y 0).val ∧ (y 0).val < win0_10.index t 0 * 1 + 1
      rw [(where10 t).1]
      omega
    | ⟨1, _⟩ =>
      show win0_10.index t 1 * 1 ≤ (y 1).val ∧ (y 1).val < win0_10.index t 1 * 1 + 1
      rw [(where10 t).2.1]
      omega
    | ⟨2, _⟩ =>
      show win0_10.index t 2 * 128 ≤ (y 2).val ∧ (y 2).val < win0_10.index t 2 * 128 + 128
      rw [(where10 t).2.2.1]
      omega
    | ⟨3, _⟩ =>
      show win0_10.index t 3 * 128 ≤ (y 3).val ∧ (y 3).val < win0_10.index t 3 * 128 + 128
      rw [(where10 t).2.2.2]
      omega

end Cert.HgrnIdeal.Tile

end
-- ==== Proof.HgrnRefStep.lean ====
module

public import proofs.«01_k».proof.Proof.ByToken
public import proofs.«01_k».proof.Proof.Gen.HgrnRefIdeal.Run
public import Idealize.ShloMosaic.Lib.StableHlo.ReadAt

/-! One token of the reference's recurrence, read at an index. -/

@[expose] public section

set_option maxRecDepth 16384

noncomputable section

namespace Cert.HgrnRefIdeal.Scan

open Idealize.ShloMosaic Idealize.ShloMosaic.TcCoe Idealize.SL.Sem
open Cert.HgrnRefIdeal Cert.HgrnRefIdeal.Gen Cert.HgrnRefIdeal.Value Cert.Recurrence
open Idealize.ShloMosaic.StableHlo

variable (X : Valuation τ sig (Elt Ideal))

def qS : S4096x2x8x128.Idx → EReal := X (Proc.devRef .tc main_v32_0)
def kS : S4096x2x8x128.Idx → EReal := X (Proc.devRef .tc main_v32_1)
def vS : S4096x2x8x128.Idx → EReal := X (Proc.devRef .tc main_v32_2)
def gS : S4096x2x8x128.Idx → EReal := X (Proc.devRef .tc main_v32_3)
def nS : S_.Idx → BitVec 32 := X (Proc.devRef .tc main_v32_4)
def sS : S2x8x128x128.Idx → EReal := X (Proc.devRef .tc main_v32_5)
def oS : S4096x2x8x128.Idx → EReal := X (Proc.devRef .tc main_v32_6)

theorem new_state (n : Fin 4096) (hn : ∀ i, nS X i = BitVec.ofNat 32 n.val) (b : Fin 2) (h : Fin 8) (i : Fin 128) (j : Fin 128) :
    (res_main_while0b_v65 X : S2x8x128x128.Idx → EReal) (ix4 b h i j)
      = sS X (ix4 b h i j) * Ideal.exp (gS X (ix4 n b h i)) + kS X (ix4 n b h i) * vS X (ix4 n b h j) := by
  have ho := offsets (by decide) (X (Proc.devRef .tc main_v32_4)) n hn (Shape.Idx.first h_S_)
  unfold res_main_while0b_v65
  dsimp only at ho ⊢
  erw [ho]
  pointwise
  exact congrArg₂ (fun x y : EReal => x + y)
    (congrArg (fun x : EReal => sS X (ix4 b h i j) * Ideal.exp x)
      (row4 (gS X) n b h i _ _ _ _ _ _ _ _ (first_start _ n) (shifted (next_start _ n).1) (shifted (next_start _ n).2.1) (shifted (next_start _ n).2.2)))
    (congrArg₂ (fun x y : EReal => x * y)
      (row4 (kS X) n b h i _ _ _ _ _ _ _ _ (first_start _ n) (shifted (next_start _ n).1) (shifted (next_start _ n).2.1) (shifted (next_start _ n).2.2))
      (row4 (vS X) n b h j _ _ _ _ _ _ _ _ (first_start _ n) (shifted (next_start _ n).1) (shifted (next_start _ n).2.1) (shifted (next_start _ n).2.2)))

theorem step_state (n : Fin 4096) (hn : ∀ i, nS X i = BitVec.ofNat 32 n.val) (b : Fin 2) (h : Fin 8) (i : Fin 128) (j : Fin 128) :
    sS (STEP X) (ix4 b h i j)
      = sS X (ix4 b h i j) * Ideal.exp (gS X (ix4 n b h i)) + kS X (ix4 n b h i) * vS X (ix4 n b h j) := by
  unfold sS
  rw [STEP_main_v32_5]
  exact new_state X n hn b h i j

theorem step_count (n : Fin 4096) (hn : ∀ i, nS X i = BitVec.ofNat 32 n.val) (i : S_.Idx) :
    nS (STEP X) i = BitVec.ofNat 32 (n.val + 1) := by
  unfold nS
  rw [STEP_main_v32_4]
  show nS X i + 1#32 = _
  rw [hn, BitVec.ofNat_add]

theorem step_rows (n : Fin 4096) (hn : ∀ i, nS X i = BitVec.ofNat 32 n.val) (n' : Fin 4096) (b : Fin 2) (h : Fin 8) (j : Fin 128) :
    oS (STEP X) (ix4 n' b h j)
      = if n' = n then ∑ i, qS X (ix4 n b h i) * sS (STEP X) (ix4 b h i j) else oS X (ix4 n' b h j) := by
  unfold oS
  rw [STEP_main_v32_6]
  have ho := offsets (by decide) (X (Proc.devRef .tc main_v32_4)) n hn (Shape.Idx.first h_S_)
  unfold step_main_v32_6
  dsimp only at ho ⊢
  erw [ho]
  refine (put_row (D := 128) _ _ n _ n' b h j).trans ?_
  congr 1
  pointwise
  refine Finset.sum_congr rfl fun i _ => congrArg₂ (fun x y : EReal => x * y) ?_ ?_
  · exact row4 (qS X) n b h i _ _ _ _ _ _ _ _ (first_start _ n) (shifted (next_start _ n).1) (shifted (next_start _ n).2.1) (shifted (next_start _ n).2.2)
  · unfold sS
    rw [STEP_main_v32_5]
    rfl

theorem step_keep : qS (STEP X) = qS X ∧ kS (STEP X) = kS X ∧ vS (STEP X) = vS X ∧ gS (STEP X) = gS X :=
  ⟨STEP_main_v32_0 X, STEP_main_v32_1 X, STEP_main_v32_2 X, STEP_main_v32_3 X⟩

end Cert.HgrnRefIdeal.Scan

end
-- ==== Proof.HgrnRefEntry.lean ====
module

public import proofs.«01_k».proof.Proof.HgrnRefStep
public import proofs.«01_k».proof.Proof.Chunk
public import proofs.«01_k».proof.Proof.HgrnData

/-! What the reference's recurrence starts from: its carried arrays as reals. -/

@[expose] public section

set_option maxRecDepth 16384

noncomputable section

namespace Cert.HgrnRefIdeal.Scan

open Idealize.ShloMosaic Idealize.ShloMosaic.TcCoe Idealize.SL.Sem
open Cert.HgrnRefIdeal Cert.HgrnRefIdeal.Gen Cert.HgrnRefIdeal.Value Cert.Recurrence
open Idealize.ShloMosaic.StableHlo

variable (m : (ℓ : Loc nD τ sig) → Buf (Elt Ideal) ℓ) (c : Dev nD)

def proj : S8192x7168.Idx → EReal := m ((c : Thread nD τ).loc main_arg0)
def floor : S1024.Idx → EReal := m ((c : Thread nD τ).loc main_arg1)
def scale : S128.Idx → EReal := m ((c : Thread nD τ).loc main_arg2)
def first : S2x8x128x128.Idx → EReal := m ((c : Thread nD τ).loc main_arg3)

/-- The arguments on which the recurrence runs hold real numbers, and the floors aren't negative. -/
structure RealArgs : Prop where
  ofProj : IsReal (proj m c)
  ofFloor : IsReal (floor m c)
  pos : ∀ i, 0 ≤ floor m c i
  ofStart : IsReal (first m c)

theorem bias_nonneg (hr : RealArgs m c) (a : ℕ) : 0 ≤ bias (floor m c) a := by
  unfold bias
  by_cases h : a < 1024
  · rw [dif_pos h]
    exact EReal.toReal_nonneg (hr.pos _)
  · rw [dif_neg h]

/-- The logistic function as the reference writes it. -/
theorem div_sigm (x : ℝ) : Ideal.div 1 (1 + Ideal.exp (-((x : ℝ) : EReal))) = ((Floor.sigm x : ℝ) : EReal) := by
  rw [← EReal.coe_neg, Ideal.exp_coe, ← EReal.coe_one, ← EReal.coe_add, Ideal.div_coe (by have := Real.exp_pos (-x); positivity), ← EReal.coe_mul,
    one_mul]
  unfold Floor.sigm
  rw [one_div]

theorem q_entry (hr : RealArgs m c) (n : Fin 4096) (b : Fin 2) (h : Fin 8) (i : Fin 128) :
    qS (entryContents preI m c) (ix4 n b h i) = ((Floor.queries 4096 (proj m c) b.val h.val n.val i : ℝ) : EReal) := by
  have hx : proj m c (ix2 ⟨b.val * 4096 + n.val, by omega⟩ ⟨h.val * 128 + i.val, by omega⟩)
      = ((at2 (proj m c) (b.val * 4096 + n.val) (h.val * 128 + i.val) : ℝ) : EReal) := at2_real hr.ofProj _ _ _ _
  unfold Floor.queries
  rw [EReal.coe_mul, EReal.coe_mul, ← div_sigm, ← hx, ← Floor.lit_unit]
  unfold qS
  simp only [entryContents, afterL_cons, afterL_nil]
  after_reads_at
  simp only [id]
  pointwise
  rfl

/-- What the reference keeps of the state, at a token. -/
theorem keep_eq (hr : RealArgs m c) (b n a : ℕ) (hb : b * 4096 + n < 8192) (ha : a < 1024) (h1 : 1024 + a < 7168) :
    floor m c (ix1 ⟨a, ha⟩) + (1 - floor m c (ix1 ⟨a, ha⟩)) * Ideal.div 1 (1 + Ideal.exp (-(proj m c (ix2 ⟨b * 4096 + n, hb⟩ ⟨1024 + a, h1⟩))))
      = ((Floor.kept (bias (floor m c) a) (at2 (proj m c) (b * 4096 + n) (1024 + a)) : ℝ) : EReal) := by
  rw [at2_real hr.ofProj, bias_eq _ hr.ofFloor, div_sigm, ← EReal.coe_one, ← EReal.coe_sub, ← EReal.coe_mul, ← EReal.coe_add]
  rfl

theorem k_entry (hr : RealArgs m c) (n : Fin 4096) (b : Fin 2) (h : Fin 8) (i : Fin 128) :
    kS (entryContents preI m c) (ix4 n b h i) = ((Floor.keys 4096 (proj m c) (floor m c) b.val h.val n.val i : ℝ) : EReal) := by
  unfold Floor.keys Floor.keeps
  rw [EReal.coe_sub, Nat.add_assoc 1024, ← keep_eq m c hr b.val n.val (h.val * 128 + i.val) (by omega) (by omega) (by omega)]
  unfold kS
  simp only [entryContents, afterL_cons, afterL_nil]
  after_reads_at
  simp only [id]
  pointwise
  rfl

theorem v_entry (hr : RealArgs m c) (n : Fin 4096) (b : Fin 2) (h : Fin 8) (i : Fin 128) :
    vS (entryContents preI m c) (ix4 n b h i) = ((Floor.vals 4096 (proj m c) b.val h.val n.val i : ℝ) : EReal) := by
  unfold vS
  simp only [entryContents, afterL_cons, afterL_nil]
  after_reads_at
  simp only [id]
  pointwise
  show proj m c _ = _
  rw [at2_real hr.ofProj]
  unfold Floor.vals
  congr 2
  omega

theorem g_entry (hr : RealArgs m c) (n : Fin 4096) (b : Fin 2) (h : Fin 8) (i : Fin 128) :
    gS (entryContents preI m c) (ix4 n b h i) = ((Floor.decays 4096 (proj m c) (floor m c) b.val h.val n.val i : ℝ) : EReal) := by
  have hp : 0 < Floor.keeps 4096 (proj m c) (floor m c) b.val h.val n.val i := Floor.kept_pos _ _ (bias_nonneg m c hr _)
  have hl : Ideal.log ((Floor.keeps 4096 (proj m c) (floor m c) b.val h.val n.val i : ℝ) : EReal)
      = ((Floor.decays 4096 (proj m c) (floor m c) b.val h.val n.val i : ℝ) : EReal) := by
    rw [Ideal.log_coe, if_neg (not_le.mpr hp)]
    rfl
  rw [← hl]
  unfold Floor.keeps
  rw [Nat.add_assoc 1024, ← keep_eq m c hr b.val n.val (h.val * 128 + i.val) (by omega) (by omega) (by omega)]
  unfold gS
  simp only [entryContents, afterL_cons, afterL_nil]
  after_reads_at
  simp only [id]
  pointwise
  rfl

theorem n_entry (i : S_.Idx) : nS (entryContents preI m c) i = 0#32 := by
  unfold nS
  simp only [entryContents, afterL_cons, afterL_nil]
  after_reads_simp
  rfl

theorem s_entry : sS (entryContents preI m c) = first m c := by
  unfold sS
  simp only [entryContents, afterL_cons, afterL_nil]
  after_reads_simp
  rfl

/-- What the carried arrays hold after `k` tokens. -/
structure After (k : ℕ) (X : Valuation τ sig (Elt Ideal)) : Prop where
  query : ∀ (n : Fin 4096) (b : Fin 2) (h : Fin 8) (i : Fin 128), qS X (ix4 n b h i) = ((Floor.queries 4096 (proj m c) b.val h.val n.val i : ℝ) : EReal)
  key : ∀ (n : Fin 4096) (b : Fin 2) (h : Fin 8) (i : Fin 128), kS X (ix4 n b h i) = ((Floor.keys 4096 (proj m c) (floor m c) b.val h.val n.val i : ℝ) : EReal)
  value : ∀ (n : Fin 4096) (b : Fin 2) (h : Fin 8) (j : Fin 128), vS X (ix4 n b h j) = ((Floor.vals 4096 (proj m c) b.val h.val n.val j : ℝ) : EReal)
  decay : ∀ (n : Fin 4096) (b : Fin 2) (h : Fin 8) (i : Fin 128),
    gS X (ix4 n b h i) = ((Floor.decays 4096 (proj m c) (floor m c) b.val h.val n.val i : ℝ) : EReal)
  count : ∀ i, nS X i = BitVec.ofNat 32 k
  state : ∀ (b : Fin 2) (h : Fin 8) (i : Fin 128) (j : Fin 128),
    sS X (ix4 b h i j) = ((Floor.stateOf 4096 (proj m c) (floor m c) (first m c) b.val h.val k i j : ℝ) : EReal)
  rows : ∀ (n : Fin 4096), n.val < k → ∀ (b : Fin 2) (h : Fin 8) (j : Fin 128),
    oS X (ix4 n b h j) = ((Floor.outOf 4096 (proj m c) (floor m c) (first m c) b.val h.val n.val j : ℝ) : EReal)

theorem after_step (n : Fin 4096) (X : Valuation τ sig (Elt Ideal)) (H : After m c n.val X) : After m c (n.val + 1) (STEP X) := by
  obtain ⟨eq, ek, ev, eg⟩ := step_keep X
  have hs : ∀ (b : Fin 2) (h : Fin 8) (i : Fin 128) (j : Fin 128),
      sS (STEP X) (ix4 b h i j) = ((Floor.stateOf 4096 (proj m c) (floor m c) (first m c) b.val h.val (n.val + 1) i j : ℝ) : EReal) := by
    intro b h i j
    rw [step_state X n H.count, H.state, H.decay, H.key, H.value, Ideal.exp_coe, ← EReal.coe_mul, ← EReal.coe_mul, ← EReal.coe_add]
    rfl
  refine ⟨by rw [eq]; exact H.query, by rw [ek]; exact H.key, by rw [ev]; exact H.value, by rw [eg]; exact H.decay, step_count X n H.count, hs, ?_⟩
  intro n' hn' b h j
  rw [step_rows X n H.count]
  by_cases e : n' = n
  · subst e
    rw [if_pos rfl]
    simp only [hs, H.query]
    exact sum_mul_real _ _
  · rw [if_neg e]
    exact H.rows n' (by have : n'.val ≠ n.val := fun h => e (Fin.ext h); omega) b h j

theorem after_none (hr : RealArgs m c) :
    After m c 0 (entryContents preI m c) where
  query := q_entry m c hr
  key := k_entry m c hr
  value := v_entry m c hr
  decay := g_entry m c hr
  count := n_entry m c
  state b h i j := by
    rw [s_entry, start_eq _ hr.ofStart]
    rfl
  rows n hn := absurd hn (Nat.not_lt_zero _)

theorem after_all (hr : RealArgs m c) (k : ℕ) :
    k ≤ 4096 → After m c k (STEP^[k] (entryContents preI m c)) := by
  generalize hE : entryContents preI m c = E
  have h0 : After m c 0 E := hE ▸ after_none m c hr
  induction k with
  | zero => exact fun _ => h0
  | succ k ih =>
    intro hk
    rw [Function.iterate_succ_apply']
    exact after_step m c ⟨k, by omega⟩ _ (ih (by omega))

theorem last_state (hr : RealArgs m c) :
    ((STEP^[4096] (entryContents preI m c)) (Proc.devRef .tc main_v32_5) : S2x8x128x128.Idx → EReal)
      = fun y => ((Floor.stateOf 4096 (proj m c) (floor m c) (first m c) (y 0).val (y 1).val 4096 (y 2) (y 3) : ℝ) : EReal) := by
  funext y
  obtain ⟨b, h, i, j, rfl⟩ : ∃ (b : Fin 2) (h : Fin 8) (i : Fin 128) (j : Fin 128), y = ix4 b h i j :=
    ⟨y 0, y 1, y 2, y 3, funext fun a => match a with | ⟨0, _⟩ => rfl | ⟨1, _⟩ => rfl | ⟨2, _⟩ => rfl | ⟨3, _⟩ => rfl⟩
  exact (after_all m c hr 4096 le_rfl).state b h i j

theorem out_at (X : Valuation τ sig (Elt Ideal)) (b : Fin 2) (n : Fin 4096) (h : Fin 8) (j : Fin 128) :
    (out_main_v51 X : S8192x1024.Idx → EReal) (ix2 ⟨b.val * 4096 + n.val, by omega⟩ ⟨h.val * 128 + j.val, by omega⟩)
      = normed 1124073472#32 (fun x => oS X (ix4 n b h x)) ((X (Proc.devRef .tc main_arg2) : S128.Idx → EReal) (ix1 j))
        ((X (Proc.devRef .tc main_arg0) : S8192x7168.Idx → EReal) (ix2 ⟨b.val * 4096 + n.val, by omega⟩ ⟨3072 + (h.val * 128 + j.val), by omega⟩)) j := by
  unfold out_main_v51
  pointwise
  rfl

theorem last_out (hr : RealArgs m c) :
    (out_main_v51 (STEP^[4096] (entryContents preI m c)) : S8192x1024.Idx → EReal)
      = fun y => Floor.result 4096 (proj m c) (floor m c) (first m c) (scale m c) ((y 0).val / 4096) ((y 0).val % 4096) ((y 1).val / 128)
        (proj m c (ix2 (y 0) ⟨3072 + (y 1).val, by have : (y 1).val < 1024 := (y 1).isLt; omega⟩)) ⟨(y 1).val % 128, Nat.mod_lt _ (by decide)⟩ := by
  have H := after_all m c hr 4096 le_rfl
  have e0 := iter_main_arg0 (F := Ideal) m c 4096
  have e2 := iter_main_arg2 (F := Ideal) m c 4096
  generalize STEP^[4096] (entryContents preI m c) = X at H e0 e2
  funext y
  have h0 : (y 0).val < 8192 := (y 0).isLt
  have h1 : (y 1).val < 1024 := (y 1).isLt
  have hy : y = ix2 ⟨(y 0).val / 4096 * 4096 + (y 0).val % 4096, by omega⟩ ⟨(y 1).val / 128 * 128 + (y 1).val % 128, by omega⟩ :=
    funext fun a => match a with
      | ⟨0, _⟩ => Fin.ext (by show (y 0).val = (y 0).val / 4096 * 4096 + (y 0).val % 4096; omega)
      | ⟨1, _⟩ => Fin.ext (by show (y 1).val = (y 1).val / 128 * 128 + (y 1).val % 128; omega)
  refine (congrArg (out_main_v51 X : S8192x1024.Idx → EReal) hy).trans ?_
  refine (out_at X ⟨(y 0).val / 4096, by omega⟩ ⟨(y 0).val % 4096, Nat.mod_lt _ (by decide)⟩ ⟨(y 1).val / 128, by omega⟩
    ⟨(y 1).val % 128, Nat.mod_lt _ (by decide)⟩).trans ?_
  rw [e0, e2]
  have e : (ix2 ⟨(y 0).val / 4096 * 4096 + (y 0).val % 4096, by omega⟩ ⟨3072 + ((y 1).val / 128 * 128 + (y 1).val % 128), by omega⟩ : S8192x7168.Idx)
      = ix2 (y 0) ⟨3072 + (y 1).val, by omega⟩ :=
    congrArg₂ ix2 (Fin.ext (by show (y 0).val / 4096 * 4096 + (y 0).val % 4096 = (y 0).val; omega))
      (Fin.ext (by show 3072 + ((y 1).val / 128 * 128 + (y 1).val % 128) = 3072 + (y 1).val; omega))
  simp only [H.rows _ (Fin.isLt _)]
  rw [e]
  rfl

end Cert.HgrnRefIdeal.Scan

end
-- ==== Proof.Short.lean ====
module

public import proofs.«01_k».proof.Proof.Chunk

/-! Sequences of eight tokens, padded to a chunk of 128 with tokens that neither change the state nor read it: their
queries, keys, values and gates are zero. -/

@[expose] public section

set_option maxRecDepth 16384

noncomputable section

namespace Cert.Recurrence

open Idealize.ShloMosaic

/-- The first eight tokens of a sequence, and zeros after them. -/
def cut {ι : Type} (f : ℕ → ι → ℝ) (n : ℕ) (i : ι) : ℝ := if n < 8 then f n i else 0

theorem cut_in {ι : Type} (f : ℕ → ι → ℝ) {n : ℕ} (h : n < 8) (i : ι) : cut f n i = f n i := if_pos h
theorem cut_out {ι : Type} (f : ℕ → ι → ℝ) {n : ℕ} (h : ¬n < 8) (i : ι) : cut f n i = 0 := if_neg h

section
variable {ι κ : Type} (q g k : ℕ → ι → ℝ) (v : ℕ → κ → ℝ) (s0 : ι → κ → ℝ)

theorem state_cut (n : ℕ) (hn : n ≤ 8) (i : ι) (j : κ) : state (cut g) (cut k) (cut v) s0 n i j = state g k v s0 n i j := by
  induction n with
  | zero => rfl
  | succ n ih =>
    show state (cut g) (cut k) (cut v) s0 n i j * Real.exp (cut g n i) + cut k n i * cut v n j = state g k v s0 n i j * Real.exp (g n i) + k n i * v n j
    rw [ih (by omega), cut_in g (by omega), cut_in k (by omega), cut_in v (by omega)]

/-- The padding leaves the state. -/
theorem state_kept (n : ℕ) (i : ι) (j : κ) : state (cut g) (cut k) (cut v) s0 (8 + n) i j = state g k v s0 8 i j := by
  induction n with
  | zero => exact state_cut g k v s0 8 le_rfl i j
  | succ n ih =>
    show state (cut g) (cut k) (cut v) s0 (8 + n) i j * Real.exp (cut g (8 + n) i) + cut k (8 + n) i * cut v (8 + n) j = _
    rw [ih, cut_out g (by omega), cut_out k (by omega), Real.exp_zero, mul_one, zero_mul, add_zero]

theorem out_cut [Fintype ι] (n : ℕ) (hn : n < 8) (j : κ) : out (cut q) (cut g) (cut k) (cut v) s0 n j = out q g k v s0 n j := by
  unfold out
  refine Finset.sum_congr rfl fun i _ => ?_
  rw [cut_in q hn, state_cut g k v s0 (n + 1) hn]
end

/-- A tile whose rows after the eighth are set to zero, holding real numbers. -/
def Kept {n : ℕ} (x : (⟨2, ![128, n]⟩ : Shape).Idx → EReal) (f : Fin 128 → Fin n → ℝ) : Prop :=
  ∀ i j, Scalar.select (IntOp.cmpi CmpIPredicate.slt (BitVec.ofNat 32 i.val) 8#32) (x (ix2 i j)) 0 = ((f i j : ℝ) : EReal)

theorem early : ∀ i : Fin 128, IntOp.cmpi CmpIPredicate.slt (BitVec.ofNat 32 i.val) 8#32 = if i.val < 8 then 1#1 else 0#1 := by decide

theorem kept_of {n : ℕ} {x : (⟨2, ![128, n]⟩ : Shape).Idx → EReal} (f : ℕ → Fin n → ℝ)
    (h : ∀ (i : Fin 128) (j : Fin n), i.val < 8 → x (ix2 i j) = ((f i.val j : ℝ) : EReal)) : Kept x fun i j => cut f i.val j := by
  intro i j
  show _ = ((cut f i.val j : ℝ) : EReal)
  rw [early]
  by_cases hi : i.val < 8
  · rw [if_pos hi, cut_in f hi, ← h i j hi]
    rfl
  · rw [if_neg hi, cut_out f hi]
    rfl

end Cert.Recurrence

end
-- ==== Proof.GlaSampleTile.lean ====
module

public import proofs.«01_k».proof.Proof.Short
public import proofs.«01_k».proof.Proof.Tile
public import proofs.«01_k».proof.Proof.Gen.GlaSampleIdeal.Skeleton
public import Idealize.ShloMosaic.Lib.Pointwise

/-! One grid point of the kernel over a padded sequence, read at an index: keys and gates after the eighth token are set
to zero, and what it computes from the tiles is the chunk formula of `Recurrence`. -/

@[expose] public section

set_option maxRecDepth 16384

noncomputable section

namespace Cert.GlaSampleIdeal.Tile

open Idealize.ShloMosaic Idealize.ShloMosaic.TcCoe Idealize.SL.Sem
open Cert.GlaSampleIdeal Cert.GlaSampleIdeal.Gen Cert.Recurrence
open Cert.GlaIdeal.Tile (lit_sixteen lit_sixteenth)

/-- The number of each row. -/
def rows : IVec S128x256 32 := iota .tc S128x256 32 [0] iota_S128x256_d0_w32

theorem sums_apply (g : FVec Ideal S128x256 .f32) (w : Vec Ideal S1920x128 .bf16) (gr : Fin 128 → Fin 256 → ℝ) (hg : Kept g gr)
    (hw : IsWin w) (r : Fin 1920) (i : Fin 256) :
    k0_pay12 (F := Ideal) g rows w (ix2 r i) = ((win (rowLo r.val) (rowHi r.val) fun s => gr s i : ℝ) : EReal) := by
  pointwise [k0_pay12, k0_pay8, rows]
  simp only [hg _ _, hw _ _, ← EReal.coe_sub, sub_self, sum_mul_real, mul_zero, Finset.sum_const_zero, ← EReal.coe_add, add_zero]
  unfold win
  norm_cast
  simp
  have hx : ∀ x : Fin 128, Scalar.select (IntOp.cmpi CmpIPredicate.slt (BitVec.ofNat 32 x.val) 8#32)
      (if rowLo r.val ≤ x.val ∧ x.val ≤ rowHi r.val then g (ix2 x i) else 0) 0
      = ((if rowLo r.val ≤ x.val ∧ x.val ≤ rowHi r.val then gr x i else 0 : ℝ) : EReal) := fun x => by
    by_cases h : rowLo r.val ≤ x.val ∧ x.val ≤ rowHi r.val
    · rw [if_pos h, if_pos h]
      exact hg x i
    · rw [if_neg h, if_neg h, early, EReal.coe_zero]
      split <;> rfl
  rw [Finset.sum_congr rfl fun x _ => hx x, sum_real]

section
variable {q k g : FVec Ideal S128x256 .f32} {v : FVec Ideal S128x512 .f32} {l : Vec Ideal S128x128 .i32} {w : Vec Ideal S1920x128 .bf16}
  {st : Vec Ideal S512x256 .f32} {qr kr gr : Fin 128 → Fin 256 → ℝ} {vr : Fin 128 → Fin 512 → ℝ} {sr : Fin 256 → Fin 512 → ℝ}

theorem first_apply (hg : Kept g gr) (hw : IsWin w) (t : Fin 128) (h : t.val < 1920) (i : Fin 256) :
    k0_pay12 (F := Ideal) g rows w (ix2 ⟨t.val, h⟩ i) = ((win 0 t.val fun s => gr s i : ℝ) : EReal) := by
  rw [sums_apply g w gr hg hw, (row_first t.val t.isLt).1, (row_first t.val t.isLt).2]

theorem row_last (hg : Kept g gr) (hw : IsWin w) (i : Fin 256) :
    k0_pay12 (F := Ideal) g rows w (ix2 127 i) = ((win 0 127 fun s => gr s i : ℝ) : EReal) :=
  first_apply hg hw 127 (by decide) i

theorem query_apply (hg : Kept g gr) (hw : IsWin w) (li : ℕ) (hl : li < 7) (t : Fin 128) (n : ℕ) (hn : n = (li + 1) * 128)
    (h : n + t.val < 1920) (i : Fin 256) :
    k0_pay12 (F := Ideal) g rows w (ix2 ⟨n + t.val, h⟩ i) = ((win (mid li t.val) t.val fun s => gr s i : ℝ) : EReal) := by
  subst hn
  rw [sums_apply g w gr hg hw, (row_query li t.val hl t.isLt).1, (row_query li t.val hl t.isLt).2]

theorem key_apply (hg : Kept g gr) (hw : IsWin w) (li : ℕ) (s : Fin 128) (n : ℕ) (hn : n = (li + 8) * 128)
    (h : n + s.val < 1920) (i : Fin 256) :
    k0_pay12 (F := Ideal) g rows w (ix2 ⟨n + s.val, h⟩ i) = ((win (s.val + 1) (mid li s.val - 1) fun s => gr s i : ℝ) : EReal) := by
  subst hn
  rw [sums_apply g w gr hg hw, (row_key li s.val s.isLt).1, (row_key li s.val s.isLt).2]

theorem key_kept (hk : Kept k kr) (s : Fin 128) (i : Fin 256) : k0_pay9 (F := Ideal) k rows (ix2 s i) = ((kr s i : ℝ) : EReal) := by
  pointwise [k0_pay9, k0_pay8, rows]
  exact hk s i

/-- What a token reads of the state at the chunk's start, and of the chunk's own tokens. -/
def fromStart (q g : FVec Ideal S128x256 .f32) (w : Vec Ideal S1920x128 .bf16) (st : Vec Ideal S512x256 .f32) : FVec Ideal S128x512 .f32 :=
  k0_pay15 q g rows w st

def fromChunk (q k g : FVec Ideal S128x256 .f32) (v : FVec Ideal S128x512 .f32) (l : Vec Ideal S128x128 .i32)
    (w : Vec Ideal S1920x128 .bf16) : FVec Ideal S128x512 .f32 :=
  k0_pay23 q (k0_pay9 k rows) v (k0_pay11 (F := Ideal) l) (k0_pay12 g rows w)
    (k0_pay19 q (k0_pay9 k rows) (k0_pay11 (F := Ideal) l) (k0_pay12 g rows w) (k0_pay16 q k rows l) (k0_pay17 g rows w) (k0_pay18 g rows w) 0#32)
    (k0_pay20 (k0_pay11 (F := Ideal) l)) (k0_pay21 q (k0_pay12 g rows w)) (k0_pay22 (k0_pay9 k rows) (k0_pay12 g rows w)) (constant (F := Ideal) S128x128 .f32 0x00000000#32)

/-- The state after the chunk, at the kernel's own (transposed) layout. -/
def chunkS (k g : FVec Ideal S128x256 .f32) (v : FVec Ideal S128x512 .f32)
    (w : Vec Ideal S1920x128 .bf16) (st : Vec Ideal S512x256 .f32) : FVec Ideal S512x256 .f32 :=
  k0_pay1 (k0_pay9 k rows) v (k0_pay13 g rows w) (k0_pay14 g rows w) st

theorem chunkO_apply (hq : Holds q qr) (hk : Kept k kr) (hg : Kept g gr) (hv : Holds v vr) (hw : IsWin w)
    (hst : Holds st fun j i => sr i j) (t : Fin 128) (j : Fin 512) :
    fromStart q g w st (ix2 t j) + fromChunk q k g v l w (ix2 t j) =
      (((∑ i, (qr t i * Real.exp (win 0 t.val fun r => gr r i)) * sr i j)
        + ∑ s, score (fun t s => l (ix2 t s)) qr kr gr t s * vr s j : ℝ) : EReal) := by
  unfold fromStart fromChunk
  pointwise [k0_pay15, k0_pay23, k0_pay11, k0_pay13, k0_pay19, k0_pay16, k0_pay17, k0_pay18, k0_pay20, k0_pay21, k0_pay22]
  simp only [select_eq, hq _ _, key_kept hk _ _, hv _ _, hst _ _, first_apply hg hw, query_apply hg hw 0 (by omega) _ 128 rfl, query_apply hg hw 1 (by omega) _ 256 rfl,
    query_apply hg hw 2 (by omega) _ 384 rfl, query_apply hg hw 3 (by omega) _ 512 rfl, query_apply hg hw 4 (by omega) _ 640 rfl,
    query_apply hg hw 5 (by omega) _ 768 rfl, query_apply hg hw 6 (by omega) _ 896 rfl, key_apply hg hw 0 _ 1024 rfl,
    key_apply hg hw 1 _ 1152 rfl, key_apply hg hw 2 _ 1280 rfl, key_apply hg hw 3 _ 1408 rfl, key_apply hg hw 4 _ 1536 rfl,
    key_apply hg hw 5 _ 1664 rfl, key_apply hg hw 6 _ 1792 rfl, Ideal.exp_coe, ← EReal.coe_mul, sum_real, if_real, ← EReal.coe_add]
  rfl

theorem chunkS_apply (hk : Kept k kr) (hg : Kept g gr) (hv : Holds v vr) (hw : IsWin w)
    (hst : Holds st fun j i => sr i j) (i : Fin 256) (j : Fin 512) :
    chunkS k g v w st (ix2 j i) =
      ((sr i j * Real.exp (win 0 127 fun r => gr r i) + ∑ s, vr s j * (kr s i *
          Real.exp (win 0 127 (fun r => gr r i) - win 0 s.val fun r => gr r i)) : ℝ) : EReal) := by
  unfold chunkS
  pointwise [k0_pay1, k0_pay13, k0_pay14]
  have h := fun i => row_last (g := g) (w := w) hg hw i
  simp only [key_kept hk _ _, hv _ _, hst _ _, first_apply hg hw, h, Ideal.exp_coe, ← EReal.coe_mul, ← EReal.coe_sub, sum_real, ← EReal.coe_add]
end

theorem gate_apply (a : Vec Ideal S128x128 .f32) (w : Vec Ideal S128x256 .bf16) (b : Vec Ideal S1x256 .f32) (x : Fin 128 → Fin 256 → ℝ)
    (h : ∀ t i, ∑ r, a (ix2 t r) * w (ix2 r i) + b (ix2 0 i) = ((x t i : ℝ) : EReal)) :
    Holds (k0_pay7 (F := Ideal) a w b) fun t i => gate (x t i) := by
  intro t i
  pointwise [k0_pay7]
  rw [h, lit_sixteen, abs_real, ← EReal.coe_zero, ← EReal.coe_sub, ← EReal.coe_sub, Ideal.exp_coe, ← EReal.coe_one, ← EReal.coe_add, Ideal.log_coe,
    if_neg (by have := Real.exp_pos (0 - |x t i|); linarith), max_real, ← EReal.coe_add, ← EReal.coe_sub, Ideal.div_coe (by norm_num), ← EReal.coe_mul]
  unfold gate
  congr 1
  simp only [zero_sub]
  ring

theorem query_scaled (q : Vec Ideal S128x256 .f32) (qr : Fin 128 → Fin 256 → ℝ) (hq : Holds q qr) :
    Holds (k0_pay5 (F := Ideal) q) fun t i => qr t i * 0.0625 := by
  intro t i
  pointwise [k0_pay5]
  rw [hq, lit_sixteenth, ← EReal.coe_mul]

end Cert.GlaSampleIdeal.Tile

end
-- ==== Proof.GlaSamplePoints.lean ====
module

public import proofs.«01_k».proof.Proof.GlaSampleTile
public import proofs.«01_k».proof.Proof.Gen.GlaSampleIdeal.Value
public import Idealize.ShloMosaic.Lib.Pipeline.ValueKit.Acc

/-! What a grid point leaves behind: its block of the output, and the state after its chunk, as the chunk's computation
over the blocks the point reads. -/

@[expose] public section

set_option maxRecDepth 16384

noncomputable section

namespace Cert.GlaSampleIdeal.Tile

open Idealize.ShloMosaic Idealize.ShloMosaic.TcCoe Idealize.SL.Sem
open Cert.GlaSampleIdeal Cert.GlaSampleIdeal.Gen Cert.Recurrence

variable (m : (ℓ : Loc nD τ sig) → Buf (Elt Ideal) ℓ)

/-- The gates of the point's chunk. -/
def gates (c : Dev nD) (t : Fin cfg0.N) : FVec Ideal S128x256 .f32 := k0_pay7 (iblk m c 4 t) (iblk m c 5 t) (iblk m c 6 t)

/-- The point's output block, and the state it leaves, from the state it starts with. -/
def pointOut (c : Dev nD) (t : Fin cfg0.N) (st : Vec Ideal S512x256 .f32) : FVec Ideal S128x512 .f32 :=
  k0_pay2 (fromStart (k0_pay5 (X0_0 m c t)) (gates m c t) (iblk m c 9 t) st)
    (fromChunk (k0_pay5 (X0_0 m c t)) (k0_pay6 (X0_1 m c t)) (gates m c t) (k0_pay10 (X0_2 m c t)) (iblk m c 10 t) (iblk m c 9 t)) (iblk m c 7 t) (X0_3 m c t)

def pointState (c : Dev nD) (t : Fin cfg0.N) (st : Vec Ideal S512x256 .f32) : Vec Ideal S512x256 .f32 :=
  chunkS (k0_pay6 (X0_1 m c t)) (gates m c t) (k0_pay10 (X0_2 m c t)) (iblk m c 9 t) st

theorem zero2 : (![0, 0] : Fin 2 → Nat) = fun _ => 0 := funext fun a => by fin_cases a <;> rfl
theorem zero4 : (![0, 0, 0, 0] : Fin 4 → Nat) = fun _ => 0 := funext fun a => by fin_cases a <;> rfl

theorem out_A (c : Dev nD) (t : Fin cfg0.N) :
    (outsAt0 m c t).1 = pointOut m c t (k0_pay4 (iblk m c 8 t)) := by
  have hsc : scM0_0.IsWhole := Memref.isWhole_whole _
  unfold outsAt0
  dsimp only
  unfold out0_A_11
  rw [View.read_writes_eq_canon _ _ _ (fun y => cover0_A_11 (y := y) ..)]
  unfold kernelRun0_A
  dsimp only
  sl_unfold_words
  simp only [View.canon_cons_unit_zero (S := S512x256) zero2, View.canon_unit_zero (S := S512x256) zero2, View.canon_unit_zero (S := S128x512) zero2,
    View.canon_unit_zero (S := S1x1x256x512) zero4, View.readCov_unit_zero (S := S512x256) _ zero2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    hsc.read_unread,
    View.ld_unit_zero (S := S128x256) zero2, View.ld_unit_zero (S := S128x512) zero2, View.ld_unit_zero (S := S128x128) zero2, View.ld_unit_zero (S := S1x256) zero2, View.ld_unit_zero (S := S1x512) zero2, View.ld_unit_zero (S := S1920x128) zero2, View.ld_unit_zero (S := S512x256) zero2, View.ld_unit_zero (S := S1x1x256x512) zero4]
  rfl

theorem final_A (c : Dev nD) (t : Fin cfg0.N) :
    (outsAt0 m c t).2 = k0_pay3 (pointState m c t (k0_pay4 (iblk m c 8 t))) := by
  have hsc : scM0_0.IsWhole := Memref.isWhole_whole _
  unfold outsAt0
  dsimp only
  unfold out0_A_12
  rw [View.read_writes_eq_canon _ _ _ (fun y => cover0_A_12 (y := y) ..)]
  unfold kernelRun0_A
  dsimp only
  sl_unfold_words
  simp only [View.canon_cons_unit_zero (S := S512x256) zero2, View.canon_unit_zero (S := S512x256) zero2, View.canon_unit_zero (S := S128x512) zero2,
    View.canon_unit_zero (S := S1x1x256x512) zero4, View.readCov_unit_zero (S := S512x256) _ zero2, View.readAt_eq_ld,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    hsc.read_unread,
    View.ld_unit_zero (S := S128x256) zero2, View.ld_unit_zero (S := S128x512) zero2, View.ld_unit_zero (S := S128x128) zero2, View.ld_unit_zero (S := S1x256) zero2, View.ld_unit_zero (S := S1x512) zero2, View.ld_unit_zero (S := S1920x128) zero2, View.ld_unit_zero (S := S512x256) zero2, View.ld_unit_zero (S := S1x1x256x512) zero4]
  exact (congrArg k0_pay3 (View.readCov_cons_unit_lit' (S := S512x256) _ _ _ _ _ (fun a => by fin_cases a <;> rfl) (fun a => by fin_cases a <;> rfl))).trans rfl

end Cert.GlaSampleIdeal.Tile

end
-- ==== Proof.GlaSampleTables.lean ====
module

public import proofs.«01_k».proof.Proof.GlaSampleTile
public import Idealize.ShloMosaic.Lib.StableHlo.ReadAt
public import proofs.«01_k».proof.Proof.Gen.GlaSampleIdeal.Value

/-! What the arrays the kernel's host code prepares hold: the window table, the level table, the padded gate matrix, the padded projection. -/

@[expose] public section

set_option maxRecDepth 16384

noncomputable section

namespace Cert.GlaSampleIdeal.Tile

open Idealize.ShloMosaic Idealize.ShloMosaic.TcCoe Idealize.SL.Sem
open Cert.GlaSampleIdeal Cert.GlaSampleIdeal.Gen Cert.Recurrence

variable (m : (ℓ : Loc nD τ sig) → Buf (Elt Ideal) ℓ)

/-- The five arguments. -/
def projA (c : Dev nD) : S64x6272.Idx → EReal := m ((c : Thread nD τ).loc main_arg0)
def gateA (c : Dev nD) : S16x1024.Idx → EReal := m ((c : Thread nD τ).loc main_arg1)
def biasA (c : Dev nD) : S1024.Idx → EReal := m ((c : Thread nD τ).loc main_arg2)
def scaleA (c : Dev nD) : S512.Idx → EReal := m ((c : Thread nD τ).loc main_arg3)
def startA (c : Dev nD) : S8x4x256x512.Idx → EReal := m ((c : Thread nD τ).loc main_arg4)

theorem window_entry (c : Dev nD) : IsWin (V m c main_v49 : S1920x128.Idx → EReal) :=
  win_of_words _ fun r s => by
    unfold V
    after_reads_at
    rfl

theorem level_entry (c : Dev nD) (t s : Fin 128) : (V m c main_v48 : S128x128.Idx → BitVec 32) (ix2 t s) = levelW t.val s.val := by
  unfold V
  after_reads_at
  rfl

/-- The gate's weights, padded with rows of zeros. -/
theorem gate_entry (c : Dev nD) (r : Fin 128) (s : Fin 1024) : (V m c main_v1 : S128x1024.Idx → EReal) (ix2 r s)
    = if h : r.val < 16 then gateA m c (ix2 ⟨r.val, h⟩ s) else 0 := by
  unfold V
  after_reads_at
  by_cases h : r.val < 16
  · rw [dif_pos h, dif_pos h]
    rfl
  · rw [dif_neg h, dif_neg h]
    show (((0#32).toInt : ℝ) : EReal) = 0
    simp

theorem bias_entry (c : Dev nD) (r : Fin 1) (s : Fin 1024) : (V m c main_v50 : S1x1024.Idx → EReal) (ix2 r s) = biasA m c (ix1 s) := by
  unfold V
  after_reads_at
  rfl

theorem scale_entry (c : Dev nD) (r : Fin 1) (s : Fin 512) : (V m c main_v51 : S1x512.Idx → EReal) (ix2 r s) = scaleA m c (ix1 s) := by
  unfold V
  after_reads_at
  rfl

/-- The projection's rows, eight to a chunk, and zeros after them. -/
theorem proj_entry (c : Dev nD) (r : Fin 1024) (s : Fin 6272) (h : r.val % 128 < 8) : (V m c main_v4 : S1024x6272.Idx → EReal) (ix2 r s)
    = projA m c (ix2 ⟨r.val / 128 * 8 + r.val % 128, by omega⟩ s) := by
  unfold V
  after_reads_at
  exact dif_pos (show r.val / 128 < 8 ∧ r.val % 128 < 8 from ⟨by omega, h⟩)

theorem proj_zero (c : Dev nD) (r : Fin 1024) (s : Fin 6272) (h : ¬r.val % 128 < 8) : (V m c main_v4 : S1024x6272.Idx → EReal) (ix2 r s) = (0 : EReal) := by
  unfold V
  after_reads_at
  refine (dif_neg (show ¬(r.val / 128 < 8 ∧ r.val % 128 < 8) from fun h' => h h'.2)).trans ?_
  show (((0#32).toInt : ℝ) : EReal) = 0
  simp

theorem start_entry (c : Dev nD) : (V m c main_arg4 : S8x4x256x512.Idx → EReal) = startA m c := by
  unfold V
  after_reads_simp
  rfl

end Cert.GlaSampleIdeal.Tile

end
-- ==== Proof.GlaSampleBlocks.lean ====
module

public import proofs.«01_k».proof.Proof.GlaSamplePoints
public import proofs.«01_k».proof.Proof.GlaSampleTables

/-! The blocks a grid point reads, as elements of the arguments: point `t` is the head `t % 4` of the sequence
`t / 4`. -/

@[expose] public section

set_option maxRecDepth 16384

noncomputable section

namespace Cert.GlaSampleIdeal.Tile

open Idealize.ShloMosaic Idealize.ShloMosaic.TcCoe Idealize.SL.Sem
open Cert.GlaSampleIdeal Cert.GlaSampleIdeal.Gen Cert.Recurrence

variable (m : (ℓ : Loc nD τ sig) → Buf (Elt Ideal) ℓ)

/-- The row of the sequences at which the point's chunk starts, and the point's head. -/
def row (t : ℕ) : ℕ := t / 4 * 128
def head (t : ℕ) : ℕ := t % 4

theorem point_lt (t : Fin cfg0.N) : t.val < 32 := t.isLt.trans_eq N_0

theorem row_lt (t : Fin cfg0.N) (i : Fin 128) : row t.val + i.val < 1024 := by
  have := point_lt t
  have := i.isLt
  unfold row
  omega

theorem row_in (t : Fin cfg0.N) (i : Fin 128) : (row t.val + i.val) % 128 = i.val := by unfold row; omega

theorem row_of (t : Fin cfg0.N) (i : Fin 128) : (row t.val + i.val) / 128 = t.val / 4 := by unfold row; omega

theorem head_lt (t : ℕ) : head t < 4 := Nat.mod_lt _ (by decide)

theorem where0 : ∀ t : Fin grid0.N, win0_0.index t 0 = t.val / 4 ∧ win0_0.index t 1 = t.val % 4 := by decide +kernel
theorem where1 : ∀ t : Fin grid0.N, win0_1.index t 0 = t.val / 4 ∧ win0_1.index t 1 = 4 + t.val % 4 := by decide +kernel
theorem where2 : ∀ t : Fin grid0.N, win0_2.index t 0 = t.val / 4 ∧ win0_2.index t 1 = 4 + t.val % 4 := by decide +kernel
theorem where3 : ∀ t : Fin grid0.N, win0_3.index t 0 = t.val / 4 ∧ win0_3.index t 1 = 8 + t.val % 4 := by decide +kernel
theorem where4 : ∀ t : Fin grid0.N, win0_4.index t 0 = t.val / 4 ∧ win0_4.index t 1 = 48 := by decide +kernel
theorem where5 : ∀ t : Fin grid0.N, win0_5.index t 0 = 0 ∧ win0_5.index t 1 = t.val % 4 := by decide +kernel
theorem where6 : ∀ t : Fin grid0.N, win0_6.index t 0 = 0 ∧ win0_6.index t 1 = t.val % 4 := by decide +kernel
theorem where7 : ∀ t : Fin grid0.N, win0_7.index t 0 = 0 ∧ win0_7.index t 1 = 0 := by decide +kernel
theorem where8 : ∀ t : Fin grid0.N, win0_8.index t 0 = t.val / 4 ∧ win0_8.index t 1 = t.val % 4 ∧ win0_8.index t 2 = 0 ∧ win0_8.index t 3 = 0 := by decide +kernel
theorem where9 : ∀ t : Fin grid0.N, win0_9.index t 0 = 0 ∧ win0_9.index t 1 = 0 := by decide +kernel
theorem where10 : ∀ t : Fin grid0.N, win0_10.index t 0 = 0 ∧ win0_10.index t 1 = 0 := by decide +kernel

theorem block0 (c : Dev nD) (t : Fin cfg0.N) (i : Fin 128) (j : Fin 256) :
    X0_0 m c t (ix2 i j) = (V m c main_v4 : S1024x6272.Idx → EReal) (ix2 ⟨row t.val + i.val, row_lt t i⟩ ⟨head t.val * 256 + j.val, by have := head_lt t.val; omega⟩) := by
  unfold X0_0 Pipeline.Window.fill
  rw [dif_pos (moved0_0 t _)]
  unfold iblk
  rw [View.read_apply]
  show V m c main_v4 _ = _
  refine congrArg (V m c main_v4 : S1024x6272.Idx → EReal) (funext fun a => Fin.ext ?_)
  match a with
  | ⟨0, _⟩ => show win0_0.index t 0 * 128 + 1 * i.val = row t.val + i.val; rw [(where0 t).1]; unfold row; omega
  | ⟨1, _⟩ => show win0_0.index t 1 * 256 + 1 * j.val = head t.val * 256 + j.val; rw [(where0 t).2]; unfold head; omega

theorem block1 (c : Dev nD) (t : Fin cfg0.N) (i : Fin 128) (j : Fin 256) :
    X0_1 m c t (ix2 i j) = (V m c main_v4 : S1024x6272.Idx → EReal) (ix2 ⟨row t.val + i.val, row_lt t i⟩ ⟨1024 + head t.val * 256 + j.val, by have := head_lt t.val; omega⟩) := by
  unfold X0_1 Pipeline.Window.fill
  rw [dif_pos (moved0_1 t _)]
  unfold iblk
  rw [View.read_apply]
  show V m c main_v4 _ = _
  refine congrArg (V m c main_v4 : S1024x6272.Idx → EReal) (funext fun a => Fin.ext ?_)
  match a with
  | ⟨0, _⟩ => show win0_1.index t 0 * 128 + 1 * i.val = row t.val + i.val; rw [(where1 t).1]; unfold row; omega
  | ⟨1, _⟩ => show win0_1.index t 1 * 256 + 1 * j.val = 1024 + head t.val * 256 + j.val; rw [(where1 t).2]; unfold head; omega

theorem block2 (c : Dev nD) (t : Fin cfg0.N) (i : Fin 128) (j : Fin 512) :
    X0_2 m c t (ix2 i j) = (V m c main_v4 : S1024x6272.Idx → EReal) (ix2 ⟨row t.val + i.val, row_lt t i⟩ ⟨2048 + head t.val * 512 + j.val, by have := head_lt t.val; omega⟩) := by
  unfold X0_2 Pipeline.Window.fill
  rw [dif_pos (moved0_2 t _)]
  unfold iblk
  rw [View.read_apply]
  show V m c main_v4 _ = _
  refine congrArg (V m c main_v4 : S1024x6272.Idx → EReal) (funext fun a => Fin.ext ?_)
  match a with
  | ⟨0, _⟩ => show win0_2.index t 0 * 128 + 1 * i.val = row t.val + i.val; rw [(where2 t).1]; unfold row; omega
  | ⟨1, _⟩ => show win0_2.index t 1 * 512 + 1 * j.val = 2048 + head t.val * 512 + j.val; rw [(where2 t).2]; unfold head; omega

theorem block3 (c : Dev nD) (t : Fin cfg0.N) (i : Fin 128) (j : Fin 512) :
    X0_3 m c t (ix2 i j) = (V m c main_v4 : S1024x6272.Idx → EReal) (ix2 ⟨row t.val + i.val, row_lt t i⟩ ⟨4096 + head t.val * 512 + j.val, by have := head_lt t.val; omega⟩) := by
  unfold X0_3 Pipeline.Window.fill
  rw [dif_pos (moved0_3 t _)]
  unfold iblk
  rw [View.read_apply]
  show V m c main_v4 _ = _
  refine congrArg (V m c main_v4 : S1024x6272.Idx → EReal) (funext fun a => Fin.ext ?_)
  match a with
  | ⟨0, _⟩ => show win0_3.index t 0 * 128 + 1 * i.val = row t.val + i.val; rw [(where3 t).1]; unfold row; omega
  | ⟨1, _⟩ => show win0_3.index t 1 * 512 + 1 * j.val = 4096 + head t.val * 512 + j.val; rw [(where3 t).2]; unfold head; omega

theorem block4 (c : Dev nD) (t : Fin cfg0.N) (i : Fin 128) (j : Fin 128) :
    (iblk m c 4 t : S128x128.Idx → EReal) (ix2 i j) = (V m c main_v4 : S1024x6272.Idx → EReal) (ix2 ⟨row t.val + i.val, row_lt t i⟩ ⟨6144 + j.val, by omega⟩) := by
  unfold iblk
  rw [View.read_apply]
  show V m c main_v4 _ = _
  refine congrArg (V m c main_v4 : S1024x6272.Idx → EReal) (funext fun a => Fin.ext ?_)
  match a with
  | ⟨0, _⟩ => show win0_4.index t 0 * 128 + 1 * i.val = row t.val + i.val; rw [(where4 t).1]; unfold row; omega
  | ⟨1, _⟩ => show win0_4.index t 1 * 128 + 1 * j.val = 6144 + j.val; rw [(where4 t).2]; omega

theorem block5 (c : Dev nD) (t : Fin cfg0.N) (i : Fin 128) (j : Fin 256) :
    (iblk m c 5 t : S128x256.Idx → EReal) (ix2 i j) = (V m c main_v1 : S128x1024.Idx → EReal) (ix2 ⟨i.val, i.isLt⟩ ⟨head t.val * 256 + j.val, by have := head_lt t.val; omega⟩) := by
  unfold iblk
  rw [View.read_apply]
  show V m c main_v1 _ = _
  refine congrArg (V m c main_v1 : S128x1024.Idx → EReal) (funext fun a => Fin.ext ?_)
  match a with
  | ⟨0, _⟩ => show win0_5.index t 0 * 128 + 1 * i.val = i.val; rw [(where5 t).1]; omega
  | ⟨1, _⟩ => show win0_5.index t 1 * 256 + 1 * j.val = head t.val * 256 + j.val; rw [(where5 t).2]; unfold head; omega

theorem block6 (c : Dev nD) (t : Fin cfg0.N) (i : Fin 1) (j : Fin 256) :
    (iblk m c 6 t : S1x256.Idx → EReal) (ix2 i j) = (V m c main_v50 : S1x1024.Idx → EReal) (ix2 ⟨i.val, i.isLt⟩ ⟨head t.val * 256 + j.val, by have := head_lt t.val; omega⟩) := by
  unfold iblk
  rw [View.read_apply]
  show V m c main_v50 _ = _
  refine congrArg (V m c main_v50 : S1x1024.Idx → EReal) (funext fun a => Fin.ext ?_)
  match a with
  | ⟨0, _⟩ => show win0_6.index t 0 * 1 + 1 * i.val = i.val; rw [(where6 t).1]; omega
  | ⟨1, _⟩ => show win0_6.index t 1 * 256 + 1 * j.val = head t.val * 256 + j.val; rw [(where6 t).2]; unfold head; omega

theorem block7 (c : Dev nD) (t : Fin cfg0.N) (i : Fin 1) (j : Fin 512) :
    (iblk m c 7 t : S1x512.Idx → EReal) (ix2 i j) = (V m c main_v51 : S1x512.Idx → EReal) (ix2 ⟨i.val, i.isLt⟩ ⟨j.val, j.isLt⟩) := by
  unfold iblk
  rw [View.read_apply]
  show V m c main_v51 _ = _
  refine congrArg (V m c main_v51 : S1x512.Idx → EReal) (funext fun a => Fin.ext ?_)
  match a with
  | ⟨0, _⟩ => show win0_7.index t 0 * 1 + 1 * i.val = i.val; rw [(where7 t).1]; omega
  | ⟨1, _⟩ => show win0_7.index t 1 * 512 + 1 * j.val = j.val; rw [(where7 t).2]; omega

theorem block8 (c : Dev nD) (t : Fin cfg0.N) (a b : Fin 1) (i : Fin 256) (j : Fin 512) :
    (iblk m c 8 t : S1x1x256x512.Idx → EReal) (ix4 a b i j) = startA m c (ix4 ⟨t.val / 4, by have := point_lt t; omega⟩ ⟨head t.val, head_lt _⟩ i j) := by
  unfold iblk
  rw [View.read_apply]
  show V m c main_arg4 _ = _
  rw [start_entry]
  refine congrArg (startA m c) (funext fun x => Fin.ext ?_)
  match x with
  | ⟨0, _⟩ => show win0_8.index t 0 * 1 + 1 * a.val = t.val / 4; rw [(where8 t).1]; omega
  | ⟨1, _⟩ => show win0_8.index t 1 * 1 + 1 * b.val = head t.val; rw [(where8 t).2.1]; unfold head; omega
  | ⟨2, _⟩ => show win0_8.index t 2 * 256 + 1 * i.val = i.val; rw [(where8 t).2.2.1]; omega
  | ⟨3, _⟩ => show win0_8.index t 3 * 512 + 1 * j.val = j.val; rw [(where8 t).2.2.2]; omega

theorem block9 (c : Dev nD) (t : Fin cfg0.N) (i : Fin 1920) (j : Fin 128) :
    (iblk m c 9 t : S1920x128.Idx → EReal) (ix2 i j) = (V m c main_v49 : S1920x128.Idx → EReal) (ix2 ⟨i.val, i.isLt⟩ ⟨j.val, j.isLt⟩) := by
  unfold iblk
  rw [View.read_apply]
  show V m c main_v49 _ = _
  refine congrArg (V m c main_v49 : S1920x128.Idx → EReal) (funext fun a => Fin.ext ?_)
  match a with
  | ⟨0, _⟩ => show win0_9.index t 0 * 1920 + 1 * i.val = i.val; rw [(where9 t).1]; omega
  | ⟨1, _⟩ => show win0_9.index t 1 * 128 + 1 * j.val = j.val; rw [(where9 t).2]; omega

theorem block10 (c : Dev nD) (t : Fin cfg0.N) (i : Fin 128) (j : Fin 128) :
    (iblk m c 10 t : S128x128.Idx → BitVec 32) (ix2 i j) = (V m c main_v48 : S128x128.Idx → BitVec 32) (ix2 ⟨i.val, i.isLt⟩ ⟨j.val, j.isLt⟩) := by
  unfold iblk
  rw [View.read_apply]
  show V m c main_v48 _ = _
  refine congrArg (V m c main_v48 : S128x128.Idx → BitVec 32) (funext fun a => Fin.ext ?_)
  match a with
  | ⟨0, _⟩ => show win0_10.index t 0 * 128 + 1 * i.val = i.val; rw [(where10 t).1]; omega
  | ⟨1, _⟩ => show win0_10.index t 1 * 128 + 1 * j.val = j.val; rw [(where10 t).2]; omega

end Cert.GlaSampleIdeal.Tile

end
-- ==== Proof.ShortData.lean ====
module

public import proofs.«01_k».proof.Proof.Short
public import proofs.«01_k».proof.Proof.HgrnData

/-! The layers' outputs over sequences of eight tokens, each padded to 128 rows: the rows after the eighth are zero. -/

@[expose] public section

set_option maxRecDepth 16384

noncomputable section

namespace Cert.Recurrence

open Idealize.ShloMosaic

/-- The layer's output at row `n` of the padded sequence `b`, head `h`, column `j`. -/
def padded (p : (⟨2, ![64, 6272]⟩ : Shape).Idx → EReal) (w : (⟨2, ![16, 1024]⟩ : Shape).Idx → EReal) (u : (⟨1, ![1024]⟩ : Shape).Idx → EReal)
    (z : (⟨4, ![8, 4, 256, 512]⟩ : Shape).Idx → EReal) (nw : (⟨1, ![512]⟩ : Shape).Idx → EReal)
    (b : Fin 8) (n : Fin 128) (h : Fin 4) (j : Fin 512) : EReal :=
  if hn : n.val < 8 then
    normed 1140850688#32 (fun x => ((outOf 8 p w u z b.val h.val n.val x : ℝ) : EReal)) (nw (ix1 j))
      (p (ix2 ⟨b.val * 8 + n.val, by omega⟩ ⟨4096 + h.val * 512 + j.val, by omega⟩)) j
  else 0

/-- The output of the layer whose gate has a floor, at row `n` of the padded sequence `b`, head `h`, column `j`. -/
def Floor.padded (p : (⟨2, ![64, 7168]⟩ : Shape).Idx → EReal) (u : (⟨1, ![1024]⟩ : Shape).Idx → EReal)
    (z : (⟨4, ![8, 8, 128, 128]⟩ : Shape).Idx → EReal) (nw : (⟨1, ![128]⟩ : Shape).Idx → EReal) (b : Fin 8) (n : Fin 128) (h : Fin 8) (j : Fin 128) : EReal :=
  if hn : n.val < 8 then
    Floor.result 8 p u z nw b.val n.val h.val (p (ix2 ⟨b.val * 8 + n.val, by omega⟩ ⟨3072 + (h.val * 128 + j.val), by omega⟩)) j
  else 0

end Cert.Recurrence

end
-- ==== Proof.GlaSampleValue.lean ====
module

public import proofs.«01_k».proof.Proof.GlaSampleBlocks
public import proofs.«01_k».proof.Proof.ShortData
public import Idealize.ShloMosaic.Lib.Pipeline.Value

/-! The kernel's two result arrays: the read-outs of the recurrence, normed and gated, and the recurrence's last
state. -/

@[expose] public section

set_option maxRecDepth 16384

noncomputable section

namespace Cert.GlaSampleIdeal.Tile

open Idealize.ShloMosaic Idealize.ShloMosaic.TcCoe Idealize.SL.Sem
open Cert.GlaSampleIdeal Cert.GlaSampleIdeal.Gen Cert.Recurrence

variable (m : (ℓ : Loc nD τ sig) → Buf (Elt Ideal) ℓ) (c : Dev nD)

/-- The arguments on which the recurrence runs hold real numbers. -/
structure RealArgs : Prop where
  proj : IsReal (projA m c)
  gate : IsReal (gateA m c)
  bias : IsReal (biasA m c)
  start : IsReal (startA m c)

variable {m c}

/-- The padded projection holds the real numbers `x` in its first eight rows of every chunk. -/
theorem proj_in (hr : RealArgs m c) (t : Fin cfg0.N) (i : Fin 128) (a : Fin 6272) (hi : i.val < 8) :
    (V m c main_v4 : S1024x6272.Idx → EReal) (ix2 ⟨row t.val + i.val, row_lt t i⟩ a)
      = ((at2 (projA m c) (t.val / 4 * 8 + i.val) a.val : ℝ) : EReal) := by
  have hi' : (row t.val + i.val) % 128 < 8 := by rw [row_in]; exact hi
  rw [proj_entry m c _ _ hi', at2_real hr.proj]
  simp only [row_in, row_of]

theorem proj_out (t : Fin cfg0.N) (i : Fin 128) (a : Fin 6272) (hi : ¬i.val < 8) :
    (V m c main_v4 : S1024x6272.Idx → EReal) (ix2 ⟨row t.val + i.val, row_lt t i⟩ a) = (0 : EReal) := by
  have hi' : ¬(row t.val + i.val) % 128 < 8 := by rw [row_in]; exact hi
  exact proj_zero m c _ _ hi'

/-- A tile cut from the padded projection. -/
theorem proj_cut (hr : RealArgs m c) (t : Fin cfg0.N) (i : Fin 128) {n : ℕ} (o : Fin n → ℕ) (j : Fin n) (h : o j < 6272) :
    (V m c main_v4 : S1024x6272.Idx → EReal) (ix2 ⟨row t.val + i.val, row_lt t i⟩ ⟨o j, h⟩)
      = ((cut (fun r j => at2 (projA m c) (t.val / 4 * 8 + r) (o j)) i.val j : ℝ) : EReal) := by
  by_cases hi : i.val < 8
  · rw [proj_in hr t i _ hi, cut_in _ hi]
  · rw [proj_out t i _ hi, cut_out _ hi, EReal.coe_zero]

theorem point_queries (hr : RealArgs m c) (t : Fin cfg0.N) :
    Holds (k0_pay5 (F := Ideal) (X0_0 m c t)) fun i j => cut (queries 8 (projA m c) (t.val / 4) (head t.val)) i.val j := fun i j => by
  rw [query_scaled _ (fun i j => cut (fun r (j : Fin 256) => at2 (projA m c) (t.val / 4 * 8 + r) (head t.val * 256 + j.val)) i.val j) fun i j => by
    rw [block0, proj_cut hr t i (fun j : Fin 256 => head t.val * 256 + j.val)]]
  dsimp only
  by_cases hi : i.val < 8
  · rw [cut_in _ hi, cut_in _ hi]
    rfl
  · rw [cut_out _ hi, cut_out _ hi, zero_mul]

theorem point_keys (hr : RealArgs m c) (t : Fin cfg0.N) :
    Kept (k0_pay6 (F := Ideal) (X0_1 m c t)) fun i j => cut (keys 8 (projA m c) (t.val / 4) (head t.val)) i.val j := kept_of _ fun i j hi => by
  pointwise [k0_pay6]
  rw [block1, proj_in hr t i _ hi]
  rfl

theorem point_vals (hr : RealArgs m c) (t : Fin cfg0.N) :
    Holds (k0_pay10 (F := Ideal) (X0_2 m c t)) fun i j => cut (vals 8 (projA m c) (t.val / 4) (head t.val)) i.val j := fun i j => by
  pointwise [k0_pay10]
  rw [block2, proj_cut hr t i (fun j : Fin 512 => 2048 + head t.val * 512 + j.val)]
  rfl

theorem gate_weights (hr : RealArgs m c) (r : Fin 128) (s : Fin 1024) :
    (V m c main_v1 : S128x1024.Idx → EReal) (ix2 r s) = ((at2 (gateA m c) r.val s.val : ℝ) : EReal) := by
  rw [gate_entry]
  by_cases h : r.val < 16
  · rw [dif_pos h]
    exact at2_eq hr.gate ⟨r.val, h⟩ s
  · rw [dif_neg h, at2_out _ _ _ (by omega), EReal.coe_zero]

/-- The gate's argument at a row of the padded projection. -/
def rowPre (m : (ℓ : Loc nD τ sig) → Buf (Elt Ideal) ℓ) (c : Dev nD) (t : ℕ) (i : Fin 128) (j : Fin 256) : ℝ :=
  ∑ r : Fin 128, cut (fun n (r : Fin 128) => at2 (projA m c) (t / 4 * 8 + n) (6144 + r.val)) i.val r * at2 (gateA m c) r.val (head t * 256 + j.val)
    + bias (biasA m c) (head t * 256 + j.val)

theorem rowPre_in (t : ℕ) (i : Fin 128) (j : Fin 256) (hi : i.val < 8) :
    rowPre m c t i j = pre 8 (projA m c) (gateA m c) (biasA m c) (t / 4) i.val (head t * 256 + j.val) := by
  unfold rowPre pre
  simp only [cut_in _ hi]
  rw [Fin.sum_univ_eq_sum_range (fun r => at2 (projA m c) (t / 4 * 8 + i.val) (6144 + r) * at2 (gateA m c) r (head t * 256 + j.val)) 128,
    ← Finset.sum_subset (Finset.range_subset_range.mpr (by decide : 16 ≤ 128)) fun r _ hn => by
      rw [at2_out (gateA m c) _ _ (by simpa using hn), mul_zero]]

theorem row_gates (hr : RealArgs m c) (t : Fin cfg0.N) : Holds (gates m c t) fun i j => gate (rowPre m c t.val i j) := by
  refine gate_apply _ _ _ (fun i j => rowPre m c t.val i j) fun i j => ?_
  have h4 : ∀ r : Fin 128, (iblk m c 4 t : S128x128.Idx → EReal) (ix2 i r) = _ := fun r => (block4 m c t i r).trans
    (proj_cut hr t i (fun r : Fin 128 => 6144 + r.val) r (by omega))
  have h5 : ∀ r : Fin 128, (iblk m c 5 t : S128x256.Idx → EReal) (ix2 r j) = _ := fun r => (block5 m c t r j).trans (gate_weights hr _ _)
  refine (congrArg₂ (fun x y : EReal => x + y) ((Finset.sum_congr rfl fun r _ => congrArg₂ (fun x y : EReal => x * y) (h4 r) (h5 r)).trans
    (sum_mul_real _ _)) (block6 m c t 0 j)).trans ?_
  rw [bias_entry, bias_eq _ hr.bias, ← EReal.coe_add]
  rfl

theorem point_gates (hr : RealArgs m c) (t : Fin cfg0.N) :
    Kept (gates m c t) fun i j => cut (gatesOf 8 (projA m c) (gateA m c) (biasA m c) (t.val / 4) (head t.val)) i.val j := kept_of _ fun i j hi => by
  rw [row_gates hr t i j]
  dsimp only
  rw [rowPre_in _ _ _ hi]
  rfl

theorem point_window (t : Fin cfg0.N) : IsWin (iblk m c 9 t) := fun r s => by
  rw [show iblk m c 9 t (ix2 r s) = _ from block9 m c t r s]
  exact window_entry m c r s

theorem point_start (hr : RealArgs m c) (t : Fin cfg0.N) :
    Holds (k0_pay4 (F := Ideal) (iblk m c 8 t)) fun j i => state (cut (gatesOf 8 (projA m c) (gateA m c) (biasA m c) (t.val / 4) (head t.val))) (cut (keys 8 (projA m c) (t.val / 4) (head t.val))) (cut (vals 8 (projA m c) (t.val / 4) (head t.val)))
      (start (startA m c) (t.val / 4) (head t.val)) 0 i j := by
  intro j i
  pointwise [k0_pay4]
  rw [show iblk m c 8 t (ix4 0 0 i j) = _ from block8 m c t 0 0 i j, start_eq _ hr.start]
  rfl

/-- A point takes the state from the start to the end of its sequence. -/
theorem point_state (hr : RealArgs m c) (t : Fin cfg0.N) :
    Holds (pointState m c t (k0_pay4 (iblk m c 8 t))) fun j i => stateOf 8 (projA m c) (gateA m c) (biasA m c) (startA m c) (t.val / 4) (head t.val) 8 i j := by
  intro j i
  unfold pointState
  rw [chunkS_apply (point_keys hr t) (point_gates hr t) (point_vals hr t) (point_window t) (point_start hr t)]
  have h := chunk_state (cut (gatesOf 8 (projA m c) (gateA m c) (biasA m c) (t.val / 4) (head t.val))) (cut (keys 8 (projA m c) (t.val / 4) (head t.val))) (cut (vals 8 (projA m c) (t.val / 4) (head t.val)))
    (start (startA m c) (t.val / 4) (head t.val)) 0 i j
  simp only [zero_add] at h
  exact congrArg _ (h.trans (state_kept _ _ _ _ 120 i j))

/-- The read-outs of a point's sequence. -/
theorem point_out (hr : RealArgs m c) (t : Fin cfg0.N) (i : Fin 128) (hi : i.val < 8) (j : Fin 512) :
    fromStart (k0_pay5 (X0_0 m c t)) (gates m c t) (iblk m c 9 t) (k0_pay4 (iblk m c 8 t)) (ix2 i j)
      + fromChunk (k0_pay5 (X0_0 m c t)) (k0_pay6 (X0_1 m c t)) (gates m c t) (k0_pay10 (X0_2 m c t)) (iblk m c 10 t) (iblk m c 9 t) (ix2 i j)
      = ((outOf 8 (projA m c) (gateA m c) (biasA m c) (startA m c) (t.val / 4) (head t.val) i.val j : ℝ) : EReal) := by
  rw [chunkO_apply (point_queries hr t) (point_keys hr t) (point_gates hr t) (point_vals hr t) (point_window t) (point_start hr t)]
  have hl : (fun t' s' => iblk m c 10 t (ix2 t' s')) = fun (t' s' : Fin 128) => levelW t'.val s'.val := funext fun t' => funext fun s' =>
    (block10 m c t t' s').trans (level_entry m c t' s')
  rw [hl]
  have h := chunk_out _ levels (cut (queries 8 (projA m c) (t.val / 4) (head t.val))) (cut (gatesOf 8 (projA m c) (gateA m c) (biasA m c) (t.val / 4) (head t.val))) (cut (keys 8 (projA m c) (t.val / 4) (head t.val)))
    (cut (vals 8 (projA m c) (t.val / 4) (head t.val))) (start (startA m c) (t.val / 4) (head t.val)) 0 i j
  simp only [zero_add] at h
  exact congrArg _ (h.trans (out_cut _ _ _ _ _ _ hi j))

/-- The two result arrays. -/
def outArr (m : (ℓ : Loc nD τ sig) → Buf (Elt Ideal) ℓ) (c : Dev nD) : S1024x2048.Idx → EReal := fun y =>
  padded (projA m c) (gateA m c) (biasA m c) (startA m c) (scaleA m c) ⟨(y 0).val / 128, by have : (y 0).val < 1024 := (y 0).isLt; omega⟩
    ⟨(y 0).val % 128, Nat.mod_lt _ (by decide)⟩ ⟨(y 1).val / 512, by have : (y 1).val < 2048 := (y 1).isLt; omega⟩ ⟨(y 1).val % 512, Nat.mod_lt _ (by decide)⟩

def endArr (m : (ℓ : Loc nD τ sig) → Buf (Elt Ideal) ℓ) (c : Dev nD) : S8x4x256x512.Idx → EReal := fun y =>
  ((stateOf 8 (projA m c) (gateA m c) (biasA m c) (startA m c) (y 0).val (y 1).val 8 (y 2) (y 3) : ℝ) : EReal)

/-- A point's block of the output. -/
theorem out_block (hr : RealArgs m c) (t : Fin cfg0.N) (i : Fin 128) (j : Fin 512) (h0 : t.val / 4 < 8) :
    (outsAt0 m c t).1 (ix2 i j) = padded (projA m c) (gateA m c) (biasA m c) (startA m c) (scaleA m c) ⟨t.val / 4, h0⟩
      i ⟨head t.val, head_lt _⟩ j := by
  rw [out_A m c t]
  unfold pointOut
  pointwise [k0_pay2]
  unfold padded
  by_cases hi : i.val < 8
  · simp only [point_out hr t i hi]
    rw [show iblk m c 7 t (ix2 0 j) = _ from block7 m c t 0 j, block3, scale_entry,
      proj_entry m c _ _ (show (row t.val + i.val) % 128 < 8 by rw [row_in]; exact hi), dif_pos hi]
    unfold normed
    simp only [row_in, row_of]
  · rw [block3, proj_out t i _ hi, dif_neg hi, zero_mul, mul_zero]

theorem where11 : ∀ t : Fin grid0.N, win0_11.index t 0 = t.val / 4 ∧ win0_11.index t 1 = t.val % 4 := by decide +kernel
theorem where12 : ∀ t : Fin grid0.N, win0_12.index t 0 = t.val / 4 ∧ win0_12.index t 1 = t.val % 4 ∧ win0_12.index t 2 = 0 ∧ win0_12.index t 3 = 0 := by decide +kernel

theorem outArr_at (y : S1024x2048.Idx) (b : Fin 8) (n : Fin 128) (h : Fin 4) (j : Fin 512) (h0 : (y 0).val = b.val * 128 + n.val)
    (h1 : (y 1).val = h.val * 512 + j.val) :
    outArr m c y = padded (projA m c) (gateA m c) (biasA m c) (startA m c) (scaleA m c) b n h j := by
  unfold outArr
  congr 1 <;> apply Fin.ext <;> dsimp only <;> omega

theorem final_out (hr : RealArgs m c) : (dats m 0 c).arrAt 11 cfg0.N = outArr m c := by
  refine (dats m 0 c).arrAt_eq_of_cover 11 (outArr m c) ?_ ?_
  · intro t _
    rw [Value.flushed11]
    have ht := point_lt t
    funext y
    rw [View.read_apply]
    show (outsAt0 m c t).1 y = outArr m c _
    have hy0 : (y 0).val < 128 := (y 0).isLt
    have hy1 : (y 1).val < 512 := (y 1).isLt
    rw [show (outsAt0 m c t).1 y = (outsAt0 m c t).1 (ix2 (⟨(y 0).val, hy0⟩ : Fin 128) (⟨(y 1).val, hy1⟩ : Fin 512)) from
      congrArg (outsAt0 m c t).1 (funext fun a => by fin_cases a <;> rfl)]
    rw [out_block hr t _ _ (by omega)]
    refine (outArr_at _ _ _ _ _ ?_ ?_).symm
    · show win0_11.index t 0 * 128 + 1 * (y 0).val = t.val / 4 * 128 + (y 0).val
      rw [(where11 t).1]
      omega
    · show win0_11.index t 1 * 512 + 1 * (y 1).val = head t.val * 512 + (y 1).val
      rw [(where11 t).2]
      unfold head
      omega
  · intro y
    have hy0 : (y 0).val < 1024 := (y 0).isLt
    have hy1 : (y 1).val < 2048 := (y 1).isLt
    obtain ⟨t, ht⟩ : ∃ t : Fin cfg0.N, t.val = (y 0).val / 128 * 4 + (y 1).val / 512 :=
      ⟨⟨_, by rw [show cfg0.N = 32 from N_0]; omega⟩, rfl⟩
    refine ⟨t, flush0_11 t, ?_⟩
    show y ∈ ((View.whole main_v52_0).slice (win0_11.rect t)).set
    rw [View.set_slice_whole, Rect.mem_set_unit]
    intro a
    match a with
    | ⟨0, _⟩ =>
      show win0_11.index t 0 * 128 ≤ (y 0).val ∧ (y 0).val < win0_11.index t 0 * 128 + 128
      rw [(where11 t).1]
      omega
    | ⟨1, _⟩ =>
      show win0_11.index t 1 * 512 ≤ (y 1).val ∧ (y 1).val < win0_11.index t 1 * 512 + 512
      rw [(where11 t).2]
      omega

theorem endArr_at (y : S8x4x256x512.Idx) (b h : ℕ) (i : Fin 256) (j : Fin 512) (h0 : (y 0).val = b)
    (h1 : (y 1).val = h) (h2 : (y 2).val = i.val) (h3 : (y 3).val = j.val) :
    endArr m c y = ((stateOf 8 (projA m c) (gateA m c) (biasA m c) (startA m c) b h 8 i j : ℝ) : EReal) := by
  unfold endArr
  rw [h0, h1, show y 2 = i from Fin.ext h2, show y 3 = j from Fin.ext h3]

theorem end_block (hr : RealArgs m c) (t : Fin cfg0.N) (a b : Fin 1) (i : Fin 256) (j : Fin 512) :
    k0_pay3 (F := Ideal) (pointState m c t (k0_pay4 (iblk m c 8 t))) (ix4 a b i j)
      = ((stateOf 8 (projA m c) (gateA m c) (biasA m c) (startA m c) (t.val / 4) (head t.val) 8 i j : ℝ) : EReal) := by
  pointwise [k0_pay3]
  rw [point_state hr t]

theorem final_state (hr : RealArgs m c) : (dats m 0 c).arrAt 12 cfg0.N = endArr m c := by
  refine (dats m 0 c).arrAt_eq_of_cover 12 (endArr m c) ?_ ?_
  · intro t _
    rw [Value.flushed12, final_A m c t]
    have ht := point_lt t
    funext y
    rw [View.read_apply]
    have hy2 : (y 2).val < 256 := (y 2).isLt
    have hy3 : (y 3).val < 512 := (y 3).isLt
    have hy0 : (y 0).val < 1 := (y 0).isLt
    have hy1 : (y 1).val < 1 := (y 1).isLt
    show k0_pay3 (F := Ideal) (pointState m c t (k0_pay4 (iblk m c 8 t))) y = endArr m c _
    rw [show k0_pay3 (F := Ideal) (pointState m c t (k0_pay4 (iblk m c 8 t))) y = k0_pay3 (F := Ideal) (pointState m c t (k0_pay4 (iblk m c 8 t)))
        (ix4 (⟨(y 0).val, hy0⟩ : Fin 1) (⟨(y 1).val, hy1⟩ : Fin 1) (⟨(y 2).val, hy2⟩ : Fin 256) (⟨(y 3).val, hy3⟩ : Fin 512)) from
      congrArg _ (funext fun a => by fin_cases a <;> rfl)]
    rw [end_block hr t]
    refine (endArr_at _ _ _ _ _ ?_ ?_ ?_ ?_).symm
    · show win0_12.index t 0 * 1 + 1 * (y 0).val = _
      rw [(where12 t).1]
      omega
    · show win0_12.index t 1 * 1 + 1 * (y 1).val = _
      rw [(where12 t).2.1]
      unfold head
      omega
    · show win0_12.index t 2 * 256 + 1 * (y 2).val = (y 2).val
      rw [(where12 t).2.2.1]
      omega
    · show win0_12.index t 3 * 512 + 1 * (y 3).val = (y 3).val
      rw [(where12 t).2.2.2]
      omega
  · intro y
    have hy0 : (y 0).val < 8 := (y 0).isLt
    have hy1 : (y 1).val < 4 := (y 1).isLt
    have hy2 : (y 2).val < 256 := (y 2).isLt
    have hy3 : (y 3).val < 512 := (y 3).isLt
    obtain ⟨t, ht⟩ : ∃ t : Fin cfg0.N, t.val = (y 0).val * 4 + (y 1).val :=
      ⟨⟨_, by rw [show cfg0.N = 32 from N_0]; omega⟩, rfl⟩
    refine ⟨t, flush0_12 t, ?_⟩
    show y ∈ ((View.whole main_v52_1).slice (win0_12.rect t)).set
    rw [View.set_slice_whole, Rect.mem_set_unit]
    intro a
    match a with
    | ⟨0, _⟩ =>
      show win0_12.index t 0 * 1 ≤ (y 0).val ∧ (y 0).val < win0_12.index t 0 * 1 + 1
      rw [(where12 t).1]
      omega
    | ⟨1, _⟩ =>
      show win0_12.index t 1 * 1 ≤ (y 1).val ∧ (y 1).val < win0_12.index t 1 * 1 + 1
      rw [(where12 t).2.1]
      omega
    | ⟨2, _⟩ =>
      show win0_12.index t 2 * 256 ≤ (y 2).val ∧ (y 2).val < win0_12.index t 2 * 256 + 256
      rw [(where12 t).2.2.1]
      omega
    | ⟨3, _⟩ =>
      show win0_12.index t 3 * 512 ≤ (y 3).val ∧ (y 3).val < win0_12.index t 3 * 512 + 512
      rw [(where12 t).2.2.2]
      omega

end Cert.GlaSampleIdeal.Tile

end
-- ==== Proof.GlaSampleRefStep.lean ====
module

public import proofs.«01_k».proof.Proof.ByToken
public import proofs.«01_k».proof.Proof.Gen.GlaSampleRefIdeal.Run
public import Idealize.ShloMosaic.Lib.StableHlo.ReadAt

/-! One token of the reference's recurrence, read at an index. -/

@[expose] public section

set_option maxRecDepth 16384

noncomputable section

namespace Cert.GlaSampleRefIdeal.Scan

open Idealize.ShloMosaic Idealize.ShloMosaic.TcCoe Idealize.SL.Sem
open Cert.GlaSampleRefIdeal Cert.GlaSampleRefIdeal.Gen Cert.GlaSampleRefIdeal.Value Cert.Recurrence
open Idealize.ShloMosaic.StableHlo

variable (X : Valuation τ sig (Elt Ideal))

def qS : S8x8x4x256.Idx → EReal := X (Proc.devRef .tc main_v22_0)
def kS : S8x8x4x256.Idx → EReal := X (Proc.devRef .tc main_v22_1)
def vS : S8x8x4x512.Idx → EReal := X (Proc.devRef .tc main_v22_2)
def gS : S8x8x4x256.Idx → EReal := X (Proc.devRef .tc main_v22_3)
def nS : S_.Idx → BitVec 32 := X (Proc.devRef .tc main_v22_4)
def sS : S8x4x256x512.Idx → EReal := X (Proc.devRef .tc main_v22_5)
def oS : S8x8x4x512.Idx → EReal := X (Proc.devRef .tc main_v22_6)

theorem new_state (n : Fin 8) (hn : ∀ i, nS X i = BitVec.ofNat 32 n.val) (b : Fin 8) (h : Fin 4) (i : Fin 256) (j : Fin 512) :
    (res_main_while0b_v58 X : S8x4x256x512.Idx → EReal) (ix4 b h i j)
      = sS X (ix4 b h i j) * Ideal.exp (gS X (ix4 n b h i)) + kS X (ix4 n b h i) * vS X (ix4 n b h j) := by
  have ho := offsets (by decide) (X (Proc.devRef .tc main_v22_4)) n hn (Shape.Idx.first h_S_)
  unfold res_main_while0b_v58
  dsimp only at ho ⊢
  erw [ho]
  pointwise
  exact congrArg₂ (fun x y : EReal => x + y)
    (congrArg (fun x : EReal => sS X (ix4 b h i j) * Ideal.exp x)
      (row4 (gS X) n b h i _ _ _ _ _ _ _ _ (first_start _ n) (shifted (next_start _ n).1) (shifted (next_start _ n).2.1) (shifted (next_start _ n).2.2)))
    (congrArg₂ (fun x y : EReal => x * y)
      (row4 (kS X) n b h i _ _ _ _ _ _ _ _ (first_start _ n) (shifted (next_start _ n).1) (shifted (next_start _ n).2.1) (shifted (next_start _ n).2.2))
      (row4 (vS X) n b h j _ _ _ _ _ _ _ _ (first_start _ n) (shifted (next_start _ n).1) (shifted (next_start _ n).2.1) (shifted (next_start _ n).2.2)))

theorem step_state (n : Fin 8) (hn : ∀ i, nS X i = BitVec.ofNat 32 n.val) (b : Fin 8) (h : Fin 4) (i : Fin 256) (j : Fin 512) :
    sS (STEP X) (ix4 b h i j)
      = sS X (ix4 b h i j) * Ideal.exp (gS X (ix4 n b h i)) + kS X (ix4 n b h i) * vS X (ix4 n b h j) := by
  unfold sS
  rw [STEP_main_v22_5]
  exact new_state X n hn b h i j

theorem step_count (n : Fin 8) (hn : ∀ i, nS X i = BitVec.ofNat 32 n.val) (i : S_.Idx) :
    nS (STEP X) i = BitVec.ofNat 32 (n.val + 1) := by
  unfold nS
  rw [STEP_main_v22_4]
  show nS X i + 1#32 = _
  rw [hn, BitVec.ofNat_add]

theorem step_rows (n : Fin 8) (hn : ∀ i, nS X i = BitVec.ofNat 32 n.val) (n' : Fin 8) (b : Fin 8) (h : Fin 4) (j : Fin 512) :
    oS (STEP X) (ix4 n' b h j)
      = if n' = n then ∑ i, qS X (ix4 n b h i) * sS (STEP X) (ix4 b h i j) else oS X (ix4 n' b h j) := by
  unfold oS
  rw [STEP_main_v22_6]
  have ho := offsets (by decide) (X (Proc.devRef .tc main_v22_4)) n hn (Shape.Idx.first h_S_)
  unfold step_main_v22_6
  dsimp only at ho ⊢
  erw [ho]
  refine (put_row (D := 512) _ _ n _ n' b h j).trans ?_
  congr 1
  pointwise
  refine Finset.sum_congr rfl fun i _ => congrArg₂ (fun x y : EReal => x * y) ?_ ?_
  · exact row4 (qS X) n b h i _ _ _ _ _ _ _ _ (first_start _ n) (shifted (next_start _ n).1) (shifted (next_start _ n).2.1) (shifted (next_start _ n).2.2)
  · unfold sS
    rw [STEP_main_v22_5]
    rfl

theorem step_keep : qS (STEP X) = qS X ∧ kS (STEP X) = kS X ∧ vS (STEP X) = vS X ∧ gS (STEP X) = gS X :=
  ⟨STEP_main_v22_0 X, STEP_main_v22_1 X, STEP_main_v22_2 X, STEP_main_v22_3 X⟩

end Cert.GlaSampleRefIdeal.Scan

end
-- ==== Proof.GlaSampleRefEntry.lean ====
module

public import proofs.«01_k».proof.Proof.GlaSampleRefStep
public import proofs.«01_k».proof.Proof.Tile
public import proofs.«01_k».proof.Proof.RefEntry
public import proofs.«01_k».proof.Proof.ShortData

/-! What the reference's recurrence starts from: its carried arrays as reals. -/

@[expose] public section

set_option maxRecDepth 16384

noncomputable section

namespace Cert.GlaSampleRefIdeal.Scan

open Idealize.ShloMosaic Idealize.ShloMosaic.TcCoe Idealize.SL.Sem
open Cert.GlaSampleRefIdeal Cert.GlaSampleRefIdeal.Gen Cert.GlaSampleRefIdeal.Value Cert.Recurrence
open Idealize.ShloMosaic.StableHlo
open Cert.GlaIdeal.Tile (lit_sixteen lit_sixteenth)
open Cert.GlaRefIdeal.Scan (soft_gate)

variable (m : (ℓ : Loc nD τ sig) → Buf (Elt Ideal) ℓ) (c : Dev nD)

def proj : S64x6272.Idx → EReal := m ((c : Thread nD τ).loc main_arg0)
def gateW : S16x1024.Idx → EReal := m ((c : Thread nD τ).loc main_arg1)
def gateB : S1024.Idx → EReal := m ((c : Thread nD τ).loc main_arg2)
def scale : S512.Idx → EReal := m ((c : Thread nD τ).loc main_arg3)
def first : S8x4x256x512.Idx → EReal := m ((c : Thread nD τ).loc main_arg4)

theorem q_entry (hp : IsReal (proj m c)) (n : Fin 8) (b : Fin 8) (h : Fin 4) (i : Fin 256) :
    qS (entryContents preI m c) (ix4 n b h i) = ((queries 8 (proj m c) b.val h.val n.val i : ℝ) : EReal) := by
  unfold qS
  simp only [entryContents, afterL_cons, afterL_nil]
  after_reads_at
  simp only [id]
  pointwise
  show proj m c _ * _ = _
  rw [at2_real hp, show Ideal.ofBits FTy.f32 1031798784#32 = ((0.0625 : ℝ) : EReal) from lit_sixteenth, ← EReal.coe_mul]
  rfl

theorem k_entry (hp : IsReal (proj m c)) (n : Fin 8) (b : Fin 8) (h : Fin 4) (i : Fin 256) :
    kS (entryContents preI m c) (ix4 n b h i) = ((keys 8 (proj m c) b.val h.val n.val i : ℝ) : EReal) := by
  unfold kS
  simp only [entryContents, afterL_cons, afterL_nil]
  after_reads_at
  simp only [id]
  pointwise
  show proj m c _ = _
  rw [at2_real hp]
  unfold keys
  congr 2
  omega

theorem v_entry (hp : IsReal (proj m c)) (n : Fin 8) (b : Fin 8) (h : Fin 4) (i : Fin 512) :
    vS (entryContents preI m c) (ix4 n b h i) = ((vals 8 (proj m c) b.val h.val n.val i : ℝ) : EReal) := by
  unfold vS
  simp only [entryContents, afterL_cons, afterL_nil]
  after_reads_at
  simp only [id]
  pointwise
  show proj m c _ = _
  rw [at2_real hp]
  unfold vals
  congr 2
  omega

theorem g_entry (hp : IsReal (proj m c)) (hw : IsReal (gateW m c)) (hu : IsReal (gateB m c)) (n : Fin 8) (b : Fin 8) (h : Fin 4) (i : Fin 256) :
    gS (entryContents preI m c) (ix4 n b h i) = ((gatesOf 8 (proj m c) (gateW m c) (gateB m c) b.val h.val n.val i : ℝ) : EReal) := by
  have hx : (∑ x : Fin 16, proj m c (ix2 ⟨b.val * 8 + n.val, by omega⟩ ⟨6144 + x.val, by omega⟩) * gateW m c (ix2 x ⟨h.val * 256 + i.val, by omega⟩))
      + gateB m c (ix1 ⟨h.val * 256 + i.val, by omega⟩) = ((pre 8 (proj m c) (gateW m c) (gateB m c) b.val n.val (h.val * 256 + i.val) : ℝ) : EReal) := by
    unfold pre
    rw [Finset.sum_range, EReal.coe_add, ← sum_mul_real, bias_eq _ hu]
    refine congrArg (fun x : EReal => x + _) (Finset.sum_congr rfl fun r _ => ?_)
    rw [at2_real hp, at2_eq hw]
  unfold gatesOf
  rw [← soft_gate, ← hx]
  unfold gS
  simp only [entryContents, afterL_cons, afterL_nil]
  after_reads_at
  simp only [id]
  pointwise
  rfl

theorem n_entry (i : S_.Idx) : nS (entryContents preI m c) i = 0#32 := by
  unfold nS
  simp only [entryContents, afterL_cons, afterL_nil]
  after_reads_simp
  rfl

theorem s_entry : sS (entryContents preI m c) = first m c := by
  unfold sS
  simp only [entryContents, afterL_cons, afterL_nil]
  after_reads_simp
  rfl

/-- What the carried arrays hold after `k` tokens. -/
structure After (k : ℕ) (X : Valuation τ sig (Elt Ideal)) : Prop where
  query : ∀ (n : Fin 8) (b : Fin 8) (h : Fin 4) (i : Fin 256), qS X (ix4 n b h i) = ((queries 8 (proj m c) b.val h.val n.val i : ℝ) : EReal)
  key : ∀ (n : Fin 8) (b : Fin 8) (h : Fin 4) (i : Fin 256), kS X (ix4 n b h i) = ((keys 8 (proj m c) b.val h.val n.val i : ℝ) : EReal)
  value : ∀ (n : Fin 8) (b : Fin 8) (h : Fin 4) (j : Fin 512), vS X (ix4 n b h j) = ((vals 8 (proj m c) b.val h.val n.val j : ℝ) : EReal)
  decay : ∀ (n : Fin 8) (b : Fin 8) (h : Fin 4) (i : Fin 256),
    gS X (ix4 n b h i) = ((gatesOf 8 (proj m c) (gateW m c) (gateB m c) b.val h.val n.val i : ℝ) : EReal)
  count : ∀ i, nS X i = BitVec.ofNat 32 k
  state : ∀ (b : Fin 8) (h : Fin 4) (i : Fin 256) (j : Fin 512),
    sS X (ix4 b h i j) = ((stateOf 8 (proj m c) (gateW m c) (gateB m c) (first m c) b.val h.val k i j : ℝ) : EReal)
  rows : ∀ (n : Fin 8), n.val < k → ∀ (b : Fin 8) (h : Fin 4) (j : Fin 512),
    oS X (ix4 n b h j) = ((outOf 8 (proj m c) (gateW m c) (gateB m c) (first m c) b.val h.val n.val j : ℝ) : EReal)

theorem after_step (n : Fin 8) (X : Valuation τ sig (Elt Ideal)) (H : After m c n.val X) : After m c (n.val + 1) (STEP X) := by
  obtain ⟨eq, ek, ev, eg⟩ := step_keep X
  have hs : ∀ (b : Fin 8) (h : Fin 4) (i : Fin 256) (j : Fin 512),
      sS (STEP X) (ix4 b h i j) = ((stateOf 8 (proj m c) (gateW m c) (gateB m c) (first m c) b.val h.val (n.val + 1) i j : ℝ) : EReal) := by
    intro b h i j
    rw [step_state X n H.count, H.state, H.decay, H.key, H.value, Ideal.exp_coe, ← EReal.coe_mul, ← EReal.coe_mul, ← EReal.coe_add]
    rfl
  refine ⟨by rw [eq]; exact H.query, by rw [ek]; exact H.key, by rw [ev]; exact H.value, by rw [eg]; exact H.decay, step_count X n H.count, hs, ?_⟩
  intro n' hn' b h j
  rw [step_rows X n H.count]
  by_cases e : n' = n
  · subst e
    rw [if_pos rfl]
    simp only [hs, H.query]
    exact sum_mul_real _ _
  · rw [if_neg e]
    exact H.rows n' (by have : n'.val ≠ n.val := fun h => e (Fin.ext h); omega) b h j

theorem after_none (hp : IsReal (proj m c)) (hw : IsReal (gateW m c)) (hu : IsReal (gateB m c)) (hz : IsReal (first m c)) :
    After m c 0 (entryContents preI m c) where
  query := q_entry m c hp
  key := k_entry m c hp
  value := v_entry m c hp
  decay := g_entry m c hp hw hu
  count := n_entry m c
  state b h i j := by
    rw [s_entry, start_eq _ hz]
    rfl
  rows n hn := absurd hn (Nat.not_lt_zero _)

theorem after_all (hp : IsReal (proj m c)) (hw : IsReal (gateW m c)) (hu : IsReal (gateB m c)) (hz : IsReal (first m c)) (k : ℕ) :
    k ≤ 8 → After m c k (STEP^[k] (entryContents preI m c)) := by
  generalize hE : entryContents preI m c = E
  have h0 : After m c 0 E := hE ▸ after_none m c hp hw hu hz
  induction k with
  | zero => exact fun _ => h0
  | succ k ih =>
    intro hk
    rw [Function.iterate_succ_apply']
    exact after_step m c ⟨k, by omega⟩ _ (ih (by omega))

theorem last_state (hp : IsReal (proj m c)) (hw : IsReal (gateW m c)) (hu : IsReal (gateB m c)) (hz : IsReal (first m c)) :
    ((STEP^[8] (entryContents preI m c)) (Proc.devRef .tc main_v22_5) : S8x4x256x512.Idx → EReal)
      = fun y => ((stateOf 8 (proj m c) (gateW m c) (gateB m c) (first m c) (y 0).val (y 1).val 8 (y 2) (y 3) : ℝ) : EReal) := by
  funext y
  obtain ⟨b, h, i, j, rfl⟩ : ∃ (b : Fin 8) (h : Fin 4) (i : Fin 256) (j : Fin 512), y = ix4 b h i j :=
    ⟨y 0, y 1, y 2, y 3, funext fun a => match a with | ⟨0, _⟩ => rfl | ⟨1, _⟩ => rfl | ⟨2, _⟩ => rfl | ⟨3, _⟩ => rfl⟩
  exact (after_all m c hp hw hu hz 8 le_rfl).state b h i j

theorem out_at (X : Valuation τ sig (Elt Ideal)) (b : Fin 8) (n : Fin 128) (hn : n.val < 8) (h : Fin 4) (j : Fin 512) :
    (out_main_v44 X : S1024x2048.Idx → EReal) (ix2 ⟨b.val * 128 + n.val, by omega⟩ ⟨h.val * 512 + j.val, by omega⟩)
      = normed 1140850688#32 (fun x => oS X (ix4 ⟨n.val, hn⟩ b h x)) ((X (Proc.devRef .tc main_arg3) : S512.Idx → EReal) (ix1 j))
        ((X (Proc.devRef .tc main_arg0) : S64x6272.Idx → EReal) (ix2 ⟨b.val * 8 + n.val, by omega⟩ ⟨4096 + h.val * 512 + j.val, by omega⟩)) j := by
  unfold out_main_v44
  pointwise
  refine (dif_pos (show n.val < 8 ∧ h.val * 512 + j.val < 2048 from ⟨hn, by omega⟩)).trans ?_
  have e : (ix2 ⟨b.val * 8 + n.val, by omega⟩ ⟨4096 + (h.val * 512 + j.val), by omega⟩ : S64x6272.Idx)
      = ix2 ⟨b.val * 8 + n.val, by omega⟩ ⟨4096 + h.val * 512 + j.val, by omega⟩ := by
    congr 2
    omega
  erw [e]
  rfl

theorem out_zero (X : Valuation τ sig (Elt Ideal)) (b : Fin 8) (n : Fin 128) (hn : ¬n.val < 8) (h : Fin 4) (j : Fin 512) :
    (out_main_v44 X : S1024x2048.Idx → EReal) (ix2 ⟨b.val * 128 + n.val, by omega⟩ ⟨h.val * 512 + j.val, by omega⟩) = (0 : EReal) := by
  unfold out_main_v44
  pointwise
  refine (dif_neg (show ¬(n.val < 8 ∧ h.val * 512 + j.val < 2048) from fun h' => hn h'.1)).trans ?_
  show (((0#32).toInt : ℝ) : EReal) = 0
  simp

theorem last_out (hp : IsReal (proj m c)) (hw : IsReal (gateW m c)) (hu : IsReal (gateB m c)) (hz : IsReal (first m c)) :
    (out_main_v44 (STEP^[8] (entryContents preI m c)) : S1024x2048.Idx → EReal)
      = fun y => padded (proj m c) (gateW m c) (gateB m c) (first m c) (scale m c) ⟨(y 0).val / 128, by have : (y 0).val < 1024 := (y 0).isLt; omega⟩
        ⟨(y 0).val % 128, Nat.mod_lt _ (by decide)⟩ ⟨(y 1).val / 512, by have : (y 1).val < 2048 := (y 1).isLt; omega⟩
        ⟨(y 1).val % 512, Nat.mod_lt _ (by decide)⟩ := by
  have H := after_all m c hp hw hu hz 8 le_rfl
  have e0 := iter_main_arg0 (F := Ideal) m c 8
  have e3 := iter_main_arg3 (F := Ideal) m c 8
  generalize STEP^[8] (entryContents preI m c) = X at H e0 e3
  funext y
  have h0 : (y 0).val < 1024 := (y 0).isLt
  have h1 : (y 1).val < 2048 := (y 1).isLt
  have hy : y = ix2 ⟨(y 0).val / 128 * 128 + (y 0).val % 128, by omega⟩ ⟨(y 1).val / 512 * 512 + (y 1).val % 512, by omega⟩ :=
    funext fun a => match a with
      | ⟨0, _⟩ => Fin.ext (by show (y 0).val = (y 0).val / 128 * 128 + (y 0).val % 128; omega)
      | ⟨1, _⟩ => Fin.ext (by show (y 1).val = (y 1).val / 512 * 512 + (y 1).val % 512; omega)
  refine (congrArg (out_main_v44 X : S1024x2048.Idx → EReal) hy).trans ?_
  unfold padded
  by_cases hn : (y 0).val % 128 < 8
  · refine (out_at X ⟨(y 0).val / 128, by omega⟩ ⟨(y 0).val % 128, Nat.mod_lt _ (by decide)⟩ hn ⟨(y 1).val / 512, by omega⟩
      ⟨(y 1).val % 512, Nat.mod_lt _ (by decide)⟩).trans ?_
    rw [e0, e3, dif_pos hn]
    simp only [H.rows _ (Fin.isLt _)]
    rfl
  · rw [dif_neg hn]
    exact out_zero X ⟨(y 0).val / 128, by omega⟩ ⟨(y 0).val % 128, Nat.mod_lt _ (by decide)⟩ hn ⟨(y 1).val / 512, by omega⟩
      ⟨(y 1).val % 512, Nat.mod_lt _ (by decide)⟩

end Cert.GlaSampleRefIdeal.Scan

end
-- ==== Proof.HgrnSampleTile.lean ====
module

public import proofs.«01_k».proof.Proof.Short
public import proofs.«01_k».proof.Proof.HgrnData
public import proofs.«01_k».proof.Proof.Gen.HgrnSampleIdeal.Skeleton
public import Idealize.ShloMosaic.Lib.Pointwise

/-! One grid point of the kernel over a padded sequence, read at an index: keys and decays after the eighth token are
set to zero, and what it computes from the tiles is the chunk formula of `Recurrence`. -/

@[expose] public section

set_option maxRecDepth 16384

noncomputable section

namespace Cert.HgrnSampleIdeal.Tile

open Idealize.ShloMosaic Idealize.ShloMosaic.TcCoe Idealize.SL.Sem
open Cert.HgrnSampleIdeal Cert.HgrnSampleIdeal.Gen Cert.Recurrence

/-- What a row of gates keeps, from the floor `l`. -/
theorem keep_apply (b : Vec Ideal S1x128 .f32) (f : Vec Ideal S128x128 .f32) (x : Fin 128 → Fin 128 → ℝ) (l : Fin 128 → ℝ)
    (hb : ∀ i, b (ix2 0 i) = ((l i : ℝ) : EReal)) (hf : Holds f x) : Holds (k0_pay5 (F := Ideal) b f) fun t i => Floor.kept (l i) (x t i) := by
  intro t i
  pointwise [k0_pay5]
  rw [hb, hf, Ideal.logistic_coe, ← EReal.coe_one, ← EReal.coe_sub, ← EReal.coe_mul, ← EReal.coe_add]
  rfl

theorem key_kept {b : Vec Ideal S1x128 .f32} {f : Vec Ideal S128x128 .f32} {y : Fin 128 → Fin 128 → ℝ}
    (h : Holds (k0_pay5 (F := Ideal) b f) y) : Holds (k0_pay7 (F := Ideal) b f) fun t i => if t.val < 8 then 1 - y t i else 0 := by
  intro t i
  pointwise [k0_pay7, k0_pay6]
  rw [early, h, ← EReal.coe_one, ← EReal.coe_sub]
  by_cases ht : t.val < 8
  · rw [if_pos ht, if_pos ht]
    rfl
  · rw [if_neg ht, if_neg ht, EReal.coe_zero]
    rfl

theorem decay_kept {b : Vec Ideal S1x128 .f32} {f : Vec Ideal S128x128 .f32} {y : Fin 128 → Fin 128 → ℝ}
    (h : Holds (k0_pay5 (F := Ideal) b f) y) (hp : ∀ t i, 0 < y t i) :
    Holds (k0_pay8 (F := Ideal) b f) fun t i => if t.val < 8 then Real.log (y t i) else 0 := by
  intro t i
  pointwise [k0_pay8, k0_pay6]
  rw [early, h, Ideal.log_coe, if_neg (not_le.mpr (hp t i))]
  by_cases ht : t.val < 8
  · rw [if_pos ht, if_pos ht]
    rfl
  · rw [if_neg ht, if_neg ht, EReal.coe_zero]
    rfl

theorem query_apply' (q : Vec Ideal S128x128 .f32) (x : Fin 128 → Fin 128 → ℝ) (h : Holds q x) :
    Holds (k0_pay4 (F := Ideal) q) fun t i => x t i * Floor.sigm (x t i) * Floor.unit := by
  intro t i
  pointwise [k0_pay4]
  rw [h, Floor.lit_unit, Ideal.logistic_coe, ← EReal.coe_mul, ← EReal.coe_mul]
  rfl

/-- All window sums of the decays. -/
def sums (b : Vec Ideal S1x128 .f32) (f : Vec Ideal S128x128 .f32) (w : Vec Ideal S1920x128 .bf16) : FVec Ideal S1920x128 .f32 :=
  k0_pay14 (k0_pay11 (F := Ideal) b f) (k0_pay12 (F := Ideal) b f) (k0_pay13 (F := Ideal) b f) w

theorem sums_apply (b : Vec Ideal S1x128 .f32) (f : Vec Ideal S128x128 .f32) (w : Vec Ideal S1920x128 .bf16) (gr : Fin 128 → Fin 128 → ℝ)
    (hg : Holds (k0_pay8 (F := Ideal) b f) gr) (hw : IsWin w) (r : Fin 1920) (i : Fin 128) :
    sums b f w (ix2 r i) = ((win (rowLo r.val) (rowHi r.val) fun s => gr s i : ℝ) : EReal) := by
  unfold sums
  pointwise [k0_pay14, k0_pay13, k0_pay12, k0_pay11]
  simp only [hg _ _, hw _ _, ← EReal.coe_sub, sub_self, sum_mul_real, mul_zero, Finset.sum_const_zero, ← EReal.coe_add, add_zero]
  unfold win
  norm_cast
  simp

section
variable {q k : FVec Ideal S128x128 .f32} {b : Vec Ideal S1x128 .f32} {f : Vec Ideal S128x128 .f32} {v : FVec Ideal S128x128 .f32} {l : Vec Ideal S128x128 .i32} {w : Vec Ideal S1920x128 .bf16}
  {st : Vec Ideal S128x128 .f32} {qr kr gr : Fin 128 → Fin 128 → ℝ} {vr : Fin 128 → Fin 128 → ℝ} {sr : Fin 128 → Fin 128 → ℝ}

theorem first_apply (hg : Holds (k0_pay8 (F := Ideal) b f) gr) (hw : IsWin w) (t : Fin 128) (h : t.val < 1920) (i : Fin 128) :
    sums b f w (ix2 ⟨t.val, h⟩ i) = ((win 0 t.val fun s => gr s i : ℝ) : EReal) := by
  rw [sums_apply b f w gr hg hw, (row_first t.val t.isLt).1, (row_first t.val t.isLt).2]

theorem row_last (hg : Holds (k0_pay8 (F := Ideal) b f) gr) (hw : IsWin w) (i : Fin 128) :
    sums b f w (ix2 127 i) = ((win 0 127 fun s => gr s i : ℝ) : EReal) :=
  first_apply hg hw 127 (by decide) i

theorem query_apply (hg : Holds (k0_pay8 (F := Ideal) b f) gr) (hw : IsWin w) (li : ℕ) (hl : li < 7) (t : Fin 128) (n : ℕ) (hn : n = (li + 1) * 128)
    (h : n + t.val < 1920) (i : Fin 128) :
    sums b f w (ix2 ⟨n + t.val, h⟩ i) = ((win (mid li t.val) t.val fun s => gr s i : ℝ) : EReal) := by
  subst hn
  rw [sums_apply b f w gr hg hw, (row_query li t.val hl t.isLt).1, (row_query li t.val hl t.isLt).2]

theorem key_apply (hg : Holds (k0_pay8 (F := Ideal) b f) gr) (hw : IsWin w) (li : ℕ) (s : Fin 128) (n : ℕ) (hn : n = (li + 8) * 128)
    (h : n + s.val < 1920) (i : Fin 128) :
    sums b f w (ix2 ⟨n + s.val, h⟩ i) = ((win (s.val + 1) (mid li s.val - 1) fun s => gr s i : ℝ) : EReal) := by
  subst hn
  rw [sums_apply b f w gr hg hw, (row_key li s.val s.isLt).1, (row_key li s.val s.isLt).2]

/-- What a token reads of the state at the chunk's start, and of the chunk's own tokens. -/
def chunkO (q k : FVec Ideal S128x128 .f32) (b : Vec Ideal S1x128 .f32) (f : Vec Ideal S128x128 .f32) (v : FVec Ideal S128x128 .f32)
    (l : Vec Ideal S128x128 .i32) (w : Vec Ideal S1920x128 .bf16) (st : Vec Ideal S128x128 .f32) : FVec Ideal S128x128 .f32 :=
  k0_pay24 q k v (k0_pay10 (F := Ideal) l) (sums b f w)
    (k0_pay17 q (k0_pay11 (F := Ideal) b f) (k0_pay12 (F := Ideal) b f) (k0_pay13 (F := Ideal) b f) w st)
    (k0_pay22 q k (k0_pay10 (F := Ideal) l) (sums b f w)
      (k0_pay18 q k (k0_pay10 (F := Ideal) l) (k0_pay11 (F := Ideal) b f) (k0_pay12 (F := Ideal) b f) (k0_pay13 (F := Ideal) b f) w)
      (k0_pay19 (k0_pay11 (F := Ideal) b f) (k0_pay12 (F := Ideal) b f) (k0_pay13 (F := Ideal) b f) w) (k0_pay20 (k0_pay10 (F := Ideal) l))
      (k0_pay21 q (k0_pay11 (F := Ideal) b f) (k0_pay12 (F := Ideal) b f) (k0_pay13 (F := Ideal) b f) w))
    (k0_pay23 q k (k0_pay10 (F := Ideal) l) (sums b f w))

/-- The state after the chunk, at the kernel's own (transposed) layout. -/
def chunkS (k : FVec Ideal S128x128 .f32) (b : Vec Ideal S1x128 .f32) (f : Vec Ideal S128x128 .f32) (v : FVec Ideal S128x128 .f32)
    (w : Vec Ideal S1920x128 .bf16) (st : Vec Ideal S128x128 .f32) : FVec Ideal S128x128 .f32 :=
  k0_pay25 k v (k0_pay15 (k0_pay11 (F := Ideal) b f) (k0_pay12 (F := Ideal) b f) (k0_pay13 (F := Ideal) b f) w)
    (k0_pay16 (k0_pay11 (F := Ideal) b f) (k0_pay12 (F := Ideal) b f) (k0_pay13 (F := Ideal) b f) w) st

theorem sums_eq (b : Vec Ideal S1x128 .f32) (f : Vec Ideal S128x128 .f32) (w : Vec Ideal S1920x128 .bf16) :
    k0_pay14 (k0_pay11 (F := Ideal) b f) (k0_pay12 (F := Ideal) b f) (k0_pay13 (F := Ideal) b f) w = sums b f w := rfl

theorem chunkO_apply (hq : Holds q qr) (hk : Holds k kr) (hg : Holds (k0_pay8 (F := Ideal) b f) gr) (hv : Holds v vr) (hw : IsWin w)
    (hst : Holds st fun j i => sr i j) (t : Fin 128) (j : Fin 128) :
    chunkO q k b f v l w st (ix2 t j) =
      (((∑ i, (qr t i * Real.exp (win 0 t.val fun r => gr r i)) * sr i j)
        + ∑ s, score (fun t s => l (ix2 t s)) qr kr gr t s * vr s j : ℝ) : EReal) := by
  unfold chunkO
  unfold k0_pay17 k0_pay15 k0_pay18 k0_pay19 k0_pay21
  rw [sums_eq]
  pointwise [k0_pay24, k0_pay10, k0_pay20, k0_pay22, k0_pay23]
  simp only [select_eq, hq _ _, hk _ _, hv _ _, hst _ _, first_apply hg hw, query_apply hg hw 0 (by omega) _ 128 rfl, query_apply hg hw 1 (by omega) _ 256 rfl,
    query_apply hg hw 2 (by omega) _ 384 rfl, query_apply hg hw 3 (by omega) _ 512 rfl, query_apply hg hw 4 (by omega) _ 640 rfl,
    query_apply hg hw 5 (by omega) _ 768 rfl, query_apply hg hw 6 (by omega) _ 896 rfl, key_apply hg hw 0 _ 1024 rfl,
    key_apply hg hw 1 _ 1152 rfl, key_apply hg hw 2 _ 1280 rfl, key_apply hg hw 3 _ 1408 rfl, key_apply hg hw 4 _ 1536 rfl,
    key_apply hg hw 5 _ 1664 rfl, key_apply hg hw 6 _ 1792 rfl, Ideal.exp_coe, ← EReal.coe_mul, sum_real, if_real, ← EReal.coe_add]
  rfl

theorem chunkS_apply (hk : Holds k kr) (hg : Holds (k0_pay8 (F := Ideal) b f) gr) (hv : Holds v vr) (hw : IsWin w)
    (hst : Holds st fun j i => sr i j) (i : Fin 128) (j : Fin 128) :
    chunkS k b f v w st (ix2 j i) =
      ((sr i j * Real.exp (win 0 127 fun r => gr r i) + ∑ s, vr s j * (kr s i *
          Real.exp (win 0 127 (fun r => gr r i) - win 0 s.val fun r => gr r i)) : ℝ) : EReal) := by
  unfold chunkS
  unfold k0_pay16 k0_pay15
  rw [sums_eq]
  pointwise [k0_pay25]
  have h := fun i => row_last (b := b) (f := f) (w := w) hg hw i
  simp only [hk _ _, hv _ _, hst _ _, first_apply hg hw, h, Ideal.exp_coe, ← EReal.coe_mul, ← EReal.coe_sub, sum_real, ← EReal.coe_add]
end

end Cert.HgrnSampleIdeal.Tile

end
-- ==== Proof.HgrnSamplePoints.lean ====
module

public import proofs.«01_k».proof.Proof.HgrnSampleTile
public import proofs.«01_k».proof.Proof.Gen.HgrnSampleIdeal.Value
public import Idealize.ShloMosaic.Lib.Pipeline.ValueKit.Acc

/-! What a grid point leaves behind: its block of the output, and the state after its chunk, as the chunk's computation
over the blocks the point reads. -/

@[expose] public section

set_option maxRecDepth 16384

noncomputable section

namespace Cert.HgrnSampleIdeal.Tile

open Idealize.ShloMosaic Idealize.ShloMosaic.TcCoe Idealize.SL.Sem
open Cert.HgrnSampleIdeal Cert.HgrnSampleIdeal.Gen Cert.Recurrence

variable (m : (ℓ : Loc nD τ sig) → Buf (Elt Ideal) ℓ)

/-- The point's output block, and the state it leaves, from the state it starts with. -/
def pointOut (c : Dev nD) (t : Fin cfg0.N) (st : Vec Ideal S128x128 .f32) : FVec Ideal S128x128 .f32 :=
  k0_pay1 (chunkO (k0_pay4 (iblk m c 0 t)) (k0_pay7 (iblk m c 4 t) (iblk m c 1 t)) (iblk m c 4 t) (iblk m c 1 t) (k0_pay9 (iblk m c 2 t)) (iblk m c 8 t) (iblk m c 7 t) st)
    (iblk m c 5 t) (iblk m c 3 t)

def pointState (c : Dev nD) (t : Fin cfg0.N) (st : Vec Ideal S128x128 .f32) : Vec Ideal S128x128 .f32 :=
  chunkS (k0_pay7 (iblk m c 4 t) (iblk m c 1 t)) (iblk m c 4 t) (iblk m c 1 t) (k0_pay9 (iblk m c 2 t)) (iblk m c 7 t) st

theorem zero2 : (![0, 0] : Fin 2 → Nat) = fun _ => 0 := funext fun a => by fin_cases a <;> rfl
theorem zero4 : (![0, 0, 0, 0] : Fin 4 → Nat) = fun _ => 0 := funext fun a => by fin_cases a <;> rfl

theorem out_A (c : Dev nD) (t : Fin cfg0.N) :
    (outsAt0 m c t).1 = pointOut m c t (k0_pay3 (iblk m c 6 t)) := by
  have hsc : scM0_0.IsWhole := Memref.isWhole_whole _
  unfold outsAt0
  dsimp only
  unfold out0_A_9
  rw [View.read_writes_eq_canon _ _ _ (fun y => cover0_A_9 (y := y) ..)]
  unfold kernelRun0_A
  dsimp only
  sl_unfold_words
  simp only [View.canon_cons_unit_zero (S := S128x128) zero2, View.canon_unit_zero (S := S128x128) zero2, View.canon_unit_zero (S := S1x1x128x128) zero4,
    View.readCov_unit_zero (S := S128x128) _ zero2, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, hsc.read_unread, View.ld_unit_zero (S := S128x128) zero2,
    View.ld_unit_zero (S := S1x128) zero2, View.ld_unit_zero (S := S1920x128) zero2, View.ld_unit_zero (S := S1x1x128x128) zero4]
  rfl

theorem final_A (c : Dev nD) (t : Fin cfg0.N) :
    (outsAt0 m c t).2 = k0_pay2 (pointState m c t (k0_pay3 (iblk m c 6 t))) := by
  have hsc : scM0_0.IsWhole := Memref.isWhole_whole _
  unfold outsAt0
  dsimp only
  unfold out0_A_10
  rw [View.read_writes_eq_canon _ _ _ (fun y => cover0_A_10 (y := y) ..)]
  unfold kernelRun0_A
  dsimp only
  sl_unfold_words
  simp only [View.canon_cons_unit_zero (S := S128x128) zero2, View.canon_unit_zero (S := S128x128) zero2, View.canon_unit_zero (S := S1x1x128x128) zero4,
    View.readCov_unit_zero (S := S128x128) _ zero2, View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, hsc.read_unread, View.ld_unit_zero (S := S128x128) zero2,
    View.ld_unit_zero (S := S1x128) zero2, View.ld_unit_zero (S := S1920x128) zero2, View.ld_unit_zero (S := S1x1x128x128) zero4]
  exact (congrArg k0_pay2 (View.readCov_cons_unit_lit' (S := S128x128) _ _ _ _ _ (fun a => by fin_cases a <;> rfl) (fun a => by fin_cases a <;> rfl))).trans rfl

end Cert.HgrnSampleIdeal.Tile

end
-- ==== Proof.HgrnSampleBlocks.lean ====
module

public import proofs.«01_k».proof.Proof.HgrnSamplePoints
public import Idealize.ShloMosaic.Lib.StableHlo.ReadAt

/-! What the arrays the host code prepares hold, and the blocks a grid point reads as elements of the arguments: point
`t` is the head `t % 8` of the sequence `t / 8`. -/

@[expose] public section

set_option maxRecDepth 16384

noncomputable section

namespace Cert.HgrnSampleIdeal.Tile

open Idealize.ShloMosaic Idealize.ShloMosaic.TcCoe Idealize.SL.Sem
open Cert.HgrnSampleIdeal Cert.HgrnSampleIdeal.Gen Cert.Recurrence

variable (m : (ℓ : Loc nD τ sig) → Buf (Elt Ideal) ℓ)

/-- The four arguments. -/
def projA (c : Dev nD) : S64x7168.Idx → EReal := m ((c : Thread nD τ).loc main_arg0)
def floorA (c : Dev nD) : S1024.Idx → EReal := m ((c : Thread nD τ).loc main_arg1)
def scaleA (c : Dev nD) : S128.Idx → EReal := m ((c : Thread nD τ).loc main_arg2)
def startA (c : Dev nD) : S8x8x128x128.Idx → EReal := m ((c : Thread nD τ).loc main_arg3)

theorem window_entry (c : Dev nD) : IsWin (V m c main_v48 : S1920x128.Idx → EReal) :=
  win_of_words _ fun r s => by
    unfold V
    after_reads_at
    rfl

theorem level_entry (c : Dev nD) (t s : Fin 128) : (V m c main_v47 : S128x128.Idx → BitVec 32) (ix2 t s) = levelW t.val s.val := by
  unfold V
  after_reads_at
  rfl

theorem floor_entry (c : Dev nD) (r : Fin 1) (s : Fin 1024) : (V m c main_v49 : S1x1024.Idx → EReal) (ix2 r s) = floorA m c (ix1 s) := by
  unfold V
  after_reads_at
  rfl

theorem scale_entry (c : Dev nD) (r : Fin 1) (s : Fin 128) : (V m c main_v50 : S1x128.Idx → EReal) (ix2 r s) = scaleA m c (ix1 s) := by
  unfold V
  after_reads_at
  rfl

/-- The projection's rows, eight to a chunk, and zeros after them. -/
theorem proj_entry (c : Dev nD) (r : Fin 1024) (s : Fin 4096) (h : r.val % 128 < 8) : (V m c main_v3 : S1024x4096.Idx → EReal) (ix2 r s)
    = projA m c (ix2 ⟨r.val / 128 * 8 + r.val % 128, by omega⟩ ⟨s.val, by omega⟩) := by
  unfold V
  after_reads_at
  exact dif_pos (show r.val / 128 < 8 ∧ r.val % 128 < 8 from ⟨by omega, h⟩)

theorem proj_zero (c : Dev nD) (r : Fin 1024) (s : Fin 4096) (h : ¬r.val % 128 < 8) : (V m c main_v3 : S1024x4096.Idx → EReal) (ix2 r s) = (0 : EReal) := by
  unfold V
  after_reads_at
  refine (dif_neg (show ¬(r.val / 128 < 8 ∧ r.val % 128 < 8) from fun h' => h h'.2)).trans ?_
  show (((0#32).toInt : ℝ) : EReal) = 0
  simp

theorem start_entry (c : Dev nD) : (V m c main_arg3 : S8x8x128x128.Idx → EReal) = startA m c := by
  unfold V
  after_reads_simp
  rfl

/-- The row of the sequences at which the point's chunk starts, and the point's head. -/
def row (t : ℕ) : ℕ := t / 8 * 128
def head (t : ℕ) : ℕ := t % 8

theorem point_lt (t : Fin cfg0.N) : t.val < 64 := t.isLt.trans_eq N_0

theorem row_lt (t : Fin cfg0.N) (i : Fin 128) : row t.val + i.val < 1024 := by
  have := point_lt t
  have := i.isLt
  unfold row
  omega

theorem row_in (t : Fin cfg0.N) (i : Fin 128) : (row t.val + i.val) % 128 = i.val := by unfold row; omega

theorem row_of (t : Fin cfg0.N) (i : Fin 128) : (row t.val + i.val) / 128 = t.val / 8 := by unfold row; omega

theorem head_lt (t : ℕ) : head t < 8 := Nat.mod_lt _ (by decide)

theorem where0 : ∀ t : Fin grid0.N, win0_0.index t 0 = t.val / 8 ∧ win0_0.index t 1 = t.val % 8 := by decide +kernel
theorem where1 : ∀ t : Fin grid0.N, win0_1.index t 0 = t.val / 8 ∧ win0_1.index t 1 = 8 + t.val % 8 := by decide +kernel
theorem where2 : ∀ t : Fin grid0.N, win0_2.index t 0 = t.val / 8 ∧ win0_2.index t 1 = 16 + t.val % 8 := by decide +kernel
theorem where3 : ∀ t : Fin grid0.N, win0_3.index t 0 = t.val / 8 ∧ win0_3.index t 1 = 24 + t.val % 8 := by decide +kernel
theorem where4 : ∀ t : Fin grid0.N, win0_4.index t 0 = 0 ∧ win0_4.index t 1 = t.val % 8 := by decide +kernel
theorem where5 : ∀ t : Fin grid0.N, win0_5.index t 0 = 0 ∧ win0_5.index t 1 = 0 := by decide +kernel
theorem where7 : ∀ t : Fin grid0.N, win0_7.index t 0 = 0 ∧ win0_7.index t 1 = 0 := by decide +kernel
theorem where8 : ∀ t : Fin grid0.N, win0_8.index t 0 = 0 ∧ win0_8.index t 1 = 0 := by decide +kernel
theorem where6 : ∀ t : Fin grid0.N, win0_6.index t 0 = t.val / 8 ∧ win0_6.index t 1 = t.val % 8 ∧ win0_6.index t 2 = 0 ∧ win0_6.index t 3 = 0 := by decide +kernel

theorem block0 (c : Dev nD) (t : Fin cfg0.N) (i j : Fin 128) : (iblk m c 0 t : S128x128.Idx → EReal) (ix2 i j)
    = (V m c main_v3 : S1024x4096.Idx → EReal) (ix2 ⟨row t.val + i.val, row_lt t i⟩ ⟨head t.val * 128 + j.val, by have := head_lt t.val; omega⟩) := by
  unfold iblk
  rw [View.read_apply]
  show V m c main_v3 _ = _
  refine congrArg (V m c main_v3 : S1024x4096.Idx → EReal) (funext fun a => Fin.ext ?_)
  match a with
  | ⟨0, _⟩ => show win0_0.index t 0 * 128 + 1 * i.val = row t.val + i.val; rw [(where0 t).1]; unfold row; omega
  | ⟨1, _⟩ => show win0_0.index t 1 * 128 + 1 * j.val = head t.val * 128 + j.val; rw [(where0 t).2]; unfold head; omega

theorem block1 (c : Dev nD) (t : Fin cfg0.N) (i j : Fin 128) : (iblk m c 1 t : S128x128.Idx → EReal) (ix2 i j)
    = (V m c main_v3 : S1024x4096.Idx → EReal) (ix2 ⟨row t.val + i.val, row_lt t i⟩ ⟨1024 + head t.val * 128 + j.val, by have := head_lt t.val; omega⟩) := by
  unfold iblk
  rw [View.read_apply]
  show V m c main_v3 _ = _
  refine congrArg (V m c main_v3 : S1024x4096.Idx → EReal) (funext fun a => Fin.ext ?_)
  match a with
  | ⟨0, _⟩ => show win0_1.index t 0 * 128 + 1 * i.val = row t.val + i.val; rw [(where1 t).1]; unfold row; omega
  | ⟨1, _⟩ => show win0_1.index t 1 * 128 + 1 * j.val = 1024 + head t.val * 128 + j.val; rw [(where1 t).2]; unfold head; omega

theorem block2 (c : Dev nD) (t : Fin cfg0.N) (i j : Fin 128) : (iblk m c 2 t : S128x128.Idx → EReal) (ix2 i j)
    = (V m c main_v3 : S1024x4096.Idx → EReal) (ix2 ⟨row t.val + i.val, row_lt t i⟩ ⟨2048 + head t.val * 128 + j.val, by have := head_lt t.val; omega⟩) := by
  unfold iblk
  rw [View.read_apply]
  show V m c main_v3 _ = _
  refine congrArg (V m c main_v3 : S1024x4096.Idx → EReal) (funext fun a => Fin.ext ?_)
  match a with
  | ⟨0, _⟩ => show win0_2.index t 0 * 128 + 1 * i.val = row t.val + i.val; rw [(where2 t).1]; unfold row; omega
  | ⟨1, _⟩ => show win0_2.index t 1 * 128 + 1 * j.val = 2048 + head t.val * 128 + j.val; rw [(where2 t).2]; unfold head; omega

theorem block3 (c : Dev nD) (t : Fin cfg0.N) (i j : Fin 128) : (iblk m c 3 t : S128x128.Idx → EReal) (ix2 i j)
    = (V m c main_v3 : S1024x4096.Idx → EReal) (ix2 ⟨row t.val + i.val, row_lt t i⟩ ⟨3072 + head t.val * 128 + j.val, by have := head_lt t.val; omega⟩) := by
  unfold iblk
  rw [View.read_apply]
  show V m c main_v3 _ = _
  refine congrArg (V m c main_v3 : S1024x4096.Idx → EReal) (funext fun a => Fin.ext ?_)
  match a with
  | ⟨0, _⟩ => show win0_3.index t 0 * 128 + 1 * i.val = row t.val + i.val; rw [(where3 t).1]; unfold row; omega
  | ⟨1, _⟩ => show win0_3.index t 1 * 128 + 1 * j.val = 3072 + head t.val * 128 + j.val; rw [(where3 t).2]; unfold head; omega

theorem block4 (c : Dev nD) (t : Fin cfg0.N) (i : Fin 1) (j : Fin 128) : (iblk m c 4 t : S1x128.Idx → EReal) (ix2 i j)
    = (V m c main_v49 : S1x1024.Idx → EReal) (ix2 ⟨i.val, i.isLt⟩ ⟨head t.val * 128 + j.val, by have := head_lt t.val; omega⟩) := by
  unfold iblk
  rw [View.read_apply]
  show V m c main_v49 _ = _
  refine congrArg (V m c main_v49 : S1x1024.Idx → EReal) (funext fun a => Fin.ext ?_)
  match a with
  | ⟨0, _⟩ => show win0_4.index t 0 * 1 + 1 * i.val = i.val; rw [(where4 t).1]; omega
  | ⟨1, _⟩ => show win0_4.index t 1 * 128 + 1 * j.val = head t.val * 128 + j.val; rw [(where4 t).2]; unfold head; omega

theorem block5 (c : Dev nD) (t : Fin cfg0.N) (i : Fin 1) (j : Fin 128) : (iblk m c 5 t : S1x128.Idx → EReal) (ix2 i j)
    = (V m c main_v50 : S1x128.Idx → EReal) (ix2 ⟨i.val, i.isLt⟩ ⟨j.val, j.isLt⟩) := by
  unfold iblk
  rw [View.read_apply]
  show V m c main_v50 _ = _
  refine congrArg (V m c main_v50 : S1x128.Idx → EReal) (funext fun a => Fin.ext ?_)
  match a with
  | ⟨0, _⟩ => show win0_5.index t 0 * 1 + 1 * i.val = i.val; rw [(where5 t).1]; omega
  | ⟨1, _⟩ => show win0_5.index t 1 * 128 + 1 * j.val = j.val; rw [(where5 t).2]; omega

theorem block6 (c : Dev nD) (t : Fin cfg0.N) (a b : Fin 1) (i j : Fin 128) : (iblk m c 6 t : S1x1x128x128.Idx → EReal) (ix4 a b i j)
    = startA m c (ix4 ⟨t.val / 8, by have := point_lt t; omega⟩ ⟨head t.val, head_lt _⟩ i j) := by
  unfold iblk
  rw [View.read_apply]
  show V m c main_arg3 _ = _
  rw [start_entry]
  refine congrArg (startA m c) (funext fun x => Fin.ext ?_)
  match x with
  | ⟨0, _⟩ => show win0_6.index t 0 * 1 + 1 * a.val = t.val / 8; rw [(where6 t).1]; omega
  | ⟨1, _⟩ => show win0_6.index t 1 * 1 + 1 * b.val = head t.val; rw [(where6 t).2.1]; unfold head; omega
  | ⟨2, _⟩ => show win0_6.index t 2 * 128 + 1 * i.val = i.val; rw [(where6 t).2.2.1]; omega
  | ⟨3, _⟩ => show win0_6.index t 3 * 128 + 1 * j.val = j.val; rw [(where6 t).2.2.2]; omega

theorem block7 (c : Dev nD) (t : Fin cfg0.N) (i : Fin 1920) (j : Fin 128) : (iblk m c 7 t : S1920x128.Idx → EReal) (ix2 i j)
    = (V m c main_v48 : S1920x128.Idx → EReal) (ix2 ⟨i.val, i.isLt⟩ ⟨j.val, j.isLt⟩) := by
  unfold iblk
  rw [View.read_apply]
  show V m c main_v48 _ = _
  refine congrArg (V m c main_v48 : S1920x128.Idx → EReal) (funext fun a => Fin.ext ?_)
  match a with
  | ⟨0, _⟩ => show win0_7.index t 0 * 1920 + 1 * i.val = i.val; rw [(where7 t).1]; omega
  | ⟨1, _⟩ => show win0_7.index t 1 * 128 + 1 * j.val = j.val; rw [(where7 t).2]; omega

theorem block8 (c : Dev nD) (t : Fin cfg0.N) (i : Fin 128) (j : Fin 128) : (iblk m c 8 t : S128x128.Idx → BitVec 32) (ix2 i j)
    = (V m c main_v47 : S128x128.Idx → BitVec 32) (ix2 ⟨i.val, i.isLt⟩ ⟨j.val, j.isLt⟩) := by
  unfold iblk
  rw [View.read_apply]
  show V m c main_v47 _ = _
  refine congrArg (V m c main_v47 : S128x128.Idx → BitVec 32) (funext fun a => Fin.ext ?_)
  match a with
  | ⟨0, _⟩ => show win0_8.index t 0 * 128 + 1 * i.val = i.val; rw [(where8 t).1]; omega
  | ⟨1, _⟩ => show win0_8.index t 1 * 128 + 1 * j.val = j.val; rw [(where8 t).2]; omega

end Cert.HgrnSampleIdeal.Tile

end
-- ==== Proof.HgrnSampleValue.lean ====
module

public import proofs.«01_k».proof.Proof.HgrnSampleBlocks
public import proofs.«01_k».proof.Proof.ShortData
public import Idealize.ShloMosaic.Lib.Pipeline.Value

/-! The kernel's two result arrays: the read-outs of the recurrence, normed and gated, and the recurrence's last
state. -/

@[expose] public section

set_option maxRecDepth 16384

noncomputable section

namespace Cert.HgrnSampleIdeal.Tile

open Idealize.ShloMosaic Idealize.ShloMosaic.TcCoe Idealize.SL.Sem
open Cert.HgrnSampleIdeal Cert.HgrnSampleIdeal.Gen Cert.Recurrence

variable (m : (ℓ : Loc nD τ sig) → Buf (Elt Ideal) ℓ) (c : Dev nD)

/-- The arguments on which the recurrence runs hold real numbers, and the floors aren't negative. -/
structure RealArgs : Prop where
  proj : IsReal (projA m c)
  floor : IsReal (floorA m c)
  pos : ∀ i, 0 ≤ floorA m c i
  start : IsReal (startA m c)

variable {m c}

theorem bias_nonneg (hr : RealArgs m c) (a : ℕ) : 0 ≤ bias (floorA m c) a := by
  unfold bias
  by_cases h : a < 1024
  · rw [dif_pos h]
    exact EReal.toReal_nonneg (hr.pos _)
  · rw [dif_neg h]

/-- The padded projection holds the projection's rows first in every chunk. -/
theorem proj_in (hr : RealArgs m c) (t : Fin cfg0.N) (i : Fin 128) (a : Fin 4096) (hi : i.val < 8) :
    (V m c main_v3 : S1024x4096.Idx → EReal) (ix2 ⟨row t.val + i.val, row_lt t i⟩ a)
      = ((at2 (projA m c) (t.val / 8 * 8 + i.val) a.val : ℝ) : EReal) := by
  have hi' : (row t.val + i.val) % 128 < 8 := by rw [row_in]; exact hi
  rw [proj_entry m c _ _ hi', at2_real hr.proj]
  simp only [row_in, row_of]

theorem proj_out (t : Fin cfg0.N) (i : Fin 128) (a : Fin 4096) (hi : ¬i.val < 8) :
    (V m c main_v3 : S1024x4096.Idx → EReal) (ix2 ⟨row t.val + i.val, row_lt t i⟩ a) = (0 : EReal) := by
  have hi' : ¬(row t.val + i.val) % 128 < 8 := by rw [row_in]; exact hi
  exact proj_zero m c _ _ hi'

/-- A tile cut from the padded projection. -/
theorem proj_cut (hr : RealArgs m c) (t : Fin cfg0.N) (i : Fin 128) {n : ℕ} (o : Fin n → ℕ) (j : Fin n) (h : o j < 4096) :
    (V m c main_v3 : S1024x4096.Idx → EReal) (ix2 ⟨row t.val + i.val, row_lt t i⟩ ⟨o j, h⟩)
      = ((cut (fun r j => at2 (projA m c) (t.val / 8 * 8 + r) (o j)) i.val j : ℝ) : EReal) := by
  by_cases hi : i.val < 8
  · rw [proj_in hr t i _ hi, cut_in _ hi]
  · rw [proj_out t i _ hi, cut_out _ hi, EReal.coe_zero]

theorem point_queries (hr : RealArgs m c) (t : Fin cfg0.N) :
    Holds (k0_pay4 (F := Ideal) (iblk m c 0 t)) fun i j => cut (Floor.queries 8 (projA m c) (t.val / 8) (head t.val)) i.val j := fun i j => by
  rw [query_apply' _ (fun i j => cut (fun r (j : Fin 128) => at2 (projA m c) (t.val / 8 * 8 + r) (head t.val * 128 + j.val)) i.val j) fun i j =>
    (block0 m c t i j).trans (proj_cut hr t i (fun j : Fin 128 => head t.val * 128 + j.val) j _)]
  dsimp only
  by_cases hi : i.val < 8
  · rw [cut_in _ hi, cut_in _ hi]
    rfl
  · rw [cut_out _ hi, cut_out _ hi, zero_mul, zero_mul]

/-- What a row of the padded projection keeps. -/
def rowKeeps (m : (ℓ : Loc nD τ sig) → Buf (Elt Ideal) ℓ) (c : Dev nD) (t : ℕ) (i j : Fin 128) : ℝ :=
  Floor.kept (bias (floorA m c) (head t * 128 + j.val)) (cut (fun r (j : Fin 128) => at2 (projA m c) (t / 8 * 8 + r) (1024 + head t * 128 + j.val)) i.val j)

theorem rowKeeps_in (t : ℕ) (i j : Fin 128) (hi : i.val < 8) : rowKeeps m c t i j = Floor.keeps 8 (projA m c) (floorA m c) (t / 8) (head t) i.val j := by
  unfold rowKeeps
  rw [cut_in _ hi]
  rfl

theorem point_keeps (hr : RealArgs m c) (t : Fin cfg0.N) : Holds (k0_pay5 (F := Ideal) (iblk m c 4 t) (iblk m c 1 t)) (rowKeeps m c t.val) :=
  keep_apply _ _ (fun i j => cut (fun r (j : Fin 128) => at2 (projA m c) (t.val / 8 * 8 + r) (1024 + head t.val * 128 + j.val)) i.val j)
    (fun j => bias (floorA m c) (head t.val * 128 + j.val))
    (fun j => by rw [show iblk m c 4 t (ix2 0 j) = _ from block4 m c t 0 j, floor_entry, bias_eq _ hr.floor])
    fun i j => (block1 m c t i j).trans (proj_cut hr t i (fun j : Fin 128 => 1024 + head t.val * 128 + j.val) j _)

theorem point_keys (hr : RealArgs m c) (t : Fin cfg0.N) : Holds (k0_pay7 (F := Ideal) (iblk m c 4 t) (iblk m c 1 t)) fun i j =>
    cut (Floor.keys 8 (projA m c) (floorA m c) (t.val / 8) (head t.val)) i.val j := fun i j => by
  rw [key_kept (point_keeps hr t) i j]
  dsimp only
  by_cases hi : i.val < 8
  · rw [if_pos hi, cut_in _ hi, rowKeeps_in _ _ _ hi]
    rfl
  · rw [if_neg hi, cut_out _ hi]

theorem point_gates (hr : RealArgs m c) (t : Fin cfg0.N) : Holds (k0_pay8 (F := Ideal) (iblk m c 4 t) (iblk m c 1 t)) fun i j =>
    cut (Floor.decays 8 (projA m c) (floorA m c) (t.val / 8) (head t.val)) i.val j := fun i j => by
  rw [decay_kept (point_keeps hr t) (fun _ _ => Floor.kept_pos _ _ (bias_nonneg hr _)) i j]
  dsimp only
  by_cases hi : i.val < 8
  · rw [if_pos hi, cut_in _ hi, rowKeeps_in _ _ _ hi]
    rfl
  · rw [if_neg hi, cut_out _ hi]

theorem point_vals (hr : RealArgs m c) (t : Fin cfg0.N) :
    Holds (k0_pay9 (F := Ideal) (iblk m c 2 t)) fun i j => cut (Floor.vals 8 (projA m c) (t.val / 8) (head t.val)) i.val j := fun i j => by
  pointwise [k0_pay9]
  exact (block2 m c t i j).trans (proj_cut hr t i (fun j : Fin 128 => 2048 + head t.val * 128 + j.val) j _)

theorem point_window (t : Fin cfg0.N) : IsWin (iblk m c 7 t) := fun r s => by
  rw [show iblk m c 7 t (ix2 r s) = _ from block7 m c t r s]
  exact window_entry m c r s

theorem point_start (hr : RealArgs m c) (t : Fin cfg0.N) :
    Holds (k0_pay3 (F := Ideal) (iblk m c 6 t)) fun j i => state (cut (Floor.decays 8 (projA m c) (floorA m c) (t.val / 8) (head t.val))) (cut (Floor.keys 8 (projA m c) (floorA m c) (t.val / 8) (head t.val))) (cut (Floor.vals 8 (projA m c) (t.val / 8) (head t.val)))
      (start (startA m c) (t.val / 8) (head t.val)) 0 i j := by
  intro j i
  pointwise [k0_pay3]
  rw [show iblk m c 6 t (ix4 0 0 i j) = _ from block6 m c t 0 0 i j, start_eq _ hr.start]
  rfl

/-- A point takes the state from the start to the end of its sequence. -/
theorem point_state (hr : RealArgs m c) (t : Fin cfg0.N) :
    Holds (pointState m c t (k0_pay3 (iblk m c 6 t))) fun j i => Floor.stateOf 8 (projA m c) (floorA m c) (startA m c) (t.val / 8) (head t.val) 8 i j := by
  intro j i
  unfold pointState
  rw [chunkS_apply (point_keys hr t) (point_gates hr t) (point_vals hr t) (point_window t) (point_start hr t)]
  have h := chunk_state (cut (Floor.decays 8 (projA m c) (floorA m c) (t.val / 8) (head t.val))) (cut (Floor.keys 8 (projA m c) (floorA m c) (t.val / 8) (head t.val))) (cut (Floor.vals 8 (projA m c) (t.val / 8) (head t.val)))
    (start (startA m c) (t.val / 8) (head t.val)) 0 i j
  simp only [zero_add] at h
  exact congrArg _ (h.trans (state_kept _ _ _ _ 120 i j))

/-- The read-outs of a point's sequence. -/
theorem point_out (hr : RealArgs m c) (t : Fin cfg0.N) (i : Fin 128) (hi : i.val < 8) (j : Fin 128) :
    chunkO (k0_pay4 (iblk m c 0 t)) (k0_pay7 (iblk m c 4 t) (iblk m c 1 t)) (iblk m c 4 t) (iblk m c 1 t) (k0_pay9 (iblk m c 2 t)) (iblk m c 8 t) (iblk m c 7 t)
      (k0_pay3 (iblk m c 6 t)) (ix2 i j) = ((Floor.outOf 8 (projA m c) (floorA m c) (startA m c) (t.val / 8) (head t.val) i.val j : ℝ) : EReal) := by
  rw [chunkO_apply (point_queries hr t) (point_keys hr t) (point_gates hr t) (point_vals hr t) (point_window t) (point_start hr t)]
  have hl : (fun t' s' => iblk m c 8 t (ix2 t' s')) = fun (t' s' : Fin 128) => levelW t'.val s'.val := funext fun t' => funext fun s' =>
    (block8 m c t t' s').trans (level_entry m c t' s')
  rw [hl]
  have h := chunk_out _ levels (cut (Floor.queries 8 (projA m c) (t.val / 8) (head t.val))) (cut (Floor.decays 8 (projA m c) (floorA m c) (t.val / 8) (head t.val))) (cut (Floor.keys 8 (projA m c) (floorA m c) (t.val / 8) (head t.val))) (cut (Floor.vals 8 (projA m c) (t.val / 8) (head t.val)))
    (start (startA m c) (t.val / 8) (head t.val)) 0 i j
  simp only [zero_add] at h
  exact congrArg _ (h.trans (out_cut _ _ _ _ _ _ hi j))

/-- The two result arrays. -/
def outArr (m : (ℓ : Loc nD τ sig) → Buf (Elt Ideal) ℓ) (c : Dev nD) : S1024x1024.Idx → EReal := fun y =>
  Floor.padded (projA m c) (floorA m c) (startA m c) (scaleA m c) ⟨(y 0).val / 128, by have : (y 0).val < 1024 := (y 0).isLt; omega⟩
    ⟨(y 0).val % 128, Nat.mod_lt _ (by decide)⟩ ⟨(y 1).val / 128, by have : (y 1).val < 1024 := (y 1).isLt; omega⟩ ⟨(y 1).val % 128, Nat.mod_lt _ (by decide)⟩

def endArr (m : (ℓ : Loc nD τ sig) → Buf (Elt Ideal) ℓ) (c : Dev nD) : S8x8x128x128.Idx → EReal := fun y =>
  ((Floor.stateOf 8 (projA m c) (floorA m c) (startA m c) (y 0).val (y 1).val 8 (y 2) (y 3) : ℝ) : EReal)

/-- A point's block of the output. -/
theorem out_block (hr : RealArgs m c) (t : Fin cfg0.N) (i : Fin 128) (j : Fin 128) (h0 : t.val / 8 < 8) :
    (outsAt0 m c t).1 (ix2 i j) = Floor.padded (projA m c) (floorA m c) (startA m c) (scaleA m c) ⟨t.val / 8, h0⟩ i ⟨head t.val, head_lt _⟩ j := by
  rw [out_A m c t]
  unfold pointOut
  pointwise [k0_pay1]
  unfold Floor.padded
  by_cases hi : i.val < 8
  · simp only [point_out hr t i hi]
    rw [show iblk m c 5 t (ix2 0 j) = _ from block5 m c t 0 j, show iblk m c 3 t (ix2 i j) = _ from block3 m c t i j, scale_entry,
      proj_entry m c _ _ (show (row t.val + i.val) % 128 < 8 by rw [row_in]; exact hi), dif_pos hi]
    unfold Floor.result normed
    simp only [row_in, row_of, Nat.add_assoc]
  · rw [show iblk m c 3 t (ix2 i j) = _ from block3 m c t i j, proj_out t i _ hi, dif_neg hi, zero_mul, mul_zero]

theorem outArr_at (y : S1024x1024.Idx) (b : Fin 8) (n : Fin 128) (h : Fin 8) (j : Fin 128) (h0 : (y 0).val = b.val * 128 + n.val)
    (h1 : (y 1).val = h.val * 128 + j.val) :
    outArr m c y = Floor.padded (projA m c) (floorA m c) (startA m c) (scaleA m c) b n h j := by
  unfold outArr
  congr 1 <;> apply Fin.ext <;> dsimp only <;> omega

theorem where9 : ∀ t : Fin grid0.N, win0_9.index t 0 = t.val / 8 ∧ win0_9.index t 1 = t.val % 8 := by decide +kernel
theorem where10 : ∀ t : Fin grid0.N, win0_10.index t 0 = t.val / 8 ∧ win0_10.index t 1 = t.val % 8 ∧ win0_10.index t 2 = 0 ∧ win0_10.index t 3 = 0 := by decide +kernel

theorem final_out (hr : RealArgs m c) : (dats m 0 c).arrAt 9 cfg0.N = outArr m c := by
  refine (dats m 0 c).arrAt_eq_of_cover 9 (outArr m c) ?_ ?_
  · intro t _
    rw [Value.flushed9]
    have ht := point_lt t
    funext y
    rw [View.read_apply]
    show (outsAt0 m c t).1 y = outArr m c _
    have hy0 : (y 0).val < 128 := (y 0).isLt
    have hy1 : (y 1).val < 128 := (y 1).isLt
    rw [show (outsAt0 m c t).1 y = (outsAt0 m c t).1 (ix2 (⟨(y 0).val, hy0⟩ : Fin 128) (⟨(y 1).val, hy1⟩ : Fin 128)) from
      congrArg (outsAt0 m c t).1 (funext fun a => by fin_cases a <;> rfl)]
    rw [out_block hr t _ _ (by omega)]
    refine (outArr_at _ _ _ _ _ ?_ ?_).symm
    · show win0_9.index t 0 * 128 + 1 * (y 0).val = t.val / 8 * 128 + (y 0).val
      rw [(where9 t).1]
      omega
    · show win0_9.index t 1 * 128 + 1 * (y 1).val = head t.val * 128 + (y 1).val
      rw [(where9 t).2]
      unfold head
      omega
  · intro y
    have hy0 : (y 0).val < 1024 := (y 0).isLt
    have hy1 : (y 1).val < 1024 := (y 1).isLt
    obtain ⟨t, ht⟩ : ∃ t : Fin cfg0.N, t.val = (y 0).val / 128 * 8 + (y 1).val / 128 :=
      ⟨⟨_, by rw [show cfg0.N = 64 from N_0]; omega⟩, rfl⟩
    refine ⟨t, flush0_9 t, ?_⟩
    show y ∈ ((View.whole main_v51_0).slice (win0_9.rect t)).set
    rw [View.set_slice_whole, Rect.mem_set_unit]
    intro a
    match a with
    | ⟨0, _⟩ =>
      show win0_9.index t 0 * 128 ≤ (y 0).val ∧ (y 0).val < win0_9.index t 0 * 128 + 128
      rw [(where9 t).1]
      omega
    | ⟨1, _⟩ =>
      show win0_9.index t 1 * 128 ≤ (y 1).val ∧ (y 1).val < win0_9.index t 1 * 128 + 128
      rw [(where9 t).2]
      omega

theorem endArr_at (y : S8x8x128x128.Idx) (b h : ℕ) (i : Fin 128) (j : Fin 128) (h0 : (y 0).val = b)
    (h1 : (y 1).val = h) (h2 : (y 2).val = i.val) (h3 : (y 3).val = j.val) :
    endArr m c y = ((Floor.stateOf 8 (projA m c) (floorA m c) (startA m c) b h 8 i j : ℝ) : EReal) := by
  unfold endArr
  rw [h0, h1, show y 2 = i from Fin.ext h2, show y 3 = j from Fin.ext h3]

theorem end_block (hr : RealArgs m c) (t : Fin cfg0.N) (a b : Fin 1) (i : Fin 128) (j : Fin 128) :
    k0_pay2 (F := Ideal) (pointState m c t (k0_pay3 (iblk m c 6 t))) (ix4 a b i j)
      = ((Floor.stateOf 8 (projA m c) (floorA m c) (startA m c) (t.val / 8) (head t.val) 8 i j : ℝ) : EReal) := by
  pointwise [k0_pay2]
  rw [point_state hr t]

theorem final_state (hr : RealArgs m c) : (dats m 0 c).arrAt 10 cfg0.N = endArr m c := by
  refine (dats m 0 c).arrAt_eq_of_cover 10 (endArr m c) ?_ ?_
  · intro t _
    rw [Value.flushed10, final_A m c t]
    have ht := point_lt t
    funext y
    rw [View.read_apply]
    have hy2 : (y 2).val < 128 := (y 2).isLt
    have hy3 : (y 3).val < 128 := (y 3).isLt
    have hy0 : (y 0).val < 1 := (y 0).isLt
    have hy1 : (y 1).val < 1 := (y 1).isLt
    show k0_pay2 (F := Ideal) (pointState m c t (k0_pay3 (iblk m c 6 t))) y = endArr m c _
    rw [show k0_pay2 (F := Ideal) (pointState m c t (k0_pay3 (iblk m c 6 t))) y = k0_pay2 (F := Ideal) (pointState m c t (k0_pay3 (iblk m c 6 t)))
        (ix4 (⟨(y 0).val, hy0⟩ : Fin 1) (⟨(y 1).val, hy1⟩ : Fin 1) (⟨(y 2).val, hy2⟩ : Fin 128) (⟨(y 3).val, hy3⟩ : Fin 128)) from
      congrArg _ (funext fun a => by fin_cases a <;> rfl)]
    rw [end_block hr t]
    refine (endArr_at _ _ _ _ _ ?_ ?_ ?_ ?_).symm
    · show win0_10.index t 0 * 1 + 1 * (y 0).val = _
      rw [(where10 t).1]
      omega
    · show win0_10.index t 1 * 1 + 1 * (y 1).val = _
      rw [(where10 t).2.1]
      unfold head
      omega
    · show win0_10.index t 2 * 128 + 1 * (y 2).val = (y 2).val
      rw [(where10 t).2.2.1]
      omega
    · show win0_10.index t 3 * 128 + 1 * (y 3).val = (y 3).val
      rw [(where10 t).2.2.2]
      omega
  · intro y
    have hy0 : (y 0).val < 8 := (y 0).isLt
    have hy1 : (y 1).val < 8 := (y 1).isLt
    have hy2 : (y 2).val < 128 := (y 2).isLt
    have hy3 : (y 3).val < 128 := (y 3).isLt
    obtain ⟨t, ht⟩ : ∃ t : Fin cfg0.N, t.val = (y 0).val * 8 + (y 1).val :=
      ⟨⟨_, by rw [show cfg0.N = 64 from N_0]; omega⟩, rfl⟩
    refine ⟨t, flush0_10 t, ?_⟩
    show y ∈ ((View.whole main_v51_1).slice (win0_10.rect t)).set
    rw [View.set_slice_whole, Rect.mem_set_unit]
    intro a
    match a with
    | ⟨0, _⟩ =>
      show win0_10.index t 0 * 1 ≤ (y 0).val ∧ (y 0).val < win0_10.index t 0 * 1 + 1
      rw [(where10 t).1]
      omega
    | ⟨1, _⟩ =>
      show win0_10.index t 1 * 1 ≤ (y 1).val ∧ (y 1).val < win0_10.index t 1 * 1 + 1
      rw [(where10 t).2.1]
      omega
    | ⟨2, _⟩ =>
      show win0_10.index t 2 * 128 ≤ (y 2).val ∧ (y 2).val < win0_10.index t 2 * 128 + 128
      rw [(where10 t).2.2.1]
      omega
    | ⟨3, _⟩ =>
      show win0_10.index t 3 * 128 ≤ (y 3).val ∧ (y 3).val < win0_10.index t 3 * 128 + 128
      rw [(where10 t).2.2.2]
      omega

end Cert.HgrnSampleIdeal.Tile

end
-- ==== Proof.HgrnSampleRefStep.lean ====
module

public import proofs.«01_k».proof.Proof.ByToken
public import proofs.«01_k».proof.Proof.Gen.HgrnSampleRefIdeal.Run
public import Idealize.ShloMosaic.Lib.StableHlo.ReadAt

/-! One token of the reference's recurrence, read at an index. -/

@[expose] public section

set_option maxRecDepth 16384

noncomputable section

namespace Cert.HgrnSampleRefIdeal.Scan

open Idealize.ShloMosaic Idealize.ShloMosaic.TcCoe Idealize.SL.Sem
open Cert.HgrnSampleRefIdeal Cert.HgrnSampleRefIdeal.Gen Cert.HgrnSampleRefIdeal.Value Cert.Recurrence
open Idealize.ShloMosaic.StableHlo

variable (X : Valuation τ sig (Elt Ideal))

def qS : S8x8x8x128.Idx → EReal := X (Proc.devRef .tc main_v32_0)
def kS : S8x8x8x128.Idx → EReal := X (Proc.devRef .tc main_v32_1)
def vS : S8x8x8x128.Idx → EReal := X (Proc.devRef .tc main_v32_2)
def gS : S8x8x8x128.Idx → EReal := X (Proc.devRef .tc main_v32_3)
def nS : S_.Idx → BitVec 32 := X (Proc.devRef .tc main_v32_4)
def sS : S8x8x128x128.Idx → EReal := X (Proc.devRef .tc main_v32_5)
def oS : S8x8x8x128.Idx → EReal := X (Proc.devRef .tc main_v32_6)

theorem new_state (n : Fin 8) (hn : ∀ i, nS X i = BitVec.ofNat 32 n.val) (b : Fin 8) (h : Fin 8) (i : Fin 128) (j : Fin 128) :
    (res_main_while0b_v68 X : S8x8x128x128.Idx → EReal) (ix4 b h i j)
      = sS X (ix4 b h i j) * Ideal.exp (gS X (ix4 n b h i)) + kS X (ix4 n b h i) * vS X (ix4 n b h j) := by
  have ho := offsets (by decide) (X (Proc.devRef .tc main_v32_4)) n hn (Shape.Idx.first h_S_)
  unfold res_main_while0b_v68
  dsimp only at ho ⊢
  erw [ho]
  pointwise
  exact congrArg₂ (fun x y : EReal => x + y)
    (congrArg (fun x : EReal => sS X (ix4 b h i j) * Ideal.exp x)
      (row4 (gS X) n b h i _ _ _ _ _ _ _ _ (first_start _ n) (shifted (next_start _ n).1) (shifted (next_start _ n).2.1) (shifted (next_start _ n).2.2)))
    (congrArg₂ (fun x y : EReal => x * y)
      (row4 (kS X) n b h i _ _ _ _ _ _ _ _ (first_start _ n) (shifted (next_start _ n).1) (shifted (next_start _ n).2.1) (shifted (next_start _ n).2.2))
      (row4 (vS X) n b h j _ _ _ _ _ _ _ _ (first_start _ n) (shifted (next_start _ n).1) (shifted (next_start _ n).2.1) (shifted (next_start _ n).2.2)))

theorem step_state (n : Fin 8) (hn : ∀ i, nS X i = BitVec.ofNat 32 n.val) (b : Fin 8) (h : Fin 8) (i : Fin 128) (j : Fin 128) :
    sS (STEP X) (ix4 b h i j)
      = sS X (ix4 b h i j) * Ideal.exp (gS X (ix4 n b h i)) + kS X (ix4 n b h i) * vS X (ix4 n b h j) := by
  unfold sS
  rw [STEP_main_v32_5]
  exact new_state X n hn b h i j

theorem step_count (n : Fin 8) (hn : ∀ i, nS X i = BitVec.ofNat 32 n.val) (i : S_.Idx) :
    nS (STEP X) i = BitVec.ofNat 32 (n.val + 1) := by
  unfold nS
  rw [STEP_main_v32_4]
  show nS X i + 1#32 = _
  rw [hn, BitVec.ofNat_add]

theorem step_rows (n : Fin 8) (hn : ∀ i, nS X i = BitVec.ofNat 32 n.val) (n' : Fin 8) (b : Fin 8) (h : Fin 8) (j : Fin 128) :
    oS (STEP X) (ix4 n' b h j)
      = if n' = n then ∑ i, qS X (ix4 n b h i) * sS (STEP X) (ix4 b h i j) else oS X (ix4 n' b h j) := by
  unfold oS
  rw [STEP_main_v32_6]
  have ho := offsets (by decide) (X (Proc.devRef .tc main_v32_4)) n hn (Shape.Idx.first h_S_)
  unfold step_main_v32_6
  dsimp only at ho ⊢
  erw [ho]
  refine (put_row (D := 128) _ _ n _ n' b h j).trans ?_
  congr 1
  pointwise
  refine Finset.sum_congr rfl fun i _ => congrArg₂ (fun x y : EReal => x * y) ?_ ?_
  · exact row4 (qS X) n b h i _ _ _ _ _ _ _ _ (first_start _ n) (shifted (next_start _ n).1) (shifted (next_start _ n).2.1) (shifted (next_start _ n).2.2)
  · unfold sS
    rw [STEP_main_v32_5]
    rfl

theorem step_keep : qS (STEP X) = qS X ∧ kS (STEP X) = kS X ∧ vS (STEP X) = vS X ∧ gS (STEP X) = gS X :=
  ⟨STEP_main_v32_0 X, STEP_main_v32_1 X, STEP_main_v32_2 X, STEP_main_v32_3 X⟩

end Cert.HgrnSampleRefIdeal.Scan

end
-- ==== Proof.HgrnSampleRefEntry.lean ====
module

public import proofs.«01_k».proof.Proof.HgrnSampleRefStep
public import proofs.«01_k».proof.Proof.Chunk
public import proofs.«01_k».proof.Proof.ShortData
public import proofs.«01_k».proof.Proof.HgrnRefEntry

/-! What the reference's recurrence starts from: its carried arrays as reals. -/

@[expose] public section

set_option maxRecDepth 16384

noncomputable section

namespace Cert.HgrnSampleRefIdeal.Scan

open Idealize.ShloMosaic Idealize.ShloMosaic.TcCoe Idealize.SL.Sem
open Cert.HgrnSampleRefIdeal Cert.HgrnSampleRefIdeal.Gen Cert.HgrnSampleRefIdeal.Value Cert.Recurrence
open Idealize.ShloMosaic.StableHlo
open Cert.HgrnRefIdeal.Scan (div_sigm)

variable (m : (ℓ : Loc nD τ sig) → Buf (Elt Ideal) ℓ) (c : Dev nD)

def proj : S64x7168.Idx → EReal := m ((c : Thread nD τ).loc main_arg0)
def floor : S1024.Idx → EReal := m ((c : Thread nD τ).loc main_arg1)
def scale : S128.Idx → EReal := m ((c : Thread nD τ).loc main_arg2)
def first : S8x8x128x128.Idx → EReal := m ((c : Thread nD τ).loc main_arg3)

/-- The arguments on which the recurrence runs hold real numbers, and the floors aren't negative. -/
structure RealArgs : Prop where
  ofProj : IsReal (proj m c)
  ofFloor : IsReal (floor m c)
  pos : ∀ i, 0 ≤ floor m c i
  ofStart : IsReal (first m c)

theorem bias_nonneg (hr : RealArgs m c) (a : ℕ) : 0 ≤ bias (floor m c) a := by
  unfold bias
  by_cases h : a < 1024
  · rw [dif_pos h]
    exact EReal.toReal_nonneg (hr.pos _)
  · rw [dif_neg h]

theorem q_entry (hr : RealArgs m c) (n : Fin 8) (b : Fin 8) (h : Fin 8) (i : Fin 128) :
    qS (entryContents preI m c) (ix4 n b h i) = ((Floor.queries 8 (proj m c) b.val h.val n.val i : ℝ) : EReal) := by
  have hx : proj m c (ix2 ⟨b.val * 8 + n.val, by omega⟩ ⟨h.val * 128 + i.val, by omega⟩)
      = ((at2 (proj m c) (b.val * 8 + n.val) (h.val * 128 + i.val) : ℝ) : EReal) := at2_real hr.ofProj _ _ _ _
  unfold Floor.queries
  rw [EReal.coe_mul, EReal.coe_mul, ← div_sigm, ← hx, ← Floor.lit_unit]
  unfold qS
  simp only [entryContents, afterL_cons, afterL_nil]
  after_reads_at
  simp only [id]
  pointwise
  rfl

/-- What the reference keeps of the state, at a token. -/
theorem keep_eq (hr : RealArgs m c) (b n a : ℕ) (hb : b * 8 + n < 64) (ha : a < 1024) (h1 : 1024 + a < 7168) :
    floor m c (ix1 ⟨a, ha⟩) + (1 - floor m c (ix1 ⟨a, ha⟩)) * Ideal.div 1 (1 + Ideal.exp (-(proj m c (ix2 ⟨b * 8 + n, hb⟩ ⟨1024 + a, h1⟩))))
      = ((Floor.kept (bias (floor m c) a) (at2 (proj m c) (b * 8 + n) (1024 + a)) : ℝ) : EReal) := by
  rw [at2_real hr.ofProj, bias_eq _ hr.ofFloor, div_sigm, ← EReal.coe_one, ← EReal.coe_sub, ← EReal.coe_mul, ← EReal.coe_add]
  rfl

theorem k_entry (hr : RealArgs m c) (n : Fin 8) (b : Fin 8) (h : Fin 8) (i : Fin 128) :
    kS (entryContents preI m c) (ix4 n b h i) = ((Floor.keys 8 (proj m c) (floor m c) b.val h.val n.val i : ℝ) : EReal) := by
  unfold Floor.keys Floor.keeps
  rw [EReal.coe_sub, Nat.add_assoc 1024, ← keep_eq m c hr b.val n.val (h.val * 128 + i.val) (by omega) (by omega) (by omega)]
  unfold kS
  simp only [entryContents, afterL_cons, afterL_nil]
  after_reads_at
  simp only [id]
  pointwise
  rfl

theorem v_entry (hr : RealArgs m c) (n : Fin 8) (b : Fin 8) (h : Fin 8) (i : Fin 128) :
    vS (entryContents preI m c) (ix4 n b h i) = ((Floor.vals 8 (proj m c) b.val h.val n.val i : ℝ) : EReal) := by
  unfold vS
  simp only [entryContents, afterL_cons, afterL_nil]
  after_reads_at
  simp only [id]
  pointwise
  show proj m c _ = _
  rw [at2_real hr.ofProj]
  unfold Floor.vals
  congr 2
  omega

theorem g_entry (hr : RealArgs m c) (n : Fin 8) (b : Fin 8) (h : Fin 8) (i : Fin 128) :
    gS (entryContents preI m c) (ix4 n b h i) = ((Floor.decays 8 (proj m c) (floor m c) b.val h.val n.val i : ℝ) : EReal) := by
  have hp : 0 < Floor.keeps 8 (proj m c) (floor m c) b.val h.val n.val i := Floor.kept_pos _ _ (bias_nonneg m c hr _)
  have hl : Ideal.log ((Floor.keeps 8 (proj m c) (floor m c) b.val h.val n.val i : ℝ) : EReal)
      = ((Floor.decays 8 (proj m c) (floor m c) b.val h.val n.val i : ℝ) : EReal) := by
    rw [Ideal.log_coe, if_neg (not_le.mpr hp)]
    rfl
  rw [← hl]
  unfold Floor.keeps
  rw [Nat.add_assoc 1024, ← keep_eq m c hr b.val n.val (h.val * 128 + i.val) (by omega) (by omega) (by omega)]
  unfold gS
  simp only [entryContents, afterL_cons, afterL_nil]
  after_reads_at
  simp only [id]
  pointwise
  rfl

theorem n_entry (i : S_.Idx) : nS (entryContents preI m c) i = 0#32 := by
  unfold nS
  simp only [entryContents, afterL_cons, afterL_nil]
  after_reads_simp
  rfl

theorem s_entry : sS (entryContents preI m c) = first m c := by
  unfold sS
  simp only [entryContents, afterL_cons, afterL_nil]
  after_reads_simp
  rfl

/-- What the carried arrays hold after `k` tokens. -/
structure After (k : ℕ) (X : Valuation τ sig (Elt Ideal)) : Prop where
  query : ∀ (n : Fin 8) (b : Fin 8) (h : Fin 8) (i : Fin 128), qS X (ix4 n b h i) = ((Floor.queries 8 (proj m c) b.val h.val n.val i : ℝ) : EReal)
  key : ∀ (n : Fin 8) (b : Fin 8) (h : Fin 8) (i : Fin 128), kS X (ix4 n b h i) = ((Floor.keys 8 (proj m c) (floor m c) b.val h.val n.val i : ℝ) : EReal)
  value : ∀ (n : Fin 8) (b : Fin 8) (h : Fin 8) (j : Fin 128), vS X (ix4 n b h j) = ((Floor.vals 8 (proj m c) b.val h.val n.val j : ℝ) : EReal)
  decay : ∀ (n : Fin 8) (b : Fin 8) (h : Fin 8) (i : Fin 128),
    gS X (ix4 n b h i) = ((Floor.decays 8 (proj m c) (floor m c) b.val h.val n.val i : ℝ) : EReal)
  count : ∀ i, nS X i = BitVec.ofNat 32 k
  state : ∀ (b : Fin 8) (h : Fin 8) (i : Fin 128) (j : Fin 128),
    sS X (ix4 b h i j) = ((Floor.stateOf 8 (proj m c) (floor m c) (first m c) b.val h.val k i j : ℝ) : EReal)
  rows : ∀ (n : Fin 8), n.val < k → ∀ (b : Fin 8) (h : Fin 8) (j : Fin 128),
    oS X (ix4 n b h j) = ((Floor.outOf 8 (proj m c) (floor m c) (first m c) b.val h.val n.val j : ℝ) : EReal)

theorem after_step (n : Fin 8) (X : Valuation τ sig (Elt Ideal)) (H : After m c n.val X) : After m c (n.val + 1) (STEP X) := by
  obtain ⟨eq, ek, ev, eg⟩ := step_keep X
  have hs : ∀ (b : Fin 8) (h : Fin 8) (i : Fin 128) (j : Fin 128),
      sS (STEP X) (ix4 b h i j) = ((Floor.stateOf 8 (proj m c) (floor m c) (first m c) b.val h.val (n.val + 1) i j : ℝ) : EReal) := by
    intro b h i j
    rw [step_state X n H.count, H.state, H.decay, H.key, H.value, Ideal.exp_coe, ← EReal.coe_mul, ← EReal.coe_mul, ← EReal.coe_add]
    rfl
  refine ⟨by rw [eq]; exact H.query, by rw [ek]; exact H.key, by rw [ev]; exact H.value, by rw [eg]; exact H.decay, step_count X n H.count, hs, ?_⟩
  intro n' hn' b h j
  rw [step_rows X n H.count]
  by_cases e : n' = n
  · subst e
    rw [if_pos rfl]
    simp only [hs, H.query]
    exact sum_mul_real _ _
  · rw [if_neg e]
    exact H.rows n' (by have : n'.val ≠ n.val := fun h => e (Fin.ext h); omega) b h j

theorem after_none (hr : RealArgs m c) :
    After m c 0 (entryContents preI m c) where
  query := q_entry m c hr
  key := k_entry m c hr
  value := v_entry m c hr
  decay := g_entry m c hr
  count := n_entry m c
  state b h i j := by
    rw [s_entry, start_eq _ hr.ofStart]
    rfl
  rows n hn := absurd hn (Nat.not_lt_zero _)

theorem after_all (hr : RealArgs m c) (k : ℕ) :
    k ≤ 8 → After m c k (STEP^[k] (entryContents preI m c)) := by
  generalize hE : entryContents preI m c = E
  have h0 : After m c 0 E := hE ▸ after_none m c hr
  induction k with
  | zero => exact fun _ => h0
  | succ k ih =>
    intro hk
    rw [Function.iterate_succ_apply']
    exact after_step m c ⟨k, by omega⟩ _ (ih (by omega))

theorem last_state (hr : RealArgs m c) :
    ((STEP^[8] (entryContents preI m c)) (Proc.devRef .tc main_v32_5) : S8x8x128x128.Idx → EReal)
      = fun y => ((Floor.stateOf 8 (proj m c) (floor m c) (first m c) (y 0).val (y 1).val 8 (y 2) (y 3) : ℝ) : EReal) := by
  funext y
  obtain ⟨b, h, i, j, rfl⟩ : ∃ (b : Fin 8) (h : Fin 8) (i : Fin 128) (j : Fin 128), y = ix4 b h i j :=
    ⟨y 0, y 1, y 2, y 3, funext fun a => match a with | ⟨0, _⟩ => rfl | ⟨1, _⟩ => rfl | ⟨2, _⟩ => rfl | ⟨3, _⟩ => rfl⟩
  exact (after_all m c hr 8 le_rfl).state b h i j

theorem out_at (X : Valuation τ sig (Elt Ideal)) (b : Fin 8) (n : Fin 128) (hn : n.val < 8) (h : Fin 8) (j : Fin 128) :
    (out_main_v54 X : S1024x1024.Idx → EReal) (ix2 ⟨b.val * 128 + n.val, by omega⟩ ⟨h.val * 128 + j.val, by omega⟩)
      = normed 1124073472#32 (fun x => oS X (ix4 ⟨n.val, hn⟩ b h x)) ((X (Proc.devRef .tc main_arg2) : S128.Idx → EReal) (ix1 j))
        ((X (Proc.devRef .tc main_arg0) : S64x7168.Idx → EReal) (ix2 ⟨b.val * 8 + n.val, by omega⟩ ⟨3072 + (h.val * 128 + j.val), by omega⟩)) j := by
  unfold out_main_v54
  pointwise
  refine (dif_pos (show n.val < 8 ∧ h.val * 128 + j.val < 1024 from ⟨hn, by omega⟩)).trans ?_
  rfl

theorem out_zero (X : Valuation τ sig (Elt Ideal)) (b : Fin 8) (n : Fin 128) (hn : ¬n.val < 8) (h : Fin 8) (j : Fin 128) :
    (out_main_v54 X : S1024x1024.Idx → EReal) (ix2 ⟨b.val * 128 + n.val, by omega⟩ ⟨h.val * 128 + j.val, by omega⟩) = (0 : EReal) := by
  unfold out_main_v54
  pointwise
  refine (dif_neg (show ¬(n.val < 8 ∧ h.val * 128 + j.val < 1024) from fun h' => hn h'.1)).trans ?_
  show (((0#32).toInt : ℝ) : EReal) = 0
  simp

theorem last_out (hr : RealArgs m c) :
    (out_main_v54 (STEP^[8] (entryContents preI m c)) : S1024x1024.Idx → EReal)
      = fun y => Floor.padded (proj m c) (floor m c) (first m c) (scale m c) ⟨(y 0).val / 128, by have : (y 0).val < 1024 := (y 0).isLt; omega⟩
        ⟨(y 0).val % 128, Nat.mod_lt _ (by decide)⟩ ⟨(y 1).val / 128, by have : (y 1).val < 1024 := (y 1).isLt; omega⟩
        ⟨(y 1).val % 128, Nat.mod_lt _ (by decide)⟩ := by
  have H := after_all m c hr 8 le_rfl
  have e0 := iter_main_arg0 (F := Ideal) m c 8
  have e2 := iter_main_arg2 (F := Ideal) m c 8
  generalize STEP^[8] (entryContents preI m c) = X at H e0 e2
  funext y
  have h0 : (y 0).val < 1024 := (y 0).isLt
  have h1 : (y 1).val < 1024 := (y 1).isLt
  have hy : y = ix2 ⟨(y 0).val / 128 * 128 + (y 0).val % 128, by omega⟩ ⟨(y 1).val / 128 * 128 + (y 1).val % 128, by omega⟩ :=
    funext fun a => match a with
      | ⟨0, _⟩ => Fin.ext (by show (y 0).val = (y 0).val / 128 * 128 + (y 0).val % 128; omega)
      | ⟨1, _⟩ => Fin.ext (by show (y 1).val = (y 1).val / 128 * 128 + (y 1).val % 128; omega)
  refine (congrArg (out_main_v54 X : S1024x1024.Idx → EReal) hy).trans ?_
  unfold Floor.padded
  by_cases hn : (y 0).val % 128 < 8
  · refine (out_at X ⟨(y 0).val / 128, by omega⟩ ⟨(y 0).val % 128, Nat.mod_lt _ (by decide)⟩ hn ⟨(y 1).val / 128, by omega⟩
      ⟨(y 1).val % 128, Nat.mod_lt _ (by decide)⟩).trans ?_
    rw [e0, e2, dif_pos hn]
    simp only [H.rows _ (Fin.isLt _)]
    rfl
  · rw [dif_neg hn]
    exact out_zero X ⟨(y 0).val / 128, by omega⟩ ⟨(y 0).val % 128, Nat.mod_lt _ (by decide)⟩ hn ⟨(y 1).val / 128, by omega⟩
      ⟨(y 1).val % 128, Nat.mod_lt _ (by decide)⟩

end Cert.HgrnSampleRefIdeal.Scan

end
-- ==== Proof.lean ====
/- The proof of everything the certificate claims. -/
module

public import proofs.«01_k».proof.Defs
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.HgrnRefIdeal
public import proofs.«01_k».proof.Proof.Gen.GlaSample
public import proofs.«01_k».proof.Proof.Gen.GlaSample.Skeleton
public import proofs.«01_k».proof.Proof.Gen.GlaSample.Launch
public import proofs.«01_k».proof.Proof.Gen.GlaSample.Points
public import proofs.«01_k».proof.Proof.Gen.GlaSample.Frame
public import proofs.«01_k».proof.Proof.Gen.GlaSampleIdeal
public import proofs.«01_k».proof.Proof.Gen.GlaSampleIdeal.Skeleton
public import proofs.«01_k».proof.Proof.Gen.GlaSampleIdeal.Launch
public import proofs.«01_k».proof.Proof.Gen.GlaSampleIdeal.Points
public import proofs.«01_k».proof.Proof.Gen.GlaSampleIdeal.Frame
public import proofs.«01_k».proof.Proof.Gen.GlaSampleRefIdeal
public import proofs.«01_k».proof.Proof.Gen.HgrnSample
public import proofs.«01_k».proof.Proof.Gen.HgrnSample.Skeleton
public import proofs.«01_k».proof.Proof.Gen.HgrnSample.Launch
public import proofs.«01_k».proof.Proof.Gen.HgrnSample.Points
public import proofs.«01_k».proof.Proof.Gen.HgrnSample.Frame
public import proofs.«01_k».proof.Proof.Gen.HgrnSampleIdeal
public import proofs.«01_k».proof.Proof.Gen.HgrnSampleIdeal.Skeleton
public import proofs.«01_k».proof.Proof.Gen.HgrnSampleIdeal.Launch
public import proofs.«01_k».proof.Proof.Gen.HgrnSampleIdeal.Points
public import proofs.«01_k».proof.Proof.Gen.HgrnSampleIdeal.Frame
public import proofs.«01_k».proof.Proof.Gen.HgrnSampleRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInRefIdeal
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutRefIdeal
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutRefIdeal
public import proofs.«01_k».proof.Proof.Gen.LastSample
public import proofs.«01_k».proof.Proof.Gen.LastSample.Skeleton
public import proofs.«01_k».proof.Proof.Gen.LastSample.Launch
public import proofs.«01_k».proof.Proof.Gen.LastSample.Points
public import proofs.«01_k».proof.Proof.Gen.LastSample.Frame
public import proofs.«01_k».proof.Proof.Gen.LastSampleIdeal
public import proofs.«01_k».proof.Proof.Gen.LastSampleIdeal.Skeleton
public import proofs.«01_k».proof.Proof.Gen.LastSampleIdeal.Launch
public import proofs.«01_k».proof.Proof.Gen.LastSampleIdeal.Points
public import proofs.«01_k».proof.Proof.Gen.LastSampleIdeal.Frame
public import proofs.«01_k».proof.Proof.Gen.LastSampleRefIdeal
public import proofs.«01_k».proof.Proof.Gen.EvenInSample
public import proofs.«01_k».proof.Proof.Gen.EvenInSample.Skeleton
public import proofs.«01_k».proof.Proof.Gen.EvenInSample.Launch
public import proofs.«01_k».proof.Proof.Gen.EvenInSample.Points
public import proofs.«01_k».proof.Proof.Gen.EvenInSample.Frame
public import proofs.«01_k».proof.Proof.Gen.EvenInSampleIdeal
public import proofs.«01_k».proof.Proof.Gen.EvenInSampleIdeal.Skeleton
public import proofs.«01_k».proof.Proof.Gen.EvenInSampleIdeal.Launch
public import proofs.«01_k».proof.Proof.Gen.EvenInSampleIdeal.Points
public import proofs.«01_k».proof.Proof.Gen.EvenInSampleIdeal.Frame
public import proofs.«01_k».proof.Proof.Gen.EvenInSampleRefIdeal
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleRefIdeal
public import proofs.«01_k».proof.Proof.Gen.OddInSample
public import proofs.«01_k».proof.Proof.Gen.OddInSample.Skeleton
public import proofs.«01_k».proof.Proof.Gen.OddInSample.Launch
public import proofs.«01_k».proof.Proof.Gen.OddInSample.Points
public import proofs.«01_k».proof.Proof.Gen.OddInSample.Frame
public import proofs.«01_k».proof.Proof.Gen.OddInSampleIdeal
public import proofs.«01_k».proof.Proof.Gen.OddInSampleIdeal.Skeleton
public import proofs.«01_k».proof.Proof.Gen.OddInSampleIdeal.Launch
public import proofs.«01_k».proof.Proof.Gen.OddInSampleIdeal.Points
public import proofs.«01_k».proof.Proof.Gen.OddInSampleIdeal.Frame
public import proofs.«01_k».proof.Proof.Gen.OddInSampleRefIdeal
public import proofs.«01_k».proof.Proof.Gen.EvenOutSample
public import proofs.«01_k».proof.Proof.Gen.EvenOutSample.Skeleton
public import proofs.«01_k».proof.Proof.Gen.EvenOutSample.Launch
public import proofs.«01_k».proof.Proof.Gen.EvenOutSample.Points
public import proofs.«01_k».proof.Proof.Gen.EvenOutSample.Frame
public import proofs.«01_k».proof.Proof.Gen.EvenOutSampleIdeal
public import proofs.«01_k».proof.Proof.Gen.EvenOutSampleIdeal.Skeleton
public import proofs.«01_k».proof.Proof.Gen.EvenOutSampleIdeal.Launch
public import proofs.«01_k».proof.Proof.Gen.EvenOutSampleIdeal.Points
public import proofs.«01_k».proof.Proof.Gen.EvenOutSampleIdeal.Frame
public import proofs.«01_k».proof.Proof.Gen.EvenOutSampleRefIdeal
public import proofs.«01_k».proof.Proof.Gen.OddOutSample
public import proofs.«01_k».proof.Proof.Gen.OddOutSample.Skeleton
public import proofs.«01_k».proof.Proof.Gen.OddOutSample.Launch
public import proofs.«01_k».proof.Proof.Gen.OddOutSample.Points
public import proofs.«01_k».proof.Proof.Gen.OddOutSample.Frame
public import proofs.«01_k».proof.Proof.Gen.OddOutSampleIdeal
public import proofs.«01_k».proof.Proof.Gen.OddOutSampleIdeal.Skeleton
public import proofs.«01_k».proof.Proof.Gen.OddOutSampleIdeal.Launch
public import proofs.«01_k».proof.Proof.Gen.OddOutSampleIdeal.Points
public import proofs.«01_k».proof.Proof.Gen.OddOutSampleIdeal.Frame
public import proofs.«01_k».proof.Proof.Gen.OddOutSampleRefIdeal
public import proofs.«01_k».proof.Proof.Gen.MobaCombine
public import proofs.«01_k».proof.Proof.Gen.MobaCombine.Skeleton
public import proofs.«01_k».proof.Proof.Gen.MobaCombine.Launch
public import proofs.«01_k».proof.Proof.Gen.MobaCombine.Points
public import proofs.«01_k».proof.Proof.Gen.MobaCombine.Frame
public import proofs.«01_k».proof.Proof.Gen.MobaCombineIdeal
public import proofs.«01_k».proof.Proof.Gen.MobaCombineIdeal.Skeleton
public import proofs.«01_k».proof.Proof.Gen.MobaCombineIdeal.Launch
public import proofs.«01_k».proof.Proof.Gen.MobaCombineIdeal.Points
public import proofs.«01_k».proof.Proof.Gen.MobaCombineIdeal.Frame
public import proofs.«01_k».proof.Proof.Gen.MobaCombineRefIdeal
public import proofs.«01_k».proof.Proof.Gen.Pre_finite
public import proofs.«01_k».proof.Proof.Gen.Pre_bounded
public import proofs.«01_k».proof.Proof.Gen.Pre_finite_sample
public import proofs.«01_k».proof.Proof.Gen.Pre_bounded_sample
public import proofs.«01_k».proof.Proof.FfnValue
public import proofs.«01_k».proof.Proof.FfnRef
public import proofs.«01_k».proof.Proof.LastValue
public import proofs.«01_k».proof.Proof.LastRef
public import proofs.«01_k».proof.Proof.EvenInValue
public import proofs.«01_k».proof.Proof.EvenInRef
public import proofs.«01_k».proof.Proof.OddInValue
public import proofs.«01_k».proof.Proof.OddInRef
public import proofs.«01_k».proof.Proof.EvenOutValue
public import proofs.«01_k».proof.Proof.EvenOutRef
public import proofs.«01_k».proof.Proof.OddOutValue
public import proofs.«01_k».proof.Proof.OddOutRef
public import proofs.«01_k».proof.Proof.LastSampleValue
public import proofs.«01_k».proof.Proof.LastSampleRef
public import proofs.«01_k».proof.Proof.EvenInSampleValue
public import proofs.«01_k».proof.Proof.EvenInSampleRef
public import proofs.«01_k».proof.Proof.FfnSampleValue
public import proofs.«01_k».proof.Proof.FfnSampleRef
public import proofs.«01_k».proof.Proof.OddInSampleValue
public import proofs.«01_k».proof.Proof.OddInSampleRef
public import proofs.«01_k».proof.Proof.EvenOutSampleValue
public import proofs.«01_k».proof.Proof.EvenOutSampleRef
public import proofs.«01_k».proof.Proof.OddOutSampleValue
public import proofs.«01_k».proof.Proof.OddOutSampleRef
public import proofs.«01_k».proof.Proof.MobaCombineValue
public import proofs.«01_k».proof.Proof.MobaCombineRef
public import proofs.«01_k».proof.Proof.KernelValue
public import proofs.«01_k».proof.Proof.RefEntry
public import proofs.«01_k».proof.Proof.Finite
public import proofs.«01_k».proof.Proof.HgrnValue
public import proofs.«01_k».proof.Proof.HgrnRefEntry
public import proofs.«01_k».proof.Proof.GlaSampleValue
public import proofs.«01_k».proof.Proof.GlaSampleRefEntry
public import proofs.«01_k».proof.Proof.HgrnSampleValue
public import proofs.«01_k».proof.Proof.HgrnSampleRefEntry
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem finite_facts : Cert.Pre_finite.Facts := by
  constructor <;> decide

theorem gla_frame : @quiescent_GlaRefIdeal Cert.GlaRefIdeal.Gen.facts := fun m ρ _ =>
  (θ_run Cert.GlaRefIdeal.defs _ _).mono
    (fun r h => ⟨fun c => (h c).2.2, Idealize.ShloMosaic.sem_eq_zero_of_no_sems (by decide) r.2⟩)
    (Cert.GlaRefIdeal.Value.run (F := Ideal) m ρ)

theorem gla_value : @algebraic_GlaIdeal_GlaRefIdeal_pre_finite Cert.GlaIdeal.Gen.facts Cert.GlaRefIdeal.Gen.facts finite_facts := by
  intro m g m' g' hpre hargs
  have hr : ∀ c : Dev Cert.GlaIdeal.nD, Cert.GlaIdeal.Tile.RealArgs m c := fun c =>
    ⟨Cert.Recurrence.isReal_of_below _ _ _ (hpre c).1, Cert.Recurrence.isReal_of_below _ _ _ (hpre c).2.1,
      Cert.Recurrence.isReal_of_below _ _ _ (hpre c).2.2.1, Cert.Recurrence.isReal_of_below _ _ _ (hpre c).2.2.2⟩
  have e0 : ∀ c, Cert.GlaRefIdeal.Scan.proj m' c = Cert.GlaIdeal.Tile.projA m c := fun c => (hargs c).1
  have e1 : ∀ c, Cert.GlaRefIdeal.Scan.gateW m' c = Cert.GlaIdeal.Tile.gateA m c := fun c => (hargs c).2.1
  have e2 : ∀ c, Cert.GlaRefIdeal.Scan.gateB m' c = Cert.GlaIdeal.Tile.biasA m c := fun c => (hargs c).2.2.1
  have e3 : ∀ c, Cert.GlaRefIdeal.Scan.scale m' c = Cert.GlaIdeal.Tile.scaleA m c := fun c => (hargs c).2.2.2.1
  have e4 : ∀ c, Cert.GlaRefIdeal.Scan.first m' c = Cert.GlaIdeal.Tile.startA m c := fun c => (hargs c).2.2.2.2
  refine ⟨fun c => Cert.GlaIdeal.Tile.outArr m c, fun c => Cert.GlaIdeal.Tile.endArr m c, ?_, ?_⟩
  · refine (θ_run Cert.GlaIdeal.defs _ _).mono (fun r h c => ?_) (Cert.GlaIdeal.Value.run_blocks (F := Ideal) m g)
    obtain ⟨h1, h2, h3⟩ := h c
    exact ⟨h1.trans (Cert.GlaIdeal.Tile.final_out (hr c)), h2.trans (Cert.GlaIdeal.Tile.final_state (hr c)), h3⟩
  · refine (θ_run Cert.GlaRefIdeal.defs _ _).mono (fun r h c => ?_) (Cert.GlaRefIdeal.Value.run (F := Ideal) m' g')
    obtain ⟨h1, h2, h3⟩ := h c
    have p0 := e0 c ▸ (hr c).proj
    have p1 := e1 c ▸ (hr c).gate
    have p2 := e2 c ▸ (hr c).bias
    have p4 := e4 c ▸ (hr c).start
    refine ⟨h1.trans ((Cert.GlaRefIdeal.Scan.last_out m' c p0 p1 p2 p4).trans ?_),
      h2.trans ((Cert.GlaRefIdeal.Scan.last_state m' c p0 p1 p2 p4).trans ?_), h3⟩
    · rw [e0, e1, e2, e3, e4]
      rfl
    · rw [e0, e1, e2, e4]
      rfl

theorem bounded_facts : Cert.Pre_bounded.Facts := by
  constructor <;> decide

theorem hgrn_frame : @quiescent_HgrnRefIdeal Cert.HgrnRefIdeal.Gen.facts := fun m ρ _ =>
  (θ_run Cert.HgrnRefIdeal.defs _ _).mono
    (fun r h => ⟨fun c => (h c).2.2, Idealize.ShloMosaic.sem_eq_zero_of_no_sems (by decide) r.2⟩)
    (Cert.HgrnRefIdeal.Value.run (F := Ideal) m ρ)

theorem hgrn_value : @algebraic_HgrnIdeal_HgrnRefIdeal_pre_bounded Cert.HgrnIdeal.Gen.facts Cert.HgrnRefIdeal.Gen.facts bounded_facts := by
  intro m g m' g' hpre hargs
  have hr : ∀ c : Dev Cert.HgrnIdeal.nD, Cert.HgrnIdeal.Tile.RealArgs m c := fun c =>
    ⟨Cert.Recurrence.isReal_of_below _ _ _ (hpre c).1, Cert.Recurrence.isReal_of_below _ _ _ (hpre c).2.1,
      Cert.Recurrence.nonneg_of_ge _ _ _ (hpre c).2.2.1, Cert.Recurrence.isReal_of_below _ _ _ (hpre c).2.2.2⟩
  have e0 : ∀ c, Cert.HgrnRefIdeal.Scan.proj m' c = Cert.HgrnIdeal.Tile.projA m c := fun c => (hargs c).1
  have e1 : ∀ c, Cert.HgrnRefIdeal.Scan.floor m' c = Cert.HgrnIdeal.Tile.floorA m c := fun c => (hargs c).2.1
  have e2 : ∀ c, Cert.HgrnRefIdeal.Scan.scale m' c = Cert.HgrnIdeal.Tile.scaleA m c := fun c => (hargs c).2.2.1
  have e3 : ∀ c, Cert.HgrnRefIdeal.Scan.first m' c = Cert.HgrnIdeal.Tile.startA m c := fun c => (hargs c).2.2.2
  refine ⟨fun c => Cert.HgrnIdeal.Tile.outArr m c, fun c => Cert.HgrnIdeal.Tile.endArr m c, ?_, ?_⟩
  · refine (θ_run Cert.HgrnIdeal.defs _ _).mono (fun r h c => ?_) (Cert.HgrnIdeal.Value.run_blocks (F := Ideal) m g)
    obtain ⟨h1, h2, h3⟩ := h c
    exact ⟨h1.trans (Cert.HgrnIdeal.Tile.final_out (hr c)), h2.trans (Cert.HgrnIdeal.Tile.final_state (hr c)), h3⟩
  · refine (θ_run Cert.HgrnRefIdeal.defs _ _).mono (fun r h c => ?_) (Cert.HgrnRefIdeal.Value.run (F := Ideal) m' g')
    obtain ⟨h1, h2, h3⟩ := h c
    have hs : Cert.HgrnRefIdeal.Scan.RealArgs m' c :=
      ⟨e0 c ▸ (hr c).proj, e1 c ▸ (hr c).floor, e1 c ▸ (hr c).pos, e3 c ▸ (hr c).start⟩
    refine ⟨h1.trans ((Cert.HgrnRefIdeal.Scan.last_out m' c hs).trans ?_),
      h2.trans ((Cert.HgrnRefIdeal.Scan.last_state m' c hs).trans ?_), h3⟩
    · rw [e0, e1, e2, e3]
      rfl
    · rw [e0, e1, e3]
      rfl

theorem finite_sample_facts : Cert.Pre_finite_sample.Facts := by
  constructor <;> decide

theorem glaSample_frame : @quiescent_GlaSampleRefIdeal Cert.GlaSampleRefIdeal.Gen.facts := fun m ρ _ =>
  (θ_run Cert.GlaSampleRefIdeal.defs _ _).mono
    (fun r h => ⟨fun c => (h c).2.2, Idealize.ShloMosaic.sem_eq_zero_of_no_sems (by decide) r.2⟩)
    (Cert.GlaSampleRefIdeal.Value.run (F := Ideal) m ρ)

theorem glaSample_value : @algebraic_GlaSampleIdeal_GlaSampleRefIdeal_pre_finite_sample Cert.GlaSampleIdeal.Gen.facts Cert.GlaSampleRefIdeal.Gen.facts finite_sample_facts := by
  intro m g m' g' hpre hargs
  have hr : ∀ c : Dev Cert.GlaSampleIdeal.nD, Cert.GlaSampleIdeal.Tile.RealArgs m c := fun c =>
    ⟨Cert.Recurrence.isReal_of_below _ _ _ (hpre c).1, Cert.Recurrence.isReal_of_below _ _ _ (hpre c).2.1,
      Cert.Recurrence.isReal_of_below _ _ _ (hpre c).2.2.1, Cert.Recurrence.isReal_of_below _ _ _ (hpre c).2.2.2⟩
  have e0 : ∀ c, Cert.GlaSampleRefIdeal.Scan.proj m' c = Cert.GlaSampleIdeal.Tile.projA m c := fun c => (hargs c).1
  have e1 : ∀ c, Cert.GlaSampleRefIdeal.Scan.gateW m' c = Cert.GlaSampleIdeal.Tile.gateA m c := fun c => (hargs c).2.1
  have e2 : ∀ c, Cert.GlaSampleRefIdeal.Scan.gateB m' c = Cert.GlaSampleIdeal.Tile.biasA m c := fun c => (hargs c).2.2.1
  have e3 : ∀ c, Cert.GlaSampleRefIdeal.Scan.scale m' c = Cert.GlaSampleIdeal.Tile.scaleA m c := fun c => (hargs c).2.2.2.1
  have e4 : ∀ c, Cert.GlaSampleRefIdeal.Scan.first m' c = Cert.GlaSampleIdeal.Tile.startA m c := fun c => (hargs c).2.2.2.2
  refine ⟨fun c => Cert.GlaSampleIdeal.Tile.outArr m c, fun c => Cert.GlaSampleIdeal.Tile.endArr m c, ?_, ?_⟩
  · refine (θ_run Cert.GlaSampleIdeal.defs _ _).mono (fun r h c => ?_) (Cert.GlaSampleIdeal.Value.run_blocks (F := Ideal) m g)
    obtain ⟨h1, h2, h3⟩ := h c
    exact ⟨h1.trans (Cert.GlaSampleIdeal.Tile.final_out (hr c)), h2.trans (Cert.GlaSampleIdeal.Tile.final_state (hr c)), h3⟩
  · refine (θ_run Cert.GlaSampleRefIdeal.defs _ _).mono (fun r h c => ?_) (Cert.GlaSampleRefIdeal.Value.run (F := Ideal) m' g')
    obtain ⟨h1, h2, h3⟩ := h c
    have p0 := e0 c ▸ (hr c).proj
    have p1 := e1 c ▸ (hr c).gate
    have p2 := e2 c ▸ (hr c).bias
    have p4 := e4 c ▸ (hr c).start
    refine ⟨h1.trans ((Cert.GlaSampleRefIdeal.Scan.last_out m' c p0 p1 p2 p4).trans ?_),
      h2.trans ((Cert.GlaSampleRefIdeal.Scan.last_state m' c p0 p1 p2 p4).trans ?_), h3⟩
    · rw [e0, e1, e2, e3, e4]
      rfl
    · rw [e0, e1, e2, e4]
      rfl

theorem bounded_sample_facts : Cert.Pre_bounded_sample.Facts := by
  constructor <;> decide

theorem hgrnSample_frame : @quiescent_HgrnSampleRefIdeal Cert.HgrnSampleRefIdeal.Gen.facts := fun m ρ _ =>
  (θ_run Cert.HgrnSampleRefIdeal.defs _ _).mono
    (fun r h => ⟨fun c => (h c).2.2, Idealize.ShloMosaic.sem_eq_zero_of_no_sems (by decide) r.2⟩)
    (Cert.HgrnSampleRefIdeal.Value.run (F := Ideal) m ρ)

theorem hgrnSample_value : @algebraic_HgrnSampleIdeal_HgrnSampleRefIdeal_pre_bounded_sample Cert.HgrnSampleIdeal.Gen.facts Cert.HgrnSampleRefIdeal.Gen.facts bounded_sample_facts := by
  intro m g m' g' hpre hargs
  have hr : ∀ c : Dev Cert.HgrnSampleIdeal.nD, Cert.HgrnSampleIdeal.Tile.RealArgs m c := fun c =>
    ⟨Cert.Recurrence.isReal_of_below _ _ _ (hpre c).1, Cert.Recurrence.isReal_of_below _ _ _ (hpre c).2.1,
      Cert.Recurrence.nonneg_of_ge _ _ _ (hpre c).2.2.1, Cert.Recurrence.isReal_of_below _ _ _ (hpre c).2.2.2⟩
  have e0 : ∀ c, Cert.HgrnSampleRefIdeal.Scan.proj m' c = Cert.HgrnSampleIdeal.Tile.projA m c := fun c => (hargs c).1
  have e1 : ∀ c, Cert.HgrnSampleRefIdeal.Scan.floor m' c = Cert.HgrnSampleIdeal.Tile.floorA m c := fun c => (hargs c).2.1
  have e2 : ∀ c, Cert.HgrnSampleRefIdeal.Scan.scale m' c = Cert.HgrnSampleIdeal.Tile.scaleA m c := fun c => (hargs c).2.2.1
  have e3 : ∀ c, Cert.HgrnSampleRefIdeal.Scan.first m' c = Cert.HgrnSampleIdeal.Tile.startA m c := fun c => (hargs c).2.2.2
  refine ⟨fun c => Cert.HgrnSampleIdeal.Tile.outArr m c, fun c => Cert.HgrnSampleIdeal.Tile.endArr m c, ?_, ?_⟩
  · refine (θ_run Cert.HgrnSampleIdeal.defs _ _).mono (fun r h c => ?_) (Cert.HgrnSampleIdeal.Value.run_blocks (F := Ideal) m g)
    obtain ⟨h1, h2, h3⟩ := h c
    exact ⟨h1.trans (Cert.HgrnSampleIdeal.Tile.final_out (hr c)), h2.trans (Cert.HgrnSampleIdeal.Tile.final_state (hr c)), h3⟩
  · refine (θ_run Cert.HgrnSampleRefIdeal.defs _ _).mono (fun r h c => ?_) (Cert.HgrnSampleRefIdeal.Value.run (F := Ideal) m' g')
    obtain ⟨h1, h2, h3⟩ := h c
    have hs : Cert.HgrnSampleRefIdeal.Scan.RealArgs m' c :=
      ⟨e0 c ▸ (hr c).proj, e1 c ▸ (hr c).floor, e1 c ▸ (hr c).pos, e3 c ▸ (hr c).start⟩
    refine ⟨h1.trans ((Cert.HgrnSampleRefIdeal.Scan.last_out m' c hs).trans ?_),
      h2.trans ((Cert.HgrnSampleRefIdeal.Scan.last_state m' c hs).trans ?_), h3⟩
    · rw [e0, e1, e2, e3]
      rfl
    · rw [e0, e1, e3]
      rfl

theorem ffn_frame : @quiescent_FfnRefIdeal Cert.FfnRefIdeal.Gen.facts := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

theorem ffn_value : @algebraic_FfnIdeal_FfnRefIdeal Cert.FfnIdeal.Gen.facts Cert.FfnRefIdeal.Gen.facts := by
  intro m g m' g' _ hargs
  have e0 : ∀ c, Cert.FfnRefIdeal.Rows.xA m' c = Cert.FfnIdeal.Tile.xA m c := fun c => (hargs c).1
  have e1 : ∀ c, Cert.FfnRefIdeal.Rows.scaleA m' c = Cert.FfnIdeal.Tile.scaleA m c := fun c => (hargs c).2.1
  have e2 : ∀ c, Cert.FfnRefIdeal.Rows.gateA m' c = Cert.FfnIdeal.Tile.gateA m c := fun c => (hargs c).2.2.1
  have e3 : ∀ c, Cert.FfnRefIdeal.Rows.upA m' c = Cert.FfnIdeal.Tile.upA m c := fun c => (hargs c).2.2.2.1
  have e4 : ∀ c, Cert.FfnRefIdeal.Rows.downA m' c = Cert.FfnIdeal.Tile.downA m c := fun c => (hargs c).2.2.2.2
  refine ⟨fun c => Cert.FfnIdeal.Tile.resultArr m c, ?_, ?_⟩
  · refine (θ_run Cert.FfnIdeal.defs _ _).mono (fun r h c => ?_) (Cert.FfnIdeal.Value.run_blocks (F := Ideal) m g)
    exact ⟨(h c).1.trans (Cert.FfnIdeal.Tile.final m c), (h c).2⟩
  · refine (θ_run Cert.FfnRefIdeal.defs _ _).mono (fun r h c => ?_) (Cert.FfnRefIdeal.Rows.result m' g')
    refine ⟨(h c).1.trans ?_, (h c).2⟩
    unfold Cert.FfnRefIdeal.Rows.resultArr
    rw [e0, e1, e2, e3, e4]
    rfl

theorem last_frame : @quiescent_LastRefIdeal Cert.LastRefIdeal.Gen.facts := fun m ρ _ =>
  (θ_run Cert.LastRefIdeal.defs _ _).mono
    (fun r h => ⟨fun c => (h c).2, Idealize.ShloMosaic.sem_eq_zero_of_no_sems (by decide) r.2⟩)
    (Cert.LastRefIdeal.Value.run (F := Ideal) m ρ)

theorem last_value : @algebraic_LastIdeal_LastRefIdeal Cert.LastIdeal.Gen.facts Cert.LastRefIdeal.Gen.facts := by
  intro m g m' g' _ hargs
  have e0 : ∀ c, Cert.LastRefIdeal.Rows.xA m' c = Cert.LastIdeal.Tile.xA m c := fun c => (hargs c).1
  have e1 : ∀ c, Cert.LastRefIdeal.Rows.scaleA m' c = Cert.LastIdeal.Tile.scaleA m c := fun c => (hargs c).2.1
  have e2 : ∀ c, Cert.LastRefIdeal.Rows.gateA m' c = Cert.LastIdeal.Tile.gateA m c := fun c => (hargs c).2.2.1
  have e3 : ∀ c, Cert.LastRefIdeal.Rows.upA m' c = Cert.LastIdeal.Tile.upA m c := fun c => (hargs c).2.2.2.1
  have e4 : ∀ c, Cert.LastRefIdeal.Rows.downA m' c = Cert.LastIdeal.Tile.downA m c := fun c => (hargs c).2.2.2.2.1
  have e5 : ∀ c, Cert.LastRefIdeal.Rows.finalA m' c = Cert.LastIdeal.Tile.finalA m c := fun c => (hargs c).2.2.2.2.2
  refine ⟨fun c => Cert.LastIdeal.Tile.resultArr m c, ?_, ?_⟩
  · refine (θ_run Cert.LastIdeal.defs _ _).mono (fun r h c => ?_) (Cert.LastIdeal.Value.run_blocks (F := Ideal) m g)
    exact ⟨(h c).1.trans (Cert.LastIdeal.Tile.final m c), (h c).2⟩
  · refine (θ_run Cert.LastRefIdeal.defs _ _).mono (fun r h c => ?_) (Cert.LastRefIdeal.Rows.result m' g')
    refine ⟨(h c).1.trans ?_, (h c).2⟩
    unfold Cert.LastRefIdeal.Rows.resultArr
    rw [e0, e1, e2, e3, e4, e5]
    rfl

theorem evenIn_frame : @quiescent_EvenInRefIdeal Cert.EvenInRefIdeal.Gen.facts := fun m ρ _ =>
  (θ_run Cert.EvenInRefIdeal.defs _ _).mono
    (fun r h => ⟨fun c => (h c).2, Idealize.ShloMosaic.sem_eq_zero_of_no_sems (by decide) r.2⟩)
    (Cert.EvenInRefIdeal.Value.run (F := Ideal) m ρ)

theorem evenIn_value : @algebraic_EvenInIdeal_EvenInRefIdeal Cert.EvenInIdeal.Gen.facts Cert.EvenInRefIdeal.Gen.facts := by
  intro m g m' g' _ hargs
  have e0 : ∀ c, Cert.EvenInRefIdeal.Rows.xA m' c = Cert.EvenInIdeal.Tile.xA m c := fun c => (hargs c).1
  have e1 : ∀ c, Cert.EvenInRefIdeal.Rows.scaleA m' c = Cert.EvenInIdeal.Tile.scaleA m c := fun c => (hargs c).2.1
  have e2 : ∀ c, Cert.EvenInRefIdeal.Rows.weightA m' c = Cert.EvenInIdeal.Tile.weightA m c := fun c => (hargs c).2.2
  refine ⟨fun c => Cert.EvenInIdeal.Tile.resultArr m c, ?_, ?_⟩
  · refine (θ_run Cert.EvenInIdeal.defs _ _).mono (fun r h c => ?_) (Cert.EvenInIdeal.Value.run_blocks (F := Ideal) m g)
    exact ⟨(h c).1.trans (Cert.EvenInIdeal.Tile.final m c), (h c).2⟩
  · refine (θ_run Cert.EvenInRefIdeal.defs _ _).mono (fun r h c => ?_) (Cert.EvenInRefIdeal.Rows.result m' g')
    refine ⟨(h c).1.trans ?_, (h c).2⟩
    unfold Cert.EvenInRefIdeal.Rows.resultArr Cert.EvenInRefIdeal.Rows.column
    rw [e0, e1, e2]
    rfl

theorem oddIn_frame : @quiescent_OddInRefIdeal Cert.OddInRefIdeal.Gen.facts := fun m ρ _ =>
  (θ_run Cert.OddInRefIdeal.defs _ _).mono
    (fun r h => ⟨fun c => (h c).2, Idealize.ShloMosaic.sem_eq_zero_of_no_sems (by decide) r.2⟩)
    (Cert.OddInRefIdeal.Value.run (F := Ideal) m ρ)

theorem oddIn_value : @algebraic_OddInIdeal_OddInRefIdeal Cert.OddInIdeal.Gen.facts Cert.OddInRefIdeal.Gen.facts := by
  intro m g m' g' _ hargs
  have e0 : ∀ c, Cert.OddInRefIdeal.Rows.xA m' c = Cert.OddInIdeal.Tile.xA m c := fun c => (hargs c).1
  have e1 : ∀ c, Cert.OddInRefIdeal.Rows.scaleA m' c = Cert.OddInIdeal.Tile.scaleA m c := fun c => (hargs c).2.1
  have e2 : ∀ c, Cert.OddInRefIdeal.Rows.weightA m' c = Cert.OddInIdeal.Tile.weightA m c := fun c => (hargs c).2.2
  refine ⟨fun c => Cert.OddInIdeal.Tile.resultArr m c, ?_, ?_⟩
  · refine (θ_run Cert.OddInIdeal.defs _ _).mono (fun r h c => ?_) (Cert.OddInIdeal.Value.run_blocks (F := Ideal) m g)
    exact ⟨(h c).1.trans (Cert.OddInIdeal.Tile.final m c), (h c).2⟩
  · refine (θ_run Cert.OddInRefIdeal.defs _ _).mono (fun r h c => ?_) (Cert.OddInRefIdeal.Rows.result m' g')
    refine ⟨(h c).1.trans ?_, (h c).2⟩
    unfold Cert.OddInRefIdeal.Rows.resultArr Cert.OddInRefIdeal.Rows.column
    rw [e0, e1, e2]
    rfl

theorem evenOut_frame : @quiescent_EvenOutRefIdeal Cert.EvenOutRefIdeal.Gen.facts := fun m ρ _ =>
  (θ_run Cert.EvenOutRefIdeal.defs _ _).mono
    (fun r h => ⟨fun c => (h c).2, Idealize.ShloMosaic.sem_eq_zero_of_no_sems (by decide) r.2⟩)
    (Cert.EvenOutRefIdeal.Value.run (F := Ideal) m ρ)

theorem evenOut_value : @algebraic_EvenOutIdeal_EvenOutRefIdeal Cert.EvenOutIdeal.Gen.facts Cert.EvenOutRefIdeal.Gen.facts := by
  intro m g m' g' _ hargs
  have e0 : ∀ c, Cert.EvenOutRefIdeal.Rows.xA m' c = Cert.EvenOutIdeal.Tile.xA m c := fun c => (hargs c).1
  have e1 : ∀ c, Cert.EvenOutRefIdeal.Rows.leftA m' c = Cert.EvenOutIdeal.Tile.leftA m c := fun c => (hargs c).2.1
  have e2 : ∀ c, Cert.EvenOutRefIdeal.Rows.rightA m' c = Cert.EvenOutIdeal.Tile.rightA m c := fun c => (hargs c).2.2.1
  have e3 : ∀ c, Cert.EvenOutRefIdeal.Rows.weightA m' c = Cert.EvenOutIdeal.Tile.weightA m c := fun c => (hargs c).2.2.2
  refine ⟨fun c => Cert.EvenOutIdeal.Tile.resultArr m c, ?_, ?_⟩
  · refine (θ_run Cert.EvenOutIdeal.defs _ _).mono (fun r h c => ?_) (Cert.EvenOutIdeal.Value.run_blocks (F := Ideal) m g)
    exact ⟨(h c).1.trans (Cert.EvenOutIdeal.Tile.final m c), (h c).2⟩
  · refine (θ_run Cert.EvenOutRefIdeal.defs _ _).mono (fun r h c => ?_) (Cert.EvenOutRefIdeal.Rows.result m' g')
    refine ⟨(h c).1.trans ?_, (h c).2⟩
    unfold Cert.EvenOutRefIdeal.Rows.resultArr Cert.EvenOutRefIdeal.Rows.left Cert.EvenOutRefIdeal.Rows.right
    rw [e0, e1, e2, e3]
    rfl

theorem oddOut_frame : @quiescent_OddOutRefIdeal Cert.OddOutRefIdeal.Gen.facts := fun m ρ _ =>
  (θ_run Cert.OddOutRefIdeal.defs _ _).mono
    (fun r h => ⟨fun c => (h c).2, Idealize.ShloMosaic.sem_eq_zero_of_no_sems (by decide) r.2⟩)
    (Cert.OddOutRefIdeal.Value.run (F := Ideal) m ρ)

theorem oddOut_value : @algebraic_OddOutIdeal_OddOutRefIdeal Cert.OddOutIdeal.Gen.facts Cert.OddOutRefIdeal.Gen.facts := by
  intro m g m' g' _ hargs
  have e0 : ∀ c, Cert.OddOutRefIdeal.Rows.xA m' c = Cert.OddOutIdeal.Tile.xA m c := fun c => (hargs c).1
  have e1 : ∀ c, Cert.OddOutRefIdeal.Rows.mixA m' c = Cert.OddOutIdeal.Tile.mixA m c := fun c => (hargs c).2.1
  have e2 : ∀ c, Cert.OddOutRefIdeal.Rows.weightA m' c = Cert.OddOutIdeal.Tile.weightA m c := fun c => (hargs c).2.2
  refine ⟨fun c => Cert.OddOutIdeal.Tile.resultArr m c, ?_, ?_⟩
  · refine (θ_run Cert.OddOutIdeal.defs _ _).mono (fun r h c => ?_) (Cert.OddOutIdeal.Value.run_blocks (F := Ideal) m g)
    exact ⟨(h c).1.trans (Cert.OddOutIdeal.Tile.final m c), (h c).2⟩
  · refine (θ_run Cert.OddOutRefIdeal.defs _ _).mono (fun r h c => ?_) (Cert.OddOutRefIdeal.Rows.result m' g')
    refine ⟨(h c).1.trans ?_, (h c).2⟩
    unfold Cert.OddOutRefIdeal.Rows.resultArr Cert.OddOutRefIdeal.Rows.left Cert.OddOutRefIdeal.Rows.right
    rw [e0, e1, e2]
    rfl

theorem lastSample_frame : @quiescent_LastSampleRefIdeal Cert.LastSampleRefIdeal.Gen.facts := fun m ρ _ =>
  (θ_run Cert.LastSampleRefIdeal.defs _ _).mono
    (fun r h => ⟨fun c => (h c).2, Idealize.ShloMosaic.sem_eq_zero_of_no_sems (by decide) r.2⟩)
    (Cert.LastSampleRefIdeal.Value.run (F := Ideal) m ρ)

theorem lastSample_value : @algebraic_LastSampleIdeal_LastSampleRefIdeal Cert.LastSampleIdeal.Gen.facts Cert.LastSampleRefIdeal.Gen.facts := by
  intro m g m' g' _ hargs
  have e0 : ∀ c, Cert.LastSampleRefIdeal.Rows.xA m' c = Cert.LastSampleIdeal.Tile.xA m c := fun c => (hargs c).1
  have e1 : ∀ c, Cert.LastSampleRefIdeal.Rows.scaleA m' c = Cert.LastSampleIdeal.Tile.scaleA m c := fun c => (hargs c).2.1
  have e2 : ∀ c, Cert.LastSampleRefIdeal.Rows.gateA m' c = Cert.LastSampleIdeal.Tile.gateA m c := fun c => (hargs c).2.2.1
  have e3 : ∀ c, Cert.LastSampleRefIdeal.Rows.upA m' c = Cert.LastSampleIdeal.Tile.upA m c := fun c => (hargs c).2.2.2.1
  have e4 : ∀ c, Cert.LastSampleRefIdeal.Rows.downA m' c = Cert.LastSampleIdeal.Tile.downA m c := fun c => (hargs c).2.2.2.2.1
  have e5 : ∀ c, Cert.LastSampleRefIdeal.Rows.finalA m' c = Cert.LastSampleIdeal.Tile.finalA m c := fun c => (hargs c).2.2.2.2.2
  refine ⟨fun c => Cert.LastSampleIdeal.Tile.resultArr m c, ?_, ?_⟩
  · refine (θ_run Cert.LastSampleIdeal.defs _ _).mono (fun r h c => ?_) (Cert.LastSampleIdeal.Value.run_blocks (F := Ideal) m g)
    exact ⟨(h c).1.trans (Cert.LastSampleIdeal.Tile.final m c), (h c).2⟩
  · refine (θ_run Cert.LastSampleRefIdeal.defs _ _).mono (fun r h c => ?_) (Cert.LastSampleRefIdeal.Rows.result m' g')
    refine ⟨(h c).1.trans ?_, (h c).2⟩
    unfold Cert.LastSampleRefIdeal.Rows.resultArr
    rw [e0, e1, e2, e3, e4, e5]
    rfl

theorem evenInSample_frame : @quiescent_EvenInSampleRefIdeal Cert.EvenInSampleRefIdeal.Gen.facts := fun m ρ _ =>
  (θ_run Cert.EvenInSampleRefIdeal.defs _ _).mono
    (fun r h => ⟨fun c => (h c).2, Idealize.ShloMosaic.sem_eq_zero_of_no_sems (by decide) r.2⟩)
    (Cert.EvenInSampleRefIdeal.Value.run (F := Ideal) m ρ)

theorem evenInSample_value : @algebraic_EvenInSampleIdeal_EvenInSampleRefIdeal Cert.EvenInSampleIdeal.Gen.facts Cert.EvenInSampleRefIdeal.Gen.facts := by
  intro m g m' g' _ hargs
  have e0 : ∀ c, Cert.EvenInSampleRefIdeal.Rows.xA m' c = Cert.EvenInSampleIdeal.Tile.xA m c := fun c => (hargs c).1
  have e1 : ∀ c, Cert.EvenInSampleRefIdeal.Rows.scaleA m' c = Cert.EvenInSampleIdeal.Tile.scaleA m c := fun c => (hargs c).2.1
  have e2 : ∀ c, Cert.EvenInSampleRefIdeal.Rows.weightA m' c = Cert.EvenInSampleIdeal.Tile.weightA m c := fun c => (hargs c).2.2
  refine ⟨fun c => Cert.EvenInSampleIdeal.Tile.resultArr m c, ?_, ?_⟩
  · refine (θ_run Cert.EvenInSampleIdeal.defs _ _).mono (fun r h c => ?_) (Cert.EvenInSampleIdeal.Value.run_blocks (F := Ideal) m g)
    exact ⟨(h c).1.trans (Cert.EvenInSampleIdeal.Tile.final m c), (h c).2⟩
  · refine (θ_run Cert.EvenInSampleRefIdeal.defs _ _).mono (fun r h c => ?_) (Cert.EvenInSampleRefIdeal.Rows.result m' g')
    refine ⟨(h c).1.trans ?_, (h c).2⟩
    unfold Cert.EvenInSampleRefIdeal.Rows.resultArr Cert.EvenInSampleRefIdeal.Rows.column
    rw [e0, e1, e2]
    rfl

theorem ffnSample_frame : @quiescent_FfnSampleRefIdeal Cert.FfnSampleRefIdeal.Gen.facts := fun m ρ _ =>
  (θ_run Cert.FfnSampleRefIdeal.defs _ _).mono
    (fun r h => ⟨fun c => (h c).2, Idealize.ShloMosaic.sem_eq_zero_of_no_sems (by decide) r.2⟩)
    (Cert.FfnSampleRefIdeal.Value.run (F := Ideal) m ρ)

theorem ffnSample_value : @algebraic_FfnSampleIdeal_FfnSampleRefIdeal Cert.FfnSampleIdeal.Gen.facts Cert.FfnSampleRefIdeal.Gen.facts := by
  intro m g m' g' _ hargs
  have e0 : ∀ c, Cert.FfnSampleRefIdeal.Rows.xA m' c = Cert.FfnSampleIdeal.Tile.xA m c := fun c => (hargs c).1
  have e1 : ∀ c, Cert.FfnSampleRefIdeal.Rows.scaleA m' c = Cert.FfnSampleIdeal.Tile.scaleA m c := fun c => (hargs c).2.1
  have e2 : ∀ c, Cert.FfnSampleRefIdeal.Rows.gateA m' c = Cert.FfnSampleIdeal.Tile.gateA m c := fun c => (hargs c).2.2.1
  have e3 : ∀ c, Cert.FfnSampleRefIdeal.Rows.upA m' c = Cert.FfnSampleIdeal.Tile.upA m c := fun c => (hargs c).2.2.2.1
  have e4 : ∀ c, Cert.FfnSampleRefIdeal.Rows.downA m' c = Cert.FfnSampleIdeal.Tile.downA m c := fun c => (hargs c).2.2.2.2
  refine ⟨fun c => Cert.FfnSampleIdeal.Tile.resultArr m c, ?_, ?_⟩
  · refine (θ_run Cert.FfnSampleIdeal.defs _ _).mono (fun r h c => ?_) (Cert.FfnSampleIdeal.Value.run_blocks (F := Ideal) m g)
    exact ⟨(h c).1.trans (Cert.FfnSampleIdeal.Tile.final m c), (h c).2⟩
  · refine (θ_run Cert.FfnSampleRefIdeal.defs _ _).mono (fun r h c => ?_) (Cert.FfnSampleRefIdeal.Rows.result m' g')
    refine ⟨(h c).1.trans ?_, (h c).2⟩
    unfold Cert.FfnSampleRefIdeal.Rows.resultArr
    rw [e0, e1, e2, e3, e4]
    rfl

theorem oddInSample_frame : @quiescent_OddInSampleRefIdeal Cert.OddInSampleRefIdeal.Gen.facts := fun m ρ _ =>
  (θ_run Cert.OddInSampleRefIdeal.defs _ _).mono
    (fun r h => ⟨fun c => (h c).2, Idealize.ShloMosaic.sem_eq_zero_of_no_sems (by decide) r.2⟩)
    (Cert.OddInSampleRefIdeal.Value.run (F := Ideal) m ρ)

theorem oddInSample_value : @algebraic_OddInSampleIdeal_OddInSampleRefIdeal Cert.OddInSampleIdeal.Gen.facts Cert.OddInSampleRefIdeal.Gen.facts := by
  intro m g m' g' _ hargs
  have e0 : ∀ c, Cert.OddInSampleRefIdeal.Rows.xA m' c = Cert.OddInSampleIdeal.Tile.xA m c := fun c => (hargs c).1
  have e1 : ∀ c, Cert.OddInSampleRefIdeal.Rows.scaleA m' c = Cert.OddInSampleIdeal.Tile.scaleA m c := fun c => (hargs c).2.1
  have e2 : ∀ c, Cert.OddInSampleRefIdeal.Rows.weightA m' c = Cert.OddInSampleIdeal.Tile.weightA m c := fun c => (hargs c).2.2
  refine ⟨fun c => Cert.OddInSampleIdeal.Tile.resultArr m c, ?_, ?_⟩
  · refine (θ_run Cert.OddInSampleIdeal.defs _ _).mono (fun r h c => ?_) (Cert.OddInSampleIdeal.Value.run_blocks (F := Ideal) m g)
    exact ⟨(h c).1.trans (Cert.OddInSampleIdeal.Tile.final m c), (h c).2⟩
  · refine (θ_run Cert.OddInSampleRefIdeal.defs _ _).mono (fun r h c => ?_) (Cert.OddInSampleRefIdeal.Rows.result m' g')
    refine ⟨(h c).1.trans ?_, (h c).2⟩
    unfold Cert.OddInSampleRefIdeal.Rows.resultArr Cert.OddInSampleRefIdeal.Rows.column
    rw [e0, e1, e2]
    rfl

theorem evenOutSample_frame : @quiescent_EvenOutSampleRefIdeal Cert.EvenOutSampleRefIdeal.Gen.facts := fun m ρ _ =>
  (θ_run Cert.EvenOutSampleRefIdeal.defs _ _).mono
    (fun r h => ⟨fun c => (h c).2, Idealize.ShloMosaic.sem_eq_zero_of_no_sems (by decide) r.2⟩)
    (Cert.EvenOutSampleRefIdeal.Value.run (F := Ideal) m ρ)

theorem evenOutSample_value : @algebraic_EvenOutSampleIdeal_EvenOutSampleRefIdeal Cert.EvenOutSampleIdeal.Gen.facts Cert.EvenOutSampleRefIdeal.Gen.facts := by
  intro m g m' g' _ hargs
  have e0 : ∀ c, Cert.EvenOutSampleRefIdeal.Rows.xA m' c = Cert.EvenOutSampleIdeal.Tile.xA m c := fun c => (hargs c).1
  have e1 : ∀ c, Cert.EvenOutSampleRefIdeal.Rows.leftA m' c = Cert.EvenOutSampleIdeal.Tile.leftA m c := fun c => (hargs c).2.1
  have e2 : ∀ c, Cert.EvenOutSampleRefIdeal.Rows.rightA m' c = Cert.EvenOutSampleIdeal.Tile.rightA m c := fun c => (hargs c).2.2.1
  have e3 : ∀ c, Cert.EvenOutSampleRefIdeal.Rows.weightA m' c = Cert.EvenOutSampleIdeal.Tile.weightA m c := fun c => (hargs c).2.2.2
  refine ⟨fun c => Cert.EvenOutSampleIdeal.Tile.resultArr m c, ?_, ?_⟩
  · refine (θ_run Cert.EvenOutSampleIdeal.defs _ _).mono (fun r h c => ?_) (Cert.EvenOutSampleIdeal.Value.run_blocks (F := Ideal) m g)
    exact ⟨(h c).1.trans (Cert.EvenOutSampleIdeal.Tile.final m c), (h c).2⟩
  · refine (θ_run Cert.EvenOutSampleRefIdeal.defs _ _).mono (fun r h c => ?_) (Cert.EvenOutSampleRefIdeal.Rows.result m' g')
    refine ⟨(h c).1.trans ?_, (h c).2⟩
    unfold Cert.EvenOutSampleRefIdeal.Rows.resultArr Cert.EvenOutSampleRefIdeal.Rows.left Cert.EvenOutSampleRefIdeal.Rows.right
    rw [e0, e1, e2, e3]
    rfl

theorem oddOutSample_frame : @quiescent_OddOutSampleRefIdeal Cert.OddOutSampleRefIdeal.Gen.facts := fun m ρ _ =>
  (θ_run Cert.OddOutSampleRefIdeal.defs _ _).mono
    (fun r h => ⟨fun c => (h c).2, Idealize.ShloMosaic.sem_eq_zero_of_no_sems (by decide) r.2⟩)
    (Cert.OddOutSampleRefIdeal.Value.run (F := Ideal) m ρ)

theorem oddOutSample_value : @algebraic_OddOutSampleIdeal_OddOutSampleRefIdeal Cert.OddOutSampleIdeal.Gen.facts Cert.OddOutSampleRefIdeal.Gen.facts := by
  intro m g m' g' _ hargs
  have e0 : ∀ c, Cert.OddOutSampleRefIdeal.Rows.xA m' c = Cert.OddOutSampleIdeal.Tile.xA m c := fun c => (hargs c).1
  have e1 : ∀ c, Cert.OddOutSampleRefIdeal.Rows.mixA m' c = Cert.OddOutSampleIdeal.Tile.mixA m c := fun c => (hargs c).2.1
  have e2 : ∀ c, Cert.OddOutSampleRefIdeal.Rows.weightA m' c = Cert.OddOutSampleIdeal.Tile.weightA m c := fun c => (hargs c).2.2
  refine ⟨fun c => Cert.OddOutSampleIdeal.Tile.resultArr m c, ?_, ?_⟩
  · refine (θ_run Cert.OddOutSampleIdeal.defs _ _).mono (fun r h c => ?_) (Cert.OddOutSampleIdeal.Value.run_blocks (F := Ideal) m g)
    exact ⟨(h c).1.trans (Cert.OddOutSampleIdeal.Tile.final m c), (h c).2⟩
  · refine (θ_run Cert.OddOutSampleRefIdeal.defs _ _).mono (fun r h c => ?_) (Cert.OddOutSampleRefIdeal.Rows.result m' g')
    refine ⟨(h c).1.trans ?_, (h c).2⟩
    unfold Cert.OddOutSampleRefIdeal.Rows.resultArr Cert.OddOutSampleRefIdeal.Rows.left Cert.OddOutSampleRefIdeal.Rows.right
    rw [e0, e1, e2]
    rfl

theorem mobaCombine_frame : @quiescent_MobaCombineRefIdeal Cert.MobaCombineRefIdeal.Gen.facts := fun m ρ _ =>
  (θ_run Cert.MobaCombineRefIdeal.defs _ _).mono
    (fun r h => ⟨fun c => (h c).2, Idealize.ShloMosaic.sem_eq_zero_of_no_sems (by decide) r.2⟩)
    (Cert.MobaCombineRefIdeal.Value.run (F := Ideal) m ρ)

theorem mobaCombine_value : @algebraic_MobaCombineIdeal_MobaCombineRefIdeal Cert.MobaCombineIdeal.Gen.facts Cert.MobaCombineRefIdeal.Gen.facts := by
  intro m g m' g' _ hargs
  have e0 : ∀ c, Cert.MobaCombineRefIdeal.Rows.meanA m' c = Cert.MobaCombineIdeal.Tile.meanA m c := fun c => (hargs c).1
  have e1 : ∀ c, Cert.MobaCombineRefIdeal.Rows.maxA m' c = Cert.MobaCombineIdeal.Tile.maxA m c := fun c => (hargs c).2.1
  have e2 : ∀ c, Cert.MobaCombineRefIdeal.Rows.sumA m' c = Cert.MobaCombineIdeal.Tile.sumA m c := fun c => (hargs c).2.2.1
  have e3 : ∀ c, Cert.MobaCombineRefIdeal.Rows.pageA m' c = Cert.MobaCombineIdeal.Tile.pageA m c := fun c => (hargs c).2.2.2.1
  have e4 : ∀ c, Cert.MobaCombineRefIdeal.Rows.qA m' c = Cert.MobaCombineIdeal.Tile.qA m c := fun c => (hargs c).2.2.2.2.1
  have e5 : ∀ c, Cert.MobaCombineRefIdeal.Rows.kA m' c = Cert.MobaCombineIdeal.Tile.kA m c := fun c => (hargs c).2.2.2.2.2.1
  have e6 : ∀ c, Cert.MobaCombineRefIdeal.Rows.vA m' c = Cert.MobaCombineIdeal.Tile.vA m c := fun c => (hargs c).2.2.2.2.2.2
  refine ⟨fun c => Cert.MobaCombineIdeal.Tile.resultArr m c, ?_, ?_⟩
  · refine (θ_run Cert.MobaCombineIdeal.defs _ _).mono (fun r h c => ?_) (Cert.MobaCombineIdeal.Value.run_blocks (F := Ideal) m g)
    exact ⟨(h c).1.trans (Cert.MobaCombineIdeal.Tile.final m c), (h c).2⟩
  · refine (θ_run Cert.MobaCombineRefIdeal.defs _ _).mono (fun r h c => ?_) (Cert.MobaCombineRefIdeal.Rows.result m' g')
    refine ⟨(h c).1.trans ?_, (h c).2⟩
    unfold Cert.MobaCombineRefIdeal.Rows.resultArr
    rw [e0, e1, e2, e3, e4, e5, e6]
    rfl

theorem claim : Cert.Claim :=
  ⟨Cert.Gla.Gen.facts, Cert.GlaIdeal.Gen.facts, Cert.GlaRefIdeal.Gen.facts, Cert.Hgrn.Gen.facts, Cert.HgrnIdeal.Gen.facts, Cert.HgrnRefIdeal.Gen.facts, Cert.GlaSample.Gen.facts, Cert.GlaSampleIdeal.Gen.facts, Cert.GlaSampleRefIdeal.Gen.facts, Cert.HgrnSample.Gen.facts, Cert.HgrnSampleIdeal.Gen.facts, Cert.HgrnSampleRefIdeal.Gen.facts, Cert.Ffn.Gen.facts, Cert.FfnIdeal.Gen.facts, Cert.FfnRefIdeal.Gen.facts, Cert.Last.Gen.facts, Cert.LastIdeal.Gen.facts, Cert.LastRefIdeal.Gen.facts, Cert.EvenIn.Gen.facts, Cert.EvenInIdeal.Gen.facts, Cert.EvenInRefIdeal.Gen.facts, Cert.OddIn.Gen.facts, Cert.OddInIdeal.Gen.facts, Cert.OddInRefIdeal.Gen.facts, Cert.EvenOut.Gen.facts, Cert.EvenOutIdeal.Gen.facts, Cert.EvenOutRefIdeal.Gen.facts, Cert.OddOut.Gen.facts, Cert.OddOutIdeal.Gen.facts, Cert.OddOutRefIdeal.Gen.facts, Cert.LastSample.Gen.facts, Cert.LastSampleIdeal.Gen.facts, Cert.LastSampleRefIdeal.Gen.facts, Cert.EvenInSample.Gen.facts, Cert.EvenInSampleIdeal.Gen.facts, Cert.EvenInSampleRefIdeal.Gen.facts, Cert.FfnSample.Gen.facts, Cert.FfnSampleIdeal.Gen.facts, Cert.FfnSampleRefIdeal.Gen.facts, Cert.OddInSample.Gen.facts, Cert.OddInSampleIdeal.Gen.facts, Cert.OddInSampleRefIdeal.Gen.facts, Cert.EvenOutSample.Gen.facts, Cert.EvenOutSampleIdeal.Gen.facts, Cert.EvenOutSampleRefIdeal.Gen.facts, Cert.OddOutSample.Gen.facts, Cert.OddOutSampleIdeal.Gen.facts, Cert.OddOutSampleRefIdeal.Gen.facts, Cert.MobaCombine.Gen.facts, Cert.MobaCombineIdeal.Gen.facts, Cert.MobaCombineRefIdeal.Gen.facts, finite_facts, bounded_facts, finite_sample_facts, bounded_sample_facts,
    fun m ρ _ => Cert.Gla.Gen.frame m ρ, fun m ρ _ => Cert.GlaIdeal.Gen.frame m ρ, fun m ρ _ => Cert.GlaIdeal.Gen.frame m ρ, gla_frame, fun m ρ _ => gla_frame m ρ trivial,
    fun m ρ _ => Cert.Hgrn.Gen.frame m ρ, fun m ρ _ => Cert.HgrnIdeal.Gen.frame m ρ, fun m ρ _ => Cert.HgrnIdeal.Gen.frame m ρ, hgrn_frame, fun m ρ _ => hgrn_frame m ρ trivial,
    fun m ρ _ => Cert.GlaSample.Gen.frame m ρ, fun m ρ _ => Cert.GlaSampleIdeal.Gen.frame m ρ, fun m ρ _ => Cert.GlaSampleIdeal.Gen.frame m ρ, glaSample_frame, fun m ρ _ => glaSample_frame m ρ trivial,
    fun m ρ _ => Cert.HgrnSample.Gen.frame m ρ, fun m ρ _ => Cert.HgrnSampleIdeal.Gen.frame m ρ, fun m ρ _ => Cert.HgrnSampleIdeal.Gen.frame m ρ, hgrnSample_frame, fun m ρ _ => hgrnSample_frame m ρ trivial,
    fun m ρ _ => Cert.Ffn.Gen.frame m ρ, fun m ρ _ => Cert.FfnIdeal.Gen.frame m ρ, ffn_frame,
    fun m ρ _ => Cert.Last.Gen.frame m ρ, fun m ρ _ => Cert.LastIdeal.Gen.frame m ρ, last_frame,
    fun m ρ _ => Cert.EvenIn.Gen.frame m ρ, fun m ρ _ => Cert.EvenInIdeal.Gen.frame m ρ, evenIn_frame,
    fun m ρ _ => Cert.OddIn.Gen.frame m ρ, fun m ρ _ => Cert.OddInIdeal.Gen.frame m ρ, oddIn_frame,
    fun m ρ _ => Cert.EvenOut.Gen.frame m ρ, fun m ρ _ => Cert.EvenOutIdeal.Gen.frame m ρ, evenOut_frame,
    fun m ρ _ => Cert.OddOut.Gen.frame m ρ, fun m ρ _ => Cert.OddOutIdeal.Gen.frame m ρ, oddOut_frame,
    fun m ρ _ => Cert.LastSample.Gen.frame m ρ, fun m ρ _ => Cert.LastSampleIdeal.Gen.frame m ρ, lastSample_frame,
    fun m ρ _ => Cert.EvenInSample.Gen.frame m ρ, fun m ρ _ => Cert.EvenInSampleIdeal.Gen.frame m ρ, evenInSample_frame,
    fun m ρ _ => Cert.FfnSample.Gen.frame m ρ, fun m ρ _ => Cert.FfnSampleIdeal.Gen.frame m ρ, ffnSample_frame,
    fun m ρ _ => Cert.OddInSample.Gen.frame m ρ, fun m ρ _ => Cert.OddInSampleIdeal.Gen.frame m ρ, oddInSample_frame,
    fun m ρ _ => Cert.EvenOutSample.Gen.frame m ρ, fun m ρ _ => Cert.EvenOutSampleIdeal.Gen.frame m ρ, evenOutSample_frame,
    fun m ρ _ => Cert.OddOutSample.Gen.frame m ρ, fun m ρ _ => Cert.OddOutSampleIdeal.Gen.frame m ρ, oddOutSample_frame,
    fun m ρ _ => Cert.MobaCombine.Gen.frame m ρ, fun m ρ _ => Cert.MobaCombineIdeal.Gen.frame m ρ, mobaCombine_frame,
    trivial, gla_value,
    trivial, hgrn_value,
    trivial, glaSample_value,
    trivial, hgrnSample_value,
    trivial, ffn_value,
    trivial, last_value,
    trivial, evenIn_value,
    trivial, oddIn_value,
    trivial, evenOut_value,
    trivial, oddOut_value,
    trivial, lastSample_value,
    trivial, evenInSample_value,
    trivial, ffnSample_value,
    trivial, oddInSample_value,
    trivial, evenOutSample_value,
    trivial, oddOutSample_value,
    trivial, mobaCombine_value⟩

end Cert.Proof

end
